-- ==== Defs.lean ====
def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerRefIdeal (m : (ℓ : Loc Cert.ConformerRefIdeal.nD Cert.ConformerRefIdeal.τ Cert.ConformerRefIdeal.sig) → Buf (Elt Ideal) ℓ) : Prop :=
  True

def Pre_ConformerFwd (m : (ℓ : Loc Cert.ConformerFwd.nD Cert.ConformerFwd.τ Cert.ConformerFwd.sig) → Buf (Elt Bits) ℓ) : Prop :=
  True

def Pre_ConformerFwdIdeal (m : (ℓ : Loc Cert.ConformerFwdIdeal.nD Cert.ConformerFwdIdeal.τ Cert.ConformerFwdIdeal.sig) → Buf (Elt Ideal) ℓ) : Prop :=
  True

def Pre_ConformerFwdRefIdeal (m : (ℓ : Loc Cert.ConformerFwdRefIdeal.nD Cert.ConformerFwdRefIdeal.τ Cert.ConformerFwdRefIdeal.sig) → Buf (Elt Ideal) ℓ) : Prop :=
  True

def Pre_ShortConvFwd (m : (ℓ : Loc Cert.ShortConvFwd.nD Cert.ShortConvFwd.τ Cert.ShortConvFwd.sig) → Buf (Elt Bits) ℓ) : Prop :=
  True

def Pre_ShortConvFwdIdeal (m : (ℓ : Loc Cert.ShortConvFwdIdeal.nD Cert.ShortConvFwdIdeal.τ Cert.ShortConvFwdIdeal.sig) → Buf (Elt Ideal) ℓ) : Prop :=
  True

def Pre_ShortConvFwdRefIdeal (m : (ℓ : Loc Cert.ShortConvFwdRefIdeal.nD Cert.ShortConvFwdRefIdeal.τ Cert.ShortConvFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamRepl (m : (ℓ : Loc Cert.AdamRepl.nD Cert.AdamRepl.τ Cert.AdamRepl.sig) → Buf (Elt Bits) ℓ) : Prop :=
  True

def Pre_AdamReplIdeal (m : (ℓ : Loc Cert.AdamReplIdeal.nD Cert.AdamReplIdeal.τ Cert.AdamReplIdeal.sig) → Buf (Elt Ideal) ℓ) : Prop :=
  True

def Pre_AdamReplRefIdeal (m : (ℓ : Loc Cert.AdamReplRefIdeal.nD Cert.AdamReplRefIdeal.τ Cert.AdamReplRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumRepl (m : (ℓ : Loc Cert.SumRepl.nD Cert.SumRepl.τ Cert.SumRepl.sig) → Buf (Elt Bits) ℓ) : Prop :=
  True

def Pre_SumReplIdeal (m : (ℓ : Loc Cert.SumReplIdeal.nD Cert.SumReplIdeal.τ Cert.SumReplIdeal.sig) → Buf (Elt Ideal) ℓ) : Prop :=
  True

def Pre_SumReplRefIdeal (m : (ℓ : Loc Cert.SumReplRefIdeal.nD Cert.SumReplRefIdeal.τ Cert.SumReplRefIdeal.sig) → Buf (Elt Ideal) ℓ) : Prop :=
  True

def Pre_S5Prep (m : (ℓ : Loc Cert.S5Prep.nD Cert.S5Prep.τ Cert.S5Prep.sig) → Buf (Elt Bits) ℓ) : Prop :=
  True

def Pre_S5PrepIdeal (m : (ℓ : Loc Cert.S5PrepIdeal.nD Cert.S5PrepIdeal.τ Cert.S5PrepIdeal.sig) → Buf (Elt Ideal) ℓ) : Prop :=
  True

def Pre_S5PrepRefIdeal (m : (ℓ : Loc Cert.S5PrepRefIdeal.nD Cert.S5PrepRefIdeal.τ Cert.S5PrepRefIdeal.sig) → Buf (Elt Ideal) ℓ) : Prop :=
  True

def Pre_S5PrepBwd (m : (ℓ : Loc Cert.S5PrepBwd.nD Cert.S5PrepBwd.τ Cert.S5PrepBwd.sig) → Buf (Elt Bits) ℓ) : Prop :=
  True

def Pre_S5PrepBwdIdeal (m : (ℓ : Loc Cert.S5PrepBwdIdeal.nD Cert.S5PrepBwdIdeal.τ Cert.S5PrepBwdIdeal.sig) → Buf (Elt Ideal) ℓ) : Prop :=
  True

def Pre_S5PrepBwdRefIdeal (m : (ℓ : Loc Cert.S5PrepBwdRefIdeal.nD Cert.S5PrepBwdRefIdeal.τ Cert.S5PrepBwdRefIdeal.sig) → Buf (Elt Ideal) ℓ) : Prop :=
  True

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4)
      ∧ r.2.mem ((c.tc : Thread Cert.Conformer.nD Cert.Conformer.τ).loc Cert.Conformer.main_arg5) = m ((c.tc : Thread Cert.Conformer.nD Cert.Conformer.τ).loc Cert.Conformer.main_arg5)
      ∧ r.2.mem ((c.tc : Thread Cert.Conformer.nD Cert.Conformer.τ).loc Cert.Conformer.main_arg6) = m ((c.tc : Thread Cert.Conformer.nD Cert.Conformer.τ).loc Cert.Conformer.main_arg6)
      ∧ r.2.mem ((c.tc : Thread Cert.Conformer.nD Cert.Conformer.τ).loc Cert.Conformer.main_arg7) = m ((c.tc : Thread Cert.Conformer.nD Cert.Conformer.τ).loc Cert.Conformer.main_arg7))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
      ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5)
      ∧ r.2.mem ((c.tc : Thread Cert.ConformerIdeal.nD Cert.ConformerIdeal.τ).loc Cert.ConformerIdeal.main_arg6) = m ((c.tc : Thread Cert.ConformerIdeal.nD Cert.ConformerIdeal.τ).loc Cert.ConformerIdeal.main_arg6)
      ∧ r.2.mem ((c.tc : Thread Cert.ConformerIdeal.nD Cert.ConformerIdeal.τ).loc Cert.ConformerIdeal.main_arg7) = m ((c.tc : Thread Cert.ConformerIdeal.nD Cert.ConformerIdeal.τ).loc Cert.ConformerIdeal.main_arg7))
      ∧ r.2.sem = fun _ => 0)

def quiescent_ConformerRefIdeal [hConformerRefIdeal : Cert.ConformerRefIdeal.Facts] : Prop :=
  ∀ (m : (ℓ : Loc Cert.ConformerRefIdeal.nD Cert.ConformerRefIdeal.τ Cert.ConformerRefIdeal.sig) → Buf (Elt Ideal) ℓ) (g : Dev Cert.ConformerRefIdeal.nD → PrngReg), Pre_ConformerRefIdeal m →
    θ_run (Cert.ConformerRefIdeal.defs (F := Ideal)) (onTc (τ := Cert.ConformerRefIdeal.τ) (Cert.ConformerRefIdeal.main (F := Ideal))) ⟨m, fun _ => 0, g⟩ (fun r => (∀ c : Dev Cert.ConformerRefIdeal.nD,
      r.2.mem ((c.tc : Thread Cert.ConformerRefIdeal.nD Cert.ConformerRefIdeal.τ).loc Cert.ConformerRefIdeal.main_arg0) = m ((c.tc : Thread Cert.ConformerRefIdeal.nD Cert.ConformerRefIdeal.τ).loc Cert.ConformerRefIdeal.main_arg0)
      ∧ r.2.mem ((c.tc : Thread Cert.ConformerRefIdeal.nD Cert.ConformerRefIdeal.τ).loc Cert.ConformerRefIdeal.main_arg1) = m ((c.tc : Thread Cert.ConformerRefIdeal.nD Cert.ConformerRefIdeal.τ).loc Cert.ConformerRefIdeal.main_arg1)
      ∧ r.2.mem ((c.tc : Thread Cert.ConformerRefIdeal.nD Cert.ConformerRefIdeal.τ).loc Cert.ConformerRefIdeal.main_arg2) = m ((c.tc : Thread Cert.ConformerRefIdeal.nD Cert.ConformerRefIdeal.τ).loc Cert.ConformerRefIdeal.main_arg2)
      ∧ r.2.mem ((c.tc : Thread Cert.ConformerRefIdeal.nD Cert.ConformerRefIdeal.τ).loc Cert.ConformerRefIdeal.main_arg3) = m ((c.tc : Thread Cert.ConformerRefIdeal.nD Cert.ConformerRefIdeal.τ).loc Cert.ConformerRefIdeal.main_arg3)
      ∧ r.2.mem ((c.tc : Thread Cert.ConformerRefIdeal.nD Cert.ConformerRefIdeal.τ).loc Cert.ConformerRefIdeal.main_arg4) = m ((c.tc : Thread Cert.ConformerRefIdeal.nD Cert.ConformerRefIdeal.τ).loc Cert.ConformerRefIdeal.main_arg4)
      ∧ r.2.mem ((c.tc : Thread Cert.ConformerRefIdeal.nD Cert.ConformerRefIdeal.τ).loc Cert.ConformerRefIdeal.main_arg5) = m ((c.tc : Thread Cert.ConformerRefIdeal.nD Cert.ConformerRefIdeal.τ).loc Cert.ConformerRefIdeal.main_arg5)
      ∧ r.2.mem ((c.tc : Thread Cert.ConformerRefIdeal.nD Cert.ConformerRefIdeal.τ).loc Cert.ConformerRefIdeal.main_arg6) = m ((c.tc : Thread Cert.ConformerRefIdeal.nD Cert.ConformerRefIdeal.τ).loc Cert.ConformerRefIdeal.main_arg6)
      ∧ r.2.mem ((c.tc : Thread Cert.ConformerRefIdeal.nD Cert.ConformerRefIdeal.τ).loc Cert.ConformerRefIdeal.main_arg7) = m ((c.tc : Thread Cert.ConformerRefIdeal.nD Cert.ConformerRefIdeal.τ).loc Cert.ConformerRefIdeal.main_arg7))
      ∧ r.2.sem = fun _ => 0)

def quiescent_ConformerFwd [hConformerFwd : Cert.ConformerFwd.Facts] : Prop :=
  ∀ (m : (ℓ : Loc Cert.ConformerFwd.nD Cert.ConformerFwd.τ Cert.ConformerFwd.sig) → Buf (Elt Bits) ℓ) (g : Dev Cert.ConformerFwd.nD → PrngReg), Pre_ConformerFwd m →
    θ_run (Cert.ConformerFwd.defs (F := Bits)) (onTc (τ := Cert.ConformerFwd.τ) (Cert.ConformerFwd.main (F := Bits))) ⟨m, fun _ => 0, g⟩ (fun r => (∀ c : Dev Cert.ConformerFwd.nD,
      r.2.mem ((c.tc : Thread Cert.ConformerFwd.nD Cert.ConformerFwd.τ).loc Cert.ConformerFwd.main_arg0) = m ((c.tc : Thread Cert.ConformerFwd.nD Cert.ConformerFwd.τ).loc Cert.ConformerFwd.main_arg0)
      ∧ r.2.mem ((c.tc : Thread Cert.ConformerFwd.nD Cert.ConformerFwd.τ).loc Cert.ConformerFwd.main_arg1) = m ((c.tc : Thread Cert.ConformerFwd.nD Cert.ConformerFwd.τ).loc Cert.ConformerFwd.main_arg1)
      ∧ r.2.mem ((c.tc : Thread Cert.ConformerFwd.nD Cert.ConformerFwd.τ).loc Cert.ConformerFwd.main_arg2) = m ((c.tc : Thread Cert.ConformerFwd.nD Cert.ConformerFwd.τ).loc Cert.ConformerFwd.main_arg2)
      ∧ r.2.mem ((c.tc : Thread Cert.ConformerFwd.nD Cert.ConformerFwd.τ).loc Cert.ConformerFwd.main_arg3) = m ((c.tc : Thread Cert.ConformerFwd.nD Cert.ConformerFwd.τ).loc Cert.ConformerFwd.main_arg3)
      ∧ r.2.mem ((c.tc : Thread Cert.ConformerFwd.nD Cert.ConformerFwd.τ).loc Cert.ConformerFwd.main_arg4) = m ((c.tc : Thread Cert.ConformerFwd.nD Cert.ConformerFwd.τ).loc Cert.ConformerFwd.main_arg4)
      ∧ r.2.mem ((c.tc : Thread Cert.ConformerFwd.nD Cert.ConformerFwd.τ).loc Cert.ConformerFwd.main_arg5) = m ((c.tc : Thread Cert.ConformerFwd.nD Cert.ConformerFwd.τ).loc Cert.ConformerFwd.main_arg5)
      ∧ r.2.mem ((c.tc : Thread Cert.ConformerFwd.nD Cert.ConformerFwd.τ).loc Cert.ConformerFwd.main_arg6) = m ((c.tc : Thread Cert.ConformerFwd.nD Cert.ConformerFwd.τ).loc Cert.ConformerFwd.main_arg6))
      ∧ r.2.sem = fun _ => 0)

def quiescent_ConformerFwdIdeal [hConformerFwdIdeal : Cert.ConformerFwdIdeal.Facts] : Prop :=
  ∀ (m : (ℓ : Loc Cert.ConformerFwdIdeal.nD Cert.ConformerFwdIdeal.τ Cert.ConformerFwdIdeal.sig) → Buf (Elt Ideal) ℓ) (g : Dev Cert.ConformerFwdIdeal.nD → PrngReg), Pre_ConformerFwdIdeal m →
    θ_run (Cert.ConformerFwdIdeal.defs (F := Ideal)) (onTc (τ := Cert.ConformerFwdIdeal.τ) (Cert.ConformerFwdIdeal.main (F := Ideal))) ⟨m, fun _ => 0, g⟩ (fun r => (∀ c : Dev Cert.ConformerFwdIdeal.nD,
      r.2.mem ((c.tc : Thread Cert.ConformerFwdIdeal.nD Cert.ConformerFwdIdeal.τ).loc Cert.ConformerFwdIdeal.main_arg0) = m ((c.tc : Thread Cert.ConformerFwdIdeal.nD Cert.ConformerFwdIdeal.τ).loc Cert.ConformerFwdIdeal.main_arg0)
      ∧ r.2.mem ((c.tc : Thread Cert.ConformerFwdIdeal.nD Cert.ConformerFwdIdeal.τ).loc Cert.ConformerFwdIdeal.main_arg1) = m ((c.tc : Thread Cert.ConformerFwdIdeal.nD Cert.ConformerFwdIdeal.τ).loc Cert.ConformerFwdIdeal.main_arg1)
      ∧ r.2.mem ((c.tc : Thread Cert.ConformerFwdIdeal.nD Cert.ConformerFwdIdeal.τ).loc Cert.ConformerFwdIdeal.main_arg2) = m ((c.tc : Thread Cert.ConformerFwdIdeal.nD Cert.ConformerFwdIdeal.τ).loc Cert.ConformerFwdIdeal.main_arg2)
      ∧ r.2.mem ((c.tc : Thread Cert.ConformerFwdIdeal.nD Cert.ConformerFwdIdeal.τ).loc Cert.ConformerFwdIdeal.main_arg3) = m ((c.tc : Thread Cert.ConformerFwdIdeal.nD Cert.ConformerFwdIdeal.τ).loc Cert.ConformerFwdIdeal.main_arg3)
      ∧ r.2.mem ((c.tc : Thread Cert.ConformerFwdIdeal.nD Cert.ConformerFwdIdeal.τ).loc Cert.ConformerFwdIdeal.main_arg4) = m ((c.tc : Thread Cert.ConformerFwdIdeal.nD Cert.ConformerFwdIdeal.τ).loc Cert.ConformerFwdIdeal.main_arg4)
      ∧ r.2.mem ((c.tc : Thread Cert.ConformerFwdIdeal.nD Cert.ConformerFwdIdeal.τ).loc Cert.ConformerFwdIdeal.main_arg5) = m ((c.tc : Thread Cert.ConformerFwdIdeal.nD Cert.ConformerFwdIdeal.τ).loc Cert.ConformerFwdIdeal.main_arg5)
      ∧ r.2.mem ((c.tc : Thread Cert.ConformerFwdIdeal.nD Cert.ConformerFwdIdeal.τ).loc Cert.ConformerFwdIdeal.main_arg6) = m ((c.tc : Thread Cert.ConformerFwdIdeal.nD Cert.ConformerFwdIdeal.τ).loc Cert.ConformerFwdIdeal.main_arg6))
      ∧ r.2.sem = fun _ => 0)

def quiescent_ConformerFwdRefIdeal [hConformerFwdRefIdeal : Cert.ConformerFwdRefIdeal.Facts] : Prop :=
  ∀ (m : (ℓ : Loc Cert.ConformerFwdRefIdeal.nD Cert.ConformerFwdRefIdeal.τ Cert.ConformerFwdRefIdeal.sig) → Buf (Elt Ideal) ℓ) (g : Dev Cert.ConformerFwdRefIdeal.nD → PrngReg), Pre_ConformerFwdRefIdeal m →
    θ_run (Cert.ConformerFwdRefIdeal.defs (F := Ideal)) (onTc (τ := Cert.ConformerFwdRefIdeal.τ) (Cert.ConformerFwdRefIdeal.main (F := Ideal))) ⟨m, fun _ => 0, g⟩ (fun r => (∀ c : Dev Cert.ConformerFwdRefIdeal.nD,
      r.2.mem ((c.tc : Thread Cert.ConformerFwdRefIdeal.nD Cert.ConformerFwdRefIdeal.τ).loc Cert.ConformerFwdRefIdeal.main_arg0) = m ((c.tc : Thread Cert.ConformerFwdRefIdeal.nD Cert.ConformerFwdRefIdeal.τ).loc Cert.ConformerFwdRefIdeal.main_arg0)
      ∧ r.2.mem ((c.tc : Thread Cert.ConformerFwdRefIdeal.nD Cert.ConformerFwdRefIdeal.τ).loc Cert.ConformerFwdRefIdeal.main_arg1) = m ((c.tc : Thread Cert.ConformerFwdRefIdeal.nD Cert.ConformerFwdRefIdeal.τ).loc Cert.ConformerFwdRefIdeal.main_arg1)
      ∧ r.2.mem ((c.tc : Thread Cert.ConformerFwdRefIdeal.nD Cert.ConformerFwdRefIdeal.τ).loc Cert.ConformerFwdRefIdeal.main_arg2) = m ((c.tc : Thread Cert.ConformerFwdRefIdeal.nD Cert.ConformerFwdRefIdeal.τ).loc Cert.ConformerFwdRefIdeal.main_arg2)
      ∧ r.2.mem ((c.tc : Thread Cert.ConformerFwdRefIdeal.nD Cert.ConformerFwdRefIdeal.τ).loc Cert.ConformerFwdRefIdeal.main_arg3) = m ((c.tc : Thread Cert.ConformerFwdRefIdeal.nD Cert.ConformerFwdRefIdeal.τ).loc Cert.ConformerFwdRefIdeal.main_arg3)
      ∧ r.2.mem ((c.tc : Thread Cert.ConformerFwdRefIdeal.nD Cert.ConformerFwdRefIdeal.τ).loc Cert.ConformerFwdRefIdeal.main_arg4) = m ((c.tc : Thread Cert.ConformerFwdRefIdeal.nD Cert.ConformerFwdRefIdeal.τ).loc Cert.ConformerFwdRefIdeal.main_arg4)
      ∧ r.2.mem ((c.tc : Thread Cert.ConformerFwdRefIdeal.nD Cert.ConformerFwdRefIdeal.τ).loc Cert.ConformerFwdRefIdeal.main_arg5) = m ((c.tc : Thread Cert.ConformerFwdRefIdeal.nD Cert.ConformerFwdRefIdeal.τ).loc Cert.ConformerFwdRefIdeal.main_arg5)
      ∧ r.2.mem ((c.tc : Thread Cert.ConformerFwdRefIdeal.nD Cert.ConformerFwdRefIdeal.τ).loc Cert.ConformerFwdRefIdeal.main_arg6) = m ((c.tc : Thread Cert.ConformerFwdRefIdeal.nD Cert.ConformerFwdRefIdeal.τ).loc Cert.ConformerFwdRefIdeal.main_arg6))
      ∧ r.2.sem = fun _ => 0)

def quiescent_ShortConvFwd [hShortConvFwd : Cert.ShortConvFwd.Facts] : Prop :=
  ∀ (m : (ℓ : Loc Cert.ShortConvFwd.nD Cert.ShortConvFwd.τ Cert.ShortConvFwd.sig) → Buf (Elt Bits) ℓ) (g : Dev Cert.ShortConvFwd.nD → PrngReg), Pre_ShortConvFwd m →
    θ_run (Cert.ShortConvFwd.defs (F := Bits)) (onTc (τ := Cert.ShortConvFwd.τ) (Cert.ShortConvFwd.main (F := Bits))) ⟨m, fun _ => 0, g⟩ (fun r => (∀ c : Dev Cert.ShortConvFwd.nD,
      r.2.mem ((c.tc : Thread Cert.ShortConvFwd.nD Cert.ShortConvFwd.τ).loc Cert.ShortConvFwd.main_arg0) = m ((c.tc : Thread Cert.ShortConvFwd.nD Cert.ShortConvFwd.τ).loc Cert.ShortConvFwd.main_arg0)
      ∧ r.2.mem ((c.tc : Thread Cert.ShortConvFwd.nD Cert.ShortConvFwd.τ).loc Cert.ShortConvFwd.main_arg1) = m ((c.tc : Thread Cert.ShortConvFwd.nD Cert.ShortConvFwd.τ).loc Cert.ShortConvFwd.main_arg1))
      ∧ r.2.sem = fun _ => 0)

def quiescent_ShortConvFwdIdeal [hShortConvFwdIdeal : Cert.ShortConvFwdIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg), Pre_ShortConvFwdIdeal m →
    θ_run (Cert.ShortConvFwdIdeal.defs (F := Ideal)) (onTc (τ := Cert.ShortConvFwdIdeal.τ) (Cert.ShortConvFwdIdeal.main (F := Ideal))) ⟨m, fun _ => 0, g⟩ (fun r => (∀ c : Dev Cert.ShortConvFwdIdeal.nD,
      r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
      ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ r.2.sem = fun _ => 0)

def quiescent_ShortConvFwdRefIdeal [hShortConvFwdRefIdeal : Cert.ShortConvFwdRefIdeal.Facts] : Prop :=
  ∀ (m : (ℓ : Loc Cert.ShortConvFwdRefIdeal.nD Cert.ShortConvFwdRefIdeal.τ Cert.ShortConvFwdRefIdeal.sig) → Buf (Elt Ideal) ℓ) (g : Dev Cert.ShortConvFwdRefIdeal.nD → PrngReg), Pre_ShortConvFwdRefIdeal m →
    θ_run (Cert.ShortConvFwdRefIdeal.defs (F := Ideal)) (onTc (τ := Cert.ShortConvFwdRefIdeal.τ) (Cert.ShortConvFwdRefIdeal.main (F := Ideal))) ⟨m, fun _ => 0, g⟩ (fun r => (∀ c : Dev Cert.ShortConvFwdRefIdeal.nD,
      r.2.mem ((c.tc : Thread Cert.ShortConvFwdRefIdeal.nD Cert.ShortConvFwdRefIdeal.τ).loc Cert.ShortConvFwdRefIdeal.main_arg0) = m ((c.tc : Thread Cert.ShortConvFwdRefIdeal.nD Cert.ShortConvFwdRefIdeal.τ).loc Cert.ShortConvFwdRefIdeal.main_arg0)
      ∧ r.2.mem ((c.tc : Thread Cert.ShortConvFwdRefIdeal.nD Cert.ShortConvFwdRefIdeal.τ).loc Cert.ShortConvFwdRefIdeal.main_arg1) = m ((c.tc : Thread Cert.ShortConvFwdRefIdeal.nD Cert.ShortConvFwdRefIdeal.τ).loc Cert.ShortConvFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19))
      ∧ r.2.sem = fun _ => 0)

def quiescent_AdamRepl [hAdamRepl : Cert.AdamRepl.Facts] : Prop :=
  ∀ (m : (ℓ : Loc Cert.AdamRepl.nD Cert.AdamRepl.τ Cert.AdamRepl.sig) → Buf (Elt Bits) ℓ) (g : Dev Cert.AdamRepl.nD → PrngReg), Pre_AdamRepl m →
    θ_run (Cert.AdamRepl.defs (F := Bits)) (onTc (τ := Cert.AdamRepl.τ) (Cert.AdamRepl.main (F := Bits))) ⟨m, fun _ => 0, g⟩ (fun r => (∀ c : Dev Cert.AdamRepl.nD,
      r.2.mem ((c.tc : Thread Cert.AdamRepl.nD Cert.AdamRepl.τ).loc Cert.AdamRepl.main_arg0) = m ((c.tc : Thread Cert.AdamRepl.nD Cert.AdamRepl.τ).loc Cert.AdamRepl.main_arg0)
      ∧ r.2.mem ((c.tc : Thread Cert.AdamRepl.nD Cert.AdamRepl.τ).loc Cert.AdamRepl.main_arg1) = m ((c.tc : Thread Cert.AdamRepl.nD Cert.AdamRepl.τ).loc Cert.AdamRepl.main_arg1)
      ∧ r.2.mem ((c.tc : Thread Cert.AdamRepl.nD Cert.AdamRepl.τ).loc Cert.AdamRepl.main_arg2) = m ((c.tc : Thread Cert.AdamRepl.nD Cert.AdamRepl.τ).loc Cert.AdamRepl.main_arg2)
      ∧ r.2.mem ((c.tc : Thread Cert.AdamRepl.nD Cert.AdamRepl.τ).loc Cert.AdamRepl.main_arg3) = m ((c.tc : Thread Cert.AdamRepl.nD Cert.AdamRepl.τ).loc Cert.AdamRepl.main_arg3))
      ∧ r.2.sem = fun _ => 0)

def quiescent_AdamReplIdeal [hAdamReplIdeal : Cert.AdamReplIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg), Pre_AdamReplIdeal m →
    θ_run (Cert.AdamReplIdeal.defs (F := Ideal)) (onTc (τ := Cert.AdamReplIdeal.τ) (Cert.AdamReplIdeal.main (F := Ideal))) ⟨m, fun _ => 0, g⟩ (fun r => (∀ c : Dev Cert.AdamReplIdeal.nD,
      r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
      ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
      ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
      ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3))
      ∧ r.2.sem = fun _ => 0)

def quiescent_AdamReplRefIdeal [hAdamReplRefIdeal : Cert.AdamReplRefIdeal.Facts] : Prop :=
  ∀ (m : (ℓ : Loc Cert.AdamReplRefIdeal.nD Cert.AdamReplRefIdeal.τ Cert.AdamReplRefIdeal.sig) → Buf (Elt Ideal) ℓ) (g : Dev Cert.AdamReplRefIdeal.nD → PrngReg), Pre_AdamReplRefIdeal m →
    θ_run (Cert.AdamReplRefIdeal.defs (F := Ideal)) (onTc (τ := Cert.AdamReplRefIdeal.τ) (Cert.AdamReplRefIdeal.main (F := Ideal))) ⟨m, fun _ => 0, g⟩ (fun r => (∀ c : Dev Cert.AdamReplRefIdeal.nD,
      r.2.mem ((c.tc : Thread Cert.AdamReplRefIdeal.nD Cert.AdamReplRefIdeal.τ).loc Cert.AdamReplRefIdeal.main_arg0) = m ((c.tc : Thread Cert.AdamReplRefIdeal.nD Cert.AdamReplRefIdeal.τ).loc Cert.AdamReplRefIdeal.main_arg0)
      ∧ r.2.mem ((c.tc : Thread Cert.AdamReplRefIdeal.nD Cert.AdamReplRefIdeal.τ).loc Cert.AdamReplRefIdeal.main_arg1) = m ((c.tc : Thread Cert.AdamReplRefIdeal.nD Cert.AdamReplRefIdeal.τ).loc Cert.AdamReplRefIdeal.main_arg1)
      ∧ r.2.mem ((c.tc : Thread Cert.AdamReplRefIdeal.nD Cert.AdamReplRefIdeal.τ).loc Cert.AdamReplRefIdeal.main_arg2) = m ((c.tc : Thread Cert.AdamReplRefIdeal.nD Cert.AdamReplRefIdeal.τ).loc Cert.AdamReplRefIdeal.main_arg2)
      ∧ r.2.mem ((c.tc : Thread Cert.AdamReplRefIdeal.nD Cert.AdamReplRefIdeal.τ).loc Cert.AdamReplRefIdeal.main_arg3) = m ((c.tc : Thread Cert.AdamReplRefIdeal.nD Cert.AdamReplRefIdeal.τ).loc Cert.AdamReplRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumRepl [hSumRepl : Cert.SumRepl.Facts] : Prop :=
  ∀ (m : (ℓ : Loc Cert.SumRepl.nD Cert.SumRepl.τ Cert.SumRepl.sig) → Buf (Elt Bits) ℓ) (g : Dev Cert.SumRepl.nD → PrngReg), Pre_SumRepl m →
    θ_run (Cert.SumRepl.defs (F := Bits)) (onTc (τ := Cert.SumRepl.τ) (Cert.SumRepl.main (F := Bits))) ⟨m, fun _ => 0, g⟩ (fun r => (∀ c : Dev Cert.SumRepl.nD,
      r.2.mem ((c.tc : Thread Cert.SumRepl.nD Cert.SumRepl.τ).loc Cert.SumRepl.main_arg0) = m ((c.tc : Thread Cert.SumRepl.nD Cert.SumRepl.τ).loc Cert.SumRepl.main_arg0))
      ∧ r.2.sem = fun _ => 0)

def quiescent_SumReplIdeal [hSumReplIdeal : Cert.SumReplIdeal.Facts] : Prop :=
  ∀ (m : (ℓ : Loc Cert.SumReplIdeal.nD Cert.SumReplIdeal.τ Cert.SumReplIdeal.sig) → Buf (Elt Ideal) ℓ) (g : Dev Cert.SumReplIdeal.nD → PrngReg), Pre_SumReplIdeal m →
    θ_run (Cert.SumReplIdeal.defs (F := Ideal)) (onTc (τ := Cert.SumReplIdeal.τ) (Cert.SumReplIdeal.main (F := Ideal))) ⟨m, fun _ => 0, g⟩ (fun r => (∀ c : Dev Cert.SumReplIdeal.nD,
      r.2.mem ((c.tc : Thread Cert.SumReplIdeal.nD Cert.SumReplIdeal.τ).loc Cert.SumReplIdeal.main_arg0) = m ((c.tc : Thread Cert.SumReplIdeal.nD Cert.SumReplIdeal.τ).loc Cert.SumReplIdeal.main_arg0))
      ∧ r.2.sem = fun _ => 0)

def quiescent_SumReplRefIdeal [hSumReplRefIdeal : Cert.SumReplRefIdeal.Facts] : Prop :=
  ∀ (m : (ℓ : Loc Cert.SumReplRefIdeal.nD Cert.SumReplRefIdeal.τ Cert.SumReplRefIdeal.sig) → Buf (Elt Ideal) ℓ) (g : Dev Cert.SumReplRefIdeal.nD → PrngReg), Pre_SumReplRefIdeal m →
    θ_run (Cert.SumReplRefIdeal.defs (F := Ideal)) (onTc (τ := Cert.SumReplRefIdeal.τ) (Cert.SumReplRefIdeal.main (F := Ideal))) ⟨m, fun _ => 0, g⟩ (fun r => (∀ c : Dev Cert.SumReplRefIdeal.nD,
      r.2.mem ((c.tc : Thread Cert.SumReplRefIdeal.nD Cert.SumReplRefIdeal.τ).loc Cert.SumReplRefIdeal.main_arg0) = m ((c.tc : Thread Cert.SumReplRefIdeal.nD Cert.SumReplRefIdeal.τ).loc Cert.SumReplRefIdeal.main_arg0))
      ∧ r.2.sem = fun _ => 0)

def quiescent_S5Prep [hS5Prep : Cert.S5Prep.Facts] : Prop :=
  ∀ (m : (ℓ : Loc Cert.S5Prep.nD Cert.S5Prep.τ Cert.S5Prep.sig) → Buf (Elt Bits) ℓ) (g : Dev Cert.S5Prep.nD → PrngReg), Pre_S5Prep m →
    θ_run (Cert.S5Prep.defs (F := Bits)) (onTc (τ := Cert.S5Prep.τ) (Cert.S5Prep.main (F := Bits))) ⟨m, fun _ => 0, g⟩ (fun r => (∀ c : Dev Cert.S5Prep.nD,
      r.2.mem ((c.tc : Thread Cert.S5Prep.nD Cert.S5Prep.τ).loc Cert.S5Prep.main_arg0) = m ((c.tc : Thread Cert.S5Prep.nD Cert.S5Prep.τ).loc Cert.S5Prep.main_arg0)
      ∧ r.2.mem ((c.tc : Thread Cert.S5Prep.nD Cert.S5Prep.τ).loc Cert.S5Prep.main_arg1) = m ((c.tc : Thread Cert.S5Prep.nD Cert.S5Prep.τ).loc Cert.S5Prep.main_arg1)
      ∧ r.2.mem ((c.tc : Thread Cert.S5Prep.nD Cert.S5Prep.τ).loc Cert.S5Prep.main_arg2) = m ((c.tc : Thread Cert.S5Prep.nD Cert.S5Prep.τ).loc Cert.S5Prep.main_arg2)
      ∧ r.2.mem ((c.tc : Thread Cert.S5Prep.nD Cert.S5Prep.τ).loc Cert.S5Prep.main_arg3) = m ((c.tc : Thread Cert.S5Prep.nD Cert.S5Prep.τ).loc Cert.S5Prep.main_arg3)
      ∧ r.2.mem ((c.tc : Thread Cert.S5Prep.nD Cert.S5Prep.τ).loc Cert.S5Prep.main_arg4) = m ((c.tc : Thread Cert.S5Prep.nD Cert.S5Prep.τ).loc Cert.S5Prep.main_arg4)
      ∧ r.2.mem ((c.tc : Thread Cert.S5Prep.nD Cert.S5Prep.τ).loc Cert.S5Prep.main_arg5) = m ((c.tc : Thread Cert.S5Prep.nD Cert.S5Prep.τ).loc Cert.S5Prep.main_arg5)
      ∧ r.2.mem ((c.tc : Thread Cert.S5Prep.nD Cert.S5Prep.τ).loc Cert.S5Prep.main_arg6) = m ((c.tc : Thread Cert.S5Prep.nD Cert.S5Prep.τ).loc Cert.S5Prep.main_arg6))
      ∧ r.2.sem = fun _ => 0)

def quiescent_S5PrepIdeal [hS5PrepIdeal : Cert.S5PrepIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg), Pre_S5PrepIdeal m →
    θ_run (Cert.S5PrepIdeal.defs (F := Ideal)) (onTc (τ := Cert.S5PrepIdeal.τ) (Cert.S5PrepIdeal.main (F := Ideal))) ⟨m, fun _ => 0, g⟩ (fun r => (∀ c : Dev Cert.S5PrepIdeal.nD,
      r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
      ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
      ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
      ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
      ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
      ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
      ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ r.2.sem = fun _ => 0)

def quiescent_S5PrepRefIdeal [hS5PrepRefIdeal : Cert.S5PrepRefIdeal.Facts] : Prop :=
  ∀ (m : (ℓ : Loc Cert.S5PrepRefIdeal.nD Cert.S5PrepRefIdeal.τ Cert.S5PrepRefIdeal.sig) → Buf (Elt Ideal) ℓ) (g : Dev Cert.S5PrepRefIdeal.nD → PrngReg), Pre_S5PrepRefIdeal m →
    θ_run (Cert.S5PrepRefIdeal.defs (F := Ideal)) (onTc (τ := Cert.S5PrepRefIdeal.τ) (Cert.S5PrepRefIdeal.main (F := Ideal))) ⟨m, fun _ => 0, g⟩ (fun r => (∀ c : Dev Cert.S5PrepRefIdeal.nD,
      r.2.mem ((c.tc : Thread Cert.S5PrepRefIdeal.nD Cert.S5PrepRefIdeal.τ).loc Cert.S5PrepRefIdeal.main_arg0) = m ((c.tc : Thread Cert.S5PrepRefIdeal.nD Cert.S5PrepRefIdeal.τ).loc Cert.S5PrepRefIdeal.main_arg0)
      ∧ r.2.mem ((c.tc : Thread Cert.S5PrepRefIdeal.nD Cert.S5PrepRefIdeal.τ).loc Cert.S5PrepRefIdeal.main_arg1) = m ((c.tc : Thread Cert.S5PrepRefIdeal.nD Cert.S5PrepRefIdeal.τ).loc Cert.S5PrepRefIdeal.main_arg1)
      ∧ r.2.mem ((c.tc : Thread Cert.S5PrepRefIdeal.nD Cert.S5PrepRefIdeal.τ).loc Cert.S5PrepRefIdeal.main_arg2) = m ((c.tc : Thread Cert.S5PrepRefIdeal.nD Cert.S5PrepRefIdeal.τ).loc Cert.S5PrepRefIdeal.main_arg2)
      ∧ r.2.mem ((c.tc : Thread Cert.S5PrepRefIdeal.nD Cert.S5PrepRefIdeal.τ).loc Cert.S5PrepRefIdeal.main_arg3) = m ((c.tc : Thread Cert.S5PrepRefIdeal.nD Cert.S5PrepRefIdeal.τ).loc Cert.S5PrepRefIdeal.main_arg3)
      ∧ r.2.mem ((c.tc : Thread Cert.S5PrepRefIdeal.nD Cert.S5PrepRefIdeal.τ).loc Cert.S5PrepRefIdeal.main_arg4) = m ((c.tc : Thread Cert.S5PrepRefIdeal.nD Cert.S5PrepRefIdeal.τ).loc Cert.S5PrepRefIdeal.main_arg4)
      ∧ r.2.mem ((c.tc : Thread Cert.S5PrepRefIdeal.nD Cert.S5PrepRefIdeal.τ).loc Cert.S5PrepRefIdeal.main_arg5) = m ((c.tc : Thread Cert.S5PrepRefIdeal.nD Cert.S5PrepRefIdeal.τ).loc Cert.S5PrepRefIdeal.main_arg5)
      ∧ r.2.mem ((c.tc : Thread Cert.S5PrepRefIdeal.nD Cert.S5PrepRefIdeal.τ).loc Cert.S5PrepRefIdeal.main_arg6) = m ((c.tc : Thread Cert.S5PrepRefIdeal.nD Cert.S5PrepRefIdeal.τ).loc Cert.S5PrepRefIdeal.main_arg6))
      ∧ r.2.sem = fun _ => 0)

def quiescent_S5PrepBwd [hS5PrepBwd : Cert.S5PrepBwd.Facts] : Prop :=
  ∀ (m : (ℓ : Loc Cert.S5PrepBwd.nD Cert.S5PrepBwd.τ Cert.S5PrepBwd.sig) → Buf (Elt Bits) ℓ) (g : Dev Cert.S5PrepBwd.nD → PrngReg), Pre_S5PrepBwd m →
    θ_run (Cert.S5PrepBwd.defs (F := Bits)) (onTc (τ := Cert.S5PrepBwd.τ) (Cert.S5PrepBwd.main (F := Bits))) ⟨m, fun _ => 0, g⟩ (fun r => (∀ c : Dev Cert.S5PrepBwd.nD,
      r.2.mem ((c.tc : Thread Cert.S5PrepBwd.nD Cert.S5PrepBwd.τ).loc Cert.S5PrepBwd.main_arg0) = m ((c.tc : Thread Cert.S5PrepBwd.nD Cert.S5PrepBwd.τ).loc Cert.S5PrepBwd.main_arg0)
      ∧ r.2.mem ((c.tc : Thread Cert.S5PrepBwd.nD Cert.S5PrepBwd.τ).loc Cert.S5PrepBwd.main_arg1) = m ((c.tc : Thread Cert.S5PrepBwd.nD Cert.S5PrepBwd.τ).loc Cert.S5PrepBwd.main_arg1)
      ∧ r.2.mem ((c.tc : Thread Cert.S5PrepBwd.nD Cert.S5PrepBwd.τ).loc Cert.S5PrepBwd.main_arg2) = m ((c.tc : Thread Cert.S5PrepBwd.nD Cert.S5PrepBwd.τ).loc Cert.S5PrepBwd.main_arg2)
      ∧ r.2.mem ((c.tc : Thread Cert.S5PrepBwd.nD Cert.S5PrepBwd.τ).loc Cert.S5PrepBwd.main_arg3) = m ((c.tc : Thread Cert.S5PrepBwd.nD Cert.S5PrepBwd.τ).loc Cert.S5PrepBwd.main_arg3)
      ∧ r.2.mem ((c.tc : Thread Cert.S5PrepBwd.nD Cert.S5PrepBwd.τ).loc Cert.S5PrepBwd.main_arg4) = m ((c.tc : Thread Cert.S5PrepBwd.nD Cert.S5PrepBwd.τ).loc Cert.S5PrepBwd.main_arg4)
      ∧ r.2.mem ((c.tc : Thread Cert.S5PrepBwd.nD Cert.S5PrepBwd.τ).loc Cert.S5PrepBwd.main_arg5) = m ((c.tc : Thread Cert.S5PrepBwd.nD Cert.S5PrepBwd.τ).loc Cert.S5PrepBwd.main_arg5)
      ∧ r.2.mem ((c.tc : Thread Cert.S5PrepBwd.nD Cert.S5PrepBwd.τ).loc Cert.S5PrepBwd.main_arg6) = m ((c.tc : Thread Cert.S5PrepBwd.nD Cert.S5PrepBwd.τ).loc Cert.S5PrepBwd.main_arg6)
      ∧ r.2.mem ((c.tc : Thread Cert.S5PrepBwd.nD Cert.S5PrepBwd.τ).loc Cert.S5PrepBwd.main_arg7) = m ((c.tc : Thread Cert.S5PrepBwd.nD Cert.S5PrepBwd.τ).loc Cert.S5PrepBwd.main_arg7)
      ∧ r.2.mem ((c.tc : Thread Cert.S5PrepBwd.nD Cert.S5PrepBwd.τ).loc Cert.S5PrepBwd.main_arg8) = m ((c.tc : Thread Cert.S5PrepBwd.nD Cert.S5PrepBwd.τ).loc Cert.S5PrepBwd.main_arg8)
      ∧ r.2.mem ((c.tc : Thread Cert.S5PrepBwd.nD Cert.S5PrepBwd.τ).loc Cert.S5PrepBwd.main_arg9) = m ((c.tc : Thread Cert.S5PrepBwd.nD Cert.S5PrepBwd.τ).loc Cert.S5PrepBwd.main_arg9)
      ∧ r.2.mem ((c.tc : Thread Cert.S5PrepBwd.nD Cert.S5PrepBwd.τ).loc Cert.S5PrepBwd.main_arg10) = m ((c.tc : Thread Cert.S5PrepBwd.nD Cert.S5PrepBwd.τ).loc Cert.S5PrepBwd.main_arg10))
      ∧ r.2.sem = fun _ => 0)

def quiescent_S5PrepBwdIdeal [hS5PrepBwdIdeal : Cert.S5PrepBwdIdeal.Facts] : Prop :=
  ∀ (m : (ℓ : Loc Cert.S5PrepBwdIdeal.nD Cert.S5PrepBwdIdeal.τ Cert.S5PrepBwdIdeal.sig) → Buf (Elt Ideal) ℓ) (g : Dev Cert.S5PrepBwdIdeal.nD → PrngReg), Pre_S5PrepBwdIdeal m →
    θ_run (Cert.S5PrepBwdIdeal.defs (F := Ideal)) (onTc (τ := Cert.S5PrepBwdIdeal.τ) (Cert.S5PrepBwdIdeal.main (F := Ideal))) ⟨m, fun _ => 0, g⟩ (fun r => (∀ c : Dev Cert.S5PrepBwdIdeal.nD,
      r.2.mem ((c.tc : Thread Cert.S5PrepBwdIdeal.nD Cert.S5PrepBwdIdeal.τ).loc Cert.S5PrepBwdIdeal.main_arg0) = m ((c.tc : Thread Cert.S5PrepBwdIdeal.nD Cert.S5PrepBwdIdeal.τ).loc Cert.S5PrepBwdIdeal.main_arg0)
      ∧ r.2.mem ((c.tc : Thread Cert.S5PrepBwdIdeal.nD Cert.S5PrepBwdIdeal.τ).loc Cert.S5PrepBwdIdeal.main_arg1) = m ((c.tc : Thread Cert.S5PrepBwdIdeal.nD Cert.S5PrepBwdIdeal.τ).loc Cert.S5PrepBwdIdeal.main_arg1)
      ∧ r.2.mem ((c.tc : Thread Cert.S5PrepBwdIdeal.nD Cert.S5PrepBwdIdeal.τ).loc Cert.S5PrepBwdIdeal.main_arg2) = m ((c.tc : Thread Cert.S5PrepBwdIdeal.nD Cert.S5PrepBwdIdeal.τ).loc Cert.S5PrepBwdIdeal.main_arg2)
      ∧ r.2.mem ((c.tc : Thread Cert.S5PrepBwdIdeal.nD Cert.S5PrepBwdIdeal.τ).loc Cert.S5PrepBwdIdeal.main_arg3) = m ((c.tc : Thread Cert.S5PrepBwdIdeal.nD Cert.S5PrepBwdIdeal.τ).loc Cert.S5PrepBwdIdeal.main_arg3)
      ∧ r.2.mem ((c.tc : Thread Cert.S5PrepBwdIdeal.nD Cert.S5PrepBwdIdeal.τ).loc Cert.S5PrepBwdIdeal.main_arg4) = m ((c.tc : Thread Cert.S5PrepBwdIdeal.nD Cert.S5PrepBwdIdeal.τ).loc Cert.S5PrepBwdIdeal.main_arg4)
      ∧ r.2.mem ((c.tc : Thread Cert.S5PrepBwdIdeal.nD Cert.S5PrepBwdIdeal.τ).loc Cert.S5PrepBwdIdeal.main_arg5) = m ((c.tc : Thread Cert.S5PrepBwdIdeal.nD Cert.S5PrepBwdIdeal.τ).loc Cert.S5PrepBwdIdeal.main_arg5)
      ∧ r.2.mem ((c.tc : Thread Cert.S5PrepBwdIdeal.nD Cert.S5PrepBwdIdeal.τ).loc Cert.S5PrepBwdIdeal.main_arg6) = m ((c.tc : Thread Cert.S5PrepBwdIdeal.nD Cert.S5PrepBwdIdeal.τ).loc Cert.S5PrepBwdIdeal.main_arg6)
      ∧ r.2.mem ((c.tc : Thread Cert.S5PrepBwdIdeal.nD Cert.S5PrepBwdIdeal.τ).loc Cert.S5PrepBwdIdeal.main_arg7) = m ((c.tc : Thread Cert.S5PrepBwdIdeal.nD Cert.S5PrepBwdIdeal.τ).loc Cert.S5PrepBwdIdeal.main_arg7)
      ∧ r.2.mem ((c.tc : Thread Cert.S5PrepBwdIdeal.nD Cert.S5PrepBwdIdeal.τ).loc Cert.S5PrepBwdIdeal.main_arg8) = m ((c.tc : Thread Cert.S5PrepBwdIdeal.nD Cert.S5PrepBwdIdeal.τ).loc Cert.S5PrepBwdIdeal.main_arg8)
      ∧ r.2.mem ((c.tc : Thread Cert.S5PrepBwdIdeal.nD Cert.S5PrepBwdIdeal.τ).loc Cert.S5PrepBwdIdeal.main_arg9) = m ((c.tc : Thread Cert.S5PrepBwdIdeal.nD Cert.S5PrepBwdIdeal.τ).loc Cert.S5PrepBwdIdeal.main_arg9)
      ∧ r.2.mem ((c.tc : Thread Cert.S5PrepBwdIdeal.nD Cert.S5PrepBwdIdeal.τ).loc Cert.S5PrepBwdIdeal.main_arg10) = m ((c.tc : Thread Cert.S5PrepBwdIdeal.nD Cert.S5PrepBwdIdeal.τ).loc Cert.S5PrepBwdIdeal.main_arg10))
      ∧ r.2.sem = fun _ => 0)

def quiescent_S5PrepBwdRefIdeal [hS5PrepBwdRefIdeal : Cert.S5PrepBwdRefIdeal.Facts] : Prop :=
  ∀ (m : (ℓ : Loc Cert.S5PrepBwdRefIdeal.nD Cert.S5PrepBwdRefIdeal.τ Cert.S5PrepBwdRefIdeal.sig) → Buf (Elt Ideal) ℓ) (g : Dev Cert.S5PrepBwdRefIdeal.nD → PrngReg), Pre_S5PrepBwdRefIdeal m →
    θ_run (Cert.S5PrepBwdRefIdeal.defs (F := Ideal)) (onTc (τ := Cert.S5PrepBwdRefIdeal.τ) (Cert.S5PrepBwdRefIdeal.main (F := Ideal))) ⟨m, fun _ => 0, g⟩ (fun r => (∀ c : Dev Cert.S5PrepBwdRefIdeal.nD,
      r.2.mem ((c.tc : Thread Cert.S5PrepBwdRefIdeal.nD Cert.S5PrepBwdRefIdeal.τ).loc Cert.S5PrepBwdRefIdeal.main_arg0) = m ((c.tc : Thread Cert.S5PrepBwdRefIdeal.nD Cert.S5PrepBwdRefIdeal.τ).loc Cert.S5PrepBwdRefIdeal.main_arg0)
      ∧ r.2.mem ((c.tc : Thread Cert.S5PrepBwdRefIdeal.nD Cert.S5PrepBwdRefIdeal.τ).loc Cert.S5PrepBwdRefIdeal.main_arg1) = m ((c.tc : Thread Cert.S5PrepBwdRefIdeal.nD Cert.S5PrepBwdRefIdeal.τ).loc Cert.S5PrepBwdRefIdeal.main_arg1)
      ∧ r.2.mem ((c.tc : Thread Cert.S5PrepBwdRefIdeal.nD Cert.S5PrepBwdRefIdeal.τ).loc Cert.S5PrepBwdRefIdeal.main_arg2) = m ((c.tc : Thread Cert.S5PrepBwdRefIdeal.nD Cert.S5PrepBwdRefIdeal.τ).loc Cert.S5PrepBwdRefIdeal.main_arg2)
      ∧ r.2.mem ((c.tc : Thread Cert.S5PrepBwdRefIdeal.nD Cert.S5PrepBwdRefIdeal.τ).loc Cert.S5PrepBwdRefIdeal.main_arg3) = m ((c.tc : Thread Cert.S5PrepBwdRefIdeal.nD Cert.S5PrepBwdRefIdeal.τ).loc Cert.S5PrepBwdRefIdeal.main_arg3)
      ∧ r.2.mem ((c.tc : Thread Cert.S5PrepBwdRefIdeal.nD Cert.S5PrepBwdRefIdeal.τ).loc Cert.S5PrepBwdRefIdeal.main_arg4) = m ((c.tc : Thread Cert.S5PrepBwdRefIdeal.nD Cert.S5PrepBwdRefIdeal.τ).loc Cert.S5PrepBwdRefIdeal.main_arg4)
      ∧ r.2.mem ((c.tc : Thread Cert.S5PrepBwdRefIdeal.nD Cert.S5PrepBwdRefIdeal.τ).loc Cert.S5PrepBwdRefIdeal.main_arg5) = m ((c.tc : Thread Cert.S5PrepBwdRefIdeal.nD Cert.S5PrepBwdRefIdeal.τ).loc Cert.S5PrepBwdRefIdeal.main_arg5)
      ∧ r.2.mem ((c.tc : Thread Cert.S5PrepBwdRefIdeal.nD Cert.S5PrepBwdRefIdeal.τ).loc Cert.S5PrepBwdRefIdeal.main_arg6) = m ((c.tc : Thread Cert.S5PrepBwdRefIdeal.nD Cert.S5PrepBwdRefIdeal.τ).loc Cert.S5PrepBwdRefIdeal.main_arg6)
      ∧ r.2.mem ((c.tc : Thread Cert.S5PrepBwdRefIdeal.nD Cert.S5PrepBwdRefIdeal.τ).loc Cert.S5PrepBwdRefIdeal.main_arg7) = m ((c.tc : Thread Cert.S5PrepBwdRefIdeal.nD Cert.S5PrepBwdRefIdeal.τ).loc Cert.S5PrepBwdRefIdeal.main_arg7)
      ∧ r.2.mem ((c.tc : Thread Cert.S5PrepBwdRefIdeal.nD Cert.S5PrepBwdRefIdeal.τ).loc Cert.S5PrepBwdRefIdeal.main_arg8) = m ((c.tc : Thread Cert.S5PrepBwdRefIdeal.nD Cert.S5PrepBwdRefIdeal.τ).loc Cert.S5PrepBwdRefIdeal.main_arg8)
      ∧ r.2.mem ((c.tc : Thread Cert.S5PrepBwdRefIdeal.nD Cert.S5PrepBwdRefIdeal.τ).loc Cert.S5PrepBwdRefIdeal.main_arg9) = m ((c.tc : Thread Cert.S5PrepBwdRefIdeal.nD Cert.S5PrepBwdRefIdeal.τ).loc Cert.S5PrepBwdRefIdeal.main_arg9)
      ∧ r.2.mem ((c.tc : Thread Cert.S5PrepBwdRefIdeal.nD Cert.S5PrepBwdRefIdeal.τ).loc Cert.S5PrepBwdRefIdeal.main_arg10) = m ((c.tc : Thread Cert.S5PrepBwdRefIdeal.nD Cert.S5PrepBwdRefIdeal.τ).loc Cert.S5PrepBwdRefIdeal.main_arg10))
      ∧ r.2.sem = fun _ => 0)

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v1_0)) (v1 : (c : Dev Cert.ShortConvIdeal.nD) → Buf (Elt Ideal) ((c.tc : Thread Cert.ShortConvIdeal.nD Cert.ShortConvIdeal.τ).loc Cert.ShortConvIdeal.main_v1_1)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v1_0) = v0 c
          ∧ r.2.mem ((c.tc : Thread Cert.ShortConvIdeal.nD Cert.ShortConvIdeal.τ).loc Cert.ShortConvIdeal.main_v1_1) = v1 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v67) = v0 c
          ∧ r.2.mem ((c.tc : Thread Cert.ShortConvRefIdeal.nD Cert.ShortConvRefIdeal.τ).loc Cert.ShortConvRefIdeal.main_v68) = v1 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v6)) (v1 : (c : Dev Cert.OutProjIdeal.nD) → Buf (Elt Ideal) ((c.tc : Thread Cert.OutProjIdeal.nD Cert.OutProjIdeal.τ).loc Cert.OutProjIdeal.main_v7)) (v2 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_v7) = v1 c
          ∧ r.2.mem ((c.tc : Thread Cert.OutProjIdeal.nD Cert.OutProjIdeal.τ).loc Cert.OutProjIdeal.main_v8) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v4) = v1 c
          ∧ r.2.mem ((c.tc : Thread Cert.OutProjRefIdeal.nD Cert.OutProjRefIdeal.τ).loc Cert.OutProjRefIdeal.main_v3) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v17_0)) (v2 : (c : Dev Cert.InProjIdeal.nD) → Buf (Elt Ideal) ((c.tc : Thread Cert.InProjIdeal.nD Cert.InProjIdeal.τ).loc Cert.InProjIdeal.main_v17_1)) (v3 : (c : Dev Cert.InProjIdeal.nD) → Buf (Elt Ideal) ((c.tc : Thread Cert.InProjIdeal.nD Cert.InProjIdeal.τ).loc Cert.InProjIdeal.main_v16)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v17_0) = v1 c
          ∧ r.2.mem ((c.tc : Thread Cert.InProjIdeal.nD Cert.InProjIdeal.τ).loc Cert.InProjIdeal.main_v17_1) = v2 c
          ∧ r.2.mem ((c.tc : Thread Cert.InProjIdeal.nD Cert.InProjIdeal.τ).loc Cert.InProjIdeal.main_v16) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v48) = v0 c
          ∧ r.2.mem ((c.tc : Thread Cert.InProjRefIdeal.nD Cert.InProjRefIdeal.τ).loc Cert.InProjRefIdeal.main_v49) = v1 c
          ∧ r.2.mem ((c.tc : Thread Cert.InProjRefIdeal.nD Cert.InProjRefIdeal.τ).loc Cert.InProjRefIdeal.main_v50) = v2 c
          ∧ r.2.mem ((c.tc : Thread Cert.InProjRefIdeal.nD Cert.InProjRefIdeal.τ).loc Cert.InProjRefIdeal.main_v22) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_Conformer_ConformerIdeal : Prop :=
  True

def algebraic_ConformerIdeal_ConformerRefIdeal [hConformerIdeal : Cert.ConformerIdeal.Facts] [hConformerRefIdeal : Cert.ConformerRefIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerRefIdeal.nD Cert.ConformerRefIdeal.τ Cert.ConformerRefIdeal.sig) → Buf (Elt Ideal) ℓ) (g' : Dev Cert.ConformerRefIdeal.nD → PrngReg), Pre_ConformerIdeal m →
    (∀ c : Dev Cert.ConformerIdeal.nD,
      m' ((c.tc : Thread Cert.ConformerRefIdeal.nD Cert.ConformerRefIdeal.τ).loc Cert.ConformerRefIdeal.main_arg0) = m ((c.tc : Thread Cert.ConformerIdeal.nD Cert.ConformerIdeal.τ).loc Cert.ConformerIdeal.main_arg0)
      ∧ m' ((c.tc : Thread Cert.ConformerRefIdeal.nD Cert.ConformerRefIdeal.τ).loc Cert.ConformerRefIdeal.main_arg1) = m ((c.tc : Thread Cert.ConformerIdeal.nD Cert.ConformerIdeal.τ).loc Cert.ConformerIdeal.main_arg1)
      ∧ m' ((c.tc : Thread Cert.ConformerRefIdeal.nD Cert.ConformerRefIdeal.τ).loc Cert.ConformerRefIdeal.main_arg2) = m ((c.tc : Thread Cert.ConformerIdeal.nD Cert.ConformerIdeal.τ).loc Cert.ConformerIdeal.main_arg2)
      ∧ m' ((c.tc : Thread Cert.ConformerRefIdeal.nD Cert.ConformerRefIdeal.τ).loc Cert.ConformerRefIdeal.main_arg3) = m ((c.tc : Thread Cert.ConformerIdeal.nD Cert.ConformerIdeal.τ).loc Cert.ConformerIdeal.main_arg3)
      ∧ m' ((c.tc : Thread Cert.ConformerRefIdeal.nD Cert.ConformerRefIdeal.τ).loc Cert.ConformerRefIdeal.main_arg4) = m ((c.tc : Thread Cert.ConformerIdeal.nD Cert.ConformerIdeal.τ).loc Cert.ConformerIdeal.main_arg4)
      ∧ m' ((c.tc : Thread Cert.ConformerRefIdeal.nD Cert.ConformerRefIdeal.τ).loc Cert.ConformerRefIdeal.main_arg5) = m ((c.tc : Thread Cert.ConformerIdeal.nD Cert.ConformerIdeal.τ).loc Cert.ConformerIdeal.main_arg5)
      ∧ m' ((c.tc : Thread Cert.ConformerRefIdeal.nD Cert.ConformerRefIdeal.τ).loc Cert.ConformerRefIdeal.main_arg6) = m ((c.tc : Thread Cert.ConformerIdeal.nD Cert.ConformerIdeal.τ).loc Cert.ConformerIdeal.main_arg6)
      ∧ m' ((c.tc : Thread Cert.ConformerRefIdeal.nD Cert.ConformerRefIdeal.τ).loc Cert.ConformerRefIdeal.main_arg7) = m ((c.tc : Thread Cert.ConformerIdeal.nD Cert.ConformerIdeal.τ).loc Cert.ConformerIdeal.main_arg7)) →
    ∃ (v0 : (c : Dev Cert.ConformerIdeal.nD) → Buf (Elt Ideal) ((c.tc : Thread Cert.ConformerIdeal.nD Cert.ConformerIdeal.τ).loc Cert.ConformerIdeal.main_v234_0)) (v1 : (c : Dev Cert.ConformerIdeal.nD) → Buf (Elt Ideal) ((c.tc : Thread Cert.ConformerIdeal.nD Cert.ConformerIdeal.τ).loc Cert.ConformerIdeal.main_v234_1)) (v2 : (c : Dev Cert.ConformerIdeal.nD) → Buf (Elt Ideal) ((c.tc : Thread Cert.ConformerIdeal.nD Cert.ConformerIdeal.τ).loc Cert.ConformerIdeal.main_v234_2)) (v3 : (c : Dev Cert.ConformerIdeal.nD) → Buf (Elt Ideal) ((c.tc : Thread Cert.ConformerIdeal.nD Cert.ConformerIdeal.τ).loc Cert.ConformerIdeal.main_v234_3)) (v4 : (c : Dev Cert.ConformerIdeal.nD) → Buf (Elt Ideal) ((c.tc : Thread Cert.ConformerIdeal.nD Cert.ConformerIdeal.τ).loc Cert.ConformerIdeal.main_v234_4)) (v5 : (c : Dev Cert.ConformerIdeal.nD) → Buf (Elt Ideal) ((c.tc : Thread Cert.ConformerIdeal.nD Cert.ConformerIdeal.τ).loc Cert.ConformerIdeal.main_v234_5)) (v6 : (c : Dev Cert.ConformerIdeal.nD) → Buf (Elt Ideal) ((c.tc : Thread Cert.ConformerIdeal.nD Cert.ConformerIdeal.τ).loc Cert.ConformerIdeal.main_v234_6)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v234_0) = v0 c
          ∧ r.2.mem ((c.tc : Thread Cert.ConformerIdeal.nD Cert.ConformerIdeal.τ).loc Cert.ConformerIdeal.main_v234_1) = v1 c
          ∧ r.2.mem ((c.tc : Thread Cert.ConformerIdeal.nD Cert.ConformerIdeal.τ).loc Cert.ConformerIdeal.main_v234_2) = v2 c
          ∧ r.2.mem ((c.tc : Thread Cert.ConformerIdeal.nD Cert.ConformerIdeal.τ).loc Cert.ConformerIdeal.main_v234_3) = v3 c
          ∧ r.2.mem ((c.tc : Thread Cert.ConformerIdeal.nD Cert.ConformerIdeal.τ).loc Cert.ConformerIdeal.main_v234_4) = v4 c
          ∧ r.2.mem ((c.tc : Thread Cert.ConformerIdeal.nD Cert.ConformerIdeal.τ).loc Cert.ConformerIdeal.main_v234_5) = v5 c
          ∧ r.2.mem ((c.tc : Thread Cert.ConformerIdeal.nD Cert.ConformerIdeal.τ).loc Cert.ConformerIdeal.main_v234_6) = v6 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
          ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5)
          ∧ r.2.mem ((c.tc : Thread Cert.ConformerIdeal.nD Cert.ConformerIdeal.τ).loc Cert.ConformerIdeal.main_arg6) = m ((c.tc : Thread Cert.ConformerIdeal.nD Cert.ConformerIdeal.τ).loc Cert.ConformerIdeal.main_arg6)
          ∧ r.2.mem ((c.tc : Thread Cert.ConformerIdeal.nD Cert.ConformerIdeal.τ).loc Cert.ConformerIdeal.main_arg7) = m ((c.tc : Thread Cert.ConformerIdeal.nD Cert.ConformerIdeal.τ).loc Cert.ConformerIdeal.main_arg7))
      ∧ θ_run (Cert.ConformerRefIdeal.defs (F := Ideal)) (onTc (τ := Cert.ConformerRefIdeal.τ) (Cert.ConformerRefIdeal.main (F := Ideal))) ⟨m', fun _ => 0, g'⟩ (fun r => ∀ c : Dev Cert.ConformerRefIdeal.nD,
          r.2.mem ((c.tc : Thread Cert.ConformerRefIdeal.nD Cert.ConformerRefIdeal.τ).loc Cert.ConformerRefIdeal.main_v123) = v0 c
          ∧ r.2.mem ((c.tc : Thread Cert.ConformerRefIdeal.nD Cert.ConformerRefIdeal.τ).loc Cert.ConformerRefIdeal.main_v124) = v1 c
          ∧ r.2.mem ((c.tc : Thread Cert.ConformerRefIdeal.nD Cert.ConformerRefIdeal.τ).loc Cert.ConformerRefIdeal.main_v125) = v2 c
          ∧ r.2.mem ((c.tc : Thread Cert.ConformerRefIdeal.nD Cert.ConformerRefIdeal.τ).loc Cert.ConformerRefIdeal.main_v126) = v3 c
          ∧ r.2.mem ((c.tc : Thread Cert.ConformerRefIdeal.nD Cert.ConformerRefIdeal.τ).loc Cert.ConformerRefIdeal.main_v127) = v4 c
          ∧ r.2.mem ((c.tc : Thread Cert.ConformerRefIdeal.nD Cert.ConformerRefIdeal.τ).loc Cert.ConformerRefIdeal.main_v70) = v5 c
          ∧ r.2.mem ((c.tc : Thread Cert.ConformerRefIdeal.nD Cert.ConformerRefIdeal.τ).loc Cert.ConformerRefIdeal.main_v128) = v6 c
          ∧ r.2.mem ((c.tc : Thread Cert.ConformerRefIdeal.nD Cert.ConformerRefIdeal.τ).loc Cert.ConformerRefIdeal.main_arg0) = m' ((c.tc : Thread Cert.ConformerRefIdeal.nD Cert.ConformerRefIdeal.τ).loc Cert.ConformerRefIdeal.main_arg0)
          ∧ r.2.mem ((c.tc : Thread Cert.ConformerRefIdeal.nD Cert.ConformerRefIdeal.τ).loc Cert.ConformerRefIdeal.main_arg1) = m' ((c.tc : Thread Cert.ConformerRefIdeal.nD Cert.ConformerRefIdeal.τ).loc Cert.ConformerRefIdeal.main_arg1)
          ∧ r.2.mem ((c.tc : Thread Cert.ConformerRefIdeal.nD Cert.ConformerRefIdeal.τ).loc Cert.ConformerRefIdeal.main_arg2) = m' ((c.tc : Thread Cert.ConformerRefIdeal.nD Cert.ConformerRefIdeal.τ).loc Cert.ConformerRefIdeal.main_arg2)
          ∧ r.2.mem ((c.tc : Thread Cert.ConformerRefIdeal.nD Cert.ConformerRefIdeal.τ).loc Cert.ConformerRefIdeal.main_arg3) = m' ((c.tc : Thread Cert.ConformerRefIdeal.nD Cert.ConformerRefIdeal.τ).loc Cert.ConformerRefIdeal.main_arg3)
          ∧ r.2.mem ((c.tc : Thread Cert.ConformerRefIdeal.nD Cert.ConformerRefIdeal.τ).loc Cert.ConformerRefIdeal.main_arg4) = m' ((c.tc : Thread Cert.ConformerRefIdeal.nD Cert.ConformerRefIdeal.τ).loc Cert.ConformerRefIdeal.main_arg4)
          ∧ r.2.mem ((c.tc : Thread Cert.ConformerRefIdeal.nD Cert.ConformerRefIdeal.τ).loc Cert.ConformerRefIdeal.main_arg5) = m' ((c.tc : Thread Cert.ConformerRefIdeal.nD Cert.ConformerRefIdeal.τ).loc Cert.ConformerRefIdeal.main_arg5)
          ∧ r.2.mem ((c.tc : Thread Cert.ConformerRefIdeal.nD Cert.ConformerRefIdeal.τ).loc Cert.ConformerRefIdeal.main_arg6) = m' ((c.tc : Thread Cert.ConformerRefIdeal.nD Cert.ConformerRefIdeal.τ).loc Cert.ConformerRefIdeal.main_arg6)
          ∧ r.2.mem ((c.tc : Thread Cert.ConformerRefIdeal.nD Cert.ConformerRefIdeal.τ).loc Cert.ConformerRefIdeal.main_arg7) = m' ((c.tc : Thread Cert.ConformerRefIdeal.nD Cert.ConformerRefIdeal.τ).loc Cert.ConformerRefIdeal.main_arg7))

def preserves_ConformerFwd_ConformerFwdIdeal : Prop :=
  True

def algebraic_ConformerFwdIdeal_ConformerFwdRefIdeal [hConformerFwdIdeal : Cert.ConformerFwdIdeal.Facts] [hConformerFwdRefIdeal : Cert.ConformerFwdRefIdeal.Facts] : Prop :=
  ∀ (m : (ℓ : Loc Cert.ConformerFwdIdeal.nD Cert.ConformerFwdIdeal.τ Cert.ConformerFwdIdeal.sig) → Buf (Elt Ideal) ℓ) (g : Dev Cert.ConformerFwdIdeal.nD → PrngReg)
    (m' : (ℓ : Loc Cert.ConformerFwdRefIdeal.nD Cert.ConformerFwdRefIdeal.τ Cert.ConformerFwdRefIdeal.sig) → Buf (Elt Ideal) ℓ) (g' : Dev Cert.ConformerFwdRefIdeal.nD → PrngReg), Pre_ConformerFwdIdeal m →
    (∀ c : Dev Cert.ConformerFwdIdeal.nD,
      m' ((c.tc : Thread Cert.ConformerFwdRefIdeal.nD Cert.ConformerFwdRefIdeal.τ).loc Cert.ConformerFwdRefIdeal.main_arg0) = m ((c.tc : Thread Cert.ConformerFwdIdeal.nD Cert.ConformerFwdIdeal.τ).loc Cert.ConformerFwdIdeal.main_arg0)
      ∧ m' ((c.tc : Thread Cert.ConformerFwdRefIdeal.nD Cert.ConformerFwdRefIdeal.τ).loc Cert.ConformerFwdRefIdeal.main_arg1) = m ((c.tc : Thread Cert.ConformerFwdIdeal.nD Cert.ConformerFwdIdeal.τ).loc Cert.ConformerFwdIdeal.main_arg1)
      ∧ m' ((c.tc : Thread Cert.ConformerFwdRefIdeal.nD Cert.ConformerFwdRefIdeal.τ).loc Cert.ConformerFwdRefIdeal.main_arg2) = m ((c.tc : Thread Cert.ConformerFwdIdeal.nD Cert.ConformerFwdIdeal.τ).loc Cert.ConformerFwdIdeal.main_arg2)
      ∧ m' ((c.tc : Thread Cert.ConformerFwdRefIdeal.nD Cert.ConformerFwdRefIdeal.τ).loc Cert.ConformerFwdRefIdeal.main_arg3) = m ((c.tc : Thread Cert.ConformerFwdIdeal.nD Cert.ConformerFwdIdeal.τ).loc Cert.ConformerFwdIdeal.main_arg3)
      ∧ m' ((c.tc : Thread Cert.ConformerFwdRefIdeal.nD Cert.ConformerFwdRefIdeal.τ).loc Cert.ConformerFwdRefIdeal.main_arg4) = m ((c.tc : Thread Cert.ConformerFwdIdeal.nD Cert.ConformerFwdIdeal.τ).loc Cert.ConformerFwdIdeal.main_arg4)
      ∧ m' ((c.tc : Thread Cert.ConformerFwdRefIdeal.nD Cert.ConformerFwdRefIdeal.τ).loc Cert.ConformerFwdRefIdeal.main_arg5) = m ((c.tc : Thread Cert.ConformerFwdIdeal.nD Cert.ConformerFwdIdeal.τ).loc Cert.ConformerFwdIdeal.main_arg5)
      ∧ m' ((c.tc : Thread Cert.ConformerFwdRefIdeal.nD Cert.ConformerFwdRefIdeal.τ).loc Cert.ConformerFwdRefIdeal.main_arg6) = m ((c.tc : Thread Cert.ConformerFwdIdeal.nD Cert.ConformerFwdIdeal.τ).loc Cert.ConformerFwdIdeal.main_arg6)) →
    ∃ (v0 : (c : Dev Cert.ConformerFwdIdeal.nD) → Buf (Elt Ideal) ((c.tc : Thread Cert.ConformerFwdIdeal.nD Cert.ConformerFwdIdeal.τ).loc Cert.ConformerFwdIdeal.main_v5_0)) (v1 : (c : Dev Cert.ConformerFwdIdeal.nD) → Buf (Elt Ideal) ((c.tc : Thread Cert.ConformerFwdIdeal.nD Cert.ConformerFwdIdeal.τ).loc Cert.ConformerFwdIdeal.main_v5_1)),
      θ_run (Cert.ConformerFwdIdeal.defs (F := Ideal)) (onTc (τ := Cert.ConformerFwdIdeal.τ) (Cert.ConformerFwdIdeal.main (F := Ideal))) ⟨m, fun _ => 0, g⟩ (fun r => ∀ c : Dev Cert.ConformerFwdIdeal.nD,
          r.2.mem ((c.tc : Thread Cert.ConformerFwdIdeal.nD Cert.ConformerFwdIdeal.τ).loc Cert.ConformerFwdIdeal.main_v5_0) = v0 c
          ∧ r.2.mem ((c.tc : Thread Cert.ConformerFwdIdeal.nD Cert.ConformerFwdIdeal.τ).loc Cert.ConformerFwdIdeal.main_v5_1) = v1 c
          ∧ r.2.mem ((c.tc : Thread Cert.ConformerFwdIdeal.nD Cert.ConformerFwdIdeal.τ).loc Cert.ConformerFwdIdeal.main_arg0) = m ((c.tc : Thread Cert.ConformerFwdIdeal.nD Cert.ConformerFwdIdeal.τ).loc Cert.ConformerFwdIdeal.main_arg0)
          ∧ r.2.mem ((c.tc : Thread Cert.ConformerFwdIdeal.nD Cert.ConformerFwdIdeal.τ).loc Cert.ConformerFwdIdeal.main_arg1) = m ((c.tc : Thread Cert.ConformerFwdIdeal.nD Cert.ConformerFwdIdeal.τ).loc Cert.ConformerFwdIdeal.main_arg1)
          ∧ r.2.mem ((c.tc : Thread Cert.ConformerFwdIdeal.nD Cert.ConformerFwdIdeal.τ).loc Cert.ConformerFwdIdeal.main_arg2) = m ((c.tc : Thread Cert.ConformerFwdIdeal.nD Cert.ConformerFwdIdeal.τ).loc Cert.ConformerFwdIdeal.main_arg2)
          ∧ r.2.mem ((c.tc : Thread Cert.ConformerFwdIdeal.nD Cert.ConformerFwdIdeal.τ).loc Cert.ConformerFwdIdeal.main_arg3) = m ((c.tc : Thread Cert.ConformerFwdIdeal.nD Cert.ConformerFwdIdeal.τ).loc Cert.ConformerFwdIdeal.main_arg3)
          ∧ r.2.mem ((c.tc : Thread Cert.ConformerFwdIdeal.nD Cert.ConformerFwdIdeal.τ).loc Cert.ConformerFwdIdeal.main_arg4) = m ((c.tc : Thread Cert.ConformerFwdIdeal.nD Cert.ConformerFwdIdeal.τ).loc Cert.ConformerFwdIdeal.main_arg4)
          ∧ r.2.mem ((c.tc : Thread Cert.ConformerFwdIdeal.nD Cert.ConformerFwdIdeal.τ).loc Cert.ConformerFwdIdeal.main_arg5) = m ((c.tc : Thread Cert.ConformerFwdIdeal.nD Cert.ConformerFwdIdeal.τ).loc Cert.ConformerFwdIdeal.main_arg5)
          ∧ r.2.mem ((c.tc : Thread Cert.ConformerFwdIdeal.nD Cert.ConformerFwdIdeal.τ).loc Cert.ConformerFwdIdeal.main_arg6) = m ((c.tc : Thread Cert.ConformerFwdIdeal.nD Cert.ConformerFwdIdeal.τ).loc Cert.ConformerFwdIdeal.main_arg6))
      ∧ θ_run (Cert.ConformerFwdRefIdeal.defs (F := Ideal)) (onTc (τ := Cert.ConformerFwdRefIdeal.τ) (Cert.ConformerFwdRefIdeal.main (F := Ideal))) ⟨m', fun _ => 0, g'⟩ (fun r => ∀ c : Dev Cert.ConformerFwdRefIdeal.nD,
          r.2.mem ((c.tc : Thread Cert.ConformerFwdRefIdeal.nD Cert.ConformerFwdRefIdeal.τ).loc Cert.ConformerFwdRefIdeal.main_v261) = v0 c
          ∧ r.2.mem ((c.tc : Thread Cert.ConformerFwdRefIdeal.nD Cert.ConformerFwdRefIdeal.τ).loc Cert.ConformerFwdRefIdeal.main_v228) = v1 c
          ∧ r.2.mem ((c.tc : Thread Cert.ConformerFwdRefIdeal.nD Cert.ConformerFwdRefIdeal.τ).loc Cert.ConformerFwdRefIdeal.main_arg0) = m' ((c.tc : Thread Cert.ConformerFwdRefIdeal.nD Cert.ConformerFwdRefIdeal.τ).loc Cert.ConformerFwdRefIdeal.main_arg0)
          ∧ r.2.mem ((c.tc : Thread Cert.ConformerFwdRefIdeal.nD Cert.ConformerFwdRefIdeal.τ).loc Cert.ConformerFwdRefIdeal.main_arg1) = m' ((c.tc : Thread Cert.ConformerFwdRefIdeal.nD Cert.ConformerFwdRefIdeal.τ).loc Cert.ConformerFwdRefIdeal.main_arg1)
          ∧ r.2.mem ((c.tc : Thread Cert.ConformerFwdRefIdeal.nD Cert.ConformerFwdRefIdeal.τ).loc Cert.ConformerFwdRefIdeal.main_arg2) = m' ((c.tc : Thread Cert.ConformerFwdRefIdeal.nD Cert.ConformerFwdRefIdeal.τ).loc Cert.ConformerFwdRefIdeal.main_arg2)
          ∧ r.2.mem ((c.tc : Thread Cert.ConformerFwdRefIdeal.nD Cert.ConformerFwdRefIdeal.τ).loc Cert.ConformerFwdRefIdeal.main_arg3) = m' ((c.tc : Thread Cert.ConformerFwdRefIdeal.nD Cert.ConformerFwdRefIdeal.τ).loc Cert.ConformerFwdRefIdeal.main_arg3)
          ∧ r.2.mem ((c.tc : Thread Cert.ConformerFwdRefIdeal.nD Cert.ConformerFwdRefIdeal.τ).loc Cert.ConformerFwdRefIdeal.main_arg4) = m' ((c.tc : Thread Cert.ConformerFwdRefIdeal.nD Cert.ConformerFwdRefIdeal.τ).loc Cert.ConformerFwdRefIdeal.main_arg4)
          ∧ r.2.mem ((c.tc : Thread Cert.ConformerFwdRefIdeal.nD Cert.ConformerFwdRefIdeal.τ).loc Cert.ConformerFwdRefIdeal.main_arg5) = m' ((c.tc : Thread Cert.ConformerFwdRefIdeal.nD Cert.ConformerFwdRefIdeal.τ).loc Cert.ConformerFwdRefIdeal.main_arg5)
          ∧ r.2.mem ((c.tc : Thread Cert.ConformerFwdRefIdeal.nD Cert.ConformerFwdRefIdeal.τ).loc Cert.ConformerFwdRefIdeal.main_arg6) = m' ((c.tc : Thread Cert.ConformerFwdRefIdeal.nD Cert.ConformerFwdRefIdeal.τ).loc Cert.ConformerFwdRefIdeal.main_arg6))

def preserves_ShortConvFwd_ShortConvFwdIdeal : Prop :=
  True

def algebraic_ShortConvFwdIdeal_ShortConvFwdRefIdeal [hShortConvFwdIdeal : Cert.ShortConvFwdIdeal.Facts] [hShortConvFwdRefIdeal : Cert.ShortConvFwdRefIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg)
    (m' : (ℓ : Loc Cert.ShortConvFwdRefIdeal.nD Cert.ShortConvFwdRefIdeal.τ Cert.ShortConvFwdRefIdeal.sig) → Buf (Elt Ideal) ℓ) (g' : Dev Cert.ShortConvFwdRefIdeal.nD → PrngReg), Pre_ShortConvFwdIdeal m →
    (∀ c : Dev Cert.ShortConvFwdIdeal.nD,
      m' ((c.tc : Thread Cert.ShortConvFwdRefIdeal.nD Cert.ShortConvFwdRefIdeal.τ).loc Cert.ShortConvFwdRefIdeal.main_arg0) = m ((c.tc : Thread Cert.ShortConvFwdIdeal.nD Cert.ShortConvFwdIdeal.τ).loc Cert.ShortConvFwdIdeal.main_arg0)
      ∧ m' ((c.tc : Thread Cert.ShortConvFwdRefIdeal.nD Cert.ShortConvFwdRefIdeal.τ).loc Cert.ShortConvFwdRefIdeal.main_arg1) = m ((c.tc : Thread Cert.ShortConvFwdIdeal.nD Cert.ShortConvFwdIdeal.τ).loc Cert.ShortConvFwdIdeal.main_arg1)) →
    ∃ (v0 : (c : Dev Cert.ShortConvFwdIdeal.nD) → Buf (Elt Ideal) ((c.tc : Thread Cert.ShortConvFwdIdeal.nD Cert.ShortConvFwdIdeal.τ).loc Cert.ShortConvFwdIdeal.main_v1)),
      θ_run (Cert.ShortConvFwdIdeal.defs (F := Ideal)) (onTc (τ := Cert.ShortConvFwdIdeal.τ) (Cert.ShortConvFwdIdeal.main (F := Ideal))) ⟨m, fun _ => 0, g⟩ (fun r => ∀ c : Dev Cert.ShortConvFwdIdeal.nD,
          r.2.mem ((c.tc : Thread Cert.ShortConvFwdIdeal.nD Cert.ShortConvFwdIdeal.τ).loc Cert.ShortConvFwdIdeal.main_v1) = v0 c
          ∧ r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
          ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1))
      ∧ θ_run (Cert.ShortConvFwdRefIdeal.defs (F := Ideal)) (onTc (τ := Cert.ShortConvFwdRefIdeal.τ) (Cert.ShortConvFwdRefIdeal.main (F := Ideal))) ⟨m', fun _ => 0, g'⟩ (fun r => ∀ c : Dev Cert.ShortConvFwdRefIdeal.nD,
          r.2.mem ((c.tc : Thread Cert.ShortConvFwdRefIdeal.nD Cert.ShortConvFwdRefIdeal.τ).loc Cert.ShortConvFwdRefIdeal.main_v23) = v0 c
          ∧ r.2.mem ((c.tc : Thread Cert.ShortConvFwdRefIdeal.nD Cert.ShortConvFwdRefIdeal.τ).loc Cert.ShortConvFwdRefIdeal.main_arg0) = m' ((c.tc : Thread Cert.ShortConvFwdRefIdeal.nD Cert.ShortConvFwdRefIdeal.τ).loc Cert.ShortConvFwdRefIdeal.main_arg0)
          ∧ r.2.mem ((c.tc : Thread Cert.ShortConvFwdRefIdeal.nD Cert.ShortConvFwdRefIdeal.τ).loc Cert.ShortConvFwdRefIdeal.main_arg1) = m' ((c.tc : Thread Cert.ShortConvFwdRefIdeal.nD Cert.ShortConvFwdRefIdeal.τ).loc Cert.ShortConvFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v5)) (v1 : (c : Dev Cert.AdamOutIdeal.nD) → Buf (Elt Ideal) ((c.tc : Thread Cert.AdamOutIdeal.nD Cert.AdamOutIdeal.τ).loc Cert.AdamOutIdeal.main_v6)) (v2 : (c : Dev Cert.AdamOutIdeal.nD) → Buf (Elt Ideal) ((c.tc : Thread Cert.AdamOutIdeal.nD Cert.AdamOutIdeal.τ).loc Cert.AdamOutIdeal.main_v7)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v5) = v0 c
          ∧ r.2.mem ((c.tc : Thread Cert.AdamOutIdeal.nD Cert.AdamOutIdeal.τ).loc Cert.AdamOutIdeal.main_v6) = v1 c
          ∧ r.2.mem ((c.tc : Thread Cert.AdamOutIdeal.nD Cert.AdamOutIdeal.τ).loc Cert.AdamOutIdeal.main_v7) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)) →
    ∃ (v0 : (c : Dev Cert.AdamSmallIdeal.nD) → Buf (Elt Ideal) ((c.tc : Thread Cert.AdamSmallIdeal.nD Cert.AdamSmallIdeal.τ).loc Cert.AdamSmallIdeal.main_v72)) (v1 : (c : Dev Cert.AdamSmallIdeal.nD) → Buf (Elt Ideal) ((c.tc : Thread Cert.AdamSmallIdeal.nD Cert.AdamSmallIdeal.τ).loc Cert.AdamSmallIdeal.main_v75)) (v2 : (c : Dev Cert.AdamSmallIdeal.nD) → Buf (Elt Ideal) ((c.tc : Thread Cert.AdamSmallIdeal.nD Cert.AdamSmallIdeal.τ).loc Cert.AdamSmallIdeal.main_v78)) (v3 : (c : Dev Cert.AdamSmallIdeal.nD) → Buf (Elt Ideal) ((c.tc : Thread Cert.AdamSmallIdeal.nD Cert.AdamSmallIdeal.τ).loc Cert.AdamSmallIdeal.main_v82)) (v4 : (c : Dev Cert.AdamSmallIdeal.nD) → Buf (Elt Ideal) ((c.tc : Thread Cert.AdamSmallIdeal.nD Cert.AdamSmallIdeal.τ).loc Cert.AdamSmallIdeal.main_v86)) (v5 : (c : Dev Cert.AdamSmallIdeal.nD) → Buf (Elt Ideal) ((c.tc : Thread Cert.AdamSmallIdeal.nD Cert.AdamSmallIdeal.τ).loc Cert.AdamSmallIdeal.main_v90)) (v6 : (c : Dev Cert.AdamSmallIdeal.nD) → Buf (Elt Ideal) ((c.tc : Thread Cert.AdamSmallIdeal.nD Cert.AdamSmallIdeal.τ).loc Cert.AdamSmallIdeal.main_v93)) (v7 : (c : Dev Cert.AdamSmallIdeal.nD) → Buf (Elt Ideal) ((c.tc : Thread Cert.AdamSmallIdeal.nD Cert.AdamSmallIdeal.τ).loc Cert.AdamSmallIdeal.main_v96)) (v8 : (c : Dev Cert.AdamSmallIdeal.nD) → Buf (Elt Ideal) ((c.tc : Thread Cert.AdamSmallIdeal.nD Cert.AdamSmallIdeal.τ).loc Cert.AdamSmallIdeal.main_v100)) (v9 : (c : Dev Cert.AdamSmallIdeal.nD) → Buf (Elt Ideal) ((c.tc : Thread Cert.AdamSmallIdeal.nD Cert.AdamSmallIdeal.τ).loc Cert.AdamSmallIdeal.main_v104)) (v10 : (c : Dev Cert.AdamSmallIdeal.nD) → Buf (Elt Ideal) ((c.tc : Thread Cert.AdamSmallIdeal.nD Cert.AdamSmallIdeal.τ).loc Cert.AdamSmallIdeal.main_v108)) (v11 : (c : Dev Cert.AdamSmallIdeal.nD) → Buf (Elt Ideal) ((c.tc : Thread Cert.AdamSmallIdeal.nD Cert.AdamSmallIdeal.τ).loc Cert.AdamSmallIdeal.main_v111)) (v12 : (c : Dev Cert.AdamSmallIdeal.nD) → Buf (Elt Ideal) ((c.tc : Thread Cert.AdamSmallIdeal.nD Cert.AdamSmallIdeal.τ).loc Cert.AdamSmallIdeal.main_v114)) (v13 : (c : Dev Cert.AdamSmallIdeal.nD) → Buf (Elt Ideal) ((c.tc : Thread Cert.AdamSmallIdeal.nD Cert.AdamSmallIdeal.τ).loc Cert.AdamSmallIdeal.main_v118)) (v14 : (c : Dev Cert.AdamSmallIdeal.nD) → Buf (Elt Ideal) ((c.tc : Thread Cert.AdamSmallIdeal.nD Cert.AdamSmallIdeal.τ).loc Cert.AdamSmallIdeal.main_v122)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v72) = v0 c
          ∧ r.2.mem ((c.tc : Thread Cert.AdamSmallIdeal.nD Cert.AdamSmallIdeal.τ).loc Cert.AdamSmallIdeal.main_v75) = v1 c
          ∧ r.2.mem ((c.tc : Thread Cert.AdamSmallIdeal.nD Cert.AdamSmallIdeal.τ).loc Cert.AdamSmallIdeal.main_v78) = v2 c
          ∧ r.2.mem ((c.tc : Thread Cert.AdamSmallIdeal.nD Cert.AdamSmallIdeal.τ).loc Cert.AdamSmallIdeal.main_v82) = v3 c
          ∧ r.2.mem ((c.tc : Thread Cert.AdamSmallIdeal.nD Cert.AdamSmallIdeal.τ).loc Cert.AdamSmallIdeal.main_v86) = v4 c
          ∧ r.2.mem ((c.tc : Thread Cert.AdamSmallIdeal.nD Cert.AdamSmallIdeal.τ).loc Cert.AdamSmallIdeal.main_v90) = v5 c
          ∧ r.2.mem ((c.tc : Thread Cert.AdamSmallIdeal.nD Cert.AdamSmallIdeal.τ).loc Cert.AdamSmallIdeal.main_v93) = v6 c
          ∧ r.2.mem ((c.tc : Thread Cert.AdamSmallIdeal.nD Cert.AdamSmallIdeal.τ).loc Cert.AdamSmallIdeal.main_v96) = v7 c
          ∧ r.2.mem ((c.tc : Thread Cert.AdamSmallIdeal.nD Cert.AdamSmallIdeal.τ).loc Cert.AdamSmallIdeal.main_v100) = v8 c
          ∧ r.2.mem ((c.tc : Thread Cert.AdamSmallIdeal.nD Cert.AdamSmallIdeal.τ).loc Cert.AdamSmallIdeal.main_v104) = v9 c
          ∧ r.2.mem ((c.tc : Thread Cert.AdamSmallIdeal.nD Cert.AdamSmallIdeal.τ).loc Cert.AdamSmallIdeal.main_v108) = v10 c
          ∧ r.2.mem ((c.tc : Thread Cert.AdamSmallIdeal.nD Cert.AdamSmallIdeal.τ).loc Cert.AdamSmallIdeal.main_v111) = v11 c
          ∧ r.2.mem ((c.tc : Thread Cert.AdamSmallIdeal.nD Cert.AdamSmallIdeal.τ).loc Cert.AdamSmallIdeal.main_v114) = v12 c
          ∧ r.2.mem ((c.tc : Thread Cert.AdamSmallIdeal.nD Cert.AdamSmallIdeal.τ).loc Cert.AdamSmallIdeal.main_v118) = v13 c
          ∧ r.2.mem ((c.tc : Thread Cert.AdamSmallIdeal.nD Cert.AdamSmallIdeal.τ).loc Cert.AdamSmallIdeal.main_v122) = v14 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v4) = v5 c
          ∧ r.2.mem ((c.tc : Thread Cert.AdamSmallRefIdeal.nD Cert.AdamSmallRefIdeal.τ).loc Cert.AdamSmallRefIdeal.main_v28) = v6 c
          ∧ r.2.mem ((c.tc : Thread Cert.AdamSmallRefIdeal.nD Cert.AdamSmallRefIdeal.τ).loc Cert.AdamSmallRefIdeal.main_v52) = v7 c
          ∧ r.2.mem ((c.tc : Thread Cert.AdamSmallRefIdeal.nD Cert.AdamSmallRefIdeal.τ).loc Cert.AdamSmallRefIdeal.main_v76) = v8 c
          ∧ r.2.mem ((c.tc : Thread Cert.AdamSmallRefIdeal.nD Cert.AdamSmallRefIdeal.τ).loc Cert.AdamSmallRefIdeal.main_v100) = v9 c
          ∧ r.2.mem ((c.tc : Thread Cert.AdamSmallRefIdeal.nD Cert.AdamSmallRefIdeal.τ).loc Cert.AdamSmallRefIdeal.main_v10) = v10 c
          ∧ r.2.mem ((c.tc : Thread Cert.AdamSmallRefIdeal.nD Cert.AdamSmallRefIdeal.τ).loc Cert.AdamSmallRefIdeal.main_v34) = v11 c
          ∧ r.2.mem ((c.tc : Thread Cert.AdamSmallRefIdeal.nD Cert.AdamSmallRefIdeal.τ).loc Cert.AdamSmallRefIdeal.main_v58) = v12 c
          ∧ r.2.mem ((c.tc : Thread Cert.AdamSmallRefIdeal.nD Cert.AdamSmallRefIdeal.τ).loc Cert.AdamSmallRefIdeal.main_v82) = v13 c
          ∧ r.2.mem ((c.tc : Thread Cert.AdamSmallRefIdeal.nD Cert.AdamSmallRefIdeal.τ).loc Cert.AdamSmallRefIdeal.main_v106) = v14 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19))

def preserves_AdamRepl_AdamReplIdeal : Prop :=
  True

def algebraic_AdamReplIdeal_AdamReplRefIdeal [hAdamReplIdeal : Cert.AdamReplIdeal.Facts] [hAdamReplRefIdeal : Cert.AdamReplRefIdeal.Facts] : Prop :=
  ∀ (m : (ℓ : Loc Cert.AdamReplIdeal.nD Cert.AdamReplIdeal.τ Cert.AdamReplIdeal.sig) → Buf (Elt Ideal) ℓ) (g : Dev Cert.AdamReplIdeal.nD → PrngReg)
    (m' : (ℓ : Loc Cert.AdamReplRefIdeal.nD Cert.AdamReplRefIdeal.τ Cert.AdamReplRefIdeal.sig) → Buf (Elt Ideal) ℓ) (g' : Dev Cert.AdamReplRefIdeal.nD → PrngReg), Pre_AdamReplIdeal m →
    (∀ c : Dev Cert.AdamReplIdeal.nD,
      m' ((c.tc : Thread Cert.AdamReplRefIdeal.nD Cert.AdamReplRefIdeal.τ).loc Cert.AdamReplRefIdeal.main_arg0) = m ((c.tc : Thread Cert.AdamReplIdeal.nD Cert.AdamReplIdeal.τ).loc Cert.AdamReplIdeal.main_arg0)
      ∧ m' ((c.tc : Thread Cert.AdamReplRefIdeal.nD Cert.AdamReplRefIdeal.τ).loc Cert.AdamReplRefIdeal.main_arg1) = m ((c.tc : Thread Cert.AdamReplIdeal.nD Cert.AdamReplIdeal.τ).loc Cert.AdamReplIdeal.main_arg1)
      ∧ m' ((c.tc : Thread Cert.AdamReplRefIdeal.nD Cert.AdamReplRefIdeal.τ).loc Cert.AdamReplRefIdeal.main_arg2) = m ((c.tc : Thread Cert.AdamReplIdeal.nD Cert.AdamReplIdeal.τ).loc Cert.AdamReplIdeal.main_arg2)
      ∧ m' ((c.tc : Thread Cert.AdamReplRefIdeal.nD Cert.AdamReplRefIdeal.τ).loc Cert.AdamReplRefIdeal.main_arg3) = m ((c.tc : Thread Cert.AdamReplIdeal.nD Cert.AdamReplIdeal.τ).loc Cert.AdamReplIdeal.main_arg3)) →
    ∃ (v0 : (c : Dev Cert.AdamReplIdeal.nD) → Buf (Elt Ideal) ((c.tc : Thread Cert.AdamReplIdeal.nD Cert.AdamReplIdeal.τ).loc Cert.AdamReplIdeal.main_v0_0)) (v1 : (c : Dev Cert.AdamReplIdeal.nD) → Buf (Elt Ideal) ((c.tc : Thread Cert.AdamReplIdeal.nD Cert.AdamReplIdeal.τ).loc Cert.AdamReplIdeal.main_v0_1)) (v2 : (c : Dev Cert.AdamReplIdeal.nD) → Buf (Elt Ideal) ((c.tc : Thread Cert.AdamReplIdeal.nD Cert.AdamReplIdeal.τ).loc Cert.AdamReplIdeal.main_v0_2)),
      θ_run (Cert.AdamReplIdeal.defs (F := Ideal)) (onTc (τ := Cert.AdamReplIdeal.τ) (Cert.AdamReplIdeal.main (F := Ideal))) ⟨m, fun _ => 0, g⟩ (fun r => ∀ c : Dev Cert.AdamReplIdeal.nD,
          r.2.mem ((c.tc : Thread Cert.AdamReplIdeal.nD Cert.AdamReplIdeal.τ).loc Cert.AdamReplIdeal.main_v0_0) = v0 c
          ∧ r.2.mem ((c.tc : Thread Cert.AdamReplIdeal.nD Cert.AdamReplIdeal.τ).loc Cert.AdamReplIdeal.main_v0_1) = v1 c
          ∧ r.2.mem ((c.tc : Thread Cert.AdamReplIdeal.nD Cert.AdamReplIdeal.τ).loc Cert.AdamReplIdeal.main_v0_2) = v2 c
          ∧ r.2.mem ((c.tc : Thread Cert.AdamReplIdeal.nD Cert.AdamReplIdeal.τ).loc Cert.AdamReplIdeal.main_arg0) = m ((c.tc : Thread Cert.AdamReplIdeal.nD Cert.AdamReplIdeal.τ).loc Cert.AdamReplIdeal.main_arg0)
          ∧ r.2.mem ((c.tc : Thread Cert.AdamReplIdeal.nD Cert.AdamReplIdeal.τ).loc Cert.AdamReplIdeal.main_arg1) = m ((c.tc : Thread Cert.AdamReplIdeal.nD Cert.AdamReplIdeal.τ).loc Cert.AdamReplIdeal.main_arg1)
          ∧ r.2.mem ((c.tc : Thread Cert.AdamReplIdeal.nD Cert.AdamReplIdeal.τ).loc Cert.AdamReplIdeal.main_arg2) = m ((c.tc : Thread Cert.AdamReplIdeal.nD Cert.AdamReplIdeal.τ).loc Cert.AdamReplIdeal.main_arg2)
          ∧ r.2.mem ((c.tc : Thread Cert.AdamReplIdeal.nD Cert.AdamReplIdeal.τ).loc Cert.AdamReplIdeal.main_arg3) = m ((c.tc : Thread Cert.AdamReplIdeal.nD Cert.AdamReplIdeal.τ).loc Cert.AdamReplIdeal.main_arg3))
      ∧ θ_run (Cert.AdamReplRefIdeal.defs (F := Ideal)) (onTc (τ := Cert.AdamReplRefIdeal.τ) (Cert.AdamReplRefIdeal.main (F := Ideal))) ⟨m', fun _ => 0, g'⟩ (fun r => ∀ c : Dev Cert.AdamReplRefIdeal.nD,
          r.2.mem ((c.tc : Thread Cert.AdamReplRefIdeal.nD Cert.AdamReplRefIdeal.τ).loc Cert.AdamReplRefIdeal.main_v23) = v0 c
          ∧ r.2.mem ((c.tc : Thread Cert.AdamReplRefIdeal.nD Cert.AdamReplRefIdeal.τ).loc Cert.AdamReplRefIdeal.main_v4) = v1 c
          ∧ r.2.mem ((c.tc : Thread Cert.AdamReplRefIdeal.nD Cert.AdamReplRefIdeal.τ).loc Cert.AdamReplRefIdeal.main_v10) = v2 c
          ∧ r.2.mem ((c.tc : Thread Cert.AdamReplRefIdeal.nD Cert.AdamReplRefIdeal.τ).loc Cert.AdamReplRefIdeal.main_arg0) = m' ((c.tc : Thread Cert.AdamReplRefIdeal.nD Cert.AdamReplRefIdeal.τ).loc Cert.AdamReplRefIdeal.main_arg0)
          ∧ r.2.mem ((c.tc : Thread Cert.AdamReplRefIdeal.nD Cert.AdamReplRefIdeal.τ).loc Cert.AdamReplRefIdeal.main_arg1) = m' ((c.tc : Thread Cert.AdamReplRefIdeal.nD Cert.AdamReplRefIdeal.τ).loc Cert.AdamReplRefIdeal.main_arg1)
          ∧ r.2.mem ((c.tc : Thread Cert.AdamReplRefIdeal.nD Cert.AdamReplRefIdeal.τ).loc Cert.AdamReplRefIdeal.main_arg2) = m' ((c.tc : Thread Cert.AdamReplRefIdeal.nD Cert.AdamReplRefIdeal.τ).loc Cert.AdamReplRefIdeal.main_arg2)
          ∧ r.2.mem ((c.tc : Thread Cert.AdamReplRefIdeal.nD Cert.AdamReplRefIdeal.τ).loc Cert.AdamReplRefIdeal.main_arg3) = m' ((c.tc : Thread Cert.AdamReplRefIdeal.nD Cert.AdamReplRefIdeal.τ).loc Cert.AdamReplRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v1)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v1) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v0) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v1)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v1) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v0) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumRepl_SumReplIdeal : Prop :=
  True

def algebraic_SumReplIdeal_SumReplRefIdeal [hSumReplIdeal : Cert.SumReplIdeal.Facts] [hSumReplRefIdeal : Cert.SumReplRefIdeal.Facts] : Prop :=
  ∀ (m : (ℓ : Loc Cert.SumReplIdeal.nD Cert.SumReplIdeal.τ Cert.SumReplIdeal.sig) → Buf (Elt Ideal) ℓ) (g : Dev Cert.SumReplIdeal.nD → PrngReg)
    (m' : (ℓ : Loc Cert.SumReplRefIdeal.nD Cert.SumReplRefIdeal.τ Cert.SumReplRefIdeal.sig) → Buf (Elt Ideal) ℓ) (g' : Dev Cert.SumReplRefIdeal.nD → PrngReg), Pre_SumReplIdeal m →
    (∀ c : Dev Cert.SumReplIdeal.nD,
      m' ((c.tc : Thread Cert.SumReplRefIdeal.nD Cert.SumReplRefIdeal.τ).loc Cert.SumReplRefIdeal.main_arg0) = m ((c.tc : Thread Cert.SumReplIdeal.nD Cert.SumReplIdeal.τ).loc Cert.SumReplIdeal.main_arg0)) →
    ∃ (v0 : (c : Dev Cert.SumReplIdeal.nD) → Buf (Elt Ideal) ((c.tc : Thread Cert.SumReplIdeal.nD Cert.SumReplIdeal.τ).loc Cert.SumReplIdeal.main_v0)),
      θ_run (Cert.SumReplIdeal.defs (F := Ideal)) (onTc (τ := Cert.SumReplIdeal.τ) (Cert.SumReplIdeal.main (F := Ideal))) ⟨m, fun _ => 0, g⟩ (fun r => ∀ c : Dev Cert.SumReplIdeal.nD,
          r.2.mem ((c.tc : Thread Cert.SumReplIdeal.nD Cert.SumReplIdeal.τ).loc Cert.SumReplIdeal.main_v0) = v0 c
          ∧ r.2.mem ((c.tc : Thread Cert.SumReplIdeal.nD Cert.SumReplIdeal.τ).loc Cert.SumReplIdeal.main_arg0) = m ((c.tc : Thread Cert.SumReplIdeal.nD Cert.SumReplIdeal.τ).loc Cert.SumReplIdeal.main_arg0))
      ∧ θ_run (Cert.SumReplRefIdeal.defs (F := Ideal)) (onTc (τ := Cert.SumReplRefIdeal.τ) (Cert.SumReplRefIdeal.main (F := Ideal))) ⟨m', fun _ => 0, g'⟩ (fun r => ∀ c : Dev Cert.SumReplRefIdeal.nD,
          r.2.mem ((c.tc : Thread Cert.SumReplRefIdeal.nD Cert.SumReplRefIdeal.τ).loc Cert.SumReplRefIdeal.main_v0) = v0 c
          ∧ r.2.mem ((c.tc : Thread Cert.SumReplRefIdeal.nD Cert.SumReplRefIdeal.τ).loc Cert.SumReplRefIdeal.main_arg0) = m' ((c.tc : Thread Cert.SumReplRefIdeal.nD Cert.SumReplRefIdeal.τ).loc Cert.SumReplRefIdeal.main_arg0))

def preserves_S5Prep_S5PrepIdeal : Prop :=
  True

def algebraic_S5PrepIdeal_S5PrepRefIdeal [hS5PrepIdeal : Cert.S5PrepIdeal.Facts] [hS5PrepRefIdeal : Cert.S5PrepRefIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg)
    (m' : (ℓ : Loc Cert.S5PrepRefIdeal.nD Cert.S5PrepRefIdeal.τ Cert.S5PrepRefIdeal.sig) → Buf (Elt Ideal) ℓ) (g' : Dev Cert.S5PrepRefIdeal.nD → PrngReg), Pre_S5PrepIdeal m →
    (∀ c : Dev Cert.S5PrepIdeal.nD,
      m' ((c.tc : Thread Cert.S5PrepRefIdeal.nD Cert.S5PrepRefIdeal.τ).loc Cert.S5PrepRefIdeal.main_arg0) = m ((c.tc : Thread Cert.S5PrepIdeal.nD Cert.S5PrepIdeal.τ).loc Cert.S5PrepIdeal.main_arg0)
      ∧ m' ((c.tc : Thread Cert.S5PrepRefIdeal.nD Cert.S5PrepRefIdeal.τ).loc Cert.S5PrepRefIdeal.main_arg1) = m ((c.tc : Thread Cert.S5PrepIdeal.nD Cert.S5PrepIdeal.τ).loc Cert.S5PrepIdeal.main_arg1)
      ∧ m' ((c.tc : Thread Cert.S5PrepRefIdeal.nD Cert.S5PrepRefIdeal.τ).loc Cert.S5PrepRefIdeal.main_arg2) = m ((c.tc : Thread Cert.S5PrepIdeal.nD Cert.S5PrepIdeal.τ).loc Cert.S5PrepIdeal.main_arg2)
      ∧ m' ((c.tc : Thread Cert.S5PrepRefIdeal.nD Cert.S5PrepRefIdeal.τ).loc Cert.S5PrepRefIdeal.main_arg3) = m ((c.tc : Thread Cert.S5PrepIdeal.nD Cert.S5PrepIdeal.τ).loc Cert.S5PrepIdeal.main_arg3)
      ∧ m' ((c.tc : Thread Cert.S5PrepRefIdeal.nD Cert.S5PrepRefIdeal.τ).loc Cert.S5PrepRefIdeal.main_arg4) = m ((c.tc : Thread Cert.S5PrepIdeal.nD Cert.S5PrepIdeal.τ).loc Cert.S5PrepIdeal.main_arg4)
      ∧ m' ((c.tc : Thread Cert.S5PrepRefIdeal.nD Cert.S5PrepRefIdeal.τ).loc Cert.S5PrepRefIdeal.main_arg5) = m ((c.tc : Thread Cert.S5PrepIdeal.nD Cert.S5PrepIdeal.τ).loc Cert.S5PrepIdeal.main_arg5)
      ∧ m' ((c.tc : Thread Cert.S5PrepRefIdeal.nD Cert.S5PrepRefIdeal.τ).loc Cert.S5PrepRefIdeal.main_arg6) = m ((c.tc : Thread Cert.S5PrepIdeal.nD Cert.S5PrepIdeal.τ).loc Cert.S5PrepIdeal.main_arg6)) →
    ∃ (v0 : (c : Dev Cert.S5PrepIdeal.nD) → Buf (Elt Ideal) ((c.tc : Thread Cert.S5PrepIdeal.nD Cert.S5PrepIdeal.τ).loc Cert.S5PrepIdeal.main_v12_0)) (v1 : (c : Dev Cert.S5PrepIdeal.nD) → Buf (Elt Ideal) ((c.tc : Thread Cert.S5PrepIdeal.nD Cert.S5PrepIdeal.τ).loc Cert.S5PrepIdeal.main_v12_1)) (v2 : (c : Dev Cert.S5PrepIdeal.nD) → Buf (Elt Ideal) ((c.tc : Thread Cert.S5PrepIdeal.nD Cert.S5PrepIdeal.τ).loc Cert.S5PrepIdeal.main_v12_2)) (v3 : (c : Dev Cert.S5PrepIdeal.nD) → Buf (Elt Ideal) ((c.tc : Thread Cert.S5PrepIdeal.nD Cert.S5PrepIdeal.τ).loc Cert.S5PrepIdeal.main_v12_3)),
      θ_run (Cert.S5PrepIdeal.defs (F := Ideal)) (onTc (τ := Cert.S5PrepIdeal.τ) (Cert.S5PrepIdeal.main (F := Ideal))) ⟨m, fun _ => 0, g⟩ (fun r => ∀ c : Dev Cert.S5PrepIdeal.nD,
          r.2.mem ((c.tc : Thread Cert.S5PrepIdeal.nD Cert.S5PrepIdeal.τ).loc Cert.S5PrepIdeal.main_v12_0) = v0 c
          ∧ r.2.mem ((c.tc : Thread Cert.S5PrepIdeal.nD Cert.S5PrepIdeal.τ).loc Cert.S5PrepIdeal.main_v12_1) = v1 c
          ∧ r.2.mem ((c.tc : Thread Cert.S5PrepIdeal.nD Cert.S5PrepIdeal.τ).loc Cert.S5PrepIdeal.main_v12_2) = v2 c
          ∧ r.2.mem ((c.tc : Thread Cert.S5PrepIdeal.nD Cert.S5PrepIdeal.τ).loc Cert.S5PrepIdeal.main_v12_3) = v3 c
          ∧ r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
          ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
          ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
          ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
          ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
          ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
          ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ θ_run (Cert.S5PrepRefIdeal.defs (F := Ideal)) (onTc (τ := Cert.S5PrepRefIdeal.τ) (Cert.S5PrepRefIdeal.main (F := Ideal))) ⟨m', fun _ => 0, g'⟩ (fun r => ∀ c : Dev Cert.S5PrepRefIdeal.nD,
          r.2.mem ((c.tc : Thread Cert.S5PrepRefIdeal.nD Cert.S5PrepRefIdeal.τ).loc Cert.S5PrepRefIdeal.main_v77) = v0 c
          ∧ r.2.mem ((c.tc : Thread Cert.S5PrepRefIdeal.nD Cert.S5PrepRefIdeal.τ).loc Cert.S5PrepRefIdeal.main_v78) = v1 c
          ∧ r.2.mem ((c.tc : Thread Cert.S5PrepRefIdeal.nD Cert.S5PrepRefIdeal.τ).loc Cert.S5PrepRefIdeal.main_v58) = v2 c
          ∧ r.2.mem ((c.tc : Thread Cert.S5PrepRefIdeal.nD Cert.S5PrepRefIdeal.τ).loc Cert.S5PrepRefIdeal.main_v76) = v3 c
          ∧ r.2.mem ((c.tc : Thread Cert.S5PrepRefIdeal.nD Cert.S5PrepRefIdeal.τ).loc Cert.S5PrepRefIdeal.main_arg0) = m' ((c.tc : Thread Cert.S5PrepRefIdeal.nD Cert.S5PrepRefIdeal.τ).loc Cert.S5PrepRefIdeal.main_arg0)
          ∧ r.2.mem ((c.tc : Thread Cert.S5PrepRefIdeal.nD Cert.S5PrepRefIdeal.τ).loc Cert.S5PrepRefIdeal.main_arg1) = m' ((c.tc : Thread Cert.S5PrepRefIdeal.nD Cert.S5PrepRefIdeal.τ).loc Cert.S5PrepRefIdeal.main_arg1)
          ∧ r.2.mem ((c.tc : Thread Cert.S5PrepRefIdeal.nD Cert.S5PrepRefIdeal.τ).loc Cert.S5PrepRefIdeal.main_arg2) = m' ((c.tc : Thread Cert.S5PrepRefIdeal.nD Cert.S5PrepRefIdeal.τ).loc Cert.S5PrepRefIdeal.main_arg2)
          ∧ r.2.mem ((c.tc : Thread Cert.S5PrepRefIdeal.nD Cert.S5PrepRefIdeal.τ).loc Cert.S5PrepRefIdeal.main_arg3) = m' ((c.tc : Thread Cert.S5PrepRefIdeal.nD Cert.S5PrepRefIdeal.τ).loc Cert.S5PrepRefIdeal.main_arg3)
          ∧ r.2.mem ((c.tc : Thread Cert.S5PrepRefIdeal.nD Cert.S5PrepRefIdeal.τ).loc Cert.S5PrepRefIdeal.main_arg4) = m' ((c.tc : Thread Cert.S5PrepRefIdeal.nD Cert.S5PrepRefIdeal.τ).loc Cert.S5PrepRefIdeal.main_arg4)
          ∧ r.2.mem ((c.tc : Thread Cert.S5PrepRefIdeal.nD Cert.S5PrepRefIdeal.τ).loc Cert.S5PrepRefIdeal.main_arg5) = m' ((c.tc : Thread Cert.S5PrepRefIdeal.nD Cert.S5PrepRefIdeal.τ).loc Cert.S5PrepRefIdeal.main_arg5)
          ∧ r.2.mem ((c.tc : Thread Cert.S5PrepRefIdeal.nD Cert.S5PrepRefIdeal.τ).loc Cert.S5PrepRefIdeal.main_arg6) = m' ((c.tc : Thread Cert.S5PrepRefIdeal.nD Cert.S5PrepRefIdeal.τ).loc Cert.S5PrepRefIdeal.main_arg6))

def preserves_S5PrepBwd_S5PrepBwdIdeal : Prop :=
  True

def algebraic_S5PrepBwdIdeal_S5PrepBwdRefIdeal [hS5PrepBwdIdeal : Cert.S5PrepBwdIdeal.Facts] [hS5PrepBwdRefIdeal : Cert.S5PrepBwdRefIdeal.Facts] : Prop :=
  ∀ (m : (ℓ : Loc Cert.S5PrepBwdIdeal.nD Cert.S5PrepBwdIdeal.τ Cert.S5PrepBwdIdeal.sig) → Buf (Elt Ideal) ℓ) (g : Dev Cert.S5PrepBwdIdeal.nD → PrngReg)
    (m' : (ℓ : Loc Cert.S5PrepBwdRefIdeal.nD Cert.S5PrepBwdRefIdeal.τ Cert.S5PrepBwdRefIdeal.sig) → Buf (Elt Ideal) ℓ) (g' : Dev Cert.S5PrepBwdRefIdeal.nD → PrngReg), Pre_S5PrepBwdIdeal m →
    (∀ c : Dev Cert.S5PrepBwdIdeal.nD,
      m' ((c.tc : Thread Cert.S5PrepBwdRefIdeal.nD Cert.S5PrepBwdRefIdeal.τ).loc Cert.S5PrepBwdRefIdeal.main_arg0) = m ((c.tc : Thread Cert.S5PrepBwdIdeal.nD Cert.S5PrepBwdIdeal.τ).loc Cert.S5PrepBwdIdeal.main_arg0)
      ∧ m' ((c.tc : Thread Cert.S5PrepBwdRefIdeal.nD Cert.S5PrepBwdRefIdeal.τ).loc Cert.S5PrepBwdRefIdeal.main_arg1) = m ((c.tc : Thread Cert.S5PrepBwdIdeal.nD Cert.S5PrepBwdIdeal.τ).loc Cert.S5PrepBwdIdeal.main_arg1)
      ∧ m' ((c.tc : Thread Cert.S5PrepBwdRefIdeal.nD Cert.S5PrepBwdRefIdeal.τ).loc Cert.S5PrepBwdRefIdeal.main_arg2) = m ((c.tc : Thread Cert.S5PrepBwdIdeal.nD Cert.S5PrepBwdIdeal.τ).loc Cert.S5PrepBwdIdeal.main_arg2)
      ∧ m' ((c.tc : Thread Cert.S5PrepBwdRefIdeal.nD Cert.S5PrepBwdRefIdeal.τ).loc Cert.S5PrepBwdRefIdeal.main_arg3) = m ((c.tc : Thread Cert.S5PrepBwdIdeal.nD Cert.S5PrepBwdIdeal.τ).loc Cert.S5PrepBwdIdeal.main_arg3)
      ∧ m' ((c.tc : Thread Cert.S5PrepBwdRefIdeal.nD Cert.S5PrepBwdRefIdeal.τ).loc Cert.S5PrepBwdRefIdeal.main_arg4) = m ((c.tc : Thread Cert.S5PrepBwdIdeal.nD Cert.S5PrepBwdIdeal.τ).loc Cert.S5PrepBwdIdeal.main_arg4)
      ∧ m' ((c.tc : Thread Cert.S5PrepBwdRefIdeal.nD Cert.S5PrepBwdRefIdeal.τ).loc Cert.S5PrepBwdRefIdeal.main_arg5) = m ((c.tc : Thread Cert.S5PrepBwdIdeal.nD Cert.S5PrepBwdIdeal.τ).loc Cert.S5PrepBwdIdeal.main_arg5)
      ∧ m' ((c.tc : Thread Cert.S5PrepBwdRefIdeal.nD Cert.S5PrepBwdRefIdeal.τ).loc Cert.S5PrepBwdRefIdeal.main_arg6) = m ((c.tc : Thread Cert.S5PrepBwdIdeal.nD Cert.S5PrepBwdIdeal.τ).loc Cert.S5PrepBwdIdeal.main_arg6)
      ∧ m' ((c.tc : Thread Cert.S5PrepBwdRefIdeal.nD Cert.S5PrepBwdRefIdeal.τ).loc Cert.S5PrepBwdRefIdeal.main_arg7) = m ((c.tc : Thread Cert.S5PrepBwdIdeal.nD Cert.S5PrepBwdIdeal.τ).loc Cert.S5PrepBwdIdeal.main_arg7)
      ∧ m' ((c.tc : Thread Cert.S5PrepBwdRefIdeal.nD Cert.S5PrepBwdRefIdeal.τ).loc Cert.S5PrepBwdRefIdeal.main_arg8) = m ((c.tc : Thread Cert.S5PrepBwdIdeal.nD Cert.S5PrepBwdIdeal.τ).loc Cert.S5PrepBwdIdeal.main_arg8)
      ∧ m' ((c.tc : Thread Cert.S5PrepBwdRefIdeal.nD Cert.S5PrepBwdRefIdeal.τ).loc Cert.S5PrepBwdRefIdeal.main_arg9) = m ((c.tc : Thread Cert.S5PrepBwdIdeal.nD Cert.S5PrepBwdIdeal.τ).loc Cert.S5PrepBwdIdeal.main_arg9)
      ∧ m' ((c.tc : Thread Cert.S5PrepBwdRefIdeal.nD Cert.S5PrepBwdRefIdeal.τ).loc Cert.S5PrepBwdRefIdeal.main_arg10) = m ((c.tc : Thread Cert.S5PrepBwdIdeal.nD Cert.S5PrepBwdIdeal.τ).loc Cert.S5PrepBwdIdeal.main_arg10)) →
    ∃ (v0 : (c : Dev Cert.S5PrepBwdIdeal.nD) → Buf (Elt Ideal) ((c.tc : Thread Cert.S5PrepBwdIdeal.nD Cert.S5PrepBwdIdeal.τ).loc Cert.S5PrepBwdIdeal.main_v12_0)) (v1 : (c : Dev Cert.S5PrepBwdIdeal.nD) → Buf (Elt Ideal) ((c.tc : Thread Cert.S5PrepBwdIdeal.nD Cert.S5PrepBwdIdeal.τ).loc Cert.S5PrepBwdIdeal.main_v12_1)) (v2 : (c : Dev Cert.S5PrepBwdIdeal.nD) → Buf (Elt Ideal) ((c.tc : Thread Cert.S5PrepBwdIdeal.nD Cert.S5PrepBwdIdeal.τ).loc Cert.S5PrepBwdIdeal.main_v12_2)) (v3 : (c : Dev Cert.S5PrepBwdIdeal.nD) → Buf (Elt Ideal) ((c.tc : Thread Cert.S5PrepBwdIdeal.nD Cert.S5PrepBwdIdeal.τ).loc Cert.S5PrepBwdIdeal.main_v12_3)) (v4 : (c : Dev Cert.S5PrepBwdIdeal.nD) → Buf (Elt Ideal) ((c.tc : Thread Cert.S5PrepBwdIdeal.nD Cert.S5PrepBwdIdeal.τ).loc Cert.S5PrepBwdIdeal.main_v12_4)) (v5 : (c : Dev Cert.S5PrepBwdIdeal.nD) → Buf (Elt Ideal) ((c.tc : Thread Cert.S5PrepBwdIdeal.nD Cert.S5PrepBwdIdeal.τ).loc Cert.S5PrepBwdIdeal.main_v12_5)) (v6 : (c : Dev Cert.S5PrepBwdIdeal.nD) → Buf (Elt Ideal) ((c.tc : Thread Cert.S5PrepBwdIdeal.nD Cert.S5PrepBwdIdeal.τ).loc Cert.S5PrepBwdIdeal.main_v12_6)),
      θ_run (Cert.S5PrepBwdIdeal.defs (F := Ideal)) (onTc (τ := Cert.S5PrepBwdIdeal.τ) (Cert.S5PrepBwdIdeal.main (F := Ideal))) ⟨m, fun _ => 0, g⟩ (fun r => ∀ c : Dev Cert.S5PrepBwdIdeal.nD,
          r.2.mem ((c.tc : Thread Cert.S5PrepBwdIdeal.nD Cert.S5PrepBwdIdeal.τ).loc Cert.S5PrepBwdIdeal.main_v12_0) = v0 c
          ∧ r.2.mem ((c.tc : Thread Cert.S5PrepBwdIdeal.nD Cert.S5PrepBwdIdeal.τ).loc Cert.S5PrepBwdIdeal.main_v12_1) = v1 c
          ∧ r.2.mem ((c.tc : Thread Cert.S5PrepBwdIdeal.nD Cert.S5PrepBwdIdeal.τ).loc Cert.S5PrepBwdIdeal.main_v12_2) = v2 c
          ∧ r.2.mem ((c.tc : Thread Cert.S5PrepBwdIdeal.nD Cert.S5PrepBwdIdeal.τ).loc Cert.S5PrepBwdIdeal.main_v12_3) = v3 c
          ∧ r.2.mem ((c.tc : Thread Cert.S5PrepBwdIdeal.nD Cert.S5PrepBwdIdeal.τ).loc Cert.S5PrepBwdIdeal.main_v12_4) = v4 c
          ∧ r.2.mem ((c.tc : Thread Cert.S5PrepBwdIdeal.nD Cert.S5PrepBwdIdeal.τ).loc Cert.S5PrepBwdIdeal.main_v12_5) = v5 c
          ∧ r.2.mem ((c.tc : Thread Cert.S5PrepBwdIdeal.nD Cert.S5PrepBwdIdeal.τ).loc Cert.S5PrepBwdIdeal.main_v12_6) = v6 c
          ∧ r.2.mem ((c.tc : Thread Cert.S5PrepBwdIdeal.nD Cert.S5PrepBwdIdeal.τ).loc Cert.S5PrepBwdIdeal.main_arg0) = m ((c.tc : Thread Cert.S5PrepBwdIdeal.nD Cert.S5PrepBwdIdeal.τ).loc Cert.S5PrepBwdIdeal.main_arg0)
          ∧ r.2.mem ((c.tc : Thread Cert.S5PrepBwdIdeal.nD Cert.S5PrepBwdIdeal.τ).loc Cert.S5PrepBwdIdeal.main_arg1) = m ((c.tc : Thread Cert.S5PrepBwdIdeal.nD Cert.S5PrepBwdIdeal.τ).loc Cert.S5PrepBwdIdeal.main_arg1)
          ∧ r.2.mem ((c.tc : Thread Cert.S5PrepBwdIdeal.nD Cert.S5PrepBwdIdeal.τ).loc Cert.S5PrepBwdIdeal.main_arg2) = m ((c.tc : Thread Cert.S5PrepBwdIdeal.nD Cert.S5PrepBwdIdeal.τ).loc Cert.S5PrepBwdIdeal.main_arg2)
          ∧ r.2.mem ((c.tc : Thread Cert.S5PrepBwdIdeal.nD Cert.S5PrepBwdIdeal.τ).loc Cert.S5PrepBwdIdeal.main_arg3) = m ((c.tc : Thread Cert.S5PrepBwdIdeal.nD Cert.S5PrepBwdIdeal.τ).loc Cert.S5PrepBwdIdeal.main_arg3)
          ∧ r.2.mem ((c.tc : Thread Cert.S5PrepBwdIdeal.nD Cert.S5PrepBwdIdeal.τ).loc Cert.S5PrepBwdIdeal.main_arg4) = m ((c.tc : Thread Cert.S5PrepBwdIdeal.nD Cert.S5PrepBwdIdeal.τ).loc Cert.S5PrepBwdIdeal.main_arg4)
          ∧ r.2.mem ((c.tc : Thread Cert.S5PrepBwdIdeal.nD Cert.S5PrepBwdIdeal.τ).loc Cert.S5PrepBwdIdeal.main_arg5) = m ((c.tc : Thread Cert.S5PrepBwdIdeal.nD Cert.S5PrepBwdIdeal.τ).loc Cert.S5PrepBwdIdeal.main_arg5)
          ∧ r.2.mem ((c.tc : Thread Cert.S5PrepBwdIdeal.nD Cert.S5PrepBwdIdeal.τ).loc Cert.S5PrepBwdIdeal.main_arg6) = m ((c.tc : Thread Cert.S5PrepBwdIdeal.nD Cert.S5PrepBwdIdeal.τ).loc Cert.S5PrepBwdIdeal.main_arg6)
          ∧ r.2.mem ((c.tc : Thread Cert.S5PrepBwdIdeal.nD Cert.S5PrepBwdIdeal.τ).loc Cert.S5PrepBwdIdeal.main_arg7) = m ((c.tc : Thread Cert.S5PrepBwdIdeal.nD Cert.S5PrepBwdIdeal.τ).loc Cert.S5PrepBwdIdeal.main_arg7)
          ∧ r.2.mem ((c.tc : Thread Cert.S5PrepBwdIdeal.nD Cert.S5PrepBwdIdeal.τ).loc Cert.S5PrepBwdIdeal.main_arg8) = m ((c.tc : Thread Cert.S5PrepBwdIdeal.nD Cert.S5PrepBwdIdeal.τ).loc Cert.S5PrepBwdIdeal.main_arg8)
          ∧ r.2.mem ((c.tc : Thread Cert.S5PrepBwdIdeal.nD Cert.S5PrepBwdIdeal.τ).loc Cert.S5PrepBwdIdeal.main_arg9) = m ((c.tc : Thread Cert.S5PrepBwdIdeal.nD Cert.S5PrepBwdIdeal.τ).loc Cert.S5PrepBwdIdeal.main_arg9)
          ∧ r.2.mem ((c.tc : Thread Cert.S5PrepBwdIdeal.nD Cert.S5PrepBwdIdeal.τ).loc Cert.S5PrepBwdIdeal.main_arg10) = m ((c.tc : Thread Cert.S5PrepBwdIdeal.nD Cert.S5PrepBwdIdeal.τ).loc Cert.S5PrepBwdIdeal.main_arg10))
      ∧ θ_run (Cert.S5PrepBwdRefIdeal.defs (F := Ideal)) (onTc (τ := Cert.S5PrepBwdRefIdeal.τ) (Cert.S5PrepBwdRefIdeal.main (F := Ideal))) ⟨m', fun _ => 0, g'⟩ (fun r => ∀ c : Dev Cert.S5PrepBwdRefIdeal.nD,
          r.2.mem ((c.tc : Thread Cert.S5PrepBwdRefIdeal.nD Cert.S5PrepBwdRefIdeal.τ).loc Cert.S5PrepBwdRefIdeal.main_v209) = v0 c
          ∧ r.2.mem ((c.tc : Thread Cert.S5PrepBwdRefIdeal.nD Cert.S5PrepBwdRefIdeal.τ).loc Cert.S5PrepBwdRefIdeal.main_v210) = v1 c
          ∧ r.2.mem ((c.tc : Thread Cert.S5PrepBwdRefIdeal.nD Cert.S5PrepBwdRefIdeal.τ).loc Cert.S5PrepBwdRefIdeal.main_v212) = v2 c
          ∧ r.2.mem ((c.tc : Thread Cert.S5PrepBwdRefIdeal.nD Cert.S5PrepBwdRefIdeal.τ).loc Cert.S5PrepBwdRefIdeal.main_v214) = v3 c
          ∧ r.2.mem ((c.tc : Thread Cert.S5PrepBwdRefIdeal.nD Cert.S5PrepBwdRefIdeal.τ).loc Cert.S5PrepBwdRefIdeal.main_v216) = v4 c
          ∧ r.2.mem ((c.tc : Thread Cert.S5PrepBwdRefIdeal.nD Cert.S5PrepBwdRefIdeal.τ).loc Cert.S5PrepBwdRefIdeal.main_v218) = v5 c
          ∧ r.2.mem ((c.tc : Thread Cert.S5PrepBwdRefIdeal.nD Cert.S5PrepBwdRefIdeal.τ).loc Cert.S5PrepBwdRefIdeal.main_v220) = v6 c
          ∧ r.2.mem ((c.tc : Thread Cert.S5PrepBwdRefIdeal.nD Cert.S5PrepBwdRefIdeal.τ).loc Cert.S5PrepBwdRefIdeal.main_arg0) = m' ((c.tc : Thread Cert.S5PrepBwdRefIdeal.nD Cert.S5PrepBwdRefIdeal.τ).loc Cert.S5PrepBwdRefIdeal.main_arg0)
          ∧ r.2.mem ((c.tc : Thread Cert.S5PrepBwdRefIdeal.nD Cert.S5PrepBwdRefIdeal.τ).loc Cert.S5PrepBwdRefIdeal.main_arg1) = m' ((c.tc : Thread Cert.S5PrepBwdRefIdeal.nD Cert.S5PrepBwdRefIdeal.τ).loc Cert.S5PrepBwdRefIdeal.main_arg1)
          ∧ r.2.mem ((c.tc : Thread Cert.S5PrepBwdRefIdeal.nD Cert.S5PrepBwdRefIdeal.τ).loc Cert.S5PrepBwdRefIdeal.main_arg2) = m' ((c.tc : Thread Cert.S5PrepBwdRefIdeal.nD Cert.S5PrepBwdRefIdeal.τ).loc Cert.S5PrepBwdRefIdeal.main_arg2)
          ∧ r.2.mem ((c.tc : Thread Cert.S5PrepBwdRefIdeal.nD Cert.S5PrepBwdRefIdeal.τ).loc Cert.S5PrepBwdRefIdeal.main_arg3) = m' ((c.tc : Thread Cert.S5PrepBwdRefIdeal.nD Cert.S5PrepBwdRefIdeal.τ).loc Cert.S5PrepBwdRefIdeal.main_arg3)
          ∧ r.2.mem ((c.tc : Thread Cert.S5PrepBwdRefIdeal.nD Cert.S5PrepBwdRefIdeal.τ).loc Cert.S5PrepBwdRefIdeal.main_arg4) = m' ((c.tc : Thread Cert.S5PrepBwdRefIdeal.nD Cert.S5PrepBwdRefIdeal.τ).loc Cert.S5PrepBwdRefIdeal.main_arg4)
          ∧ r.2.mem ((c.tc : Thread Cert.S5PrepBwdRefIdeal.nD Cert.S5PrepBwdRefIdeal.τ).loc Cert.S5PrepBwdRefIdeal.main_arg5) = m' ((c.tc : Thread Cert.S5PrepBwdRefIdeal.nD Cert.S5PrepBwdRefIdeal.τ).loc Cert.S5PrepBwdRefIdeal.main_arg5)
          ∧ r.2.mem ((c.tc : Thread Cert.S5PrepBwdRefIdeal.nD Cert.S5PrepBwdRefIdeal.τ).loc Cert.S5PrepBwdRefIdeal.main_arg6) = m' ((c.tc : Thread Cert.S5PrepBwdRefIdeal.nD Cert.S5PrepBwdRefIdeal.τ).loc Cert.S5PrepBwdRefIdeal.main_arg6)
          ∧ r.2.mem ((c.tc : Thread Cert.S5PrepBwdRefIdeal.nD Cert.S5PrepBwdRefIdeal.τ).loc Cert.S5PrepBwdRefIdeal.main_arg7) = m' ((c.tc : Thread Cert.S5PrepBwdRefIdeal.nD Cert.S5PrepBwdRefIdeal.τ).loc Cert.S5PrepBwdRefIdeal.main_arg7)
          ∧ r.2.mem ((c.tc : Thread Cert.S5PrepBwdRefIdeal.nD Cert.S5PrepBwdRefIdeal.τ).loc Cert.S5PrepBwdRefIdeal.main_arg8) = m' ((c.tc : Thread Cert.S5PrepBwdRefIdeal.nD Cert.S5PrepBwdRefIdeal.τ).loc Cert.S5PrepBwdRefIdeal.main_arg8)
          ∧ r.2.mem ((c.tc : Thread Cert.S5PrepBwdRefIdeal.nD Cert.S5PrepBwdRefIdeal.τ).loc Cert.S5PrepBwdRefIdeal.main_arg9) = m' ((c.tc : Thread Cert.S5PrepBwdRefIdeal.nD Cert.S5PrepBwdRefIdeal.τ).loc Cert.S5PrepBwdRefIdeal.main_arg9)
          ∧ r.2.mem ((c.tc : Thread Cert.S5PrepBwdRefIdeal.nD Cert.S5PrepBwdRefIdeal.τ).loc Cert.S5PrepBwdRefIdeal.main_arg10) = m' ((c.tc : Thread Cert.S5PrepBwdRefIdeal.nD Cert.S5PrepBwdRefIdeal.τ).loc Cert.S5PrepBwdRefIdeal.main_arg10))

def Claim : Prop :=
  ∃ (hShortConv : Cert.ShortConv.Facts) (hShortConvIdeal : Cert.ShortConvIdeal.Facts) (hShortConvRefIdeal : Cert.ShortConvRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hConformer : Cert.Conformer.Facts) (hConformerIdeal : Cert.ConformerIdeal.Facts) (hConformerRefIdeal : Cert.ConformerRefIdeal.Facts) (hConformerFwd : Cert.ConformerFwd.Facts) (hConformerFwdIdeal : Cert.ConformerFwdIdeal.Facts) (hConformerFwdRefIdeal : Cert.ConformerFwdRefIdeal.Facts) (hShortConvFwd : Cert.ShortConvFwd.Facts) (hShortConvFwdIdeal : Cert.ShortConvFwdIdeal.Facts) (hShortConvFwdRefIdeal : Cert.ShortConvFwdRefIdeal.Facts) (hLossHead : Cert.LossHead.Facts) (hLossHeadIdeal : Cert.LossHeadIdeal.Facts) (hLossHeadRefIdeal : Cert.LossHeadRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hAdamRepl : Cert.AdamRepl.Facts) (hAdamReplIdeal : Cert.AdamReplIdeal.Facts) (hAdamReplRefIdeal : Cert.AdamReplRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumSmall : Cert.SumSmall.Facts) (hSumSmallIdeal : Cert.SumSmallIdeal.Facts) (hSumSmallRefIdeal : Cert.SumSmallRefIdeal.Facts) (hSumRepl : Cert.SumRepl.Facts) (hSumReplIdeal : Cert.SumReplIdeal.Facts) (hSumReplRefIdeal : Cert.SumReplRefIdeal.Facts) (hS5Prep : Cert.S5Prep.Facts) (hS5PrepIdeal : Cert.S5PrepIdeal.Facts) (hS5PrepRefIdeal : Cert.S5PrepRefIdeal.Facts) (hS5PrepBwd : Cert.S5PrepBwd.Facts) (hS5PrepBwdIdeal : Cert.S5PrepBwdIdeal.Facts) (hS5PrepBwdRefIdeal : Cert.S5PrepBwdRefIdeal.Facts),
    quiescent_ShortConv (hShortConv := hShortConv)
    ∧ quiescent_ShortConvIdeal (hShortConvIdeal := hShortConvIdeal)
    ∧ quiescent_ShortConvRefIdeal (hShortConvRefIdeal := hShortConvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Conformer (hConformer := hConformer)
    ∧ quiescent_ConformerIdeal (hConformerIdeal := hConformerIdeal)
    ∧ quiescent_ConformerRefIdeal (hConformerRefIdeal := hConformerRefIdeal)
    ∧ quiescent_ConformerFwd (hConformerFwd := hConformerFwd)
    ∧ quiescent_ConformerFwdIdeal (hConformerFwdIdeal := hConformerFwdIdeal)
    ∧ quiescent_ConformerFwdRefIdeal (hConformerFwdRefIdeal := hConformerFwdRefIdeal)
    ∧ quiescent_ShortConvFwd (hShortConvFwd := hShortConvFwd)
    ∧ quiescent_ShortConvFwdIdeal (hShortConvFwdIdeal := hShortConvFwdIdeal)
    ∧ quiescent_ShortConvFwdRefIdeal (hShortConvFwdRefIdeal := hShortConvFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamRepl (hAdamRepl := hAdamRepl)
    ∧ quiescent_AdamReplIdeal (hAdamReplIdeal := hAdamReplIdeal)
    ∧ quiescent_AdamReplRefIdeal (hAdamReplRefIdeal := hAdamReplRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumRepl (hSumRepl := hSumRepl)
    ∧ quiescent_SumReplIdeal (hSumReplIdeal := hSumReplIdeal)
    ∧ quiescent_SumReplRefIdeal (hSumReplRefIdeal := hSumReplRefIdeal)
    ∧ quiescent_S5Prep (hS5Prep := hS5Prep)
    ∧ quiescent_S5PrepIdeal (hS5PrepIdeal := hS5PrepIdeal)
    ∧ quiescent_S5PrepRefIdeal (hS5PrepRefIdeal := hS5PrepRefIdeal)
    ∧ quiescent_S5PrepBwd (hS5PrepBwd := hS5PrepBwd)
    ∧ quiescent_S5PrepBwdIdeal (hS5PrepBwdIdeal := hS5PrepBwdIdeal)
    ∧ quiescent_S5PrepBwdRefIdeal (hS5PrepBwdRefIdeal := hS5PrepBwdRefIdeal)
    ∧ preserves_ShortConv_ShortConvIdeal
    ∧ algebraic_ShortConvIdeal_ShortConvRefIdeal (hShortConvIdeal := hShortConvIdeal) (hShortConvRefIdeal := hShortConvRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Conformer_ConformerIdeal
    ∧ algebraic_ConformerIdeal_ConformerRefIdeal (hConformerIdeal := hConformerIdeal) (hConformerRefIdeal := hConformerRefIdeal)
    ∧ preserves_ConformerFwd_ConformerFwdIdeal
    ∧ algebraic_ConformerFwdIdeal_ConformerFwdRefIdeal (hConformerFwdIdeal := hConformerFwdIdeal) (hConformerFwdRefIdeal := hConformerFwdRefIdeal)
    ∧ preserves_ShortConvFwd_ShortConvFwdIdeal
    ∧ algebraic_ShortConvFwdIdeal_ShortConvFwdRefIdeal (hShortConvFwdIdeal := hShortConvFwdIdeal) (hShortConvFwdRefIdeal := hShortConvFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamRepl_AdamReplIdeal
    ∧ algebraic_AdamReplIdeal_AdamReplRefIdeal (hAdamReplIdeal := hAdamReplIdeal) (hAdamReplRefIdeal := hAdamReplRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumRepl_SumReplIdeal
    ∧ algebraic_SumReplIdeal_SumReplRefIdeal (hSumReplIdeal := hSumReplIdeal) (hSumReplRefIdeal := hSumReplRefIdeal)
    ∧ preserves_S5Prep_S5PrepIdeal
    ∧ algebraic_S5PrepIdeal_S5PrepRefIdeal (hS5PrepIdeal := hS5PrepIdeal) (hS5PrepRefIdeal := hS5PrepRefIdeal)
    ∧ preserves_S5PrepBwd_S5PrepBwdIdeal
    ∧ algebraic_S5PrepBwdIdeal_S5PrepBwdRefIdeal (hS5PrepBwdIdeal := hS5PrepBwdIdeal) (hS5PrepBwdRefIdeal := hS5PrepBwdRefIdeal)
-- ==== ShortConv.lean ====
abbrev S4096x3456 : Shape := ⟨2, ![4096, 3456]⟩
abbrev S4096x1024 : Shape := ⟨2, ![4096, 1024]⟩
abbrev S3x256 : Shape := ⟨2, ![3, 256]⟩
abbrev S_ : Shape := ⟨0, ![]⟩
abbrev S8x256 : Shape := ⟨2, ![8, 256]⟩
abbrev S256x256 : Shape := ⟨2, ![256, 256]⟩
abbrev S256x512 : Shape := ⟨2, ![256, 512]⟩
abbrev S8x512 : Shape := ⟨2, ![8, 512]⟩
abbrev S256x1024 : Shape := ⟨2, ![256, 1024]⟩
abbrev S264x256 : Shape := ⟨2, ![264, 256]⟩
abbrev S1x256 : Shape := ⟨2, ![1, 256]⟩
abbrev S256 : Shape := ⟨1, ![256]⟩
abbrev S248x256 : Shape := ⟨2, ![248, 256]⟩

abbrev nBuf : Space → Nat
  | .hbm => 8
  | .vmem => 15
  | .smem => 0
  | _ => 0

abbrev bufTy : (tb : Table) → Fin (tcTables nBuf tb) → BufTy
  | .hbm, ⟨0, _⟩ => ⟨S4096x3456, .f32⟩
  | .hbm, ⟨1, _⟩ => ⟨S4096x1024, .f32⟩
  | .hbm, ⟨2, _⟩ => ⟨S3x256, .f32⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S4096x1024, .f32⟩
  | .hbm, ⟨7, _⟩ => ⟨S8x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S8x512, .f32⟩
  | .local _ .vmem, ⟨7, _⟩ => ⟨S8x512, .f32⟩
  | .local _ .vmem, ⟨8, _⟩ => ⟨S256x256, .f32⟩
  | .local _ .vmem, ⟨9, _⟩ => ⟨S256x256, .f32⟩
  | .local _ .vmem, ⟨10, _⟩ => ⟨S8x256, .f32⟩
  | .local _ .vmem, ⟨11, _⟩ => ⟨S256x1024, .f32⟩
  | .local _ .vmem, ⟨12, _⟩ => ⟨S256x1024, .f32⟩
  | .local _ .vmem, ⟨13, _⟩ => ⟨S8x256, .f32⟩
  | .local _ .vmem, ⟨14, _⟩ => ⟨S8x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ShortConvRefIdeal.lean ====
abbrev S4096x3456 : Shape := ⟨2, ![4096, 3456]⟩
abbrev S4096x1024 : Shape := ⟨2, ![4096, 1024]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩
abbrev S8x256 : Shape := ⟨2, ![8, 256]⟩

abbrev nBuf : Space → Nat
  | .hbm => 104
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S4096x1024, .f32⟩
  | .hbm, ⟨2, _⟩ => ⟨S3x256, .f32⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S2x256, .f32⟩
  | .hbm, ⟨11, _⟩ => ⟨S4098x256, .f32⟩
  | .hbm, ⟨12, _⟩ => ⟨S_, .f32⟩
  | .hbm, ⟨13, _⟩ => ⟨S2x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S4096x256, .f32⟩
  | .hbm, ⟨57, _⟩ => ⟨S4096x256, .f32⟩
  | .hbm, ⟨58, _⟩ => ⟨S_, .f32⟩
  | .hbm, ⟨59, _⟩ => ⟨S3x256, .f32⟩
  | .hbm, ⟨60, _⟩ => ⟨S_, .f32⟩
  | .hbm, ⟨61, _⟩ => ⟨S4098x256, .f32⟩
  | .hbm, ⟨62, _⟩ => ⟨S4096x256, .f32⟩
  | .hbm, ⟨63, _⟩ => ⟨S_, .f32⟩
  | .hbm, ⟨64, _⟩ => ⟨S256, .f32⟩
  | .hbm, ⟨65, _⟩ => ⟨S1x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S3x256, .f32⟩
  | .hbm, ⟨70, _⟩ => ⟨S3x256, .f32⟩
  | .hbm, ⟨71, _⟩ => ⟨S_, .f32⟩
  | .hbm, ⟨72, _⟩ => ⟨S4098x256, .f32⟩
  | .hbm, ⟨73, _⟩ => ⟨S4098x256, .f32⟩
  | .hbm, ⟨74, _⟩ => ⟨S4096x256, .f32⟩
  | .hbm, ⟨75, _⟩ => ⟨S_, .f32⟩
  | .hbm, ⟨76, _⟩ => ⟨S256, .f32⟩
  | .hbm, ⟨77, _⟩ => ⟨S1x256, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S3x256, .f32⟩
  | .hbm, ⟨82, _⟩ => ⟨S3x256, .f32⟩
  | .hbm, ⟨83, _⟩ => ⟨S_, .f32⟩
  | .hbm, ⟨84, _⟩ => ⟨S4098x256, .f32⟩
  | .hbm, ⟨85, _⟩ => ⟨S4098x256, .f32⟩
  | .hbm, ⟨86, _⟩ => ⟨S2x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S_, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .i32⟩
  | .hbm, ⟨102, _⟩ => ⟨S_, .f32⟩
  | .hbm, ⟨103, _⟩ => ⟨S8x256, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v24_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v24_1 : Ref sig .tc := ⟨.hbm, 40, rfl⟩
abbrev main_v24_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_c : Ref sig .tc := ⟨.hbm, 101, rfl⟩
abbrev main_call2_v0 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== OutProj.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S256x256 : Shape := ⟨2, ![256, 256]⟩
abbrev S512x256 : Shape := ⟨2, ![512, 256]⟩
abbrev S512x512 : Shape := ⟨2, ![512, 512]⟩
abbrev S1024x512 : Shape := ⟨2, ![1024, 512]⟩
abbrev S256x512 : Shape := ⟨2, ![256, 512]⟩

abbrev nBuf : Space → Nat
  | .hbm => 16
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S256x1024, .bf16⟩
  | .hbm, ⟨11, _⟩ => ⟨S256x1024, .bf16⟩
  | .hbm, ⟨12, _⟩ => ⟨S1024x1024, .bf16⟩
  | .hbm, ⟨13, _⟩ => ⟨S4096x1024, .f32⟩
  | .hbm, ⟨14, _⟩ => ⟨S4096x1024, .f32⟩
  | .hbm, ⟨15, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x512, .f32⟩
  | .local _ .vmem, ⟨27, _⟩ => ⟨S512x512, .f32⟩
  | .local _ .vmem, ⟨28, _⟩ => ⟨S1024x512, .f32⟩
  | .local _ .vmem, ⟨29, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== OutProjRefIdeal.lean ====
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== InProj.lean ====
abbrev S4096x1024 : Shape := ⟨2, ![4096, 1024]⟩
abbrev S1024 : Shape := ⟨1, ![1024]⟩
abbrev S1024x3336 : Shape := ⟨2, ![1024, 3336]⟩
abbrev S4096x768 : Shape := ⟨2, ![4096, 768]⟩
abbrev S4096x512 : Shape := ⟨2, ![4096, 512]⟩
abbrev S4096x1152 : Shape := ⟨2, ![4096, 1152]⟩
abbrev S1024x834 : Shape := ⟨2, ![1024, 834]⟩
abbrev S1024x570 : Shape := ⟨2, ![1024, 570]⟩
abbrev S1024x256 : Shape := ⟨2, ![1024, 256]⟩
abbrev S1024x8 : Shape := ⟨2, ![1024, 8]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S4096x3456 : Shape := ⟨2, ![4096, 3456]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩
abbrev S1024x768 : Shape := ⟨2, ![1024, 768]⟩
abbrev S1024x512 : Shape := ⟨2, ![1024, 512]⟩
abbrev S1024x1024 : Shape := ⟨2, ![1024, 1024]⟩
abbrev S1024x1152 : Shape := ⟨2, ![1024, 1152]⟩
abbrev S256x768 : Shape := ⟨2, ![256, 768]⟩
abbrev S256x512 : Shape := ⟨2, ![256, 512]⟩
abbrev S256x1152 : Shape := ⟨2, ![256, 1152]⟩

abbrev nBuf : Space → Nat
  | .hbm => 32
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x768, .f32⟩
  | .hbm, ⟨4, _⟩ => ⟨S4096x512, .f32⟩
  | .hbm, ⟨5, _⟩ => ⟨S4096x1024, .f32⟩
  | .hbm, ⟨6, _⟩ => ⟨S4096x1152, .f32⟩
  | .hbm, ⟨7, _⟩ => ⟨S4096x1024, .f32⟩
  | .hbm, ⟨8, _⟩ => ⟨S1024x3336, .bf16⟩
  | .hbm, ⟨9, _⟩ => ⟨S1024x834, .bf16⟩
  | .hbm, ⟨10, _⟩ => ⟨S1024x834, .bf16⟩
  | .hbm, ⟨11, _⟩ => ⟨S1024x834, .bf16⟩
  | .hbm, ⟨12, _⟩ => ⟨S1024x834, .bf16⟩
  | .hbm, ⟨13, _⟩ => ⟨S1024x570, .bf16⟩
  | .hbm, ⟨14, _⟩ => ⟨S1024x256, .bf16⟩
  | .hbm, ⟨15, _⟩ => ⟨S1024x8, .bf16⟩
  | .hbm, ⟨16, _⟩ => ⟨S_, .bf16⟩
  | .hbm, ⟨17, _⟩ => ⟨S1024x120, .bf16⟩
  | .hbm, ⟨18, _⟩ => ⟨S1024x3456, .bf16⟩
  | .hbm, ⟨19, _⟩ => ⟨S1x1024, .f32⟩
  | .hbm, ⟨20, _⟩ => ⟨S4096x3456, .f32⟩
  | .hbm, ⟨21, _⟩ => ⟨S4096x1024, .bf16⟩
  | .hbm, ⟨22, _⟩ => ⟨S1024x768, .f32⟩
  | .hbm, ⟨23, _⟩ => ⟨S1024x512, .f32⟩
  | .hbm, ⟨24, _⟩ => ⟨S1024x1024, .f32⟩
  | .hbm, ⟨25, _⟩ => ⟨S1024x1152, .f32⟩
  | .hbm, ⟨26, _⟩ => ⟨S1024x768, .f32⟩
  | .hbm, ⟨27, _⟩ => ⟨S1024x8, .f32⟩
  | .hbm, ⟨28, _⟩ => ⟨S1024x256, .f32⟩
  | .hbm, ⟨29, _⟩ => ⟨S1024x3336, .f32⟩
  | .hbm, ⟨30, _⟩ => ⟨S4096x1024, .f32⟩
  | .hbm, ⟨31, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S256x3456, .f32⟩
  | .local _ .vmem, ⟨5, _⟩ => ⟨S256x3456, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x768, .f32⟩
  | .local _ .vmem, ⟨11, _⟩ => ⟨S256x768, .f32⟩
  | .local _ .vmem, ⟨12, _⟩ => ⟨S256x512, .f32⟩
  | .local _ .vmem, ⟨13, _⟩ => ⟨S256x512, .f32⟩
  | .local _ .vmem, ⟨14, _⟩ => ⟨S256x1024, .f32⟩
  | .local _ .vmem, ⟨15, _⟩ => ⟨S256x1024, .f32⟩
  | .local _ .vmem, ⟨16, _⟩ => ⟨S256x1152, .f32⟩
  | .local _ .vmem, ⟨17, _⟩ => ⟨S256x1152, .f32⟩
  | .local _ .vmem, ⟨18, _⟩ => ⟨S1024x768, .f32⟩
  | .local _ .vmem, ⟨19, _⟩ => ⟨S1024x512, .f32⟩
  | .local _ .vmem, ⟨20, _⟩ => ⟨S1024x1024, .f32⟩
  | .local _ .vmem, ⟨21, _⟩ => ⟨S1024x1152, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S256x768, .f32⟩
  | .local _ .vmem, ⟨26, _⟩ => ⟨S256x768, .f32⟩
  | .local _ .vmem, ⟨27, _⟩ => ⟨S256x512, .f32⟩
  | .local _ .vmem, ⟨28, _⟩ => ⟨S256x512, .f32⟩
  | .local _ .vmem, ⟨29, _⟩ => ⟨S256x1024, .f32⟩
  | .local _ .vmem, ⟨30, _⟩ => ⟨S256x1024, .f32⟩
  | .local _ .vmem, ⟨31, _⟩ => ⟨S256x1152, .f32⟩
  | .local _ .vmem, ⟨32, _⟩ => ⟨S256x1152, .f32⟩
  | .local _ .vmem, ⟨33, _⟩ => ⟨S1024x3456, .bf16⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1152 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1152 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1152 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1024x3456 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== InProjRefIdeal.lean ====
abbrev S4096x1024 : Shape := ⟨2, ![4096, 1024]⟩
abbrev S1024 : Shape := ⟨1, ![1024]⟩
abbrev S1024x3336 : Shape := ⟨2, ![1024, 3336]⟩
abbrev S4096x768 : Shape := ⟨2, ![4096, 768]⟩
abbrev S4096x512 : Shape := ⟨2, ![4096, 512]⟩
abbrev S4096x1152 : Shape := ⟨2, ![4096, 1152]⟩
abbrev S4096x8 : Shape := ⟨2, ![4096, 8]⟩
abbrev S4096x256 : Shape := ⟨2, ![4096, 256]⟩
abbrev S4096x3336 : Shape := ⟨2, ![4096, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3336x1024 : Shape := ⟨2, ![3336, 1024]⟩
abbrev S4096x3072 : Shape := ⟨2, ![4096, 3072]⟩
abbrev S4096x120 : Shape := ⟨2, ![4096, 120]⟩
abbrev S4096x3456 : Shape := ⟨2, ![4096, 3456]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3336, .f32⟩
  | .hbm, ⟨3, _⟩ => ⟨S4096x768, .f32⟩
  | .hbm, ⟨4, _⟩ => ⟨S4096x512, .f32⟩
  | .hbm, ⟨5, _⟩ => ⟨S4096x1024, .f32⟩
  | .hbm, ⟨6, _⟩ => ⟨S4096x1152, .f32⟩
  | .hbm, ⟨7, _⟩ => ⟨S4096x1024, .f32⟩
  | .hbm, ⟨8, _⟩ => ⟨S4096x768, .f32⟩
  | .hbm, ⟨9, _⟩ => ⟨S4096x8, .f32⟩
  | .hbm, ⟨10, _⟩ => ⟨S4096x256, .f32⟩
  | .hbm, ⟨11, _⟩ => ⟨S4096x3336, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3336, .f32⟩
  | .hbm, ⟨33, _⟩ => ⟨S3336x1024, .f32⟩
  | .hbm, ⟨34, _⟩ => ⟨S1024x3336, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x3072, .f32⟩
  | .hbm, ⟨62, _⟩ => ⟨S4096x256, .f32⟩
  | .hbm, ⟨63, _⟩ => ⟨S4096x8, .f32⟩
  | .hbm, ⟨64, _⟩ => ⟨S_, .f32⟩
  | .hbm, ⟨65, _⟩ => ⟨S4096x120, .f32⟩
  | .hbm, ⟨66, _⟩ => ⟨S4096x3456, .f32⟩
  | .hbm, ⟨67, _⟩ => ⟨S4096x1024, .f32⟩
  | .hbm, ⟨68, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Conformer.lean ====
abbrev S4096x3456 : Shape := ⟨2, ![4096, 3456]⟩
abbrev S4096x1024 : Shape := ⟨2, ![4096, 1024]⟩
abbrev S31x256 : Shape := ⟨2, ![31, 256]⟩
abbrev S256 : Shape := ⟨1, ![256]⟩
abbrev S256x256 : Shape := ⟨2, ![256, 256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S32x256 : Shape := ⟨2, ![32, 256]⟩
abbrev S4096x768 : Shape := ⟨2, ![4096, 768]⟩
abbrev S256x512 : Shape := ⟨2, ![256, 512]⟩
abbrev S32x512 : Shape := ⟨2, ![32, 512]⟩
abbrev S256x768 : Shape := ⟨2, ![256, 768]⟩
abbrev S288x256 : Shape := ⟨2, ![288, 256]⟩
abbrev S256x1 : Shape := ⟨2, ![256, 1]⟩
abbrev S224x256 : Shape := ⟨2, ![224, 256]⟩

abbrev nBuf : Space → Nat
  | .hbm => 255
  | .vmem => 25
  | .smem => 0
  | _ => 0

abbrev hbmTy0_0 (i : Nat) : BufTy := match i % 128 with
  | 0 => ⟨S4096x3456, .f32⟩
  | 1 => ⟨S4096x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S4096x256, .f32⟩
  | 19 => ⟨S_, .f32⟩
  | 20 => ⟨S30x256, .f32⟩
  | 21 => ⟨S4126x256, .f32⟩
  | 22 => ⟨S1x256, .f32⟩
  | 23 => ⟨S256, .f32⟩
  | 24 => ⟨S4096x256, .f32⟩
  | 25 => ⟨S1x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S1x256, .f32⟩
  | 32 => ⟨S256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S1x256, .f32⟩
  | 39 => ⟨S256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S1x256, .f32⟩
  | 46 => ⟨S256, .f32⟩
  | 47 => ⟨S4096x256, .f32⟩
  | 48 => ⟨S1x256, .f32⟩
  | 49 => ⟨S4096x256, .f32⟩
  | 50 => ⟨S4096x256, .f32⟩
  | 51 => ⟨S4096x256, .f32⟩
  | 52 => ⟨S1x256, .f32⟩
  | 53 => ⟨S256, .f32⟩
  | 54 => ⟨S4096x256, .f32⟩
  | 55 => ⟨S1x256, .f32⟩
  | 56 => ⟨S4096x256, .f32⟩
  | 57 => ⟨S4096x256, .f32⟩
  | 58 => ⟨S4096x256, .f32⟩
  | 59 => ⟨S1x256, .f32⟩
  | 60 => ⟨S256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S1x256, .f32⟩
  | 67 => ⟨S256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S1x256, .f32⟩
  | 74 => ⟨S256, .f32⟩
  | 75 => ⟨S4096x256, .f32⟩
  | 76 => ⟨S1x256, .f32⟩
  | 77 => ⟨S4096x256, .f32⟩
  | 78 => ⟨S4096x256, .f32⟩
  | 79 => ⟨S4096x256, .f32⟩
  | 80 => ⟨S1x256, .f32⟩
  | 81 => ⟨S256, .f32⟩
  | 82 => ⟨S4096x256, .f32⟩
  | 83 => ⟨S1x256, .f32⟩
  | 84 => ⟨S4096x256, .f32⟩
  | 85 => ⟨S4096x256, .f32⟩
  | 86 => ⟨S4096x256, .f32⟩
  | 87 => ⟨S1x256, .f32⟩
  | 88 => ⟨S256, .f32⟩
  | 89 => ⟨S4096x256, .f32⟩
  | 90 => ⟨S1x256, .f32⟩
  | 91 => ⟨S4096x256, .f32⟩
  | 92 => ⟨S4096x256, .f32⟩
  | 93 => ⟨S4096x256, .f32⟩
  | 94 => ⟨S1x256, .f32⟩
  | 95 => ⟨S256, .f32⟩
  | 96 => ⟨S4096x256, .f32⟩
  | 97 => ⟨S1x256, .f32⟩
  | 98 => ⟨S4096x256, .f32⟩
  | 99 => ⟨S4096x256, .f32⟩
  | 100 => ⟨S4096x256, .f32⟩
  | 101 => ⟨S1x256, .f32⟩
  | 102 => ⟨S256, .f32⟩
  | 103 => ⟨S4096x256, .f32⟩
  | 104 => ⟨S1x256, .f32⟩
  | 105 => ⟨S4096x256, .f32⟩
  | 106 => ⟨S4096x256, .f32⟩
  | 107 => ⟨S4096x256, .f32⟩
  | 108 => ⟨S1x256, .f32⟩
  | 109 => ⟨S256, .f32⟩
  | 110 => ⟨S4096x256, .f32⟩
  | 111 => ⟨S1x256, .f32⟩
  | 112 => ⟨S4096x256, .f32⟩
  | 113 => ⟨S4096x256, .f32⟩
  | 114 => ⟨S4096x256, .f32⟩
  | 115 => ⟨S1x256, .f32⟩
  | 116 => ⟨S256, .f32⟩
  | 117 => ⟨S4096x256, .f32⟩
  | 118 => ⟨S1x256, .f32⟩
  | 119 => ⟨S4096x256, .f32⟩
  | 120 => ⟨S4096x256, .f32⟩
  | 121 => ⟨S4096x256, .f32⟩
  | 122 => ⟨S1x256, .f32⟩
  | 123 => ⟨S256, .f32⟩
  | 124 => ⟨S4096x256, .f32⟩
  | 125 => ⟨S1x256, .f32⟩
  | 126 => ⟨S4096x256, .f32⟩
  | 127 => ⟨S4096x256, .f32⟩
  | _ => ⟨S4096x3456, .f32⟩

abbrev hbmTy0_1 (i : Nat) : BufTy := match i % 128 with
  | 0 => ⟨S4096x256, .f32⟩
  | 1 => ⟨S1x256, .f32⟩
  | 2 => ⟨S256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S1x256, .f32⟩
  | 9 => ⟨S256, .f32⟩
  | 10 => ⟨S4096x256, .f32⟩
  | 11 => ⟨S1x256, .f32⟩
  | 12 => ⟨S4096x256, .f32⟩
  | 13 => ⟨S4096x256, .f32⟩
  | 14 => ⟨S4096x256, .f32⟩
  | 15 => ⟨S1x256, .f32⟩
  | 16 => ⟨S256, .f32⟩
  | 17 => ⟨S4096x256, .f32⟩
  | 18 => ⟨S1x256, .f32⟩
  | 19 => ⟨S4096x256, .f32⟩
  | 20 => ⟨S4096x256, .f32⟩
  | 21 => ⟨S4096x256, .f32⟩
  | 22 => ⟨S1x256, .f32⟩
  | 23 => ⟨S256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S1x256, .f32⟩
  | 30 => ⟨S256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S1x256, .f32⟩
  | 37 => ⟨S256, .f32⟩
  | 38 => ⟨S4096x256, .f32⟩
  | 39 => ⟨S1x256, .f32⟩
  | 40 => ⟨S4096x256, .f32⟩
  | 41 => ⟨S4096x256, .f32⟩
  | 42 => ⟨S4096x256, .f32⟩
  | 43 => ⟨S1x256, .f32⟩
  | 44 => ⟨S256, .f32⟩
  | 45 => ⟨S4096x256, .f32⟩
  | 46 => ⟨S1x256, .f32⟩
  | 47 => ⟨S4096x256, .f32⟩
  | 48 => ⟨S4096x256, .f32⟩
  | 49 => ⟨S4096x256, .f32⟩
  | 50 => ⟨S1x256, .f32⟩
  | 51 => ⟨S256, .f32⟩
  | 52 => ⟨S4096x256, .f32⟩
  | 53 => ⟨S1x256, .f32⟩
  | 54 => ⟨S4096x256, .f32⟩
  | 55 => ⟨S4096x256, .f32⟩
  | 56 => ⟨S4096x256, .f32⟩
  | 57 => ⟨S1x256, .f32⟩
  | 58 => ⟨S256, .f32⟩
  | 59 => ⟨S4096x256, .f32⟩
  | 60 => ⟨S1x256, .f32⟩
  | 61 => ⟨S4096x256, .f32⟩
  | 62 => ⟨S4096x256, .f32⟩
  | 63 => ⟨S4096x256, .f32⟩
  | 64 => ⟨S1x256, .f32⟩
  | 65 => ⟨S256, .f32⟩
  | 66 => ⟨S4096x256, .f32⟩
  | 67 => ⟨S1x256, .f32⟩
  | 68 => ⟨S4096x256, .f32⟩
  | 69 => ⟨S4096x256, .f32⟩
  | 70 => ⟨S4096x256, .f32⟩
  | 71 => ⟨S1x256, .f32⟩
  | 72 => ⟨S256, .f32⟩
  | 73 => ⟨S4096x256, .f32⟩
  | 74 => ⟨S1x256, .f32⟩
  | 75 => ⟨S4096x256, .f32⟩
  | 76 => ⟨S4096x256, .f32⟩
  | 77 => ⟨S4096x256, .f32⟩
  | 78 => ⟨S1x256, .f32⟩
  | 79 => ⟨S256, .f32⟩
  | 80 => ⟨S4096x256, .f32⟩
  | 81 => ⟨S1x256, .f32⟩
  | 82 => ⟨S4096x256, .f32⟩
  | 83 => ⟨S4096x256, .f32⟩
  | 84 => ⟨S4096x256, .f32⟩
  | 85 => ⟨S1x256, .f32⟩
  | 86 => ⟨S256, .f32⟩
  | 87 => ⟨S4096x256, .f32⟩
  | 88 => ⟨S1x256, .f32⟩
  | 89 => ⟨S4096x256, .f32⟩
  | 90 => ⟨S4096x256, .f32⟩
  | 91 => ⟨S4096x256, .f32⟩
  | 92 => ⟨S1x256, .f32⟩
  | 93 => ⟨S256, .f32⟩
  | 94 => ⟨S4096x256, .f32⟩
  | 95 => ⟨S1x256, .f32⟩
  | 96 => ⟨S4096x256, .f32⟩
  | 97 => ⟨S4096x256, .f32⟩
  | 98 => ⟨S4096x256, .f32⟩
  | 99 => ⟨S1x256, .f32⟩
  | 100 => ⟨S256, .f32⟩
  | 101 => ⟨S4096x256, .f32⟩
  | 102 => ⟨S1x256, .f32⟩
  | 103 => ⟨S4096x256, .f32⟩
  | 104 => ⟨S4096x256, .f32⟩
  | 105 => ⟨S4096x256, .f32⟩
  | 106 => ⟨S1x256, .f32⟩
  | 107 => ⟨S256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S_, .i32⟩
  | 114 => ⟨S_, .f32⟩
  | 115 => ⟨S32x256, .f32⟩
  | 116 => ⟨S1x256, .f32⟩
  | 117 => ⟨S1x256, .f32⟩
  | 118 => ⟨S1x256, .f32⟩
  | 119 => ⟨S1x256, .f32⟩
  | 120 => ⟨S4096x768, .f32⟩
  | 121 => ⟨S32x256, .f32⟩
  | 122 => ⟨S1x256, .f32⟩
  | 123 => ⟨S1x256, .f32⟩
  | 124 => ⟨S1x256, .f32⟩
  | 125 => ⟨S256x256, .f32⟩
  | 126 => ⟨S1x256, .f32⟩
  | _ => ⟨S4096x3456, .f32⟩

abbrev hbmTy (i : Nat) : BufTy := match i / 128 with
  | 0 => hbmTy0_0 i
  | 1 => hbmTy0_1 i
  | _ => ⟨S4096x3456, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S32x512, .f32⟩
  | .local _ .vmem, ⟨5, _⟩ => ⟨S32x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S32x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x768, .f32⟩
  | .local _ .vmem, ⟨17, _⟩ => ⟨S256x768, .f32⟩
  | .local _ .vmem, ⟨18, _⟩ => ⟨S32x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S32x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_c : Ref sig .tc := ⟨.hbm, 241, rfl⟩
abbrev main_call0_v0 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234_0 : Ref sig .tc := ⟨.hbm, 248, rfl⟩
abbrev main_v234_1 : Ref sig .tc := ⟨.hbm, 249, rfl⟩
abbrev main_v234_2 : Ref sig .tc := ⟨.hbm, 250, rfl⟩
abbrev main_v234_3 : Ref sig .tc := ⟨.hbm, 251, rfl⟩
abbrev main_v234_4 : Ref sig .tc := ⟨.hbm, 252, rfl⟩
abbrev main_v234_5 : Ref sig .tc := ⟨.hbm, 253, rfl⟩
abbrev main_v234_6 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ConformerRefIdeal.lean ====
abbrev S4096x3456 : Shape := ⟨2, ![4096, 3456]⟩
abbrev S4096x1024 : Shape := ⟨2, ![4096, 1024]⟩
abbrev S31x256 : Shape := ⟨2, ![31, 256]⟩
abbrev S256 : Shape := ⟨1, ![256]⟩
abbrev S256x256 : Shape := ⟨2, ![256, 256]⟩
abbrev S4096x768 : Shape := ⟨2, ![4096, 768]⟩
abbrev S4096x256 : Shape := ⟨2, ![4096, 256]⟩
abbrev S_ : Shape := ⟨0, ![]⟩
abbrev S31x4096x4096 : Shape := ⟨3, ![31, 4096, 4096]⟩
abbrev S31x4096x256 : Shape := ⟨3, ![31, 4096, 256]⟩
abbrev S31x1x256 : Shape := ⟨3, ![31, 1, 256]⟩
abbrev S1x256 : Shape := ⟨2, ![1, 256]⟩
abbrev S4096 : Shape := ⟨1, ![4096]⟩
abbrev S4096x1 : Shape := ⟨2, ![4096, 1]⟩
abbrev S256x4096 : Shape := ⟨2, ![256, 4096]⟩
abbrev S32x256 : Shape := ⟨2, ![32, 256]⟩

abbrev nBuf : Space → Nat
  | .hbm => 203
  | .vmem => 0
  | .smem => 0
  | _ => 0

abbrev hbmTy0_0 (i : Nat) : BufTy := match i % 128 with
  | 0 => ⟨S4096x3456, .f32⟩
  | 1 => ⟨S4096x1024, .f32⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S4096x768, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S_, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S4096x256, .f32⟩
  | 25 => ⟨S31x4096x4096, .i32⟩
  | 26 => ⟨S31x4096x4096, .i32⟩
  | 27 => ⟨S31x4096x4096, .i32⟩
  | 28 => ⟨S_, .i32⟩
  | 29 => ⟨S31x4096x4096, .i32⟩
  | 30 => ⟨S31x4096x4096, .i32⟩
  | 31 => ⟨S31x4096x4096, .i32⟩
  | 32 => ⟨S31x4096x4096, .i1⟩
  | 33 => ⟨S_, .f32⟩
  | 34 => ⟨S_, .f32⟩
  | 35 => ⟨S31x4096x4096, .f32⟩
  | 36 => ⟨S31x4096x4096, .f32⟩
  | 37 => ⟨S31x4096x4096, .f32⟩
  | 38 => ⟨S31x4096x256, .f32⟩
  | 39 => ⟨S31x1x256, .f32⟩
  | 40 => ⟨S31x4096x256, .f32⟩
  | 41 => ⟨S31x4096x256, .f32⟩
  | 42 => ⟨S_, .f32⟩
  | 43 => ⟨S4096x256, .f32⟩
  | 44 => ⟨S1x256, .f32⟩
  | 45 => ⟨S4096x256, .f32⟩
  | 46 => ⟨S4096x256, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x256, .f32⟩
  | 54 => ⟨S4096x256, .f32⟩
  | 55 => ⟨S4096x256, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x256, .f32⟩
  | 71 => ⟨S4096x256, .f32⟩
  | 72 => ⟨S1x256, .f32⟩
  | 73 => ⟨S4096x256, .f32⟩
  | 74 => ⟨S4096x256, .f32⟩
  | 75 => ⟨S1x256, .f32⟩
  | 76 => ⟨S4096x256, .f32⟩
  | 77 => ⟨S4096x256, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S_, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S4096x256, .f32⟩
  | 116 => ⟨S_, .f32⟩
  | 117 => ⟨S256, .f32⟩
  | 118 => ⟨S1x256, .f32⟩
  | 119 => ⟨S_, .f32⟩
  | 120 => ⟨S256, .f32⟩
  | 121 => ⟨S256x256, .f32⟩
  | 122 => ⟨S256x256, .f32⟩
  | 123 => ⟨S4096x256, .f32⟩
  | 124 => ⟨S4096x256, .f32⟩
  | 125 => ⟨S4096x256, .f32⟩
  | 126 => ⟨S4096x256, .f32⟩
  | 127 => ⟨S4096x256, .f32⟩
  | _ => ⟨S4096x3456, .f32⟩

abbrev hbmTy0_1 (i : Nat) : BufTy := match i % 128 with
  | 0 => ⟨S_, .f32⟩
  | 1 => ⟨S256, .f32⟩
  | 2 => ⟨S1x256, .f32⟩
  | 3 => ⟨S_, .f32⟩
  | 4 => ⟨S256, .f32⟩
  | 5 => ⟨S4096x256, .f32⟩
  | 6 => ⟨S_, .f32⟩
  | 7 => ⟨S256, .f32⟩
  | 8 => ⟨S1x256, .f32⟩
  | 9 => ⟨S4096x256, .f32⟩
  | 10 => ⟨S4096x256, .f32⟩
  | 11 => ⟨S_, .f32⟩
  | 12 => ⟨S256, .f32⟩
  | 13 => ⟨S4096x256, .f32⟩
  | 14 => ⟨S_, .f32⟩
  | 15 => ⟨S4096, .f32⟩
  | 16 => ⟨S4096x1, .f32⟩
  | 17 => ⟨S4096x256, .f32⟩
  | 18 => ⟨S4096x256, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096, .f32⟩
  | 39 => ⟨S4096x256, .f32⟩
  | 40 => ⟨S4096x256, .f32⟩
  | 41 => ⟨S_, .f32⟩
  | 42 => ⟨S256, .f32⟩
  | 43 => ⟨S1x256, .f32⟩
  | 44 => ⟨S_, .f32⟩
  | 45 => ⟨S256, .f32⟩
  | 46 => ⟨S31x4096x256, .f32⟩
  | 47 => ⟨S31x4096x256, .f32⟩
  | 48 => ⟨S_, .f32⟩
  | 49 => ⟨S31x256, .f32⟩
  | 50 => ⟨S31x1x256, .f32⟩
  | 51 => ⟨S31x4096x256, .f32⟩
  | 52 => ⟨S31x4096x256, .f32⟩
  | 53 => ⟨S_, .f32⟩
  | 54 => ⟨S31x256, .f32⟩
  | 55 => ⟨S256x4096, .f32⟩
  | 56 => ⟨S4096x256, .f32⟩
  | 57 => ⟨S4096x256, .f32⟩
  | 58 => ⟨S4096x256, .f32⟩
  | 59 => ⟨S4096x256, .f32⟩
  | 60 => ⟨S_, .f32⟩
  | 61 => ⟨S4096x768, .f32⟩
  | 62 => ⟨S_, .f32⟩
  | 63 => ⟨S4096x768, .f32⟩
  | 64 => ⟨S4096x768, .f32⟩
  | 65 => ⟨S_, .f32⟩
  | 66 => ⟨S4096x768, .f32⟩
  | 67 => ⟨S4096x768, .f32⟩
  | 68 => ⟨S_, .i32⟩
  | 69 => ⟨S_, .f32⟩
  | 70 => ⟨S32x256, .f32⟩
  | 71 => ⟨S1x256, .f32⟩
  | 72 => ⟨S1x256, .f32⟩
  | 73 => ⟨S1x256, .f32⟩
  | 74 => ⟨S1x256, .f32⟩
  | _ => ⟨S4096x3456, .f32⟩

abbrev hbmTy (i : Nat) : BufTy := match i / 128 with
  | 0 => hbmTy0_0 i
  | 1 => hbmTy0_1 i
  | _ => ⟨S4096x3456, .f32⟩

abbrev bufTy : (tb : Table) → Fin (tcTables nBuf tb) → BufTy
  | .hbm, ⟨i, _⟩ => hbmTy i
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_v55_2 : Ref sig .tc := ⟨.hbm, 85, rfl⟩
abbrev main_call1_cst_1 : Ref sig .tc := ⟨.hbm, 86, rfl⟩
abbrev main_call1_v6 : Ref sig .tc := ⟨.hbm, 87, rfl⟩
abbrev main_call1_v7 : Ref sig .tc := ⟨.hbm, 88, rfl⟩
abbrev main_v55_1 : Ref sig .tc := ⟨.hbm, 89, rfl⟩
abbrev main_v55_0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_v60_2 : Ref sig .tc := ⟨.hbm, 102, rfl⟩
abbrev main_call2_cst_1 : Ref sig .tc := ⟨.hbm, 103, rfl⟩
abbrev main_call2_v6 : Ref sig .tc := ⟨.hbm, 104, rfl⟩
abbrev main_call2_v7 : Ref sig .tc := ⟨.hbm, 105, rfl⟩
abbrev main_v60_1 : Ref sig .tc := ⟨.hbm, 106, rfl⟩
abbrev main_v60_0 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v65 : Ref sig .tc := ⟨.hbm, 115, rfl⟩
abbrev main_cst_11 : Ref sig .tc := ⟨.hbm, 116, rfl⟩
abbrev main_v66 : Ref sig .tc := ⟨.hbm, 117, rfl⟩
abbrev main_v67 : Ref sig .tc := ⟨.hbm, 118, rfl⟩
abbrev main_cst_12 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v72 : Ref sig .tc := ⟨.hbm, 127, rfl⟩
abbrev main_cst_13 : Ref sig .tc := ⟨.hbm, 128, rfl⟩
abbrev main_v73 : Ref sig .tc := ⟨.hbm, 129, rfl⟩
abbrev main_v74 : Ref sig .tc := ⟨.hbm, 130, rfl⟩
abbrev main_cst_14 : Ref sig .tc := ⟨.hbm, 131, rfl⟩
abbrev main_v75 : Ref sig .tc := ⟨.hbm, 132, rfl⟩
abbrev main_v76 : Ref sig .tc := ⟨.hbm, 133, rfl⟩
abbrev main_cst_15 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_16 : Ref sig .tc := ⟨.hbm, 139, rfl⟩
abbrev main_v81 : Ref sig .tc := ⟨.hbm, 140, rfl⟩
abbrev main_v82 : Ref sig .tc := ⟨.hbm, 141, rfl⟩
abbrev main_cst_17 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_18 : Ref sig .tc := ⟨.hbm, 148, rfl⟩
abbrev main_v88 : Ref sig .tc := ⟨.hbm, 149, rfl⟩
abbrev main_v89 : Ref sig .tc := ⟨.hbm, 150, rfl⟩
abbrev main_cst_19 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_cst_20 : Ref sig .tc := ⟨.hbm, 159, rfl⟩
abbrev main_v97 : Ref sig .tc := ⟨.hbm, 160, rfl⟩
abbrev main_v98 : Ref sig .tc := ⟨.hbm, 161, rfl⟩
abbrev main_cst_21 : Ref sig .tc := ⟨.hbm, 162, rfl⟩
abbrev main_v99 : Ref sig .tc := ⟨.hbm, 163, rfl⟩
abbrev main_v100 : Ref sig .tc := ⟨.hbm, 164, rfl⟩
abbrev main_cst_22 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_23 : Ref sig .tc := ⟨.hbm, 169, rfl⟩
abbrev main_v104 : Ref sig .tc := ⟨.hbm, 170, rfl⟩
abbrev main_v105 : Ref sig .tc := ⟨.hbm, 171, rfl⟩
abbrev main_cst_24 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_25 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_26 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_27 : Ref sig .tc := ⟨.hbm, 188, rfl⟩
abbrev main_v119 : Ref sig .tc := ⟨.hbm, 189, rfl⟩
abbrev main_cst_28 : Ref sig .tc := ⟨.hbm, 190, rfl⟩
abbrev main_v120 : Ref sig .tc := ⟨.hbm, 191, rfl⟩
abbrev main_v121 : Ref sig .tc := ⟨.hbm, 192, rfl⟩
abbrev main_cst_29 : Ref sig .tc := ⟨.hbm, 193, rfl⟩
abbrev main_v122 : Ref sig .tc := ⟨.hbm, 194, rfl⟩
abbrev main_v123 : Ref sig .tc := ⟨.hbm, 195, rfl⟩
abbrev main_c_30 : Ref sig .tc := ⟨.hbm, 196, rfl⟩
abbrev main_call5_v0 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩

abbrev nD : Nat := 1
abbrev τ : Topo := Topo.v7x

variable {F : FTy → Type} [FloatOps F]
-- ==== ConformerFwd.lean ====
abbrev S4096x3456 : Shape := ⟨2, ![4096, 3456]⟩
abbrev S31x256 : Shape := ⟨2, ![31, 256]⟩
abbrev S256 : Shape := ⟨1, ![256]⟩
abbrev S256x256 : Shape := ⟨2, ![256, 256]⟩
abbrev S_ : Shape := ⟨0, ![]⟩
abbrev S32x256 : Shape := ⟨2, ![32, 256]⟩
abbrev S1x256 : Shape := ⟨2, ![1, 256]⟩
abbrev S4096x256 : Shape := ⟨2, ![4096, 256]⟩
abbrev S256x512 : Shape := ⟨2, ![256, 512]⟩
abbrev S32x512 : Shape := ⟨2, ![32, 512]⟩
abbrev S288x256 : Shape := ⟨2, ![288, 256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S4096x3456, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S32x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S4096x256, .f32⟩
  | .hbm, ⟨15, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S32x512, .f32⟩
  | .local _ .vmem, ⟨5, _⟩ => ⟨S32x512, .f32⟩
  | .local _ .vmem, ⟨6, _⟩ => ⟨S32x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConformerFwdRefIdeal.lean ====
abbrev S4096x3456 : Shape := ⟨2, ![4096, 3456]⟩
abbrev S31x256 : Shape := ⟨2, ![31, 256]⟩
abbrev S256 : Shape := ⟨1, ![256]⟩
abbrev S256x256 : Shape := ⟨2, ![256, 256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩

abbrev nBuf : Space → Nat
  | .hbm => 294
  | .vmem => 0
  | .smem => 0
  | _ => 0

abbrev hbmTy0_0 (i : Nat) : BufTy := match i % 128 with
  | 0 => ⟨S4096x3456, .f32⟩
  | 1 => ⟨S31x256, .f32⟩
  | 2 => ⟨S256, .f32⟩
  | 3 => ⟨S256, .f32⟩
  | 4 => ⟨S256, .f32⟩
  | 5 => ⟨S256x256, .f32⟩
  | 6 => ⟨S256, .f32⟩
  | 7 => ⟨S4096x256, .f32⟩
  | 8 => ⟨S4096x256, .f32⟩
  | 9 => ⟨S4096x256, .f32⟩
  | 10 => ⟨S4096x256, .f32⟩
  | 11 => ⟨S_, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S4096x256, .f32⟩
  | 18 => ⟨S_, .f32⟩
  | 19 => ⟨S30x256, .f32⟩
  | 20 => ⟨S4126x256, .f32⟩
  | 21 => ⟨S1x256, .f32⟩
  | 22 => ⟨S256, .f32⟩
  | 23 => ⟨S4096x256, .f32⟩
  | 24 => ⟨S1x256, .f32⟩
  | 25 => ⟨S4096x256, .f32⟩
  | 26 => ⟨S4096x256, .f32⟩
  | 27 => ⟨S_, .f32⟩
  | 28 => ⟨S4096x256, .f32⟩
  | 29 => ⟨S4096x256, .f32⟩
  | 30 => ⟨S1x256, .f32⟩
  | 31 => ⟨S256, .f32⟩
  | 32 => ⟨S4096x256, .f32⟩
  | 33 => ⟨S1x256, .f32⟩
  | 34 => ⟨S4096x256, .f32⟩
  | 35 => ⟨S4096x256, .f32⟩
  | 36 => ⟨S4096x256, .f32⟩
  | 37 => ⟨S1x256, .f32⟩
  | 38 => ⟨S256, .f32⟩
  | 39 => ⟨S4096x256, .f32⟩
  | 40 => ⟨S1x256, .f32⟩
  | 41 => ⟨S4096x256, .f32⟩
  | 42 => ⟨S4096x256, .f32⟩
  | 43 => ⟨S4096x256, .f32⟩
  | 44 => ⟨S1x256, .f32⟩
  | 45 => ⟨S256, .f32⟩
  | 46 => ⟨S4096x256, .f32⟩
  | 47 => ⟨S1x256, .f32⟩
  | 48 => ⟨S4096x256, .f32⟩
  | 49 => ⟨S4096x256, .f32⟩
  | 50 => ⟨S4096x256, .f32⟩
  | 51 => ⟨S1x256, .f32⟩
  | 52 => ⟨S256, .f32⟩
  | 53 => ⟨S4096x256, .f32⟩
  | 54 => ⟨S1x256, .f32⟩
  | 55 => ⟨S4096x256, .f32⟩
  | 56 => ⟨S4096x256, .f32⟩
  | 57 => ⟨S4096x256, .f32⟩
  | 58 => ⟨S1x256, .f32⟩
  | 59 => ⟨S256, .f32⟩
  | 60 => ⟨S4096x256, .f32⟩
  | 61 => ⟨S1x256, .f32⟩
  | 62 => ⟨S4096x256, .f32⟩
  | 63 => ⟨S4096x256, .f32⟩
  | 64 => ⟨S4096x256, .f32⟩
  | 65 => ⟨S1x256, .f32⟩
  | 66 => ⟨S256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S1x256, .f32⟩
  | 73 => ⟨S256, .f32⟩
  | 74 => ⟨S4096x256, .f32⟩
  | 75 => ⟨S1x256, .f32⟩
  | 76 => ⟨S4096x256, .f32⟩
  | 77 => ⟨S4096x256, .f32⟩
  | 78 => ⟨S4096x256, .f32⟩
  | 79 => ⟨S1x256, .f32⟩
  | 80 => ⟨S256, .f32⟩
  | 81 => ⟨S4096x256, .f32⟩
  | 82 => ⟨S1x256, .f32⟩
  | 83 => ⟨S4096x256, .f32⟩
  | 84 => ⟨S4096x256, .f32⟩
  | 85 => ⟨S4096x256, .f32⟩
  | 86 => ⟨S1x256, .f32⟩
  | 87 => ⟨S256, .f32⟩
  | 88 => ⟨S4096x256, .f32⟩
  | 89 => ⟨S1x256, .f32⟩
  | 90 => ⟨S4096x256, .f32⟩
  | 91 => ⟨S4096x256, .f32⟩
  | 92 => ⟨S4096x256, .f32⟩
  | 93 => ⟨S1x256, .f32⟩
  | 94 => ⟨S256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S1x256, .f32⟩
  | 101 => ⟨S256, .f32⟩
  | 102 => ⟨S4096x256, .f32⟩
  | 103 => ⟨S1x256, .f32⟩
  | 104 => ⟨S4096x256, .f32⟩
  | 105 => ⟨S4096x256, .f32⟩
  | 106 => ⟨S4096x256, .f32⟩
  | 107 => ⟨S1x256, .f32⟩
  | 108 => ⟨S256, .f32⟩
  | 109 => ⟨S4096x256, .f32⟩
  | 110 => ⟨S1x256, .f32⟩
  | 111 => ⟨S4096x256, .f32⟩
  | 112 => ⟨S4096x256, .f32⟩
  | 113 => ⟨S4096x256, .f32⟩
  | 114 => ⟨S1x256, .f32⟩
  | 115 => ⟨S256, .f32⟩
  | 116 => ⟨S4096x256, .f32⟩
  | 117 => ⟨S1x256, .f32⟩
  | 118 => ⟨S4096x256, .f32⟩
  | 119 => ⟨S4096x256, .f32⟩
  | 120 => ⟨S4096x256, .f32⟩
  | 121 => ⟨S1x256, .f32⟩
  | 122 => ⟨S256, .f32⟩
  | 123 => ⟨S4096x256, .f32⟩
  | 124 => ⟨S1x256, .f32⟩
  | 125 => ⟨S4096x256, .f32⟩
  | 126 => ⟨S4096x256, .f32⟩
  | 127 => ⟨S4096x256, .f32⟩
  | _ => ⟨S4096x3456, .f32⟩

abbrev hbmTy0_1 (i : Nat) : BufTy := match i % 128 with
  | 0 => ⟨S1x256, .f32⟩
  | 1 => ⟨S256, .f32⟩
  | 2 => ⟨S4096x256, .f32⟩
  | 3 => ⟨S1x256, .f32⟩
  | 4 => ⟨S4096x256, .f32⟩
  | 5 => ⟨S4096x256, .f32⟩
  | 6 => ⟨S4096x256, .f32⟩
  | 7 => ⟨S1x256, .f32⟩
  | 8 => ⟨S256, .f32⟩
  | 9 => ⟨S4096x256, .f32⟩
  | 10 => ⟨S1x256, .f32⟩
  | 11 => ⟨S4096x256, .f32⟩
  | 12 => ⟨S4096x256, .f32⟩
  | 13 => ⟨S4096x256, .f32⟩
  | 14 => ⟨S1x256, .f32⟩
  | 15 => ⟨S256, .f32⟩
  | 16 => ⟨S4096x256, .f32⟩
  | 17 => ⟨S1x256, .f32⟩
  | 18 => ⟨S4096x256, .f32⟩
  | 19 => ⟨S4096x256, .f32⟩
  | 20 => ⟨S4096x256, .f32⟩
  | 21 => ⟨S1x256, .f32⟩
  | 22 => ⟨S256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S1x256, .f32⟩
  | 29 => ⟨S256, .f32⟩
  | 30 => ⟨S4096x256, .f32⟩
  | 31 => ⟨S1x256, .f32⟩
  | 32 => ⟨S4096x256, .f32⟩
  | 33 => ⟨S4096x256, .f32⟩
  | 34 => ⟨S4096x256, .f32⟩
  | 35 => ⟨S1x256, .f32⟩
  | 36 => ⟨S256, .f32⟩
  | 37 => ⟨S4096x256, .f32⟩
  | 38 => ⟨S1x256, .f32⟩
  | 39 => ⟨S4096x256, .f32⟩
  | 40 => ⟨S4096x256, .f32⟩
  | 41 => ⟨S4096x256, .f32⟩
  | 42 => ⟨S1x256, .f32⟩
  | 43 => ⟨S256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S1x256, .f32⟩
  | 50 => ⟨S256, .f32⟩
  | 51 => ⟨S4096x256, .f32⟩
  | 52 => ⟨S1x256, .f32⟩
  | 53 => ⟨S4096x256, .f32⟩
  | 54 => ⟨S4096x256, .f32⟩
  | 55 => ⟨S4096x256, .f32⟩
  | 56 => ⟨S1x256, .f32⟩
  | 57 => ⟨S256, .f32⟩
  | 58 => ⟨S4096x256, .f32⟩
  | 59 => ⟨S1x256, .f32⟩
  | 60 => ⟨S4096x256, .f32⟩
  | 61 => ⟨S4096x256, .f32⟩
  | 62 => ⟨S4096x256, .f32⟩
  | 63 => ⟨S1x256, .f32⟩
  | 64 => ⟨S256, .f32⟩
  | 65 => ⟨S4096x256, .f32⟩
  | 66 => ⟨S1x256, .f32⟩
  | 67 => ⟨S4096x256, .f32⟩
  | 68 => ⟨S4096x256, .f32⟩
  | 69 => ⟨S4096x256, .f32⟩
  | 70 => ⟨S1x256, .f32⟩
  | 71 => ⟨S256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S1x256, .f32⟩
  | 78 => ⟨S256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S1x256, .f32⟩
  | 85 => ⟨S256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S1x256, .f32⟩
  | 92 => ⟨S256, .f32⟩
  | 93 => ⟨S4096x256, .f32⟩
  | 94 => ⟨S1x256, .f32⟩
  | 95 => ⟨S4096x256, .f32⟩
  | 96 => ⟨S4096x256, .f32⟩
  | 97 => ⟨S4096x256, .f32⟩
  | 98 => ⟨S1x256, .f32⟩
  | 99 => ⟨S256, .f32⟩
  | 100 => ⟨S4096x256, .f32⟩
  | 101 => ⟨S1x256, .f32⟩
  | 102 => ⟨S4096x256, .f32⟩
  | 103 => ⟨S4096x256, .f32⟩
  | 104 => ⟨S4096x256, .f32⟩
  | 105 => ⟨S1x256, .f32⟩
  | 106 => ⟨S256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S1x256, .f32⟩
  | 113 => ⟨S4096x256, .f32⟩
  | 114 => ⟨S4096x256, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .f32⟩
  | 121 => ⟨S4096x256, .f32⟩
  | 122 => ⟨S4096x256, .f32⟩
  | 123 => ⟨S4096x256, .f32⟩
  | 124 => ⟨S_, .f32⟩
  | 125 => ⟨S4096, .f32⟩
  | 126 => ⟨S4096x1, .f32⟩
  | 127 => ⟨S_, .f32⟩
  | _ => ⟨S4096x3456, .f32⟩

abbrev hbmTy0_2 (i : Nat) : BufTy := match i % 128 with
  | 0 => ⟨S4096x1, .f32⟩
  | 1 => ⟨S4096x1, .f32⟩
  | 2 => ⟨S_, .f32⟩
  | 3 => ⟨S4096x1, .f32⟩
  | 4 => ⟨S4096x1, .f32⟩
  | 5 => ⟨S4096x1, .f32⟩
  | 6 => ⟨S4096x256, .f32⟩
  | 7 => ⟨S4096x256, .f32⟩
  | 8 => ⟨S1x256, .f32⟩
  | 9 => ⟨S4096x256, .f32⟩
  | 10 => ⟨S4096x256, .f32⟩
  | 11 => ⟨S1x256, .f32⟩
  | 12 => ⟨S4096x256, .f32⟩
  | 13 => ⟨S4096x256, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S4096x256, .f32⟩
  | 37 => ⟨S4096x256, .f32⟩
  | _ => ⟨S4096x3456, .f32⟩

abbrev hbmTy (i : Nat) : BufTy := match i / 128 with
  | 0 => hbmTy0_0 i
  | 1 => hbmTy0_1 i
  | 2 => hbmTy0_2 i
  | _ => ⟨S4096x3456, .f32⟩

abbrev bufTy : (tb : Table) → Fin (tcTables nBuf tb) → BufTy
  | .hbm, ⟨i, _⟩ => hbmTy i
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_cst_4 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_5 : Ref sig .tc := ⟨.hbm, 252, rfl⟩
abbrev main_v239 : Ref sig .tc := ⟨.hbm, 253, rfl⟩
abbrev main_v240 : Ref sig .tc := ⟨.hbm, 254, rfl⟩
abbrev main_cst_6 : Ref sig .tc := ⟨.hbm, 255, rfl⟩
abbrev main_v241 : Ref sig .tc := ⟨.hbm, 256, rfl⟩
abbrev main_v242 : Ref sig .tc := ⟨.hbm, 257, rfl⟩
abbrev main_cst_7 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_call1_v0 : Ref sig .tc := ⟨.hbm, 284, rfl⟩
abbrev main_call1_v1 : Ref sig .tc := ⟨.hbm, 285, rfl⟩
abbrev main_call1_cst : Ref sig .tc := ⟨.hbm, 286, rfl⟩
abbrev main_call1_v2 : Ref sig .tc := ⟨.hbm, 287, rfl⟩
abbrev main_call1_v3 : Ref sig .tc := ⟨.hbm, 288, rfl⟩
abbrev main_call1_cst_0 : Ref sig .tc := ⟨.hbm, 289, rfl⟩
abbrev main_call1_v4 : Ref sig .tc := ⟨.hbm, 290, rfl⟩
abbrev main_call1_v5 : Ref sig .tc := ⟨.hbm, 291, rfl⟩
abbrev main_v260 : Ref sig .tc := ⟨.hbm, 292, rfl⟩
abbrev main_v261 : Ref sig .tc := ⟨.hbm, 293, rfl⟩

abbrev nD : Nat := 1
abbrev τ : Topo := Topo.v7x

variable {F : FTy → Type} [FloatOps F]
-- ==== ShortConvFwd.lean ====
abbrev S4096x3456 : Shape := ⟨2, ![4096, 3456]⟩
abbrev S3x256 : Shape := ⟨2, ![3, 256]⟩
abbrev S_ : Shape := ⟨0, ![]⟩
abbrev S8x256 : Shape := ⟨2, ![8, 256]⟩
abbrev S4096x256 : Shape := ⟨2, ![4096, 256]⟩
abbrev S256x256 : Shape := ⟨2, ![256, 256]⟩
abbrev S256x512 : Shape := ⟨2, ![256, 512]⟩
abbrev S8x512 : Shape := ⟨2, ![8, 512]⟩
abbrev S264x256 : Shape := ⟨2, ![264, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x3456, .f32⟩
  | .hbm, ⟨1, _⟩ => ⟨S3x256, .f32⟩
  | .hbm, ⟨2, _⟩ => ⟨S_, .i32⟩
  | .hbm, ⟨3, _⟩ => ⟨S_, .f32⟩
  | .hbm, ⟨4, _⟩ => ⟨S8x256, .f32⟩
  | .hbm, ⟨5, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S8x512, .f32⟩
  | .local _ .vmem, ⟨7, _⟩ => ⟨S8x512, .f32⟩
  | .local _ .vmem, ⟨8, _⟩ => ⟨S8x256, .f32⟩
  | .local _ .vmem, ⟨9, _⟩ => ⟨S256x256, .f32⟩
  | .local _ .vmem, ⟨10, _⟩ => ⟨S256x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ShortConvFwdRefIdeal.lean ====
abbrev S4096x3456 : Shape := ⟨2, ![4096, 3456]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S3x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S2x256, .f32⟩
  | .hbm, ⟨9, _⟩ => ⟨S4098x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamOut.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4x1024x834 : Shape := ⟨3, ![4, 1024, 834]⟩
abbrev S834x4x1024 : Shape := ⟨3, ![834, 4, 1024]⟩
abbrev S139x4x1024 : Shape := ⟨3, ![139, 4, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x834, .f32⟩
  | .hbm, ⟨1, _⟩ => ⟨S4x1024x834, .f32⟩
  | .hbm, ⟨2, _⟩ => ⟨S4x1024x834, .f32⟩
  | .hbm, ⟨3, _⟩ => ⟨S4x1024x834, .f32⟩
  | .hbm, ⟨4, _⟩ => ⟨S834x4x1024, .f32⟩
  | .hbm, ⟨5, _⟩ => ⟨S834x4x1024, .f32⟩
  | .hbm, ⟨6, _⟩ => ⟨S834x4x1024, .f32⟩
  | .hbm, ⟨7, _⟩ => ⟨S834x4x1024, .f32⟩
  | .hbm, ⟨8, _⟩ => ⟨S834x4x1024, .f32⟩
  | .hbm, ⟨9, _⟩ => ⟨S834x4x1024, .f32⟩
  | .hbm, ⟨10, _⟩ => ⟨S834x4x1024, .f32⟩
  | .hbm, ⟨11, _⟩ => ⟨S4x1024x834, .f32⟩
  | .hbm, ⟨12, _⟩ => ⟨S4x1024x834, .f32⟩
  | .hbm, ⟨13, _⟩ => ⟨S4x1024x834, .f32⟩
  | .local _ .vmem, ⟨0, _⟩ => ⟨S139x4x1024, .f32⟩
  | .local _ .vmem, ⟨1, _⟩ => ⟨S139x4x1024, .f32⟩
  | .local _ .vmem, ⟨2, _⟩ => ⟨S139x4x1024, .f32⟩
  | .local _ .vmem, ⟨3, _⟩ => ⟨S139x4x1024, .f32⟩
  | .local _ .vmem, ⟨4, _⟩ => ⟨S139x4x1024, .f32⟩
  | .local _ .vmem, ⟨5, _⟩ => ⟨S139x4x1024, .f32⟩
  | .local _ .vmem, ⟨6, _⟩ => ⟨S139x4x1024, .f32⟩
  | .local _ .vmem, ⟨7, _⟩ => ⟨S139x4x1024, .f32⟩
  | .local _ .vmem, ⟨8, _⟩ => ⟨S139x4x1024, .f32⟩
  | .local _ .vmem, ⟨9, _⟩ => ⟨S139x4x1024, .f32⟩
  | .local _ .vmem, ⟨10, _⟩ => ⟨S139x4x1024, .f32⟩
  | .local _ .vmem, ⟨11, _⟩ => ⟨S139x4x1024, .f32⟩
  | .local _ .vmem, ⟨12, _⟩ => ⟨S139x4x1024, .f32⟩
  | .local _ .vmem, ⟨13, _⟩ => ⟨S139x4x1024, .f32⟩
  | _, _ => ⟨S4x1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S139x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S139x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S139x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S139x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S139x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S139x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S139x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x834 : Shape := ⟨3, ![4, 1024, 834]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x834, .f32⟩
  | .hbm, ⟨1, _⟩ => ⟨S4x1024x834, .f32⟩
  | .hbm, ⟨2, _⟩ => ⟨S4x1024x834, .f32⟩
  | .hbm, ⟨3, _⟩ => ⟨S4x1024x834, .f32⟩
  | .hbm, ⟨4, _⟩ => ⟨S_, .f32⟩
  | .hbm, ⟨5, _⟩ => ⟨S4x1024x834, .f32⟩
  | .hbm, ⟨6, _⟩ => ⟨S4x1024x834, .f32⟩
  | .hbm, ⟨7, _⟩ => ⟨S_, .f32⟩
  | .hbm, ⟨8, _⟩ => ⟨S4x1024x834, .f32⟩
  | .hbm, ⟨9, _⟩ => ⟨S4x1024x834, .f32⟩
  | .hbm, ⟨10, _⟩ => ⟨S4x1024x834, .f32⟩
  | .hbm, ⟨11, _⟩ => ⟨S_, .f32⟩
  | .hbm, ⟨12, _⟩ => ⟨S4x1024x834, .f32⟩
  | .hbm, ⟨13, _⟩ => ⟨S4x1024x834, .f32⟩
  | .hbm, ⟨14, _⟩ => ⟨S4x1024x834, .f32⟩
  | .hbm, ⟨15, _⟩ => ⟨S_, .f32⟩
  | .hbm, ⟨16, _⟩ => ⟨S4x1024x834, .f32⟩
  | .hbm, ⟨17, _⟩ => ⟨S4x1024x834, .f32⟩
  | .hbm, ⟨18, _⟩ => ⟨S4x1024x834, .f32⟩
  | .hbm, ⟨19, _⟩ => ⟨S_, .f32⟩
  | .hbm, ⟨20, _⟩ => ⟨S4x1024x834, .f32⟩
  | .hbm, ⟨21, _⟩ => ⟨S4x1024x834, .f32⟩
  | .hbm, ⟨22, _⟩ => ⟨S_, .f32⟩
  | .hbm, ⟨23, _⟩ => ⟨S4x1024x834, .f32⟩
  | .hbm, ⟨24, _⟩ => ⟨S4x1024x834, .f32⟩
  | .hbm, ⟨25, _⟩ => ⟨S4x1024x834, .f32⟩
  | .hbm, ⟨26, _⟩ => ⟨S_, .f32⟩
  | .hbm, ⟨27, _⟩ => ⟨S4x1024x834, .f32⟩
  | .hbm, ⟨28, _⟩ => ⟨S4x1024x834, .f32⟩
  | .hbm, ⟨29, _⟩ => ⟨S4x1024x834, .f32⟩
  | .hbm, ⟨30, _⟩ => ⟨S_, .f32⟩
  | .hbm, ⟨31, _⟩ => ⟨S4x1024x834, .f32⟩
  | .hbm, ⟨32, _⟩ => ⟨S4x1024x834, .f32⟩
  | .hbm, ⟨33, _⟩ => ⟨S4x1024x834, .f32⟩
  | .hbm, ⟨34, _⟩ => ⟨S_, .f32⟩
  | .hbm, ⟨35, _⟩ => ⟨S4x1024x834, .f32⟩
  | .hbm, ⟨36, _⟩ => ⟨S4x1024x834, .f32⟩
  | _, _ => ⟨S4x1024x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S4x31x64 : Shape := ⟨3, ![4, 31, 64]⟩
abbrev S4x64x256 : Shape := ⟨3, ![4, 64, 256]⟩
abbrev S4x3x64 : Shape := ⟨3, ![4, 3, 64]⟩
abbrev S4x4x192 : Shape := ⟨3, ![4, 4, 192]⟩
abbrev S7936 : Shape := ⟨1, ![7936]⟩
abbrev S_ : Shape := ⟨0, ![]⟩
abbrev S8192 : Shape := ⟨1, ![8192]⟩
abbrev S8x1024 : Shape := ⟨2, ![8, 1024]⟩
abbrev S65536 : Shape := ⟨1, ![65536]⟩
abbrev S64x1024 : Shape := ⟨2, ![64, 1024]⟩
abbrev S768 : Shape := ⟨1, ![768]⟩
abbrev S3072 : Shape := ⟨1, ![3072]⟩
abbrev S160x1024 : Shape := ⟨2, ![160, 1024]⟩

abbrev nBuf : Space → Nat
  | .hbm => 189
  | .vmem => 7
  | .smem => 0
  | _ => 0

abbrev hbmTy0_0 (i : Nat) : BufTy := match i % 128 with
  | 0 => ⟨S4x31x64, .f32⟩
  | 1 => ⟨S4x64x256, .f32⟩
  | 2 => ⟨S4x64x256, .f32⟩
  | 3 => ⟨S4x3x64, .f32⟩
  | 4 => ⟨S4x4x192, .f32⟩
  | 5 => ⟨S4x31x64, .f32⟩
  | 6 => ⟨S4x64x256, .f32⟩
  | 7 => ⟨S4x64x256, .f32⟩
  | 8 => ⟨S4x3x64, .f32⟩
  | 9 => ⟨S4x4x192, .f32⟩
  | 10 => ⟨S4x31x64, .f32⟩
  | 11 => ⟨S4x64x256, .f32⟩
  | 12 => ⟨S4x64x256, .f32⟩
  | 13 => ⟨S4x3x64, .f32⟩
  | 14 => ⟨S4x4x192, .f32⟩
  | 15 => ⟨S4x31x64, .f32⟩
  | 16 => ⟨S4x64x256, .f32⟩
  | 17 => ⟨S4x64x256, .f32⟩
  | 18 => ⟨S4x3x64, .f32⟩
  | 19 => ⟨S4x4x192, .f32⟩
  | 20 => ⟨S7936, .f32⟩
  | 21 => ⟨S_, .i32⟩
  | 22 => ⟨S_, .f32⟩
  | 23 => ⟨S8192, .f32⟩
  | 24 => ⟨S8x1024, .f32⟩
  | 25 => ⟨S65536, .f32⟩
  | 26 => ⟨S_, .i32⟩
  | 27 => ⟨S_, .f32⟩
  | 28 => ⟨S65536, .f32⟩
  | 29 => ⟨S64x1024, .f32⟩
  | 30 => ⟨S65536, .f32⟩
  | 31 => ⟨S_, .i32⟩
  | 32 => ⟨S_, .f32⟩
  | 33 => ⟨S65536, .f32⟩
  | 34 => ⟨S64x1024, .f32⟩
  | 35 => ⟨S768, .f32⟩
  | 36 => ⟨S_, .i32⟩
  | 37 => ⟨S_, .f32⟩
  | 38 => ⟨S8192, .f32⟩
  | 39 => ⟨S8x1024, .f32⟩
  | 40 => ⟨S3072, .f32⟩
  | 41 => ⟨S_, .i32⟩
  | 42 => ⟨S_, .f32⟩
  | 43 => ⟨S8192, .f32⟩
  | 44 => ⟨S8x1024, .f32⟩
  | 45 => ⟨S_, .f32⟩
  | 46 => ⟨S8x1024, .f32⟩
  | 47 => ⟨S160x1024, .f32⟩
  | 48 => ⟨S7936, .f32⟩
  | 49 => ⟨S_, .i32⟩
  | 50 => ⟨S_, .f32⟩
  | 51 => ⟨S8192, .f32⟩
  | 52 => ⟨S8x1024, .f32⟩
  | 53 => ⟨S65536, .f32⟩
  | 54 => ⟨S_, .i32⟩
  | 55 => ⟨S_, .f32⟩
  | 56 => ⟨S65536, .f32⟩
  | 57 => ⟨S64x1024, .f32⟩
  | 58 => ⟨S65536, .f32⟩
  | 59 => ⟨S_, .i32⟩
  | 60 => ⟨S_, .f32⟩
  | 61 => ⟨S65536, .f32⟩
  | 62 => ⟨S64x1024, .f32⟩
  | 63 => ⟨S768, .f32⟩
  | 64 => ⟨S_, .i32⟩
  | 65 => ⟨S_, .f32⟩
  | 66 => ⟨S8192, .f32⟩
  | 67 => ⟨S8x1024, .f32⟩
  | 68 => ⟨S3072, .f32⟩
  | 69 => ⟨S_, .i32⟩
  | 70 => ⟨S_, .f32⟩
  | 71 => ⟨S8192, .f32⟩
  | 72 => ⟨S8x1024, .f32⟩
  | 73 => ⟨S_, .f32⟩
  | 74 => ⟨S8x1024, .f32⟩
  | 75 => ⟨S160x1024, .f32⟩
  | 76 => ⟨S7936, .f32⟩
  | 77 => ⟨S_, .i32⟩
  | 78 => ⟨S_, .f32⟩
  | 79 => ⟨S8192, .f32⟩
  | 80 => ⟨S8x1024, .f32⟩
  | 81 => ⟨S65536, .f32⟩
  | 82 => ⟨S_, .i32⟩
  | 83 => ⟨S_, .f32⟩
  | 84 => ⟨S65536, .f32⟩
  | 85 => ⟨S64x1024, .f32⟩
  | 86 => ⟨S65536, .f32⟩
  | 87 => ⟨S_, .i32⟩
  | 88 => ⟨S_, .f32⟩
  | 89 => ⟨S65536, .f32⟩
  | 90 => ⟨S64x1024, .f32⟩
  | 91 => ⟨S768, .f32⟩
  | 92 => ⟨S_, .i32⟩
  | 93 => ⟨S_, .f32⟩
  | 94 => ⟨S8192, .f32⟩
  | 95 => ⟨S8x1024, .f32⟩
  | 96 => ⟨S3072, .f32⟩
  | 97 => ⟨S_, .i32⟩
  | 98 => ⟨S_, .f32⟩
  | 99 => ⟨S8192, .f32⟩
  | 100 => ⟨S8x1024, .f32⟩
  | 101 => ⟨S_, .f32⟩
  | 102 => ⟨S8x1024, .f32⟩
  | 103 => ⟨S160x1024, .f32⟩
  | 104 => ⟨S7936, .f32⟩
  | 105 => ⟨S_, .i32⟩
  | 106 => ⟨S_, .f32⟩
  | 107 => ⟨S8192, .f32⟩
  | 108 => ⟨S8x1024, .f32⟩
  | 109 => ⟨S65536, .f32⟩
  | 110 => ⟨S_, .i32⟩
  | 111 => ⟨S_, .f32⟩
  | 112 => ⟨S65536, .f32⟩
  | 113 => ⟨S64x1024, .f32⟩
  | 114 => ⟨S65536, .f32⟩
  | 115 => ⟨S_, .i32⟩
  | 116 => ⟨S_, .f32⟩
  | 117 => ⟨S65536, .f32⟩
  | 118 => ⟨S64x1024, .f32⟩
  | 119 => ⟨S768, .f32⟩
  | 120 => ⟨S_, .i32⟩
  | 121 => ⟨S_, .f32⟩
  | 122 => ⟨S8192, .f32⟩
  | 123 => ⟨S8x1024, .f32⟩
  | 124 => ⟨S3072, .f32⟩
  | 125 => ⟨S_, .i32⟩
  | 126 => ⟨S_, .f32⟩
  | 127 => ⟨S8192, .f32⟩
  | _ => ⟨S4x31x64, .f32⟩

abbrev hbmTy0_1 (i : Nat) : BufTy := match i % 128 with
  | 0 => ⟨S8x1024, .f32⟩
  | 1 => ⟨S_, .f32⟩
  | 2 => ⟨S8x1024, .f32⟩
  | 3 => ⟨S160x1024, .f32⟩
  | 4 => ⟨S160x1024, .f32⟩
  | 5 => ⟨S160x1024, .f32⟩
  | 6 => ⟨S160x1024, .f32⟩
  | 7 => ⟨S8x1024, .f32⟩
  | 8 => ⟨S8192, .f32⟩
  | 9 => ⟨S7936, .f32⟩
  | 10 => ⟨S4x31x64, .f32⟩
  | 11 => ⟨S64x1024, .f32⟩
  | 12 => ⟨S65536, .f32⟩
  | 13 => ⟨S4x64x256, .f32⟩
  | 14 => ⟨S64x1024, .f32⟩
  | 15 => ⟨S65536, .f32⟩
  | 16 => ⟨S4x64x256, .f32⟩
  | 17 => ⟨S8x1024, .f32⟩
  | 18 => ⟨S8192, .f32⟩
  | 19 => ⟨S768, .f32⟩
  | 20 => ⟨S4x3x64, .f32⟩
  | 21 => ⟨S8x1024, .f32⟩
  | 22 => ⟨S8192, .f32⟩
  | 23 => ⟨S3072, .f32⟩
  | 24 => ⟨S4x4x192, .f32⟩
  | 25 => ⟨S8x1024, .f32⟩
  | 26 => ⟨S8192, .f32⟩
  | 27 => ⟨S7936, .f32⟩
  | 28 => ⟨S4x31x64, .f32⟩
  | 29 => ⟨S64x1024, .f32⟩
  | 30 => ⟨S65536, .f32⟩
  | 31 => ⟨S4x64x256, .f32⟩
  | 32 => ⟨S64x1024, .f32⟩
  | 33 => ⟨S65536, .f32⟩
  | 34 => ⟨S4x64x256, .f32⟩
  | 35 => ⟨S8x1024, .f32⟩
  | 36 => ⟨S8192, .f32⟩
  | 37 => ⟨S768, .f32⟩
  | 38 => ⟨S4x3x64, .f32⟩
  | 39 => ⟨S8x1024, .f32⟩
  | 40 => ⟨S8192, .f32⟩
  | 41 => ⟨S3072, .f32⟩
  | 42 => ⟨S4x4x192, .f32⟩
  | 43 => ⟨S8x1024, .f32⟩
  | 44 => ⟨S8192, .f32⟩
  | 45 => ⟨S7936, .f32⟩
  | 46 => ⟨S4x31x64, .f32⟩
  | 47 => ⟨S64x1024, .f32⟩
  | 48 => ⟨S65536, .f32⟩
  | 49 => ⟨S4x64x256, .f32⟩
  | 50 => ⟨S64x1024, .f32⟩
  | 51 => ⟨S65536, .f32⟩
  | 52 => ⟨S4x64x256, .f32⟩
  | 53 => ⟨S8x1024, .f32⟩
  | 54 => ⟨S8192, .f32⟩
  | 55 => ⟨S768, .f32⟩
  | 56 => ⟨S4x3x64, .f32⟩
  | 57 => ⟨S8x1024, .f32⟩
  | 58 => ⟨S8192, .f32⟩
  | 59 => ⟨S3072, .f32⟩
  | 60 => ⟨S4x4x192, .f32⟩
  | _ => ⟨S4x31x64, .f32⟩

abbrev hbmTy (i : Nat) : BufTy := match i / 128 with
  | 0 => hbmTy0_0 i
  | 1 => hbmTy0_1 i
  | _ => ⟨S4x31x64, .f32⟩

abbrev bufTy : (tb : Table) → Fin (tcTables nBuf tb) → BufTy
  | .hbm, ⟨i, _⟩ => hbmTy i
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | _, _ => ⟨S4x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_call2_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_call3_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_call4_v0 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_call5_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_call6_v0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_6 : Ref sig .tc := ⟨.hbm, 59, rfl⟩
abbrev main_call7_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_7 : Ref sig .tc := ⟨.hbm, 64, rfl⟩
abbrev main_call8_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_8 : Ref sig .tc := ⟨.hbm, 69, rfl⟩
abbrev main_call9_v0 : Ref sig .tc := ⟨.hbm, 70, rfl⟩
abbrev main_v30 : Ref sig .tc := ⟨.hbm, 71, rfl⟩
abbrev main_v31 : Ref sig .tc := ⟨.hbm, 72, rfl⟩
abbrev main_cst_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_10 : Ref sig .tc := ⟨.hbm, 77, rfl⟩
abbrev main_call10_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_11 : Ref sig .tc := ⟨.hbm, 82, rfl⟩
abbrev main_call11_v0 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_12 : Ref sig .tc := ⟨.hbm, 87, rfl⟩
abbrev main_call12_v0 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_13 : Ref sig .tc := ⟨.hbm, 92, rfl⟩
abbrev main_call13_v0 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_c_14 : Ref sig .tc := ⟨.hbm, 97, rfl⟩
abbrev main_call14_v0 : Ref sig .tc := ⟨.hbm, 98, rfl⟩
abbrev main_v47 : Ref sig .tc := ⟨.hbm, 99, rfl⟩
abbrev main_v48 : Ref sig .tc := ⟨.hbm, 100, rfl⟩
abbrev main_cst_15 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_16 : Ref sig .tc := ⟨.hbm, 105, rfl⟩
abbrev main_call15_v0 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_17 : Ref sig .tc := ⟨.hbm, 110, rfl⟩
abbrev main_call16_v0 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_18 : Ref sig .tc := ⟨.hbm, 115, rfl⟩
abbrev main_call17_v0 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_19 : Ref sig .tc := ⟨.hbm, 120, rfl⟩
abbrev main_call18_v0 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_20 : Ref sig .tc := ⟨.hbm, 125, rfl⟩
abbrev main_call19_v0 : Ref sig .tc := ⟨.hbm, 126, rfl⟩
abbrev main_v64 : Ref sig .tc := ⟨.hbm, 127, rfl⟩
abbrev main_v65 : Ref sig .tc := ⟨.hbm, 128, rfl⟩
abbrev main_cst_21 : Ref sig .tc := ⟨.hbm, 129, rfl⟩
abbrev main_v66 : Ref sig .tc := ⟨.hbm, 130, rfl⟩
abbrev main_v67 : Ref sig .tc := ⟨.hbm, 131, rfl⟩
abbrev main_v68_0 : Ref sig .tc := ⟨.hbm, 132, rfl⟩
abbrev main_v68_1 : Ref sig .tc := ⟨.hbm, 133, rfl⟩
abbrev main_v68_2 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S4x31x64 : Shape := ⟨3, ![4, 31, 64]⟩
abbrev S4x64x256 : Shape := ⟨3, ![4, 64, 256]⟩
abbrev S4x3x64 : Shape := ⟨3, ![4, 3, 64]⟩
abbrev S4x4x192 : Shape := ⟨3, ![4, 4, 192]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S4x31x64, .f32⟩
  | 1 => ⟨S4x64x256, .f32⟩
  | 2 => ⟨S4x64x256, .f32⟩
  | 3 => ⟨S4x3x64, .f32⟩
  | 4 => ⟨S4x4x192, .f32⟩
  | 5 => ⟨S4x31x64, .f32⟩
  | 6 => ⟨S4x64x256, .f32⟩
  | 7 => ⟨S4x64x256, .f32⟩
  | 8 => ⟨S4x3x64, .f32⟩
  | 9 => ⟨S4x4x192, .f32⟩
  | 10 => ⟨S4x31x64, .f32⟩
  | 11 => ⟨S4x64x256, .f32⟩
  | 12 => ⟨S4x64x256, .f32⟩
  | 13 => ⟨S4x3x64, .f32⟩
  | 14 => ⟨S4x4x192, .f32⟩
  | 15 => ⟨S4x31x64, .f32⟩
  | 16 => ⟨S4x64x256, .f32⟩
  | 17 => ⟨S4x64x256, .f32⟩
  | 18 => ⟨S4x3x64, .f32⟩
  | 19 => ⟨S4x4x192, .f32⟩
  | 20 => ⟨S_, .f32⟩
  | 21 => ⟨S4x31x64, .f32⟩
  | 22 => ⟨S4x31x64, .f32⟩
  | 23 => ⟨S_, .f32⟩
  | 24 => ⟨S4x31x64, .f32⟩
  | 25 => ⟨S4x31x64, .f32⟩
  | 26 => ⟨S4x31x64, .f32⟩
  | 27 => ⟨S_, .f32⟩
  | 28 => ⟨S4x31x64, .f32⟩
  | 29 => ⟨S4x31x64, .f32⟩
  | 30 => ⟨S4x31x64, .f32⟩
  | 31 => ⟨S_, .f32⟩
  | 32 => ⟨S4x31x64, .f32⟩
  | 33 => ⟨S4x31x64, .f32⟩
  | 34 => ⟨S4x31x64, .f32⟩
  | 35 => ⟨S_, .f32⟩
  | 36 => ⟨S4x31x64, .f32⟩
  | 37 => ⟨S4x31x64, .f32⟩
  | 38 => ⟨S_, .f32⟩
  | 39 => ⟨S4x31x64, .f32⟩
  | 40 => ⟨S4x31x64, .f32⟩
  | 41 => ⟨S4x31x64, .f32⟩
  | 42 => ⟨S_, .f32⟩
  | 43 => ⟨S4x31x64, .f32⟩
  | 44 => ⟨S4x31x64, .f32⟩
  | 45 => ⟨S4x31x64, .f32⟩
  | 46 => ⟨S_, .f32⟩
  | 47 => ⟨S4x31x64, .f32⟩
  | 48 => ⟨S4x31x64, .f32⟩
  | 49 => ⟨S4x31x64, .f32⟩
  | 50 => ⟨S_, .f32⟩
  | 51 => ⟨S4x31x64, .f32⟩
  | 52 => ⟨S4x31x64, .f32⟩
  | 53 => ⟨S_, .f32⟩
  | 54 => ⟨S4x64x256, .f32⟩
  | 55 => ⟨S4x64x256, .f32⟩
  | 56 => ⟨S_, .f32⟩
  | 57 => ⟨S4x64x256, .f32⟩
  | 58 => ⟨S4x64x256, .f32⟩
  | 59 => ⟨S4x64x256, .f32⟩
  | 60 => ⟨S_, .f32⟩
  | 61 => ⟨S4x64x256, .f32⟩
  | 62 => ⟨S4x64x256, .f32⟩
  | 63 => ⟨S4x64x256, .f32⟩
  | 64 => ⟨S_, .f32⟩
  | 65 => ⟨S4x64x256, .f32⟩
  | 66 => ⟨S4x64x256, .f32⟩
  | 67 => ⟨S4x64x256, .f32⟩
  | 68 => ⟨S_, .f32⟩
  | 69 => ⟨S4x64x256, .f32⟩
  | 70 => ⟨S4x64x256, .f32⟩
  | 71 => ⟨S_, .f32⟩
  | 72 => ⟨S4x64x256, .f32⟩
  | 73 => ⟨S4x64x256, .f32⟩
  | 74 => ⟨S4x64x256, .f32⟩
  | 75 => ⟨S_, .f32⟩
  | 76 => ⟨S4x64x256, .f32⟩
  | 77 => ⟨S4x64x256, .f32⟩
  | 78 => ⟨S4x64x256, .f32⟩
  | 79 => ⟨S_, .f32⟩
  | 80 => ⟨S4x64x256, .f32⟩
  | 81 => ⟨S4x64x256, .f32⟩
  | 82 => ⟨S4x64x256, .f32⟩
  | 83 => ⟨S_, .f32⟩
  | 84 => ⟨S4x64x256, .f32⟩
  | 85 => ⟨S4x64x256, .f32⟩
  | 86 => ⟨S_, .f32⟩
  | 87 => ⟨S4x64x256, .f32⟩
  | 88 => ⟨S4x64x256, .f32⟩
  | 89 => ⟨S_, .f32⟩
  | 90 => ⟨S4x64x256, .f32⟩
  | 91 => ⟨S4x64x256, .f32⟩
  | 92 => ⟨S4x64x256, .f32⟩
  | 93 => ⟨S_, .f32⟩
  | 94 => ⟨S4x64x256, .f32⟩
  | 95 => ⟨S4x64x256, .f32⟩
  | 96 => ⟨S4x64x256, .f32⟩
  | 97 => ⟨S_, .f32⟩
  | 98 => ⟨S4x64x256, .f32⟩
  | 99 => ⟨S4x64x256, .f32⟩
  | 100 => ⟨S4x64x256, .f32⟩
  | 101 => ⟨S_, .f32⟩
  | 102 => ⟨S4x64x256, .f32⟩
  | 103 => ⟨S4x64x256, .f32⟩
  | 104 => ⟨S_, .f32⟩
  | 105 => ⟨S4x64x256, .f32⟩
  | 106 => ⟨S4x64x256, .f32⟩
  | 107 => ⟨S4x64x256, .f32⟩
  | 108 => ⟨S_, .f32⟩
  | 109 => ⟨S4x64x256, .f32⟩
  | 110 => ⟨S4x64x256, .f32⟩
  | 111 => ⟨S4x64x256, .f32⟩
  | 112 => ⟨S_, .f32⟩
  | 113 => ⟨S4x64x256, .f32⟩
  | 114 => ⟨S4x64x256, .f32⟩
  | 115 => ⟨S4x64x256, .f32⟩
  | 116 => ⟨S_, .f32⟩
  | 117 => ⟨S4x64x256, .f32⟩
  | 118 => ⟨S4x64x256, .f32⟩
  | 119 => ⟨S_, .f32⟩
  | 120 => ⟨S4x3x64, .f32⟩
  | 121 => ⟨S4x3x64, .f32⟩
  | 122 => ⟨S_, .f32⟩
  | 123 => ⟨S4x3x64, .f32⟩
  | 124 => ⟨S4x3x64, .f32⟩
  | 125 => ⟨S4x3x64, .f32⟩
  | 126 => ⟨S_, .f32⟩
  | 127 => ⟨S4x3x64, .f32⟩
  | _ => ⟨S4x31x64, .f32⟩

abbrev hbmTy0_1 (i : Nat) : BufTy := match i % 128 with
  | 0 => ⟨S4x3x64, .f32⟩
  | 1 => ⟨S4x3x64, .f32⟩
  | 2 => ⟨S_, .f32⟩
  | 3 => ⟨S4x3x64, .f32⟩
  | 4 => ⟨S4x3x64, .f32⟩
  | 5 => ⟨S4x3x64, .f32⟩
  | 6 => ⟨S_, .f32⟩
  | 7 => ⟨S4x3x64, .f32⟩
  | 8 => ⟨S4x3x64, .f32⟩
  | 9 => ⟨S_, .f32⟩
  | 10 => ⟨S4x3x64, .f32⟩
  | 11 => ⟨S4x3x64, .f32⟩
  | 12 => ⟨S4x3x64, .f32⟩
  | 13 => ⟨S_, .f32⟩
  | 14 => ⟨S4x3x64, .f32⟩
  | 15 => ⟨S4x3x64, .f32⟩
  | 16 => ⟨S4x3x64, .f32⟩
  | 17 => ⟨S_, .f32⟩
  | 18 => ⟨S4x3x64, .f32⟩
  | 19 => ⟨S4x3x64, .f32⟩
  | 20 => ⟨S4x3x64, .f32⟩
  | 21 => ⟨S_, .f32⟩
  | 22 => ⟨S4x3x64, .f32⟩
  | 23 => ⟨S4x3x64, .f32⟩
  | 24 => ⟨S_, .f32⟩
  | 25 => ⟨S4x4x192, .f32⟩
  | 26 => ⟨S4x4x192, .f32⟩
  | 27 => ⟨S_, .f32⟩
  | 28 => ⟨S4x4x192, .f32⟩
  | 29 => ⟨S4x4x192, .f32⟩
  | 30 => ⟨S4x4x192, .f32⟩
  | 31 => ⟨S_, .f32⟩
  | 32 => ⟨S4x4x192, .f32⟩
  | 33 => ⟨S4x4x192, .f32⟩
  | 34 => ⟨S4x4x192, .f32⟩
  | 35 => ⟨S_, .f32⟩
  | 36 => ⟨S4x4x192, .f32⟩
  | 37 => ⟨S4x4x192, .f32⟩
  | 38 => ⟨S4x4x192, .f32⟩
  | 39 => ⟨S_, .f32⟩
  | 40 => ⟨S4x4x192, .f32⟩
  | 41 => ⟨S4x4x192, .f32⟩
  | 42 => ⟨S_, .f32⟩
  | 43 => ⟨S4x4x192, .f32⟩
  | 44 => ⟨S4x4x192, .f32⟩
  | 45 => ⟨S4x4x192, .f32⟩
  | 46 => ⟨S_, .f32⟩
  | 47 => ⟨S4x4x192, .f32⟩
  | 48 => ⟨S4x4x192, .f32⟩
  | 49 => ⟨S4x4x192, .f32⟩
  | 50 => ⟨S_, .f32⟩
  | 51 => ⟨S4x4x192, .f32⟩
  | 52 => ⟨S4x4x192, .f32⟩
  | 53 => ⟨S4x4x192, .f32⟩
  | 54 => ⟨S_, .f32⟩
  | 55 => ⟨S4x4x192, .f32⟩
  | 56 => ⟨S4x4x192, .f32⟩
  | _ => ⟨S4x31x64, .f32⟩

abbrev hbmTy (i : Nat) : BufTy := match i / 128 with
  | 0 => hbmTy0_0 i
  | 1 => hbmTy0_1 i
  | _ => ⟨S4x31x64, .f32⟩

abbrev bufTy : (tb : Table) → Fin (tcTables nBuf tb) → BufTy
  | .hbm, ⟨i, _⟩ => hbmTy i
  | _, _ => ⟨S4x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== AdamRepl.lean ====
abbrev S384x1024 : Shape := ⟨2, ![384, 1024]⟩

abbrev nBuf : Space → Nat
  | .hbm => 7
  | .vmem => 7
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamReplRefIdeal.lean ====
abbrev S384x1024 : Shape := ⟨2, ![384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S_, .f32⟩
  | .hbm, ⟨5, _⟩ => ⟨S384x1024, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S_, .f32⟩
  | .hbm, ⟨12, _⟩ => ⟨S384x1024, .f32⟩
  | .hbm, ⟨13, _⟩ => ⟨S384x1024, .f32⟩
  | .hbm, ⟨14, _⟩ => ⟨S384x1024, .f32⟩
  | .hbm, ⟨15, _⟩ => ⟨S_, .f32⟩
  | .hbm, ⟨16, _⟩ => ⟨S384x1024, .f32⟩
  | .hbm, ⟨17, _⟩ => ⟨S384x1024, .f32⟩
  | .hbm, ⟨18, _⟩ => ⟨S384x1024, .f32⟩
  | .hbm, ⟨19, _⟩ => ⟨S_, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S384x1024, .f32⟩
  | .hbm, ⟨26, _⟩ => ⟨S_, .f32⟩
  | .hbm, ⟨27, _⟩ => ⟨S384x1024, .f32⟩
  | .hbm, ⟨28, _⟩ => ⟨S384x1024, .f32⟩
  | .hbm, ⟨29, _⟩ => ⟨S384x1024, .f32⟩
  | .hbm, ⟨30, _⟩ => ⟨S_, .f32⟩
  | .hbm, ⟨31, _⟩ => ⟨S384x1024, .f32⟩
  | .hbm, ⟨32, _⟩ => ⟨S384x1024, .f32⟩
  | .hbm, ⟨33, _⟩ => ⟨S384x1024, .f32⟩
  | .hbm, ⟨34, _⟩ => ⟨S_, .f32⟩
  | .hbm, ⟨35, _⟩ => ⟨S384x1024, .f32⟩
  | .hbm, ⟨36, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S8x512x834 : Shape := ⟨3, ![8, 512, 834]⟩
abbrev S512x834 : Shape := ⟨2, ![512, 834]⟩
abbrev S8x256x834 : Shape := ⟨3, ![8, 256, 834]⟩
abbrev S256x834 : Shape := ⟨2, ![256, 834]⟩
abbrev S1x256x834 : Shape := ⟨3, ![1, 256, 834]⟩

abbrev nBuf : Space → Nat
  | .hbm => 3
  | .vmem => 4
  | .smem => 0
  | _ => 0

abbrev bufTy : (tb : Table) → Fin (tcTables nBuf tb) → BufTy
  | .hbm, ⟨0, _⟩ => ⟨S8x512x834, .f32⟩
  | .hbm, ⟨1, _⟩ => ⟨S8x512x834, .bf16⟩
  | .hbm, ⟨2, _⟩ => ⟨S512x834, .f32⟩
  | .local _ .vmem, ⟨0, _⟩ => ⟨S8x256x834, .bf16⟩
  | .local _ .vmem, ⟨1, _⟩ => ⟨S8x256x834, .bf16⟩
  | .local _ .vmem, ⟨2, _⟩ => ⟨S256x834, .f32⟩
  | .local _ .vmem, ⟨3, _⟩ => ⟨S256x834, .f32⟩
  | _, _ => ⟨S8x512x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x834 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x512x834 : Shape := ⟨3, ![8, 512, 834]⟩
abbrev S_ : Shape := ⟨0, ![]⟩
abbrev S512x834 : Shape := ⟨2, ![512, 834]⟩

abbrev nBuf : Space → Nat
  | .hbm => 3
  | .vmem => 0
  | .smem => 0
  | _ => 0

abbrev bufTy : (tb : Table) → Fin (tcTables nBuf tb) → BufTy
  | .hbm, ⟨0, _⟩ => ⟨S8x512x834, .f32⟩
  | .hbm, ⟨1, _⟩ => ⟨S_, .f32⟩
  | .hbm, ⟨2, _⟩ => ⟨S512x834, .f32⟩
  | _, _ => ⟨S8x512x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmall.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumRepl.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReplRefIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== S5Prep.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S1x16 : Shape := ⟨2, ![1, 16]⟩
abbrev S_ : Shape := ⟨0, ![]⟩
abbrev S1x128 : Shape := ⟨2, ![1, 128]⟩
abbrev S16x1024 : Shape := ⟨2, ![16, 1024]⟩
abbrev S256x2048 : Shape := ⟨2, ![256, 2048]⟩
abbrev S128x1024 : Shape := ⟨2, ![128, 1024]⟩
abbrev S8x128 : Shape := ⟨2, ![8, 128]⟩
abbrev S8x1024 : Shape := ⟨2, ![8, 1024]⟩
abbrev S256x1024 : Shape := ⟨2, ![256, 1024]⟩

abbrev nBuf : Space → Nat
  | .hbm => 25
  | .vmem => 11
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S1x16, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S16x16x64, .f32⟩
  | .hbm, ⟨14, _⟩ => ⟨S16x1024, .f32⟩
  | .hbm, ⟨15, _⟩ => ⟨S16x16x64, .f32⟩
  | .hbm, ⟨16, _⟩ => ⟨S16x1024, .f32⟩
  | .hbm, ⟨17, _⟩ => ⟨S16x16x64, .f32⟩
  | .hbm, ⟨18, _⟩ => ⟨S16x1024, .f32⟩
  | .hbm, ⟨19, _⟩ => ⟨S16x16x64, .f32⟩
  | .hbm, ⟨20, _⟩ => ⟨S16x1024, .f32⟩
  | .hbm, ⟨21, _⟩ => ⟨S1x1024, .f32⟩
  | .hbm, ⟨22, _⟩ => ⟨S1x1024, .f32⟩
  | .hbm, ⟨23, _⟩ => ⟨S256x2048, .f32⟩
  | .hbm, ⟨24, _⟩ => ⟨S256x2048, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== S5PrepRefIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S_ : Shape := ⟨0, ![]⟩
abbrev S16x1 : Shape := ⟨2, ![16, 1]⟩
abbrev S16x64x1 : Shape := ⟨3, ![16, 64, 1]⟩
abbrev S16x16x16x64 : Shape := ⟨4, ![16, 16, 16, 64]⟩
abbrev S16x16x1x64 : Shape := ⟨4, ![16, 16, 1, 64]⟩
abbrev S256x1024 : Shape := ⟨2, ![256, 1024]⟩
abbrev S256x2048 : Shape := ⟨2, ![256, 2048]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x1, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S_, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64x1, .f32⟩
  | .hbm, ⟨32, _⟩ => ⟨S16x64, .f32⟩
  | .hbm, ⟨33, _⟩ => ⟨S_, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64x1, .f32⟩
  | .hbm, ⟨40, _⟩ => ⟨S16x64x16, .f32⟩
  | .hbm, ⟨41, _⟩ => ⟨S16x64x16, .f32⟩
  | .hbm, ⟨42, _⟩ => ⟨S16x64x16, .f32⟩
  | .hbm, ⟨43, _⟩ => ⟨S16x64x16, .f32⟩
  | .hbm, ⟨44, _⟩ => ⟨S16x64x16, .f32⟩
  | .hbm, ⟨45, _⟩ => ⟨S16x16x64, .f32⟩
  | .hbm, ⟨46, _⟩ => ⟨S16x64x16, .f32⟩
  | .hbm, ⟨47, _⟩ => ⟨S16x64x16, .f32⟩
  | .hbm, ⟨48, _⟩ => ⟨S16x64x16, .f32⟩
  | .hbm, ⟨49, _⟩ => ⟨S16x64x16, .f32⟩
  | .hbm, ⟨50, _⟩ => ⟨S16x64x16, .f32⟩
  | .hbm, ⟨51, _⟩ => ⟨S16x16x64, .f32⟩
  | .hbm, ⟨52, _⟩ => ⟨S16x16x16x64, .i32⟩
  | .hbm, ⟨53, _⟩ => ⟨S16x16x16x64, .i32⟩
  | .hbm, ⟨54, _⟩ => ⟨S16x16x16x64, .i1⟩
  | .hbm, ⟨55, _⟩ => ⟨S16x16x16x64, .f32⟩
  | .hbm, ⟨56, _⟩ => ⟨S16x16x1x64, .f32⟩
  | .hbm, ⟨57, _⟩ => ⟨S16x16x16x64, .f32⟩
  | .hbm, ⟨58, _⟩ => ⟨S16x16x16x64, .f32⟩
  | .hbm, ⟨59, _⟩ => ⟨S256x1024, .f32⟩
  | .hbm, ⟨60, _⟩ => ⟨S16x16x16x64, .i32⟩
  | .hbm, ⟨61, _⟩ => ⟨S16x16x16x64, .i32⟩
  | .hbm, ⟨62, _⟩ => ⟨S16x16x16x64, .i1⟩
  | .hbm, ⟨63, _⟩ => ⟨S16x16x16x64, .f32⟩
  | .hbm, ⟨64, _⟩ => ⟨S16x16x1x64, .f32⟩
  | .hbm, ⟨65, _⟩ => ⟨S16x16x16x64, .f32⟩
  | .hbm, ⟨66, _⟩ => ⟨S16x16x16x64, .f32⟩
  | .hbm, ⟨67, _⟩ => ⟨S256x1024, .f32⟩
  | .hbm, ⟨68, _⟩ => ⟨S256x2048, .f32⟩
  | .hbm, ⟨69, _⟩ => ⟨S16x16x16x64, .i32⟩
  | .hbm, ⟨70, _⟩ => ⟨S16x16x16x64, .i32⟩
  | .hbm, ⟨71, _⟩ => ⟨S16x16x16x64, .i1⟩
  | .hbm, ⟨72, _⟩ => ⟨S16x16x16x64, .f32⟩
  | .hbm, ⟨73, _⟩ => ⟨S16x16x1x64, .f32⟩
  | .hbm, ⟨74, _⟩ => ⟨S16x16x16x64, .f32⟩
  | .hbm, ⟨75, _⟩ => ⟨S16x16x16x64, .f32⟩
  | .hbm, ⟨76, _⟩ => ⟨S256x1024, .f32⟩
  | .hbm, ⟨77, _⟩ => ⟨S16x16x64, .f32⟩
  | .hbm, ⟨78, _⟩ => ⟨S16x16x16x64, .i32⟩
  | .hbm, ⟨79, _⟩ => ⟨S16x16x16x64, .i32⟩
  | .hbm, ⟨80, _⟩ => ⟨S16x16x16x64, .i1⟩
  | .hbm, ⟨81, _⟩ => ⟨S16x16x16x64, .f32⟩
  | .hbm, ⟨82, _⟩ => ⟨S16x16x1x64, .f32⟩
  | .hbm, ⟨83, _⟩ => ⟨S16x16x16x64, .f32⟩
  | .hbm, ⟨84, _⟩ => ⟨S16x16x16x64, .f32⟩
  | .hbm, ⟨85, _⟩ => ⟨S256x1024, .f32⟩
  | .hbm, ⟨86, _⟩ => ⟨S256x2048, .f32⟩
  | .hbm, ⟨87, _⟩ => ⟨S1x1024, .f32⟩
  | .hbm, ⟨88, _⟩ => ⟨S1x1024, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩

abbrev nD : Nat := 1
abbrev τ : Topo := Topo.v7x

variable {F : FTy → Type} [FloatOps F]
-- ==== S5PrepBwd.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x2048 : Shape := ⟨2, ![256, 2048]⟩
abbrev S1x16 : Shape := ⟨2, ![1, 16]⟩
abbrev S_ : Shape := ⟨0, ![]⟩
abbrev S1x128 : Shape := ⟨2, ![1, 128]⟩
abbrev S16x1024 : Shape := ⟨2, ![16, 1024]⟩
abbrev S128x1024 : Shape := ⟨2, ![128, 1024]⟩
abbrev S8x128 : Shape := ⟨2, ![8, 128]⟩
abbrev S8x1024 : Shape := ⟨2, ![8, 1024]⟩
abbrev S256x1024 : Shape := ⟨2, ![256, 1024]⟩
abbrev S1024 : Shape := ⟨1, ![1024]⟩
abbrev S7x1024 : Shape := ⟨2, ![7, 1024]⟩
abbrev S128 : Shape := ⟨1, ![128]⟩

abbrev nBuf : Space → Nat
  | .hbm => 32
  | .vmem => 18
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S256x2048, .f32⟩
  | .hbm, ⟨10, _⟩ => ⟨S256x2048, .f32⟩
  | .hbm, ⟨11, _⟩ => ⟨S1x1024, .f32⟩
  | .hbm, ⟨12, _⟩ => ⟨S1x1024, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S16x16x64, .f32⟩
  | .hbm, ⟨18, _⟩ => ⟨S16x1024, .f32⟩
  | .hbm, ⟨19, _⟩ => ⟨S16x16x64, .f32⟩
  | .hbm, ⟨20, _⟩ => ⟨S16x1024, .f32⟩
  | .hbm, ⟨21, _⟩ => ⟨S16x16x64, .f32⟩
  | .hbm, ⟨22, _⟩ => ⟨S16x1024, .f32⟩
  | .hbm, ⟨23, _⟩ => ⟨S16x16x64, .f32⟩
  | .hbm, ⟨24, _⟩ => ⟨S16x1024, .f32⟩
  | .hbm, ⟨25, _⟩ => ⟨S1x1024, .f32⟩
  | .hbm, ⟨26, _⟩ => ⟨S1x1024, .f32⟩
  | .hbm, ⟨27, _⟩ => ⟨S1x128, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1024, .f32⟩
  | .local _ .vmem, ⟨0, _⟩ => ⟨S1x1024, .f32⟩
  | .local _ .vmem, ⟨1, _⟩ => ⟨S1x1024, .f32⟩
  | .local _ .vmem, ⟨2, _⟩ => ⟨S1x128, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== S5PrepBwdRefIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x2048 : Shape := ⟨2, ![256, 2048]⟩
abbrev S_ : Shape := ⟨0, ![]⟩
abbrev S16x1 : Shape := ⟨2, ![16, 1]⟩
abbrev S16x64x1 : Shape := ⟨3, ![16, 64, 1]⟩
abbrev S16x16x16x64 : Shape := ⟨4, ![16, 16, 16, 64]⟩
abbrev S16x16x1x64 : Shape := ⟨4, ![16, 16, 1, 64]⟩
abbrev S256x1024 : Shape := ⟨2, ![256, 1024]⟩
abbrev S1x16 : Shape := ⟨2, ![1, 16]⟩
abbrev S1x128 : Shape := ⟨2, ![1, 128]⟩
abbrev S16x1024 : Shape := ⟨2, ![16, 1024]⟩

abbrev nBuf : Space → Nat
  | .hbm => 260
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x16x64, .f32⟩
  | 6 => ⟨S16x16x64, .f32⟩
  | 7 => ⟨S1x1024, .f32⟩
  | 8 => ⟨S1x1024, .f32⟩
  | 9 => ⟨S256x2048, .f32⟩
  | 10 => ⟨S256x2048, .f32⟩
  | 11 => ⟨S_, .f32⟩
  | 12 => ⟨S16x64, .f32⟩
  | 13 => ⟨S16x64, .f32⟩
  | 14 => ⟨S_, .f32⟩
  | 15 => ⟨S16x64, .f32⟩
  | 16 => ⟨S16x64, .i1⟩
  | 17 => ⟨S_, .f32⟩
  | 18 => ⟨S16x64, .f32⟩
  | 19 => ⟨S16x64, .i1⟩
  | 20 => ⟨S_, .f32⟩
  | 21 => ⟨S16x64, .f32⟩
  | 22 => ⟨S_, .f32⟩
  | 23 => ⟨S16x64, .f32⟩
  | 24 => ⟨S_, .f32⟩
  | 25 => ⟨S16x64, .f32⟩
  | 26 => ⟨S16x64, .f32⟩
  | 27 => ⟨S16x64, .f32⟩
  | 28 => ⟨S16x1, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S_, .f32⟩
  | 45 => ⟨S16x64, .f32⟩
  | 46 => ⟨S16x64, .f32⟩
  | 47 => ⟨S16x64, .f32⟩
  | 48 => ⟨S16x64, .f32⟩
  | 49 => ⟨S16x64, .f32⟩
  | 50 => ⟨S16x64, .f32⟩
  | 51 => ⟨S16x64, .f32⟩
  | 52 => ⟨S_, .f32⟩
  | 53 => ⟨S16x64, .f32⟩
  | 54 => ⟨S16x64, .f32⟩
  | 55 => ⟨S16x64x1, .f32⟩
  | 56 => ⟨S16x64, .f32⟩
  | 57 => ⟨S_, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S_, .f32⟩
  | 65 => ⟨S16x64, .f32⟩
  | 66 => ⟨S16x64, .f32⟩
  | 67 => ⟨S16x64x1, .f32⟩
  | 68 => ⟨S16x64x16, .f32⟩
  | 69 => ⟨S16x64x16, .f32⟩
  | 70 => ⟨S16x64x16, .f32⟩
  | 71 => ⟨S16x64x16, .f32⟩
  | 72 => ⟨S16x64x16, .f32⟩
  | 73 => ⟨S16x16x64, .f32⟩
  | 74 => ⟨S16x64x16, .f32⟩
  | 75 => ⟨S16x64x16, .f32⟩
  | 76 => ⟨S16x64x16, .f32⟩
  | 77 => ⟨S16x64x16, .f32⟩
  | 78 => ⟨S16x64x16, .f32⟩
  | 79 => ⟨S16x16x64, .f32⟩
  | 80 => ⟨S16x16x16x64, .i32⟩
  | 81 => ⟨S16x16x16x64, .i32⟩
  | 82 => ⟨S16x16x16x64, .i1⟩
  | 83 => ⟨S16x16x16x64, .f32⟩
  | 84 => ⟨S16x16x1x64, .f32⟩
  | 85 => ⟨S16x16x16x64, .f32⟩
  | 86 => ⟨S16x16x16x64, .f32⟩
  | 87 => ⟨S256x1024, .f32⟩
  | 88 => ⟨S16x16x16x64, .i32⟩
  | 89 => ⟨S16x16x16x64, .i32⟩
  | 90 => ⟨S16x16x16x64, .i1⟩
  | 91 => ⟨S16x16x16x64, .f32⟩
  | 92 => ⟨S16x16x1x64, .f32⟩
  | 93 => ⟨S16x16x16x64, .f32⟩
  | 94 => ⟨S16x16x16x64, .f32⟩
  | 95 => ⟨S256x1024, .f32⟩
  | 96 => ⟨S256x2048, .f32⟩
  | 97 => ⟨S16x16x16x64, .i32⟩
  | 98 => ⟨S16x16x16x64, .i32⟩
  | 99 => ⟨S16x16x16x64, .i1⟩
  | 100 => ⟨S16x16x16x64, .f32⟩
  | 101 => ⟨S16x16x1x64, .f32⟩
  | 102 => ⟨S16x16x16x64, .f32⟩
  | 103 => ⟨S16x16x16x64, .f32⟩
  | 104 => ⟨S256x1024, .f32⟩
  | 105 => ⟨S16x16x64, .f32⟩
  | 106 => ⟨S16x16x16x64, .i32⟩
  | 107 => ⟨S16x16x16x64, .i32⟩
  | 108 => ⟨S16x16x16x64, .i1⟩
  | 109 => ⟨S16x16x16x64, .f32⟩
  | 110 => ⟨S16x16x1x64, .f32⟩
  | 111 => ⟨S16x16x16x64, .f32⟩
  | 112 => ⟨S16x16x16x64, .f32⟩
  | 113 => ⟨S256x1024, .f32⟩
  | 114 => ⟨S256x2048, .f32⟩
  | 115 => ⟨S1x1024, .f32⟩
  | 116 => ⟨S1x1024, .f32⟩
  | 117 => ⟨S16x64, .f32⟩
  | 118 => ⟨S16x64, .f32⟩
  | 119 => ⟨S256x1024, .f32⟩
  | 120 => ⟨S256x1024, .f32⟩
  | 121 => ⟨S16x16x16x64, .f32⟩
  | 122 => ⟨S16x16x16x64, .f32⟩
  | 123 => ⟨S_, .f32⟩
  | 124 => ⟨S16x16x64, .f32⟩
  | 125 => ⟨S16x16x1x64, .f32⟩
  | 126 => ⟨S_, .f32⟩
  | 127 => ⟨S16x16x64, .f32⟩
  | _ => ⟨S16x64, .f32⟩

abbrev hbmTy0_1 (i : Nat) : BufTy := match i % 128 with
  | 0 => ⟨S16x16x64, .f32⟩
  | 1 => ⟨S16x16x16x64, .f32⟩
  | 2 => ⟨S16x16x16x64, .f32⟩
  | 3 => ⟨S_, .f32⟩
  | 4 => ⟨S16x16x64, .f32⟩
  | 5 => ⟨S16x16x1x64, .f32⟩
  | 6 => ⟨S_, .f32⟩
  | 7 => ⟨S16x16x64, .f32⟩
  | 8 => ⟨S256x1024, .f32⟩
  | 9 => ⟨S256x1024, .f32⟩
  | 10 => ⟨S16x16x16x64, .f32⟩
  | 11 => ⟨S16x16x16x64, .f32⟩
  | 12 => ⟨S_, .f32⟩
  | 13 => ⟨S16x16x64, .f32⟩
  | 14 => ⟨S16x16x1x64, .f32⟩
  | 15 => ⟨S_, .f32⟩
  | 16 => ⟨S16x16x64, .f32⟩
  | 17 => ⟨S16x16x16x64, .f32⟩
  | 18 => ⟨S16x16x16x64, .f32⟩
  | 19 => ⟨S_, .f32⟩
  | 20 => ⟨S16x16x64, .f32⟩
  | 21 => ⟨S16x16x1x64, .f32⟩
  | 22 => ⟨S_, .f32⟩
  | 23 => ⟨S16x16x64, .f32⟩
  | 24 => ⟨S16x64x16, .f32⟩
  | 25 => ⟨S16x64x16, .f32⟩
  | 26 => ⟨S16x64x16, .f32⟩
  | 27 => ⟨S16x64x16, .f32⟩
  | 28 => ⟨S_, .f32⟩
  | 29 => ⟨S16x64, .f32⟩
  | 30 => ⟨S16x64x1, .f32⟩
  | 31 => ⟨S16x64x16, .f32⟩
  | 32 => ⟨S16x64x16, .f32⟩
  | 33 => ⟨S16x64x16, .f32⟩
  | 34 => ⟨S_, .f32⟩
  | 35 => ⟨S16x64, .f32⟩
  | 36 => ⟨S16x64x1, .f32⟩
  | 37 => ⟨S16x64x16, .f32⟩
  | 38 => ⟨S16x64x16, .f32⟩
  | 39 => ⟨S16x64x16, .f32⟩
  | 40 => ⟨S16x64x16, .f32⟩
  | 41 => ⟨S16x64x16, .f32⟩
  | 42 => ⟨S16x64x16, .f32⟩
  | 43 => ⟨S_, .f32⟩
  | 44 => ⟨S16x64, .f32⟩
  | 45 => ⟨S16x64x1, .f32⟩
  | 46 => ⟨S16x64x1, .f32⟩
  | 47 => ⟨S16x64x16, .f32⟩
  | 48 => ⟨S16x64x16, .f32⟩
  | 49 => ⟨S16x64x16, .f32⟩
  | 50 => ⟨S16x64x16, .f32⟩
  | 51 => ⟨S_, .f32⟩
  | 52 => ⟨S16x64, .f32⟩
  | 53 => ⟨S16x64x1, .f32⟩
  | 54 => ⟨S16x64x1, .f32⟩
  | 55 => ⟨S_, .f32⟩
  | 56 => ⟨S16x64, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S16x64, .f32⟩
  | 65 => ⟨S16x64, .f32⟩
  | 66 => ⟨S16x64, .f32⟩
  | 67 => ⟨S16x64, .f32⟩
  | 68 => ⟨S_, .f32⟩
  | 69 => ⟨S16x64, .f32⟩
  | 70 => ⟨S16x64, .f32⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S16x64, .f32⟩
  | 78 => ⟨S16x64, .f32⟩
  | 79 => ⟨S16x64, .f32⟩
  | 80 => ⟨S16x64, .f32⟩
  | 81 => ⟨S16x64, .f32⟩
  | 82 => ⟨S16x64, .f32⟩
  | 83 => ⟨S16x64, .f32⟩
  | 84 => ⟨S16x64, .f32⟩
  | 85 => ⟨S16x64, .f32⟩
  | 86 => ⟨S16x64, .f32⟩
  | 87 => ⟨S16x64, .f32⟩
  | 88 => ⟨S16x64, .f32⟩
  | 89 => ⟨S16x64, .f32⟩
  | 90 => ⟨S16x64, .f32⟩
  | 91 => ⟨S16x64, .f32⟩
  | 92 => ⟨S16x64, .f32⟩
  | 93 => ⟨S16x64, .f32⟩
  | 94 => ⟨S16x64, .f32⟩
  | 95 => ⟨S16x64, .f32⟩
  | 96 => ⟨S16x64, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S16x64, .f32⟩
  | 107 => ⟨S16x64, .f32⟩
  | 108 => ⟨S16x64, .f32⟩
  | 109 => ⟨S16x64, .f32⟩
  | 110 => ⟨S16x64, .f32⟩
  | 111 => ⟨S16x64, .f32⟩
  | 112 => ⟨S_, .f32⟩
  | 113 => ⟨S16, .f32⟩
  | 114 => ⟨S16x1, .f32⟩
  | 115 => ⟨S_, .f32⟩
  | 116 => ⟨S16, .f32⟩
  | 117 => ⟨S16x64, .f32⟩
  | 118 => ⟨S1x1024, .f32⟩
  | 119 => ⟨S1x1024, .f32⟩
  | 120 => ⟨S1x16, .f32⟩
  | 121 => ⟨S_, .i32⟩
  | 122 => ⟨S_, .f32⟩
  | 123 => ⟨S1x128, .f32⟩
  | 124 => ⟨S16x16x64, .f32⟩
  | 125 => ⟨S16x1024, .f32⟩
  | 126 => ⟨S16x16x64, .f32⟩
  | 127 => ⟨S16x1024, .f32⟩
  | _ => ⟨S16x64, .f32⟩

abbrev hbmTy0_2 (i : Nat) : BufTy := match i % 128 with
  | 0 => ⟨S16x16x64, .f32⟩
  | 1 => ⟨S16x1024, .f32⟩
  | 2 => ⟨S16x16x64, .f32⟩
  | 3 => ⟨S16x1024, .f32⟩
  | _ => ⟨S16x64, .f32⟩

abbrev hbmTy (i : Nat) : BufTy := match i / 128 with
  | 0 => hbmTy0_0 i
  | 1 => hbmTy0_1 i
  | 2 => hbmTy0_2 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_cst_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_9 : Ref sig .tc := ⟨.hbm, 123, rfl⟩
abbrev main_v102 : Ref sig .tc := ⟨.hbm, 124, rfl⟩
abbrev main_v103 : Ref sig .tc := ⟨.hbm, 125, rfl⟩
abbrev main_cst_10 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_11 : Ref sig .tc := ⟨.hbm, 131, rfl⟩
abbrev main_v108 : Ref sig .tc := ⟨.hbm, 132, rfl⟩
abbrev main_v109 : Ref sig .tc := ⟨.hbm, 133, rfl⟩
abbrev main_cst_12 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_13 : Ref sig .tc := ⟨.hbm, 140, rfl⟩
abbrev main_v115 : Ref sig .tc := ⟨.hbm, 141, rfl⟩
abbrev main_v116 : Ref sig .tc := ⟨.hbm, 142, rfl⟩
abbrev main_cst_14 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_15 : Ref sig .tc := ⟨.hbm, 147, rfl⟩
abbrev main_v120 : Ref sig .tc := ⟨.hbm, 148, rfl⟩
abbrev main_v121 : Ref sig .tc := ⟨.hbm, 149, rfl⟩
abbrev main_cst_16 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_17 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_19 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_20 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_21 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_22 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_cst_23 : Ref sig .tc := ⟨.hbm, 240, rfl⟩
abbrev main_v205 : Ref sig .tc := ⟨.hbm, 241, rfl⟩
abbrev main_v206 : Ref sig .tc := ⟨.hbm, 242, rfl⟩
abbrev main_cst_24 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_c : Ref sig .tc := ⟨.hbm, 249, rfl⟩
abbrev main_call0_v0 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩

abbrev nD : Nat := 1
abbrev τ : Topo := Topo.v7x

variable {F : FTy → Type} [FloatOps F]
-- ==== Proof.ShortConvTile.lean ====
module

public import proofs.«01_k».proof.Proof.Gen.ShortConvIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # What one tile of the short gated convolution's gradient computes

The stored values of the kernel's body, each read at an index, over the blocks the body loads: `v11`, `v12` the tile's
two conv inputs, `v6`, `v7` the same for the eight rows before it, `v34` the gate before the convolution, `v35` the gate
behind the SiLU, `v42` the cotangent, and the taps one row each. -/

namespace Cert.ShortConvIdeal.Tile

open Cert.ShortConvIdeal Cert.ShortConvIdeal.Gen

/-- The extended tile: eight rows before it (times the word that drops them at the array's first tile), then its own. -/
theorem ext_apply (i : grid0.Coords) (v6 v7 : FVec Ideal S8x256 .f32) (v11 v12 : FVec Ideal S256x256 .f32)
    (e : Fin 264) (j : Fin 256) :
    k0_pay3 (F := Ideal) i v6 v7 v11 v12 (ix2 e j)
      = if h : e.val < 8 then v6 (ix2 ⟨e.val, h⟩ j) * v7 (ix2 ⟨e.val, h⟩ j)
            * (Scalar.sitofp .f32 (Scalar.extui (Scalar.cmpi .slt (BitVec.ofNat 32 (i 0).val) 15#32) : BitVec 32) : Ideal .f32)
        else v11 (ix2 ⟨e.val - 8, by omega⟩ j) * v12 (ix2 ⟨e.val - 8, by omega⟩ j) := by
  pointwise [k0_pay3]

/-- The convolution at a tile row: three rows of the extended tile against the three taps. -/
theorem conv_apply (i : grid0.Coords) (v6 v7 : FVec Ideal S8x256 .f32) (v11 v12 : FVec Ideal S256x256 .f32)
    (w0 w1 w2 : FVec Ideal S1x256 .f32) (r : Fin 256) (j : Fin 256) :
    k0_pay4 (F := Ideal) i v6 v7 v11 v12 w0 w1 w2 (ix2 r j)
      = k0_pay3 (F := Ideal) i v6 v7 v11 v12 (ix2 ⟨r.val + 6, by omega⟩ j) * w0 (ix2 0 j)
        + k0_pay3 (F := Ideal) i v6 v7 v11 v12 (ix2 ⟨r.val + 7, by omega⟩ j) * w1 (ix2 0 j)
        + k0_pay3 (F := Ideal) i v6 v7 v11 v12 (ix2 ⟨r.val + 8, by omega⟩ j) * w2 (ix2 0 j) := by
  pointwise [k0_pay4]
  generalize k0_pay3 (F := Ideal) i v6 v7 v11 v12 = E
  blk_point []

/-- The convolution output's cotangent at a tile row. -/
theorem dconv_apply (v34 v35 v42 : FVec Ideal S256x256 .f32) (r j : Fin 256) :
    k0_pay8 (F := Ideal) v34 v35 v42 (ix2 r j)
      = v34 (ix2 r j) * (v42 (ix2 r j) * (v35 (ix2 r j) * Ideal.logistic (v35 (ix2 r j)))) := by
  pointwise [k0_pay8, k0_pay6, k0_pay5]

/-- The cotangent with eight zero rows behind it, what the transposed convolution reads. -/
theorem padded_apply (v34 v35 v42 : FVec Ideal S256x256 .f32) (e : Fin 264) (j : Fin 256) :
    k0_pay10 (F := Ideal) v34 v35 v42 (ix2 e j)
      = if h : e.val < 256 then k0_pay8 (F := Ideal) v34 v35 v42 (ix2 ⟨e.val, h⟩ j) else 0 := by
  pointwise [k0_pay10]

/-- The transposed convolution over the extended tile. -/
theorem dext_apply (v34 v35 v42 : FVec Ideal S256x256 .f32) (w0 w1 w2 : FVec Ideal S1x256 .f32) (e : Fin 264) (j : Fin 256) :
    k0_pay15 (F := Ideal) (k0_pay10 (F := Ideal) v34 v35 v42) (k0_pay12 (F := Ideal) v34 v35 v42 w0) w1 w2 (ix2 e j)
      = k0_pay10 (F := Ideal) v34 v35 v42 (ix2 ⟨(e.val + 264 - 6) % 264, by omega⟩ j) * w0 (ix2 0 j)
        + k0_pay10 (F := Ideal) v34 v35 v42 (ix2 ⟨(e.val + 264 - 7) % 264, by omega⟩ j) * w1 (ix2 0 j)
        + k0_pay10 (F := Ideal) v34 v35 v42 (ix2 ⟨(e.val + 264 - 8) % 264, by omega⟩ j) * w2 (ix2 0 j) := by
  pointwise [k0_pay15, k0_pay12]

/-- The conv input's cotangent over a tile: the transposed convolution, and the carried rows under its last eight. -/
theorem du_apply (v52 v66 : FVec Ideal S264x256 .f32) (w1 w2 : FVec Ideal S1x256 .f32)
    (v97 : FVec Ideal S8x256 .f32) (r j : Fin 256) :
    k0_pay16 (F := Ideal) v52 v66 w1 w2 v97 (ix2 r j)
      = k0_pay15 (F := Ideal) v52 v66 w1 w2 (ix2 ⟨r.val + 8, by omega⟩ j)
        + if h : 248 ≤ r.val then v97 (ix2 ⟨r.val - 248, by omega⟩ j) else 0 := by
  pointwise [k0_pay16]
  generalize k0_pay15 (F := Ideal) v52 v66 w1 w2 = E
  by_cases h : r.val < 248
  · rw [dif_pos h, dif_neg (by omega)]; blk_point []
  · rw [dif_neg h, dif_pos (by omega)]; blk_point []

/-- A tap's gradient after a tile: what it was, plus the tile's rows. -/
theorem dw0_apply (v14 : FVec Ideal S264x256 .f32) (v34 v35 v42 : FVec Ideal S256x256 .f32) (a : FVec Ideal S1x256 .f32) (j : Fin 256) :
    k0_pay11 (F := Ideal) v14 v34 v35 v42 a (ix2 0 j)
      = a (ix2 0 j) + ∑ k : Fin 256, v14 (ix2 ⟨k.val + 6, by omega⟩ j) * k0_pay8 (F := Ideal) v34 v35 v42 (ix2 k j) := by
  pointwise [k0_pay11]
  generalize k0_pay8 (F := Ideal) v34 v35 v42 = G
  blk_point []

theorem dw1_apply (v14 : FVec Ideal S264x256 .f32) (v34 v35 v42 : FVec Ideal S256x256 .f32) (a : FVec Ideal S1x256 .f32) (j : Fin 256) :
    k0_pay13 (F := Ideal) v14 v34 v35 v42 a (ix2 0 j)
      = a (ix2 0 j) + ∑ k : Fin 256, v14 (ix2 ⟨k.val + 7, by omega⟩ j) * k0_pay8 (F := Ideal) v34 v35 v42 (ix2 k j) := by
  pointwise [k0_pay13]
  generalize k0_pay8 (F := Ideal) v34 v35 v42 = G
  blk_point []

theorem dw2_apply (v14 : FVec Ideal S264x256 .f32) (v49 : FVec Ideal S256x256 .f32) (a : FVec Ideal S1x256 .f32) (j : Fin 256) :
    k0_pay14 (F := Ideal) v14 v49 a (ix2 0 j)
      = a (ix2 0 j) + ∑ k : Fin 256, v14 (ix2 ⟨k.val + 8, by omega⟩ j) * v49 (ix2 k j) := by
  pointwise [k0_pay14]
  blk_point []

end Cert.ShortConvIdeal.Tile
-- ==== Proof.Tiles.lean ====
module

public import Idealize.ShloMosaic.Lib.Pipeline.ValueKit

@[expose] public section

noncomputable section

/-! # Rows in tiles

Facts about arrays of rows that a kernel takes sixteen tiles of 256 rows at a time, last tile first: a sum over all rows
is the sum over the tiles of the sums over a tile's rows, and a convolution's gradient at a row is the part its own tile
contributes plus the part the following tile hands back over the seam. -/

open Idealize.ShloMosaic

namespace Cert.Tiles

/-- A sum over 4096 rows, taken tile by tile from the last tile to the first. -/
theorem sum_rows_rev (f : ℕ → EReal) :
    (∑ p : Fin 16, ∑ k : Fin 256, f (256 * (15 - p.val) + k.val)) = ∑ R : Fin 4096, f R.val := by
  have h1 : (∑ p : Fin 16, ∑ k : Fin 256, f (256 * (15 - p.val) + k.val))
      = ∑ p : Fin 16, ∑ k : Fin 256, f (256 * p.val + k.val) := by
    rw [← Equiv.sum_comp Fin.revPerm]
    refine Finset.sum_congr rfl fun p _ => Finset.sum_congr rfl fun k _ => ?_
    congr 2
    have := p.isLt
    simp only [Fin.revPerm_apply, Fin.val_rev]
    omega
  rw [h1]
  refine Fin.sum_mul_add_congr fun s k hl => ?_
  dsimp only
  congr 1
  omega

/-- What the seam between two tiles does to one tap. `g` is the cotangent by row (zero past the array's end), `q ≤ H` the
    rows the tap looks back; the tile's own rows give `g` while the row it asks for is in the tile, the following tile's
    first `H` extended rows give it beyond. -/
theorem seam (g : ℕ → EReal) (w : EReal) (s r q H : ℕ) (hH : H ≤ 256) (hq : q ≤ H) (hr : r < 256) :
    (if q ≤ r + H ∧ r + H - q < 256 then g (256 * s + (r + H - q)) else 0) * w
      + (if 256 - H ≤ r then (if q ≤ r - (256 - H) ∧ r - (256 - H) - q < 256 then g (256 * (s + 1) + (r - (256 - H) - q)) else 0) * w else 0)
      = g (256 * s + (r + H - q)) * w := by
  by_cases h1 : r + H - q < 256
  · rw [if_pos ⟨by omega, h1⟩]
    by_cases h2 : 256 - H ≤ r
    · rw [if_pos h2, if_neg (by omega), zero_mul, add_zero]
    · rw [if_neg h2, add_zero]
  · rw [if_neg (by omega), zero_mul, zero_add, if_pos (by omega), if_pos ⟨by omega, by omega⟩]
    congr 2
    omega

/-- A sum over 1024 columns in four quarters. -/
theorem sum_quarters (f : ℕ → EReal) :
    ∑ k : Fin 1024, f k.val
      = ∑ k : Fin 256, f k.val + ∑ k : Fin 256, f (256 + k.val) + ∑ k : Fin 256, f (512 + k.val) + ∑ k : Fin 256, f (768 + k.val) := by
  simp only [Fin.sum_univ_eq_sum_range (fun k => f k), Fin.sum_univ_eq_sum_range (fun k => f (256 + k)),
    Fin.sum_univ_eq_sum_range (fun k => f (512 + k)), Fin.sum_univ_eq_sum_range (fun k => f (768 + k))]
  rw [show (1024 : ℕ) = 768 + 256 from rfl, Finset.sum_range_add, show (768 : ℕ) = 512 + 256 from rfl, Finset.sum_range_add,
    show (512 : ℕ) = 256 + 256 from rfl, Finset.sum_range_add]

/-- A sum over 4096 rows, eight stretches of 512. -/
theorem sum_rows8 (f : ℕ → EReal) : (∑ s : Fin 8, ∑ k : Fin 512, f (512 * s.val + k.val)) = ∑ R : Fin 4096, f R.val := by
  refine Fin.sum_mul_add_congr fun s k hl => ?_
  dsimp only
  congr 1
  omega

/-- The 0/1 word that keeps the rows before the tile, but for the array's first tile (the last grid point). -/
theorem keep_eq (n : ℕ) (hn : n < 16) :
    (Scalar.sitofp .f32 (Scalar.extui (Scalar.cmpi .slt (BitVec.ofNat 32 n) 15#32) : BitVec 32) : Ideal .f32)
      = if n < 15 then (1 : EReal) else 0 := by
  have h : ∀ k : Fin 16, (Scalar.extui (Scalar.cmpi .slt (BitVec.ofNat 32 k.val) 15#32) : BitVec 32)
      = if k.val < 15 then 1#32 else 0#32 := by decide +kernel
  rw [h ⟨n, hn⟩]
  split
  · show (((1#32 : BitVec 32).toInt : ℝ) : EReal) = 1
    norm_num
  · show (((0#32 : BitVec 32).toInt : ℝ) : EReal) = 0
    norm_num

/-- The same where the tiles go from the array's first one on. -/
theorem keep_first (n : ℕ) (hn : n < 16) :
    (Scalar.sitofp .f32 (Scalar.extui (Scalar.cmpi .sgt (BitVec.ofNat 32 n) 0#32) : BitVec 32) : Ideal .f32)
      = if 0 < n then (1 : EReal) else 0 := by
  have h : ∀ k : Fin 16, (Scalar.extui (Scalar.cmpi .sgt (BitVec.ofNat 32 k.val) 0#32) : BitVec 32)
      = if 0 < k.val then 1#32 else 0#32 := by decide +kernel
  rw [h ⟨n, hn⟩]
  split
  · show (((1#32 : BitVec 32).toInt : ℝ) : EReal) = 1
    norm_num
  · show (((0#32 : BitVec 32).toInt : ℝ) : EReal) = 0
    norm_num

end Cert.Tiles
-- ==== Proof.ShortConvSpec.lean ====
module

public import proofs.«01_k».proof.Proof.Tiles
public import Idealize.ShloMosaic.PureOps.Ideal.Laws

@[expose] public section

set_option maxRecDepth 16384

noncomputable section

open Idealize.ShloMosaic

/-! # The short gated convolution's gradient, as formulas over the arrays

`P` is the layer's projection (columns 1280–2303 are the branch's four parts), `D` the cotangent of the mixed output
(columns 512–767 are the branch's), `W` the three taps. Rows are natural numbers, and a row outside the array is zero. -/

namespace Cert.ShortConvSpec

variable (P : FVec Ideal ⟨2, ![4096, 3456]⟩ .f32) (D : FVec Ideal ⟨2, ![4096, 1024]⟩ .f32) (W : FVec Ideal ⟨2, ![3, 256]⟩ .f32)

/-- The convolution's input, two zero rows in front. -/
def U (j : Fin 256) (n : ℕ) : EReal :=
  if h : 2 ≤ n ∧ n < 4098 then
    P (ix2 ⟨n - 2, by omega⟩ ⟨1536 + j.val, by omega⟩) * P (ix2 ⟨n - 2, by omega⟩ ⟨1792 + j.val, by omega⟩) else 0

/-- The convolution. -/
def conv (j : Fin 256) (n : ℕ) : EReal :=
  U P j n * W (ix2 0 j) + U P j (n + 1) * W (ix2 1 j) + U P j (n + 2) * W (ix2 2 j)

/-- The gate behind the convolution: SiLU of the branch's last part. -/
def silu (n : Fin 4096) (j : Fin 256) : EReal :=
  P (ix2 n ⟨2048 + j.val, by omega⟩) * Ideal.logistic (P (ix2 n ⟨2048 + j.val, by omega⟩))

/-- The branch's output. -/
def out : FVec Ideal ⟨2, ![4096, 256]⟩ .f32 := fun i =>
  let n : Fin 4096 := ⟨(i 0).val, (i 0).isLt⟩
  let j : Fin 256 := ⟨(i 1).val, (i 1).isLt⟩
  P (ix2 n ⟨1280 + j.val, by omega⟩) * conv P W j n.val * silu P n j

/-- The convolution output's cotangent. -/
def G (j : Fin 256) (n : ℕ) : EReal :=
  if h : n < 4096 then
    P (ix2 ⟨n, h⟩ ⟨1280 + j.val, by omega⟩) * (D (ix2 ⟨n, h⟩ ⟨512 + j.val, by omega⟩) * silu P ⟨n, h⟩ j) else 0

/-- The convolution input's cotangent. -/
def dU (j : Fin 256) (n : ℕ) : EReal :=
  G P D j (n + 2) * W (ix2 0 j) + G P D j (n + 1) * W (ix2 1 j) + G P D j n * W (ix2 2 j)

/-- The last part's cotangent, through the SiLU. -/
def dZ (n : Fin 4096) (j : Fin 256) : EReal :=
  let z := P (ix2 n ⟨2048 + j.val, by omega⟩)
  let g := P (ix2 n ⟨1280 + j.val, by omega⟩) * conv P W j n.val * D (ix2 n ⟨512 + j.val, by omega⟩)
  g * Ideal.logistic z + z * g * (Ideal.logistic z * (1 - Ideal.logistic z))

/-- The projection's cotangent over the branch's four parts. -/
def dP : FVec Ideal ⟨2, ![4096, 1024]⟩ .f32 := fun i =>
  let n : Fin 4096 := ⟨(i 0).val, (i 0).isLt⟩
  if h0 : (i 1).val < 256 then
    D (ix2 n ⟨512 + (i 1).val, by omega⟩) * silu P n ⟨(i 1).val, h0⟩ * conv P W ⟨(i 1).val, h0⟩ n.val
  else if h1 : (i 1).val < 512 then
    dU P D W ⟨(i 1).val - 256, by omega⟩ n.val * P (ix2 n ⟨1792 + ((i 1).val - 256), by omega⟩)
  else if h2 : (i 1).val < 768 then
    P (ix2 n ⟨1536 + ((i 1).val - 512), by omega⟩) * dU P D W ⟨(i 1).val - 512, by omega⟩ n.val
  else dZ P D W n ⟨(i 1).val - 768, by have h : (i 1).val < 1024 := (i 1).isLt; omega⟩

/-- The taps' gradient, padded to eight rows. -/
def dW : FVec Ideal ⟨2, ![8, 256]⟩ .f32 := fun i =>
  if (i 0).val < 3 then
    ∑ R : Fin 4096, U P ⟨(i 1).val, (i 1).isLt⟩ (R.val + (i 0).val) * G P D ⟨(i 1).val, (i 1).isLt⟩ R.val
  else 0

/-! The cotangent over each of the four parts. -/

theorem dP_0 (n : Fin 4096) (j : Fin 256) (k : Fin 1024) (hk : k.val = j.val) :
    dP P D W (ix2 n k) = D (ix2 n ⟨512 + j.val, by omega⟩) * silu P n j * conv P W j n.val := by
  obtain ⟨b, hb⟩ := j
  obtain ⟨a, ha⟩ := k
  obtain rfl : b = a := by dsimp only at hk; omega
  exact dif_pos hb

theorem dP_1 (n : Fin 4096) (j : Fin 256) (k : Fin 1024) (hk : k.val = 256 + j.val) :
    dP P D W (ix2 n k) = dU P D W j n.val * P (ix2 n ⟨1792 + j.val, by omega⟩) := by
  obtain ⟨b, hb⟩ := j
  obtain ⟨a, ha⟩ := k
  obtain rfl : b = a - 256 := by dsimp only at hk; omega
  dsimp only at hk
  exact (dif_neg (by show ¬ a < 256; omega)).trans (dif_pos (by show a < 512; omega))

theorem dP_2 (n : Fin 4096) (j : Fin 256) (k : Fin 1024) (hk : k.val = 512 + j.val) :
    dP P D W (ix2 n k) = P (ix2 n ⟨1536 + j.val, by omega⟩) * dU P D W j n.val := by
  obtain ⟨b, hb⟩ := j
  obtain ⟨a, ha⟩ := k
  obtain rfl : b = a - 512 := by dsimp only at hk; omega
  dsimp only at hk
  exact (dif_neg (by show ¬ a < 256; omega)).trans
    ((dif_neg (by show ¬ a < 512; omega)).trans (dif_pos (by show a < 768; omega)))

theorem dP_3 (n : Fin 4096) (j : Fin 256) (k : Fin 1024) (hk : k.val = 768 + j.val) :
    dP P D W (ix2 n k) = dZ P D W n j := by
  obtain ⟨b, hb⟩ := j
  obtain ⟨a, ha⟩ := k
  obtain rfl : b = a - 768 := by dsimp only at hk; omega
  dsimp only at hk
  exact (dif_neg (by show ¬ a < 256; omega)).trans
    ((dif_neg (by show ¬ a < 512; omega)).trans (dif_neg (by show ¬ a < 768; omega)))

end Cert.ShortConvSpec
-- ==== Proof.ShortConvRun.lean ====
module

public import proofs.«01_k».proof.Proof.ShortConvTile
public import proofs.«01_k».proof.Proof.ShortConvSpec

@[expose] public section

set_option maxRecDepth 16384

noncomputable section

open Idealize.ShloMosaic Idealize.ShloMosaic.TcCoe Idealize.SL.Sem
open Idealize.ShloMosaic.Pipeline (Dat)

namespace Cert.ShortConvIdeal.Tile

open Cert.ShortConvIdeal Cert.ShortConvIdeal.Gen Cert.ShortConvSpec
variable (m : (ℓ : Loc nD τ sig) → Buf (Elt Ideal) ℓ)

/-- The arguments, at their literal types. -/
abbrev argP (c : Dev nD) : FVec Ideal S4096x3456 .f32 := m ((c : Thread nD τ).loc main_arg0)
abbrev argD (c : Dev nD) : FVec Ideal S4096x1024 .f32 := m ((c : Thread nD τ).loc main_arg1)
abbrev argW (c : Dev nD) : FVec Ideal S3x256 .f32 := m ((c : Thread nD τ).loc main_arg2)

theorem idx : ∀ t : Fin cfg0.N, win0_0.index t = ![15 - t.val, 5] ∧ win0_1.index t = ![15 - t.val, 3]
    ∧ win0_2.index t = ![15 - t.val, 8] ∧ win0_3.index t = ![(15 - t.val) * 32 - 1, 3]
    ∧ win0_4.index t = ![15 - t.val, 2] ∧ win0_5.index t = ![0, 0]
    ∧ win0_6.index t = ![15 - t.val, 0] ∧ win0_7.index t = ![0, 0] ∧ (grid0.coords t 0).val = t.val :=
  (by decide +kernel : ∀ t : Fin grid0.N, _)

abbrev b0 (c : Dev nD) (t : Fin cfg0.N) : FVec Ideal S256x256 .f32 := X0_0 m c t
abbrev b1 (c : Dev nD) (t : Fin cfg0.N) : FVec Ideal S256x512 .f32 := X0_1 m c t
abbrev b2 (c : Dev nD) (t : Fin cfg0.N) : FVec Ideal S256x256 .f32 := X0_2 m c t
abbrev b3 (c : Dev nD) (t : Fin cfg0.N) : FVec Ideal S8x512 .f32 := X0_3 m c t
abbrev b4 (c : Dev nD) (t : Fin cfg0.N) : FVec Ideal S256x256 .f32 := iblk m c 4 t
abbrev b5 (c : Dev nD) (t : Fin cfg0.N) : FVec Ideal S8x256 .f32 := iblk m c 5 t

/-! ## The blocks, read off the arguments -/

theorem b0_apply (c : Dev nD) (t : Fin cfg0.N) (r j : Fin 256) :
    b0 m c t (ix2 r j) = argP m c (ix2 ⟨256 * (15 - t.val) + r.val, by omega⟩ ⟨1280 + j.val, by omega⟩) := by
  unfold b0 X0_0 Pipeline.Window.fill
  rw [dif_pos (moved0_0 t _)]
  blk_ext [iblk, V, idx t]

theorem b1_apply (c : Dev nD) (t : Fin cfg0.N) (r : Fin 256) (j : Fin 512) :
    b1 m c t (ix2 r j) = argP m c (ix2 ⟨256 * (15 - t.val) + r.val, by omega⟩ ⟨1536 + j.val, by omega⟩) := by
  unfold b1 X0_1 Pipeline.Window.fill
  rw [dif_pos (moved0_1 t _)]
  blk_ext [iblk, V, idx t]

theorem b2_apply (c : Dev nD) (t : Fin cfg0.N) (r j : Fin 256) :
    b2 m c t (ix2 r j) = argP m c (ix2 ⟨256 * (15 - t.val) + r.val, by omega⟩ ⟨2048 + j.val, by omega⟩) := by
  unfold b2 X0_2 Pipeline.Window.fill
  rw [dif_pos (moved0_2 t _)]
  blk_ext [iblk, V, idx t]

/-- The eight rows before the tile; at the array's first tile the window stays on the first block. -/
theorem b3_apply (c : Dev nD) (t : Fin cfg0.N) (r : Fin 8) (j : Fin 512) :
    b3 m c t (ix2 r j) = argP m c (ix2 ⟨8 * ((15 - t.val) * 32 - 1) + r.val, by omega⟩ ⟨1536 + j.val, by omega⟩) := by
  unfold b3 X0_3 Pipeline.Window.fill
  rw [dif_pos (moved0_3 t _)]
  blk_ext [iblk, V, idx t]

theorem b4_apply (c : Dev nD) (t : Fin cfg0.N) (r j : Fin 256) :
    b4 m c t (ix2 r j) = argD m c (ix2 ⟨256 * (15 - t.val) + r.val, by omega⟩ ⟨512 + j.val, by omega⟩) := by
  unfold b4
  blk_ext [iblk, V, idx t]

/-- The region finds the taps padded to eight rows. -/
theorem V_main_v0 (c : Dev nD) : (V m c main_v0 : FVec Ideal S8x256 .f32)
    = pad S8x256 ![0, 0] ![5, 0] ![0, 0] (argW m c) (sitofp .f32 (constantI S_ 32 0#32)) pads_S3x256_S8x256_050_000 h_S_ := by
  entry_read
  rfl

theorem b5_apply (c : Dev nD) (t : Fin cfg0.N) (k : Fin 8) (j : Fin 256) (hk : k.val < 3) :
    b5 m c t (ix2 k j) = argW m c (ix2 ⟨k.val, hk⟩ j) := by
  have e : b5 m c t (ix2 k j) = (V m c main_v0 : FVec Ideal S8x256 .f32) (ix2 k j) := by
    unfold b5
    blk_ext [iblk, idx t]
  rw [e, V_main_v0]
  pointwise
  rw [dif_pos hk]

/-! ## A tile's extended input, convolution and cotangent, over the arrays -/

/-- The tile's extended convolution input. -/
abbrev ext (c : Dev nD) (t : Fin cfg0.N) : FVec Ideal S264x256 .f32 :=
  k0_pay3 (F := Ideal) (grid0.coords t) (View.ld (Val := Elt Ideal) (S := S8x512) (e' := .f32) (b3 m c t) (Rect.unit ![0, 0] ![8, 256] inb_S8x512_S8x256_0_0))
    (View.ld (Val := Elt Ideal) (S := S8x512) (e' := .f32) (b3 m c t) (Rect.unit ![0, 256] ![8, 256] inb_S8x512_S8x256_0_256))
    (View.ld (Val := Elt Ideal) (S := S256x512) (e' := .f32) (b1 m c t) (Rect.unit ![0, 0] ![256, 256] inb_S256x512_S256x256_0_0))
    (View.ld (Val := Elt Ideal) (S := S256x512) (e' := .f32) (b1 m c t) (Rect.unit ![0, 256] ![256, 256] inb_S256x512_S256x256_0_256))

theorem ext_eq (c : Dev nD) (t : Fin cfg0.N) (e : Fin 264) (he : 6 ≤ e.val) (j : Fin 256) :
    ext m c t (ix2 e j) = U (argP m c) j (256 * (15 - t.val) + (e.val - 6)) := by
  have hN : t.val < 16 := lt_of_lt_of_eq t.isLt N_0
  unfold ext
  rw [ext_apply, (idx t).2.2.2.2.2.2.2.2, Tiles.keep_eq _ hN]
  by_cases h : e.val < 8
  · rw [dif_pos h]
    by_cases h15 : t.val < 15
    · rw [if_pos h15, mul_one]
      pointwise
      rw [b3_apply, b3_apply]
      unfold U
      rw [dif_pos (by omega)]
      blk_point []
    · rw [if_neg h15, mul_zero]
      unfold U
      rw [dif_neg (by omega)]
  · rw [dif_neg h]
    pointwise
    rw [b1_apply, b1_apply]
    unfold U
    rw [dif_pos (by omega)]
    blk_point []

/-- A tap as the body loads it. -/
theorem tap_eq (c : Dev nD) (t : Fin cfg0.N) (k : Fin 3) (j : Fin 256) (inb) :
    (View.ld (Val := Elt Ideal) (S := S8x256) (e' := .f32) (b5 m c t) (Rect.unit ![k.val, 0] ![1, 256] inb) : FVec Ideal S1x256 .f32) (ix2 0 j)
      = argW m c (ix2 k j) := by
  pointwise
  rw [b5_apply _ _ _ _ _ (by have := k.isLt; dsimp only; omega)]

abbrev tap0 (c : Dev nD) (t : Fin cfg0.N) : FVec Ideal S1x256 .f32 := View.ld (Val := Elt Ideal) (S := S8x256) (e' := .f32) (b5 m c t) (Rect.unit ![0, 0] ![1, 256] inb_S8x256_S1x256_0_0)
abbrev tap1 (c : Dev nD) (t : Fin cfg0.N) : FVec Ideal S1x256 .f32 := View.ld (Val := Elt Ideal) (S := S8x256) (e' := .f32) (b5 m c t) (Rect.unit ![1, 0] ![1, 256] inb_S8x256_S1x256_1_0)
abbrev tap2 (c : Dev nD) (t : Fin cfg0.N) : FVec Ideal S1x256 .f32 := View.ld (Val := Elt Ideal) (S := S8x256) (e' := .f32) (b5 m c t) (Rect.unit ![2, 0] ![1, 256] inb_S8x256_S1x256_2_0)

/-- The tile's convolution. -/
theorem conv_eq (c : Dev nD) (t : Fin cfg0.N) (r j : Fin 256) :
    k0_pay4 (F := Ideal) (grid0.coords t) (View.ld (Val := Elt Ideal) (S := S8x512) (e' := .f32) (b3 m c t) (Rect.unit ![0, 0] ![8, 256] inb_S8x512_S8x256_0_0))
        (View.ld (Val := Elt Ideal) (S := S8x512) (e' := .f32) (b3 m c t) (Rect.unit ![0, 256] ![8, 256] inb_S8x512_S8x256_0_256))
        (View.ld (Val := Elt Ideal) (S := S256x512) (e' := .f32) (b1 m c t) (Rect.unit ![0, 0] ![256, 256] inb_S256x512_S256x256_0_0))
        (View.ld (Val := Elt Ideal) (S := S256x512) (e' := .f32) (b1 m c t) (Rect.unit ![0, 256] ![256, 256] inb_S256x512_S256x256_0_256))
        (tap0 m c t) (tap1 m c t) (tap2 m c t) (ix2 r j)
      = conv (argP m c) (argW m c) j (256 * (15 - t.val) + r.val) := by
  rw [conv_apply]
  have e6 := ext_eq m c t ⟨r.val + 6, by omega⟩ (by dsimp only; omega) j
  have e7 := ext_eq m c t ⟨r.val + 7, by omega⟩ (by dsimp only; omega) j
  have e8 := ext_eq m c t ⟨r.val + 8, by omega⟩ (by dsimp only; omega) j
  have t0 := tap_eq m c t 0 j inb_S8x256_S1x256_0_0
  have t1 := tap_eq m c t 1 j inb_S8x256_S1x256_1_0
  have t2 := tap_eq m c t 2 j inb_S8x256_S1x256_2_0
  unfold ext at e6 e7 e8
  unfold tap0 tap1 tap2 conv
  refine congrArg₂ (· + ·) (congrArg₂ (· + ·) (congrArg₂ (· * ·) (e6.trans ?_) t0) (congrArg₂ (· * ·) (e7.trans ?_) t1)) (congrArg₂ (· * ·) (e8.trans ?_) t2)
  all_goals congr 1

/-- The tile's cotangent. -/
theorem dconv_eq (c : Dev nD) (t : Fin cfg0.N) (r j : Fin 256) :
    k0_pay8 (F := Ideal) (b0 m c t) (b2 m c t) (b4 m c t) (ix2 r j)
      = G (argP m c) (argD m c) j (256 * (15 - t.val) + r.val) := by
  rw [dconv_apply, b0_apply, b2_apply, b4_apply]
  unfold G silu
  rw [dif_pos (by omega)]

/-- One tap's share of the transposed convolution over the extended tile `s`, `q` rows back. -/
abbrev shareAt (P : FVec Ideal S4096x3456 .f32) (D : FVec Ideal S4096x1024 .f32) (j : Fin 256) (s e q : ℕ) : EReal :=
  if q ≤ e ∧ e - q < 256 then G P D j (256 * s + (e - q)) else 0

theorem padded_eq (c : Dev nD) (t : Fin cfg0.N) (e : Fin 264) (q : ℕ) (hq : 6 ≤ q ∧ q ≤ 8) (j : Fin 256) (hl) :
    k0_pay10 (F := Ideal) (b0 m c t) (b2 m c t) (b4 m c t) (ix2 ⟨(e.val + 264 - q) % 264, hl⟩ j)
      = shareAt (argP m c) (argD m c) j (15 - t.val) e.val q := by
  rw [padded_apply]
  unfold shareAt
  have := e.isLt
  by_cases h : q ≤ e.val ∧ e.val - q < 256
  · have hh : (e.val + 264 - q) % 264 = e.val - q := by omega
    rw [dif_pos (by dsimp only; omega), if_pos h, dconv_eq]
    congr 2
  · rw [dif_neg (by dsimp only; omega), if_neg h]

/-- The transposed convolution over the extended tile. -/
theorem dext_eq (c : Dev nD) (t : Fin cfg0.N) (e : Fin 264) (j : Fin 256) :
    k0_pay15 (F := Ideal) (k0_pay10 (F := Ideal) (b0 m c t) (b2 m c t) (b4 m c t))
        (k0_pay12 (F := Ideal) (b0 m c t) (b2 m c t) (b4 m c t) (tap0 m c t)) (tap1 m c t) (tap2 m c t) (ix2 e j)
      = shareAt (argP m c) (argD m c) j (15 - t.val) e.val 6 * argW m c (ix2 0 j)
        + shareAt (argP m c) (argD m c) j (15 - t.val) e.val 7 * argW m c (ix2 1 j)
        + shareAt (argP m c) (argD m c) j (15 - t.val) e.val 8 * argW m c (ix2 2 j) := by
  rw [dext_apply, padded_eq m c t e 6 (by omega), padded_eq m c t e 7 (by omega), padded_eq m c t e 8 (by omega)]
  have t0 := tap_eq m c t 0 j inb_S8x256_S1x256_0_0
  have t1 := tap_eq m c t 1 j inb_S8x256_S1x256_1_0
  have t2 := tap_eq m c t 2 j inb_S8x256_S1x256_2_0
  exact congrArg₂ (· + ·) (congrArg₂ (· + ·) (congrArg _ t0) (congrArg _ t1)) (congrArg _ t2)

/-! ## What a point leaves -/

/-- The rows a tile hands to the tile before it. -/
theorem carry_eq (c : Dev nD) (t : Fin cfg0.N) (e : Fin 8) (j : Fin 256) :
    (outsAt0 m c t.val t.isLt).2.2 (ix2 e j)
      = shareAt (argP m c) (argD m c) j (15 - t.val) e.val 6 * argW m c (ix2 0 j)
        + shareAt (argP m c) (argD m c) j (15 - t.val) e.val 7 * argW m c (ix2 1 j)
        + shareAt (argP m c) (argD m c) j (15 - t.val) e.val 8 * argW m c (ix2 2 j) := by
  have key := dext_eq m c t ⟨e.val, by omega⟩ j
  by_cases h : t.val % 16 = 0
  · rw [outsAt0_A m c t h]
    frame_out
    pointwise [k0_pay17]
    exact key
  · rw [outsAt0_B m c t h]
    frame_out
    pointwise [k0_pay17]
    exact key

end Cert.ShortConvIdeal.Tile
-- ==== Proof.ShortConvOut.lean ====
module

public import proofs.«01_k».proof.Proof.ShortConvRun
public import proofs.«01_k».proof.Proof.Tiles
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ShortConvIdeal.Tile

open Cert.ShortConvIdeal Cert.ShortConvIdeal.Gen Cert.ShortConvSpec
variable (m : (ℓ : Loc nD τ sig) → Buf (Elt Ideal) ℓ)

/-- What a tile hands to the tile before it: the rows of its transposed convolution that fall in front of it. -/
abbrev handed (P : FVec Ideal S4096x3456 .f32) (D : FVec Ideal S4096x1024 .f32) (W : FVec Ideal S3x256 .f32) (s e : ℕ) (j : Fin 256) : EReal :=
  shareAt P D j s e 6 * W (ix2 0 j) + shareAt P D j s e 7 * W (ix2 1 j) + shareAt P D j s e 8 * W (ix2 2 j)

/-- Past the last row nothing is handed over. -/
theorem handed_end (P : FVec Ideal S4096x3456 .f32) (D : FVec Ideal S4096x1024 .f32) (W : FVec Ideal S3x256 .f32) (s e : ℕ) (hs : 16 ≤ s) (j : Fin 256) :
    handed P D W s e j = 0 := by
  have z : ∀ q, shareAt P D j s e q = 0 := by
    intro q
    unfold shareAt G
    split
    · rw [dif_neg (by omega)]
    · rfl
  unfold handed
  rw [z, z, z, zero_mul, zero_mul, zero_mul, add_zero, add_zero]

theorem add_three (a b c x y z : EReal) : a + b + c + (x + y + z) = (a + x) + (b + y) + (c + z) := by
  rw [add_add_add_comm (a + b) c, add_add_add_comm a b]

/-- A tile's rows of the input's cotangent, from its own transposed convolution and what the tile after it handed over. -/
theorem du_eq (c : Dev nD) (t : Fin cfg0.N) (v : FVec Ideal S8x256 .f32)
    (hv : ∀ (e : Fin 8) (j : Fin 256), v (ix2 e j) = handed (argP m c) (argD m c) (argW m c) (15 - t.val + 1) e.val j) (r j : Fin 256) :
    k0_pay16 (F := Ideal) (k0_pay10 (F := Ideal) (b0 m c t) (b2 m c t) (b4 m c t))
        (k0_pay12 (F := Ideal) (b0 m c t) (b2 m c t) (b4 m c t) (tap0 m c t)) (tap1 m c t) (tap2 m c t) v (ix2 r j)
      = dU (argP m c) (argD m c) (argW m c) j (256 * (15 - t.val) + r.val) := by
  rw [du_apply, dext_eq]
  have s6 := Tiles.seam (G (argP m c) (argD m c) j) (argW m c (ix2 0 j)) (15 - t.val) r.val 6 8 (by omega) (by omega) r.isLt
  have s7 := Tiles.seam (G (argP m c) (argD m c) j) (argW m c (ix2 1 j)) (15 - t.val) r.val 7 8 (by omega) (by omega) r.isLt
  have s8 := Tiles.seam (G (argP m c) (argD m c) j) (argW m c (ix2 2 j)) (15 - t.val) r.val 8 8 (by omega) (by omega) r.isLt
  have e : dU (argP m c) (argD m c) (argW m c) j (256 * (15 - t.val) + r.val)
      = G (argP m c) (argD m c) j (256 * (15 - t.val) + (r.val + 8 - 6)) * argW m c (ix2 0 j)
        + G (argP m c) (argD m c) j (256 * (15 - t.val) + (r.val + 8 - 7)) * argW m c (ix2 1 j)
        + G (argP m c) (argD m c) j (256 * (15 - t.val) + (r.val + 8 - 8)) * argW m c (ix2 2 j) := rfl
  rw [e, ← s6, ← s7, ← s8]
  by_cases h : 248 ≤ r.val
  · rw [dif_pos h, hv, if_pos h, if_pos h, if_pos h]
    exact add_three _ _ _ _ _ _
  · rw [dif_neg h, if_neg h, if_neg h, if_neg h, add_zero, add_zero, add_zero, add_zero]

/-- The carry a point reads is what the tile after it handed over; at the first point there is none. -/
theorem carry_prev (c : Dev nD) (t : Fin cfg0.N) (h : ¬ t.val % 16 = 0) (hp) (e : Fin 8) (j : Fin 256) :
    (outsAt0 m c (t.val - 1) hp).2.2 (ix2 e j) = handed (argP m c) (argD m c) (argW m c) (15 - t.val + 1) e.val j := by
  have hN : t.val < 16 := lt_of_lt_of_eq t.isLt N_0
  have k := carry_eq m c ⟨t.val - 1, hp⟩ e j
  have hs : 15 - (t.val - 1) = 15 - t.val + 1 := by omega
  dsimp only at k
  rw [hs] at k
  exact k

theorem carry_first (c : Dev nD) (t : Fin cfg0.N) (h : t.val % 16 = 0) (e : Fin 8) (j : Fin 256) :
    k0_pay1 (F := Ideal) (ix2 e j) = handed (argP m c) (argD m c) (argW m c) (15 - t.val + 1) e.val j := by
  have hN : t.val < 16 := lt_of_lt_of_eq t.isLt N_0
  rw [handed_end _ _ _ _ _ (by omega)]
  pointwise [k0_pay1]

/-- The tile of the projection's cotangent a point writes, given the carry it reads. -/
theorem dz_eq (c : Dev nD) (t : Fin cfg0.N) (r j : Fin 256) :
    k0_pay7 (F := Ideal) (k0_pay4 (F := Ideal) (grid0.coords t) (View.ld (Val := Elt Ideal) (S := S8x512) (e' := .f32) (b3 m c t) (Rect.unit ![0, 0] ![8, 256] inb_S8x512_S8x256_0_0))
        (View.ld (Val := Elt Ideal) (S := S8x512) (e' := .f32) (b3 m c t) (Rect.unit ![0, 256] ![8, 256] inb_S8x512_S8x256_0_256))
        (View.ld (Val := Elt Ideal) (S := S256x512) (e' := .f32) (b1 m c t) (Rect.unit ![0, 0] ![256, 256] inb_S256x512_S256x256_0_0))
        (View.ld (Val := Elt Ideal) (S := S256x512) (e' := .f32) (b1 m c t) (Rect.unit ![0, 256] ![256, 256] inb_S256x512_S256x256_0_256))
        (tap0 m c t) (tap1 m c t) (tap2 m c t)) (b0 m c t) (b2 m c t) (b4 m c t) (ix2 r j)
      = dZ (argP m c) (argD m c) (argW m c) ⟨256 * (15 - t.val) + r.val, by omega⟩ j := by
  have k := conv_eq m c t r j
  revert k
  generalize k0_pay4 (F := Ideal) _ _ _ _ _ _ _ _ = acc
  intro k
  pointwise [k0_pay7, k0_pay5]
  rw [k, b0_apply, b2_apply, b4_apply]
  rfl

theorem dg_eq (c : Dev nD) (t : Fin cfg0.N) (r j : Fin 256) :
    k0_pay9 (F := Ideal) (k0_pay4 (F := Ideal) (grid0.coords t) (View.ld (Val := Elt Ideal) (S := S8x512) (e' := .f32) (b3 m c t) (Rect.unit ![0, 0] ![8, 256] inb_S8x512_S8x256_0_0))
        (View.ld (Val := Elt Ideal) (S := S8x512) (e' := .f32) (b3 m c t) (Rect.unit ![0, 256] ![8, 256] inb_S8x512_S8x256_0_256))
        (View.ld (Val := Elt Ideal) (S := S256x512) (e' := .f32) (b1 m c t) (Rect.unit ![0, 0] ![256, 256] inb_S256x512_S256x256_0_0))
        (View.ld (Val := Elt Ideal) (S := S256x512) (e' := .f32) (b1 m c t) (Rect.unit ![0, 256] ![256, 256] inb_S256x512_S256x256_0_256))
        (tap0 m c t) (tap1 m c t) (tap2 m c t)) (b2 m c t) (b4 m c t) (ix2 r j)
      = argD m c (ix2 ⟨256 * (15 - t.val) + r.val, by omega⟩ ⟨512 + j.val, by omega⟩) * silu (argP m c) ⟨256 * (15 - t.val) + r.val, by omega⟩ j
        * conv (argP m c) (argW m c) j (256 * (15 - t.val) + r.val) := by
  have k := conv_eq m c t r j
  revert k
  generalize k0_pay4 (F := Ideal) _ _ _ _ _ _ _ _ = acc
  intro k
  pointwise [k0_pay9, k0_pay6, k0_pay5]
  rw [k, b2_apply, b4_apply]
  rfl

/-- A point's tile of the projection's cotangent. -/
theorem dp_eq (c : Dev nD) (t : Fin cfg0.N) (r : Fin 256) (j : Fin 1024) :
    (outsAt0 m c t.val t.isLt).1 (ix2 r j) = dP (argP m c) (argD m c) (argW m c) (ix2 ⟨256 * (15 - t.val) + r.val, by omega⟩ j) := by
  have cu : ∀ (v : FVec Ideal S8x256 .f32)
      (hv : ∀ (e : Fin 8) (j : Fin 256), v (ix2 e j) = handed (argP m c) (argD m c) (argW m c) (15 - t.val + 1) e.val j) (x y : Fin 256),
      k0_pay18 (F := Ideal) (View.ld (Val := Elt Ideal) (S := S256x512) (e' := .f32) (b1 m c t) (Rect.unit ![0, 0] ![256, 256] inb_S256x512_S256x256_0_0))
          (k0_pay10 (F := Ideal) (b0 m c t) (b2 m c t) (b4 m c t))
          (k0_pay12 (F := Ideal) (b0 m c t) (b2 m c t) (b4 m c t) (tap0 m c t)) (tap1 m c t) (tap2 m c t) v (ix2 x y)
        = argP m c (ix2 ⟨256 * (15 - t.val) + x.val, by omega⟩ ⟨1536 + y.val, by omega⟩)
          * dU (argP m c) (argD m c) (argW m c) y (256 * (15 - t.val) + x.val) := by
    intro v hv x y
    rw [← du_eq m c t v hv x y]
    pointwise [k0_pay18]
    rw [b1_apply]
  have cv : ∀ (v : FVec Ideal S8x256 .f32)
      (hv : ∀ (e : Fin 8) (j : Fin 256), v (ix2 e j) = handed (argP m c) (argD m c) (argW m c) (15 - t.val + 1) e.val j) (x y : Fin 256),
      k0_pay19 (F := Ideal) (View.ld (Val := Elt Ideal) (S := S256x512) (e' := .f32) (b1 m c t) (Rect.unit ![0, 256] ![256, 256] inb_S256x512_S256x256_0_256))
          (k0_pay10 (F := Ideal) (b0 m c t) (b2 m c t) (b4 m c t))
          (k0_pay12 (F := Ideal) (b0 m c t) (b2 m c t) (b4 m c t) (tap0 m c t)) (tap1 m c t) (tap2 m c t) v (ix2 x y)
        = dU (argP m c) (argD m c) (argW m c) y (256 * (15 - t.val) + x.val)
          * argP m c (ix2 ⟨256 * (15 - t.val) + x.val, by omega⟩ ⟨1792 + y.val, by omega⟩) := by
    intro v hv x y
    rw [← du_eq m c t v hv x y]
    pointwise [k0_pay19]
    rw [b1_apply]
    blk_point []
  by_cases h : t.val % 16 = 0
  · rw [outsAt0_A m c t h]
    frame_out
    canon_tiles x hx
    · idx_vars x
      obtain rfl : r = _ := Fin.ext hx0
      rw [dP_3 _ _ _ _ _ _ hx1]
      exact dz_eq m c t _ _
    · idx_vars x
      obtain rfl : r = _ := Fin.ext hx0
      rw [dP_2 _ _ _ _ _ _ hx1]
      exact cu _ (carry_first m c t h) _ _
    · idx_vars x
      obtain rfl : r = _ := Fin.ext hx0
      rw [dP_1 _ _ _ _ _ _ hx1]
      exact cv _ (carry_first m c t h) _ _
    · idx_vars x
      obtain rfl : r = _ := Fin.ext hx0
      rw [dP_0 _ _ _ _ _ _ hx1]
      exact dg_eq m c t _ _
  · rw [outsAt0_B m c t h]
    frame_out
    simp only [read_unread_whole]
    canon_tiles x hx
    · idx_vars x
      obtain rfl : r = _ := Fin.ext hx0
      rw [dP_3 _ _ _ _ _ _ hx1]
      exact dz_eq m c t _ _
    · idx_vars x
      obtain rfl : r = _ := Fin.ext hx0
      rw [dP_2 _ _ _ _ _ _ hx1]
      exact cu _ (carry_prev m c t h _) _ _
    · idx_vars x
      obtain rfl : r = _ := Fin.ext hx0
      rw [dP_1 _ _ _ _ _ _ hx1]
      exact cv _ (carry_prev m c t h _) _ _
    · idx_vars x
      obtain rfl : r = _ := Fin.ext hx0
      rw [dP_0 _ _ _ _ _ _ hx1]
      exact dg_eq m c t _ _

/-- A point's step of the taps' gradient. -/
abbrev dwStep (c : Dev nD) (n : ℕ) (i : S8x256.Idx) : EReal :=
  if (i 0).val < 3 then ∑ k : Fin 256, U (argP m c) ⟨(i 1).val, (i 1).isLt⟩ (256 * (15 - n) + k.val + (i 0).val)
    * G (argP m c) (argD m c) ⟨(i 1).val, (i 1).isLt⟩ (256 * (15 - n) + k.val) else 0

/-- Three rows written over earlier contents. -/
theorem three_rows {sg : RefSig} {κ : Kind} {sp : Space} (v : View sg κ sp S8x256 .f32) (f : v.ty.Contents (Elt Ideal))
    (w2 w1 w0 : FVec Ideal S1x256 .f32) (L : List (View.Piece (Elt Ideal) S8x256 .f32)) (a : Fin 8) (b : Fin 256) :
    v.read (Elt Ideal) (v.writes (Elt Ideal) f (⟨Rect.unit ![2, 0] ![1, 256] inb_S8x256_S1x256_2_0, w2⟩
        :: ⟨Rect.unit ![1, 0] ![1, 256] inb_S8x256_S1x256_1_0, w1⟩ :: ⟨Rect.unit ![0, 0] ![1, 256] inb_S8x256_S1x256_0_0, w0⟩ :: L)) (ix2 a b)
      = if a.val = 2 then w2 (ix2 0 b) else if a.val = 1 then w1 (ix2 0 b) else if a.val = 0 then w0 (ix2 0 b)
        else v.read (Elt Ideal) (v.writes (Elt Ideal) f L) (ix2 a b) := by
  split
  · next h => exact View.read_writes_cons_rows_of_mem v f _ w2 _ _ (ix2 0 b) rfl h rfl
  · next h2 =>
    refine (View.read_writes_cons_rows_of_not_mem (o := 2) (W := 1) v f _ w2 _ (ix2 a b) rfl rfl (by show a.val < 2 ∨ 2 + 1 ≤ a.val; omega)).trans ?_
    split
    · next h => exact View.read_writes_cons_rows_of_mem v f _ w1 _ _ (ix2 0 b) rfl h rfl
    · next h1 =>
      refine (View.read_writes_cons_rows_of_not_mem (o := 1) (W := 1) v f _ w1 _ (ix2 a b) rfl rfl (by show a.val < 1 ∨ 1 + 1 ≤ a.val; omega)).trans ?_
      split
      · next h => exact View.read_writes_cons_rows_of_mem v f _ w0 _ _ (ix2 0 b) rfl h rfl
      · next h0 =>
        exact View.read_writes_cons_rows_of_not_mem (o := 0) (W := 1) v f _ w0 _ (ix2 a b) rfl rfl (by show a.val < 0 ∨ 0 + 1 ≤ a.val; omega)

/-- The same list over a filled block, read as what it leaves. -/
theorem three_rows_fill {sg : RefSig} {κ : Kind} {sp : Space} (v : View sg κ sp S8x256 .f32)
    (w2 w1 w0 : FVec Ideal S1x256 .f32) (z : FVec Ideal S8x256 .f32) (a : Fin 8) (b : Fin 256) :
    View.canon (Val := Elt Ideal) (e := .f32) [⟨Rect.unit ![2, 0] ![1, 256] inb_S8x256_S1x256_2_0, w2⟩,
        ⟨Rect.unit ![1, 0] ![1, 256] inb_S8x256_S1x256_1_0, w1⟩, ⟨Rect.unit ![0, 0] ![1, 256] inb_S8x256_S1x256_0_0, w0⟩,
        ⟨Rect.unit ![0, 0] ![8, 256] inb_S8x256_S8x256_0_0, z⟩] (ix2 a b)
      = if a.val = 2 then w2 (ix2 0 b) else if a.val = 1 then w1 (ix2 0 b) else if a.val = 0 then w0 (ix2 0 b)
        else z (ix2 a b) := by
  have hm : ix2 a b ∈ (Rect.unit (s := S8x256) ![0, 0] ![8, 256] inb_S8x256_S8x256_0_0).set := by
    rw [Rect.mem_set_unit]
    intro d
    have h0 := a.isLt
    have h1 := b.isLt
    fin_cases d
    · exact ⟨Nat.zero_le _, by show a.val < 0 + 8; omega⟩
    · exact ⟨Nat.zero_le _, by show b.val < 0 + 256; omega⟩
  have e : v.read (Elt Ideal) (v.writes (Elt Ideal) v.junk [⟨Rect.unit ![0, 0] ![8, 256] inb_S8x256_S8x256_0_0, z⟩]) (ix2 a b) = z (ix2 a b) := by
    refine (View.read_writes_apply_eq_canon (Val := Elt Ideal) (e := .f32) v v.junk (ix2 a b) _ ⟨_, List.mem_cons_self, hm⟩).trans ?_
    exact congrFun (View.canon_cons_unit_lit (Val := Elt Ideal) (e := .f32) (S := S8x256) inb_S8x256_S8x256_0_0 z [] (by decide)) (ix2 a b)
  rw [← e, ← three_rows v v.junk]
  refine (View.read_writes_apply_eq_canon v v.junk (ix2 a b) _ ⟨(⟨Rect.unit (s := S8x256) ![0, 0] ![8, 256] inb_S8x256_S8x256_0_0, z⟩ : View.Piece (Elt Ideal) S8x256 .f32), ?_, hm⟩).symm
  exact List.mem_cons_of_mem _ (List.mem_cons_of_mem _ (List.mem_cons_of_mem _ List.mem_cons_self))

/-- A tile's share of the taps' gradient, tap by tap. -/
theorem step_eq (c : Dev nD) (t : Fin cfg0.N) (q : ℕ) (hq : q < 3) (j : Fin 256) :
    ∑ k : Fin 256, ext m c t (ix2 ⟨k.val + (6 + q), by omega⟩ j) * k0_pay8 (F := Ideal) (b0 m c t) (b2 m c t) (b4 m c t) (ix2 k j)
      = ∑ k : Fin 256, U (argP m c) j (256 * (15 - t.val) + k.val + q) * G (argP m c) (argD m c) j (256 * (15 - t.val) + k.val) := by
  refine Finset.sum_congr rfl fun k _ => ?_
  rw [ext_eq m c t _ (by dsimp only; omega), dconv_eq]
  congr 2
  dsimp only
  omega

theorem dw_A (c : Dev nD) (t : Fin cfg0.N) (h : t.val % 16 = 0) (i : S8x256.Idx) :
    (outsAt0 m c t.val t.isLt).2.1 i = 0 + dwStep m c t.val i := by
  rw [outsAt0_A m c t h]
  frame_open
  simp (disch := decide) only [↓ View.readCov_skip, ↓ View.readCov_cons_toLoadRect, ↓ View.readCov_fill]
  frame_out
  idx_vars i
  rw [three_rows_fill (ms0_7 t).view]
  rw [dw0_apply, dw1_apply, dw2_apply]
  have s0 := step_eq m c t 0 (by omega) i1
  have s1 := step_eq m c t 1 (by omega) i1
  have s2 := step_eq m c t 2 (by omega) i1
  have z : ∀ x y, k0_pay2 (F := Ideal) (ix2 x y) = 0 := fun x y => by pointwise [k0_pay2]
  unfold dwStep
  have hi : i0.val = 2 ∨ i0.val = 1 ∨ i0.val = 0 ∨ 3 ≤ i0.val := by omega
  rcases hi with hi | hi | hi | hi
  · rw [if_pos hi, if_pos (by show i0.val < 3; omega)]
    refine congrArg₂ (· + ·) ?_ (s2.trans ?_)
    · pointwise
      exact z _ _
    · show _ = ∑ k : Fin 256, U (argP m c) i1 (256 * (15 - t.val) + k.val + i0.val) * _
      rw [hi]
      rfl
  · rw [if_neg (by omega), if_pos hi, if_pos (by show i0.val < 3; omega)]
    refine congrArg₂ (· + ·) ?_ (s1.trans ?_)
    · pointwise
      exact z _ _
    · show _ = ∑ k : Fin 256, U (argP m c) i1 (256 * (15 - t.val) + k.val + i0.val) * _
      rw [hi]
      rfl
  · rw [if_neg (by omega), if_neg (by omega), if_pos hi, if_pos (by show i0.val < 3; omega)]
    refine congrArg₂ (· + ·) ?_ (s0.trans ?_)
    · pointwise
      exact z _ _
    · show _ = ∑ k : Fin 256, U (argP m c) i1 (256 * (15 - t.val) + k.val + i0.val) * _
      rw [hi]
      rfl
  · rw [if_neg (by omega), if_neg (by omega), if_neg (by omega), if_neg (by show ¬ i0.val < 3; omega), z, add_zero]

theorem dw_B (c : Dev nD) (t : Fin cfg0.N) (h : ¬ t.val % 16 = 0) (hp) (i : S8x256.Idx) :
    (outsAt0 m c t.val t.isLt).2.1 i = (outsAt0 m c (t.val - 1) hp).2.1 i + dwStep m c t.val i := by
  rw [outsAt0_B m c t h]
  frame_out
  idx_vars i
  have hr : View.read (Elt Ideal) (ms0_7 t).view ((ms0_7 t).view.writes (Elt Ideal) ((hs0_7 t).unread (outsAt0 m c (t.val - 1) hp).2.1) []) = (outsAt0 m c (t.val - 1) hp).2.1 :=
    (hs0_7 t).read_unread _
  rw [three_rows, hr]
  rw [dw0_apply, dw1_apply, dw2_apply]
  generalize (outsAt0 m c (t.val - 1) hp).2.1 = O
  have s0 := step_eq m c t 0 (by omega) i1
  have s1 := step_eq m c t 1 (by omega) i1
  have s2 := step_eq m c t 2 (by omega) i1
  unfold dwStep
  have hi : i0.val = 2 ∨ i0.val = 1 ∨ i0.val = 0 ∨ 3 ≤ i0.val := by omega
  rcases hi with hi | hi | hi | hi
  · rw [if_pos hi, if_pos (by show i0.val < 3; omega)]
    refine congrArg₂ (· + ·) ?_ (s2.trans ?_)
    · pointwise
      blk_point []
    · show _ = ∑ k : Fin 256, U (argP m c) i1 (256 * (15 - t.val) + k.val + i0.val) * _
      rw [hi]
      rfl
  · rw [if_neg (by omega), if_pos hi, if_pos (by show i0.val < 3; omega)]
    refine congrArg₂ (· + ·) ?_ (s1.trans ?_)
    · pointwise
      blk_point []
    · show _ = ∑ k : Fin 256, U (argP m c) i1 (256 * (15 - t.val) + k.val + i0.val) * _
      rw [hi]
      rfl
  · rw [if_neg (by omega), if_neg (by omega), if_pos hi, if_pos (by show i0.val < 3; omega)]
    refine congrArg₂ (· + ·) ?_ (s0.trans ?_)
    · pointwise
      blk_point []
    · show _ = ∑ k : Fin 256, U (argP m c) i1 (256 * (15 - t.val) + k.val + i0.val) * _
      rw [hi]
      rfl
  · rw [if_neg (by omega), if_neg (by omega), if_neg (by omega), if_neg (by show ¬ i0.val < 3; omega), add_zero]

/-- The sixteen shares, last tile first, are the whole sum. -/
theorem dw_sum (c : Dev nD) (a : Fin 8) (b : Fin 256) :
    ∑ p : Fin 16, dwStep m c p.val (ix2 a b) = dW (argP m c) (argD m c) (ix2 a b) := by
  unfold dW dwStep
  by_cases h : a.val < 3
  · refine (Finset.sum_congr rfl fun p _ => if_pos h).trans (Eq.trans ?_ (if_pos h).symm)
    exact Tiles.sum_rows_rev fun n => U (argP m c) b (n + a.val) * G (argP m c) (argD m c) b n
  · refine (Finset.sum_congr rfl fun p _ => if_neg h).trans (Eq.trans ?_ (if_neg h).symm)
    exact Finset.sum_const_zero

/-! ## The two results after the grid -/

/-- The projection's cotangent. -/
theorem final6 (c : Dev nD) : ((dats m 0 c).arrAt 6 cfg0.N : FVec Ideal S4096x1024 .f32) = dP (argP m c) (argD m c) (argW m c) := by
  refine (dats m 0 c).arrAt_eq_of_covers 6 _ (by decide +kernel) fun t hf y => ?_
  blk_simp
  rw [after0_6]
  idx_vars y
  rw [dp_eq]
  blk_ext [idx t]

/-- The taps' gradient. -/
theorem final7 (c : Dev nD) : ((dats m 0 c).arrAt 7 cfg0.N : FVec Ideal S8x256 .f32) = dW (argP m c) (argD m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) (fun t i => dwStep m c t i)
    (fun t h j => dw_A m c t h j) (fun t h j => dw_B m c t h _ j) (le_of_eq N_0) t0_15 rfl j, zero_add]
  idx_vars j
  exact dw_sum m c j0 j1

end Cert.ShortConvIdeal.Tile
-- ==== Proof.ShortConvRef.lean ====
module

public import proofs.«01_k».proof.Proof.ShortConvSpec
public import proofs.«01_k».proof.Proof.Gen.ShortConvRefIdeal.Read
public import Idealize.ShloMosaic.Lib.Pipeline.ValueKit

@[expose] public section

set_option maxRecDepth 16384

noncomputable section

open Idealize.ShloMosaic Idealize.ShloMosaic.TcCoe Idealize.SL.Sem

/-! # The reference's gradient is the same two formulas

The reference differentiates the plain lines with `jax.vjp`; read at an index, its padded sums are `ShortConvSpec.dP` and
`ShortConvSpec.dW`. -/

namespace Cert.ShortConvRefIdeal.Spec

open Cert.ShortConvRefIdeal Cert.ShortConvRefIdeal.Gen Cert.ShortConvRefIdeal.Read Cert.ShortConvSpec

variable (x0 : FVec Ideal S4096x3456 .f32) (x1 : FVec Ideal S4096x1024 .f32) (x2 : FVec Ideal S3x256 .f32)

/-- The padded input of the convolution. -/
theorem v7_apply (a : Fin 4098) (j : Fin 256) : val_main_v7 (F := Ideal) x0 (ix2 a j) = U x0 j a.val := by
  pointwise [val_main_v7, val_main_v6, val_main_cst, val_main_v5, val_main_v2, val_main_v3, val_main_v0]
  unfold U
  split
  · rw [dif_neg (by omega)]
  · rw [dif_pos (by omega)]
    blk_point []

theorem v22_apply (n : Fin 4096) (j : Fin 256) : val_main_v22 (F := Ideal) x0 x2 (ix2 n j) = conv x0 x2 j n.val := by
  have h0 := v7_apply x0 ⟨n.val, by omega⟩ j
  have h1 := v7_apply x0 ⟨n.val + 1, by omega⟩ j
  have h2 := v7_apply x0 ⟨n.val + 2, by omega⟩ j
  pointwise [val_main_v22, val_main_v17, val_main_v21, val_main_v12, val_main_v16, val_main_v9, val_main_v11, val_main_v10,
    val_main_v13, val_main_v15, val_main_v14, val_main_v18, val_main_v20, val_main_v19]
  unfold conv
  rw [← h0, ← h1, ← h2]
  generalize val_main_v7 (F := Ideal) x0 = E
  blk_point []

/-- The gate's slope factor. -/
theorem v24_2_apply (n : Fin 4096) (j : Fin 256) :
    val_main_v24_2 (F := Ideal) x0 (ix2 n j) = Ideal.logistic (x0 (ix2 n ⟨2048 + j.val, by omega⟩)) := by
  have e : x0 (ix2 n ⟨1280 + (768 + j.val), by omega⟩) = x0 (ix2 n ⟨2048 + j.val, by omega⟩) := by blk_point []
  pointwise [val_main_v24_2, val_main_call0_v4, val_main_call0_cst_0, val_main_call0_v3, val_main_call0_v2,
    val_main_call0_cst, val_main_call0_v1, val_main_call0_v0, val_main_v4, val_main_v0]
  rw [e]
  rfl

theorem v4_apply (n : Fin 4096) (j : Fin 256) : val_main_v4 (F := Ideal) x0 (ix2 n j) = x0 (ix2 n ⟨2048 + j.val, by omega⟩) := by
  pointwise [val_main_v4, val_main_v0]
  blk_point []

theorem v24_0_apply (n : Fin 4096) (j : Fin 256) : val_main_v24_0 (F := Ideal) x0 (ix2 n j) = silu x0 n j := by
  have h := v24_2_apply x0 n j
  have h4 := v4_apply x0 n j
  pointwise [val_main_v24_0]
  rw [h, h4]
  rfl

theorem v24_1_apply (n : Fin 4096) (j : Fin 256) :
    val_main_v24_1 (F := Ideal) x0 (ix2 n j) = Ideal.logistic (x0 (ix2 n ⟨2048 + j.val, by omega⟩))
      * (1 - Ideal.logistic (x0 (ix2 n ⟨2048 + j.val, by omega⟩))) := by
  have h := v24_2_apply x0 n j
  pointwise [val_main_v24_1, val_main_call0_v7, val_main_call0_v6, val_main_call0_cst_1]
  rw [h]

theorem v30_apply (n : Fin 4096) (j : Fin 256) : val_main_v30 (F := Ideal) x0 x1 (ix2 n j) = G x0 x1 j n.val := by
  have h := v24_0_apply x0 n j
  pointwise [val_main_v30, val_main_v28, val_main_v26, val_main_v1, val_main_v0]
  rw [h]
  unfold G
  rw [dif_pos n.isLt]

theorem v58_apply (n : Fin 4096) (j : Fin 256) : val_main_v58 (F := Ideal) x0 x1 x2 (ix2 n j) = dU x0 x1 x2 j n.val := by
  have h := v30_apply x0 x1 n j
  have h1 : (if h : 1 ≤ 2 + n.val ∧ 2 + n.val - 1 < 4096 then val_main_v30 (F := Ideal) x0 x1 (ix2 ⟨2 + n.val - 1, h.2⟩ j) * x2 (ix2 1 j) else 0)
      = G x0 x1 j (n.val + 1) * x2 (ix2 1 j) := by
    have e : 2 + n.val - 1 = n.val + 1 := by omega
    split
    · rw [v30_apply]
      show G x0 x1 j (2 + n.val - 1) * _ = _
      rw [e]
    · rw [G, dif_neg (by omega), zero_mul]
  have h2 : (if h : 2 + n.val < 4096 then val_main_v30 (F := Ideal) x0 x1 (ix2 ⟨2 + n.val, h⟩ j) * x2 (ix2 0 j) else 0)
      = G x0 x1 j (n.val + 2) * x2 (ix2 0 j) := by
    have e : 2 + n.val = n.val + 2 := by omega
    split
    · rw [v30_apply]
      show G x0 x1 j (2 + n.val) * _ = _
      rw [e]
    · rw [G, dif_neg (by omega), zero_mul]
  pointwise [val_main_v58, val_main_v56, val_main_v47, val_main_v38, val_main_v46, val_main_v55, val_main_cst_3, val_main_cst_6, val_main_cst_8,
    val_main_cst_9, val_main_v36, val_main_v43, val_main_v52, val_main_v35, val_main_v42, val_main_v51, val_main_v10, val_main_v14, val_main_v19]
  unfold dU
  rw [← h, ← h1, ← h2]
  rw [add_comm, add_comm (val_main_v30 (F := Ideal) x0 x1 (ix2 n j) * _), ← add_assoc]

theorem v29_apply (n : Fin 4096) (j : Fin 256) : val_main_v29 (F := Ideal) x0 x1 x2 (ix2 n j) = dZ x0 x1 x2 n j := by
  have h := v22_apply x0 x2 n j
  have h4 := v4_apply x0 n j
  have h1 := v24_1_apply x0 n j
  have h2 := v24_2_apply x0 n j
  pointwise [val_main_v29, val_main_call1_v1, val_main_call1_v2, val_main_call1_v0, val_main_v27, val_main_v23, val_main_v26]
  rw [h, h4, h1, h2]
  pointwise [val_main_v1, val_main_v0]
  rfl

theorem v54_apply (k : Fin 3) (j : Fin 256) :
    val_main_v54 (F := Ideal) x0 x1 (ix2 k j) = ∑ R : Fin 4096, U x0 j (R.val + k.val) * G x0 x1 j R.val := by
  have key : ∀ q : ℕ, (hq : q < 3) → (∑ R : Fin 4096, val_main_v7 (F := Ideal) x0 (ix2 ⟨q + R.val, by omega⟩ j) * val_main_v30 (F := Ideal) x0 x1 (ix2 R j))
      = ∑ R : Fin 4096, U x0 j (R.val + q) * G x0 x1 j R.val := by
    intro q hq
    refine Finset.sum_congr rfl fun R _ => ?_
    rw [v7_apply, v30_apply]
    show U x0 j (q + R.val) * _ = _
    rw [Nat.add_comm q]
  have k0 := key 0 (by omega)
  have k1 := key 1 (by omega)
  have k2 := key 2 (by omega)
  simp only [Nat.zero_add] at k0
  pointwise [val_main_v54, val_main_v45, val_main_v37, val_main_v44, val_main_v53, val_main_v34, val_main_v41, val_main_v50,
    val_main_v33, val_main_v40, val_main_v49, val_main_v32, val_main_v39, val_main_v48, val_main_v9, val_main_v13, val_main_v18,
    val_main_cst_1, val_main_cst_2, val_main_cst_4, val_main_cst_5, val_main_cst_7, val_main_cst_8]
  rw [k0, k1, k2]
  have hk : k.val = 0 ∨ k.val = 1 ∨ k.val = 2 := by omega
  rcases hk with hk | hk | hk
  · rw [dif_neg (by omega), dif_neg (by omega), dif_pos (by omega), hk, zero_add, zero_add]
  · rw [dif_neg (by omega), dif_pos (by omega), dif_neg (by omega), hk, zero_add, add_zero]
  · rw [dif_pos (by omega), dif_neg (by omega), dif_neg (by omega), hk, add_zero, add_zero]

/-- The reference's first result. -/
theorem val_main_v67_spec : val_main_v67 (F := Ideal) x0 x1 x2 = dP x0 x1 x2 := by
  funext i
  idx_vars i
  have h31 : ∀ j : Fin 256, val_main_v31 (F := Ideal) x0 x1 x2 (ix2 i0 j)
      = x1 (ix2 i0 ⟨512 + j.val, by omega⟩) * silu x0 i0 j * conv x0 x2 j i0.val := by
    intro j
    have a := v22_apply x0 x2 i0 j
    have b := v24_0_apply x0 i0 j
    pointwise [val_main_v31, val_main_v28, val_main_v26]
    rw [a, b]
  have h59 : ∀ j : Fin 256, val_main_v59 (F := Ideal) x0 x1 x2 (ix2 i0 j)
      = x0 (ix2 i0 ⟨1536 + j.val, by omega⟩) * dU x0 x1 x2 j i0.val := by
    intro j
    have a := v58_apply x0 x1 x2 i0 j
    pointwise [val_main_v59, val_main_v2, val_main_v0]
    rw [a]
    blk_point []
  have h60 : ∀ j : Fin 256, val_main_v60 (F := Ideal) x0 x1 x2 (ix2 i0 j)
      = dU x0 x1 x2 j i0.val * x0 (ix2 i0 ⟨1792 + j.val, by omega⟩) := by
    intro j
    have a := v58_apply x0 x1 x2 i0 j
    pointwise [val_main_v60, val_main_v3, val_main_v0]
    rw [a]
    blk_point []
  pointwise [val_main_v67, val_main_v65, val_main_v63, val_main_v61, val_main_v62, val_main_v64, val_main_v66,
    val_main_cst_10, val_main_cst_11, val_main_cst_12, val_main_cst_13]
  have := i1.isLt
  have hi : i1.val < 256 ∨ (256 ≤ i1.val ∧ i1.val < 512) ∨ (512 ≤ i1.val ∧ i1.val < 768) ∨ 768 ≤ i1.val := by omega
  rcases hi with hi | hi | hi | hi
  · rw [dif_neg (by omega), dif_neg (by omega), dif_neg (by omega), dif_pos (by omega), zero_add, zero_add, zero_add, h31]
    exact (dP_0 _ _ _ _ ⟨i1.val, hi⟩ _ rfl).symm
  · rw [dif_neg (by omega), dif_neg (by omega), dif_pos (by omega), dif_neg (by omega), zero_add, zero_add, add_zero, h60]
    exact (dP_1 _ _ _ _ ⟨i1.val - 256, by omega⟩ _ (by dsimp only; omega)).symm
  · rw [dif_neg (by omega), dif_pos (by omega), dif_neg (by omega), dif_neg (by omega), zero_add, add_zero, add_zero, h59]
    exact (dP_2 _ _ _ _ ⟨i1.val - 512, by omega⟩ _ (by dsimp only; omega)).symm
  · rw [dif_pos (by omega), dif_neg (by omega), dif_neg (by omega), dif_neg (by omega), add_zero, add_zero, add_zero, v29_apply]
    exact (dP_3 _ _ _ _ ⟨i1.val - 768, by omega⟩ _ (by dsimp only; omega)).symm

/-- The reference's second result. -/
theorem val_main_v68_spec : val_main_v68 (F := Ideal) x0 x1 = dW x0 x1 := by
  funext i
  idx_vars i
  pointwise [val_main_v68, val_main_call2_v0, val_main_c]
  unfold dW
  dsimp only
  by_cases h : i0.val < 3
  · rw [dif_pos h, v54_apply]
    exact (if_pos h).symm
  · rw [dif_neg h]
    refine Eq.trans ?_ (if_neg h).symm
    show (((0#32 : BitVec 32).toInt : ℝ) : EReal) = 0
    simp

end Cert.ShortConvRefIdeal.Spec
-- ==== Proof.ShortConvClaim.lean ====
module

public import proofs.«01_k».proof.Defs
public import proofs.«01_k».proof.Proof.Gen.ShortConv.Frame
public import proofs.«01_k».proof.Proof.ShortConvOut
public import proofs.«01_k».proof.Proof.ShortConvRef
public import Idealize.ShloMosaic.Adequacy

@[expose] public section

noncomputable section

open Idealize.ShloMosaic Idealize.ShloMosaic.TcCoe Idealize.SL.Sem

/-! # The short convolution's gradient: the five claims -/

namespace Cert.ShortConvClaim

theorem frameP : Cert.quiescent_ShortConv (hShortConv := Cert.ShortConv.Gen.facts) :=
  fun m ρ _ => Cert.ShortConv.Gen.frame m ρ

theorem framePI : Cert.quiescent_ShortConvIdeal (hShortConvIdeal := Cert.ShortConvIdeal.Gen.facts) :=
  fun m ρ _ => Cert.ShortConvIdeal.Gen.frame m ρ

theorem frameRI : Cert.quiescent_ShortConvRefIdeal (hShortConvRefIdeal := Cert.ShortConvRefIdeal.Gen.facts) :=
  fun m ρ _ => (θ_run Cert.ShortConvRefIdeal.defs _ _).mono
    (fun r h => ⟨fun c => (h c).2.2, sem_eq_zero_of_no_sems (by decide) r.2⟩) (Cert.ShortConvRefIdeal.Value.run (F := Ideal) m ρ)

theorem algebraic : Cert.algebraic_ShortConvIdeal_ShortConvRefIdeal (hShortConvIdeal := Cert.ShortConvIdeal.Gen.facts)
    (hShortConvRefIdeal := Cert.ShortConvRefIdeal.Gen.facts) := by
  intro m ρ m' ρ' _ hagree
  refine ⟨fun c => ShortConvSpec.dP (ShortConvIdeal.Tile.argP m c) (ShortConvIdeal.Tile.argD m c) (ShortConvIdeal.Tile.argW m c),
    fun c => ShortConvSpec.dW (ShortConvIdeal.Tile.argP m c) (ShortConvIdeal.Tile.argD m c), ?_, ?_⟩
  · refine (θ_run _ _ _).mono (fun r h c => ⟨(h c).1.trans (ShortConvIdeal.Tile.final6 m c),
      (h c).2.1.trans (ShortConvIdeal.Tile.final7 m c), (h c).2.2⟩) (Cert.ShortConvIdeal.Value.run_blocks m ρ)
  · refine (θ_run _ _ _).mono (fun r h c => ⟨(h c).1.trans ?_, (h c).2.1.trans ?_, (h c).2.2⟩)
      (Cert.ShortConvRefIdeal.Value.run (F := Ideal) m' ρ')
    · rw [ShortConvRefIdeal.Read.val_main_v67_eq, ShortConvRefIdeal.Spec.val_main_v67_spec, (hagree c).1, (hagree c).2.1, (hagree c).2.2]
    · rw [ShortConvRefIdeal.Read.val_main_v68_eq, ShortConvRefIdeal.Spec.val_main_v68_spec, (hagree c).1, (hagree c).2.1]

end Cert.ShortConvClaim
-- ==== Proof.OutProjSpec.lean ====
module

public import proofs.«01_k».proof.Proof.Tiles
public import Idealize.ShloMosaic.PureOps.Ideal.Laws

@[expose] public section

set_option maxRecDepth 16384

noncomputable section

open Idealize.ShloMosaic

/-! # The output projection with its residual, as formulas over the arrays

`A`, `B`, `C`, `D` are the four branches' outputs, `X` the residual, `W` the weight, `E` the cotangent of the result. -/

namespace Cert.OutProjSpec

variable (X E : FVec Ideal ⟨2, ![4096, 1024]⟩ .f32) (A B C D : FVec Ideal ⟨2, ![4096, 256]⟩ .f32) (W : FVec Ideal ⟨2, ![1024, 1024]⟩ .f32)

/-- The four branches side by side; no column past 1024. -/
def mix (n : Fin 4096) (k : ℕ) : EReal :=
  if h : k < 256 then A (ix2 n ⟨k, h⟩)
  else if h : k - 256 < 256 then B (ix2 n ⟨k - 256, h⟩)
  else if h : k - 256 - 256 < 256 then C (ix2 n ⟨k - 256 - 256, h⟩)
  else if h : k - 256 - 256 - 256 < 256 then D (ix2 n ⟨k - 256 - 256 - 256, h⟩)
  else 0

theorem mix_0 (n : Fin 4096) (k : Fin 256) : mix A B C D n k.val = A (ix2 n k) := by
  unfold mix
  rw [dif_pos k.isLt]

theorem mix_1 (n : Fin 4096) (k : Fin 256) : mix A B C D n (256 + k.val) = B (ix2 n k) := by
  have e : 256 + k.val - 256 = k.val := by omega
  unfold mix
  rw [dif_neg (by omega), dif_pos (by omega)]
  exact congrArg B (congrArg (ix2 n) (Fin.ext e))

theorem mix_2 (n : Fin 4096) (k : Fin 256) : mix A B C D n (512 + k.val) = C (ix2 n k) := by
  have e : 512 + k.val - 256 - 256 = k.val := by omega
  unfold mix
  rw [dif_neg (by omega), dif_neg (by omega), dif_pos (by omega)]
  exact congrArg C (congrArg (ix2 n) (Fin.ext e))

theorem mix_3 (n : Fin 4096) (k : Fin 256) : mix A B C D n (768 + k.val) = D (ix2 n k) := by
  have e : 768 + k.val - 256 - 256 - 256 = k.val := by omega
  unfold mix
  rw [dif_neg (by omega), dif_neg (by omega), dif_neg (by omega), dif_pos (by omega)]
  exact congrArg D (congrArg (ix2 n) (Fin.ext e))

/-- The weight by row number; no row past 1024. -/
def row (k : ℕ) (j : Fin 1024) : EReal := if h : k < 1024 then W (ix2 ⟨k, h⟩ j) else 0

/-- Residual plus projection. -/
def out : FVec Ideal ⟨2, ![4096, 1024]⟩ .f32 := fun i =>
  X i + ∑ k : Fin 1024, mix A B C D ⟨(i 0).val, (i 0).isLt⟩ k.val * row W k.val ⟨(i 1).val, (i 1).isLt⟩

/-- The branches' cotangent. -/
def dmix : FVec Ideal ⟨2, ![4096, 1024]⟩ .f32 := fun i =>
  ∑ j : Fin 1024, E (ix2 ⟨(i 0).val, (i 0).isLt⟩ j) * W (ix2 ⟨(i 1).val, (i 1).isLt⟩ j)

/-- The weight's gradient. -/
def dw : FVec Ideal ⟨2, ![1024, 1024]⟩ .f32 := fun i =>
  ∑ n : Fin 4096, mix A B C D n (i 0).val * E (ix2 n ⟨(i 1).val, (i 1).isLt⟩)

/-- The projection branch by branch, each added to the residual in turn. -/
theorem out_apply (n : Fin 4096) (j : Fin 1024) : out X A B C D W (ix2 n j)
    = X (ix2 n j) + ∑ k : Fin 256, A (ix2 n k) * W (ix2 ⟨k.val, by omega⟩ j) + ∑ k : Fin 256, B (ix2 n k) * W (ix2 ⟨256 + k.val, by omega⟩ j)
      + ∑ k : Fin 256, C (ix2 n k) * W (ix2 ⟨512 + k.val, by omega⟩ j) + ∑ k : Fin 256, D (ix2 n k) * W (ix2 ⟨768 + k.val, by omega⟩ j) := by
  show X (ix2 n j) + ∑ k : Fin 1024, mix A B C D n k.val * row W k.val j = _
  rw [Tiles.sum_quarters fun k => mix A B C D n k * row W k j]
  simp only [mix_0, mix_1, mix_2, mix_3]
  have r : ∀ (k : ℕ) (h : k < 1024), row W k j = W (ix2 ⟨k, h⟩ j) := fun k h => by unfold row; rw [dif_pos h]
  simp only [fun k : Fin 256 => r k.val (by omega), fun k : Fin 256 => r (256 + k.val) (by omega),
    fun k : Fin 256 => r (512 + k.val) (by omega), fun k : Fin 256 => r (768 + k.val) (by omega)]
  rw [← add_assoc, ← add_assoc, ← add_assoc]

end Cert.OutProjSpec
-- ==== Proof.OutProjRun.lean ====
module

public import proofs.«01_k».proof.Proof.Gen.OutProjIdeal.Frame
public import Idealize.ShloMosaic.Lib.Pipeline.ValueKit

@[expose] public section

set_option maxRecDepth 16384

noncomputable section

/-! # The output projection's run

The three calls run one after the other; at the end every buffer holds what the fold over the calls says. -/

namespace Cert.OutProjIdeal.Whole

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of the program ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The three results and the arguments, read off the run. -/
theorem run : θ_run defs (onTc (τ := τ) (main (F := F))) ⟨m, fun _ => 0, ρ⟩ (fun r => ∀ c : Dev nD,
      r.2.mem ((c.tc : Thread nD τ).loc main_v6) = (dat0 (V1 m ρ) c).arrAt 6 cfg0.N
      ∧ r.2.mem ((c.tc : Thread nD τ).loc main_v7) = (dat1 (V2 m ρ) c).arrAt 2 cfg1.N
      ∧ r.2.mem ((c.tc : Thread nD τ).loc main_v8) = (dat2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v6 (by decide))).trans (((W4_of m ρ c main_v6 (by decide)).trans (W3_of m ρ c main_v6 (by decide))).trans (W2_arr m ρ c 6)),
     (h c _ (mem_uc main_v7 (by decide))).trans ((W4_of m ρ c main_v7 (by decide)).trans (W3_arr m ρ c 2)),
     (h c _ (mem_uc main_v8 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-! ## What each call reads -/

/-- The bfloat16 weight, cut in four and put together again. -/
def shards (w : FVec F S1024x1024 .f32) : FVec F S1024x1024 .bf16 :=
  concatenate S1024x1024 0 [⟨S256x1024, extractStridedSlice S256x1024 ![0, 0] (truncf .bf16 w bitsLt_bf16_f32) slices_S1024x1024_S256x1024_0_0⟩,
    ⟨S256x1024, extractStridedSlice S256x1024 ![256, 0] (truncf .bf16 w bitsLt_bf16_f32) slices_S1024x1024_S256x1024_256_0⟩,
    ⟨S256x1024, extractStridedSlice S256x1024 ![512, 0] (truncf .bf16 w bitsLt_bf16_f32) slices_S1024x1024_S256x1024_512_0⟩,
    ⟨S256x1024, extractStridedSlice S256x1024 ![768, 0] (truncf .bf16 w bitsLt_bf16_f32) slices_S1024x1024_S256x1024_768_0⟩]
    concatenates_S256x1024_S256x1024_S256x1024_S256x1024_S1024x1024_d0

theorem host_main_v5 (σ : Valuation τ sig (Elt F)) : StableHlo.after hostOps0 σ (Proc.devRef .tc main_v5)
    = shards (σ (Proc.devRef .tc main_arg5) : FVec F S1024x1024 .f32) := by
  after_results_simp
  rfl

theorem shards_apply (w : FVec Ideal S1024x1024 .f32) (k j : Fin 1024) : shards w (ix2 k j) = w (ix2 k j) := by
  pointwise [shards]
  split
  · rfl
  split
  · blk_point []
  split
  · blk_point []
  · blk_point []

/-- The weight the calls read is the argument. -/
theorem V1_main_v5 (mi : (ℓ : Loc nD τ sig) → Buf (Elt Ideal) ℓ) (c : Dev nD) :
    (V1 mi ρ c main_v5 : FVec Ideal S1024x1024 .bf16) = shards (F := Ideal) (mi ((c : Thread nD τ).loc main_arg5) : FVec Ideal S1024x1024 .f32) :=
  host_main_v5 (F := Ideal) (W0 mi ρ c)

end Cert.OutProjIdeal.Whole
-- ==== Proof.OutProjTile.lean ====
module

public import proofs.«01_k».proof.Proof.OutProjSpec
public import proofs.«01_k».proof.Proof.OutProjRun
public import Idealize.ShloMosaic.Lib.Pipeline.ReadBack

@[expose] public section

set_option maxRecDepth 16384

noncomputable section

open Idealize.ShloMosaic Idealize.ShloMosaic.TcCoe Idealize.SL.Sem

/-! # The output projection's three calls, each at the array it leaves

`V` is what the buffers hold when a call starts. -/

namespace Cert.OutProjIdeal.Tile

open Cert.OutProjIdeal Cert.OutProjIdeal.Gen Cert.OutProjSpec

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

theorem idx1 : ∀ t : Fin cfg1.N, win1_0.index t = ![t.val, 0] ∧ win1_1.index t = ![0, 0] ∧ win1_2.index t = ![t.val, 0] :=
  (by decide +kernel : ∀ t : Fin grid1.N, _)

theorem idx2 : ∀ t : Fin cfg2.N, win2_0.index t = ![t.val % 8, 0] ∧ win2_1.index t = ![t.val % 8, 0] ∧ win2_2.index t = ![t.val % 8, 0]
    ∧ win2_3.index t = ![t.val % 8, 0] ∧ win2_4.index t = ![t.val % 8, t.val / 8] ∧ win2_5.index t = ![0, t.val / 8] :=
  (by decide +kernel : ∀ t : Fin grid2.N, _)

/-! ## Residual plus projection -/

theorem pay0_apply (v0 : FVec Ideal S256x1024 .f32) (v1 v7 v13 v19 : FVec Ideal S256x256 .f32) (v3 v9 v15 v21 : FVec Ideal S256x1024 .bf16)
    (r : Fin 256) (j : Fin 1024) :
    k0_pay1 (F := Ideal) v0 v1 v3 v7 v9 v13 v15 v19 v21 (ix2 r j)
      = v0 (ix2 r j) + ∑ k : Fin 256, v1 (ix2 r k) * v3 (ix2 k j) + ∑ k : Fin 256, v7 (ix2 r k) * v9 (ix2 k j)
        + ∑ k : Fin 256, v13 (ix2 r k) * v15 (ix2 k j) + ∑ k : Fin 256, v19 (ix2 r k) * v21 (ix2 k j) := by
  pointwise [k0_pay1]

theorem pay1_apply (v0 : FVec Ideal S256x1024 .f32) (v2 : FVec Ideal S1024x1024 .bf16) (r : Fin 256) (j : Fin 1024) :
    k1_pay1 (F := Ideal) v0 v2 (ix2 r j) = ∑ k : Fin 1024, v0 (ix2 r k) * v2 (ix2 j k) := by
  pointwise [k1_pay1]

theorem pay4_apply (v3 : FVec Ideal S512x512 .f32) (v5 : FVec Ideal S256x512 .f32) (v7 : FVec Ideal S512x256 .f32) (r : Fin 256) (j : Fin 512) :
    k2_pay4 (F := Ideal) v3 v5 v7 (ix2 r j) = v5 (ix2 r j) + ∑ k : Fin 512, v7 (ix2 k r) * v3 (ix2 k j) := by
  pointwise [k2_pay4, k2_pay3]

theorem pay5_apply (v3 : FVec Ideal S512x512 .f32) (v5 : FVec Ideal S256x512 .f32) (v7 : FVec Ideal S512x256 .f32) (r : Fin 256) (j : Fin 512) :
    k2_pay5 (F := Ideal) v3 v5 v7 (ix2 r j) = v5 (ix2 r j) + ∑ k : Fin 512, v7 (ix2 k r) * v3 (ix2 k j) := by
  pointwise [k2_pay5, k2_pay3]

theorem pay6_apply (v3 : FVec Ideal S512x512 .f32) (v5 : FVec Ideal S256x512 .f32) (v7 : FVec Ideal S512x256 .f32) (r : Fin 256) (j : Fin 512) :
    k2_pay6 (F := Ideal) v3 v5 v7 (ix2 r j) = v5 (ix2 r j) + ∑ k : Fin 512, v7 (ix2 k r) * v3 (ix2 k j) := by
  pointwise [k2_pay6, k2_pay3]

theorem pay7_apply (v3 : FVec Ideal S512x512 .f32) (v5 : FVec Ideal S256x512 .f32) (v7 : FVec Ideal S512x256 .f32) (r : Fin 256) (j : Fin 512) :
    k2_pay1 (F := Ideal) (k2_pay3 (F := Ideal) v3) v5 v7 (ix2 r j) = v5 (ix2 r j) + ∑ k : Fin 512, v7 (ix2 k r) * v3 (ix2 k j) := by
  pointwise [k2_pay1, k2_pay3]

theorem blk0_0 (c : Dev nD) (t : Fin cfg0.N) (r : Fin 256) (j : Fin 1024) : (iblk0 V c 0 t : FVec Ideal S256x1024 .f32) (ix2 r j)
    = (V c main_arg0 : FVec Ideal S4096x1024 .f32) (ix2 ⟨256 * t.val + r.val, by have := lt_of_lt_of_eq t.isLt N_0; omega⟩ j) := by
  blk_ext [iblk0, idx0 t]

theorem blk0_1 (c : Dev nD) (t : Fin cfg0.N) (r : Fin 256) (j : Fin 256) : (iblk0 V c 1 t : FVec Ideal S256x256 .f32) (ix2 r j)
    = (V c main_arg1 : FVec Ideal S4096x256 .f32) (ix2 ⟨256 * t.val + r.val, by have := lt_of_lt_of_eq t.isLt N_0; omega⟩ j) := by
  blk_ext [iblk0, idx0 t]

theorem blk0_2 (c : Dev nD) (t : Fin cfg0.N) (r : Fin 256) (j : Fin 256) : (iblk0 V c 2 t : FVec Ideal S256x256 .f32) (ix2 r j)
    = (V c main_arg2 : FVec Ideal S4096x256 .f32) (ix2 ⟨256 * t.val + r.val, by have := lt_of_lt_of_eq t.isLt N_0; omega⟩ j) := by
  blk_ext [iblk0, idx0 t]

theorem blk0_3 (c : Dev nD) (t : Fin cfg0.N) (r : Fin 256) (j : Fin 256) : (iblk0 V c 3 t : FVec Ideal S256x256 .f32) (ix2 r j)
    = (V c main_arg3 : FVec Ideal S4096x256 .f32) (ix2 ⟨256 * t.val + r.val, by have := lt_of_lt_of_eq t.isLt N_0; omega⟩ j) := by
  blk_ext [iblk0, idx0 t]

theorem blk0_4 (c : Dev nD) (t : Fin cfg0.N) (r : Fin 256) (j : Fin 256) : (iblk0 V c 4 t : FVec Ideal S256x256 .f32) (ix2 r j)
    = (V c main_arg4 : FVec Ideal S4096x256 .f32) (ix2 ⟨256 * t.val + r.val, by have := lt_of_lt_of_eq t.isLt N_0; omega⟩ j) := by
  blk_ext [iblk0, idx0 t]

theorem blk0_5 (c : Dev nD) (t : Fin cfg0.N) (r : Fin 1024) (j : Fin 1024) : (iblk0 V c 5 t : FVec Ideal S1024x1024 .bf16) (ix2 r j)
    = (V c main_v5 : FVec Ideal S1024x1024 .bf16) (ix2 r j) := by
  blk_ext [iblk0, idx0 t]

/-- Residual plus projection. -/
theorem final0 (c : Dev nD) (W : FVec Ideal S1024x1024 .f32)
    (hW : ∀ k j, (V c main_v5 : FVec Ideal S1024x1024 .bf16) (ix2 k j) = W (ix2 k j)) :
    ((dat0 V c).arrAt 6 cfg0.N : FVec Ideal S4096x1024 .f32) = out (V c main_arg0) (V c main_arg1) (V c main_arg2) (V c main_arg3) (V c main_arg4) W := by
  refine (dat0 V c).arrAt_eq_of_covers 6 _ (by decide +kernel) fun t hf y => ?_
  blk_simp
  rw [after0_6]
  idx_vars y
  have hN : t.val < 16 := lt_of_lt_of_eq t.isLt N_0
  have e : ((View.whole main_v6).slice (win0_6.rect t)).emb (ix2 y0 y1) = ix2 ⟨256 * t.val + y0.val, by omega⟩ y1 := by
    blk_ext [idx0 t]
  frame_out
  rw [e, pay0_apply, out_apply]
  simp only [blk0_0, blk0_1, blk0_2, blk0_3, blk0_4]
  have q : ∀ (o : ℕ) (ho : o + 256 ≤ 1024) (hi) (k : Fin 256),
      View.ld (Val := Elt Ideal) (S := S1024x1024) (e' := .bf16) (iblk0 V c 5 t) (Rect.unit ![o, 0] ![256, 1024] hi) (ix2 k y1)
        = W (ix2 ⟨o + k.val, by omega⟩ y1) := by
    intro o ho hi k
    rw [← hW, ← blk0_5 V c t]
    refine congrArg (iblk0 V c 5 t) (funext fun a => Fin.ext ?_)
    fin_cases a
    · show o + 1 * k.val = o + k.val
      omega
    · show 0 + 1 * y1.val = y1.val
      omega
  refine congrArg₂ (· + ·) (congrArg₂ (· + ·) (congrArg₂ (· + ·) (congrArg₂ (· + ·) rfl ?_) ?_) ?_) ?_
  · refine Finset.sum_congr rfl fun k _ => congrArg₂ (· * ·) rfl ?_
    refine (q 0 (by omega) _ k).trans ?_
    blk_point []
  · exact Finset.sum_congr rfl fun k _ => congrArg₂ (· * ·) rfl (q 256 (by omega) _ k)
  · exact Finset.sum_congr rfl fun k _ => congrArg₂ (· * ·) rfl (q 512 (by omega) _ k)
  · exact Finset.sum_congr rfl fun k _ => congrArg₂ (· * ·) rfl (q 768 (by omega) _ k)

theorem blk1_0 (c : Dev nD) (t : Fin cfg1.N) (r : Fin 256) (j : Fin 1024) : (iblk1 V c 0 t : FVec Ideal S256x1024 .f32) (ix2 r j)
    = (V c main_arg6 : FVec Ideal S4096x1024 .f32) (ix2 ⟨256 * t.val + r.val, by have := lt_of_lt_of_eq t.isLt N_1; omega⟩ j) := by
  blk_ext [iblk1, idx1 t]

theorem blk1_1 (c : Dev nD) (t : Fin cfg1.N) (r : Fin 1024) (j : Fin 1024) : (iblk1 V c 1 t : FVec Ideal S1024x1024 .bf16) (ix2 r j)
    = (V c main_v5 : FVec Ideal S1024x1024 .bf16) (ix2 r j) := by
  blk_ext [iblk1, idx1 t]

/-- The branches' cotangent. -/
theorem final1 (c : Dev nD) (W : FVec Ideal S1024x1024 .f32)
    (hW : ∀ k j, (V c main_v5 : FVec Ideal S1024x1024 .bf16) (ix2 k j) = W (ix2 k j)) :
    ((dat1 V c).arrAt 2 cfg1.N : FVec Ideal S4096x1024 .f32) = dmix (V c main_arg6) W := by
  refine (dat1 V c).arrAt_eq_of_covers 2 _ (by decide +kernel) fun t hf y => ?_
  blk_simp
  rw [after1_2]
  idx_vars y
  have hN : t.val < 16 := lt_of_lt_of_eq t.isLt N_1
  have e : ((View.whole main_v7).slice (win1_2.rect t)).emb (ix2 y0 y1) = ix2 ⟨256 * t.val + y0.val, by omega⟩ y1 := by
    blk_ext [idx1 t]
  frame_out
  rw [e, pay1_apply]
  simp only [blk1_0, blk1_1, hW]
  rfl

/-! ## The weight's gradient

Each half of the columns is accumulated over eight stretches of 512 rows. -/

theorem blk2_0 (c : Dev nD) (t : Fin cfg2.N) (r : Fin 512) (j : Fin 256) : (iblk2 V c 0 t : FVec Ideal S512x256 .f32) (ix2 r j)
    = (V c main_arg1 : FVec Ideal S4096x256 .f32) (ix2 ⟨512 * (t.val % 8) + r.val, by omega⟩ j) := by
  blk_ext [iblk2, idx2 t]

theorem blk2_1 (c : Dev nD) (t : Fin cfg2.N) (r : Fin 512) (j : Fin 256) : (iblk2 V c 1 t : FVec Ideal S512x256 .f32) (ix2 r j)
    = (V c main_arg2 : FVec Ideal S4096x256 .f32) (ix2 ⟨512 * (t.val % 8) + r.val, by omega⟩ j) := by
  blk_ext [iblk2, idx2 t]

theorem blk2_2 (c : Dev nD) (t : Fin cfg2.N) (r : Fin 512) (j : Fin 256) : (iblk2 V c 2 t : FVec Ideal S512x256 .f32) (ix2 r j)
    = (V c main_arg3 : FVec Ideal S4096x256 .f32) (ix2 ⟨512 * (t.val % 8) + r.val, by omega⟩ j) := by
  blk_ext [iblk2, idx2 t]

theorem blk2_3 (c : Dev nD) (t : Fin cfg2.N) (r : Fin 512) (j : Fin 256) : (iblk2 V c 3 t : FVec Ideal S512x256 .f32) (ix2 r j)
    = (V c main_arg4 : FVec Ideal S4096x256 .f32) (ix2 ⟨512 * (t.val % 8) + r.val, by omega⟩ j) := by
  blk_ext [iblk2, idx2 t]

theorem blk2_4 (c : Dev nD) (t : Fin cfg2.N) (r : Fin 512) (j : Fin 512) : (iblk2 V c 4 t : FVec Ideal S512x512 .f32) (ix2 r j)
    = (V c main_arg6 : FVec Ideal S4096x1024 .f32) (ix2 ⟨512 * (t.val % 8) + r.val, by omega⟩
        ⟨512 * (t.val / 8) + j.val, by have := lt_of_lt_of_eq t.isLt N_2; omega⟩) := by
  blk_ext [iblk2, idx2 t]

/-- A point's step of the gradient: its 512 rows. -/
abbrev step (c : Dev nD) (t : Fin cfg2.N) (i : S1024x512.Idx) : EReal :=
  ∑ k : Fin 512, mix (V c main_arg1) (V c main_arg2) (V c main_arg3) (V c main_arg4) ⟨512 * (t.val % 8) + k.val, by omega⟩ (i 0).val
    * (V c main_arg6 : FVec Ideal S4096x1024 .f32) (ix2 ⟨512 * (t.val % 8) + k.val, by omega⟩
        ⟨512 * (t.val / 8) + (i 1).val, by have := lt_of_lt_of_eq t.isLt N_2; have : (i 1).val < 512 := (i 1).isLt; omega⟩)

/-! A quarter of the rows after a point: what it held, and the point's step. -/

theorem quarter_0 (c : Dev nD) (t : Fin cfg2.N) (P : FVec Ideal S1024x512 .f32) (v : FVec Ideal S256x512 .f32) (r : Fin 256) (j : Fin 512)
    (hv : v (ix2 r j) = P (ix2 ⟨r.val, by omega⟩ j)) :
    k2_pay4 (F := Ideal) (iblk2 V c 4 t) v (iblk2 V c 0 t) (ix2 r j)
      = P (ix2 ⟨r.val, by omega⟩ j) + step V c t (ix2 ⟨r.val, by omega⟩ j) := by
  rw [pay4_apply, hv]
  refine congrArg₂ (· + ·) rfl ?_
  simp only [blk2_0, blk2_4]
  refine Finset.sum_congr rfl fun k _ => congrArg₂ (· * ·) ?_ rfl
  exact (mix_0 _ _ _ _ _ r).symm

theorem quarter_1 (c : Dev nD) (t : Fin cfg2.N) (P : FVec Ideal S1024x512 .f32) (v : FVec Ideal S256x512 .f32) (r : Fin 256) (j : Fin 512)
    (hv : v (ix2 r j) = P (ix2 ⟨256 + r.val, by omega⟩ j)) :
    k2_pay5 (F := Ideal) (iblk2 V c 4 t) v (iblk2 V c 1 t) (ix2 r j)
      = P (ix2 ⟨256 + r.val, by omega⟩ j) + step V c t (ix2 ⟨256 + r.val, by omega⟩ j) := by
  rw [pay5_apply, hv]
  refine congrArg₂ (· + ·) rfl ?_
  simp only [blk2_1, blk2_4]
  refine Finset.sum_congr rfl fun k _ => congrArg₂ (· * ·) ?_ rfl
  exact (mix_1 _ _ _ _ _ r).symm

theorem quarter_2 (c : Dev nD) (t : Fin cfg2.N) (P : FVec Ideal S1024x512 .f32) (v : FVec Ideal S256x512 .f32) (r : Fin 256) (j : Fin 512)
    (hv : v (ix2 r j) = P (ix2 ⟨512 + r.val, by omega⟩ j)) :
    k2_pay6 (F := Ideal) (iblk2 V c 4 t) v (iblk2 V c 2 t) (ix2 r j)
      = P (ix2 ⟨512 + r.val, by omega⟩ j) + step V c t (ix2 ⟨512 + r.val, by omega⟩ j) := by
  rw [pay6_apply, hv]
  refine congrArg₂ (· + ·) rfl ?_
  simp only [blk2_2, blk2_4]
  refine Finset.sum_congr rfl fun k _ => congrArg₂ (· * ·) ?_ rfl
  exact (mix_2 _ _ _ _ _ r).symm

theorem quarter_3 (c : Dev nD) (t : Fin cfg2.N) (P : FVec Ideal S1024x512 .f32) (v : FVec Ideal S256x512 .f32) (r : Fin 256) (j : Fin 512)
    (hv : v (ix2 r j) = P (ix2 ⟨768 + r.val, by omega⟩ j)) :
    k2_pay1 (F := Ideal) (k2_pay3 (F := Ideal) (iblk2 V c 4 t)) v (iblk2 V c 3 t) (ix2 r j)
      = P (ix2 ⟨768 + r.val, by omega⟩ j) + step V c t (ix2 ⟨768 + r.val, by omega⟩ j) := by
  rw [pay7_apply, hv]
  refine congrArg₂ (· + ·) rfl ?_
  simp only [blk2_3, blk2_4]
  refine Finset.sum_congr rfl fun k _ => congrArg₂ (· * ·) ?_ rfl
  exact (mix_3 _ _ _ _ _ r).symm

/-- 256 rows of an accumulator, read from row `o` on. -/
theorem ld_rows (P : FVec Ideal S1024x512 .f32) (o : ℕ) (ho : o + 256 ≤ 1024) (hi) (r : Fin 256) (j : Fin 512) :
    View.ld (Val := Elt Ideal) (S := S1024x512) (e' := .f32) P (Rect.unit ![o, 0] ![256, 512] hi) (ix2 r j) = P (ix2 ⟨o + r.val, by omega⟩ j) := by
  refine congrArg P (funext fun a => Fin.ext ?_)
  fin_cases a
  · show o + 1 * r.val = o + r.val
    omega
  · show 0 + 1 * j.val = j.val
    omega

theorem step_A (c : Dev nD) (t : Fin cfg2.N) (h : t.val % 8 = 0) (i : S1024x512.Idx) :
    outsAt2 V c t.val t.isLt i = 0 + step V c t i := by
  rw [outsAt2_A V c t h]
  frame_open
  simp (disch := decide) only [↓ View.readCov_skip, ↓ View.readCov_cons_toLoadRect, ↓ View.readCov_fill]
  frame_out
  have z : ∀ x, k2_pay2 (F := Ideal) x = 0 := fun x => by idx_vars x; pointwise [k2_pay2]
  refine View.canon_append_of_piecesOf (Val := Elt Ideal) (e := .f32) (fun i => 0 + step V c t i) [_] [_, _, _, _] ⟨fun x => ?_, fun x => ?_, fun x => ?_, fun x => ?_, trivial⟩ i ?_
  · idx_vars x
    refine (quarter_3 V c t (fun _ => 0) _ x0 x1 (z _)).trans (congrArg (fun i => 0 + step V c t i) ?_)
    blk_ext []
  · idx_vars x
    refine (quarter_2 V c t (fun _ => 0) _ x0 x1 (z _)).trans (congrArg (fun i => 0 + step V c t i) ?_)
    blk_ext []
  · idx_vars x
    refine (quarter_1 V c t (fun _ => 0) _ x0 x1 (z _)).trans (congrArg (fun i => 0 + step V c t i) ?_)
    blk_ext []
  · idx_vars x
    refine (quarter_0 V c t (fun _ => 0) _ x0 x1 (z _)).trans (congrArg (fun i => 0 + step V c t i) ?_)
    blk_ext []
  · exact View.cover_of_tiledL (s := S1024x512) _ S256x512.size (by sl_kernel_rfl) i

theorem step_B (c : Dev nD) (t : Fin cfg2.N) (h : ¬ t.val % 8 = 0) (hp) (i : S1024x512.Idx) :
    outsAt2 V c t.val t.isLt i = outsAt2 V c (t.val - 1) hp i + step V c t i := by
  rw [outsAt2_B V c t h]
  frame_out
  generalize outsAt2 V c (t.val - 1) hp = P
  refine View.canon_append_of_piecesOf (Val := Elt Ideal) (e := .f32) (fun i => P i + step V c t i) [] [_, _, _, _] ⟨fun x => ?_, fun x => ?_, fun x => ?_, fun x => ?_, trivial⟩ i ?_
  · idx_vars x
    refine (quarter_3 V c t P _ x0 x1 (ld_rows P 768 (by omega) _ x0 x1)).trans (congrArg (fun i => P i + step V c t i) ?_)
    blk_ext []
  · idx_vars x
    refine (quarter_2 V c t P _ x0 x1 (ld_rows P 512 (by omega) _ x0 x1)).trans (congrArg (fun i => P i + step V c t i) ?_)
    blk_ext []
  · idx_vars x
    refine (quarter_1 V c t P _ x0 x1 (ld_rows P 256 (by omega) _ x0 x1)).trans (congrArg (fun i => P i + step V c t i) ?_)
    blk_ext []
  · idx_vars x
    refine (quarter_0 V c t P _ x0 x1 ((ld_rows P 0 (by omega) _ x0 x1).trans (congrArg (fun n => P (ix2 n x1)) (Fin.ext (Nat.zero_add _))))).trans (congrArg (fun i => P i + step V c t i) ?_)
    blk_ext []
  · exact View.cover_of_tiledL (s := S1024x512) _ S256x512.size (by sl_kernel_rfl) i

theorem sum_step (c : Dev nD) (h : ℕ) (hh : h < 2) (p : Fin 8 → Fin cfg2.N) (hp : ∀ s, (p s).val = 8 * h + s.val) (k : Fin 1024) (j : Fin 512) :
    ∑ s : Fin 8, step V c (p s) (ix2 k j)
      = dw (V c main_arg6) (V c main_arg1) (V c main_arg2) (V c main_arg3) (V c main_arg4) (ix2 k ⟨512 * h + j.val, by omega⟩) := by
  refine Fin.sum_mul_add_congr fun s r hl => ?_
  have e0 : 512 * ((p s).val % 8) + r.val = s.val * 512 + r.val := by rw [hp]; omega
  have e1 : 512 * ((p s).val / 8) + j.val = 512 * h + j.val := by rw [hp]; omega
  refine congrArg₂ (· * ·) ?_ ?_
  · exact congrArg (fun n => mix (V c main_arg1) (V c main_arg2) (V c main_arg3) (V c main_arg4) n k.val) (Fin.ext e0)
  · exact congrArg₂ (fun n l => (V c main_arg6 : FVec Ideal S4096x1024 .f32) (ix2 n l)) (Fin.ext e0) (Fin.ext e1)

/-- The weight's gradient. -/
theorem final2 (c : Dev nD) : ((dat2 V c).arrAt 5 cfg2.N : FVec Ideal S1024x1024 .f32)
    = dw (V c main_arg6) (V c main_arg1) (V c main_arg2) (V c main_arg3) (V c main_arg4) := by
  refine (dat2 V c).arrAt_eq_of_covers 5 _ (by decide +kernel) fun t hf y => ?_
  blk_simp
  have hN : t.val < 16 := lt_of_lt_of_eq t.isLt N_2
  rw [after2_5, Pipeline.eq_sum_fin_of_reset_step_apply_of_flush (fun n h => outsAt2 V c n h) 8 (fun _ => 0) (fun t i => step V c t i)
    (fun t h j => step_A V c t h j) (fun t h j => step_B V c t h _ j) t ((flush2_5 t).mp hf) _, zero_add]
  idx_vars y
  have e : ((View.whole main_v8).slice (win2_5.rect t)).emb (ix2 y0 y1) = ix2 y0 ⟨512 * (t.val / 8) + y1.val, by omega⟩ := by
    blk_ext [idx2 t]
  rw [e]
  exact sum_step V c (t.val / 8) (by omega) (fun s => ⟨8 * (t.val / 8) + s.val, _⟩) (fun s => rfl) y0 y1

end Cert.OutProjIdeal.Tile
-- ==== Proof.OutProjRef.lean ====
module

public import proofs.«01_k».proof.Proof.OutProjSpec
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem

/-! # The reference's three results are the formulas -/

namespace Cert.OutProjRefIdeal.Spec

open Cert.OutProjRefIdeal Cert.OutProjRefIdeal.Gen Cert.OutProjRefIdeal.Read Cert.OutProjSpec

variable (x0 x6 : FVec Ideal S4096x1024 .f32) (x1 x2 x3 x4 : FVec Ideal S4096x256 .f32) (x5 : FVec Ideal S1024x1024 .f32)

theorem v0_apply (n : Fin 4096) (k : Fin 1024) : val_main_v0 (F := Ideal) x1 x2 x3 x4 (ix2 n k) = mix x1 x2 x3 x4 n k.val := by
  pointwise [val_main_v0]
  unfold mix
  split
  · rfl
  split
  · rfl
  split
  · rfl
  · rw [dif_pos (by omega)]

theorem val_main_v5_spec : val_main_v5 (F := Ideal) x0 x1 x2 x3 x4 x5 = out x0 x1 x2 x3 x4 x5 := by
  funext i
  idx_vars i
  have h := v0_apply x1 x2 x3 x4 i0
  pointwise [val_main_v5, val_main_v1]
  unfold out
  refine congrArg₂ (· + ·) rfl (Finset.sum_congr rfl fun k _ => ?_)
  rw [h]
  unfold row
  rw [dif_pos k.isLt]
  rfl

theorem val_main_v4_spec : val_main_v4 (F := Ideal) x5 x6 = dmix x6 x5 := by
  funext i
  idx_vars i
  pointwise [val_main_v4]
  rfl

theorem val_main_v3_spec : val_main_v3 (F := Ideal) x1 x2 x3 x4 x6 = dw x6 x1 x2 x3 x4 := by
  funext i
  idx_vars i
  have h := fun n => v0_apply x1 x2 x3 x4 n i0
  pointwise [val_main_v3, val_main_v2]
  unfold dw
  refine Finset.sum_congr rfl fun k _ => ?_
  rw [h, mul_comm]
  rfl

end Cert.OutProjRefIdeal.Spec
-- ==== Proof.OutProjClaim.lean ====
module

public import proofs.«01_k».proof.Defs
public import proofs.«01_k».proof.Proof.Gen.OutProj.Frame
public import proofs.«01_k».proof.Proof.OutProjTile
public import proofs.«01_k».proof.Proof.OutProjRef
public import Idealize.ShloMosaic.Adequacy

@[expose] public section

noncomputable section

open Idealize.ShloMosaic Idealize.ShloMosaic.TcCoe Idealize.SL.Sem

/-! # The output projection with its residual: the five claims -/

namespace Cert.OutProjClaim

theorem frameP : Cert.quiescent_OutProj (hOutProj := Cert.OutProj.Gen.facts) :=
  fun m ρ _ => Cert.OutProj.Gen.frame m ρ

theorem framePI : Cert.quiescent_OutProjIdeal (hOutProjIdeal := Cert.OutProjIdeal.Gen.facts) :=
  fun m ρ _ => Cert.OutProjIdeal.Gen.frame m ρ

theorem frameRI : Cert.quiescent_OutProjRefIdeal (hOutProjRefIdeal := Cert.OutProjRefIdeal.Gen.facts) :=
  fun m ρ _ => (θ_run Cert.OutProjRefIdeal.defs _ _).mono
    (fun r h => ⟨fun c => (h c).2.2.2, sem_eq_zero_of_no_sems (by decide) r.2⟩) (Cert.OutProjRefIdeal.Value.run (F := Ideal) m ρ)

section Calls

open Cert.OutProjIdeal Cert.OutProjIdeal.Gen

variable (m : (ℓ : Loc nD τ sig) → Buf (Elt Ideal) ℓ) (ρ : Dev nD → PrngReg)

/-- The three calls read the arguments, and the weight the host laid out. -/
theorem weight1 (c : Dev nD) (k j : Fin 1024) : (V1 m ρ c main_v5 : FVec Ideal S1024x1024 .bf16) (ix2 k j)
    = (m ((c : Thread nD τ).loc main_arg5) : FVec Ideal S1024x1024 .f32) (ix2 k j) := by
  rw [Whole.V1_main_v5, Whole.shards_apply]

theorem weight2 (c : Dev nD) (k j : Fin 1024) : (V2 m ρ c main_v5 : FVec Ideal S1024x1024 .bf16) (ix2 k j)
    = (m ((c : Thread nD τ).loc main_arg5) : FVec Ideal S1024x1024 .f32) (ix2 k j) :=
  (congrFun (W2_of m ρ c main_v5 (by decide)) (ix2 k j)).trans (weight1 m ρ c k j)

theorem out_eq (c : Dev nD) : ((dat0 (V1 m ρ) c).arrAt 6 cfg0.N : FVec Ideal S4096x1024 .f32)
    = OutProjSpec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  have a4 : V1 m ρ c main_arg4 = m ((c : Thread nD τ).loc main_arg4) := W1_args m ρ c main_arg4 (by decide)
  have h := Tile.final0 (V1 m ρ) c (m ((c : Thread nD τ).loc main_arg5)) (weight1 m ρ c)
  rw [a0, a1, a2, a3, a4] at h
  exact h

theorem dmix_eq (c : Dev nD) : ((dat1 (V2 m ρ) c).arrAt 2 cfg1.N : FVec Ideal S4096x1024 .f32)
    = OutProjSpec.dmix (m ((c : Thread nD τ).loc main_arg6)) (m ((c : Thread nD τ).loc main_arg5)) := by
  have a6 : V2 m ρ c main_arg6 = m ((c : Thread nD τ).loc main_arg6) := W2_args m ρ c main_arg6 (by decide)
  have h := Tile.final1 (V2 m ρ) c (m ((c : Thread nD τ).loc main_arg5)) (weight2 m ρ c)
  rw [a6] at h
  exact h

theorem dw_eq (c : Dev nD) : ((dat2 (V3 m ρ) c).arrAt 5 cfg2.N : FVec Ideal S1024x1024 .f32)
    = OutProjSpec.dw (m ((c : Thread nD τ).loc main_arg6)) (m ((c : Thread nD τ).loc main_arg1)) (m ((c : Thread nD τ).loc main_arg2))
        (m ((c : Thread nD τ).loc main_arg3)) (m ((c : Thread nD τ).loc main_arg4)) := by
  have a1 : V3 m ρ c main_arg1 = m ((c : Thread nD τ).loc main_arg1) := W3_args m ρ c main_arg1 (by decide)
  have a2 : V3 m ρ c main_arg2 = m ((c : Thread nD τ).loc main_arg2) := W3_args m ρ c main_arg2 (by decide)
  have a3 : V3 m ρ c main_arg3 = m ((c : Thread nD τ).loc main_arg3) := W3_args m ρ c main_arg3 (by decide)
  have a4 : V3 m ρ c main_arg4 = m ((c : Thread nD τ).loc main_arg4) := W3_args m ρ c main_arg4 (by decide)
  have a6 : V3 m ρ c main_arg6 = m ((c : Thread nD τ).loc main_arg6) := W3_args m ρ c main_arg6 (by decide)
  have h := Tile.final2 (V3 m ρ) c
  rw [a1, a2, a3, a4, a6] at h
  exact h

end Calls

theorem algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => OutProjSpec.out (m ((c.tc : Thread OutProjIdeal.nD OutProjIdeal.τ).loc OutProjIdeal.main_arg0)) (m ((c.tc : Thread OutProjIdeal.nD OutProjIdeal.τ).loc OutProjIdeal.main_arg1)) (m ((c.tc : Thread OutProjIdeal.nD OutProjIdeal.τ).loc OutProjIdeal.main_arg2))
        (m ((c.tc : Thread OutProjIdeal.nD OutProjIdeal.τ).loc OutProjIdeal.main_arg3)) (m ((c.tc : Thread OutProjIdeal.nD OutProjIdeal.τ).loc OutProjIdeal.main_arg4)) (m ((c.tc : Thread OutProjIdeal.nD OutProjIdeal.τ).loc OutProjIdeal.main_arg5)),
    fun c => OutProjSpec.dmix (m ((c.tc : Thread OutProjIdeal.nD OutProjIdeal.τ).loc OutProjIdeal.main_arg6)) (m ((c.tc : Thread OutProjIdeal.nD OutProjIdeal.τ).loc OutProjIdeal.main_arg5)),
    fun c => OutProjSpec.dw (m ((c.tc : Thread OutProjIdeal.nD OutProjIdeal.τ).loc OutProjIdeal.main_arg6)) (m ((c.tc : Thread OutProjIdeal.nD OutProjIdeal.τ).loc OutProjIdeal.main_arg1)) (m ((c.tc : Thread OutProjIdeal.nD OutProjIdeal.τ).loc OutProjIdeal.main_arg2))
        (m ((c.tc : Thread OutProjIdeal.nD OutProjIdeal.τ).loc OutProjIdeal.main_arg3)) (m ((c.tc : Thread OutProjIdeal.nD OutProjIdeal.τ).loc OutProjIdeal.main_arg4)), ?_, ?_⟩
  · refine (θ_run _ _ _).mono (fun r h c => ⟨(h c).1.trans (out_eq m ρ c), (h c).2.1.trans (dmix_eq m ρ c),
      (h c).2.2.1.trans (dw_eq m ρ c), (h c).2.2.2⟩) (Cert.OutProjIdeal.Whole.run m ρ)
  · refine (θ_run _ _ _).mono (fun r h c => ⟨(h c).1.trans ?_, (h c).2.1.trans ?_, (h c).2.2.1.trans ?_, (h c).2.2.2⟩)
      (Cert.OutProjRefIdeal.Value.run (F := Ideal) m' ρ')
    · obtain ⟨g0, g1, g2, g3, g4, g5, g6⟩ := hagree c
      rw [OutProjRefIdeal.Read.val_main_v5_eq, OutProjRefIdeal.Spec.val_main_v5_spec, g0, g1, g2, g3, g4, g5]
    · obtain ⟨g0, g1, g2, g3, g4, g5, g6⟩ := hagree c
      rw [OutProjRefIdeal.Read.val_main_v4_eq, OutProjRefIdeal.Spec.val_main_v4_spec, g5, g6]
    · obtain ⟨g0, g1, g2, g3, g4, g5, g6⟩ := hagree c
      rw [OutProjRefIdeal.Read.val_main_v3_eq, OutProjRefIdeal.Spec.val_main_v3_spec, g1, g2, g3, g4, g6]

end Cert.OutProjClaim
-- ==== Proof.InProjSpec.lean ====
module

public import proofs.«01_k».proof.Proof.Tiles
public import Idealize.ShloMosaic.PureOps.Ideal.Laws

@[expose] public section

set_option maxRecDepth 16384

noncomputable section

open Idealize.ShloMosaic

/-! # The normalised input projection, as formulas over the arrays

`X` is the input, `g` the gain, `W` the weight; `A`, `B`, `C`, `D` are the cotangents of the projection's columns as the four
branches keep them, `O` the cotangent that comes past the projection. -/

namespace Cert.InProjSpec

variable (X O : FVec Ideal ⟨2, ![4096, 1024]⟩ .f32) (g : FVec Ideal ⟨1, ![1024]⟩ .f32) (W : FVec Ideal ⟨2, ![1024, 3336]⟩ .f32)
variable (A : FVec Ideal ⟨2, ![4096, 768]⟩ .f32) (B : FVec Ideal ⟨2, ![4096, 512]⟩ .f32) (C : FVec Ideal ⟨2, ![4096, 1024]⟩ .f32)
  (D : FVec Ideal ⟨2, ![4096, 1152]⟩ .f32)

/-- The cotangent of the projection by column; no column past 3336. -/
def ct (n : Fin 4096) (k : ℕ) : EReal :=
  if h : k < 768 then A (ix2 n ⟨k, h⟩)
  else if h : k - 768 < 512 then B (ix2 n ⟨k - 768, h⟩)
  else if h : k - 768 - 512 < 1024 then C (ix2 n ⟨k - 768 - 512, h⟩)
  else if h : k - 768 - 512 - 1024 < 768 then D (ix2 n ⟨k - 768 - 512 - 1024, by omega⟩)
  else if h : k - 768 - 512 - 1024 - 768 < 8 then D (ix2 n ⟨1024 + (k - 768 - 512 - 1024 - 768), by omega⟩)
  else if h : k - 768 - 512 - 1024 - 768 - 8 < 256 then D (ix2 n ⟨768 + (k - 768 - 512 - 1024 - 768 - 8), by omega⟩)
  else 0

/-- The weight by column as the calls keep it: the last two parts exchanged, then zeros. -/
def wpad (k : Fin 1024) (p : ℕ) : EReal :=
  if h : p < 3072 then W (ix2 k ⟨p, by omega⟩)
  else if h : p < 3328 then W (ix2 k ⟨p + 8, by omega⟩)
  else if h : p < 3336 then W (ix2 k ⟨p - 256, by omega⟩)
  else 0

/-- The weight by column; no column past 3336. -/
def wcol (k : Fin 1024) (p : ℕ) : EReal := if h : p < 3336 then W (ix2 k ⟨p, h⟩) else 0

/-- A row's mean square with the constant under the root. -/
def ms (n : Fin 4096) : EReal :=
  Ideal.div (∑ k : Fin 1024, X (ix2 n k) * X (ix2 n k)) (Ideal.ofBits .f32 0x44800000#32) + Ideal.ofBits .f32 0x358637BD#32

/-- The normalised input. -/
def hid (n : Fin 4096) (k : Fin 1024) : EReal := X (ix2 n k) * Ideal.rsqrt (ms X n) * g (ix1 k)

/-- The normalised input as an array. -/
def hids : FVec Ideal ⟨2, ![4096, 1024]⟩ .bf16 := fun i => hid X g ⟨(i 0).val, (i 0).isLt⟩ ⟨(i 1).val, (i 1).isLt⟩

/-- The projection, its columns as the calls keep them. -/
def proj : FVec Ideal ⟨2, ![4096, 3456]⟩ .f32 := fun i =>
  ∑ k : Fin 1024, hid X g ⟨(i 0).val, (i 0).isLt⟩ k * wpad W k (i 1).val

/-- The cotangent of the normalised input. -/
def dhid (n : Fin 4096) (k : Fin 1024) : EReal := ∑ p : Fin 3336, ct A B C D n p.val * wcol W k p.val

/-- What a row's cotangent gives back through the mean square, halved and spread over the columns. -/
def back (n : Fin 4096) : EReal :=
  Ideal.div ((∑ k : Fin 1024, X (ix2 n k) * (dhid W A B C D n k * g (ix1 k)))
    * (Ideal.ofBits .f32 0xBF000000#32 * Ideal.div (Ideal.rsqrt (ms X n)) (ms X n))) (Ideal.ofBits .f32 0x44800000#32)

/-- The input's cotangent at a row and column. -/
def dxAt (n : Fin 4096) (k : Fin 1024) : EReal :=
  O (ix2 n k) + (dhid W A B C D n k * g (ix1 k) * Ideal.rsqrt (ms X n) + X (ix2 n k) * back X g W A B C D n
    + back X g W A B C D n * X (ix2 n k))

/-- The input's cotangent. -/
def dx : FVec Ideal ⟨2, ![4096, 1024]⟩ .f32 := fun i => dxAt X O g W A B C D ⟨(i 0).val, (i 0).isLt⟩ ⟨(i 1).val, (i 1).isLt⟩

/-- A row's share of the gain's gradient. -/
def dgAt (n : ℕ) (k : Fin 1024) : EReal :=
  if h : n < 4096 then X (ix2 ⟨n, h⟩ k) * Ideal.rsqrt (ms X ⟨n, h⟩) * dhid W A B C D ⟨n, h⟩ k else 0

/-- The gain's gradient. -/
def dg : FVec Ideal ⟨2, ![1, 1024]⟩ .f32 := fun i => ∑ n : Fin 4096, dgAt X W A B C D n.val ⟨(i 1).val, (i 1).isLt⟩

/-- The weight's gradient. -/
def dw : FVec Ideal ⟨2, ![1024, 3336]⟩ .f32 := fun i =>
  ∑ n : Fin 4096, hid X g n ⟨(i 0).val, (i 0).isLt⟩ * ct A B C D n (i 1).val

/-- The gradient of a block of weight columns: the normalised input against the block's cotangent. -/
def gram {m : ℕ} (H : FVec Ideal ⟨2, ![4096, 1024]⟩ .bf16) (G : FVec Ideal ⟨2, ![4096, m]⟩ .f32) : FVec Ideal ⟨2, ![1024, m]⟩ .f32 := fun i =>
  ∑ n : Fin 4096, H (ix2 n ⟨(i 0).val, (i 0).isLt⟩) * G (ix2 n ⟨(i 1).val, (i 1).isLt⟩)

/-- The same over one tile's 256 rows. -/
def gramStep {m : ℕ} (H : FVec Ideal ⟨2, ![4096, 1024]⟩ .bf16) (G : FVec Ideal ⟨2, ![4096, m]⟩ .f32) (s : ℕ) (hs : s < 16)
    (i : (⟨2, ![1024, m]⟩ : Shape).Idx) : EReal :=
  ∑ k : Fin 256, H (ix2 ⟨256 * s + k.val, by omega⟩ ⟨(i 0).val, (i 0).isLt⟩) * G (ix2 ⟨256 * s + k.val, by omega⟩ ⟨(i 1).val, (i 1).isLt⟩)

theorem gram_sum {m : ℕ} (H : FVec Ideal ⟨2, ![4096, 1024]⟩ .bf16) (G : FVec Ideal ⟨2, ![4096, m]⟩ .f32) (i : (⟨2, ![1024, m]⟩ : Shape).Idx) :
    ∑ s : Fin 16, gramStep H G s.val s.isLt i = gram H G i := by
  refine Fin.sum_mul_add_congr fun s k hl => ?_
  have e : 256 * s.val + k.val = s.val * 256 + k.val := by omega
  exact congrArg₂ (· * ·) (congrArg (fun n => H (ix2 n _)) (Fin.ext e)) (congrArg (fun n => G (ix2 n _)) (Fin.ext e))

/-! ## The columns in blocks -/

theorem ct_0 (n : Fin 4096) (k : Fin 768) : ct A B C D n k.val = A (ix2 n k) := by
  unfold ct
  rw [dif_pos k.isLt]

theorem ct_1 (n : Fin 4096) (k : Fin 512) : ct A B C D n (768 + k.val) = B (ix2 n k) := by
  have e : 768 + k.val - 768 = k.val := by omega
  unfold ct
  rw [dif_neg (by omega), dif_pos (by omega)]
  exact congrArg B (congrArg (ix2 n) (Fin.ext e))

theorem ct_2 (n : Fin 4096) (k : Fin 1024) : ct A B C D n (1280 + k.val) = C (ix2 n k) := by
  have e : 1280 + k.val - 768 - 512 = k.val := by omega
  unfold ct
  rw [dif_neg (by omega), dif_neg (by omega), dif_pos (by omega)]
  exact congrArg C (congrArg (ix2 n) (Fin.ext e))

theorem ct_3 (n : Fin 4096) (k : Fin 768) : ct A B C D n (2304 + k.val) = D (ix2 n ⟨k.val, by omega⟩) := by
  have e : 2304 + k.val - 768 - 512 - 1024 = k.val := by omega
  unfold ct
  rw [dif_neg (by omega), dif_neg (by omega), dif_neg (by omega), dif_pos (by omega)]
  exact congrArg D (congrArg (ix2 n) (Fin.ext e))

theorem ct_4 (n : Fin 4096) (k : Fin 8) : ct A B C D n (3072 + k.val) = D (ix2 n ⟨1024 + k.val, by omega⟩) := by
  have e : 1024 + (3072 + k.val - 768 - 512 - 1024 - 768) = 1024 + k.val := by omega
  unfold ct
  rw [dif_neg (by omega), dif_neg (by omega), dif_neg (by omega), dif_neg (by omega), dif_pos (by omega)]
  exact congrArg D (congrArg (ix2 n) (Fin.ext e))

theorem ct_5 (n : Fin 4096) (k : Fin 256) : ct A B C D n (3080 + k.val) = D (ix2 n ⟨768 + k.val, by omega⟩) := by
  have e : 768 + (3080 + k.val - 768 - 512 - 1024 - 768 - 8) = 768 + k.val := by omega
  unfold ct
  rw [dif_neg (by omega), dif_neg (by omega), dif_neg (by omega), dif_neg (by omega), dif_neg (by omega), dif_pos (by omega)]
  exact congrArg D (congrArg (ix2 n) (Fin.ext e))

theorem wp_lo (k : Fin 1024) (p : ℕ) (h : p < 3072) : wpad W k p = wcol W k p := by
  unfold wpad wcol
  rw [dif_pos h, dif_pos (by omega)]

theorem wp_mid (k : Fin 1024) (p : ℕ) (h : p < 256) : wpad W k (3072 + p) = wcol W k (3080 + p) := by
  have e : 3072 + p + 8 = 3080 + p := by omega
  unfold wpad wcol
  rw [dif_neg (by omega), dif_pos (by omega), dif_pos (by omega)]
  exact congrArg W (congrArg (ix2 k) (Fin.ext e))

theorem wp_hi (k : Fin 1024) (p : ℕ) (h : p < 8) : wpad W k (3328 + p) = wcol W k (3072 + p) := by
  have e : 3328 + p - 256 = 3072 + p := by omega
  unfold wpad wcol
  rw [dif_neg (by omega), dif_neg (by omega), dif_pos (by omega), dif_pos (by omega)]
  exact congrArg W (congrArg (ix2 k) (Fin.ext e))

theorem wp_pad (k : Fin 1024) (p : ℕ) : wpad W k (3336 + p) = 0 := by
  unfold wpad
  rw [dif_neg (by omega), dif_neg (by omega), dif_neg (by omega)]

/-- A sum over 3336 columns in its six parts. -/
theorem sum_cols (f : ℕ → EReal) :
    ∑ k : Fin 3336, f k.val
      = ∑ k : Fin 768, f k.val + ∑ k : Fin 512, f (768 + k.val) + ∑ k : Fin 1024, f (1280 + k.val) + ∑ k : Fin 768, f (2304 + k.val)
        + ∑ k : Fin 8, f (3072 + k.val) + ∑ k : Fin 256, f (3080 + k.val) := by
  simp only [Fin.sum_univ_eq_sum_range (fun k => f k), Fin.sum_univ_eq_sum_range (fun k => f (768 + k)),
    Fin.sum_univ_eq_sum_range (fun k => f (1280 + k)), Fin.sum_univ_eq_sum_range (fun k => f (2304 + k)),
    Fin.sum_univ_eq_sum_range (fun k => f (3072 + k)), Fin.sum_univ_eq_sum_range (fun k => f (3080 + k))]
  rw [show (3336 : ℕ) = 3080 + 256 from rfl, Finset.sum_range_add, show (3080 : ℕ) = 3072 + 8 from rfl, Finset.sum_range_add,
    show (3072 : ℕ) = 2304 + 768 from rfl, Finset.sum_range_add, show (2304 : ℕ) = 1280 + 1024 from rfl, Finset.sum_range_add,
    show (1280 : ℕ) = 768 + 512 from rfl, Finset.sum_range_add]

/-- A sum over 1152 columns in its four parts. -/
theorem sum_last (f : ℕ → EReal) :
    ∑ k : Fin 1152, f k.val
      = ∑ k : Fin 768, f k.val + ∑ k : Fin 256, f (768 + k.val) + ∑ k : Fin 8, f (1024 + k.val) + ∑ k : Fin 120, f (1032 + k.val) := by
  simp only [Fin.sum_univ_eq_sum_range (fun k => f k), Fin.sum_univ_eq_sum_range (fun k => f (768 + k)),
    Fin.sum_univ_eq_sum_range (fun k => f (1024 + k)), Fin.sum_univ_eq_sum_range (fun k => f (1032 + k))]
  rw [show (1152 : ℕ) = 1032 + 120 from rfl, Finset.sum_range_add, show (1032 : ℕ) = 1024 + 8 from rfl, Finset.sum_range_add,
    show (1024 : ℕ) = 768 + 256 from rfl, Finset.sum_range_add]

/-- The cotangent of the normalised input, block by block against the weight as the calls keep it. -/
theorem dhid_blocks (n : Fin 4096) (k : Fin 1024) : dhid W A B C D n k
    = ∑ p : Fin 768, A (ix2 n p) * wpad W k p.val + ∑ p : Fin 512, B (ix2 n p) * wpad W k (768 + p.val)
      + ∑ p : Fin 1024, C (ix2 n p) * wpad W k (1280 + p.val) + ∑ p : Fin 1152, D (ix2 n p) * wpad W k (2304 + p.val) := by
  have d : ∑ p : Fin 1152, D (ix2 n p) * wpad W k (2304 + p.val)
      = ∑ p : Fin 768, D (ix2 n ⟨p.val, by omega⟩) * wcol W k (2304 + p.val)
        + ∑ p : Fin 256, D (ix2 n ⟨768 + p.val, by omega⟩) * wcol W k (3080 + p.val)
        + ∑ p : Fin 8, D (ix2 n ⟨1024 + p.val, by omega⟩) * wcol W k (3072 + p.val) := by
    refine Eq.trans ?_ ((sum_last fun m => (if h : m < 1152 then D (ix2 n ⟨m, h⟩) else 0) * wpad W k (2304 + m)).trans ?_)
    · refine Finset.sum_congr rfl fun p _ => ?_
      rw [dif_pos p.isLt]
    have z : ∑ p : Fin 120, (if h : 1032 + p.val < 1152 then D (ix2 n ⟨1032 + p.val, h⟩) else 0) * wpad W k (2304 + (1032 + p.val)) = 0 :=
      Finset.sum_eq_zero fun p _ => by
        rw [show 2304 + (1032 + p.val) = 3336 + p.val by omega, wp_pad, mul_zero]
    rw [z, add_zero]
    refine congrArg₂ (· + ·) (congrArg₂ (· + ·) ?_ ?_) ?_
    · refine Finset.sum_congr rfl fun p _ => ?_
      rw [dif_pos (by omega), wp_lo _ _ _ (by omega)]
    · refine Finset.sum_congr rfl fun p _ => ?_
      rw [dif_pos (by omega), show 2304 + (768 + p.val) = 3072 + p.val by omega, wp_mid _ _ _ (by omega)]
    · refine Finset.sum_congr rfl fun p _ => ?_
      rw [dif_pos (by omega), show 2304 + (1024 + p.val) = 3328 + p.val by omega, wp_hi _ _ _ (by omega)]
  unfold dhid
  rw [sum_cols fun p => ct A B C D n p * wcol W k p, d]
  simp only [ct_0, ct_1, ct_2, ct_3, ct_4, ct_5]
  simp only [fun p : Fin 768 => wp_lo W k p.val (by omega), fun p : Fin 512 => wp_lo W k (768 + p.val) (by omega),
    fun p : Fin 1024 => wp_lo W k (1280 + p.val) (by omega)]
  abel

end Cert.InProjSpec
-- ==== Proof.InProjRun.lean ====
module

public import proofs.«01_k».proof.Proof.Gen.InProjIdeal.Frame
public import Idealize.ShloMosaic.Lib.Pipeline.ValueKit

@[expose] public section

set_option maxRecDepth 16384

noncomputable section

/-! # The input projection's run

The three calls run one after the other; at the end every buffer holds what the fold over the calls says. -/

namespace Cert.InProjIdeal.Whole

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer of the program ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The four results and the arguments, read off the run. -/
theorem run : θ_run defs (onTc (τ := τ) (main (F := F))) ⟨m, fun _ => 0, ρ⟩ (fun r => ∀ c : Dev nD,
      r.2.mem ((c.tc : Thread nD τ).loc main_v11_0) = (dat0 (V1 m ρ) c).arrAt 3 cfg0.N
      ∧ r.2.mem ((c.tc : Thread nD τ).loc main_v17_0) = (dat2 (V4 m ρ) c).arrAt 8 cfg2.N
      ∧ r.2.mem ((c.tc : Thread nD τ).loc main_v17_1) = (dat2 (V4 m ρ) c).arrAt 9 cfg2.N
      ∧ r.2.mem ((c.tc : Thread nD τ).loc main_v16) = V4 m ρ c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨(h c _ (mem_uc main_v11_0 (by decide))).trans ((((W5_of m ρ c main_v11_0 (by decide)).trans (W4_of m ρ c main_v11_0 (by decide))).trans
        (W3_of m ρ c main_v11_0 (by decide))).trans (W2_arr m ρ c 3)),
     (h c _ (mem_uc main_v17_0 (by decide))).trans (W5_arr m ρ c 8),
     (h c _ (mem_uc main_v17_1 (by decide))).trans (W5_arr m ρ c 9),
     (h c _ (mem_uc main_v16 (by decide))).trans (W5_of m ρ c main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)

/-! ## What each call reads -/

/-- The bfloat16 weight: four column shards, the last cut in three with its two narrow parts exchanged, and columns of zeros. -/
def packed (w : FVec F S1024x3336 .f32) : FVec F S1024x3456 .bf16 :=
  concatenate S1024x3456 1 [⟨S1024x834, extractStridedSlice S1024x834 ![0, 0] (truncf .bf16 w bitsLt_bf16_f32) slices_S1024x3336_S1024x834_0_0⟩,
    ⟨S1024x834, extractStridedSlice S1024x834 ![0, 834] (truncf .bf16 w bitsLt_bf16_f32) slices_S1024x3336_S1024x834_0_834⟩,
    ⟨S1024x834, extractStridedSlice S1024x834 ![0, 1668] (truncf .bf16 w bitsLt_bf16_f32) slices_S1024x3336_S1024x834_0_1668⟩,
    ⟨S1024x570, extractStridedSlice S1024x570 ![0, 0] (extractStridedSlice S1024x834 ![0, 2502] (truncf .bf16 w bitsLt_bf16_f32) slices_S1024x3336_S1024x834_0_2502) slices_S1024x834_S1024x570_0_0⟩,
    ⟨S1024x256, extractStridedSlice S1024x256 ![0, 578] (extractStridedSlice S1024x834 ![0, 2502] (truncf .bf16 w bitsLt_bf16_f32) slices_S1024x3336_S1024x834_0_2502) slices_S1024x834_S1024x256_0_578⟩,
    ⟨S1024x8, extractStridedSlice S1024x8 ![0, 570] (extractStridedSlice S1024x834 ![0, 2502] (truncf .bf16 w bitsLt_bf16_f32) slices_S1024x3336_S1024x834_0_2502) slices_S1024x834_S1024x8_0_570⟩,
    ⟨S1024x120, broadcastInDim S1024x120 ![] bcast_S_S1024x120 (constant S_ .bf16 0x0000#16)⟩]
    concatenates_S1024x834_S1024x834_S1024x834_S1024x570_S1024x256_S1024x8_S1024x120_S1024x3456_d1

theorem host_main_v9 (σ : Valuation τ sig (Elt F)) : StableHlo.after hostOps0 σ (Proc.devRef .tc main_v9)
    = packed (σ (Proc.devRef .tc main_arg2) : FVec F S1024x3336 .f32) := by
  after_results_simp
  rfl

/-- The gain as a row. -/
theorem host_main_v10 (σ : Valuation τ sig (Elt F)) : (StableHlo.after hostOps0 σ (Proc.devRef .tc main_v10) : FVec F S1x1024 .f32)
    = shapeCast S1x1024 (σ (Proc.devRef .tc main_arg1) : FVec F S1024 .f32) shapeCasts_S1024_S1x1024 := by
  after_results_simp
  rfl

/-- The weight's gradient put together: the three whole blocks, and the last one cut in three. -/
def together (a : FVec F S1024x768 .f32) (b : FVec F S1024x512 .f32) (cc : FVec F S1024x1024 .f32) (d : FVec F S1024x1152 .f32) : FVec F S1024x3336 .f32 :=
  concatenate S1024x3336 1 [⟨S1024x768, a⟩, ⟨S1024x512, b⟩, ⟨S1024x1024, cc⟩,
    ⟨S1024x768, extractStridedSlice S1024x768 ![0, 0] d slices_S1024x1152_S1024x768_0_0⟩,
    ⟨S1024x8, extractStridedSlice S1024x8 ![0, 1024] d slices_S1024x1152_S1024x8_0_1024⟩,
    ⟨S1024x256, extractStridedSlice S1024x256 ![0, 768] d slices_S1024x1152_S1024x256_0_768⟩]
    concatenates_S1024x768_S1024x512_S1024x1024_S1024x768_S1024x8_S1024x256_S1024x3336_d1

theorem host_main_v16 (σ : Valuation τ sig (Elt F)) : StableHlo.after hostOps2 σ (Proc.devRef .tc main_v16)
    = together (σ (Proc.devRef .tc main_v12_0) : FVec F S1024x768 .f32) (σ (Proc.devRef .tc main_v12_1) : FVec F S1024x512 .f32)
        (σ (Proc.devRef .tc main_v12_2) : FVec F S1024x1024 .f32) (σ (Proc.devRef .tc main_v12_3) : FVec F S1024x1152 .f32) := by
  after_results_simp
  rfl

theorem V1_main_v9 (mi : (ℓ : Loc nD τ sig) → Buf (Elt Ideal) ℓ) (c : Dev nD) :
    (V1 mi ρ c main_v9 : FVec Ideal S1024x3456 .bf16) = packed (F := Ideal) (mi ((c : Thread nD τ).loc main_arg2) : FVec Ideal S1024x3336 .f32) :=
  host_main_v9 (F := Ideal) (W0 mi ρ c)

theorem V1_main_v10 (mi : (ℓ : Loc nD τ sig) → Buf (Elt Ideal) ℓ) (c : Dev nD) (k : Fin 1024) :
    (V1 mi ρ c main_v10 : FVec Ideal S1x1024 .f32) (ix2 0 k) = (mi ((c : Thread nD τ).loc main_arg1) : FVec Ideal S1024 .f32) (ix1 k) := by
  have h : (V1 mi ρ c main_v10 : FVec Ideal S1x1024 .f32) = _ := host_main_v10 (F := Ideal) (W0 mi ρ c)
  rw [h]
  generalize hg : (W0 mi ρ c (Proc.devRef .tc main_arg1) : FVec Ideal S1024 .f32) = g
  have e : (mi ((c : Thread nD τ).loc main_arg1) : FVec Ideal S1024 .f32) = g := hg
  rw [e]
  pointwise []

theorem V4_main_v16 (mi : (ℓ : Loc nD τ sig) → Buf (Elt Ideal) ℓ) (c : Dev nD) :
    (V4 mi ρ c main_v16 : FVec Ideal S1024x3336 .f32) = together (F := Ideal) (dat1 (V2 mi ρ) c |>.arrAt 5 cfg1.N) (dat1 (V2 mi ρ) c |>.arrAt 6 cfg1.N)
      (dat1 (V2 mi ρ) c |>.arrAt 7 cfg1.N) (dat1 (V2 mi ρ) c |>.arrAt 8 cfg1.N) := by
  refine (host_main_v16 (F := Ideal) (W3 mi ρ c)).trans ?_
  congr 1
  · exact W3_arr mi ρ c 5
  · exact W3_arr mi ρ c 6
  · exact W3_arr mi ρ c 7
  · exact W3_arr mi ρ c 8

end Cert.InProjIdeal.Whole
-- ==== Proof.InProjTile.lean ====
module

public import proofs.«01_k».proof.Proof.InProjSpec
public import proofs.«01_k».proof.Proof.InProjRun
public import Idealize.ShloMosaic.Lib.Pipeline.ReadBack

@[expose] public section

set_option maxRecDepth 16384

noncomputable section

open Idealize.ShloMosaic Idealize.ShloMosaic.TcCoe Idealize.SL.Sem

/-! # The input projection's forward call, at the arrays it leaves

`V` is what the buffers hold when the call starts. -/

namespace Cert.InProjIdeal.Tile

open Cert.InProjIdeal Cert.InProjIdeal.Gen Cert.InProjSpec

theorem packed_apply (w : FVec Ideal S1024x3336 .f32) (k : Fin 1024) (p : Fin 3456) : Whole.packed (F := Ideal) w (ix2 k p) = wpad w k p.val := by
  pointwise [Whole.packed]
  unfold wpad
  split
  · rw [dif_pos (by omega)]
  split
  · rw [dif_pos (by omega)]
    blk_point []
  split
  · rw [dif_pos (by omega)]
    blk_point []
  split
  · rw [dif_pos (by omega)]
    blk_point []
  split
  · rw [dif_neg (by omega), dif_pos (by omega)]
    blk_point []
  split
  · rw [dif_neg (by omega), dif_neg (by omega), dif_pos (by omega)]
    blk_point []
  · rw [dif_neg (by omega), dif_neg (by omega), dif_neg (by omega)]

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem blk0_0 (c : Dev nD) (t : Fin cfg0.N) (r : Fin 256) (j : Fin 1024) : (iblk0 V c 0 t : FVec Ideal S256x1024 .f32) (ix2 r j)
    = (V c main_arg0 : FVec Ideal S4096x1024 .f32) (ix2 ⟨256 * t.val + r.val, by have := lt_of_lt_of_eq t.isLt N_0; omega⟩ j) := by
  blk_ext [iblk0, idx0 t]

theorem blk0_1 (c : Dev nD) (t : Fin cfg0.N) (j : Fin 1024) : (iblk0 V c 1 t : FVec Ideal S1x1024 .f32) (ix2 0 j)
    = (V c main_v10 : FVec Ideal S1x1024 .f32) (ix2 0 j) := by
  blk_ext [iblk0, idx0 t]

theorem blk0_2 (c : Dev nD) (t : Fin cfg0.N) (r : Fin 1024) (j : Fin 3456) : (iblk0 V c 2 t : FVec Ideal S1024x3456 .bf16) (ix2 r j)
    = (V c main_v9 : FVec Ideal S1024x3456 .bf16) (ix2 r j) := by
  blk_ext [iblk0, idx0 t]

/-- A tile's normalised rows. -/
theorem pay1_apply (c : Dev nD) (t : Fin cfg0.N) (g : FVec Ideal S1024 .f32)
    (hg : ∀ k, (V c main_v10 : FVec Ideal S1x1024 .f32) (ix2 0 k) = g (ix1 k)) (r : Fin 256) (k : Fin 1024) :
    k0_pay1 (F := Ideal) (iblk0 V c 0 t) (iblk0 V c 1 t) (ix2 r k)
      = hid (V c main_arg0) g ⟨256 * t.val + r.val, by have := lt_of_lt_of_eq t.isLt N_0; omega⟩ k := by
  have h0 := blk0_0 V c t r
  have h1 := blk0_1 V c t
  generalize (iblk0 V c 0 t : FVec Ideal S256x1024 .f32) = x at h0 ⊢
  generalize (iblk0 V c 1 t : FVec Ideal S1x1024 .f32) = y at h1 ⊢
  pointwise [k0_pay1]
  simp only [h0, h1, hg]
  rfl

theorem pay2_apply (v0 : FVec Ideal S256x1024 .f32) (v1 : FVec Ideal S1x1024 .f32) (v17 : FVec Ideal S1024x3456 .bf16) (r : Fin 256) (p : Fin 3456) :
    k0_pay2 (F := Ideal) v0 v1 v17 (ix2 r p) = ∑ k : Fin 1024, k0_pay1 (F := Ideal) v0 v1 (ix2 r k) * v17 (ix2 k p) := by
  pointwise [k0_pay2]

/-- The projection. -/
theorem final0_3 (c : Dev nD) (g : FVec Ideal S1024 .f32) (W : FVec Ideal S1024x3336 .f32)
    (hg : ∀ k, (V c main_v10 : FVec Ideal S1x1024 .f32) (ix2 0 k) = g (ix1 k))
    (hW : ∀ k p, (V c main_v9 : FVec Ideal S1024x3456 .bf16) (ix2 k p) = wpad W k p.val) :
    ((dat0 V c).arrAt 3 cfg0.N : FVec Ideal S4096x3456 .f32) = proj (V c main_arg0) g W := by
  refine (dat0 V c).arrAt_eq_of_covers 3 _ (by decide +kernel) fun t hf y => ?_
  blk_simp
  rw [after0_3]
  idx_vars y
  have hN : t.val < 16 := lt_of_lt_of_eq t.isLt N_0
  have e : ((View.whole main_v11_0).slice (win0_3.rect t)).emb (ix2 y0 y1) = ix2 ⟨256 * t.val + y0.val, by omega⟩ y1 := by
    blk_ext [idx0 t]
  frame_out
  rw [e, pay2_apply]
  simp only [pay1_apply V c t g hg, blk0_2, hW]
  rfl

/-- The normalised input, kept for the weight's gradient. -/
theorem final0_4 (c : Dev nD) (g : FVec Ideal S1024 .f32)
    (hg : ∀ k, (V c main_v10 : FVec Ideal S1x1024 .f32) (ix2 0 k) = g (ix1 k)) :
    ((dat0 V c).arrAt 4 cfg0.N : FVec Ideal S4096x1024 .bf16) = hids (V c main_arg0) g := by
  refine (dat0 V c).arrAt_eq_of_covers 4 _ (by decide +kernel) fun t hf y => ?_
  blk_simp
  rw [after0_4]
  idx_vars y
  have hN : t.val < 16 := lt_of_lt_of_eq t.isLt N_0
  have e : ((View.whole main_v11_1).slice (win0_4.rect t)).emb (ix2 y0 y1) = ix2 ⟨256 * t.val + y0.val, by omega⟩ y1 := by
    blk_ext [idx0 t]
  frame_out
  rw [e, pay1_apply V c t g hg]
  rfl

end Cert.InProjIdeal.Tile
-- ==== Proof.InProjTileW.lean ====
module

public import proofs.«01_k».proof.Proof.InProjSpec
public import proofs.«01_k».proof.Proof.InProjRun
public import Idealize.ShloMosaic.Lib.Pipeline.ReadBack

@[expose] public section

set_option maxRecDepth 16384

noncomputable section

open Idealize.ShloMosaic Idealize.ShloMosaic.TcCoe Idealize.SL.Sem

/-! # The input projection's weight gradient, accumulated over the row tiles

`V` is what the buffers hold when the call starts. Each of the four blocks of columns starts at zero and takes one tile's
product at each grid point. -/

namespace Cert.InProjIdeal.TileW

open Cert.InProjIdeal Cert.InProjIdeal.Gen Cert.InProjSpec

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0]
    ∧ win1_7.index t = ![0, 0] ∧ win1_8.index t = ![0, 0] :=
  (by decide +kernel : ∀ t : Fin grid1.N, _)

theorem blk1_0 (c : Dev nD) (t : Fin cfg1.N) (r : Fin 256) (j : Fin 1024) : (iblk1 V c 0 t : FVec Ideal S256x1024 .bf16) (ix2 r j)
    = (V c main_v11_1 : FVec Ideal S4096x1024 .bf16) (ix2 ⟨256 * t.val + r.val, by have := lt_of_lt_of_eq t.isLt N_1; omega⟩ j) := by
  blk_ext [iblk1, idx1 t]

/-! ## The first block of columns -/

theorem blk1_1 (c : Dev nD) (t : Fin cfg1.N) (r : Fin 256) (j : Fin 768) : (iblk1 V c 1 t : FVec Ideal S256x768 .f32) (ix2 r j)
    = (V c main_arg3 : FVec Ideal S4096x768 .f32) (ix2 ⟨256 * t.val + r.val, by have := lt_of_lt_of_eq t.isLt N_1; omega⟩ j) := by
  blk_ext [iblk1, idx1 t]

theorem pay_a (v3 : FVec Ideal S256x1024 .bf16) (v6 : FVec Ideal S1024x768 .f32) (v8 : FVec Ideal S256x768 .f32) (r : Fin 1024) (j : Fin 768) :
    k1_pay7 (F := Ideal) v3 v6 v8 (ix2 r j) = v6 (ix2 r j) + ∑ k : Fin 256, v3 (ix2 k r) * v8 (ix2 k j) := by
  pointwise [k1_pay7, k1_pay6]

theorem add_a (c : Dev nD) (t : Fin cfg1.N) (P : FVec Ideal S1024x768 .f32) (i : S1024x768.Idx) :
    k1_pay7 (F := Ideal) (iblk1 V c 0 t) P (iblk1 V c 1 t) i
      = P i + gramStep (V c main_v11_1 : FVec Ideal S4096x1024 .bf16) (V c main_arg3 : FVec Ideal S4096x768 .f32) t.val (lt_of_lt_of_eq t.isLt N_1) i := by
  idx_vars i
  rw [pay_a]
  simp only [blk1_0, blk1_1]
  rfl

theorem step_a_A (c : Dev nD) (t : Fin cfg1.N) (h : t.val % 16 = 0) (i : S1024x768.Idx) : (outsAt1 V c t.val t.isLt).1 i
    = 0 + gramStep (V c main_v11_1 : FVec Ideal S4096x1024 .bf16) (V c main_arg3 : FVec Ideal S4096x768 .f32) t.val (lt_of_lt_of_eq t.isLt N_1) i := by
  rw [outsAt1_A V c t h]
  frame_open
  simp (disch := decide) only [↓ View.readCov_skip, ↓ View.readCov_cons_toLoadRect, ↓ View.readCov_fill]
  frame_out
  have z : ∀ x, k1_pay2 (F := Ideal) x = 0 := fun x => by idx_vars x; pointwise [k1_pay2]
  exact (add_a V c t _ i).trans (congrArg₂ (· + ·) (z i) rfl)

theorem step_a_B (c : Dev nD) (t : Fin cfg1.N) (h : ¬ t.val % 16 = 0) (hp) (i : S1024x768.Idx) : (outsAt1 V c t.val t.isLt).1 i
    = (outsAt1 V c (t.val - 1) hp).1 i
      + gramStep (V c main_v11_1 : FVec Ideal S4096x1024 .bf16) (V c main_arg3 : FVec Ideal S4096x768 .f32) t.val (lt_of_lt_of_eq t.isLt N_1) i := by
  rw [outsAt1_B V c t h]
  frame_out
  exact add_a V c t _ i

theorem final1_5 (c : Dev nD) : ((dat1 V c).arrAt 5 cfg1.N : FVec Ideal S1024x768 .f32)
    = gram (V c main_v11_1 : FVec Ideal S4096x1024 .bf16) (V c main_arg3 : FVec Ideal S4096x768 .f32) := by
  refine (dat1 V c).arrAt_eq_of_after_last 5 t1_15 (by decide +kernel) _ fun j => ?_
  blk_simp
  rw [after1_5, Pipeline.eq_sum_fin_of_reset_step_apply_last (fun n h => (outsAt1 V c n h).1) 16 (fun _ => 0)
    (fun t i => gramStep (V c main_v11_1 : FVec Ideal S4096x1024 .bf16) (V c main_arg3 : FVec Ideal S4096x768 .f32) t.val (lt_of_lt_of_eq t.isLt N_1) i)
    (fun t h j => step_a_A V c t h j) (fun t h j => step_a_B V c t h _ j) (le_of_eq N_1) t1_15 rfl j, zero_add]
  exact gram_sum _ _ j

/-! ## The second block of columns -/

theorem blk1_2 (c : Dev nD) (t : Fin cfg1.N) (r : Fin 256) (j : Fin 512) : (iblk1 V c 2 t : FVec Ideal S256x512 .f32) (ix2 r j)
    = (V c main_arg4 : FVec Ideal S4096x512 .f32) (ix2 ⟨256 * t.val + r.val, by have := lt_of_lt_of_eq t.isLt N_1; omega⟩ j) := by
  blk_ext [iblk1, idx1 t]

theorem pay_b (v3 : FVec Ideal S256x1024 .bf16) (v6 : FVec Ideal S1024x512 .f32) (v8 : FVec Ideal S256x512 .f32) (r : Fin 1024) (j : Fin 512) :
    k1_pay8 (F := Ideal) v3 v6 v8 (ix2 r j) = v6 (ix2 r j) + ∑ k : Fin 256, v3 (ix2 k r) * v8 (ix2 k j) := by
  pointwise [k1_pay8, k1_pay6]

theorem add_b (c : Dev nD) (t : Fin cfg1.N) (P : FVec Ideal S1024x512 .f32) (i : S1024x512.Idx) :
    k1_pay8 (F := Ideal) (iblk1 V c 0 t) P (iblk1 V c 2 t) i
      = P i + gramStep (V c main_v11_1 : FVec Ideal S4096x1024 .bf16) (V c main_arg4 : FVec Ideal S4096x512 .f32) t.val (lt_of_lt_of_eq t.isLt N_1) i := by
  idx_vars i
  rw [pay_b]
  simp only [blk1_0, blk1_2]
  rfl

theorem step_b_A (c : Dev nD) (t : Fin cfg1.N) (h : t.val % 16 = 0) (i : S1024x512.Idx) : (outsAt1 V c t.val t.isLt).2.1 i
    = 0 + gramStep (V c main_v11_1 : FVec Ideal S4096x1024 .bf16) (V c main_arg4 : FVec Ideal S4096x512 .f32) t.val (lt_of_lt_of_eq t.isLt N_1) i := by
  rw [outsAt1_A V c t h]
  frame_open
  simp (disch := decide) only [↓ View.readCov_skip, ↓ View.readCov_cons_toLoadRect, ↓ View.readCov_fill]
  frame_out
  have z : ∀ x, k1_pay3 (F := Ideal) x = 0 := fun x => by idx_vars x; pointwise [k1_pay3]
  exact (add_b V c t _ i).trans (congrArg₂ (· + ·) (z i) rfl)

theorem step_b_B (c : Dev nD) (t : Fin cfg1.N) (h : ¬ t.val % 16 = 0) (hp) (i : S1024x512.Idx) : (outsAt1 V c t.val t.isLt).2.1 i
    = (outsAt1 V c (t.val - 1) hp).2.1 i
      + gramStep (V c main_v11_1 : FVec Ideal S4096x1024 .bf16) (V c main_arg4 : FVec Ideal S4096x512 .f32) t.val (lt_of_lt_of_eq t.isLt N_1) i := by
  rw [outsAt1_B V c t h]
  frame_out
  exact add_b V c t _ i

theorem final1_6 (c : Dev nD) : ((dat1 V c).arrAt 6 cfg1.N : FVec Ideal S1024x512 .f32)
    = gram (V c main_v11_1 : FVec Ideal S4096x1024 .bf16) (V c main_arg4 : FVec Ideal S4096x512 .f32) := by
  refine (dat1 V c).arrAt_eq_of_after_last 6 t1_15 (by decide +kernel) _ fun j => ?_
  blk_simp
  rw [after1_6, Pipeline.eq_sum_fin_of_reset_step_apply_last (fun n h => (outsAt1 V c n h).2.1) 16 (fun _ => 0)
    (fun t i => gramStep (V c main_v11_1 : FVec Ideal S4096x1024 .bf16) (V c main_arg4 : FVec Ideal S4096x512 .f32) t.val (lt_of_lt_of_eq t.isLt N_1) i)
    (fun t h j => step_b_A V c t h j) (fun t h j => step_b_B V c t h _ j) (le_of_eq N_1) t1_15 rfl j, zero_add]
  exact gram_sum _ _ j

/-! ## The third block of columns -/

theorem blk1_3 (c : Dev nD) (t : Fin cfg1.N) (r : Fin 256) (j : Fin 1024) : (iblk1 V c 3 t : FVec Ideal S256x1024 .f32) (ix2 r j)
    = (V c main_arg5 : FVec Ideal S4096x1024 .f32) (ix2 ⟨256 * t.val + r.val, by have := lt_of_lt_of_eq t.isLt N_1; omega⟩ j) := by
  blk_ext [iblk1, idx1 t]

theorem pay_c (v3 : FVec Ideal S256x1024 .bf16) (v6 : FVec Ideal S1024x1024 .f32) (v8 : FVec Ideal S256x1024 .f32) (r : Fin 1024) (j : Fin 1024) :
    k1_pay9 (F := Ideal) v3 v6 v8 (ix2 r j) = v6 (ix2 r j) + ∑ k : Fin 256, v3 (ix2 k r) * v8 (ix2 k j) := by
  pointwise [k1_pay9, k1_pay6]

theorem add_c (c : Dev nD) (t : Fin cfg1.N) (P : FVec Ideal S1024x1024 .f32) (i : S1024x1024.Idx) :
    k1_pay9 (F := Ideal) (iblk1 V c 0 t) P (iblk1 V c 3 t) i
      = P i + gramStep (V c main_v11_1 : FVec Ideal S4096x1024 .bf16) (V c main_arg5 : FVec Ideal S4096x1024 .f32) t.val (lt_of_lt_of_eq t.isLt N_1) i := by
  idx_vars i
  rw [pay_c]
  simp only [blk1_0, blk1_3]
  rfl

theorem step_c_A (c : Dev nD) (t : Fin cfg1.N) (h : t.val % 16 = 0) (i : S1024x1024.Idx) : (outsAt1 V c t.val t.isLt).2.2.1 i
    = 0 + gramStep (V c main_v11_1 : FVec Ideal S4096x1024 .bf16) (V c main_arg5 : FVec Ideal S4096x1024 .f32) t.val (lt_of_lt_of_eq t.isLt N_1) i := by
  rw [outsAt1_A V c t h]
  frame_open
  simp (disch := decide) only [↓ View.readCov_skip, ↓ View.readCov_cons_toLoadRect, ↓ View.readCov_fill]
  frame_out
  have z : ∀ x, k1_pay4 (F := Ideal) x = 0 := fun x => by idx_vars x; pointwise [k1_pay4]
  exact (add_c V c t _ i).trans (congrArg₂ (· + ·) (z i) rfl)

theorem step_c_B (c : Dev nD) (t : Fin cfg1.N) (h : ¬ t.val % 16 = 0) (hp) (i : S1024x1024.Idx) : (outsAt1 V c t.val t.isLt).2.2.1 i
    = (outsAt1 V c (t.val - 1) hp).2.2.1 i
      + gramStep (V c main_v11_1 : FVec Ideal S4096x1024 .bf16) (V c main_arg5 : FVec Ideal S4096x1024 .f32) t.val (lt_of_lt_of_eq t.isLt N_1) i := by
  rw [outsAt1_B V c t h]
  frame_out
  exact add_c V c t _ i

theorem final1_7 (c : Dev nD) : ((dat1 V c).arrAt 7 cfg1.N : FVec Ideal S1024x1024 .f32)
    = gram (V c main_v11_1 : FVec Ideal S4096x1024 .bf16) (V c main_arg5 : FVec Ideal S4096x1024 .f32) := by
  refine (dat1 V c).arrAt_eq_of_after_last 7 t1_15 (by decide +kernel) _ fun j => ?_
  blk_simp
  rw [after1_7, Pipeline.eq_sum_fin_of_reset_step_apply_last (fun n h => (outsAt1 V c n h).2.2.1) 16 (fun _ => 0)
    (fun t i => gramStep (V c main_v11_1 : FVec Ideal S4096x1024 .bf16) (V c main_arg5 : FVec Ideal S4096x1024 .f32) t.val (lt_of_lt_of_eq t.isLt N_1) i)
    (fun t h j => step_c_A V c t h j) (fun t h j => step_c_B V c t h _ j) (le_of_eq N_1) t1_15 rfl j, zero_add]
  exact gram_sum _ _ j

/-! ## The fourth block of columns -/

theorem blk1_4 (c : Dev nD) (t : Fin cfg1.N) (r : Fin 256) (j : Fin 1152) : (iblk1 V c 4 t : FVec Ideal S256x1152 .f32) (ix2 r j)
    = (V c main_arg6 : FVec Ideal S4096x1152 .f32) (ix2 ⟨256 * t.val + r.val, by have := lt_of_lt_of_eq t.isLt N_1; omega⟩ j) := by
  blk_ext [iblk1, idx1 t]

theorem pay_d (v3 : FVec Ideal S256x1024 .bf16) (v6 : FVec Ideal S1024x1152 .f32) (v8 : FVec Ideal S256x1152 .f32) (r : Fin 1024) (j : Fin 1152) :
    k1_pay1 (F := Ideal) (k1_pay6 (F := Ideal) v3) v6 v8 (ix2 r j) = v6 (ix2 r j) + ∑ k : Fin 256, v3 (ix2 k r) * v8 (ix2 k j) := by
  pointwise [k1_pay1, k1_pay6]

theorem add_d (c : Dev nD) (t : Fin cfg1.N) (P : FVec Ideal S1024x1152 .f32) (i : S1024x1152.Idx) :
    k1_pay1 (F := Ideal) (k1_pay6 (F := Ideal) (iblk1 V c 0 t)) P (iblk1 V c 4 t) i
      = P i + gramStep (V c main_v11_1 : FVec Ideal S4096x1024 .bf16) (V c main_arg6 : FVec Ideal S4096x1152 .f32) t.val (lt_of_lt_of_eq t.isLt N_1) i := by
  idx_vars i
  rw [pay_d]
  simp only [blk1_0, blk1_4]
  rfl

theorem step_d_A (c : Dev nD) (t : Fin cfg1.N) (h : t.val % 16 = 0) (i : S1024x1152.Idx) : (outsAt1 V c t.val t.isLt).2.2.2 i
    = 0 + gramStep (V c main_v11_1 : FVec Ideal S4096x1024 .bf16) (V c main_arg6 : FVec Ideal S4096x1152 .f32) t.val (lt_of_lt_of_eq t.isLt N_1) i := by
  rw [outsAt1_A V c t h]
  frame_open
  simp (disch := decide) only [↓ View.readCov_skip, ↓ View.readCov_cons_toLoadRect, ↓ View.readCov_fill]
  frame_out
  have z : ∀ x, k1_pay5 (F := Ideal) x = 0 := fun x => by idx_vars x; pointwise [k1_pay5]
  exact (add_d V c t _ i).trans (congrArg₂ (· + ·) (z i) rfl)

theorem step_d_B (c : Dev nD) (t : Fin cfg1.N) (h : ¬ t.val % 16 = 0) (hp) (i : S1024x1152.Idx) : (outsAt1 V c t.val t.isLt).2.2.2 i
    = (outsAt1 V c (t.val - 1) hp).2.2.2 i
      + gramStep (V c main_v11_1 : FVec Ideal S4096x1024 .bf16) (V c main_arg6 : FVec Ideal S4096x1152 .f32) t.val (lt_of_lt_of_eq t.isLt N_1) i := by
  rw [outsAt1_B V c t h]
  frame_out
  exact add_d V c t _ i

theorem final1_8 (c : Dev nD) : ((dat1 V c).arrAt 8 cfg1.N : FVec Ideal S1024x1152 .f32)
    = gram (V c main_v11_1 : FVec Ideal S4096x1024 .bf16) (V c main_arg6 : FVec Ideal S4096x1152 .f32) := by
  refine (dat1 V c).arrAt_eq_of_after_last 8 t1_15 (by decide +kernel) _ fun j => ?_
  blk_simp
  rw [after1_8, Pipeline.eq_sum_fin_of_reset_step_apply_last (fun n h => (outsAt1 V c n h).2.2.2) 16 (fun _ => 0)
    (fun t i => gramStep (V c main_v11_1 : FVec Ideal S4096x1024 .bf16) (V c main_arg6 : FVec Ideal S4096x1152 .f32) t.val (lt_of_lt_of_eq t.isLt N_1) i)
    (fun t h j => step_d_A V c t h j) (fun t h j => step_d_B V c t h _ j) (le_of_eq N_1) t1_15 rfl j, zero_add]
  exact gram_sum _ _ j

/-! ## The four blocks together -/

/-- The blocks' gradients, put together in the weight's own column order. -/
theorem together_gram (X : FVec Ideal S4096x1024 .f32) (g : FVec Ideal S1024 .f32) (A : FVec Ideal S4096x768 .f32) (B : FVec Ideal S4096x512 .f32)
    (C : FVec Ideal S4096x1024 .f32) (D : FVec Ideal S4096x1152 .f32) :
    Whole.together (F := Ideal) (gram (hids X g) A) (gram (hids X g) B) (gram (hids X g) C) (gram (hids X g) D) = dw X g A B C D := by
  funext i
  idx_vars i
  pointwise [Whole.together]
  show _ = ∑ n : Fin 4096, hid X g n i0 * ct A B C D n i1.val
  unfold ct
  split
  · rfl
  split
  · rfl
  split
  · rfl
  split
  · rfl
  split
  · rfl
  · refine Finset.sum_congr rfl fun n _ => ?_
    rw [dif_pos (by omega)]
    rfl

end Cert.InProjIdeal.TileW
-- ==== Proof.InProjTileX.lean ====
module

public import proofs.«01_k».proof.Proof.InProjSpec
public import proofs.«01_k».proof.Proof.InProjRun
public import Idealize.ShloMosaic.Lib.Pipeline.ReadBack

@[expose] public section

set_option maxRecDepth 16384

noncomputable section

open Idealize.ShloMosaic Idealize.ShloMosaic.TcCoe Idealize.SL.Sem

/-! # The input projection's input gradient and the gain's

`V` is what the buffers hold when the call starts. -/

namespace Cert.InProjIdeal.TileX

open Cert.InProjIdeal Cert.InProjIdeal.Gen Cert.InProjSpec

variable (V : (c : Dev nD) → (b : Ref sig .tc) → Buf (Elt Ideal) ((c : Thread nD τ).loc b))

theorem idx2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![t.val, 0] ∧ win2_6.index t = ![0, 0]
    ∧ win2_7.index t = ![t.val, 0] ∧ win2_8.index t = ![t.val, 0] ∧ win2_9.index t = ![0, 0] :=
  (by decide +kernel : ∀ t : Fin grid2.N, _)

theorem blk2_0 (c : Dev nD) (t : Fin cfg2.N) (r : Fin 256) (j : Fin 1024) : (iblk2 V c 0 t : FVec Ideal S256x1024 .f32) (ix2 r j)
    = (V c main_arg0 : FVec Ideal S4096x1024 .f32) (ix2 ⟨256 * t.val + r.val, by have := lt_of_lt_of_eq t.isLt N_2; omega⟩ j) := by
  blk_ext [iblk2, idx2 t]

theorem blk2_2 (c : Dev nD) (t : Fin cfg2.N) (r : Fin 256) (j : Fin 768) : (iblk2 V c 2 t : FVec Ideal S256x768 .f32) (ix2 r j)
    = (V c main_arg3 : FVec Ideal S4096x768 .f32) (ix2 ⟨256 * t.val + r.val, by have := lt_of_lt_of_eq t.isLt N_2; omega⟩ j) := by
  blk_ext [iblk2, idx2 t]

theorem blk2_3 (c : Dev nD) (t : Fin cfg2.N) (r : Fin 256) (j : Fin 512) : (iblk2 V c 3 t : FVec Ideal S256x512 .f32) (ix2 r j)
    = (V c main_arg4 : FVec Ideal S4096x512 .f32) (ix2 ⟨256 * t.val + r.val, by have := lt_of_lt_of_eq t.isLt N_2; omega⟩ j) := by
  blk_ext [iblk2, idx2 t]

theorem blk2_4 (c : Dev nD) (t : Fin cfg2.N) (r : Fin 256) (j : Fin 1024) : (iblk2 V c 4 t : FVec Ideal S256x1024 .f32) (ix2 r j)
    = (V c main_arg5 : FVec Ideal S4096x1024 .f32) (ix2 ⟨256 * t.val + r.val, by have := lt_of_lt_of_eq t.isLt N_2; omega⟩ j) := by
  blk_ext [iblk2, idx2 t]

theorem blk2_5 (c : Dev nD) (t : Fin cfg2.N) (r : Fin 256) (j : Fin 1152) : (iblk2 V c 5 t : FVec Ideal S256x1152 .f32) (ix2 r j)
    = (V c main_arg6 : FVec Ideal S4096x1152 .f32) (ix2 ⟨256 * t.val + r.val, by have := lt_of_lt_of_eq t.isLt N_2; omega⟩ j) := by
  blk_ext [iblk2, idx2 t]

theorem blk2_7 (c : Dev nD) (t : Fin cfg2.N) (r : Fin 256) (j : Fin 1024) : (iblk2 V c 7 t : FVec Ideal S256x1024 .f32) (ix2 r j)
    = (V c main_arg7 : FVec Ideal S4096x1024 .f32) (ix2 ⟨256 * t.val + r.val, by have := lt_of_lt_of_eq t.isLt N_2; omega⟩ j) := by
  blk_ext [iblk2, idx2 t]

theorem blk2_1 (c : Dev nD) (t : Fin cfg2.N) (j : Fin 1024) : (iblk2 V c 1 t : FVec Ideal S1x1024 .f32) (ix2 0 j)
    = (V c main_v10 : FVec Ideal S1x1024 .f32) (ix2 0 j) := by
  blk_ext [iblk2, idx2 t]

theorem blk2_6 (c : Dev nD) (t : Fin cfg2.N) (r : Fin 1024) (j : Fin 3456) : (iblk2 V c 6 t : FVec Ideal S1024x3456 .bf16) (ix2 r j)
    = (V c main_v9 : FVec Ideal S1024x3456 .bf16) (ix2 r j) := by
  blk_ext [iblk2, idx2 t]

/-- A stretch of the weight's columns, read from column `o` on. -/
theorem ld_cols {m : ℕ} (P : FVec Ideal S1024x3456 .bf16) (o : ℕ) (ho : o + m ≤ 3456) (hi) (k : Fin 1024) (p : Fin m) :
    View.ld (Val := Elt Ideal) (S := S1024x3456) (e' := .bf16) P (Rect.unit ![0, o] ![1024, m] hi) (ix2 k p) = P (ix2 k ⟨o + p.val, by omega⟩) := by
  refine congrArg P (funext fun a => Fin.ext ?_)
  fin_cases a
  · show 0 + 1 * k.val = k.val
    omega
  · show o + 1 * p.val = o + p.val
    omega

theorem pay6_apply (v0 : FVec Ideal S256x768 .f32) (v2 : FVec Ideal S1024x768 .bf16) (v5 : FVec Ideal S256x512 .f32) (v7 : FVec Ideal S1024x512 .bf16)
    (v11 : FVec Ideal S256x1024 .f32) (v13 : FVec Ideal S1024x1024 .bf16) (v17 : FVec Ideal S256x1152 .f32) (v19 : FVec Ideal S1024x1152 .bf16)
    (r : Fin 256) (k : Fin 1024) :
    k2_pay6 (F := Ideal) v0 v2 v5 v7 v11 v13 v17 v19 (ix2 r k)
      = ∑ p : Fin 768, v0 (ix2 r p) * v2 (ix2 k p) + ∑ p : Fin 512, v5 (ix2 r p) * v7 (ix2 k p)
        + ∑ p : Fin 1024, v11 (ix2 r p) * v13 (ix2 k p) + ∑ p : Fin 1152, v17 (ix2 r p) * v19 (ix2 k p) := by
  pointwise [k2_pay6]

/-- A tile's cotangent of the normalised input. -/
def dtile (c : Dev nD) (t : Fin cfg2.N) : FVec Ideal S256x1024 .f32 :=
  k2_pay6 (F := Ideal) (iblk2 V c 2 t)
    (View.ld (Val := Elt Ideal) (S := S1024x3456) (e' := .bf16) (iblk2 V c 6 t) (Rect.unit ![0, 0] ![1024, 768] inb_S1024x3456_S1024x768_0_0))
    (iblk2 V c 3 t)
    (View.ld (Val := Elt Ideal) (S := S1024x3456) (e' := .bf16) (iblk2 V c 6 t) (Rect.unit ![0, 768] ![1024, 512] inb_S1024x3456_S1024x512_0_768))
    (iblk2 V c 4 t)
    (View.ld (Val := Elt Ideal) (S := S1024x3456) (e' := .bf16) (iblk2 V c 6 t) (Rect.unit ![0, 1280] ![1024, 1024] inb_S1024x3456_S1024x1024_0_1280))
    (iblk2 V c 5 t)
    (View.ld (Val := Elt Ideal) (S := S1024x3456) (e' := .bf16) (iblk2 V c 6 t) (Rect.unit ![0, 2304] ![1024, 1152] inb_S1024x3456_S1024x1152_0_2304))

theorem dtile_apply (c : Dev nD) (t : Fin cfg2.N) (W : FVec Ideal S1024x3336 .f32)
    (hW : ∀ k p, (V c main_v9 : FVec Ideal S1024x3456 .bf16) (ix2 k p) = wpad W k p.val) (r : Fin 256) (k : Fin 1024) :
    dtile V c t (ix2 r k) = dhid W (V c main_arg3) (V c main_arg4) (V c main_arg5) (V c main_arg6)
      ⟨256 * t.val + r.val, by have := lt_of_lt_of_eq t.isLt N_2; omega⟩ k := by
  have q : ∀ p : Fin 3456, (iblk2 V c 6 t : FVec Ideal S1024x3456 .bf16) (ix2 k p) = wpad W k p.val := fun p => by rw [blk2_6, hW]
  unfold dtile
  rw [pay6_apply, dhid_blocks]
  simp only [blk2_2, blk2_3, blk2_4, blk2_5]
  refine congrArg₂ (· + ·) (congrArg₂ (· + ·) (congrArg₂ (· + ·) ?_ ?_) ?_) ?_
  · refine Finset.sum_congr rfl fun p _ => congrArg₂ (· * ·) rfl ?_
    refine (ld_cols (iblk2 V c 6 t) 0 (by omega) _ k p).trans ((q _).trans (congrArg (wpad W k) (Nat.zero_add _)))
  · exact Finset.sum_congr rfl fun p _ => congrArg₂ (· * ·) rfl ((ld_cols (iblk2 V c 6 t) 768 (by omega) _ k p).trans (q _))
  · exact Finset.sum_congr rfl fun p _ => congrArg₂ (· * ·) rfl ((ld_cols (iblk2 V c 6 t) 1280 (by omega) _ k p).trans (q _))
  · exact Finset.sum_congr rfl fun p _ => congrArg₂ (· * ·) rfl ((ld_cols (iblk2 V c 6 t) 2304 (by omega) _ k p).trans (q _))

theorem ms_apply (c : Dev nD) (t : Fin cfg2.N) (r : Fin 256) :
    k2_pay8 (F := Ideal) (iblk2 V c 0 t) (ix2 r 0) + k2_pay9 (F := Ideal) (ix2 r 0)
      = ms (V c main_arg0) ⟨256 * t.val + r.val, by have := lt_of_lt_of_eq t.isLt N_2; omega⟩ := by
  have h0 := blk2_0 V c t r
  generalize (iblk2 V c 0 t : FVec Ideal S256x1024 .f32) = x at h0 ⊢
  pointwise [k2_pay8, k2_pay9]
  simp only [h0]
  rfl

/-- A tile's input gradient. -/
theorem pay3_apply (c : Dev nD) (t : Fin cfg2.N) (g : FVec Ideal S1024 .f32) (W : FVec Ideal S1024x3336 .f32)
    (hg : ∀ k, (V c main_v10 : FVec Ideal S1x1024 .f32) (ix2 0 k) = g (ix1 k))
    (hW : ∀ k p, (V c main_v9 : FVec Ideal S1024x3456 .bf16) (ix2 k p) = wpad W k p.val) (r : Fin 256) (k : Fin 1024) :
    k2_pay3 (F := Ideal) (dtile V c t) (iblk2 V c 0 t) (k2_pay7 (F := Ideal) (iblk2 V c 1 t)) (k2_pay8 (F := Ideal) (iblk2 V c 0 t)) (k2_pay9 (F := Ideal))
        (iblk2 V c 7 t) (ix2 r k)
      = dxAt (V c main_arg0) (V c main_arg7) g W (V c main_arg3) (V c main_arg4) (V c main_arg5) (V c main_arg6)
          ⟨256 * t.val + r.val, by have := lt_of_lt_of_eq t.isLt N_2; omega⟩ k := by
  have h0 := blk2_0 V c t r
  have h1 := blk2_1 V c t
  have h7 := blk2_7 V c t r
  have hd := dtile_apply V c t W hW r
  have hm := ms_apply V c t r
  generalize dtile V c t = d at hd ⊢
  generalize k2_pay8 (F := Ideal) (iblk2 V c 0 t) = v30 at hm ⊢
  generalize k2_pay9 (F := Ideal) = v31 at hm ⊢
  generalize (iblk2 V c 0 t : FVec Ideal S256x1024 .f32) = x at h0 ⊢
  generalize (iblk2 V c 1 t : FVec Ideal S1x1024 .f32) = y at h1 ⊢
  generalize (iblk2 V c 7 t : FVec Ideal S256x1024 .f32) = z at h7 ⊢
  pointwise [k2_pay3, k2_pay2, k2_pay1, k2_pay7]
  simp only [Fin.sum_univ_one, h0, h1, h7, hd, hm, hg]
  rfl

/-- A tile's share of the gain's gradient. -/
theorem pay5_apply (c : Dev nD) (t : Fin cfg2.N) (W : FVec Ideal S1024x3336 .f32)
    (hW : ∀ k p, (V c main_v9 : FVec Ideal S1024x3456 .bf16) (ix2 k p) = wpad W k p.val) (P : FVec Ideal S1x1024 .f32) (i : S1x1024.Idx) :
    k2_pay5 (F := Ideal) (dtile V c t) (iblk2 V c 0 t) (k2_pay8 (F := Ideal) (iblk2 V c 0 t)) (k2_pay9 (F := Ideal)) P i
      = P i + ∑ r : Fin 256, dgAt (V c main_arg0) W (V c main_arg3) (V c main_arg4) (V c main_arg5) (V c main_arg6) (256 * t.val + r.val)
          ⟨(i 1).val, (i 1).isLt⟩ := by
  idx_vars i
  obtain rfl : i0 = 0 := Subsingleton.elim _ _
  have h0 := blk2_0 V c t
  have hd := dtile_apply V c t W hW
  have hm := ms_apply V c t
  generalize dtile V c t = d at hd ⊢
  generalize k2_pay8 (F := Ideal) (iblk2 V c 0 t) = v30 at hm ⊢
  generalize k2_pay9 (F := Ideal) = v31 at hm ⊢
  generalize (iblk2 V c 0 t : FVec Ideal S256x1024 .f32) = x at h0 ⊢
  pointwise [k2_pay5, k2_pay2, k2_pay1]
  simp only [h0, hd, hm]
  refine congrArg₂ (· + ·) rfl (Finset.sum_congr rfl fun r _ => ?_)
  unfold dgAt
  have hN : t.val < 16 := lt_of_lt_of_eq t.isLt N_2
  rw [dif_pos (by omega)]

/-- The input's gradient. -/
theorem final2_8 (c : Dev nD) (g : FVec Ideal S1024 .f32) (W : FVec Ideal S1024x3336 .f32)
    (hg : ∀ k, (V c main_v10 : FVec Ideal S1x1024 .f32) (ix2 0 k) = g (ix1 k))
    (hW : ∀ k p, (V c main_v9 : FVec Ideal S1024x3456 .bf16) (ix2 k p) = wpad W k p.val) :
    ((dat2 V c).arrAt 8 cfg2.N : FVec Ideal S4096x1024 .f32)
      = dx (V c main_arg0) (V c main_arg7) g W (V c main_arg3) (V c main_arg4) (V c main_arg5) (V c main_arg6) := by
  refine (dat2 V c).arrAt_eq_of_covers 8 _ (by decide +kernel) fun t hf y => ?_
  blk_simp
  rw [after2_8]
  idx_vars y
  have hN : t.val < 16 := lt_of_lt_of_eq t.isLt N_2
  have e : ((View.whole main_v17_0).slice (win2_8.rect t)).emb (ix2 y0 y1) = ix2 ⟨256 * t.val + y0.val, by omega⟩ y1 := by
    blk_ext [idx2 t]
  rw [e]
  by_cases h : t.val % 16 = 0
  · rw [outsAt2_A V c t h]
    frame_out
    exact pay3_apply V c t g W hg hW y0 y1
  · rw [outsAt2_B V c t h]
    frame_out
    exact pay3_apply V c t g W hg hW y0 y1

theorem step_A (c : Dev nD) (W : FVec Ideal S1024x3336 .f32)
    (hW : ∀ k p, (V c main_v9 : FVec Ideal S1024x3456 .bf16) (ix2 k p) = wpad W k p.val) (t : Fin cfg2.N) (h : t.val % 16 = 0) (i : S1x1024.Idx) :
    (outsAt2 V c t.val t.isLt).2 i
      = 0 + ∑ r : Fin 256, dgAt (V c main_arg0) W (V c main_arg3) (V c main_arg4) (V c main_arg5) (V c main_arg6) (256 * t.val + r.val)
          ⟨(i 1).val, (i 1).isLt⟩ := by
  rw [outsAt2_A V c t h]
  frame_open
  simp (disch := decide) only [↓ View.readCov_skip, ↓ View.readCov_cons_toLoadRect, ↓ View.readCov_fill]
  frame_out
  have z : ∀ x, k2_pay4 (F := Ideal) x = 0 := fun x => by idx_vars x; pointwise [k2_pay4]
  exact (pay5_apply V c t W hW _ i).trans (congrArg₂ (· + ·) (z i) rfl)

theorem step_B (c : Dev nD) (W : FVec Ideal S1024x3336 .f32)
    (hW : ∀ k p, (V c main_v9 : FVec Ideal S1024x3456 .bf16) (ix2 k p) = wpad W k p.val) (t : Fin cfg2.N) (h : ¬ t.val % 16 = 0) (hp) (i : S1x1024.Idx) :
    (outsAt2 V c t.val t.isLt).2 i
      = (outsAt2 V c (t.val - 1) hp).2 i
        + ∑ r : Fin 256, dgAt (V c main_arg0) W (V c main_arg3) (V c main_arg4) (V c main_arg5) (V c main_arg6) (256 * t.val + r.val)
          ⟨(i 1).val, (i 1).isLt⟩ := by
  rw [outsAt2_B V c t h]
  frame_out
  exact pay5_apply V c t W hW _ i

/-- The gain's gradient. -/
theorem final2_9 (c : Dev nD) (W : FVec Ideal S1024x3336 .f32)
    (hW : ∀ k p, (V c main_v9 : FVec Ideal S1024x3456 .bf16) (ix2 k p) = wpad W k p.val) :
    ((dat2 V c).arrAt 9 cfg2.N : FVec Ideal S1x1024 .f32)
      = dg (V c main_arg0) W (V c main_arg3) (V c main_arg4) (V c main_arg5) (V c main_arg6) := by
  refine (dat2 V c).arrAt_eq_of_after_last 9 t2_15 (by decide +kernel) _ fun j => ?_
  blk_simp
  rw [after2_9, Pipeline.eq_sum_fin_of_reset_step_apply_last (fun n h => (outsAt2 V c n h).2) 16 (fun _ => 0)
    (fun t i => ∑ r : Fin 256, dgAt (V c main_arg0) W (V c main_arg3) (V c main_arg4) (V c main_arg5) (V c main_arg6) (256 * t.val + r.val)
      ⟨(i 1).val, (i 1).isLt⟩)
    (fun t h j => step_A V c W hW t h j) (fun t h j => step_B V c W hW t h _ j) (le_of_eq N_2) t2_15 rfl j, zero_add]
  refine Fin.sum_mul_add_congr fun s r hl => ?_
  dsimp only
  congr 1
  omega

end Cert.InProjIdeal.TileX
-- ==== Proof.InProjRef.lean ====
module

public import proofs.«01_k».proof.Proof.InProjSpec
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem

/-! # The reference's four results are the formulas -/

namespace Cert.InProjRefIdeal.Spec

open Cert.InProjRefIdeal Cert.InProjRefIdeal.Gen Cert.InProjRefIdeal.Read Cert.InProjSpec

variable (x0 x7 : FVec Ideal S4096x1024 .f32) (x1 : FVec Ideal S1024 .f32) (x2 : FVec Ideal S1024x3336 .f32)
  (x3 : FVec Ideal S4096x768 .f32) (x4 : FVec Ideal S4096x512 .f32) (x5 : FVec Ideal S4096x1024 .f32) (x6 : FVec Ideal S4096x1152 .f32)

theorem v3_apply (n : Fin 4096) (k : Fin 3336) : val_main_v3 (F := Ideal) x3 x4 x5 x6 (ix2 n k) = ct x3 x4 x5 x6 n k.val := by
  pointwise [val_main_v3, val_main_v0, val_main_v1, val_main_v2]
  unfold ct
  split
  · rfl
  split
  · rfl
  split
  · rfl
  split
  · rfl
  split
  · rfl
  · rw [dif_pos (by omega)]

theorem v10_apply (n : Fin 4096) : val_main_v10 (F := Ideal) x0 (ix2 n 0) = ms x0 n := by
  pointwise [val_main_v10, val_main_v9, val_main_cst_1, val_main_v8, val_main_v7, val_main_cst_0, val_main_v6, val_main_v5, val_main_v4, val_main_cst]
  rfl

theorem v19_apply (n : Fin 4096) (k : Fin 1024) : val_main_v19 (F := Ideal) x0 x1 (ix2 n k) = hid x0 x1 n k := by
  pointwise [val_main_v19, val_main_v18, val_main_v17, val_main_v16, val_main_v15, val_main_v11]
  rw [v10_apply]
  rfl

theorem v23_apply (n : Fin 4096) (k : Fin 1024) : val_main_v23 (F := Ideal) x2 x3 x4 x5 x6 (ix2 n k) = dhid x2 x3 x4 x5 x6 n k := by
  have h := v3_apply x3 x4 x5 x6 n
  pointwise [val_main_v23]
  refine Finset.sum_congr rfl fun p _ => ?_
  rw [h]
  unfold wcol
  rw [dif_pos p.isLt]

theorem v20_apply (n : Fin 4096) (p : Fin 3336) : val_main_v20 (F := Ideal) x0 x1 x2 (ix2 n p) = ∑ k : Fin 1024, hid x0 x1 n k * wcol x2 k p.val := by
  have h := v19_apply x0 x1 n
  pointwise [val_main_v20]
  refine Finset.sum_congr rfl fun k _ => ?_
  rw [h]
  unfold wcol
  rw [dif_pos p.isLt]

theorem val_main_v48_spec : val_main_v48 (F := Ideal) x0 x1 x2 = proj x0 x1 x2 := by
  funext i
  idx_vars i
  have h := v20_apply x0 x1 x2 i0
  pointwise [val_main_v48, val_main_v44, val_main_v45, val_main_v46, val_main_v47, val_main_cst_8]
  show _ = ∑ k : Fin 1024, hid x0 x1 i0 k * wpad x2 k i1.val
  split
  · rename_i q
    rw [h]
    refine Finset.sum_congr rfl fun k _ => ?_
    rw [wp_lo _ _ _ q]
  split
  · rename_i q0 q
    rw [h]
    refine Finset.sum_congr rfl fun k _ => ?_
    rw [← wp_mid _ _ _ q]
    congr 2
    omega
  split
  · rename_i q0 q1 q
    rw [h]
    refine Finset.sum_congr rfl fun k _ => ?_
    rw [← wp_hi _ _ _ q]
    congr 2
    omega
  · symm
    refine Finset.sum_eq_zero fun k _ => ?_
    obtain ⟨q, hq⟩ : ∃ q, i1.val = 3336 + q := ⟨i1.val - 3336, by omega⟩
    rw [hq, wp_pad, mul_zero]

theorem val_main_v49_spec : val_main_v49 (F := Ideal) x0 x1 x2 x3 x4 x5 x6 x7 = dx x0 x7 x1 x2 x3 x4 x5 x6 := by
  funext i
  idx_vars i
  have h := v23_apply x2 x3 x4 x5 x6 i0
  have h10 := v10_apply x0 i0
  pointwise [val_main_v49, val_main_v43, val_main_v42, val_main_v41, val_main_v40, val_main_v39, val_main_v38, val_main_cst_7, val_main_v37, val_main_v36,
    val_main_cst_6, val_main_v35, val_main_v34, val_main_v33, val_main_v32, val_main_v31, val_main_cst_5, val_main_v30, val_main_v28, val_main_v27,
    val_main_v17, val_main_v14, val_main_v13, val_main_cst_2, val_main_v12, val_main_v11]
  simp only [Fin.sum_univ_one, h, h10]
  rfl

theorem val_main_v50_spec : val_main_v50 (F := Ideal) x0 x2 x3 x4 x5 x6 = dg x0 x2 x3 x4 x5 x6 := by
  funext i
  idx_vars i
  have h := fun n => v23_apply x2 x3 x4 x5 x6 n i1
  have h10 := v10_apply x0
  pointwise [val_main_v50, val_main_v29, val_main_cst_4, val_main_v26, val_main_v25, val_main_cst_3, val_main_v24, val_main_v16, val_main_v15, val_main_v11]
  simp only [Fin.sum_univ_one, h, h10]
  unfold dg
  refine Finset.sum_congr rfl fun n _ => ?_
  unfold dgAt
  rw [dif_pos n.isLt]
  rfl

theorem val_main_v22_spec : val_main_v22 (F := Ideal) x0 x1 x3 x4 x5 x6 = dw x0 x1 x3 x4 x5 x6 := by
  funext i
  idx_vars i
  have h := fun n => v3_apply x3 x4 x5 x6 n i1
  have h19 := fun n => v19_apply x0 x1 n i0
  pointwise [val_main_v22, val_main_v21]
  unfold dw
  refine Finset.sum_congr rfl fun n _ => ?_
  rw [h, h19, mul_comm]
  rfl

end Cert.InProjRefIdeal.Spec
-- ==== Proof.InProjClaim.lean ====
module

public import proofs.«01_k».proof.Defs
public import proofs.«01_k».proof.Proof.Gen.InProj.Frame
public import proofs.«01_k».proof.Proof.InProjTile
public import proofs.«01_k».proof.Proof.InProjTileW
public import proofs.«01_k».proof.Proof.InProjTileX
public import proofs.«01_k».proof.Proof.InProjRef
public import Idealize.ShloMosaic.Adequacy

@[expose] public section

noncomputable section

open Idealize.ShloMosaic Idealize.ShloMosaic.TcCoe Idealize.SL.Sem

/-! # The normalised input projection: the five claims -/

namespace Cert.InProjClaim

theorem frameP : Cert.quiescent_InProj (hInProj := Cert.InProj.Gen.facts) :=
  fun m ρ _ => Cert.InProj.Gen.frame m ρ

theorem framePI : Cert.quiescent_InProjIdeal (hInProjIdeal := Cert.InProjIdeal.Gen.facts) :=
  fun m ρ _ => Cert.InProjIdeal.Gen.frame m ρ

theorem frameRI : Cert.quiescent_InProjRefIdeal (hInProjRefIdeal := Cert.InProjRefIdeal.Gen.facts) :=
  fun m ρ _ => (θ_run Cert.InProjRefIdeal.defs _ _).mono
    (fun r h => ⟨fun c => (h c).2.2.2.2, sem_eq_zero_of_no_sems (by decide) r.2⟩) (Cert.InProjRefIdeal.Value.run (F := Ideal) m ρ)

section Calls

open Cert.InProjIdeal Cert.InProjIdeal.Gen

variable (m : (ℓ : Loc nD τ sig) → Buf (Elt Ideal) ℓ) (ρ : Dev nD → PrngReg)

/-! The weight the host laid out and the gain as a row, when the first call starts and when the last does. -/

theorem weight1 (c : Dev nD) (k : Fin 1024) (p : Fin 3456) : (V1 m ρ c main_v9 : FVec Ideal S1024x3456 .bf16) (ix2 k p)
    = InProjSpec.wpad (m ((c : Thread nD τ).loc main_arg2)) k p.val := by
  rw [Whole.V1_main_v9, Tile.packed_apply]

theorem V4_main_v9 (c : Dev nD) : V4 m ρ c main_v9 = V1 m ρ c main_v9 :=
  ((W4_of m ρ c main_v9 (by decide)).trans (W3_of m ρ c main_v9 (by decide))).trans (W2_of m ρ c main_v9 (by decide))

theorem V4_main_v10 (c : Dev nD) : V4 m ρ c main_v10 = V1 m ρ c main_v10 :=
  ((W4_of m ρ c main_v10 (by decide)).trans (W3_of m ρ c main_v10 (by decide))).trans (W2_of m ρ c main_v10 (by decide))

theorem weight4 (c : Dev nD) (k : Fin 1024) (p : Fin 3456) : (V4 m ρ c main_v9 : FVec Ideal S1024x3456 .bf16) (ix2 k p)
    = InProjSpec.wpad (m ((c : Thread nD τ).loc main_arg2)) k p.val :=
  (congrFun (V4_main_v9 m ρ c) (ix2 k p)).trans (weight1 m ρ c k p)

theorem gain4 (c : Dev nD) (k : Fin 1024) : (V4 m ρ c main_v10 : FVec Ideal S1x1024 .f32) (ix2 0 k)
    = (m ((c : Thread nD τ).loc main_arg1) : FVec Ideal S1024 .f32) (ix1 k) :=
  (congrFun (V4_main_v10 m ρ c) (ix2 0 k)).trans (Whole.V1_main_v10 ρ m c k)

theorem proj_eq (c : Dev nD) : ((dat0 (V1 m ρ) c).arrAt 3 cfg0.N : FVec Ideal S4096x3456 .f32)
    = InProjSpec.proj (m ((c : Thread nD τ).loc main_arg0)) (m ((c : Thread nD τ).loc main_arg1)) (m ((c : Thread nD τ).loc main_arg2)) := by
  have a0 : V1 m ρ c main_arg0 = m ((c : Thread nD τ).loc main_arg0) := W1_args m ρ c main_arg0 (by decide)
  have h := Tile.final0_3 (V1 m ρ) c (m ((c : Thread nD τ).loc main_arg1)) (m ((c : Thread nD τ).loc main_arg2)) (Whole.V1_main_v10 ρ m c) (weight1 m ρ c)
  rw [a0] at h
  exact h

/-- What the second call reads for the normalised input is what the first one left. -/
theorem hids_eq (c : Dev nD) : (V2 m ρ c main_v11_1 : FVec Ideal S4096x1024 .bf16) = InProjSpec.hids (m ((c : Thread nD τ).loc main_arg0)) (m ((c : Thread nD τ).loc main_arg1)) := by
  have a0 : V1 m ρ c main_arg0 = m ((c : Thread nD τ).loc main_arg0) := W1_args m ρ c main_arg0 (by decide)
  have h := Tile.final0_4 (V1 m ρ) c (m ((c : Thread nD τ).loc main_arg1)) (Whole.V1_main_v10 ρ m c)
  rw [a0] at h
  exact (W2_arr m ρ c 4).trans h

theorem dw_eq (c : Dev nD) : (V4 m ρ c main_v16 : FVec Ideal S1024x3336 .f32)
    = InProjSpec.dw (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have a3 : V2 m ρ c main_arg3 = m ((c : Thread nD τ).loc main_arg3) := W2_args m ρ c main_arg3 (by decide)
  have a4 : V2 m ρ c main_arg4 = m ((c : Thread nD τ).loc main_arg4) := W2_args m ρ c main_arg4 (by decide)
  have a5 : V2 m ρ c main_arg5 = m ((c : Thread nD τ).loc main_arg5) := W2_args m ρ c main_arg5 (by decide)
  have a6 : V2 m ρ c main_arg6 = m ((c : Thread nD τ).loc main_arg6) := W2_args m ρ c main_arg6 (by decide)
  have h5 := TileW.final1_5 (V2 m ρ) c
  have h6 := TileW.final1_6 (V2 m ρ) c
  have h7 := TileW.final1_7 (V2 m ρ) c
  have h8 := TileW.final1_8 (V2 m ρ) c
  rw [hids_eq m ρ c, a3] at h5
  rw [hids_eq m ρ c, a4] at h6
  rw [hids_eq m ρ c, a5] at h7
  rw [hids_eq m ρ c, a6] at h8
  rw [Whole.V4_main_v16 ρ m c, h5, h6, h7, h8, TileW.together_gram]

theorem dx_eq (c : Dev nD) : ((dat2 (V4 m ρ) c).arrAt 8 cfg2.N : FVec Ideal S4096x1024 .f32)
    = InProjSpec.dx (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have a0 : V4 m ρ c main_arg0 = m ((c : Thread nD τ).loc main_arg0) := W4_args m ρ c main_arg0 (by decide)
  have a3 : V4 m ρ c main_arg3 = m ((c : Thread nD τ).loc main_arg3) := W4_args m ρ c main_arg3 (by decide)
  have a4 : V4 m ρ c main_arg4 = m ((c : Thread nD τ).loc main_arg4) := W4_args m ρ c main_arg4 (by decide)
  have a5 : V4 m ρ c main_arg5 = m ((c : Thread nD τ).loc main_arg5) := W4_args m ρ c main_arg5 (by decide)
  have a6 : V4 m ρ c main_arg6 = m ((c : Thread nD τ).loc main_arg6) := W4_args m ρ c main_arg6 (by decide)
  have a7 : V4 m ρ c main_arg7 = m ((c : Thread nD τ).loc main_arg7) := W4_args m ρ c main_arg7 (by decide)
  have h := TileX.final2_8 (V4 m ρ) c (m ((c : Thread nD τ).loc main_arg1)) (m ((c : Thread nD τ).loc main_arg2)) (gain4 m ρ c) (weight4 m ρ c)
  rw [a0, a3, a4, a5, a6, a7] at h
  exact h

theorem dg_eq (c : Dev nD) : ((dat2 (V4 m ρ) c).arrAt 9 cfg2.N : FVec Ideal S1x1024 .f32)
    = InProjSpec.dg (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have a0 : V4 m ρ c main_arg0 = m ((c : Thread nD τ).loc main_arg0) := W4_args m ρ c main_arg0 (by decide)
  have a3 : V4 m ρ c main_arg3 = m ((c : Thread nD τ).loc main_arg3) := W4_args m ρ c main_arg3 (by decide)
  have a4 : V4 m ρ c main_arg4 = m ((c : Thread nD τ).loc main_arg4) := W4_args m ρ c main_arg4 (by decide)
  have a5 : V4 m ρ c main_arg5 = m ((c : Thread nD τ).loc main_arg5) := W4_args m ρ c main_arg5 (by decide)
  have a6 : V4 m ρ c main_arg6 = m ((c : Thread nD τ).loc main_arg6) := W4_args m ρ c main_arg6 (by decide)
  have h := TileX.final2_9 (V4 m ρ) c (m ((c : Thread nD τ).loc main_arg2)) (weight4 m ρ c)
  rw [a0, a3, a4, a5, a6] at h
  exact h

end Calls

theorem algebraic : Cert.algebraic_InProjIdeal_InProjRefIdeal (hInProjIdeal := Cert.InProjIdeal.Gen.facts)
    (hInProjRefIdeal := Cert.InProjRefIdeal.Gen.facts) := by
  intro m ρ m' ρ' _ hagree
  refine ⟨fun c => InProjSpec.proj (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)),
    fun c => InProjSpec.dx (m ((c.tc : Thread InProjIdeal.nD InProjIdeal.τ).loc InProjIdeal.main_arg0)) (m ((c.tc : Thread InProjIdeal.nD InProjIdeal.τ).loc InProjIdeal.main_arg7)) (m ((c.tc : Thread InProjIdeal.nD InProjIdeal.τ).loc InProjIdeal.main_arg1)) (m ((c.tc : Thread InProjIdeal.nD InProjIdeal.τ).loc InProjIdeal.main_arg2)) (m ((c.tc : Thread InProjIdeal.nD InProjIdeal.τ).loc InProjIdeal.main_arg3)) (m ((c.tc : Thread InProjIdeal.nD InProjIdeal.τ).loc InProjIdeal.main_arg4)) (m ((c.tc : Thread InProjIdeal.nD InProjIdeal.τ).loc InProjIdeal.main_arg5)) (m ((c.tc : Thread InProjIdeal.nD InProjIdeal.τ).loc InProjIdeal.main_arg6)),
    fun c => InProjSpec.dg (m ((c.tc : Thread InProjIdeal.nD InProjIdeal.τ).loc InProjIdeal.main_arg0)) (m ((c.tc : Thread InProjIdeal.nD InProjIdeal.τ).loc InProjIdeal.main_arg2)) (m ((c.tc : Thread InProjIdeal.nD InProjIdeal.τ).loc InProjIdeal.main_arg3)) (m ((c.tc : Thread InProjIdeal.nD InProjIdeal.τ).loc InProjIdeal.main_arg4)) (m ((c.tc : Thread InProjIdeal.nD InProjIdeal.τ).loc InProjIdeal.main_arg5)) (m ((c.tc : Thread InProjIdeal.nD InProjIdeal.τ).loc InProjIdeal.main_arg6)),
    fun c => InProjSpec.dw (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg3)) (m ((c.tc : Thread InProjIdeal.nD InProjIdeal.τ).loc InProjIdeal.main_arg4)) (m ((c.tc : Thread InProjIdeal.nD InProjIdeal.τ).loc InProjIdeal.main_arg5)) (m ((c.tc : Thread InProjIdeal.nD InProjIdeal.τ).loc InProjIdeal.main_arg6)), ?_, ?_⟩
  · refine (θ_run _ _ _).mono (fun r h c => ⟨(h c).1.trans (proj_eq m ρ c), (h c).2.1.trans (dx_eq m ρ c),
      (h c).2.2.1.trans (dg_eq m ρ c), (h c).2.2.2.1.trans (dw_eq m ρ c), (h c).2.2.2.2⟩) (Cert.InProjIdeal.Whole.run m ρ)
  · refine (θ_run _ _ _).mono (fun r h c => ⟨(h c).1.trans ?_, (h c).2.1.trans ?_, (h c).2.2.1.trans ?_, (h c).2.2.2.1.trans ?_, (h c).2.2.2.2⟩)
      (Cert.InProjRefIdeal.Value.run (F := Ideal) m' ρ')
    · obtain ⟨g0, g1, g2, g3, g4, g5, g6, g7⟩ := hagree c
      rw [InProjRefIdeal.Read.val_main_v48_eq, InProjRefIdeal.Spec.val_main_v48_spec, g0, g1, g2]
    · obtain ⟨g0, g1, g2, g3, g4, g5, g6, g7⟩ := hagree c
      rw [InProjRefIdeal.Read.val_main_v49_eq, InProjRefIdeal.Spec.val_main_v49_spec, g0, g1, g2, g3, g4, g5, g6, g7]
    · obtain ⟨g0, g1, g2, g3, g4, g5, g6, g7⟩ := hagree c
      rw [InProjRefIdeal.Read.val_main_v50_eq, InProjRefIdeal.Spec.val_main_v50_spec, g0, g2, g3, g4, g5, g6]
    · obtain ⟨g0, g1, g2, g3, g4, g5, g6, g7⟩ := hagree c
      rw [InProjRefIdeal.Read.val_main_v22_eq, InProjRefIdeal.Spec.val_main_v22_spec, g0, g1, g3, g4, g5, g6]

end Cert.InProjClaim
-- ==== Proof.ConformerIdealFrame.lean ====
module

public import proofs.«01_k».proof.Proof.Gen.ConformerIdeal.Frame.RunB
public import Idealize.ShloMosaic.Lib.Claim

@[expose] public section

set_option maxRecDepth 16384

noncomputable section

/-! # The frame of `ConformerIdeal`: every execution ends, with its arguments unchanged and its counters at zero -/

namespace Cert.ConformerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S256x512 .f32) (harg1 : arg1.IsWhole) (arg2 : Memref sig .tc .vmem S256x256 .f32) (harg2 : arg2.IsWhole) (arg3 : Memref sig .tc .vmem S32x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S32x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x768 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S256x256 .f32) (harg17 : arg17.IsWhole) (arg18 : Memref sig .tc .vmem S1x256 .f32) (harg18 : arg18.IsWhole) (arg19 : Memref sig .tc .vmem S32x256 .f32) (harg19 : arg19.IsWhole) (hc0 : cond0_0 i)
    (x0 : Vec F S256x512 .f32) (x1 : Vec F S256x256 .f32) (x2 : Vec F S32x512 .f32) (x3 : Vec F S256x256 .f32) (x4 : Vec F S256x256 .f32) (x5 : Vec F S32x256 .f32) (x6 : Vec F S1x256 .f32) (x7 : Vec F S1x256 .f32) (x8 : Vec F S1x256 .f32) (x9 : Vec F S256x256 .f32) (x10 : Vec F S1x256 .f32)

/-! ### Case A: the pieces cover each output, and what they leave -/

theorem cover0_A_11 (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1 S256x256.size (by sl_kernel_rfl) y

def out0_A_11 : Vec F S256x768 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1)

theorem cover0_A_12 (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1 ![1, 256] (by sl_kernel_rfl) y

def out0_A_12 : Vec F S32x256 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1)

theorem cover0_A_13 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1 S1x256.size (by sl_kernel_rfl) y

def out0_A_13 : Vec F S1x256 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1)

theorem cover0_A_14 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1 S1x256.size (by sl_kernel_rfl) y

def out0_A_14 : Vec F S1x256 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1)

theorem cover0_A_15 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1 S1x256.size (by sl_kernel_rfl) y

def out0_A_15 : Vec F S1x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.1)

theorem cover0_A_16 (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.1 S256x256.size (by sl_kernel_rfl) y

def out0_A_16 : Vec F S256x256 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.1)

theorem cover0_A_17 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.1 S1x256.size (by sl_kernel_rfl) y

def out0_A_17 : Vec F S1x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.1)

theorem scover0_A_0 (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.2.1 S32x256.size (by sl_kernel_rfl) y

def sout0_A_0 : Vec F S32x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.2.1)

end CaseA

section CaseB

variable (c : Dev nD) (i : grid0.Coords) (arg1 : Memref sig .tc .vmem S256x512 .f32) (harg1 : arg1.IsWhole) (arg2 : Memref sig .tc .vmem S256x256 .f32) (harg2 : arg2.IsWhole) (arg3 : Memref sig .tc .vmem S32x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S32x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x768 .f32) (harg12 : arg12.IsWhole) (arg13 : Memref sig .tc .vmem S32x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S256x256 .f32) (harg17 : arg17.IsWhole) (arg18 : Memref sig .tc .vmem S1x256 .f32) (harg18 : arg18.IsWhole) (arg19 : Memref sig .tc .vmem S32x256 .f32) (harg19 : arg19.IsWhole) (hc0 : ¬cond0_0 i)
    (x0 : Vec F S256x512 .f32) (x1 : Vec F S256x256 .f32) (x2 : Vec F S32x512 .f32) (x3 : Vec F S256x256 .f32) (x4 : Vec F S256x256 .f32) (x5 : Vec F S32x256 .f32) (x6 : Vec F S1x256 .f32) (x7 : Vec F S1x256 .f32) (x8 : Vec F S1x256 .f32) (x9 : Vec F S256x256 .f32) (x10 : Vec F S1x256 .f32) (xo12 : Vec F S32x256 .f32) (xo13 : Vec F S1x256 .f32) (xo14 : Vec F S1x256 .f32) (xo15 : Vec F S1x256 .f32) (xo16 : Vec F S256x256 .f32) (xo17 : Vec F S1x256 .f32) (xs0 : Vec F S32x256 .f32)

/-! ### Case B: the pieces cover each output, and what they leave -/

theorem cover0_B_11 (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).1 S256x256.size (by sl_kernel_rfl) y

def out0_B_11 : Vec F S256x768 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).1)

def out0_B_12 : Vec F S32x256 .f32 :=
  arg13.view.read (Elt F) (arg13.view.writes (Elt F) (harg13.unread xo12) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.1)

theorem cover0_B_13 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.1 S1x256.size (by sl_kernel_rfl) y

def out0_B_13 : Vec F S1x256 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.1)

theorem cover0_B_14 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.1 S1x256.size (by sl_kernel_rfl) y

def out0_B_14 : Vec F S1x256 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.1)

theorem cover0_B_15 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.1 S1x256.size (by sl_kernel_rfl) y

def out0_B_15 : Vec F S1x256 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.1)

theorem cover0_B_16 (y : S256x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.1 S256x256.size (by sl_kernel_rfl) y

def out0_B_16 : Vec F S256x256 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.1)

theorem cover0_B_17 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.1 S1x256.size (by sl_kernel_rfl) y

def out0_B_17 : Vec F S1x256 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.1)

theorem scover0_B_0 (y : S32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.2.1 S32x256.size (by sl_kernel_rfl) y

def sout0_B_0 : Vec F S32x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo12 xo13 xo14 xo15 xo16 xo17 xs0).2.2.2.2.2.2.2.1)

end CaseB

/-! ## What the outputs hold after each point -/

/-- What a point of case A leaves: the outputs in window order, then the carried scratch. -/
def leftA (c : Dev nD) (t : Fin cfg0.N) (h0 : t.val % 16 = 0) : Vec F S256x768 .f32 × Vec F S32x256 .f32 × Vec F S1x256 .f32 × Vec F S1x256 .f32 × Vec F S1x256 .f32 × Vec F S256x256 .f32 × Vec F S1x256 .f32 × Vec F S32x256 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t))

/-- What a point of case B leaves, over what the point before left. -/
def leftB (c : Dev nD) (t : Fin cfg0.N) (h0 : ¬t.val % 16 = 0) (p : Vec F S256x768 .f32 × Vec F S32x256 .f32 × Vec F S1x256 .f32 × Vec F S1x256 .f32 × Vec F S1x256 .f32 × Vec F S256x256 .f32 × Vec F S1x256 .f32 × Vec F S32x256 .f32) : Vec F S256x768 .f32 × Vec F S32x256 .f32 × Vec F S1x256 .f32 × Vec F S1x256 .f32 × Vec F S1x256 .f32 × Vec F S256x256 .f32 × Vec F S1x256 .f32 × Vec F S32x256 .f32 :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) p.2.1 p.2.2.1 p.2.2.2.1 p.2.2.2.2.1 p.2.2.2.2.2.1 p.2.2.2.2.2.2.1 p.2.2.2.2.2.2.2)

/-- What the outputs' staging buffers and the carried scratch hold after the body at position `n`. -/
def outsAt0 (c : Dev nD) : (n : ℕ) → n < cfg0.N → Vec F S256x768 .f32 × Vec F S32x256 .f32 × Vec F S1x256 .f32 × Vec F S1x256 .f32 × Vec F S1x256 .f32 × Vec F S256x256 .f32 × Vec F S1x256 .f32 × Vec F S32x256 .f32
  | 0, hn => leftA m c ⟨0, hn⟩ rfl
  | n + 1, hn => if h0 : (n + 1) % 16 = 0 then leftA m c ⟨n + 1, hn⟩ h0 else leftB m c ⟨n + 1, hn⟩ h0 (outsAt0 c n (Nat.lt_of_succ_lt hn))

theorem outsAt0_A (c : Dev nD) (t : Fin cfg0.N) (h0 : t.val % 16 = 0) : outsAt0 m c t.val t.isLt = leftA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = leftB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_12_B (c : Dev nD) (t : Fin cfg0.N) (h0 : ¬t.val % 16 = 0) (d) :
    (dats m 0 c).before 12 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13_B (c : Dev nD) (t : Fin cfg0.N) (h0 : ¬t.val % 16 = 0) (d) :
    (dats m 0 c).before 13 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 16 = 0) (d) :
    (dats m 0 c).before 14 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold leftA out0_A_11 out0_A_12 out0_A_13 out0_A_14 out0_A_15 out0_A_16 out0_A_17 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_12_B m c t h0, before0_13_B m c t h0, before0_14_B m c t h0, before0_15_B m c t h0, before0_16_B m c t h0, before0_17_B m c t h0]
      unfold leftB out0_B_11 out0_B_12 out0_B_13 out0_B_14 out0_B_15 out0_B_16 out0_B_17 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) _ _ _ _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      iintro ⟨H0, H1, H2, H3, H4, H5, H6, H7, H8, H9, H10, ⟨%e11, H11⟩, H12, ⟨%e13, H13⟩, ⟨%e14, H14⟩, ⟨%e15, H15⟩, ⟨%e16, H16⟩, ⟨%e17, H17⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; rfl
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ConformerIdeal.Gen

end
-- ==== Proof.ConformerIdealValue.lean ====
module

public import proofs.«01_k».proof.Proof.ConformerIdealFrame
public import Idealize.ShloMosaic.Lib.Pipeline.Value

@[expose] public section

noncomputable section

namespace Cert.ConformerIdeal.Value

open Cert.ConformerIdeal Cert.ConformerIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

theorem post11 (r : PUnit × MemSt nD τ sig (Elt F)) (h : Pipeline.FramePost cfgs (dats m) 0 (V m) r) (c : Dev nD) :
    r.2.mem ((c : Thread nD τ).loc main_v234_0) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v234_1) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v234_2) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v234_3) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v234_4) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v234_5) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v234_6) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 260440 in
theorem run_blocks : θ_run defs (onTc (τ := τ) (main (F := F))) ⟨m, fun _ => 0, ρ⟩ fun r => ∀ c : Dev nD,
      r.2.mem ((c : Thread nD τ).loc main_v234_0) = (dats m 0 c).arrAt 11 cfg0.N
      ∧ r.2.mem ((c : Thread nD τ).loc main_v234_1) = (dats m 0 c).arrAt 12 cfg0.N
      ∧ r.2.mem ((c : Thread nD τ).loc main_v234_2) = (dats m 0 c).arrAt 13 cfg0.N
      ∧ r.2.mem ((c : Thread nD τ).loc main_v234_3) = (dats m 0 c).arrAt 14 cfg0.N
      ∧ r.2.mem ((c : Thread nD τ).loc main_v234_4) = (dats m 0 c).arrAt 15 cfg0.N
      ∧ r.2.mem ((c : Thread nD τ).loc main_v234_5) = (dats m 0 c).arrAt 16 cfg0.N
      ∧ r.2.mem ((c : Thread nD τ).loc main_v234_6) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

end Cert.ConformerIdeal.Value

end
-- ==== Proof.ConformerSpec.lean ====
module

public import proofs.«01_k».proof.Proof.Tiles
public import Idealize.ShloMosaic.PureOps.Ideal.Laws

@[expose] public section

set_option maxRecDepth 16384

noncomputable section

open Idealize.ShloMosaic

/-! # The conformer convolution branch's gradient, as formulas over the arrays

What happens to one row of the branch behind the convolution (bias, layer norm, SiLU, pointwise product, output gate) is
written once, over a `Layer` of parameters and a `Row` of the three arrays it reads. The convolution joins the rows: a row
of the array is a natural number, and a row outside the array is zero. -/

namespace Cert.ConformerSpec

/-- The branch's parameters behind the convolution. -/
structure Layer where
  cb : Fin 256 → EReal
  g : Fin 256 → EReal
  b : Fin 256 → EReal
  w : Fin 256 → Fin 256 → EReal
  wb : Fin 256 → EReal

/-- One row: the convolution's output, the gate before its SiLU, the cotangent of the branch's output. -/
structure Row where
  a : Fin 256 → EReal
  z : Fin 256 → EReal
  d : Fin 256 → EReal

section Row
variable (L : Layer) (R : Row)

/-- The row's length, the norm's guard, and the factor of the reciprocal root's slope. -/
abbrev len : EReal := Ideal.ofBits .f32 1132462080#32
abbrev guard : EReal := Ideal.ofBits .f32 897988541#32
abbrev slopeBy : EReal := Ideal.ofBits .f32 3204448256#32

/-- The centred row. -/
def xc (j : Fin 256) : EReal := R.a j + L.cb j - Ideal.div (∑ k, (R.a k + L.cb k)) len
def var : EReal := Ideal.div (∑ k, xc L R k * xc L R k) len + guard
def rs : EReal := Ideal.rsqrt (var L R)
def slope : EReal := slopeBy * Ideal.div (rs L R) (var L R)
def nx (j : Fin 256) : EReal := xc L R j * rs L R
def ln (j : Fin 256) : EReal := nx L R j * L.g j + L.b j
def act (j : Fin 256) : EReal := ln L R j * Ideal.logistic (ln L R j)
def mm (j : Fin 256) : EReal := ∑ k, act L R k * L.w k j + L.wb j
/-- The cotangents, from the output back: the product's, the gate's, the SiLU's input's, the centred row's, the conv output's. -/
def dmm (j : Fin 256) : EReal := R.d j * (R.z j * Ideal.logistic (R.z j))
def dz (j : Fin 256) : EReal :=
  mm L R j * R.d j * Ideal.logistic (R.z j)
    + R.z j * (mm L R j * R.d j) * (Ideal.logistic (R.z j) * (1 - Ideal.logistic (R.z j)))
def dact (j : Fin 256) : EReal := ∑ k, dmm R k * L.w j k
def dln (j : Fin 256) : EReal :=
  dact L R j * Ideal.logistic (ln L R j)
    + ln L R j * dact L R j * (Ideal.logistic (ln L R j) * (1 - Ideal.logistic (ln L R j)))
def dxn (j : Fin 256) : EReal := dln L R j * L.g j
def dvar : EReal := Ideal.div ((∑ k, xc L R k * dxn L R k) * slope L R) len
def dxc (j : Fin 256) : EReal := dxn L R j * rs L R + xc L R j * dvar L R + dvar L R * xc L R j
def da (j : Fin 256) : EReal := dxc L R j + Ideal.div (∑ k, (0 - dxc L R k)) len

end Row

/-! ## Over the arrays

`P` is the layer's projection (columns 0–767 are the branch's value, gate and output gate), `D` the cotangent of the mixed
output (columns 0–255 are the branch's), `C` the 31 taps. -/

/-- The eight arguments. -/
structure Args where
  P : FVec Ideal ⟨2, ![4096, 3456]⟩ .f32
  D : FVec Ideal ⟨2, ![4096, 1024]⟩ .f32
  C : FVec Ideal ⟨2, ![31, 256]⟩ .f32
  cb : FVec Ideal ⟨1, ![256]⟩ .f32
  g : FVec Ideal ⟨1, ![256]⟩ .f32
  b : FVec Ideal ⟨1, ![256]⟩ .f32
  w : FVec Ideal ⟨2, ![256, 256]⟩ .f32
  wb : FVec Ideal ⟨1, ![256]⟩ .f32

variable (A : Args)

/-- The convolution's input, thirty zero rows in front. -/
def U (j : Fin 256) (n : ℕ) : EReal :=
  if h : 30 ≤ n ∧ n < 4126 then
    A.P (ix2 ⟨n - 30, by omega⟩ ⟨j.val, by omega⟩) * Ideal.logistic (A.P (ix2 ⟨n - 30, by omega⟩ ⟨256 + j.val, by omega⟩)) else 0

/-- The convolution. -/
def conv (j : Fin 256) (n : ℕ) : EReal := ∑ k : Fin 31, U A j (n + k.val) * A.C (ix2 k j)

abbrev layer : Layer where
  cb j := A.cb (ix1 j)
  g j := A.g (ix1 j)
  b j := A.b (ix1 j)
  w i j := A.w (ix2 i j)
  wb j := A.wb (ix1 j)

abbrev row (n : Fin 4096) : Row where
  a j := conv A j n.val
  z j := A.P (ix2 n ⟨512 + j.val, by omega⟩)
  d j := A.D (ix2 n ⟨j.val, by omega⟩)

/-- The convolution output's cotangent. -/
def G (j : Fin 256) (n : ℕ) : EReal := if h : n < 4096 then da (layer A) (row A ⟨n, h⟩) j else 0

/-- The convolution input's cotangent. -/
def dU (j : Fin 256) (n : ℕ) : EReal := ∑ k : Fin 31, G A j (n + (30 - k.val)) * A.C (ix2 k j)

/-- The projection's cotangent over the branch's three parts. -/
def dP : FVec Ideal ⟨2, ![4096, 768]⟩ .f32 := fun i =>
  let n : Fin 4096 := ⟨(i 0).val, (i 0).isLt⟩
  if h0 : (i 1).val < 256 then
    dU A ⟨(i 1).val, h0⟩ n.val * Ideal.logistic (A.P (ix2 n ⟨256 + (i 1).val, by omega⟩))
  else if h1 : (i 1).val < 512 then
    A.P (ix2 n ⟨(i 1).val - 256, by omega⟩) * dU A ⟨(i 1).val - 256, by omega⟩ n.val
      * (Ideal.logistic (A.P (ix2 n ⟨256 + ((i 1).val - 256), by omega⟩)) * (1 - Ideal.logistic (A.P (ix2 n ⟨256 + ((i 1).val - 256), by omega⟩))))
  else dz (layer A) (row A n) ⟨(i 1).val - 512, by have h : (i 1).val < 768 := (i 1).isLt; omega⟩

/-- The taps' gradient, padded to 32 rows. -/
def dC : FVec Ideal ⟨2, ![32, 256]⟩ .f32 := fun i =>
  if (i 0).val < 31 then ∑ n : Fin 4096, U A ⟨(i 1).val, (i 1).isLt⟩ (n.val + (i 0).val) * G A ⟨(i 1).val, (i 1).isLt⟩ n.val else 0

/-- The vectors' gradients, and the pointwise product's: sums over the rows. -/
def overRows (f : Layer → Row → Fin 256 → EReal) : FVec Ideal ⟨2, ![1, 256]⟩ .f32 := fun i =>
  ∑ n : Fin 4096, f (layer A) (row A n) ⟨(i 1).val, (i 1).isLt⟩

def dW : FVec Ideal ⟨2, ![256, 256]⟩ .f32 := fun i =>
  ∑ n : Fin 4096, act (layer A) (row A n) ⟨(i 0).val, (i 0).isLt⟩ * dmm (row A n) ⟨(i 1).val, (i 1).isLt⟩

/-! The cotangent over each of the three parts. -/

theorem dP_0 (n : Fin 4096) (j : Fin 256) (k : Fin 768) (hk : k.val = j.val) :
    dP A (ix2 n k) = dU A j n.val * Ideal.logistic (A.P (ix2 n ⟨256 + j.val, by omega⟩)) := by
  obtain ⟨b, hb⟩ := j
  obtain ⟨a, ha⟩ := k
  obtain rfl : b = a := by dsimp only at hk; omega
  exact dif_pos hb

theorem dP_1 (n : Fin 4096) (j : Fin 256) (k : Fin 768) (hk : k.val = 256 + j.val) :
    dP A (ix2 n k) = A.P (ix2 n ⟨j.val, by omega⟩) * dU A j n.val
      * (Ideal.logistic (A.P (ix2 n ⟨256 + j.val, by omega⟩)) * (1 - Ideal.logistic (A.P (ix2 n ⟨256 + j.val, by omega⟩)))) := by
  obtain ⟨b, hb⟩ := j
  obtain ⟨a, ha⟩ := k
  obtain rfl : b = a - 256 := by dsimp only at hk; omega
  dsimp only at hk
  exact (dif_neg (by show ¬ a < 256; omega)).trans (dif_pos (by show a < 512; omega))

theorem dP_2 (n : Fin 4096) (j : Fin 256) (k : Fin 768) (hk : k.val = 512 + j.val) :
    dP A (ix2 n k) = dz (layer A) (row A n) j := by
  obtain ⟨b, hb⟩ := j
  obtain ⟨a, ha⟩ := k
  obtain rfl : b = a - 512 := by dsimp only at hk; omega
  dsimp only at hk
  exact (dif_neg (by show ¬ a < 256; omega)).trans (dif_neg (by show ¬ a < 512; omega))

end Cert.ConformerSpec
-- ==== Proof.ConformerHost.lean ====
module

public import proofs.«01_k».proof.Proof.ConformerIdealFrame
public import proofs.«01_k».proof.Proof.ConformerSpec
public import Idealize.ShloMosaic.Lib.Pipeline.ValueKit

@[expose] public section

set_option maxRecDepth 16384

noncomputable section

open Idealize.ShloMosaic Idealize.ShloMosaic.TcCoe Idealize.SL.Sem

/-! # What the region finds: the convolution's output, the padded taps and the parameters as rows -/

namespace Cert.ConformerIdeal.Tile

open Cert.ConformerIdeal Cert.ConformerIdeal.Gen Cert.ConformerSpec

section Host
variable {F : FTy → Type} [FloatOps F]

theorem slices_x (k : Fin 31) : S4126x256.Slices ![k.val, 0] S4096x256 := by
  refine ⟨rfl, fun a => ?_⟩
  have := k.isLt
  fin_cases a
  · show k.val + 4096 ≤ 4126
    omega
  · show 0 + 256 ≤ 256
    omega

theorem slices_c (k : Fin 31) : S31x256.Slices ![k.val, 0] S1x256 := by
  refine ⟨rfl, fun a => ?_⟩
  have := k.isLt
  fin_cases a
  · show k.val + 1 ≤ 31
    omega
  · show 0 + 256 ≤ 256
    omega

/-- The convolution's input: value times the gate's logistic, thirty zero rows in front. -/
def hostX (P : FVec F S4096x3456 .f32) : FVec F S4126x256 .f32 :=
  concatenate S4126x256 0 [⟨S30x256, broadcastInDim S30x256 ![] bcast_S_S30x256 (constant S_ .f32 0x00000000#32)⟩,
    ⟨S4096x256, mulf (extractStridedSlice S4096x256 ![0, 0] P slices_S4096x3456_S4096x256_0_0)
      (Host.divf (broadcastInDim S4096x256 ![] bcast_S_S4096x256 (constant S_ .f32 0x3F800000#32))
        (addf (broadcastInDim S4096x256 ![] bcast_S_S4096x256 (constant S_ .f32 0x3F800000#32))
          (Host.exp (Host.negf (extractStridedSlice S4096x256 ![0, 256] P slices_S4096x3456_S4096x256_0_256)))))⟩]
    concatenates_S30x256_S4096x256_S4126x256_d0

/-- One tap's share of the convolution. -/
def hostTap (X : FVec F S4126x256 .f32) (C : FVec F S31x256 .f32) (k : Fin 31) : FVec F S4096x256 .f32 :=
  mulf (broadcastInDim S4096x256 ![0, 1] bcast_S1x256_S4096x256_0_1 (broadcastInDim S1x256 ![1] bcast_S256_S1x256_1
      (shapeCast S256 (extractStridedSlice S1x256 ![k.val, 0] C (slices_c k)) shapeCasts_S1x256_S256)))
    (extractStridedSlice S4096x256 ![k.val, 0] X (slices_x k))

/-- The convolution's first `k` taps. -/
def hostConv (X : FVec F S4126x256 .f32) (C : FVec F S31x256 .f32) : (k : ℕ) → k ≤ 31 → FVec F S4096x256 .f32
  | 0, _ => broadcastInDim S4096x256 ![] bcast_S_S4096x256 (constant S_ .f32 0x00000000#32)
  | k + 1, h => addf (hostConv X C k (by omega)) (hostTap X C ⟨k, h⟩)

theorem host_v228 (σ : Valuation τ sig (Elt F)) : StableHlo.after hostOps0 σ (Proc.devRef .tc main_v228)
    = hostConv (hostX (σ (Proc.devRef .tc main_arg0) : FVec F S4096x3456 .f32)) (σ (Proc.devRef .tc main_arg2) : FVec F S31x256 .f32) 31 (le_refl _) := by
  after_results_simp
  rfl

end Host

variable (m : (ℓ : Loc nD τ sig) → Buf (Elt Ideal) ℓ)

/-- The arguments, at their literal types. -/
abbrev args (c : Dev nD) : Args where
  P := m ((c : Thread nD τ).loc main_arg0)
  D := m ((c : Thread nD τ).loc main_arg1)
  C := m ((c : Thread nD τ).loc main_arg2)
  cb := m ((c : Thread nD τ).loc main_arg3)
  g := m ((c : Thread nD τ).loc main_arg4)
  b := m ((c : Thread nD τ).loc main_arg5)
  w := m ((c : Thread nD τ).loc main_arg6)
  wb := m ((c : Thread nD τ).loc main_arg7)

/-! ## The convolution at an index -/

theorem hostX_apply (A : Args) (k : Fin 31) (n : Fin 4096) (j : Fin 256) :
    hostX (F := Ideal) A.P (ix2 ⟨n.val + k.val, by omega⟩ j) = U A j (n.val + k.val) := by
  pointwise [hostX]
  unfold U
  by_cases h : n.val + k.val < 30
  · rw [dif_pos h, dif_neg (by omega)]
  · rw [dif_neg h, dif_pos ⟨by omega, by omega⟩]
    rfl

theorem hostTap_apply (A : Args) (k : Fin 31) (n : Fin 4096) (j : Fin 256) :
    hostTap (F := Ideal) (hostX A.P) A.C k (ix2 n j) = U A j (n.val + k.val) * A.C (ix2 k j) := by
  have h := hostX_apply A k n j
  rw [← h, mul_comm]
  generalize hostX (F := Ideal) A.P = X
  pointwise [hostTap]
  blk_point []

theorem hostConv_apply (A : Args) (n : Fin 4096) (j : Fin 256) (k : ℕ) (hk : k ≤ 31) :
    hostConv (F := Ideal) (hostX A.P) A.C k hk (ix2 n j)
      = ∑ i : Fin k, U A j (n.val + i.val) * A.C (ix2 ⟨i.val, by omega⟩ j) := by
  induction k with
  | zero =>
    rw [Finset.univ_eq_empty, Finset.sum_empty]
    pointwise [hostConv]
  | succ k ih =>
    rw [Fin.sum_univ_castSucc]
    refine congrArg₂ (· + ·) (ih (by omega)) (hostTap_apply A ⟨k, hk⟩ n j)

/-- The region finds the convolution's output. -/
theorem V_main_v228 (c : Dev nD) (n : Fin 4096) (j : Fin 256) :
    (V m c main_v228 : FVec Ideal S4096x256 .f32) (ix2 n j) = conv (args m c) j n.val := by
  have e : (V m c main_v228 : FVec Ideal S4096x256 .f32) = StableHlo.after hostOps0 (fun b => m (c, b)) (Proc.devRef .tc main_v228) := by
    show StableHlo.after (List.flatten [hostOps0, hostOps0_1, hostOps0_2]) _ _ = _
    rw [List.flatten_cons, StableHlo.after_append]
    generalize StableHlo.after hostOps0 (fun b => m (c, b)) = σ
    show StableHlo.after (hostOps0_1 ++ (hostOps0_2 ++ [])) σ (Proc.devRef .tc main_v228) = σ (Proc.devRef .tc main_v228)
    unfold hostOps0_1 hostOps0_2
    simp only [List.cons_append, List.nil_append, List.append_nil]
    after_results_simp
  rw [e, host_v228]
  exact hostConv_apply (args m c) n j 31 _

/-- The region finds the taps padded to thirty-two rows. -/
theorem V_main_v229 (c : Dev nD) (k : Fin 32) (j : Fin 256) (hk : k.val < 31) :
    (V m c main_v229 : FVec Ideal S32x256 .f32) (ix2 k j) = (args m c).C (ix2 ⟨k.val, hk⟩ j) := by
  have e : (V m c main_v229 : FVec Ideal S32x256 .f32)
      = pad S32x256 ![0, 0] ![1, 0] ![0, 0] (args m c).C (sitofp .f32 (constantI S_ 32 0#32)) pads_S31x256_S32x256_010_000 h_S_ := by
    entry_read
    rfl
  rw [e]
  pointwise
  rw [dif_pos hk]

/-- The region finds the four vectors as rows. -/
theorem V_main_v230 (c : Dev nD) (j : Fin 256) : (V m c main_v230 : FVec Ideal S1x256 .f32) (ix2 0 j) = (args m c).cb (ix1 j) := by
  have e : (V m c main_v230 : FVec Ideal S1x256 .f32) = shapeCast S1x256 (args m c).cb shapeCasts_S256_S1x256 := by
    entry_read
    rfl
  rw [e]
  pointwise

theorem V_main_v231 (c : Dev nD) (j : Fin 256) : (V m c main_v231 : FVec Ideal S1x256 .f32) (ix2 0 j) = (args m c).g (ix1 j) := by
  have e : (V m c main_v231 : FVec Ideal S1x256 .f32) = shapeCast S1x256 (args m c).g shapeCasts_S256_S1x256 := by
    entry_read
    rfl
  rw [e]
  pointwise

theorem V_main_v232 (c : Dev nD) (j : Fin 256) : (V m c main_v232 : FVec Ideal S1x256 .f32) (ix2 0 j) = (args m c).b (ix1 j) := by
  have e : (V m c main_v232 : FVec Ideal S1x256 .f32) = shapeCast S1x256 (args m c).b shapeCasts_S256_S1x256 := by
    entry_read
    rfl
  rw [e]
  pointwise

theorem V_main_v233 (c : Dev nD) (j : Fin 256) : (V m c main_v233 : FVec Ideal S1x256 .f32) (ix2 0 j) = (args m c).wb (ix1 j) := by
  have e : (V m c main_v233 : FVec Ideal S1x256 .f32) = shapeCast S1x256 (args m c).wb shapeCasts_S256_S1x256 := by
    entry_read
    rfl
  rw [e]
  pointwise

end Cert.ConformerIdeal.Tile
-- ==== Proof.ConformerTile.lean ====
module

public import proofs.«01_k».proof.Proof.Gen.ConformerIdeal.Skeleton
public import proofs.«01_k».proof.Proof.ConformerSpec
public import Idealize.ShloMosaic.Lib.Pipeline.ValueKit

@[expose] public section

set_option maxRecDepth 16384

noncomputable section

open Idealize.ShloMosaic Idealize.ShloMosaic.TcCoe Idealize.SL.Sem

/-! # What one tile of the conformer branch's gradient computes

The stored values of the kernel's body, each read at an index. `a` is the tile of the convolution's output, `z` of the
output gate, `d` of the cotangent; `cb g b wb` are the parameter vectors as one row each and `w` the product's weight. -/

namespace Cert.ConformerIdeal.Tile

open Cert.ConformerIdeal Cert.ConformerIdeal.Gen Cert.ConformerSpec

section Row
variable (a z d w : FVec Ideal S256x256 .f32) (cb g b wb : FVec Ideal S1x256 .f32)

/-- The parameters and a row, as the blocks hold them. -/
abbrev blayer : Layer where
  cb j := cb (ix2 0 j)
  g j := g (ix2 0 j)
  b j := b (ix2 0 j)
  w i j := w (ix2 i j)
  wb j := wb (ix2 0 j)

abbrev brow (r : Fin 256) : Row where
  a j := a (ix2 r j)
  z j := z (ix2 r j)
  d j := d (ix2 r j)

theorem xc_apply (r j : Fin 256) : k0_pay17 (F := Ideal) a cb (ix2 r j) = xc (blayer w cb g b wb) (brow a z d r) j := by
  pointwise [k0_pay17]
  rfl

theorem var_apply (r : Fin 256) (o : Fin 1) : k0_pay18 (F := Ideal) a cb (ix2 r o) = var (blayer w cb g b wb) (brow a z d r) := by
  have h := xc_apply a z d w cb g b wb r
  pointwise [k0_pay18]
  simp only [h]
  rfl

theorem rs_apply (r : Fin 256) (o : Fin 1) : k0_pay19 (F := Ideal) a cb (ix2 r o) = rs (blayer w cb g b wb) (brow a z d r) := by
  have h := var_apply a z d w cb g b wb r
  pointwise [k0_pay19]
  simp only [h]
  rfl

theorem slope_apply (r : Fin 256) (o : Fin 1) : k0_pay20 (F := Ideal) a cb (ix2 r o) = slope (blayer w cb g b wb) (brow a z d r) := by
  have h := var_apply a z d w cb g b wb r
  have h' := rs_apply a z d w cb g b wb r
  pointwise [k0_pay20]
  simp only [h, h']
  rfl

theorem nx_apply (r j : Fin 256) : k0_pay21 (F := Ideal) a cb (ix2 r j) = nx (blayer w cb g b wb) (brow a z d r) j := by
  have h := xc_apply a z d w cb g b wb r
  have h' := rs_apply a z d w cb g b wb r
  pointwise [k0_pay21]
  simp only [h, h']
  rfl

theorem ln_apply (r j : Fin 256) : k0_pay22 (F := Ideal) a cb g b (ix2 r j) = ln (blayer w cb g b wb) (brow a z d r) j := by
  have h := nx_apply a z d w cb g b wb r
  pointwise [k0_pay22]
  simp only [h]
  rfl

theorem sig_apply (r j : Fin 256) : k0_pay23 (F := Ideal) a cb g b (ix2 r j) = Ideal.logistic (ln (blayer w cb g b wb) (brow a z d r) j) := by
  have h := ln_apply a z d w cb g b wb r
  pointwise [k0_pay23]
  simp only [h]

theorem sig'_apply (r j : Fin 256) : k0_pay24 (F := Ideal) a cb g b (ix2 r j)
    = Ideal.logistic (ln (blayer w cb g b wb) (brow a z d r) j) * (1 - Ideal.logistic (ln (blayer w cb g b wb) (brow a z d r) j)) := by
  have h := sig_apply a z d w cb g b wb r
  pointwise [k0_pay24]
  simp only [h]

theorem act_apply (r j : Fin 256) : k0_pay25 (F := Ideal) a cb g b (ix2 r j) = act (blayer w cb g b wb) (brow a z d r) j := by
  have h := ln_apply a z d w cb g b wb r
  have h' := sig_apply a z d w cb g b wb r
  pointwise [k0_pay25]
  simp only [h, h']
  rfl

theorem dmm_apply (r j : Fin 256) : k0_pay27 (F := Ideal) z d (ix2 r j) = dmm (brow a z d r) j := by
  pointwise [k0_pay27, k0_pay26]
  rfl

theorem dz_apply (r j : Fin 256) : k0_pay28 (F := Ideal) a z cb g b w wb d (ix2 r j) = dz (blayer w cb g b wb) (brow a z d r) j := by
  have h := act_apply a z d w cb g b wb r
  pointwise [k0_pay28, k0_pay26]
  simp only [h]
  rfl

/-- The cotangent of the norm's output, at the stages the body has kept. -/
abbrev dlnAt : FVec Ideal S256x256 .f32 :=
  k0_pay33 (F := Ideal) w (k0_pay22 a cb g b) (k0_pay23 a cb g b) (k0_pay24 a cb g b) (k0_pay27 z d)

theorem dln_apply (r j : Fin 256) : dlnAt a z d w cb g b (ix2 r j) = dln (blayer w cb g b wb) (brow a z d r) j := by
  have h := ln_apply a z d w cb g b wb r
  have h1 := sig_apply a z d w cb g b wb r
  have h2 := sig'_apply a z d w cb g b wb r
  have h3 := dmm_apply a z d r
  unfold dlnAt
  pointwise [k0_pay33, k0_pay31]
  simp only [h, h1, h2, h3]
  rfl

/-- The cotangent of the convolution's output. -/
abbrev daAt : FVec Ideal S256x256 .f32 :=
  k0_pay36 (F := Ideal) g w (k0_pay17 a cb) (k0_pay19 a cb) (k0_pay20 a cb) (k0_pay22 a cb g b) (k0_pay23 a cb g b) (k0_pay24 a cb g b) (k0_pay27 z d)

theorem da_apply (r j : Fin 256) : daAt a z d w cb g b (ix2 r j) = da (blayer w cb g b wb) (brow a z d r) j := by
  have h := xc_apply a z d w cb g b wb r
  have h1 := rs_apply a z d w cb g b wb r
  have h2 := slope_apply a z d w cb g b wb r
  have h3 := dln_apply a z d w cb g b wb r
  unfold dlnAt at h3
  unfold daAt
  pointwise [k0_pay36]
  simp only [h, h1, h2, h3, Fin.sum_univ_one]
  rfl

/-! A tile's share of the sums over rows. -/

theorem dwb_apply (j : Fin 256) : k0_pay30 (F := Ideal) (k0_pay29 z d) (ix2 0 j) = ∑ r, dmm (brow a z d r) j := by
  have h := dmm_apply a z d
  pointwise [k0_pay30, k0_pay29]
  simp only [h]

theorem dw_apply (i j : Fin 256) : k0_pay32 (F := Ideal) (k0_pay25 a cb g b) (k0_pay27 z d) (ix2 i j)
    = ∑ r, act (blayer w cb g b wb) (brow a z d r) i * dmm (brow a z d r) j := by
  have h := act_apply a z d w cb g b wb
  have h' := dmm_apply a z d
  pointwise [k0_pay32, k0_pay31]
  simp only [h, h']

theorem db_apply (j : Fin 256) : k0_pay34 (F := Ideal) w (k0_pay22 a cb g b) (k0_pay23 a cb g b) (k0_pay24 a cb g b) (k0_pay27 z d) (ix2 0 j)
    = ∑ r, dln (blayer w cb g b wb) (brow a z d r) j := by
  have h := dln_apply a z d w cb g b wb
  unfold dlnAt at h
  pointwise [k0_pay34]
  simp only [h]

theorem dg_apply (j : Fin 256) : k0_pay35 (F := Ideal) w (k0_pay21 a cb) (k0_pay22 a cb g b) (k0_pay23 a cb g b) (k0_pay24 a cb g b) (k0_pay27 z d) (ix2 0 j)
    = ∑ r, nx (blayer w cb g b wb) (brow a z d r) j * dln (blayer w cb g b wb) (brow a z d r) j := by
  have h := dln_apply a z d w cb g b wb
  have h' := nx_apply a z d w cb g b wb
  unfold dlnAt at h
  pointwise [k0_pay35]
  simp only [h, h']

theorem dcb_apply (j : Fin 256) : k0_pay37 (F := Ideal) g w (k0_pay17 a cb) (k0_pay19 a cb) (k0_pay20 a cb) (k0_pay22 a cb g b) (k0_pay23 a cb g b) (k0_pay24 a cb g b) (k0_pay27 z d) (ix2 0 j)
    = ∑ r, da (blayer w cb g b wb) (brow a z d r) j := by
  have h := da_apply a z d w cb g b wb
  unfold daAt at h
  pointwise [k0_pay37]
  simp only [h]

end Row

/-! ## The convolution's input and the two gradients of the convolution -/

/-- The extended tile: thirty-two rows before it (times the word that drops them at the array's first tile), then its own. -/
theorem ext_apply (i : grid0.Coords) (v6 v7 : FVec Ideal S256x256 .f32) (v8 v9 : FVec Ideal S32x256 .f32) (e : Fin 288) (j : Fin 256) :
    k0_pay11 (F := Ideal) i v6 v7 v8 v9 (ix2 e j)
      = if h : e.val < 32 then v8 (ix2 ⟨e.val, h⟩ j) * Ideal.logistic (v9 (ix2 ⟨e.val, h⟩ j))
            * (Scalar.sitofp .f32 (Scalar.extui (Scalar.cmpi .slt (BitVec.ofNat 32 (i 0).val) 15#32) : BitVec 32) : Ideal .f32)
        else v6 (ix2 ⟨e.val - 32, by omega⟩ j) * Ideal.logistic (v7 (ix2 ⟨e.val - 32, by omega⟩ j)) := by
  pointwise [k0_pay11, k0_pay9]

/-- The cotangent with thirty-two zero rows behind it, what the transposed convolution reads. -/
abbrev padAt (a z d w : FVec Ideal S256x256 .f32) (cb g b : FVec Ideal S1x256 .f32) : FVec Ideal S288x256 .f32 :=
  k0_pay38 (F := Ideal) g w (k0_pay17 a cb) (k0_pay19 a cb) (k0_pay20 a cb) (k0_pay22 a cb g b) (k0_pay23 a cb g b) (k0_pay24 a cb g b) (k0_pay27 z d)

theorem padded_apply (a z d w : FVec Ideal S256x256 .f32) (cb g b : FVec Ideal S1x256 .f32) (e : Fin 288) (j : Fin 256) :
    padAt a z d w cb g b (ix2 e j) = if h : e.val < 256 then daAt a z d w cb g b (ix2 ⟨e.val, h⟩ j) else 0 := by
  pointwise [k0_pay38]

/-- A tap's gradient after a tile: what it was, plus the tile's rows against the extended rows `q` further up. -/
theorem tap_apply (E : FVec Ideal S288x256 .f32) (D : FVec Ideal S256x256 .f32) (v : FVec Ideal S1x256 .f32) (q : ℕ) (hq : q ≤ 32) (j : Fin 256) :
    k0_pay39 (F := Ideal) E D (BitVec.ofNat 32 q) v (ix2 0 j)
      = v (ix2 0 j) + ∑ x : Fin 256, E (ix2 ⟨32 + x.val - q, by omega⟩ j) * D (ix2 x j) := by
  pointwise [k0_pay39]
  refine congrArg _ (Finset.sum_congr rfl fun x _ => ?_)
  have e : (BitVec.ofNat 32 q).toNat = q := by rw [BitVec.toNat_ofNat]; omega
  congr 3
  apply Fin.ext
  dsimp only
  rw [e]
  omega

/-- The last tap's gradient is written without a rotation. -/
theorem tap_last (E : FVec Ideal S288x256 .f32) (D : FVec Ideal S256x256 .f32) (v : FVec Ideal S1x256 .f32) :
    k0_pay93 (F := Ideal) E D v = k0_pay39 (F := Ideal) E D (BitVec.ofNat 32 0) v := by
  funext i
  idx_vars i
  obtain rfl : i0 = 0 := Fin.ext (by omega)
  rw [tap_apply _ _ _ _ (by omega)]
  pointwise [k0_pay93]

/-- The transposed convolution's first twenty-eight taps over the extended tile, as the body adds them up. -/
abbrev chain (P : FVec Ideal S288x256 .f32) (w : ℕ → FVec Ideal S1x256 .f32) : FVec Ideal S288x256 .f32 :=
  k0_pay88 P (k0_pay85 P (k0_pay81 P (k0_pay77 P (k0_pay72 P (k0_pay66 P (k0_pay63 P (k0_pay59 P (k0_pay55 P
    (k0_pay50 P (k0_pay44 P (k0_pay41 P (w 0) (w 1)) (w 2) (w 3)) (k0_pay46 P) (k0_pay47 (w 4)) (w 5) (w 6))
    (w 7) (w 8)) 11#32 (w 9) (w 10) (w 11)) (w 12) (w 13)) (w 14) (w 15)) (k0_pay68 P) (k0_pay69 (w 16)) (w 17) (w 18))
    (w 19) (w 20)) 23#32 (w 21) (w 22) (w 23)) (w 24) (w 25)) (w 26) (w 27)

/-- The transposed convolution over the extended tile, tap by tap. -/
def spread (P : FVec Ideal S288x256 .f32) (w : ℕ → FVec Ideal S1x256 .f32) : FVec Ideal S288x256 .f32 :=
  k0_pay94 P (chain P w) (k0_pay90 P) (k0_pay91 (w 28)) (w 29) (w 30)

theorem spread_apply (P : FVec Ideal S288x256 .f32) (w : ℕ → FVec Ideal S1x256 .f32) (e : Fin 288) (j : Fin 256) :
    spread P w (ix2 e j) = ∑ k : Fin 31, P (ix2 ⟨(e.val + 288 - (2 + k.val)) % 288, by omega⟩ j) * w k.val (ix2 0 j) := by
  rw [Fin.sum_univ_eq_sum_range (fun k => P (ix2 ⟨(e.val + 288 - (2 + k)) % 288, by omega⟩ j) * w k (ix2 0 j))]
  simp only [Finset.sum_range_succ, Finset.sum_range_zero, zero_add]
  pointwise [spread, k0_pay94, k0_pay88, k0_pay85, k0_pay81, k0_pay77, k0_pay72, k0_pay66, k0_pay63, k0_pay59, k0_pay55, k0_pay50, k0_pay44,
    k0_pay41, k0_pay46, k0_pay47, k0_pay68, k0_pay69, k0_pay90, k0_pay91]

/-- The conv input's cotangent over a tile: the transposed convolution, and the carried rows under its last thirty-two. -/
def gather (P : FVec Ideal S288x256 .f32) (w : ℕ → FVec Ideal S1x256 .f32) (v : FVec Ideal S32x256 .f32) : FVec Ideal S256x256 .f32 :=
  k0_pay95 P (chain P w) (k0_pay90 P) (k0_pay91 (w 28)) (w 29) (w 30) v

theorem gather_apply (P : FVec Ideal S288x256 .f32) (w : ℕ → FVec Ideal S1x256 .f32) (v : FVec Ideal S32x256 .f32) (r j : Fin 256) :
    gather P w v (ix2 r j) = spread P w (ix2 ⟨r.val + 32, by omega⟩ j)
      + if h : 224 ≤ r.val then v (ix2 ⟨r.val - 224, by omega⟩ j) else 0 := by
  unfold gather spread
  generalize chain P w = Q
  pointwise [k0_pay95]
  generalize k0_pay94 (F := Ideal) P _ _ _ _ _ = E
  by_cases h : r.val < 224
  · rw [dif_pos h, dif_neg (by omega)]; blk_point []
  · rw [dif_neg h, dif_pos (by omega)]; blk_point []

end Cert.ConformerIdeal.Tile
-- ==== Proof.ConformerRun.lean ====
module

public import proofs.«01_k».proof.Proof.ConformerIdealValue
public import proofs.«01_k».proof.Proof.ConformerHost
public import proofs.«01_k».proof.Proof.ConformerTile
public import proofs.«01_k».proof.Proof.Tiles
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConformerIdeal.Tile

open Cert.ConformerIdeal Cert.ConformerIdeal.Gen Cert.ConformerSpec
variable (m : (ℓ : Loc nD τ sig) → Buf (Elt Ideal) ℓ)

/-! ## The blocks, read off the arguments -/

/-- Five of the stored values only restate a loaded block. -/
theorem p12 (x : FVec Ideal S256x256 .f32) : k0_pay12 x = x := by funext i; idx_vars i; pointwise [k0_pay12]
theorem p13 (x : FVec Ideal S1x256 .f32) : k0_pay13 x = x := by funext i; idx_vars i; pointwise [k0_pay13]
theorem p14 (x : FVec Ideal S1x256 .f32) : k0_pay14 x = x := by funext i; idx_vars i; pointwise [k0_pay14]
theorem p15 (x : FVec Ideal S1x256 .f32) : k0_pay15 x = x := by funext i; idx_vars i; pointwise [k0_pay15]
theorem p16 (x : FVec Ideal S1x256 .f32) : k0_pay16 x = x := by funext i; idx_vars i; pointwise [k0_pay16]

theorem idx : ∀ t : Fin cfg0.N, win0_0.index t = ![15 - t.val, 0] ∧ win0_1.index t = ![15 - t.val, 2]
    ∧ win0_2.index t = ![(15 - t.val) * 8 - 1, 0] ∧ win0_3.index t = ![15 - t.val, 0] ∧ win0_4.index t = ![15 - t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![15 - t.val, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ (grid0.coords t 0).val = t.val :=
  (by decide +kernel : ∀ t : Fin grid0.N, _)

theorem coord (t : Fin cfg0.N) : (grid0.coords t 0).val = t.val := by
  have h := idx t
  exact h.2.2.2.2.2.2.2.2.2.2.2.2.2.2.2.2.2.2

abbrev b0 (c : Dev nD) (t : Fin cfg0.N) : FVec Ideal S256x512 .f32 := X0_0 m c t
abbrev b1 (c : Dev nD) (t : Fin cfg0.N) : FVec Ideal S256x256 .f32 := X0_1 m c t
abbrev b2 (c : Dev nD) (t : Fin cfg0.N) : FVec Ideal S32x512 .f32 := X0_2 m c t
abbrev b3 (c : Dev nD) (t : Fin cfg0.N) : FVec Ideal S256x256 .f32 := iblk m c 3 t
abbrev b4 (c : Dev nD) (t : Fin cfg0.N) : FVec Ideal S256x256 .f32 := iblk m c 4 t
abbrev b5 (c : Dev nD) (t : Fin cfg0.N) : FVec Ideal S32x256 .f32 := iblk m c 5 t
abbrev b6 (c : Dev nD) (t : Fin cfg0.N) : FVec Ideal S1x256 .f32 := iblk m c 6 t
abbrev b7 (c : Dev nD) (t : Fin cfg0.N) : FVec Ideal S1x256 .f32 := iblk m c 7 t
abbrev b8 (c : Dev nD) (t : Fin cfg0.N) : FVec Ideal S1x256 .f32 := iblk m c 8 t
abbrev b9 (c : Dev nD) (t : Fin cfg0.N) : FVec Ideal S256x256 .f32 := iblk m c 9 t
abbrev b10 (c : Dev nD) (t : Fin cfg0.N) : FVec Ideal S1x256 .f32 := iblk m c 10 t

/-- A row of the array, from a row of the point's tile. -/
abbrev rowOf (t : Fin cfg0.N) (r : Fin 256) : Fin 4096 := ⟨256 * (15 - t.val) + r.val, by omega⟩

theorem b0_apply (c : Dev nD) (t : Fin cfg0.N) (r : Fin 256) (j : Fin 512) :
    b0 m c t (ix2 r j) = (args m c).P (ix2 (rowOf t r) ⟨j.val, by omega⟩) := by
  unfold b0 X0_0 Pipeline.Window.fill
  rw [dif_pos (moved0_0 t _)]
  blk_ext [iblk, V, idx t]

theorem b1_apply (c : Dev nD) (t : Fin cfg0.N) (r j : Fin 256) :
    b1 m c t (ix2 r j) = (args m c).P (ix2 (rowOf t r) ⟨512 + j.val, by omega⟩) := by
  unfold b1 X0_1 Pipeline.Window.fill
  rw [dif_pos (moved0_1 t _)]
  blk_ext [iblk, V, idx t]

/-- The thirty-two rows before the tile; at the array's first tile the window stays on the first block. -/
theorem b2_apply (c : Dev nD) (t : Fin cfg0.N) (r : Fin 32) (j : Fin 512) :
    b2 m c t (ix2 r j) = (args m c).P (ix2 ⟨32 * ((15 - t.val) * 8 - 1) + r.val, by omega⟩ ⟨j.val, by omega⟩) := by
  unfold b2 X0_2 Pipeline.Window.fill
  rw [dif_pos (moved0_2 t _)]
  blk_ext [iblk, V, idx t]

theorem b3_apply (c : Dev nD) (t : Fin cfg0.N) (r j : Fin 256) :
    b3 m c t (ix2 r j) = (args m c).D (ix2 (rowOf t r) ⟨j.val, by omega⟩) := by
  unfold b3
  blk_ext [iblk, V, idx t]

theorem b4_apply (c : Dev nD) (t : Fin cfg0.N) (r j : Fin 256) :
    b4 m c t (ix2 r j) = conv (args m c) j (256 * (15 - t.val) + r.val) := by
  have e : b4 m c t (ix2 r j) = (V m c main_v228 : FVec Ideal S4096x256 .f32) (ix2 (rowOf t r) j) := by
    unfold b4
    blk_ext [iblk, idx t]
  rw [e, V_main_v228]

theorem b5_apply (c : Dev nD) (t : Fin cfg0.N) (k : Fin 32) (j : Fin 256) (hk : k.val < 31) :
    b5 m c t (ix2 k j) = (args m c).C (ix2 ⟨k.val, hk⟩ j) := by
  have e : b5 m c t (ix2 k j) = (V m c main_v229 : FVec Ideal S32x256 .f32) (ix2 k j) := by
    unfold b5
    blk_ext [iblk, idx t]
  rw [e, V_main_v229 _ _ _ _ hk]

theorem b6_apply (c : Dev nD) (t : Fin cfg0.N) (j : Fin 256) : b6 m c t (ix2 0 j) = (args m c).cb (ix1 j) := by
  have e : b6 m c t (ix2 0 j) = (V m c main_v230 : FVec Ideal S1x256 .f32) (ix2 0 j) := by
    unfold b6
    blk_ext [iblk, idx t]
  rw [e, V_main_v230]

theorem b7_apply (c : Dev nD) (t : Fin cfg0.N) (j : Fin 256) : b7 m c t (ix2 0 j) = (args m c).g (ix1 j) := by
  have e : b7 m c t (ix2 0 j) = (V m c main_v231 : FVec Ideal S1x256 .f32) (ix2 0 j) := by
    unfold b7
    blk_ext [iblk, idx t]
  rw [e, V_main_v231]

theorem b8_apply (c : Dev nD) (t : Fin cfg0.N) (j : Fin 256) : b8 m c t (ix2 0 j) = (args m c).b (ix1 j) := by
  have e : b8 m c t (ix2 0 j) = (V m c main_v232 : FVec Ideal S1x256 .f32) (ix2 0 j) := by
    unfold b8
    blk_ext [iblk, idx t]
  rw [e, V_main_v232]

theorem b9_apply (c : Dev nD) (t : Fin cfg0.N) (i j : Fin 256) : b9 m c t (ix2 i j) = (args m c).w (ix2 i j) := by
  unfold b9
  blk_ext [iblk, V, idx t]

theorem b10_apply (c : Dev nD) (t : Fin cfg0.N) (j : Fin 256) : b10 m c t (ix2 0 j) = (args m c).wb (ix1 j) := by
  have e : b10 m c t (ix2 0 j) = (V m c main_v233 : FVec Ideal S1x256 .f32) (ix2 0 j) := by
    unfold b10
    blk_ext [iblk, idx t]
  rw [e, V_main_v233]

/-- The blocks hold the layer, and a tile's row is a row of the arrays. -/
theorem layer_eq (c : Dev nD) (t : Fin cfg0.N) :
    blayer (b9 m c t) (b6 m c t) (b7 m c t) (b8 m c t) (b10 m c t) = layer (args m c) := by
  unfold blayer layer
  simp only [b6_apply, b7_apply, b8_apply, b9_apply, b10_apply]

theorem row_eq (c : Dev nD) (t : Fin cfg0.N) (r : Fin 256) :
    brow (b4 m c t) (b1 m c t) (b3 m c t) r = row (args m c) (rowOf t r) := by
  unfold brow row
  simp only [b1_apply, b3_apply, b4_apply]

/-! ## A tile's extended input, cotangent and transposed convolution, over the arrays -/

/-- The tile's extended convolution input. -/
abbrev ext (c : Dev nD) (t : Fin cfg0.N) : FVec Ideal S288x256 .f32 :=
  k0_pay11 (F := Ideal) (grid0.coords t)
    (View.ld (Val := Elt Ideal) (S := S256x512) (e' := .f32) (b0 m c t) (Rect.unit ![0, 0] ![256, 256] inb_S256x512_S256x256_0_0))
    (View.ld (Val := Elt Ideal) (S := S256x512) (e' := .f32) (b0 m c t) (Rect.unit ![0, 256] ![256, 256] inb_S256x512_S256x256_0_256))
    (View.ld (Val := Elt Ideal) (S := S32x512) (e' := .f32) (b2 m c t) (Rect.unit ![0, 0] ![32, 256] inb_S32x512_S32x256_0_0))
    (View.ld (Val := Elt Ideal) (S := S32x512) (e' := .f32) (b2 m c t) (Rect.unit ![0, 256] ![32, 256] inb_S32x512_S32x256_0_256))

theorem ext_eq (c : Dev nD) (t : Fin cfg0.N) (e : Fin 288) (he : 2 ≤ e.val) (j : Fin 256) :
    ext m c t (ix2 e j) = U (args m c) j (256 * (15 - t.val) + (e.val - 2)) := by
  have hN : t.val < 16 := lt_of_lt_of_eq t.isLt N_0
  unfold ext
  rw [ext_apply, coord, Tiles.keep_eq _ hN]
  by_cases h : e.val < 32
  · rw [dif_pos h]
    by_cases h15 : t.val < 15
    · rw [if_pos h15, mul_one]
      pointwise
      rw [b2_apply, b2_apply]
      unfold U
      rw [dif_pos (by omega)]
      blk_point []
    · rw [if_neg h15, mul_zero]
      unfold U
      rw [dif_neg (by omega)]
  · rw [dif_neg h]
    pointwise
    rw [b0_apply, b0_apply]
    unfold U
    rw [dif_pos (by omega)]
    blk_point []

/-- The cotangent of the tile's convolution output. -/
abbrev daT (c : Dev nD) (t : Fin cfg0.N) : FVec Ideal S256x256 .f32 :=
  daAt (b4 m c t) (b1 m c t) (b3 m c t) (b9 m c t) (b6 m c t) (b7 m c t) (b8 m c t)

theorem da_eq (c : Dev nD) (t : Fin cfg0.N) (r j : Fin 256) :
    daT m c t (ix2 r j) = G (args m c) j (256 * (15 - t.val) + r.val) := by
  unfold daT
  rw [da_apply (wb := b10 m c t), layer_eq, row_eq]
  unfold G
  rw [dif_pos (by omega)]

theorem inb_tap (k : ℕ) : ∀ a, (![k % 31, 0] : Fin 2 → ℕ) a + (![1, 256] : Fin 2 → ℕ) a ≤ S32x256.size a := by
  intro a
  have := Nat.mod_lt k (show 0 < 31 by omega)
  fin_cases a
  · show k % 31 + 1 ≤ 32
    omega
  · show 0 + 256 ≤ 256
    omega

/-- A tap as the body loads it. -/
abbrev tapT (c : Dev nD) (t : Fin cfg0.N) (k : ℕ) : FVec Ideal S1x256 .f32 :=
  View.ld (Val := Elt Ideal) (S := S32x256) (e' := .f32) (b5 m c t) (Rect.unit ![k % 31, 0] ![1, 256] (inb_tap k))

theorem tap_eq (c : Dev nD) (t : Fin cfg0.N) (k : Fin 31) (j : Fin 256) :
    tapT m c t k.val (ix2 0 j) = (args m c).C (ix2 k j) := by
  have e : k.val % 31 = k.val := Nat.mod_eq_of_lt k.isLt
  unfold tapT
  pointwise
  rw [b5_apply _ _ _ _ _ (by dsimp only; omega)]
  blk_point []

/-- One tap's share of the transposed convolution over the extended tile `s`, `q` rows back. -/
abbrev shareAt (A : Args) (j : Fin 256) (s e q : ℕ) : EReal :=
  if q ≤ e ∧ e - q < 256 then G A j (256 * s + (e - q)) else 0

/-- What a tile hands on, and adds up, at an extended row: the taps' shares. -/
abbrev handed (A : Args) (s e : ℕ) (j : Fin 256) : EReal :=
  ∑ k : Fin 31, shareAt A j s e (2 + k.val) * A.C (ix2 k j)

/-- The cotangent with zero rows behind it. -/
abbrev padT (c : Dev nD) (t : Fin cfg0.N) : FVec Ideal S288x256 .f32 :=
  padAt (b4 m c t) (b1 m c t) (b3 m c t) (b9 m c t) (b6 m c t) (b7 m c t) (b8 m c t)

theorem padded_eq (c : Dev nD) (t : Fin cfg0.N) (e : Fin 288) (q : ℕ) (hq : 1 ≤ q ∧ q ≤ 32) (j : Fin 256) (hl) :
    padT m c t (ix2 ⟨(e.val + 288 - q) % 288, hl⟩ j) = shareAt (args m c) j (15 - t.val) e.val q := by
  unfold padT
  rw [padded_apply]
  unfold shareAt
  have := e.isLt
  by_cases h : q ≤ e.val ∧ e.val - q < 256
  · have hh : (e.val + 288 - q) % 288 = e.val - q := by omega
    rw [dif_pos (by dsimp only; omega), if_pos h]
    refine (da_eq m c t _ j).trans ?_
    congr 2
  · rw [dif_neg (by dsimp only; omega), if_neg h]

/-- The transposed convolution over the extended tile. -/
theorem dext_eq (c : Dev nD) (t : Fin cfg0.N) (e : Fin 288) (j : Fin 256) :
    spread (padT m c t) (tapT m c t) (ix2 e j) = handed (args m c) (15 - t.val) e.val j := by
  rw [spread_apply]
  refine Finset.sum_congr rfl fun k _ => ?_
  rw [padded_eq m c t e (2 + k.val) (by omega), tap_eq]

/-- The rows a tile hands to the tile before it. -/
theorem carry_eq (c : Dev nD) (t : Fin cfg0.N) (e : Fin 32) (j : Fin 256) :
    (outsAt0 m c t.val t.isLt).2.2.2.2.2.2.2 (ix2 e j) = handed (args m c) (15 - t.val) e.val j := by
  have key := dext_eq m c t ⟨e.val, by omega⟩ j
  unfold spread at key
  by_cases h : t.val % 16 = 0
  · rw [outsAt0_A m c t h]
    unfold leftA
    frame_out
    simp only [p12, p13, p14, p15, p16]
    pointwise [k0_pay97, k0_pay96]
    exact key
  · rw [outsAt0_B m c t h]
    unfold leftB
    frame_out
    simp only [p12, p13, p14, p15, p16]
    pointwise [k0_pay97, k0_pay96]
    exact key

end Cert.ConformerIdeal.Tile
-- ==== Proof.ConformerOut.lean ====
module

public import proofs.«01_k».proof.Proof.ConformerRun

@[expose] public section

set_option maxRecDepth 16384

noncomputable section

open Idealize.ShloMosaic Idealize.ShloMosaic.TcCoe Idealize.SL.Sem
open Idealize.ShloMosaic.Pipeline (Dat)

namespace Cert.ConformerIdeal.Tile

open Cert.ConformerIdeal Cert.ConformerIdeal.Gen Cert.ConformerSpec
variable (m : (ℓ : Loc nD τ sig) → Buf (Elt Ideal) ℓ)

/-! ## The projection's cotangent -/

/-- Past the last row nothing is handed over. -/
theorem handed_end (A : Args) (s e : ℕ) (hs : 16 ≤ s) (j : Fin 256) : handed A s e j = 0 := by
  refine Finset.sum_eq_zero fun k _ => ?_
  unfold shareAt G
  split
  · rw [dif_neg (by omega), zero_mul]
  · rw [zero_mul]

/-- The carry a point reads is what the tile after it handed over; at the first point there is none. -/
theorem carry_prev (c : Dev nD) (t : Fin cfg0.N) (h : ¬ t.val % 16 = 0) (hp) (e : Fin 32) (j : Fin 256) :
    (outsAt0 m c (t.val - 1) hp).2.2.2.2.2.2.2 (ix2 e j) = handed (args m c) (15 - t.val + 1) e.val j := by
  have hN : t.val < 16 := lt_of_lt_of_eq t.isLt N_0
  have k := carry_eq m c ⟨t.val - 1, hp⟩ e j
  have hs : 15 - (t.val - 1) = 15 - t.val + 1 := by omega
  dsimp only at k
  rw [hs] at k
  exact k

theorem carry_first (c : Dev nD) (t : Fin cfg0.N) (h : t.val % 16 = 0) (e : Fin 32) (j : Fin 256) :
    k0_pay2 (F := Ideal) (ix2 e j) = handed (args m c) (15 - t.val + 1) e.val j := by
  have hN : t.val < 16 := lt_of_lt_of_eq t.isLt N_0
  rw [handed_end _ _ _ (by omega)]
  pointwise [k0_pay2]

/-- A tile's rows of the conv input's cotangent, from its own transposed convolution and what the tile after it handed over. -/
theorem du_eq (c : Dev nD) (t : Fin cfg0.N) (v : FVec Ideal S32x256 .f32)
    (hv : ∀ (e : Fin 32) (j : Fin 256), v (ix2 e j) = handed (args m c) (15 - t.val + 1) e.val j) (r j : Fin 256) :
    gather (padT m c t) (tapT m c t) v (ix2 r j) = dU (args m c) j (256 * (15 - t.val) + r.val) := by
  rw [gather_apply, dext_eq]
  have e : dU (args m c) j (256 * (15 - t.val) + r.val)
      = ∑ k : Fin 31, (shareAt (args m c) j (15 - t.val) (r.val + 32) (2 + k.val) * (args m c).C (ix2 k j)
        + if 224 ≤ r.val then shareAt (args m c) j (15 - t.val + 1) (r.val - 224) (2 + k.val) * (args m c).C (ix2 k j) else 0) := by
    refine Finset.sum_congr rfl fun k _ => ?_
    have hk := k.isLt
    rw [show 256 * (15 - t.val) + r.val + (30 - k.val) = 256 * (15 - t.val) + (r.val + 32 - (2 + k.val)) by omega]
    exact (Tiles.seam (G (args m c) j) ((args m c).C (ix2 k j)) (15 - t.val) r.val (2 + k.val) 32 (by omega) (by omega) r.isLt).symm
  rw [e, Finset.sum_add_distrib]
  refine congrArg _ ?_
  by_cases h : 224 ≤ r.val
  · rw [dif_pos h, hv]
    exact Finset.sum_congr rfl fun k _ => (if_pos h).symm
  · rw [dif_neg h]
    exact (Finset.sum_eq_zero fun k _ => if_neg h).symm

/-- The three parts of the tile a point writes, given the carry it reads. -/
theorem dval_eq (c : Dev nD) (t : Fin cfg0.N) (v : FVec Ideal S32x256 .f32)
    (hv : ∀ (e : Fin 32) (j : Fin 256), v (ix2 e j) = handed (args m c) (15 - t.val + 1) e.val j) (r j : Fin 256) :
    k0_pay98 (F := Ideal) (k0_pay9 (View.ld (Val := Elt Ideal) (S := S256x512) (e' := .f32) (b0 m c t) (Rect.unit ![0, 256] ![256, 256] inb_S256x512_S256x256_0_256)))
        (gather (padT m c t) (tapT m c t) v) (ix2 r j)
      = dU (args m c) j (256 * (15 - t.val) + r.val) * Ideal.logistic ((args m c).P (ix2 (rowOf t r) ⟨256 + j.val, by omega⟩)) := by
  rw [← du_eq m c t v hv r j]
  generalize gather (padT m c t) (tapT m c t) v = Q
  pointwise [k0_pay98, k0_pay9]
  rw [b0_apply]

theorem dgate_eq (c : Dev nD) (t : Fin cfg0.N) (v : FVec Ideal S32x256 .f32)
    (hv : ∀ (e : Fin 32) (j : Fin 256), v (ix2 e j) = handed (args m c) (15 - t.val + 1) e.val j) (r j : Fin 256) :
    k0_pay99 (F := Ideal) (View.ld (Val := Elt Ideal) (S := S256x512) (e' := .f32) (b0 m c t) (Rect.unit ![0, 0] ![256, 256] inb_S256x512_S256x256_0_0))
        (k0_pay10 (View.ld (Val := Elt Ideal) (S := S256x512) (e' := .f32) (b0 m c t) (Rect.unit ![0, 256] ![256, 256] inb_S256x512_S256x256_0_256)))
        (gather (padT m c t) (tapT m c t) v) (ix2 r j)
      = (args m c).P (ix2 (rowOf t r) ⟨j.val, by omega⟩) * dU (args m c) j (256 * (15 - t.val) + r.val)
        * (Ideal.logistic ((args m c).P (ix2 (rowOf t r) ⟨256 + j.val, by omega⟩))
          * (1 - Ideal.logistic ((args m c).P (ix2 (rowOf t r) ⟨256 + j.val, by omega⟩)))) := by
  rw [← du_eq m c t v hv r j]
  generalize gather (padT m c t) (tapT m c t) v = Q
  pointwise [k0_pay99, k0_pay10, k0_pay9]
  rw [b0_apply, b0_apply]

theorem dgo_eq (c : Dev nD) (t : Fin cfg0.N) (r j : Fin 256) :
    k0_pay28 (F := Ideal) (b4 m c t) (b1 m c t) (b6 m c t) (b7 m c t) (b8 m c t) (b9 m c t) (b10 m c t) (b3 m c t) (ix2 r j)
      = dz (layer (args m c)) (row (args m c) (rowOf t r)) j := by
  rw [dz_apply, layer_eq, row_eq]

/-- A point's tile of the projection's cotangent. -/
theorem dp_eq (c : Dev nD) (t : Fin cfg0.N) (r : Fin 256) (j : Fin 768) :
    (outsAt0 m c t.val t.isLt).1 (ix2 r j) = dP (args m c) (ix2 (rowOf t r) j) := by
  by_cases h : t.val % 16 = 0
  · rw [outsAt0_A m c t h]
    unfold leftA
    frame_out
    simp only [p12, p13, p14, p15, p16]
    have cu := dval_eq m c t _ (carry_first m c t h)
    have cv := dgate_eq m c t _ (carry_first m c t h)
    unfold gather at cu cv
    canon_tiles x hx
    · idx_vars x
      obtain rfl : r = _ := Fin.ext hx0
      rw [dP_2 _ _ _ _ hx1]
      exact dgo_eq m c t _ _
    · idx_vars x
      obtain rfl : r = _ := Fin.ext hx0
      rw [dP_1 _ _ _ _ hx1]
      exact cv _ _
    · idx_vars x
      obtain rfl : r = _ := Fin.ext hx0
      rw [dP_0 _ _ _ _ (by omega)]
      exact cu _ _
  · rw [outsAt0_B m c t h]
    unfold leftB
    frame_out
    simp only [read_unread_whole]
    simp only [p12, p13, p14, p15, p16]
    have cu := dval_eq m c t _ (carry_prev m c t h (Nat.lt_of_le_of_lt (Nat.sub_le _ _) t.isLt))
    have cv := dgate_eq m c t _ (carry_prev m c t h (Nat.lt_of_le_of_lt (Nat.sub_le _ _) t.isLt))
    unfold gather at cu cv
    canon_tiles x hx
    · idx_vars x
      obtain rfl : r = _ := Fin.ext hx0
      rw [dP_2 _ _ _ _ hx1]
      exact dgo_eq m c t _ _
    · idx_vars x
      obtain rfl : r = _ := Fin.ext hx0
      rw [dP_1 _ _ _ _ hx1]
      exact cv _ _
    · idx_vars x
      obtain rfl : r = _ := Fin.ext hx0
      rw [dP_0 _ _ _ _ (by omega)]
      exact cu _ _

/-- The projection's cotangent. -/
theorem final11 (c : Dev nD) : ((dats m 0 c).arrAt 11 cfg0.N : FVec Ideal S4096x768 .f32) = dP (args m c) := by
  refine (dats m 0 c).arrAt_eq_of_covers 11 _ (by decide +kernel) fun t hf y => ?_
  blk_simp
  rw [after0_11]
  idx_vars y
  rw [dp_eq]
  blk_ext [idx t]

end Cert.ConformerIdeal.Tile
-- ==== Proof.ConformerAcc.lean ====
module

public import proofs.«01_k».proof.Proof.ConformerRun

@[expose] public section

set_option maxRecDepth 16384

noncomputable section

open Idealize.ShloMosaic Idealize.ShloMosaic.TcCoe Idealize.SL.Sem
open Idealize.ShloMosaic.Pipeline (Dat)

/-! # The gradients the grid adds up: the taps', the three vectors', the pointwise product's two -/

namespace Cert.ConformerIdeal.Tile

open Cert.ConformerIdeal Cert.ConformerIdeal.Gen Cert.ConformerSpec
variable (m : (ℓ : Loc nD τ sig) → Buf (Elt Ideal) ℓ)

/-! ## The taps -/

/-- Rows `0` to `k - 1` of a block, each written over what was there, last first. -/
def rows (w : ℕ → FVec Ideal S1x256 .f32) (L : List (View.Piece (Elt Ideal) S32x256 .f32)) : ℕ → List (View.Piece (Elt Ideal) S32x256 .f32)
  | 0 => L
  | k + 1 => ⟨Rect.unit ![k % 31, 0] ![1, 256] (inb_tap k), w k⟩ :: rows w L k

theorem read_rows {sg : RefSig} {κ : Kind} {sp : Space} (v : View sg κ sp S32x256 .f32) (f : v.ty.Contents (Elt Ideal))
    (w : ℕ → FVec Ideal S1x256 .f32) (L : List (View.Piece (Elt Ideal) S32x256 .f32)) (a : Fin 32) (b : Fin 256) (k : ℕ) (hk : k ≤ 31) :
    v.read (Elt Ideal) (v.writes (Elt Ideal) f (rows w L k)) (ix2 a b)
      = if a.val < k then w a.val (ix2 0 b) else v.read (Elt Ideal) (v.writes (Elt Ideal) f L) (ix2 a b) := by
  induction k with
  | zero => rw [if_neg (Nat.not_lt_zero _)]; rfl
  | succ k ih =>
    have e : k % 31 = k := Nat.mod_eq_of_lt (by omega)
    by_cases h : a.val = k
    · rw [if_pos (by omega)]
      rw [h]
      exact View.read_writes_cons_rows_of_mem v f _ (w k) _ _ (ix2 0 b) rfl (h.trans e.symm) rfl
    · refine (View.read_writes_cons_rows_of_not_mem (o := k % 31) (W := 1) v f _ (w k) _ (ix2 a b) rfl rfl
        (by show a.val < k % 31 ∨ k % 31 + 1 ≤ a.val; omega)).trans ((ih (by omega)).trans ?_)
      by_cases h' : a.val < k
      · rw [if_pos h', if_pos (by omega)]
      · rw [if_neg h', if_neg (by omega)]

/-- A whole block's store. -/
abbrev whole (z : FVec Ideal S32x256 .f32) : View.Piece (Elt Ideal) S32x256 .f32 := ⟨Rect.unit ![0, 0] ![32, 256] inb_S32x256_S32x256_0_0, z⟩

theorem mem_whole (z : FVec Ideal S32x256 .f32) (a : Fin 32) (b : Fin 256) : ix2 a b ∈ (whole z).1.set := by
  refine (Rect.mem_set_unit (s := S32x256) (off := ![0, 0]) (size := ![32, 256]) (inb := inb_S32x256_S32x256_0_0) (i := ix2 a b)).2 fun d => ?_
  have h0 := a.isLt
  have h1 := b.isLt
  fin_cases d
  · exact ⟨Nat.zero_le _, by show a.val < 0 + 32; omega⟩
  · exact ⟨Nat.zero_le _, by show b.val < 0 + 256; omega⟩

theorem mem_rows (w : ℕ → FVec Ideal S1x256 .f32) (z : FVec Ideal S32x256 .f32) (k : ℕ) : whole z ∈ rows w [whole z] k := by
  induction k with
  | zero => exact List.mem_cons_self
  | succ k ih => exact List.mem_cons_of_mem _ ih

/-- The same rows over a filled block, read as what they leave. -/
theorem canon_rows {sg : RefSig} {κ : Kind} {sp : Space} (v : View sg κ sp S32x256 .f32)
    (w : ℕ → FVec Ideal S1x256 .f32) (z : FVec Ideal S32x256 .f32) (a : Fin 32) (b : Fin 256) :
    View.canon (Val := Elt Ideal) (e := .f32) (rows w [whole z] 31) (ix2 a b)
      = if a.val < 31 then w a.val (ix2 0 b) else z (ix2 a b) := by
  have e : v.read (Elt Ideal) (v.writes (Elt Ideal) v.junk [whole z]) (ix2 a b) = z (ix2 a b) := by
    have hc := View.canon_cons_unit_lit (Val := Elt Ideal) (e := .f32) (S := S32x256) (off := ![0, 0]) inb_S32x256_S32x256_0_0 z [] (by decide)
    have h1 := View.read_writes_apply_eq_canon (Val := Elt Ideal) (e := .f32) v v.junk (ix2 a b) [whole z] ⟨whole z, List.mem_cons_self, mem_whole z a b⟩
    exact h1.trans (congrFun hc (ix2 a b))
  rw [← e, ← read_rows v v.junk w _ a b 31 (le_refl _)]
  exact (View.read_writes_apply_eq_canon v v.junk (ix2 a b) _ ⟨whole z, mem_rows w z 31, mem_whole z a b⟩).symm

/-- The row a point stores for tap `k`, over the block `z` it finds. -/
abbrev tapRow (E : FVec Ideal S288x256 .f32) (D : FVec Ideal S256x256 .f32) (z : FVec Ideal S32x256 .f32) (k : ℕ) : FVec Ideal S1x256 .f32 :=
  k0_pay39 (F := Ideal) E D (BitVec.ofNat 32 (30 - k)) (View.ld (Val := Elt Ideal) (S := S32x256) (e' := .f32) z (Rect.unit ![k % 31, 0] ![1, 256] (inb_tap k)))

/-- A point's step of the taps' gradient. -/
abbrev dcStep (c : Dev nD) (n : ℕ) (i : S32x256.Idx) : EReal :=
  if (i 0).val < 31 then ∑ k : Fin 256, U (args m c) ⟨(i 1).val, (i 1).isLt⟩ (256 * (15 - n) + k.val + (i 0).val)
    * G (args m c) ⟨(i 1).val, (i 1).isLt⟩ (256 * (15 - n) + k.val) else 0

theorem tapRow_eq (c : Dev nD) (t : Fin cfg0.N) (z : FVec Ideal S32x256 .f32) (a : Fin 32) (b : Fin 256) :
    (if a.val < 31 then tapRow (ext m c t) (daT m c t) z a.val (ix2 0 b) else z (ix2 a b)) = z (ix2 a b) + dcStep m c t.val (ix2 a b) := by
  unfold dcStep
  by_cases h : a.val < 31
  · rw [if_pos h, if_pos (by exact h)]
    unfold tapRow
    rw [tap_apply _ _ _ _ (by omega)]
    refine congrArg₂ (· + ·) ?_ (Finset.sum_congr rfl fun x _ => ?_)
    · have e : a.val % 31 = a.val := Nat.mod_eq_of_lt h
      pointwise
      blk_point []
    · rw [ext_eq m c t _ (by dsimp only; omega), da_eq]
      congr 2
      show 256 * (15 - t.val) + (32 + x.val - (30 - a.val) - 2) = 256 * (15 - t.val) + x.val + a.val
      omega
  · rw [if_neg h, if_neg (by exact h), add_zero]

theorem dc_A (c : Dev nD) (t : Fin cfg0.N) (h : t.val % 16 = 0) (i : S32x256.Idx) :
    (outsAt0 m c t.val t.isLt).2.1 i = 0 + dcStep m c t.val i := by
  rw [outsAt0_A m c t h]
  unfold leftA
  frame_open
  simp (disch := decide) only [↓ View.readCov_skip, ↓ View.readCov_cons_toLoadRect, ↓ View.readCov_fill]
  frame_out
  simp only [p12, p13, p14, p15, p16]
  rw [tap_last]
  idx_vars i
  have key := tapRow_eq m c t (k0_pay3 (F := Ideal)) i0 i1
  revert key
  unfold ext daT daAt
  generalize k0_pay11 (F := Ideal) _ _ _ _ _ = E
  generalize k0_pay36 (F := Ideal) _ _ _ _ _ _ _ _ _ = D
  intro key
  have hz : k0_pay3 (F := Ideal) (ix2 i0 i1) = 0 := by pointwise [k0_pay3]
  rw [hz] at key
  exact (canon_rows (ms0_12 t).view (tapRow E D (k0_pay3 (F := Ideal))) (k0_pay3 (F := Ideal)) i0 i1).trans ((if_congr Iff.rfl rfl hz).trans key)

theorem dc_B (c : Dev nD) (t : Fin cfg0.N) (h : ¬ t.val % 16 = 0) (hp) (i : S32x256.Idx) :
    (outsAt0 m c t.val t.isLt).2.1 i = (outsAt0 m c (t.val - 1) hp).2.1 i + dcStep m c t.val i := by
  rw [outsAt0_B m c t h]
  unfold leftB
  frame_out
  simp only [p12, p13, p14, p15, p16]
  rw [tap_last]
  idx_vars i
  have hr : View.read (Elt Ideal) (ms0_12 t).view ((ms0_12 t).view.writes (Elt Ideal) ((hs0_12 t).unread (outsAt0 m c (t.val - 1) hp).2.1) []) = (outsAt0 m c (t.val - 1) hp).2.1 :=
    (hs0_12 t).read_unread _
  revert hr
  generalize (outsAt0 m c (t.val - 1) hp).2.1 = O
  intro hr
  have key := tapRow_eq m c t O i0 i1
  revert key
  unfold ext daT daAt
  generalize k0_pay11 (F := Ideal) _ _ _ _ _ = E
  generalize k0_pay36 (F := Ideal) _ _ _ _ _ _ _ _ _ = D
  intro key
  refine (read_rows (ms0_12 t).view _ (tapRow E D O) [] i0 i1 31 (le_refl _)).trans ((if_congr Iff.rfl rfl ?_).trans key)
  exact congrFun hr _

/-- The sixteen shares, last tile first, are the whole sum. -/
theorem dc_sum (c : Dev nD) (a : Fin 32) (b : Fin 256) :
    ∑ p : Fin 16, dcStep m c p.val (ix2 a b) = dC (args m c) (ix2 a b) := by
  unfold dC dcStep
  by_cases h : a.val < 31
  · refine (Finset.sum_congr rfl fun p _ => if_pos h).trans (Eq.trans ?_ (if_pos h).symm)
    exact Tiles.sum_rows_rev fun n => U (args m c) b (n + a.val) * G (args m c) b n
  · refine (Finset.sum_congr rfl fun p _ => if_neg h).trans (Eq.trans ?_ (if_neg h).symm)
    exact Finset.sum_const_zero

/-- The taps' gradient. -/
theorem final12 (c : Dev nD) : ((dats m 0 c).arrAt 12 cfg0.N : FVec Ideal S32x256 .f32) = dC (args m c) := by
  refine (dats m 0 c).arrAt_eq_of_after_last 12 t0_15 (by decide +kernel) _ fun j => ?_
  blk_simp
  rw [after0_12, Pipeline.eq_sum_fin_of_reset_step_apply_last (fun n h => (outsAt0 m c n h).2.1) 16 (fun _ => 0) (fun t i => dcStep m c t i)
    (fun t h j => dc_A m c t h j) (fun t h j => dc_B m c t h _ j) (le_of_eq N_0) t0_15 rfl j, zero_add]
  idx_vars j
  exact dc_sum m c j0 j1

/-! ## Sums over the rows -/

/-- A tile's share of a sum over the rows, from what one row contributes. -/
def tileSum (A : Args) (f : Layer → Row → EReal) (n : ℕ) : EReal :=
  ∑ r : Fin 256, f (layer A) (row A ⟨256 * (15 - n) + r.val, by omega⟩)

theorem tileSum_sum (A : Args) (f : Layer → Row → EReal) :
    ∑ p : Fin 16, tileSum A f p.val = ∑ n : Fin 4096, f (layer A) (row A n) := by
  have e := Tiles.sum_rows_rev fun n => if h : n < 4096 then f (layer A) (row A ⟨n, h⟩) else 0
  refine Eq.trans ?_ (e.trans ?_)
  · refine Finset.sum_congr rfl fun p _ => Finset.sum_congr rfl fun r _ => ?_
    have hl : 256 * (15 - p.val) + r.val < 4096 := by omega
    rw [dif_pos hl]
  · exact Finset.sum_congr rfl fun n _ => dif_pos n.isLt

/-- The steps of the five sums: the convolution's bias, the norm's gain and bias, the pointwise product's bias, its weight. -/
abbrev vecStep (f : Layer → Row → Fin 256 → EReal) (c : Dev nD) (n : ℕ) (i : S1x256.Idx) : EReal :=
  tileSum (args m c) (fun l r => f l r ⟨(i 1).val, (i 1).isLt⟩) n

abbrev matStep (c : Dev nD) (n : ℕ) (i : S256x256.Idx) : EReal :=
  tileSum (args m c) (fun l r => act l r ⟨(i 0).val, (i 0).isLt⟩ * dmm r ⟨(i 1).val, (i 1).isLt⟩) n

theorem vec_sum (f : Layer → Row → Fin 256 → EReal) (c : Dev nD) (i : S1x256.Idx) :
    ∑ p : Fin 16, vecStep m f c p.val i = overRows (args m c) f i :=
  tileSum_sum (args m c) fun l r => f l r ⟨(i 1).val, (i 1).isLt⟩

theorem mat_sum (c : Dev nD) (i : S256x256.Idx) : ∑ p : Fin 16, matStep m c p.val i = dW (args m c) i :=
  tileSum_sum (args m c) fun l r => act l r ⟨(i 0).val, (i 0).isLt⟩ * dmm r ⟨(i 1).val, (i 1).isLt⟩

/-- What a tile adds to each of the five. -/
theorem dcb_eq (c : Dev nD) (t : Fin cfg0.N) (v : FVec Ideal S1x256 .f32) (i : S1x256.Idx) :
    k0_pay100 (F := Ideal) (k0_pay37 (b7 m c t) (b9 m c t) (k0_pay17 (b4 m c t) (b6 m c t)) (k0_pay19 (b4 m c t) (b6 m c t)) (k0_pay20 (b4 m c t) (b6 m c t))
        (k0_pay22 (b4 m c t) (b6 m c t) (b7 m c t) (b8 m c t)) (k0_pay23 (b4 m c t) (b6 m c t) (b7 m c t) (b8 m c t))
        (k0_pay24 (b4 m c t) (b6 m c t) (b7 m c t) (b8 m c t)) (k0_pay27 (b1 m c t) (b3 m c t))) v i
      = v i + vecStep m da c t.val i := by
  idx_vars i
  obtain rfl : i0 = 0 := Fin.ext (by omega)
  have h := dcb_apply (b4 m c t) (b1 m c t) (b3 m c t) (b9 m c t) (b6 m c t) (b7 m c t) (b8 m c t) (b10 m c t) i1
  simp only [layer_eq, row_eq] at h
  revert h
  generalize k0_pay37 (F := Ideal) _ _ _ _ _ _ _ _ _ = S
  intro h
  pointwise [k0_pay100]
  rw [h]
  rfl

theorem dg_eq (c : Dev nD) (t : Fin cfg0.N) (v : FVec Ideal S1x256 .f32) (i : S1x256.Idx) :
    k0_pay101 (F := Ideal) (k0_pay35 (b9 m c t) (k0_pay21 (b4 m c t) (b6 m c t)) (k0_pay22 (b4 m c t) (b6 m c t) (b7 m c t) (b8 m c t))
        (k0_pay23 (b4 m c t) (b6 m c t) (b7 m c t) (b8 m c t)) (k0_pay24 (b4 m c t) (b6 m c t) (b7 m c t) (b8 m c t)) (k0_pay27 (b1 m c t) (b3 m c t))) v i
      = v i + vecStep m (fun l r j => nx l r j * dln l r j) c t.val i := by
  idx_vars i
  obtain rfl : i0 = 0 := Fin.ext (by omega)
  have h := dg_apply (b4 m c t) (b1 m c t) (b3 m c t) (b9 m c t) (b6 m c t) (b7 m c t) (b8 m c t) (b10 m c t) i1
  simp only [layer_eq, row_eq] at h
  revert h
  generalize k0_pay35 (F := Ideal) _ _ _ _ _ _ = S
  intro h
  pointwise [k0_pay101]
  rw [h]
  rfl

theorem db_eq (c : Dev nD) (t : Fin cfg0.N) (v : FVec Ideal S1x256 .f32) (i : S1x256.Idx) :
    k0_pay102 (F := Ideal) (k0_pay34 (b9 m c t) (k0_pay22 (b4 m c t) (b6 m c t) (b7 m c t) (b8 m c t))
        (k0_pay23 (b4 m c t) (b6 m c t) (b7 m c t) (b8 m c t)) (k0_pay24 (b4 m c t) (b6 m c t) (b7 m c t) (b8 m c t)) (k0_pay27 (b1 m c t) (b3 m c t))) v i
      = v i + vecStep m dln c t.val i := by
  idx_vars i
  obtain rfl : i0 = 0 := Fin.ext (by omega)
  have h := db_apply (b4 m c t) (b1 m c t) (b3 m c t) (b9 m c t) (b6 m c t) (b7 m c t) (b8 m c t) (b10 m c t) i1
  simp only [layer_eq, row_eq] at h
  revert h
  generalize k0_pay34 (F := Ideal) _ _ _ _ _ = S
  intro h
  pointwise [k0_pay102]
  rw [h]
  rfl

theorem dw_eq (c : Dev nD) (t : Fin cfg0.N) (v : FVec Ideal S256x256 .f32) (i : S256x256.Idx) :
    k0_pay103 (F := Ideal) (k0_pay32 (k0_pay25 (b4 m c t) (b6 m c t) (b7 m c t) (b8 m c t)) (k0_pay27 (b1 m c t) (b3 m c t))) v i
      = v i + matStep m c t.val i := by
  idx_vars i
  have h := dw_apply (b4 m c t) (b1 m c t) (b3 m c t) (b9 m c t) (b6 m c t) (b7 m c t) (b8 m c t) (b10 m c t) i0 i1
  simp only [layer_eq, row_eq] at h
  revert h
  generalize k0_pay32 (F := Ideal) _ _ = S
  intro h
  pointwise [k0_pay103]
  rw [h]
  rfl

theorem dwb_eq (c : Dev nD) (t : Fin cfg0.N) (v : FVec Ideal S1x256 .f32) (i : S1x256.Idx) :
    k0_pay1 (F := Ideal) (k0_pay30 (k0_pay29 (b1 m c t) (b3 m c t))) v i = v i + vecStep m (fun _ r j => dmm r j) c t.val i := by
  idx_vars i
  obtain rfl : i0 = 0 := Fin.ext (by omega)
  have h := dwb_apply (b4 m c t) (b1 m c t) (b3 m c t) i1
  simp only [row_eq] at h
  revert h
  generalize k0_pay30 (F := Ideal) _ = S
  intro h
  pointwise [k0_pay1]
  rw [h]
  rfl

/-- A point that starts the grid leaves its own shares; any other adds them to what the point before left. -/
theorem first (c : Dev nD) (t : Fin cfg0.N) (h : t.val % 16 = 0) :
    (∀ i, (outsAt0 m c t.val t.isLt).2.2.1 i = 0 + vecStep m da c t.val i)
    ∧ (∀ i, (outsAt0 m c t.val t.isLt).2.2.2.1 i = 0 + vecStep m (fun l r j => nx l r j * dln l r j) c t.val i)
    ∧ (∀ i, (outsAt0 m c t.val t.isLt).2.2.2.2.1 i = 0 + vecStep m dln c t.val i)
    ∧ (∀ i, (outsAt0 m c t.val t.isLt).2.2.2.2.2.1 i = 0 + matStep m c t.val i)
    ∧ (∀ i, (outsAt0 m c t.val t.isLt).2.2.2.2.2.2.1 i = 0 + vecStep m (fun _ r j => dmm r j) c t.val i) := by
  have z4 : ∀ i, k0_pay4 (F := Ideal) i = 0 := fun i => by idx_vars i; pointwise [k0_pay4]
  have z5 : ∀ i, k0_pay5 (F := Ideal) i = 0 := fun i => by idx_vars i; pointwise [k0_pay5]
  have z6 : ∀ i, k0_pay6 (F := Ideal) i = 0 := fun i => by idx_vars i; pointwise [k0_pay6]
  have z7 : ∀ i, k0_pay7 (F := Ideal) i = 0 := fun i => by idx_vars i; pointwise [k0_pay7]
  have z8 : ∀ i, k0_pay8 (F := Ideal) i = 0 := fun i => by idx_vars i; pointwise [k0_pay8]
  rw [outsAt0_A m c t h]
  unfold leftA
  refine ⟨fun i => ?_, fun i => ?_, fun i => ?_, fun i => ?_, fun i => ?_⟩
  all_goals
    frame_open
    simp (disch := decide) only [↓ View.readCov_skip, ↓ View.readCov_cons_toLoadRect, ↓ View.readCov_fill]
    frame_out
    try simp only [p12, p13, p14, p15, p16]
  · exact (dcb_eq m c t _ i).trans (by rw [z4])
  · exact (dg_eq m c t _ i).trans (by rw [z5])
  · exact (db_eq m c t _ i).trans (by rw [z6])
  · exact (dw_eq m c t _ i).trans (by rw [z7])
  · exact (dwb_eq m c t _ i).trans (by rw [z8])

theorem next (c : Dev nD) (t : Fin cfg0.N) (h : ¬ t.val % 16 = 0) (hp) :
    (∀ i, (outsAt0 m c t.val t.isLt).2.2.1 i = (outsAt0 m c (t.val - 1) hp).2.2.1 i + vecStep m da c t.val i)
    ∧ (∀ i, (outsAt0 m c t.val t.isLt).2.2.2.1 i = (outsAt0 m c (t.val - 1) hp).2.2.2.1 i + vecStep m (fun l r j => nx l r j * dln l r j) c t.val i)
    ∧ (∀ i, (outsAt0 m c t.val t.isLt).2.2.2.2.1 i = (outsAt0 m c (t.val - 1) hp).2.2.2.2.1 i + vecStep m dln c t.val i)
    ∧ (∀ i, (outsAt0 m c t.val t.isLt).2.2.2.2.2.1 i = (outsAt0 m c (t.val - 1) hp).2.2.2.2.2.1 i + matStep m c t.val i)
    ∧ (∀ i, (outsAt0 m c t.val t.isLt).2.2.2.2.2.2.1 i = (outsAt0 m c (t.val - 1) hp).2.2.2.2.2.2.1 i + vecStep m (fun _ r j => dmm r j) c t.val i) := by
  rw [outsAt0_B m c t h]
  unfold leftB
  refine ⟨fun i => ?_, fun i => ?_, fun i => ?_, fun i => ?_, fun i => ?_⟩
  all_goals
    frame_out
    try simp only [p12, p13, p14, p15, p16]
  · exact dcb_eq m c t _ i
  · exact dg_eq m c t _ i
  · exact db_eq m c t _ i
  · exact dw_eq m c t _ i
  · exact dwb_eq m c t _ i

/-- The five sums after the grid. -/
theorem final13 (c : Dev nD) : ((dats m 0 c).arrAt 13 cfg0.N : FVec Ideal S1x256 .f32) = overRows (args m c) da := by
  refine (dats m 0 c).arrAt_eq_of_after_last 13 t0_15 (by decide +kernel) _ fun j => ?_
  blk_simp
  rw [after0_13, Pipeline.eq_sum_fin_of_reset_step_apply_last (fun n h => (outsAt0 m c n h).2.2.1) 16 (fun _ => 0) (fun t i => vecStep m da c t i)
    (fun t h j => (first m c t h).1 j) (fun t h j => (next m c t h _).1 j) (le_of_eq N_0) t0_15 rfl j, zero_add]
  exact vec_sum m _ c j

theorem final14 (c : Dev nD) : ((dats m 0 c).arrAt 14 cfg0.N : FVec Ideal S1x256 .f32) = overRows (args m c) fun l r j => nx l r j * dln l r j := by
  refine (dats m 0 c).arrAt_eq_of_after_last 14 t0_15 (by decide +kernel) _ fun j => ?_
  blk_simp
  rw [after0_14, Pipeline.eq_sum_fin_of_reset_step_apply_last (fun n h => (outsAt0 m c n h).2.2.2.1) 16 (fun _ => 0)
    (fun t i => vecStep m (fun l r j => nx l r j * dln l r j) c t i)
    (fun t h j => (first m c t h).2.1 j) (fun t h j => (next m c t h _).2.1 j) (le_of_eq N_0) t0_15 rfl j, zero_add]
  exact vec_sum m _ c j

theorem final15 (c : Dev nD) : ((dats m 0 c).arrAt 15 cfg0.N : FVec Ideal S1x256 .f32) = overRows (args m c) dln := by
  refine (dats m 0 c).arrAt_eq_of_after_last 15 t0_15 (by decide +kernel) _ fun j => ?_
  blk_simp
  rw [after0_15, Pipeline.eq_sum_fin_of_reset_step_apply_last (fun n h => (outsAt0 m c n h).2.2.2.2.1) 16 (fun _ => 0) (fun t i => vecStep m dln c t i)
    (fun t h j => (first m c t h).2.2.1 j) (fun t h j => (next m c t h _).2.2.1 j) (le_of_eq N_0) t0_15 rfl j, zero_add]
  exact vec_sum m _ c j

theorem final16 (c : Dev nD) : ((dats m 0 c).arrAt 16 cfg0.N : FVec Ideal S256x256 .f32) = dW (args m c) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.1) 16 (fun _ => 0) (fun t i => matStep m c t i)
    (fun t h j => (first m c t h).2.2.2.1 j) (fun t h j => (next m c t h _).2.2.2.1 j) (le_of_eq N_0) t0_15 rfl j, zero_add]
  exact mat_sum m c j

theorem final17 (c : Dev nD) : ((dats m 0 c).arrAt 17 cfg0.N : FVec Ideal S1x256 .f32) = overRows (args m c) fun _ r j => dmm r j := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.1) 16 (fun _ => 0)
    (fun t i => vecStep m (fun _ r j => dmm r j) c t i)
    (fun t h j => (first m c t h).2.2.2.2 j) (fun t h j => (next m c t h _).2.2.2.2 j) (le_of_eq N_0) t0_15 rfl j, zero_add]
  exact vec_sum m _ c j

end Cert.ConformerIdeal.Tile
-- ==== Proof.ConformerRef.lean ====
module

public import proofs.«01_k».proof.Proof.ConformerSpec
public import proofs.«01_k».proof.Proof.Gen.ConformerRefIdeal.Read
public import Idealize.ShloMosaic.Lib.Pipeline.ValueKit

@[expose] public section

set_option maxRecDepth 16384

noncomputable section

open Idealize.ShloMosaic Idealize.ShloMosaic.TcCoe Idealize.SL.Sem

/-! # The reference's gradient is the same formulas

The reference differentiates the plain lines with `jax.vjp`. Its shifted rows are products with 0/1 matrices, so a sum over
all rows keeps the one row the tap asks for. -/

namespace Cert.ConformerRefIdeal.Spec

open Cert.ConformerRefIdeal Cert.ConformerRefIdeal.Gen Cert.ConformerRefIdeal.Read Cert.ConformerSpec

variable (A : Args)

theorem v9_apply (n : Fin 4096) (j : Fin 256) :
    val_main_v9 (F := Ideal) A.P (ix2 n j) = Ideal.logistic (A.P (ix2 n ⟨256 + j.val, by omega⟩)) := by
  pointwise [val_main_v9, val_main_v8, val_main_v7, val_main_v6, val_main_v5, val_main_v4, val_main_v2, val_main_v0, val_main_cst, val_main_cst_0]
  rfl

theorem v13_apply (n : Fin 4096) (j : Fin 256) :
    val_main_v13 (F := Ideal) A.P (ix2 n j) = A.P (ix2 n ⟨j.val, by omega⟩) * Ideal.logistic (A.P (ix2 n ⟨256 + j.val, by omega⟩)) := by
  have h := v9_apply A n j
  pointwise [val_main_v13, val_main_v1, val_main_v0]
  rw [h]

/-- The 0/1 matrices: tap `k` moves row `n - 30 + k` to row `n`. -/
theorem v21_apply (k : Fin 31) (n s : Fin 4096) :
    val_main_v21 (F := Ideal) (ix3 k n s) = if s.val + 30 = n.val + k.val then 1 else 0 := by
  pointwise [val_main_v21, val_main_v20, val_main_v19, val_main_v18, val_main_v17, val_main_v16, val_main_v15, val_main_v14, val_main_c,
    val_main_call0_v0, val_main_call0_v1, val_main_cst_2, val_main_cst_3]
  have hs := s.isLt
  have hn := n.isLt
  have hk := k.isLt
  have e : (BitVec.ofNat 32 s.val + 30#32 = BitVec.ofNat 32 n.val + BitVec.ofNat 32 k.val) ↔ s.val + 30 = n.val + k.val := by
    rw [← BitVec.toNat_inj]
    simp only [BitVec.toNat_add, BitVec.toNat_ofNat]
    omega
  have hc : IntOp.cmpi .eq (IntOp.addi (BitVec.ofNat 32 s.val) 30#32) (IntOp.addi (BitVec.ofNat 32 n.val) (BitVec.ofNat 32 k.val))
      = BitVec.ofBool (decide (s.val + 30 = n.val + k.val)) := congrArg BitVec.ofBool (decide_eq_decide.2 e)
  rw [hc]
  by_cases h : s.val + 30 = n.val + k.val
  · rw [if_pos h, decide_eq_true h]
    rfl
  · rw [if_neg h, decide_eq_false h]
    rfl

/-- A sum over all rows of what is zero but at one row. -/
theorem pick {N : ℕ} (f : Fin N → EReal) (p : Fin N → Prop) [DecidablePred p] (q : Fin N) (hp : ∀ s, p s ↔ s = q) :
    ∑ s, (if p s then f s else 0) = f q := by
  rw [Finset.sum_eq_single q (fun s _ hs => if_neg fun h => hs ((hp s).1 h)) (fun h => absurd (Finset.mem_univ q) h)]
  exact if_pos ((hp q).2 rfl)

theorem v22_apply (k : Fin 31) (n : Fin 4096) (j : Fin 256) :
    val_main_v22 (F := Ideal) A.P (ix3 k n j) = U A j (n.val + k.val) := by
  have h := v21_apply k n
  have h' := v13_apply A
  pointwise [val_main_v22]
  simp only [h, h', ite_mul, one_mul, zero_mul]
  unfold U
  by_cases hq : 30 ≤ n.val + k.val
  · rw [dif_pos ⟨hq, by omega⟩]
    exact pick _ _ ⟨n.val + k.val - 30, by omega⟩ fun s => ⟨fun e => Fin.ext (Nat.eq_sub_of_add_eq e), fun e => by rw [e]; show _ - 30 + 30 = _; omega⟩
  · rw [dif_neg (by omega)]
    exact Finset.sum_eq_zero fun s _ => if_neg (by omega)

theorem v26_apply (n : Fin 4096) (j : Fin 256) : val_main_v26 (F := Ideal) A.P A.C (ix2 n j) = conv A j n.val := by
  have h := v22_apply A
  pointwise [val_main_v26, val_main_v25, val_main_v24, val_main_v23, val_main_cst_4]
  simp only [h]
  rfl

/-! ## One row behind the convolution -/

abbrev L : Layer := layer A
abbrev R (n : Fin 4096) : Row := row A n

theorem xc_apply (n : Fin 4096) (j : Fin 256) : val_main_v35 (F := Ideal) A.P A.C A.cb (ix2 n j) = xc (L A) (R A n) j := by
  have h := v26_apply A n
  pointwise [val_main_v35, val_main_v34, val_main_v33, val_main_v32, val_main_v31, val_main_v30, val_main_v29, val_main_v28, val_main_v27, val_main_cst_5, val_main_cst_6]
  simp only [h]
  rfl

theorem var_apply (n : Fin 4096) (o : Fin 1) : val_main_v42 (F := Ideal) A.P A.C A.cb (ix2 n o) = var (L A) (R A n) := by
  have h := xc_apply A n
  pointwise [val_main_v42, val_main_v41, val_main_v40, val_main_v39, val_main_v38, val_main_v37, val_main_v36, val_main_cst_7, val_main_cst_8, val_main_cst_9]
  simp only [h]
  rfl

theorem rs_apply (n : Fin 4096) (o : Fin 1) : val_main_v43 (F := Ideal) A.P A.C A.cb (ix2 n o) = rs (L A) (R A n) := by
  have h := var_apply A n
  pointwise [val_main_v43]
  simp only [h]
  rfl

theorem slope_apply (n : Fin 4096) (o : Fin 1) : val_main_v46 (F := Ideal) A.P A.C A.cb (ix2 n o) = slope (L A) (R A n) := by
  have h := var_apply A n
  have h' := rs_apply A n
  pointwise [val_main_v46, val_main_v45, val_main_v44, val_main_cst_10]
  simp only [h, h']
  rfl

theorem nx_apply (n : Fin 4096) (j : Fin 256) : val_main_v48 (F := Ideal) A.P A.C A.cb (ix2 n j) = nx (L A) (R A n) j := by
  have h := xc_apply A n
  have h' := rs_apply A n
  pointwise [val_main_v48, val_main_v47]
  simp only [h, h']
  rfl

theorem ln_apply (n : Fin 4096) (j : Fin 256) : val_main_v54 (F := Ideal) A.P A.C A.cb A.g A.b (ix2 n j) = ln (L A) (R A n) j := by
  have h := nx_apply A n
  pointwise [val_main_v54, val_main_v53, val_main_v52, val_main_v51, val_main_v50, val_main_v49]
  simp only [h]
  rfl

theorem sig_apply (n : Fin 4096) (j : Fin 256) :
    val_main_v55_2 (F := Ideal) A.P A.C A.cb A.g A.b (ix2 n j) = Ideal.logistic (ln (L A) (R A n) j) := by
  have h := ln_apply A n
  pointwise [val_main_v55_2, val_main_call1_v4, val_main_call1_v3, val_main_call1_v2, val_main_call1_v1, val_main_call1_v0, val_main_call1_cst, val_main_call1_cst_0]
  simp only [h]
  rfl

theorem sig'_apply (n : Fin 4096) (j : Fin 256) :
    val_main_v55_1 (F := Ideal) A.P A.C A.cb A.g A.b (ix2 n j) = Ideal.logistic (ln (L A) (R A n) j) * (1 - Ideal.logistic (ln (L A) (R A n) j)) := by
  have h := sig_apply A n
  pointwise [val_main_v55_1, val_main_call1_v7, val_main_call1_v6, val_main_call1_cst_1]
  simp only [h]

theorem act_apply (n : Fin 4096) (j : Fin 256) : val_main_v55_0 (F := Ideal) A.P A.C A.cb A.g A.b (ix2 n j) = act (L A) (R A n) j := by
  have h := sig_apply A n
  have h' := ln_apply A n
  pointwise [val_main_v55_0]
  simp only [h, h']
  rfl

theorem mm_apply (n : Fin 4096) (j : Fin 256) : val_main_v59 (F := Ideal) A.P A.C A.cb A.g A.b A.w A.wb (ix2 n j) = mm (L A) (R A n) j := by
  have h := act_apply A n
  pointwise [val_main_v59, val_main_v58, val_main_v57, val_main_v56]
  simp only [h]
  rfl

theorem v3_apply (n : Fin 4096) (j : Fin 256) : val_main_v3 (F := Ideal) A.P (ix2 n j) = (R A n).z j := by
  pointwise [val_main_v3, val_main_v0]

theorem v62_apply (n : Fin 4096) (j : Fin 256) : val_main_v62 (F := Ideal) A.D (ix2 n j) = (R A n).d j := by
  pointwise [val_main_v62]

theorem sigz_apply (n : Fin 4096) (j : Fin 256) : val_main_v60_2 (F := Ideal) A.P (ix2 n j) = Ideal.logistic ((R A n).z j) := by
  have h := v3_apply A n
  pointwise [val_main_v60_2, val_main_call2_v4, val_main_call2_v3, val_main_call2_v2, val_main_call2_v1, val_main_call2_v0, val_main_call2_cst, val_main_call2_cst_0]
  simp only [h]
  rfl

theorem dmm_apply (n : Fin 4096) (j : Fin 256) : val_main_v64 (F := Ideal) A.P A.D (ix2 n j) = dmm (R A n) j := by
  have h := v3_apply A n
  have h1 := v62_apply A n
  have h2 := sigz_apply A n
  pointwise [val_main_v64, val_main_v60_0]
  simp only [h, h1, h2]
  rfl

theorem dz_apply (n : Fin 4096) (j : Fin 256) : val_main_v65 (F := Ideal) A.P A.D A.C A.cb A.g A.b A.w A.wb (ix2 n j) = dz (L A) (R A n) j := by
  have h := v3_apply A n
  have h1 := v62_apply A n
  have h2 := sigz_apply A n
  have h3 := mm_apply A n
  pointwise [val_main_v65, val_main_call3_v2, val_main_call3_v1, val_main_call3_v0, val_main_v63, val_main_v60_1, val_main_call2_v7, val_main_call2_v6, val_main_call2_cst_1]
  simp only [h, h1, h2, h3]
  rfl

theorem dln_apply (n : Fin 4096) (j : Fin 256) : val_main_v72 (F := Ideal) A.P A.D A.C A.cb A.g A.b A.w (ix2 n j) = dln (L A) (R A n) j := by
  have h := ln_apply A n
  have h1 := sig_apply A n
  have h2 := sig'_apply A n
  have h3 := dmm_apply A n
  pointwise [val_main_v72, val_main_call4_v2, val_main_call4_v1, val_main_call4_v0, val_main_v71]
  simp only [h, h1, h2, h3]
  rfl

theorem dxn_apply (n : Fin 4096) (j : Fin 256) : val_main_v80 (F := Ideal) A.P A.D A.C A.cb A.g A.b A.w (ix2 n j) = dxn (L A) (R A n) j := by
  have h := dln_apply A n
  pointwise [val_main_v80, val_main_v79, val_main_v49]
  simp only [h]
  rfl

theorem dvar_apply (n : Fin 4096) (j : Fin 256) : val_main_v91 (F := Ideal) A.P A.D A.C A.cb A.g A.b A.w (ix2 n j) = dvar (L A) (R A n) := by
  have h := xc_apply A n
  have h1 := dxn_apply A n
  have h2 := slope_apply A n
  pointwise [val_main_v91, val_main_v90, val_main_v89, val_main_v88, val_main_v87, val_main_v84, val_main_v83, val_main_v82, val_main_cst_17, val_main_cst_18, val_main_cst_19]
  simp only [h, h1, h2, Fin.sum_univ_one]
  rfl

theorem dxc_apply (n : Fin 4096) (j : Fin 256) : val_main_v95 (F := Ideal) A.P A.D A.C A.cb A.g A.b A.w (ix2 n j) = dxc (L A) (R A n) j := by
  have h := xc_apply A n
  have h1 := dxn_apply A n
  have h2 := dvar_apply A n
  have h3 := rs_apply A n
  pointwise [val_main_v95, val_main_v94, val_main_v93, val_main_v92, val_main_v86, val_main_v85]
  simp only [h, h1, h2, h3]
  rfl

theorem da_apply (n : Fin 4096) (j : Fin 256) : val_main_v103 (F := Ideal) A.P A.D A.C A.cb A.g A.b A.w (ix2 n j) = da (L A) (R A n) j := by
  have h := dxc_apply A n
  pointwise [val_main_v103, val_main_v102, val_main_v101, val_main_v100, val_main_v99, val_main_v98, val_main_v97, val_main_v96, val_main_cst_20, val_main_cst_21, val_main_cst_22]
  simp only [h, Fin.sum_univ_one]
  unfold da
  simp only [zero_sub]

theorem G_eq (n : Fin 4096) (j : Fin 256) : da (L A) (R A n) j = G A j n.val := by
  unfold G
  rw [dif_pos n.isLt]

/-! ## The convolution's two gradients -/

theorem v115_apply (n : Fin 4096) (j : Fin 256) : val_main_v115 (F := Ideal) A.P A.D A.C A.cb A.g A.b A.w (ix2 n j) = dU A j n.val := by
  have h := da_apply A
  pointwise [val_main_v115, val_main_v114, val_main_v112, val_main_v111, val_main_v107, val_main_v23]
  simp only [h, v21_apply, mul_ite, mul_one, mul_zero, G_eq]
  unfold dU
  refine Finset.sum_congr rfl fun k _ => ?_
  by_cases hq : n.val + (30 - k.val) < 4096
  · exact pick (fun s : Fin 4096 => G A j s.val * A.C (ix2 k j)) _ ⟨n.val + (30 - k.val), hq⟩
      fun s => ⟨fun e => Fin.ext (show s.val = n.val + (30 - k.val) by omega), fun e => by rw [e]; show n.val + 30 = n.val + (30 - k.val) + k.val; omega⟩
  · rw [G, dif_neg hq, zero_mul]
    exact Finset.sum_eq_zero fun s _ => if_neg (by omega)

theorem v113_apply (k : Fin 31) (j : Fin 256) :
    val_main_v113 (F := Ideal) A.P A.D A.C A.cb A.g A.b A.w (ix2 k j) = ∑ n : Fin 4096, U A j (n.val + k.val) * G A j n.val := by
  have h := v22_apply A
  have h' := da_apply A
  pointwise [val_main_v113, val_main_v110, val_main_v109, val_main_v108, val_main_v107, val_main_cst_25, val_main_cst_26]
  simp only [h, h', Fin.sum_univ_one, G_eq]

/-! ## The seven results -/

theorem val_main_v123_spec : val_main_v123 (F := Ideal) A.P A.D A.C A.cb A.g A.b A.w A.wb = dP A := by
  funext i
  idx_vars i
  have h0 : ∀ j : Fin 256, val_main_v117 (F := Ideal) A.P A.D A.C A.cb A.g A.b A.w (ix2 i0 j)
      = dU A j i0.val * Ideal.logistic (A.P (ix2 i0 ⟨256 + j.val, by omega⟩)) := by
    intro j
    have a := v115_apply A i0
    have b := v9_apply A i0
    pointwise [val_main_v117]
    rw [a, b]
  have h1 : ∀ j : Fin 256, val_main_v118 (F := Ideal) A.P A.D A.C A.cb A.g A.b A.w (ix2 i0 j)
      = A.P (ix2 i0 ⟨j.val, by omega⟩) * dU A j i0.val
        * (Ideal.logistic (A.P (ix2 i0 ⟨256 + j.val, by omega⟩)) * (1 - Ideal.logistic (A.P (ix2 i0 ⟨256 + j.val, by omega⟩)))) := by
    intro j
    have a := v115_apply A i0
    have b := v9_apply A i0
    pointwise [val_main_v118, val_main_v116, val_main_v12, val_main_v11, val_main_v10, val_main_cst_1, val_main_v1, val_main_v0]
    rw [a, b]
  have h2 := dz_apply A i0
  pointwise [val_main_v123, val_main_v122, val_main_v121, val_main_v120, val_main_v119, val_main_cst_27, val_main_cst_28, val_main_cst_29]
  have := i1.isLt
  have hi : i1.val < 256 ∨ (256 ≤ i1.val ∧ i1.val < 512) ∨ 512 ≤ i1.val := by omega
  rcases hi with hi | hi | hi
  · rw [dif_neg (by omega), dif_neg (by omega), dif_pos (by omega), zero_add, zero_add, h0]
    exact (dP_0 _ _ ⟨i1.val, hi⟩ _ rfl).symm
  · rw [dif_neg (by omega), dif_pos (by omega), dif_neg (by omega), zero_add, add_zero, h1]
    exact (dP_1 _ _ ⟨i1.val - 256, by omega⟩ _ (by dsimp only; omega)).symm
  · rw [dif_pos (by omega), dif_neg (by omega), dif_neg (by omega), add_zero, add_zero, h2]
    exact (dP_2 _ _ ⟨i1.val - 512, by omega⟩ _ (by dsimp only; omega)).symm

theorem val_main_v124_spec : val_main_v124 (F := Ideal) A.P A.D A.C A.cb A.g A.b A.w = dC A := by
  funext i
  idx_vars i
  pointwise [val_main_v124, val_main_call5_v0, val_main_c_30]
  unfold dC
  dsimp only
  by_cases h : i0.val < 31
  · rw [dif_pos h, v113_apply]
    exact (if_pos h).symm
  · rw [dif_neg h]
    refine Eq.trans ?_ (if_neg h).symm
    show (((0#32 : BitVec 32).toInt : ℝ) : EReal) = 0
    simp

theorem val_main_v125_spec : val_main_v125 (F := Ideal) A.P A.D A.C A.cb A.g A.b A.w = overRows A da := by
  funext i
  idx_vars i
  have h := da_apply A
  pointwise [val_main_v125, val_main_v106, val_main_v105, val_main_v104, val_main_cst_23, val_main_cst_24]
  simp only [h, Fin.sum_univ_one]
  rfl

theorem val_main_v126_spec : val_main_v126 (F := Ideal) A.P A.D A.C A.cb A.g A.b A.w = overRows A fun l r j => nx l r j * dln l r j := by
  funext i
  idx_vars i
  have h := dln_apply A
  have h' := nx_apply A
  pointwise [val_main_v126, val_main_v81, val_main_v78, val_main_v77, val_main_v76, val_main_cst_15, val_main_cst_16]
  simp only [h, h', Fin.sum_univ_one]
  rfl

theorem val_main_v127_spec : val_main_v127 (F := Ideal) A.P A.D A.C A.cb A.g A.b A.w = overRows A dln := by
  funext i
  idx_vars i
  have h := dln_apply A
  pointwise [val_main_v127, val_main_v75, val_main_v74, val_main_v73, val_main_cst_13, val_main_cst_14]
  simp only [h, Fin.sum_univ_one]
  rfl

theorem val_main_v70_spec : val_main_v70 (F := Ideal) A.P A.D A.C A.cb A.g A.b = dW A := by
  funext i
  idx_vars i
  have h := act_apply A
  have h' := dmm_apply A
  pointwise [val_main_v70, val_main_v69]
  simp only [h, h']
  exact Finset.sum_congr rfl fun n _ => mul_comm _ _

theorem val_main_v128_spec : val_main_v128 (F := Ideal) A.P A.D = overRows A fun _ r j => dmm r j := by
  funext i
  idx_vars i
  have h := dmm_apply A
  pointwise [val_main_v128, val_main_v68, val_main_v67, val_main_v66, val_main_cst_11, val_main_cst_12]
  simp only [h, Fin.sum_univ_one]
  rfl

end Cert.ConformerRefIdeal.Spec
-- ==== Proof.ConformerClaim.lean ====
module

public import proofs.«01_k».proof.Defs
public import proofs.«01_k».proof.Proof.ConformerFrame
public import proofs.«01_k».proof.Proof.ConformerOut
public import proofs.«01_k».proof.Proof.ConformerAcc
public import proofs.«01_k».proof.Proof.ConformerRef
public import proofs.«01_k».proof.Proof.Gen.ConformerRefIdeal.Run
public import Idealize.ShloMosaic.Adequacy

@[expose] public section

noncomputable section

open Idealize.ShloMosaic Idealize.ShloMosaic.TcCoe Idealize.SL.Sem

/-! # The convolution module's gradient: the five claims -/

namespace Cert.ConformerClaim

/-- What the reference's arguments are, as the formulas take them. -/
abbrev argsOf (m : (ℓ : Loc ConformerRefIdeal.nD ConformerRefIdeal.τ ConformerRefIdeal.sig) → Buf (Elt Ideal) ℓ)
    (c : Dev ConformerRefIdeal.nD) : ConformerSpec.Args where
  P := m ((c : Thread ConformerRefIdeal.nD ConformerRefIdeal.τ).loc ConformerRefIdeal.main_arg0)
  D := m ((c : Thread ConformerRefIdeal.nD ConformerRefIdeal.τ).loc ConformerRefIdeal.main_arg1)
  C := m ((c : Thread ConformerRefIdeal.nD ConformerRefIdeal.τ).loc ConformerRefIdeal.main_arg2)
  cb := m ((c : Thread ConformerRefIdeal.nD ConformerRefIdeal.τ).loc ConformerRefIdeal.main_arg3)
  g := m ((c : Thread ConformerRefIdeal.nD ConformerRefIdeal.τ).loc ConformerRefIdeal.main_arg4)
  b := m ((c : Thread ConformerRefIdeal.nD ConformerRefIdeal.τ).loc ConformerRefIdeal.main_arg5)
  w := m ((c : Thread ConformerRefIdeal.nD ConformerRefIdeal.τ).loc ConformerRefIdeal.main_arg6)
  wb := m ((c : Thread ConformerRefIdeal.nD ConformerRefIdeal.τ).loc ConformerRefIdeal.main_arg7)

theorem frameP : Cert.quiescent_Conformer (hConformer := Cert.Conformer.Gen.facts) :=
  fun m ρ _ => Cert.Conformer.Gen.frame m ρ

theorem framePI : Cert.quiescent_ConformerIdeal (hConformerIdeal := Cert.ConformerIdeal.Gen.facts) :=
  fun m ρ _ => Cert.ConformerIdeal.Gen.frame m ρ

theorem frameRI : Cert.quiescent_ConformerRefIdeal (hConformerRefIdeal := Cert.ConformerRefIdeal.Gen.facts) :=
  fun m ρ _ => (θ_run Cert.ConformerRefIdeal.defs _ _).mono
    (fun r h => ⟨fun c => (h c).2.2.2.2.2.2.2, sem_eq_zero_of_no_sems (by decide) r.2⟩) (Cert.ConformerRefIdeal.Value.run (F := Ideal) m ρ)

open ConformerSpec ConformerRefIdeal.Read ConformerRefIdeal.Spec in
theorem algebraic : Cert.algebraic_ConformerIdeal_ConformerRefIdeal (hConformerIdeal := Cert.ConformerIdeal.Gen.facts)
    (hConformerRefIdeal := Cert.ConformerRefIdeal.Gen.facts) := by
  intro m ρ m' ρ' _ hagree
  have hA : ∀ c, argsOf m' c = ConformerIdeal.Tile.args m c := fun c => by
    obtain ⟨h0, h1, h2, h3, h4, h5, h6, h7⟩ := hagree c
    exact Args.mk.injEq .. ▸ ⟨h0, h1, h2, h3, h4, h5, h6, h7⟩
  refine ⟨fun c => dP (ConformerIdeal.Tile.args m c), fun c => dC (ConformerIdeal.Tile.args m c),
    fun c => overRows (ConformerIdeal.Tile.args m c) da,
    fun c => overRows (ConformerIdeal.Tile.args m c) fun l r j => nx l r j * dln l r j,
    fun c => overRows (ConformerIdeal.Tile.args m c) dln, fun c => dW (ConformerIdeal.Tile.args m c),
    fun c => overRows (ConformerIdeal.Tile.args m c) fun _ r j => dmm r j, ?_, ?_⟩
  · refine (θ_run _ _ _).mono (fun r h c => ?_) (Cert.ConformerIdeal.Value.run_blocks m ρ)
    obtain ⟨h0, h1, h2, h3, h4, h5, h6, h⟩ := h c
    exact ⟨h0.trans (ConformerIdeal.Tile.final11 m c), h1.trans (ConformerIdeal.Tile.final12 m c),
      h2.trans (ConformerIdeal.Tile.final13 m c), h3.trans (ConformerIdeal.Tile.final14 m c),
      h4.trans (ConformerIdeal.Tile.final15 m c), h5.trans (ConformerIdeal.Tile.final16 m c),
      h6.trans (ConformerIdeal.Tile.final17 m c), h⟩
  · refine (θ_run _ _ _).mono (fun r h c => ?_) (Cert.ConformerRefIdeal.Value.run (F := Ideal) m' ρ')
    obtain ⟨h0, h1, h2, h3, h4, h5, h6, h⟩ := h c
    beta_reduce
    rw [← hA c]
    exact ⟨h0.trans ((val_main_v123_eq _).trans (val_main_v123_spec (argsOf m' c))),
      h1.trans ((val_main_v124_eq _).trans (val_main_v124_spec (argsOf m' c))),
      h2.trans ((val_main_v125_eq _).trans (val_main_v125_spec (argsOf m' c))),
      h3.trans ((val_main_v126_eq _).trans (val_main_v126_spec (argsOf m' c))),
      h4.trans ((val_main_v127_eq _).trans (val_main_v127_spec (argsOf m' c))),
      h5.trans ((val_main_v70_eq _).trans (val_main_v70_spec (argsOf m' c))),
      h6.trans ((val_main_v128_eq _).trans (val_main_v128_spec (argsOf m' c))), h⟩

end Cert.ConformerClaim
-- ==== Proof.ConformerFwdSpec.lean ====
module

public import proofs.«01_k».proof.Proof.ConformerSpec

@[expose] public section

noncomputable section

open Idealize.ShloMosaic Idealize.ShloMosaic.TcCoe Idealize.SL.Sem

/-! # The convolution module's branch, forward

`ConformerSpec` has a row's norm, SiLU and product; the forward call's two results are its gated product and its convolution. -/

namespace Cert.ConformerSpec

/-- A row of the branch's output. -/
def gated (L : Layer) (R : Row) (j : Fin 256) : EReal := mm L R j * (R.z j * Ideal.logistic (R.z j))

/-- The branch's output and the convolution's, over the array. -/
def fwdOut (A : Args) : FVec Ideal ⟨2, ![4096, 256]⟩ .f32 := fun i =>
  gated (layer A) (row A ⟨(i 0).val, (i 0).isLt⟩) ⟨(i 1).val, (i 1).isLt⟩

def fwdConv (A : Args) : FVec Ideal ⟨2, ![4096, 256]⟩ .f32 := fun i => conv A ⟨(i 1).val, (i 1).isLt⟩ (i 0).val

end Cert.ConformerSpec
-- ==== Proof.ConformerFwdTile.lean ====
module

public import proofs.«01_k».proof.Proof.ConformerFwdSpec
public import proofs.«01_k».proof.Proof.Tiles
public import proofs.«01_k».proof.Proof.Gen.ConformerFwdIdeal.Value
public import Idealize.ShloMosaic.Lib.Pipeline.ValueKit

@[expose] public section

set_option maxRecDepth 16384

noncomputable section

open Idealize.ShloMosaic Idealize.ShloMosaic.TcCoe Idealize.SL.Sem

/-! # The convolution module's branch, forward, over its sixteen tiles -/

namespace Cert.ConformerFwdIdeal.Tile

open Cert.ConformerFwdIdeal Cert.ConformerFwdIdeal.Gen Cert.ConformerSpec

/-! ## The stored values at an index -/

/-- The parameters and a row, as the blocks hold them; the forward call has no cotangent. -/
abbrev blayer (w : FVec Ideal S256x256 .f32) (cb g b wb : FVec Ideal S1x256 .f32) : Layer where
  cb j := cb (ix2 0 j)
  g j := g (ix2 0 j)
  b j := b (ix2 0 j)
  w i j := w (ix2 i j)
  wb j := wb (ix2 0 j)

abbrev brow (a z : FVec Ideal S256x256 .f32) (r : Fin 256) : Row where
  a j := a (ix2 r j)
  z j := z (ix2 r j)
  d _ := 0

theorem out_apply (a x z w : FVec Ideal S256x256 .f32) (cb g b wb : FVec Ideal S1x256 .f32)
    (hx : ∀ r j : Fin 256, x (ix2 r j) = a (ix2 r j) + cb (ix2 0 j)) (r j : Fin 256) :
    k0_pay1 (F := Ideal) z g b w wb x (ix2 r j) = gated (blayer w cb g b wb) (brow a z r) j := by
  pointwise [k0_pay1]
  simp only [hx]
  rfl

/-- Three of the stored values only restate a loaded row. -/
theorem p19 (x : FVec Ideal S1x256 .f32) : k0_pay19 x = x := by funext i; idx_vars i; pointwise [k0_pay19]
theorem p20 (x : FVec Ideal S1x256 .f32) : k0_pay20 x = x := by funext i; idx_vars i; pointwise [k0_pay20]
theorem p21 (x : FVec Ideal S1x256 .f32) : k0_pay21 x = x := by funext i; idx_vars i; pointwise [k0_pay21]

/-- The norm's input: the convolution's output plus its bias. -/
theorem pre_apply (E : FVec Ideal S288x256 .f32) (a s : FVec Ideal S256x256 .f32) (v w0 w1 w2 cb : FVec Ideal S1x256 .f32) (r j : Fin 256) :
    k0_pay22 (F := Ideal) E a s v w0 w1 w2 cb (ix2 r j) = k0_pay18 (F := Ideal) E a s v w0 w1 w2 (ix2 r j) + cb (ix2 0 j) := by
  unfold k0_pay22
  generalize k0_pay18 (F := Ideal) E a s v w0 w1 w2 = x
  pointwise []

/-- The extended tile: thirty-two rows before it (times the word that drops them at the array's first tile), then its own. -/
theorem ext_apply (i : grid0.Coords) (v3 v4 : FVec Ideal S32x256 .f32) (v9 v10 : FVec Ideal S256x256 .f32) (e : Fin 288) (j : Fin 256) :
    k0_pay2 (F := Ideal) i v3 v4 v9 v10 (ix2 e j)
      = if h : e.val < 32 then v3 (ix2 ⟨e.val, h⟩ j) * Ideal.logistic (v4 (ix2 ⟨e.val, h⟩ j))
            * (Scalar.sitofp .f32 (Scalar.extui (Scalar.cmpi .sgt (BitVec.ofNat 32 (i 0).val) 0#32) : BitVec 32) : Ideal .f32)
        else v9 (ix2 ⟨e.val - 32, by omega⟩ j) * Ideal.logistic (v10 (ix2 ⟨e.val - 32, by omega⟩ j)) := by
  pointwise [k0_pay2]

/-- The convolution over a tile, at the stages the body keeps. -/
def acc (i : grid0.Coords) (v3 v4 : FVec Ideal S32x256 .f32) (v9 v10 : FVec Ideal S256x256 .f32) (w : ℕ → FVec Ideal S1x256 .f32) :
    FVec Ideal S256x256 .f32 :=
  k0_pay18 (k0_pay2 i v3 v4 v9 v10)
    (k0_pay15 (k0_pay2 i v3 v4 v9 v10)
      (k0_pay12 (k0_pay2 i v3 v4 v9 v10)
        (k0_pay9 (k0_pay2 i v3 v4 v9 v10)
          (k0_pay6 (k0_pay2 i v3 v4 v9 v10) (k0_pay3 i v3 v4 v9 v10 (w 0) (w 1) (w 2)) (k0_pay4 i v3 v4 v9 v10) (k0_pay5 (w 3))
            (w 4) (w 5) (w 6) (w 7) (w 8))
          (k0_pay7 (k0_pay2 i v3 v4 v9 v10)) (k0_pay8 (w 9)) (w 10) (w 11) (w 12) (w 13) (w 14))
        (k0_pay10 (k0_pay2 i v3 v4 v9 v10)) (k0_pay11 (w 15)) (w 16) (w 17) (w 18) (w 19) (w 20))
      (k0_pay13 (k0_pay2 i v3 v4 v9 v10)) (k0_pay14 (w 21)) (w 22) (w 23) (w 24) (w 25) (w 26))
    (k0_pay16 (k0_pay2 i v3 v4 v9 v10)) (k0_pay17 (w 27)) (w 28) (w 29) (w 30)

theorem acc_apply (i : grid0.Coords) (v3 v4 : FVec Ideal S32x256 .f32) (v9 v10 : FVec Ideal S256x256 .f32) (w : ℕ → FVec Ideal S1x256 .f32)
    (r j : Fin 256) :
    acc i v3 v4 v9 v10 w (ix2 r j)
      = ∑ k : Fin 31, k0_pay2 (F := Ideal) i v3 v4 v9 v10 (ix2 ⟨r.val + (2 + k.val), by omega⟩ j) * w k.val (ix2 0 j) := by
  have hs : ∀ f : (n : ℕ) → n < 31 → EReal, ∑ k : Fin 31, f k.val k.isLt = ∑ k ∈ Finset.range 31, if h : k < 31 then f k h else 0 := fun f => by
    rw [← Fin.sum_univ_eq_sum_range (fun k => if h : k < 31 then f k h else 0)]
    exact Finset.sum_congr rfl fun k _ => (dif_pos k.isLt).symm
  rw [hs fun k h => k0_pay2 (F := Ideal) i v3 v4 v9 v10 (ix2 ⟨r.val + (2 + k), by omega⟩ j) * w k (ix2 0 j)]
  simp only [Finset.sum_range_succ, Finset.sum_range_zero, zero_add]
  unfold acc k0_pay3 k0_pay4
  generalize k0_pay2 (F := Ideal) i v3 v4 v9 v10 = E
  pointwise [k0_pay5, k0_pay6, k0_pay7, k0_pay8, k0_pay9, k0_pay10, k0_pay11, k0_pay12, k0_pay13, k0_pay14, k0_pay15, k0_pay16, k0_pay17, k0_pay18]
  blk_point []

/-! ## The blocks, read off the arguments -/

variable (m : (ℓ : Loc nD τ sig) → Buf (Elt Ideal) ℓ) (c : Dev nD)

/-- The arguments. -/
abbrev args : Args where
  P := m ((c : Thread nD τ).loc main_arg0)
  D := fun _ => 0
  C := m ((c : Thread nD τ).loc main_arg1)
  cb := m ((c : Thread nD τ).loc main_arg2)
  g := m ((c : Thread nD τ).loc main_arg3)
  b := m ((c : Thread nD τ).loc main_arg4)
  w := m ((c : Thread nD τ).loc main_arg5)
  wb := m ((c : Thread nD τ).loc main_arg6)

theorem idx : ∀ t : Fin cfg0.N, win0_0.index t = ![t.val, 0] ∧ win0_1.index t = ![t.val, 2]
    ∧ win0_2.index t = ![t.val * 8 - 1, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ (grid0.coords t 0).val = t.val :=
  (by decide +kernel : ∀ t : Fin grid0.N, _)

theorem coord (t : Fin cfg0.N) : (grid0.coords t 0).val = t.val := by
  have h := idx t
  exact h.2.2.2.2.2.2.2.2.2.2.2

abbrev b0 (t : Fin cfg0.N) : FVec Ideal S256x512 .f32 := X0_0 m c t
abbrev b1 (t : Fin cfg0.N) : FVec Ideal S256x256 .f32 := X0_1 m c t
abbrev b2 (t : Fin cfg0.N) : FVec Ideal S32x512 .f32 := X0_2 m c t
abbrev b3 (t : Fin cfg0.N) : FVec Ideal S32x256 .f32 := iblk m c 3 t
abbrev b4 (t : Fin cfg0.N) : FVec Ideal S1x256 .f32 := iblk m c 4 t
abbrev b5 (t : Fin cfg0.N) : FVec Ideal S1x256 .f32 := iblk m c 5 t
abbrev b6 (t : Fin cfg0.N) : FVec Ideal S1x256 .f32 := iblk m c 6 t
abbrev b7 (t : Fin cfg0.N) : FVec Ideal S256x256 .f32 := iblk m c 7 t
abbrev b8 (t : Fin cfg0.N) : FVec Ideal S1x256 .f32 := iblk m c 8 t

/-- A row of the array, from a row of the point's tile. -/
abbrev rowOf (t : Fin cfg0.N) (r : Fin 256) : Fin 4096 := ⟨256 * t.val + r.val, by have := lt_of_lt_of_eq t.isLt N_0; omega⟩

theorem b0_apply (t : Fin cfg0.N) (r : Fin 256) (j : Fin 512) :
    b0 m c t (ix2 r j) = (args m c).P (ix2 (rowOf t r) ⟨j.val, by omega⟩) := by
  unfold b0 X0_0 Pipeline.Window.fill
  rw [dif_pos (moved0_0 t _)]
  dsimp only [args]
  rw [← V_main_arg0 m c]
  blk_ext [iblk, idx t]

theorem b1_apply (t : Fin cfg0.N) (r j : Fin 256) :
    b1 m c t (ix2 r j) = (args m c).P (ix2 (rowOf t r) ⟨512 + j.val, by omega⟩) := by
  unfold b1 X0_1 Pipeline.Window.fill
  rw [dif_pos (moved0_1 t _)]
  dsimp only [args]
  rw [← V_main_arg0 m c]
  blk_ext [iblk, idx t]

/-- The thirty-two rows before the tile; at the array's first tile the window stays on the first block. -/
theorem b2_apply (t : Fin cfg0.N) (r : Fin 32) (j : Fin 512) :
    b2 m c t (ix2 r j) = (args m c).P (ix2 ⟨32 * (t.val * 8 - 1) + r.val, by have := lt_of_lt_of_eq t.isLt N_0; omega⟩ ⟨j.val, by omega⟩) := by
  unfold b2 X0_2 Pipeline.Window.fill
  rw [dif_pos (moved0_2 t _)]
  dsimp only [args]
  rw [← V_main_arg0 m c]
  blk_ext [iblk, idx t]

/-- The region finds the taps padded to thirty-two rows and the four vectors as rows. -/
theorem V_main_v0 : (V m c main_v0 : FVec Ideal S32x256 .f32)
    = pad S32x256 ![0, 0] ![1, 0] ![0, 0] (args m c).C (sitofp .f32 (constantI S_ 32 0#32)) pads_S31x256_S32x256_010_000 h_S_ := by
  entry_read
  rfl

theorem V_main_v1 : (V m c main_v1 : FVec Ideal S1x256 .f32) = shapeCast S1x256 (args m c).cb shapeCasts_S256_S1x256 := by
  entry_read
  rfl

theorem V_main_v2 : (V m c main_v2 : FVec Ideal S1x256 .f32) = shapeCast S1x256 (args m c).g shapeCasts_S256_S1x256 := by
  entry_read
  rfl

theorem V_main_v3 : (V m c main_v3 : FVec Ideal S1x256 .f32) = shapeCast S1x256 (args m c).b shapeCasts_S256_S1x256 := by
  entry_read
  rfl

theorem V_main_v4 : (V m c main_v4 : FVec Ideal S1x256 .f32) = shapeCast S1x256 (args m c).wb shapeCasts_S256_S1x256 := by
  entry_read
  rfl

theorem b3_apply (t : Fin cfg0.N) (k : Fin 32) (j : Fin 256) (hk : k.val < 31) :
    b3 m c t (ix2 k j) = (args m c).C (ix2 ⟨k.val, hk⟩ j) := by
  have e : b3 m c t (ix2 k j) = (V m c main_v0 : FVec Ideal S32x256 .f32) (ix2 k j) := by
    unfold b3
    blk_ext [iblk, idx t]
  rw [e, V_main_v0]
  pointwise
  rw [dif_pos hk]

/-- A row window shows the whole row. -/
theorem b4_apply (t : Fin cfg0.N) (j : Fin 256) : b4 m c t (ix2 0 j) = (args m c).cb (ix1 j) := by
  have e : b4 m c t (ix2 0 j) = (V m c main_v1 : FVec Ideal S1x256 .f32) (ix2 0 j) := by
    unfold b4
    blk_ext [iblk, idx t]
  rw [e, V_main_v1]
  pointwise

theorem b5_apply (t : Fin cfg0.N) (j : Fin 256) : b5 m c t (ix2 0 j) = (args m c).g (ix1 j) := by
  have e : b5 m c t (ix2 0 j) = (V m c main_v2 : FVec Ideal S1x256 .f32) (ix2 0 j) := by
    unfold b5
    blk_ext [iblk, idx t]
  rw [e, V_main_v2]
  pointwise

theorem b6_apply (t : Fin cfg0.N) (j : Fin 256) : b6 m c t (ix2 0 j) = (args m c).b (ix1 j) := by
  have e : b6 m c t (ix2 0 j) = (V m c main_v3 : FVec Ideal S1x256 .f32) (ix2 0 j) := by
    unfold b6
    blk_ext [iblk, idx t]
  rw [e, V_main_v3]
  pointwise

theorem b7_apply (t : Fin cfg0.N) (i j : Fin 256) : b7 m c t (ix2 i j) = (args m c).w (ix2 i j) := by
  dsimp only [args]
  rw [← V_main_arg5 m c]
  unfold b7
  blk_ext [iblk, idx t]

theorem b8_apply (t : Fin cfg0.N) (j : Fin 256) : b8 m c t (ix2 0 j) = (args m c).wb (ix1 j) := by
  have e : b8 m c t (ix2 0 j) = (V m c main_v4 : FVec Ideal S1x256 .f32) (ix2 0 j) := by
    unfold b8
    blk_ext [iblk, idx t]
  rw [e, V_main_v4]
  pointwise

/-! ## A tile's convolution -/

abbrev ldV (t : Fin cfg0.N) : FVec Ideal S256x256 .f32 :=
  View.ld (Val := Elt Ideal) (S := S256x512) (e' := .f32) (b0 m c t) (Rect.unit ![0, 0] ![256, 256] inb_S256x512_S256x256_0_0)
abbrev ldG (t : Fin cfg0.N) : FVec Ideal S256x256 .f32 :=
  View.ld (Val := Elt Ideal) (S := S256x512) (e' := .f32) (b0 m c t) (Rect.unit ![0, 256] ![256, 256] inb_S256x512_S256x256_0_256)
abbrev ldHV (t : Fin cfg0.N) : FVec Ideal S32x256 .f32 :=
  View.ld (Val := Elt Ideal) (S := S32x512) (e' := .f32) (b2 m c t) (Rect.unit ![0, 0] ![32, 256] inb_S32x512_S32x256_0_0)
abbrev ldHG (t : Fin cfg0.N) : FVec Ideal S32x256 .f32 :=
  View.ld (Val := Elt Ideal) (S := S32x512) (e' := .f32) (b2 m c t) (Rect.unit ![0, 256] ![32, 256] inb_S32x512_S32x256_0_256)

theorem ext_eq (t : Fin cfg0.N) (e : Fin 288) (he : 2 ≤ e.val) (j : Fin 256) :
    k0_pay2 (F := Ideal) (grid0.coords t) (ldHV m c t) (ldHG m c t) (ldV m c t) (ldG m c t) (ix2 e j)
      = U (args m c) j (256 * t.val + (e.val - 2)) := by
  have hN : t.val < 16 := lt_of_lt_of_eq t.isLt N_0
  rw [ext_apply, coord t, Tiles.keep_first _ hN]
  by_cases h : e.val < 32
  · rw [dif_pos h]
    by_cases h0 : 0 < t.val
    · rw [if_pos h0, mul_one]
      pointwise [ldHV, ldHG]
      rw [b2_apply, b2_apply]
      unfold U
      rw [dif_pos (by omega)]
      blk_point []
    · rw [if_neg h0, mul_zero]
      unfold U
      rw [dif_neg (by omega)]
  · rw [dif_neg h]
    pointwise [ldV, ldG]
    rw [b0_apply, b0_apply]
    unfold U
    rw [dif_pos (by omega)]
    blk_point []

theorem inb_tap (k : ℕ) : ∀ a, (![k % 32, 0] : Fin 2 → ℕ) a + S1x256.size a ≤ S32x256.size a := by
  intro a
  fin_cases a
  · show k % 32 + 1 ≤ 32
    omega
  · show 0 + 256 ≤ 256
    omega

/-- The block's row `k`. -/
def tap (t : Fin cfg0.N) (k : ℕ) : FVec Ideal S1x256 .f32 :=
  View.ld (Val := Elt Ideal) (S := S32x256) (e' := .f32) (b3 m c t) (Rect.unit ![k % 32, 0] ![1, 256] (inb_tap k))

theorem tap_apply (t : Fin cfg0.N) (k : Fin 31) (j : Fin 256) : tap m c t k.val (ix2 0 j) = (args m c).C (ix2 k j) := by
  have hk := k.isLt
  have e := b3_apply m c t ⟨k.val, by omega⟩ j (by dsimp only; omega)
  rw [← e]
  unfold tap
  pointwise
  blk_point []

theorem acc_eq (t : Fin cfg0.N) (r j : Fin 256) :
    acc (grid0.coords t) (ldHV m c t) (ldHG m c t) (ldV m c t) (ldG m c t) (tap m c t) (ix2 r j)
      = conv (args m c) j (256 * t.val + r.val) := by
  rw [acc_apply]
  unfold conv
  refine Finset.sum_congr rfl fun k _ => ?_
  rw [ext_eq m c t _ (by dsimp only; omega), tap_apply]
  congr 2
  dsimp only
  omega

/-! ## The two final arrays -/

theorem final10 : ((dats m 0 c).arrAt 10 cfg0.N : FVec Ideal S4096x256 .f32) = fwdConv (args m c) := by
  refine (dats m 0 c).arrAt_eq_of_covers 10 _ (by decide +kernel) fun t hf y => ?_
  blk_simp
  rw [after0_10]
  idx_vars y
  have e : ((View.whole main_v5_1).slice (win0_10.rect t)).emb (ix2 y0 y1) = ix2 (rowOf t y0) y1 := by
    blk_ext [idx t]
  rw [e]
  unfold outsAt0
  frame_out
  exact acc_eq m c t y0 y1

theorem layer_eq (t : Fin cfg0.N) : blayer (b7 m c t) (b4 m c t) (b5 m c t) (b6 m c t) (b8 m c t) = layer (args m c) :=
  Layer.mk.injEq .. ▸ ⟨funext fun j => b4_apply m c t j, funext fun j => b5_apply m c t j, funext fun j => b6_apply m c t j,
    funext fun i => funext fun j => b7_apply m c t i j, funext fun j => b8_apply m c t j⟩

theorem row_eq (t : Fin cfg0.N) (r : Fin 256) :
    brow (acc (grid0.coords t) (ldHV m c t) (ldHG m c t) (ldV m c t) (ldG m c t) (tap m c t)) (b1 m c t) r = row (args m c) (rowOf t r) :=
  Row.mk.injEq .. ▸ ⟨funext fun j => acc_eq m c t r j, funext fun j => b1_apply m c t r j, rfl⟩

theorem final9 : ((dats m 0 c).arrAt 9 cfg0.N : FVec Ideal S4096x256 .f32) = fwdOut (args m c) := by
  refine (dats m 0 c).arrAt_eq_of_covers 9 _ (by decide +kernel) fun t hf y => ?_
  blk_simp
  rw [after0_9]
  idx_vars y
  have e : ((View.whole main_v5_0).slice (win0_9.rect t)).emb (ix2 y0 y1) = ix2 (rowOf t y0) y1 := by
    blk_ext [idx t]
  rw [e]
  unfold outsAt0
  frame_out
  refine (out_apply (acc (grid0.coords t) (ldHV m c t) (ldHG m c t) (ldV m c t) (ldG m c t) (tap m c t)) _ (b1 m c t) (b7 m c t) (b4 m c t)
    (k0_pay19 (b5 m c t)) (k0_pay20 (b6 m c t)) (k0_pay21 (b8 m c t)) (fun r j => pre_apply _ _ _ _ _ _ _ _ r j) y0 y1).trans ?_
  rw [p19, p20, p21]
  show _ = gated (layer (args m c)) (row (args m c) (rowOf t y0)) y1
  rw [← layer_eq m c t, ← row_eq m c t y0]

end Cert.ConformerFwdIdeal.Tile
-- ==== Proof.ConformerFwdRef.lean ====
module

public import proofs.«01_k».proof.Proof.ConformerFwdSpec
public import proofs.«01_k».proof.Proof.ConformerHost
public import proofs.«01_k».proof.Proof.Gen.ConformerFwdRefIdeal.Read

@[expose] public section

set_option maxRecDepth 16384

noncomputable section

open Idealize.ShloMosaic Idealize.ShloMosaic.TcCoe Idealize.SL.Sem

/-! # The reference's two results are the formulas

The reference's convolution is the one the gradient's program computes before its region (`ConformerIdeal.Tile.hostConv`). -/

namespace Cert.ConformerFwdRefIdeal.Spec

open Cert.ConformerFwdRefIdeal Cert.ConformerFwdRefIdeal.Gen Cert.ConformerFwdRefIdeal.Read Cert.ConformerSpec

variable (A : Args)

theorem v228_host (P : FVec Ideal S4096x3456 .f32) (C : FVec Ideal S31x256 .f32) :
    val_main_v228 (F := Ideal) P C = ConformerIdeal.Tile.hostConv (F := Ideal) (ConformerIdeal.Tile.hostX P) C 31 (le_refl _) := rfl

theorem conv_apply (n : Fin 4096) (j : Fin 256) : val_main_v228 (F := Ideal) A.P A.C (ix2 n j) = conv A j n.val := by
  rw [v228_host]
  exact ConformerIdeal.Tile.hostConv_apply A n j 31 _

theorem conv_spec : val_main_v228 (F := Ideal) A.P A.C = fwdConv A := by
  funext i
  idx_vars i
  exact conv_apply A i0 i1

abbrev L : Layer := layer A
abbrev R (n : Fin 4096) : Row := row A n

theorem xc_apply (n : Fin 4096) (j : Fin 256) : val_main_v237 (F := Ideal) A.P A.C A.cb (ix2 n j) = xc (L A) (R A n) j := by
  have h := conv_apply A n
  pointwise [val_main_v237, val_main_v236, val_main_v235, val_main_v234, val_main_v233, val_main_v232, val_main_v231, val_main_v230, val_main_v229, val_main_cst_3, val_main_cst_4]
  simp only [h]
  rfl

theorem rs_apply (n : Fin 4096) (o : Fin 1) : val_main_v245 (F := Ideal) A.P A.C A.cb (ix2 n o) = rs (L A) (R A n) := by
  have h := xc_apply A n
  pointwise [val_main_v245, val_main_v244, val_main_v243, val_main_v242, val_main_v241, val_main_v240, val_main_v239, val_main_v238, val_main_cst_5, val_main_cst_6, val_main_cst_7]
  simp only [h]
  rfl

theorem ln_apply (n : Fin 4096) (j : Fin 256) : val_main_v253 (F := Ideal) A.P A.C A.cb A.g A.b (ix2 n j) = ln (L A) (R A n) j := by
  have h := xc_apply A n
  have h' := rs_apply A n
  pointwise [val_main_v253, val_main_v252, val_main_v251, val_main_v250, val_main_v249, val_main_v248, val_main_v247, val_main_v246]
  simp only [h, h']
  rfl

theorem act_apply (n : Fin 4096) (j : Fin 256) : val_main_v254 (F := Ideal) A.P A.C A.cb A.g A.b (ix2 n j) = act (L A) (R A n) j := by
  have h := ln_apply A n
  pointwise [val_main_v254, val_main_call0_v5, val_main_call0_v4, val_main_call0_cst_0, val_main_call0_v3, val_main_call0_v2,
    val_main_call0_cst, val_main_call0_v1, val_main_call0_v0]
  simp only [h]
  rfl

theorem mm_apply (n : Fin 4096) (j : Fin 256) : val_main_v258 (F := Ideal) A.P A.C A.cb A.g A.b A.w A.wb (ix2 n j) = mm (L A) (R A n) j := by
  have h := act_apply A n
  pointwise [val_main_v258, val_main_v257, val_main_v256, val_main_v255]
  simp only [h]
  rfl

theorem out_spec : val_main_v261 (F := Ideal) A.P A.C A.cb A.g A.b A.w A.wb = fwdOut A := by
  funext i
  idx_vars i
  have h := mm_apply A i0 i1
  pointwise [val_main_v261, val_main_v260, val_main_v259, val_main_call1_v5, val_main_call1_v4, val_main_call1_cst_0, val_main_call1_v3,
    val_main_call1_v2, val_main_call1_cst, val_main_call1_v1, val_main_call1_v0]
  rw [h]
  rfl

end Cert.ConformerFwdRefIdeal.Spec
-- ==== Proof.ConformerFwdClaim.lean ====
module

public import proofs.«01_k».proof.Defs
public import proofs.«01_k».proof.Proof.ConformerFwdTile
public import proofs.«01_k».proof.Proof.ConformerFwdRef
public import proofs.«01_k».proof.Proof.Gen.ConformerFwd.Frame
public import Idealize.ShloMosaic.Adequacy

@[expose] public section

noncomputable section

open Idealize.ShloMosaic Idealize.ShloMosaic.TcCoe Idealize.SL.Sem

/-! # The convolution module's branch, forward: its claims -/

namespace Cert.ConformerFwdClaim

/-- What the reference's arguments are, as the formulas take them. -/
abbrev argsOf (m : (ℓ : Loc ConformerFwdRefIdeal.nD ConformerFwdRefIdeal.τ ConformerFwdRefIdeal.sig) → Buf (Elt Ideal) ℓ)
    (c : Dev ConformerFwdRefIdeal.nD) : ConformerSpec.Args where
  P := m ((c : Thread ConformerFwdRefIdeal.nD ConformerFwdRefIdeal.τ).loc ConformerFwdRefIdeal.main_arg0)
  D := fun _ => 0
  C := m ((c : Thread ConformerFwdRefIdeal.nD ConformerFwdRefIdeal.τ).loc ConformerFwdRefIdeal.main_arg1)
  cb := m ((c : Thread ConformerFwdRefIdeal.nD ConformerFwdRefIdeal.τ).loc ConformerFwdRefIdeal.main_arg2)
  g := m ((c : Thread ConformerFwdRefIdeal.nD ConformerFwdRefIdeal.τ).loc ConformerFwdRefIdeal.main_arg3)
  b := m ((c : Thread ConformerFwdRefIdeal.nD ConformerFwdRefIdeal.τ).loc ConformerFwdRefIdeal.main_arg4)
  w := m ((c : Thread ConformerFwdRefIdeal.nD ConformerFwdRefIdeal.τ).loc ConformerFwdRefIdeal.main_arg5)
  wb := m ((c : Thread ConformerFwdRefIdeal.nD ConformerFwdRefIdeal.τ).loc ConformerFwdRefIdeal.main_arg6)

theorem frameP : Cert.quiescent_ConformerFwd (hConformerFwd := Cert.ConformerFwd.Gen.facts) := fun m ρ _ => Cert.ConformerFwd.Gen.frame m ρ

theorem framePI : Cert.quiescent_ConformerFwdIdeal (hConformerFwdIdeal := Cert.ConformerFwdIdeal.Gen.facts) :=
  fun m ρ _ => Cert.ConformerFwdIdeal.Gen.frame m ρ

theorem frameRI : Cert.quiescent_ConformerFwdRefIdeal (hConformerFwdRefIdeal := Cert.ConformerFwdRefIdeal.Gen.facts) :=
  fun m ρ _ => (θ_run Cert.ConformerFwdRefIdeal.defs _ _).mono
    (fun r h => ⟨fun c => (h c).2.2, sem_eq_zero_of_no_sems (by decide) r.2⟩) (Cert.ConformerFwdRefIdeal.Value.run (F := Ideal) m ρ)

open ConformerSpec ConformerFwdRefIdeal.Read ConformerFwdRefIdeal.Spec in
theorem algebraic : Cert.algebraic_ConformerFwdIdeal_ConformerFwdRefIdeal (hConformerFwdIdeal := Cert.ConformerFwdIdeal.Gen.facts)
    (hConformerFwdRefIdeal := Cert.ConformerFwdRefIdeal.Gen.facts) := by
  intro m ρ m' ρ' _ hagree
  have hA : ∀ c, argsOf m' c = ConformerFwdIdeal.Tile.args m c := fun c => by
    obtain ⟨h0, h1, h2, h3, h4, h5, h6⟩ := hagree c
    exact Args.mk.injEq .. ▸ ⟨h0, rfl, h1, h2, h3, h4, h5, h6⟩
  refine ⟨fun c => fwdOut (ConformerFwdIdeal.Tile.args m c), fun c => fwdConv (ConformerFwdIdeal.Tile.args m c), ?_, ?_⟩
  · refine (θ_run _ _ _).mono (fun r h c => ?_) (Cert.ConformerFwdIdeal.Value.run_blocks m ρ)
    obtain ⟨h0, h1, h⟩ := h c
    exact ⟨h0.trans (ConformerFwdIdeal.Tile.final9 m c), h1.trans (ConformerFwdIdeal.Tile.final10 m c), h⟩
  · refine (θ_run _ _ _).mono (fun r h c => ?_) (Cert.ConformerFwdRefIdeal.Value.run (F := Ideal) m' ρ')
    obtain ⟨h0, h1, h⟩ := h c
    beta_reduce
    rw [← hA c]
    exact ⟨h0.trans ((val_main_v261_eq _).trans (out_spec (argsOf m' c))),
      h1.trans ((val_main_v228_eq _).trans (conv_spec (argsOf m' c))), h⟩

end Cert.ConformerFwdClaim
-- ==== Proof.ShortConvFwdTile.lean ====
module

public import proofs.«01_k».proof.Proof.ShortConvSpec
public import proofs.«01_k».proof.Proof.Tiles
public import proofs.«01_k».proof.Proof.Gen.ShortConvFwdIdeal.Value
public import Idealize.ShloMosaic.Lib.Pipeline.ValueKit

@[expose] public section

set_option maxRecDepth 16384

noncomputable section

open Idealize.ShloMosaic Idealize.ShloMosaic.TcCoe Idealize.SL.Sem

/-! # The short gated convolution's branch, forward, over its sixteen tiles -/

namespace Cert.ShortConvFwdIdeal.Tile

open Cert.ShortConvFwdIdeal Cert.ShortConvFwdIdeal.Gen Cert.ShortConvSpec

/-- The extended tile: eight rows before it (times the word that drops them at the array's first tile), then its own. -/
def ext (i : grid0.Coords) (v3 v4 : FVec Ideal S8x256 .f32) (v8 v9 : FVec Ideal S256x256 .f32) : FVec Ideal S264x256 .f32 :=
  concatenate S264x256 0
    [⟨S8x256, mulf (mulf v3 v4) (broadcast S8x256 (Scalar.sitofp .f32 (Scalar.extui (Scalar.cmpi .sgt (BitVec.ofNat 32 (i 0).val) 0#32) : BitVec 32)))⟩,
      ⟨S256x256, mulf v8 v9⟩] concatenates_S8x256_S256x256_S264x256_d0

theorem ext_apply (i : grid0.Coords) (v3 v4 : FVec Ideal S8x256 .f32) (v8 v9 : FVec Ideal S256x256 .f32) (e : Fin 264) (j : Fin 256) :
    ext i v3 v4 v8 v9 (ix2 e j)
      = if h : e.val < 8 then v3 (ix2 ⟨e.val, h⟩ j) * v4 (ix2 ⟨e.val, h⟩ j)
            * (Scalar.sitofp .f32 (Scalar.extui (Scalar.cmpi .sgt (BitVec.ofNat 32 (i 0).val) 0#32) : BitVec 32) : Ideal .f32)
        else v8 (ix2 ⟨e.val - 8, by omega⟩ j) * v9 (ix2 ⟨e.val - 8, by omega⟩ j) := by
  pointwise [ext]

theorem out_apply (i : grid0.Coords) (v3 v4 : FVec Ideal S8x256 .f32) (v8 v9 : FVec Ideal S256x256 .f32)
    (w0 w1 w2 : FVec Ideal S1x256 .f32) (v31 v32 : FVec Ideal S256x256 .f32) (r j : Fin 256) :
    k0_pay1 (F := Ideal) i v3 v4 v8 v9 w0 w1 w2 v31 v32 (ix2 r j)
      = v31 (ix2 r j) * (ext i v3 v4 v8 v9 (ix2 ⟨r.val + 6, by omega⟩ j) * w0 (ix2 0 j)
        + ext i v3 v4 v8 v9 (ix2 ⟨r.val + 7, by omega⟩ j) * w1 (ix2 0 j)
        + ext i v3 v4 v8 v9 (ix2 ⟨r.val + 8, by omega⟩ j) * w2 (ix2 0 j))
        * (v32 (ix2 r j) * Ideal.logistic (v32 (ix2 r j))) := by
  generalize hE : ext i v3 v4 v8 v9 = E
  unfold ext at hE
  unfold k0_pay1
  dsimp only
  rw [hE]
  pointwise []
  blk_point []

variable (m : (ℓ : Loc nD τ sig) → Buf (Elt Ideal) ℓ) (c : Dev nD)

/-- The arguments. -/
abbrev argP : FVec Ideal S4096x3456 .f32 := m ((c : Thread nD τ).loc main_arg0)
abbrev argW : FVec Ideal S3x256 .f32 := m ((c : Thread nD τ).loc main_arg1)

theorem idx : ∀ t : Fin cfg0.N, win0_0.index t = ![t.val, 5] ∧ win0_1.index t = ![t.val, 3]
    ∧ win0_2.index t = ![t.val, 8] ∧ win0_3.index t = ![t.val * 32 - 1, 3] ∧ win0_4.index t = ![0, 0]
    ∧ win0_5.index t = ![t.val, 0] ∧ (grid0.coords t 0).val = t.val :=
  (by decide +kernel : ∀ t : Fin grid0.N, _)

abbrev b0 (t : Fin cfg0.N) : FVec Ideal S256x256 .f32 := X0_0 m c t
abbrev b1 (t : Fin cfg0.N) : FVec Ideal S256x512 .f32 := X0_1 m c t
abbrev b2 (t : Fin cfg0.N) : FVec Ideal S256x256 .f32 := X0_2 m c t
abbrev b3 (t : Fin cfg0.N) : FVec Ideal S8x512 .f32 := X0_3 m c t
abbrev b4 (t : Fin cfg0.N) : FVec Ideal S8x256 .f32 := iblk m c 4 t

theorem b0_apply (t : Fin cfg0.N) (r j : Fin 256) :
    b0 m c t (ix2 r j) = argP m c (ix2 ⟨256 * t.val + r.val, by have := lt_of_lt_of_eq t.isLt N_0; omega⟩ ⟨1280 + j.val, by omega⟩) := by
  unfold b0 argP X0_0 Pipeline.Window.fill
  rw [dif_pos (moved0_0 t _), ← V_main_arg0 m c]
  blk_ext [iblk, idx t]

theorem b1_apply (t : Fin cfg0.N) (r : Fin 256) (j : Fin 512) :
    b1 m c t (ix2 r j) = argP m c (ix2 ⟨256 * t.val + r.val, by have := lt_of_lt_of_eq t.isLt N_0; omega⟩ ⟨1536 + j.val, by omega⟩) := by
  unfold b1 argP X0_1 Pipeline.Window.fill
  rw [dif_pos (moved0_1 t _), ← V_main_arg0 m c]
  blk_ext [iblk, idx t]

theorem b2_apply (t : Fin cfg0.N) (r j : Fin 256) :
    b2 m c t (ix2 r j) = argP m c (ix2 ⟨256 * t.val + r.val, by have := lt_of_lt_of_eq t.isLt N_0; omega⟩ ⟨2048 + j.val, by omega⟩) := by
  unfold b2 argP X0_2 Pipeline.Window.fill
  rw [dif_pos (moved0_2 t _), ← V_main_arg0 m c]
  blk_ext [iblk, idx t]

/-- The eight rows before the tile; at the array's first tile the window stays on the first block. -/
theorem b3_apply (t : Fin cfg0.N) (r : Fin 8) (j : Fin 512) :
    b3 m c t (ix2 r j) = argP m c (ix2 ⟨8 * (t.val * 32 - 1) + r.val, by have := lt_of_lt_of_eq t.isLt N_0; omega⟩ ⟨1536 + j.val, by omega⟩) := by
  unfold b3 argP X0_3 Pipeline.Window.fill
  rw [dif_pos (moved0_3 t _), ← V_main_arg0 m c]
  blk_ext [iblk, idx t]

/-- The region finds the taps padded to eight rows. -/
theorem V_main_v0 : (V m c main_v0 : FVec Ideal S8x256 .f32)
    = pad S8x256 ![0, 0] ![5, 0] ![0, 0] (argW m c) (sitofp .f32 (constantI S_ 32 0#32)) pads_S3x256_S8x256_050_000 h_S_ := by
  entry_read
  rfl

theorem b4_apply (t : Fin cfg0.N) (k : Fin 8) (j : Fin 256) (hk : k.val < 3) :
    b4 m c t (ix2 k j) = argW m c (ix2 ⟨k.val, hk⟩ j) := by
  have e : b4 m c t (ix2 k j) = (V m c main_v0 : FVec Ideal S8x256 .f32) (ix2 k j) := by
    unfold b4
    blk_ext [iblk, idx t]
  rw [e, V_main_v0]
  pointwise
  rw [dif_pos hk]

theorem tap_eq (t : Fin cfg0.N) (k : Fin 3) (j : Fin 256) (inb) :
    (View.ld (Val := Elt Ideal) (S := S8x256) (e' := .f32) (b4 m c t) (Rect.unit ![k.val, 0] ![1, 256] inb) : FVec Ideal S1x256 .f32) (ix2 0 j)
      = argW m c (ix2 k j) := by
  pointwise
  rw [b4_apply _ _ _ _ _ (by have := k.isLt; dsimp only; omega)]

theorem ext_eq (t : Fin cfg0.N) (e : Fin 264) (he : 6 ≤ e.val) (j : Fin 256) :
    ext (grid0.coords t) (View.ld (Val := Elt Ideal) (S := S8x512) (e' := .f32) (b3 m c t) (Rect.unit ![0, 0] ![8, 256] inb_S8x512_S8x256_0_0))
        (View.ld (Val := Elt Ideal) (S := S8x512) (e' := .f32) (b3 m c t) (Rect.unit ![0, 256] ![8, 256] inb_S8x512_S8x256_0_256))
        (View.ld (Val := Elt Ideal) (S := S256x512) (e' := .f32) (b1 m c t) (Rect.unit ![0, 0] ![256, 256] inb_S256x512_S256x256_0_0))
        (View.ld (Val := Elt Ideal) (S := S256x512) (e' := .f32) (b1 m c t) (Rect.unit ![0, 256] ![256, 256] inb_S256x512_S256x256_0_256)) (ix2 e j)
      = U (argP m c) j (256 * t.val + (e.val - 6)) := by
  have hN : t.val < 16 := lt_of_lt_of_eq t.isLt N_0
  rw [ext_apply, (idx t).2.2.2.2.2.2, Tiles.keep_first _ hN]
  by_cases h : e.val < 8
  · rw [dif_pos h]
    by_cases h0 : 0 < t.val
    · rw [if_pos h0, mul_one]
      pointwise
      rw [b3_apply, b3_apply]
      unfold U
      rw [dif_pos (by omega)]
      blk_point []
    · rw [if_neg h0, mul_zero]
      unfold U
      rw [dif_neg (by omega)]
  · rw [dif_neg h]
    pointwise
    rw [b1_apply, b1_apply]
    unfold U
    rw [dif_pos (by omega)]
    blk_point []

theorem final5 : ((dats m 0 c).arrAt 5 cfg0.N : FVec Ideal S4096x256 .f32) = out (argP m c) (argW m c) := by
  refine (dats m 0 c).arrAt_eq_of_covers 5 _ (by decide +kernel) fun t hf y => ?_
  blk_simp
  rw [after0_5]
  idx_vars y
  have hN : t.val < 16 := lt_of_lt_of_eq t.isLt N_0
  have e : ((View.whole main_v1).slice (win0_5.rect t)).emb (ix2 y0 y1) = ix2 ⟨256 * t.val + y0.val, by omega⟩ y1 := by
    blk_ext [idx t]
  rw [e]
  unfold outsAt0
  frame_out
  rw [out_apply]
  have e6 := ext_eq m c t ⟨y0.val + 6, by omega⟩ (by dsimp only; omega) y1
  have e7 := ext_eq m c t ⟨y0.val + 7, by omega⟩ (by dsimp only; omega) y1
  have e8 := ext_eq m c t ⟨y0.val + 8, by omega⟩ (by dsimp only; omega) y1
  have t0 := tap_eq m c t 0 y1 inb_S8x256_S1x256_0_0
  have t1 := tap_eq m c t 1 y1 inb_S8x256_S1x256_1_0
  have t2 := tap_eq m c t 2 y1 inb_S8x256_S1x256_2_0
  refine congrArg₂ (· * ·) (congrArg₂ (· * ·) (b0_apply m c t y0 y1) ?_)
    (congrArg₂ (· * ·) (b2_apply m c t y0 y1) (congrArg Ideal.logistic (b2_apply m c t y0 y1)))
  refine congrArg₂ (· + ·) (congrArg₂ (· + ·) (congrArg₂ (· * ·) (e6.trans ?_) t0) (congrArg₂ (· * ·) (e7.trans ?_) t1)) (congrArg₂ (· * ·) (e8.trans ?_) t2)
  all_goals congr 1

end Cert.ShortConvFwdIdeal.Tile
-- ==== Proof.ShortConvFwdRef.lean ====
module

public import proofs.«01_k».proof.Proof.ShortConvSpec
public import proofs.«01_k».proof.Proof.Gen.ShortConvFwdRefIdeal.Read
public import Idealize.ShloMosaic.Lib.Pipeline.ValueKit

@[expose] public section

set_option maxRecDepth 16384

noncomputable section

open Idealize.ShloMosaic Idealize.ShloMosaic.TcCoe Idealize.SL.Sem

/-! # The reference's branch output is the formula -/

namespace Cert.ShortConvFwdRefIdeal.Spec

open Cert.ShortConvFwdRefIdeal Cert.ShortConvFwdRefIdeal.Gen Cert.ShortConvFwdRefIdeal.Read Cert.ShortConvSpec

variable (P : FVec Ideal S4096x3456 .f32) (W : FVec Ideal S3x256 .f32)

/-- The padded input of the convolution. -/
theorem padded_apply (a : Fin 4098) (j : Fin 256) : val_main_v6 (F := Ideal) P (ix2 a j) = U P j a.val := by
  pointwise [val_main_v6, val_main_v5, val_main_cst, val_main_v4, val_main_v2, val_main_v1]
  unfold U
  split
  · rw [dif_neg (by omega)]
  · rw [dif_pos (by omega)]

theorem conv_apply (n : Fin 4096) (j : Fin 256) : val_main_v20 (F := Ideal) P W (ix2 n j) = conv P W j n.val := by
  have h0 := padded_apply P ⟨n.val, by omega⟩ j
  have h1 := padded_apply P ⟨n.val + 1, by omega⟩ j
  have h2 := padded_apply P ⟨n.val + 2, by omega⟩ j
  pointwise [val_main_v20, val_main_v19, val_main_v18, val_main_v17, val_main_v16, val_main_v15, val_main_v14, val_main_v13, val_main_v12,
    val_main_v11, val_main_v10, val_main_v9, val_main_v8, val_main_v7]
  unfold conv
  rw [← h0, ← h1, ← h2]
  generalize val_main_v6 (F := Ideal) P = E
  blk_point []

theorem out_spec : val_main_v23 (F := Ideal) P W = out P W := by
  funext i
  idx_vars i
  have h := conv_apply P W i0 i1
  pointwise [val_main_v23, val_main_v22, val_main_call0_v5, val_main_call0_v4, val_main_call0_cst_0, val_main_call0_v3, val_main_call0_v2,
    val_main_call0_cst, val_main_call0_v1, val_main_call0_v0, val_main_v21, val_main_v3, val_main_v0]
  rw [h]
  rfl

end Cert.ShortConvFwdRefIdeal.Spec
-- ==== Proof.ShortConvFwdClaim.lean ====
module

public import proofs.«01_k».proof.Defs
public import proofs.«01_k».proof.Proof.ShortConvFwdTile
public import proofs.«01_k».proof.Proof.ShortConvFwdRef
public import proofs.«01_k».proof.Proof.Gen.ShortConvFwd.Frame
public import Idealize.ShloMosaic.Adequacy

@[expose] public section

noncomputable section

open Idealize.ShloMosaic Idealize.ShloMosaic.TcCoe Idealize.SL.Sem

/-! # The short gated convolution's branch, forward: its claims -/

namespace Cert.ShortConvFwdClaim

theorem frameP : Cert.quiescent_ShortConvFwd (hShortConvFwd := Cert.ShortConvFwd.Gen.facts) := fun m ρ _ => Cert.ShortConvFwd.Gen.frame m ρ

theorem framePI : Cert.quiescent_ShortConvFwdIdeal (hShortConvFwdIdeal := Cert.ShortConvFwdIdeal.Gen.facts) :=
  fun m ρ _ => Cert.ShortConvFwdIdeal.Gen.frame m ρ

theorem frameRI : Cert.quiescent_ShortConvFwdRefIdeal (hShortConvFwdRefIdeal := Cert.ShortConvFwdRefIdeal.Gen.facts) :=
  fun m ρ _ => (θ_run Cert.ShortConvFwdRefIdeal.defs _ _).mono
    (fun r h => ⟨fun c => (h c).2, sem_eq_zero_of_no_sems (by decide) r.2⟩) (Cert.ShortConvFwdRefIdeal.Value.run (F := Ideal) m ρ)

open ShortConvFwdIdeal.Tile in
theorem algebraic : Cert.algebraic_ShortConvFwdIdeal_ShortConvFwdRefIdeal (hShortConvFwdIdeal := Cert.ShortConvFwdIdeal.Gen.facts)
    (hShortConvFwdRefIdeal := Cert.ShortConvFwdRefIdeal.Gen.facts) := by
  intro m ρ m' ρ' _ hagree
  refine ⟨fun c => ShortConvSpec.out (argP m c) (argW m c), ?_, ?_⟩
  · exact (θ_run _ _ _).mono (fun r h c => ⟨(h c).1.trans (final5 m c), (h c).2⟩) (Cert.ShortConvFwdIdeal.Value.run_blocks m ρ)
  · refine (θ_run _ _ _).mono (fun r h c => ⟨(h c).1.trans ?_, (h c).2⟩) (Cert.ShortConvFwdRefIdeal.Value.run (F := Ideal) m' ρ')
    rw [ShortConvFwdRefIdeal.Read.val_main_v23_eq, ShortConvFwdRefIdeal.Spec.out_spec, (hagree c).1, (hagree c).2]

end Cert.ShortConvFwdClaim
-- ==== Proof.LossSpec.lean ====
module

public import proofs.«01_k».proof.Proof.InProjSpec

@[expose] public section

noncomputable section

open Idealize.ShloMosaic

/-! # The loss and its gradients, as formulas over the arrays

`X` is the last block's output, `g` the final gain, `T` the target. -/

namespace Cert.LossSpec

open Cert.InProjSpec (ms hid)

/-- The constants 1/2, 2 and the row's length. -/
def half : EReal := Ideal.ofBits .f32 0x3F000000#32
def two : EReal := Ideal.ofBits .f32 0x40000000#32
def len : EReal := Ideal.ofBits .f32 0x44800000#32

theorem half_eq : half = ((1 / 2 : ℝ) : EReal) := by
  simp [half, Ideal.ofBits, Ideal.ieee]
  rw [← EReal.coe_mul]
  norm_num

theorem two_eq : two = ((2 : ℝ) : EReal) := by
  simp [two, Ideal.ofBits, Ideal.ieee]
  rw [← EReal.coe_mul]
  norm_num

theorem two_mul (a : EReal) : two * a = a + a := by
  have h : ((2 : ℝ) : EReal) = 1 + 1 := by norm_cast
  rw [two_eq, h, EReal.right_distrib_of_nonneg zero_le_one zero_le_one, one_mul]

/-- Half of a sum is the sum of the halves. -/
def halves : EReal →+ EReal where
  toFun a := half * a
  map_zero' := mul_zero _
  map_add' a b := by
    rw [half_eq]
    exact EReal.left_distrib_of_nonneg_of_ne_top (by exact_mod_cast (by norm_num : (0 : ℝ) ≤ 1 / 2)) (EReal.coe_ne_top _) a b

theorem half_sum {n : ℕ} (f : Fin n → EReal) : half * ∑ t, f t = ∑ t, half * f t := map_sum halves f Finset.univ

variable (X T : FVec Ideal ⟨2, ![4096, 1024]⟩ .f32) (g : FVec Ideal ⟨1, ![1024]⟩ .f32)

/-- The error at a row and column. -/
def err (n : Fin 4096) (k : Fin 1024) : EReal := hid X g n k - T (ix2 n k)

/-- What the loss gives back to a row's squares. -/
def coef : EReal := Ideal.div half len

/-- The error's cotangent. -/
def derr (n : Fin 4096) (k : Fin 1024) : EReal := err X T g n k * coef + coef * err X T g n k

theorem derr_eq (n : Fin 4096) (k : Fin 1024) : coef * (two * err X T g n k) = derr X T g n k := by
  rw [mul_left_comm, two_mul, derr, mul_comm coef]

/-- A row's mean square error; nothing past the last row. -/
def rowLoss (n : ℕ) : EReal :=
  if h : n < 4096 then Ideal.div (∑ k : Fin 1024, err X T g ⟨n, h⟩ k * err X T g ⟨n, h⟩ k) len else 0

/-- The loss, at every place of its tile. -/
def loss : FVec Ideal ⟨2, ![8, 128]⟩ .f32 := fun _ => half * ∑ n : Fin 4096, rowLoss X T g n.val

/-- What a row's cotangent gives back through the mean square, halved and spread over the columns. -/
def back (n : Fin 4096) : EReal :=
  Ideal.div ((∑ k : Fin 1024, X (ix2 n k) * (derr X T g n k * g (ix1 k)))
    * (Ideal.ofBits .f32 0xBF000000#32 * Ideal.div (Ideal.rsqrt (ms X n)) (ms X n))) len

/-- The input's cotangent. -/
def dxAt (n : Fin 4096) (k : Fin 1024) : EReal :=
  derr X T g n k * g (ix1 k) * Ideal.rsqrt (ms X n) + X (ix2 n k) * back X T g n + back X T g n * X (ix2 n k)

def dx : FVec Ideal ⟨2, ![4096, 1024]⟩ .f32 := fun i => dxAt X T g ⟨(i 0).val, (i 0).isLt⟩ ⟨(i 1).val, (i 1).isLt⟩

/-- A row's share of the gain's gradient. -/
def dgAt (n : ℕ) (k : Fin 1024) : EReal :=
  if h : n < 4096 then X (ix2 ⟨n, h⟩ k) * Ideal.rsqrt (ms X ⟨n, h⟩) * derr X T g ⟨n, h⟩ k else 0

/-- The gain's gradient. -/
def dg : FVec Ideal ⟨2, ![1, 1024]⟩ .f32 := fun i => ∑ n : Fin 4096, dgAt X T g n.val ⟨(i 1).val, (i 1).isLt⟩

end Cert.LossSpec
-- ==== Proof.LossTile.lean ====
module

public import proofs.«01_k».proof.Proof.LossSpec
public import proofs.«01_k».proof.Proof.Gen.LossHeadIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The loss head over its sixteen tiles -/

namespace Cert.LossHeadIdeal.Tile

open Cert.LossHeadIdeal Cert.LossHeadIdeal.Gen Cert.LossSpec
open Cert.InProjSpec (ms hid)

variable (m : (ℓ : Loc nD τ sig) → Buf (Elt Ideal) ℓ) (c : Dev nD)

/-- The three arguments. -/
def argX : FVec Ideal S4096x1024 .f32 := m ((c : Thread nD τ).loc main_arg0)
def argG : FVec Ideal S1024 .f32 := m ((c : Thread nD τ).loc main_arg1)
def argT : FVec Ideal S4096x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem blkX (t : Fin cfg0.N) (r : Fin 256) (j : Fin 1024) : (iblk m c 0 t : FVec Ideal S256x1024 .f32) (ix2 r j)
    = argX m c (ix2 ⟨256 * t.val + r.val, by have := lt_of_lt_of_eq t.isLt N_0; omega⟩ j) := by
  unfold argX
  rw [← V_main_arg0 m c]
  blk_ext [iblk, idx t]

theorem blkT (t : Fin cfg0.N) (r : Fin 256) (j : Fin 1024) : (iblk m c 2 t : FVec Ideal S256x1024 .f32) (ix2 r j)
    = argT m c (ix2 ⟨256 * t.val + r.val, by have := lt_of_lt_of_eq t.isLt N_0; omega⟩ j) := by
  unfold argT
  rw [← V_main_arg2 m c]
  blk_ext [iblk, idx t]

theorem gain (j : Fin 1024) : (V m c main_v0 : FVec Ideal S1x1024 .f32) (ix2 0 j) = argG m c (ix1 j) := by
  have e : V m c main_v0 = shapeCast _ (argG m c) shapeCasts_S1024_S1x1024 := by
    show StableHlo.after _ _ (Proc.devRef .tc main_v0) = _
    unfold argG
    simp only [hostOps0, List.flatten_cons, List.flatten_nil, List.append_nil, List.cons_append, List.nil_append]
    after_results_simp
    rfl
  rw [e]
  pointwise []

theorem blkG (t : Fin cfg0.N) (j : Fin 1024) : (iblk m c 1 t : FVec Ideal S1x1024 .f32) (ix2 0 j) = argG m c (ix1 j) := by
  rw [← gain m c j]
  blk_ext [iblk, idx t]

/-- A row of the tile in the array. -/
abbrev row (t : Fin cfg0.N) (r : Fin 256) : Fin 4096 := ⟨256 * t.val + r.val, by have := lt_of_lt_of_eq t.isLt N_0; omega⟩

theorem ms_apply (t : Fin cfg0.N) (r : Fin 256) : k0_pay2 (F := Ideal) (iblk m c 0 t) (ix2 r 0) = ms (argX m c) (row t r) := by
  have h0 := blkX m c t r
  generalize (iblk m c 0 t : FVec Ideal S256x1024 .f32) = x at h0 ⊢
  pointwise [k0_pay2]
  simp only [h0]
  rfl

theorem rs_apply (t : Fin cfg0.N) (r : Fin 256) : k0_pay3 (F := Ideal) (iblk m c 0 t) (ix2 r 0) = Ideal.rsqrt (ms (argX m c) (row t r)) := by
  have h := ms_apply m c t r
  generalize (iblk m c 0 t : FVec Ideal S256x1024 .f32) = x at h ⊢
  pointwise [k0_pay3]
  rw [h]

theorem slope_apply (t : Fin cfg0.N) (r : Fin 256) : k0_pay4 (F := Ideal) (iblk m c 0 t) (ix2 r 0)
    = Ideal.ofBits .f32 0xBF000000#32 * Ideal.div (Ideal.rsqrt (ms (argX m c) (row t r))) (ms (argX m c) (row t r)) := by
  have h := ms_apply m c t r
  have h' := rs_apply m c t r
  generalize (iblk m c 0 t : FVec Ideal S256x1024 .f32) = x at h h' ⊢
  pointwise [k0_pay4]
  rw [h, h']

theorem norm_apply (t : Fin cfg0.N) (r : Fin 256) (j : Fin 1024) : k0_pay5 (F := Ideal) (iblk m c 0 t) (ix2 r j)
    = argX m c (ix2 (row t r) j) * Ideal.rsqrt (ms (argX m c) (row t r)) := by
  have h := blkX m c t r j
  have h' := rs_apply m c t r
  generalize (iblk m c 0 t : FVec Ideal S256x1024 .f32) = x at h h' ⊢
  pointwise [k0_pay5]
  rw [h, h']

/-- The tile's error. -/
def errs (t : Fin cfg0.N) : FVec Ideal S256x1024 .f32 := k0_pay6 (F := Ideal) (iblk m c 2 t) (iblk m c 0 t) (iblk m c 1 t)

theorem err_apply (t : Fin cfg0.N) (r : Fin 256) (j : Fin 1024) : errs m c t (ix2 r j) = err (argX m c) (argT m c) (argG m c) (row t r) j := by
  have h := norm_apply m c t r j
  have hT := blkT m c t r j
  have hG := blkG m c t j
  unfold errs
  generalize (iblk m c 0 t : FVec Ideal S256x1024 .f32) = x at h ⊢
  generalize (iblk m c 2 t : FVec Ideal S256x1024 .f32) = y at hT ⊢
  generalize (iblk m c 1 t : FVec Ideal S1x1024 .f32) = z at hG ⊢
  pointwise [k0_pay6, k0_pay1]
  rw [h, hT, hG]
  rfl

theorem coef_apply (r : Fin 256) : k0_pay8 (F := Ideal) (ix2 r 0) = coef := by
  pointwise [k0_pay8]
  simp only [Fin.sum_univ_one]
  rfl

theorem derr_apply (t : Fin cfg0.N) (r : Fin 256) (j : Fin 1024) :
    k0_pay9 (F := Ideal) (errs m c t) (k0_pay8 (F := Ideal)) (ix2 r j) = derr (argX m c) (argT m c) (argG m c) (row t r) j := by
  have h := err_apply m c t r j
  have h' := coef_apply r
  generalize errs m c t = x at h ⊢
  generalize k0_pay8 (F := Ideal) = y at h' ⊢
  pointwise [k0_pay9]
  simp only [Fin.sum_univ_one, h, h']
  rfl

/-- A tile's input cotangent. -/
theorem dx_apply (t : Fin cfg0.N) (r : Fin 256) (j : Fin 1024) :
    k0_pay10 (F := Ideal) (iblk m c 0 t) (k0_pay1 (F := Ideal) (iblk m c 1 t)) (k0_pay3 (F := Ideal) (iblk m c 0 t)) (k0_pay4 (F := Ideal) (iblk m c 0 t))
        (errs m c t) (k0_pay8 (F := Ideal)) (ix2 r j)
      = dxAt (argX m c) (argT m c) (argG m c) (row t r) j := by
  have hX := blkX m c t r
  have hG := blkG m c t
  have h3 := rs_apply m c t r
  have h4 := slope_apply m c t r
  have h9 := derr_apply m c t r
  generalize k0_pay3 (F := Ideal) (iblk m c 0 t) = a at h3 ⊢
  generalize k0_pay4 (F := Ideal) (iblk m c 0 t) = b at h4 ⊢
  unfold k0_pay10
  generalize k0_pay9 (F := Ideal) (errs m c t) (k0_pay8 (F := Ideal)) = d at h9 ⊢
  generalize (iblk m c 0 t : FVec Ideal S256x1024 .f32) = x at hX ⊢
  generalize (iblk m c 1 t : FVec Ideal S1x1024 .f32) = z at hG ⊢
  pointwise [k0_pay1]
  simp only [Fin.sum_univ_one, hX, hG, h3, h4, h9]
  rfl

/-- A tile's share of the gain's gradient. -/
theorem dg_apply (t : Fin cfg0.N) (P : FVec Ideal S1x1024 .f32) (i : S1x1024.Idx) :
    k0_pay13 (F := Ideal) (k0_pay5 (F := Ideal) (iblk m c 0 t)) (errs m c t) (k0_pay8 (F := Ideal)) P i
      = P i + ∑ r : Fin 256, dgAt (argX m c) (argT m c) (argG m c) (256 * t.val + r.val) ⟨(i 1).val, (i 1).isLt⟩ := by
  idx_vars i
  obtain rfl : i0 = 0 := Subsingleton.elim _ _
  have h5 := norm_apply m c t
  have h9 := derr_apply m c t
  generalize k0_pay5 (F := Ideal) (iblk m c 0 t) = a at h5 ⊢
  unfold k0_pay13
  generalize k0_pay9 (F := Ideal) (errs m c t) (k0_pay8 (F := Ideal)) = d at h9 ⊢
  pointwise []
  simp only [h5, h9]
  refine congrArg₂ (· + ·) rfl (Finset.sum_congr rfl fun r _ => ?_)
  unfold dgAt
  have hN : t.val < 16 := lt_of_lt_of_eq t.isLt N_0
  rw [dif_pos (by omega)]

/-- A tile's share of the loss. -/
theorem loss_apply (t : Fin cfg0.N) (P : FVec Ideal S8x128 .f32) (i : S8x128.Idx) :
    k0_pay14 (F := Ideal) (k0_pay7 (F := Ideal) (iblk m c 2 t) (iblk m c 0 t) (iblk m c 1 t)) P i
      = P i + half * ∑ r : Fin 256, rowLoss (argX m c) (argT m c) (argG m c) (256 * t.val + r.val) := by
  idx_vars i
  have h6 := err_apply m c t
  unfold errs at h6
  unfold k0_pay7
  generalize k0_pay6 (F := Ideal) (iblk m c 2 t) (iblk m c 0 t) (iblk m c 1 t) = d at h6 ⊢
  pointwise [k0_pay14]
  simp only [h6]
  refine congrArg₂ (· + ·) rfl (congrArg₂ (· * ·) rfl (Finset.sum_congr rfl fun r _ => ?_))
  unfold rowLoss
  have hN : t.val < 16 := lt_of_lt_of_eq t.isLt N_0
  rw [dif_pos (by omega)]
  rfl

/-- The input's cotangent. -/
theorem final4 : ((dats m 0 c).arrAt 4 cfg0.N : FVec Ideal S4096x1024 .f32) = dx (argX m c) (argT m c) (argG m c) := by
  refine (dats m 0 c).arrAt_eq_of_covers 4 _ (by decide +kernel) fun t hf y => ?_
  blk_simp
  rw [after0_4]
  idx_vars y
  have hN : t.val < 16 := lt_of_lt_of_eq t.isLt N_0
  have e : ((View.whole main_v1_1).slice (win0_4.rect t)).emb (ix2 y0 y1) = ix2 (row t y0) y1 := by
    blk_ext [idx t]
  rw [e]
  by_cases h : t.val % 16 = 0
  · rw [outsAt0_A m c t h]
    frame_out
    exact dx_apply m c t y0 y1
  · rw [outsAt0_B m c t h]
    frame_out
    exact dx_apply m c t y0 y1

theorem dg_step_A (t : Fin cfg0.N) (h : t.val % 16 = 0) (i : S1x1024.Idx) :
    (outsAt0 m c t.val t.isLt).2.2 i
      = 0 + ∑ r : Fin 256, dgAt (argX m c) (argT m c) (argG m c) (256 * t.val + r.val) ⟨(i 1).val, (i 1).isLt⟩ := by
  rw [outsAt0_A m c t h]
  frame_open
  simp (disch := decide) only [↓ View.readCov_skip, ↓ View.readCov_cons_toLoadRect, ↓ View.readCov_fill]
  frame_out
  have z : ∀ x, k0_pay11 (F := Ideal) x = 0 := fun x => by idx_vars x; pointwise [k0_pay11]
  exact (dg_apply m c t _ i).trans (congrArg₂ (· + ·) (z i) rfl)

theorem dg_step_B (t : Fin cfg0.N) (h : ¬ t.val % 16 = 0) (hp) (i : S1x1024.Idx) :
    (outsAt0 m c t.val t.isLt).2.2 i
      = (outsAt0 m c (t.val - 1) hp).2.2 i
        + ∑ r : Fin 256, dgAt (argX m c) (argT m c) (argG m c) (256 * t.val + r.val) ⟨(i 1).val, (i 1).isLt⟩ := by
  rw [outsAt0_B m c t h]
  frame_out
  exact dg_apply m c t _ i

/-- The gain's gradient. -/
theorem final5 : ((dats m 0 c).arrAt 5 cfg0.N : FVec Ideal S1x1024 .f32) = dg (argX m c) (argT m c) (argG m c) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun t i => ∑ r : Fin 256, dgAt (argX m c) (argT m c) (argG m c) (256 * t.val + r.val) ⟨(i 1).val, (i 1).isLt⟩)
    (fun t h j => dg_step_A m c t h j) (fun t h j => dg_step_B m c t h _ j) (le_of_eq N_0) t0_15 rfl j, zero_add]
  refine Fin.sum_mul_add_congr fun s r hl => ?_
  dsimp only
  congr 1
  omega

theorem loss_step_A (t : Fin cfg0.N) (h : t.val % 16 = 0) (i : S8x128.Idx) :
    (outsAt0 m c t.val t.isLt).1 i
      = 0 + half * ∑ r : Fin 256, rowLoss (argX m c) (argT m c) (argG m c) (256 * t.val + r.val) := by
  rw [outsAt0_A m c t h]
  frame_open
  simp (disch := decide) only [↓ View.readCov_skip, ↓ View.readCov_cons_toLoadRect, ↓ View.readCov_fill]
  frame_out
  have z : ∀ x, k0_pay12 (F := Ideal) x = 0 := fun x => by idx_vars x; pointwise [k0_pay12]
  exact (loss_apply m c t _ i).trans (congrArg₂ (· + ·) (z i) rfl)

theorem loss_step_B (t : Fin cfg0.N) (h : ¬ t.val % 16 = 0) (hp) (i : S8x128.Idx) :
    (outsAt0 m c t.val t.isLt).1 i
      = (outsAt0 m c (t.val - 1) hp).1 i + half * ∑ r : Fin 256, rowLoss (argX m c) (argT m c) (argG m c) (256 * t.val + r.val) := by
  rw [outsAt0_B m c t h]
  frame_out
  exact loss_apply m c t _ i

/-- The loss. -/
theorem final3 : ((dats m 0 c).arrAt 3 cfg0.N : FVec Ideal S8x128 .f32) = loss (argX m c) (argT m c) (argG m c) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun t i => half * ∑ r : Fin 256, rowLoss (argX m c) (argT m c) (argG m c) (256 * t.val + r.val))
    (fun t h j => loss_step_A m c t h j) (fun t h j => loss_step_B m c t h _ j) (le_of_eq N_0) t0_15 rfl j, zero_add, ← half_sum]
  refine congrArg (half * ·) (Fin.sum_mul_add_congr fun s r hl => ?_)
  dsimp only
  congr 1
  omega

end Cert.LossHeadIdeal.Tile
-- ==== Proof.LossRef.lean ====
module

public import proofs.«01_k».proof.Proof.LossSpec
public import proofs.«01_k».proof.Proof.Gen.LossHeadRefIdeal.Read
public import Idealize.ShloMosaic.Lib.Pipeline.ValueKit

@[expose] public section

set_option maxRecDepth 16384

noncomputable section

open Idealize.ShloMosaic Idealize.ShloMosaic.TcCoe Idealize.SL.Sem

/-! # The reference's loss and gradients are the formulas -/

namespace Cert.LossHeadRefIdeal.Spec

open Cert.LossHeadRefIdeal Cert.LossHeadRefIdeal.Gen Cert.LossHeadRefIdeal.Read Cert.LossSpec
open Cert.InProjSpec (ms hid)

variable (X T : FVec Ideal S4096x1024 .f32) (g : FVec Ideal S1024 .f32)

theorem ms_apply (n : Fin 4096) : val_main_v6 (F := Ideal) X (ix2 n 0) = ms X n := by
  pointwise [val_main_v6, val_main_v5, val_main_cst_1, val_main_v4, val_main_v3, val_main_cst_0, val_main_v2, val_main_v1, val_main_v0, val_main_cst]
  rfl

theorem err_apply (n : Fin 4096) (k : Fin 1024) : val_main_v16 (F := Ideal) X g T (ix2 n k) = err X T g n k := by
  pointwise [val_main_v16, val_main_v15, val_main_v14, val_main_v13, val_main_v12, val_main_v11, val_main_v7]
  rw [ms_apply]
  rfl

theorem derr_apply (n : Fin 4096) (k : Fin 1024) : val_main_v30 (F := Ideal) X g T (ix2 n k) = derr X T g n k := by
  have h := err_apply X T g n k
  rw [← derr_eq]
  pointwise [val_main_v30, val_main_v29, val_main_v28, val_main_v27, val_main_cst_10, val_main_v26, val_main_v25, val_main_cst_9, val_main_cst_8,
    val_main_v19, val_main_v18, val_main_cst_3]
  rw [h]
  rfl

theorem loss_spec : val_main_v51 (F := Ideal) X g T = loss X T g := by
  funext i
  idx_vars i
  have h := err_apply X T g
  pointwise [val_main_v51, val_main_v24, val_main_cst_7, val_main_v23, val_main_cst_6, val_main_v22, val_main_v21, val_main_cst_5, val_main_v20,
    val_main_cst_4, val_main_v17]
  simp only [h]
  refine congrArg₂ (· * ·) rfl (Finset.sum_congr rfl fun n _ => ?_)
  unfold rowLoss
  rw [dif_pos n.isLt]
  rfl

theorem dx_spec : val_main_v50 (F := Ideal) X g T = dx X T g := by
  funext i
  idx_vars i
  have h := derr_apply X T g i0
  have h6 := ms_apply X i0
  pointwise [val_main_v50, val_main_v49, val_main_v48, val_main_v47, val_main_v46, val_main_v45, val_main_cst_15, val_main_v44, val_main_v43,
    val_main_cst_14, val_main_v42, val_main_v41, val_main_v40, val_main_v39, val_main_v38, val_main_cst_13, val_main_v37, val_main_v35, val_main_v34,
    val_main_v13, val_main_v10, val_main_v9, val_main_cst_2, val_main_v8, val_main_v7]
  simp only [Fin.sum_univ_one, h, h6]
  rfl

theorem dg_spec : val_main_v52 (F := Ideal) X g T = dg X T g := by
  funext i
  idx_vars i
  have h := fun n => derr_apply X T g n i1
  have h6 := ms_apply X
  pointwise [val_main_v52, val_main_v36, val_main_cst_12, val_main_v33, val_main_v32, val_main_cst_11, val_main_v31, val_main_v12, val_main_v11, val_main_v7]
  simp only [Fin.sum_univ_one, h, h6]
  unfold dg
  refine Finset.sum_congr rfl fun n _ => ?_
  unfold dgAt
  rw [dif_pos n.isLt]
  rfl

end Cert.LossHeadRefIdeal.Spec
-- ==== Proof.LossClaim.lean ====
module

public import proofs.«01_k».proof.Defs
public import proofs.«01_k».proof.Proof.LossTile
public import proofs.«01_k».proof.Proof.LossRef
public import proofs.«01_k».proof.Proof.Gen.LossHead.Frame
public import Idealize.ShloMosaic.Adequacy

@[expose] public section

noncomputable section

open Idealize.ShloMosaic Idealize.ShloMosaic.TcCoe Idealize.SL.Sem

/-! # The loss head: its claims -/

namespace Cert.LossClaim

theorem frameP : Cert.quiescent_LossHead (hLossHead := Cert.LossHead.Gen.facts) := fun m ρ _ => Cert.LossHead.Gen.frame m ρ

theorem framePI : Cert.quiescent_LossHeadIdeal (hLossHeadIdeal := Cert.LossHeadIdeal.Gen.facts) := fun m ρ _ => Cert.LossHeadIdeal.Gen.frame m ρ

theorem frameRI : Cert.quiescent_LossHeadRefIdeal (hLossHeadRefIdeal := Cert.LossHeadRefIdeal.Gen.facts) :=
  fun m ρ _ => (θ_run Cert.LossHeadRefIdeal.defs _ _).mono
    (fun r h => ⟨fun c => (h c).2.2.2, sem_eq_zero_of_no_sems (by decide) r.2⟩) (Cert.LossHeadRefIdeal.Value.run (F := Ideal) m ρ)

open LossHeadIdeal.Tile in
theorem algebraic : Cert.algebraic_LossHeadIdeal_LossHeadRefIdeal (hLossHeadIdeal := Cert.LossHeadIdeal.Gen.facts)
    (hLossHeadRefIdeal := Cert.LossHeadRefIdeal.Gen.facts) := by
  intro m ρ m' ρ' _ hagree
  refine ⟨fun c => LossSpec.loss (argX m c) (argT m c) (argG m c), fun c => LossSpec.dx (argX m c) (argT m c) (argG m c),
    fun c => LossSpec.dg (argX m c) (argT m c) (argG m c), ?_, ?_⟩
  · refine (θ_run _ _ _).mono (fun r h c => ⟨(h c).1.trans (final3 m c), (h c).2.1.trans (final4 m c), (h c).2.2.1.trans (final5 m c), (h c).2.2.2⟩)
      (Cert.LossHeadIdeal.Value.run_blocks m ρ)
  · refine (θ_run _ _ _).mono (fun r h c => ⟨(h c).1.trans ?_, (h c).2.1.trans ?_, (h c).2.2.1.trans ?_, (h c).2.2.2⟩)
      (Cert.LossHeadRefIdeal.Value.run (F := Ideal) m' ρ')
    · rw [LossHeadRefIdeal.Read.val_main_v51_eq, LossHeadRefIdeal.Spec.loss_spec, (hagree c).1, (hagree c).2.1, (hagree c).2.2]
      rfl
    · rw [LossHeadRefIdeal.Read.val_main_v50_eq, LossHeadRefIdeal.Spec.dx_spec, (hagree c).1, (hagree c).2.1, (hagree c).2.2]
      rfl
    · rw [LossHeadRefIdeal.Read.val_main_v52_eq, LossHeadRefIdeal.Spec.dg_spec, (hagree c).1, (hagree c).2.1, (hagree c).2.2]
      rfl

end Cert.LossClaim
-- ==== Proof.AdamRule.lean ====
module

public import proofs.«01_k».proof.Defs
public import Idealize.ShloMosaic.Lib.Pointwise

@[expose] public section

noncomputable section

open Idealize.ShloMosaic

/-! # AdamW's three results, element by element -/

namespace Cert.AdamRule

variable {S S' : Shape}

/-- A number the source writes. -/
abbrev lit (b : BitVec 32) : Ideal .f32 := Scalar.ofBits .f32 b

/-- The first moment of a gradient and a moment. -/
def first₀ (g u : Ideal .f32) : Ideal .f32 :=
  FloatOps.addf (FloatOps.mulf (lit 0x3F666666#32) u) (FloatOps.mulf (lit 0x3DCCCCCD#32) g)

/-- The second. -/
def second₀ (g v : Ideal .f32) : Ideal .f32 :=
  FloatOps.addf (FloatOps.mulf (lit 0x3F7FBE77#32) v) (FloatOps.mulf (lit 0x3A83126F#32) (FloatOps.mulf g g))

/-- The weight's step. -/
def delta₀ (w g u v : Ideal .f32) : Ideal .f32 :=
  FloatOps.mulf (lit 0xBA83126F#32) (FloatOps.addf
    (FloatOps.divf (FloatOps.divf (first₀ g u) (lit 0x3F26BD02#32))
      (FloatOps.addf (FloatOps.sqrt (FloatOps.divf (second₀ g v) (lit 0x3C231ACC#32))) (lit 0x322BCC77#32)))
    (FloatOps.mulf (lit 0x3C23D70A#32) w))

def first (g u : FVec Ideal S .f32) : FVec Ideal S .f32 := fun i => first₀ (g i) (u i)

def second (g v : FVec Ideal S .f32) : FVec Ideal S .f32 := fun i => second₀ (g i) (v i)

def delta (w g u v : FVec Ideal S .f32) : FVec Ideal S .f32 := fun i => delta₀ (w i) (g i) (u i) (v i)

theorem first_congr {g u : FVec Ideal S .f32} {g' u' : FVec Ideal S' .f32} {i : S.Idx} {i' : S'.Idx} (hg : g i = g' i') (hu : u i = u' i') :
    first g u i = first g' u' i' := by
  unfold first
  rw [hg, hu]

theorem second_congr {g v : FVec Ideal S .f32} {g' v' : FVec Ideal S' .f32} {i : S.Idx} {i' : S'.Idx} (hg : g i = g' i') (hv : v i = v' i') :
    second g v i = second g' v' i' := by
  unfold second
  rw [hg, hv]

theorem delta_congr {w g u v : FVec Ideal S .f32} {w' g' u' v' : FVec Ideal S' .f32} {i : S.Idx} {i' : S'.Idx} (hw : w i = w' i')
    (hg : g i = g' i') (hu : u i = u' i') (hv : v i = v' i') : delta w g u v i = delta w' g' u' v' i' := by
  unfold delta
  rw [hw, hg, hu, hv]

end Cert.AdamRule
-- ==== Proof.AdamOutRun.lean ====
module

public import proofs.«01_k».proof.Proof.AdamRule
public import proofs.«01_k».proof.Proof.Gen.AdamOutIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

/-! # The output projection's weight: what the call returns

The lines in front of the call lay the four arrays out as one matrix each, the lines behind it lay the three results out as the
weight is; between them each element is AdamW's of the same element. -/

namespace Cert.AdamOutIdeal.Tile

open Cert.AdamOutIdeal Cert.AdamOutIdeal.Gen Cert.AdamRule

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the array that a tile's row is. -/
def row (t : Fin cfg0.N) (r : Fin 512) : Fin 1024 := ⟨512 * t.val + r.val, by
  have hN : t.val < 2 := lt_of_lt_of_eq t.isLt N_0
  omega⟩

theorem blk0 (t : Fin cfg0.N) (r : Fin 512) (j : Fin 1024) :
    (iblk m c 0 t : FVec Ideal S512x1024 .f32) (ix2 r j) = (V m c main_v0 : FVec Ideal S1024x1024 .f32) (ix2 (row t r) j) := by
  blk_ext [iblk, idx t, row]

theorem blk1 (t : Fin cfg0.N) (r : Fin 512) (j : Fin 1024) :
    (iblk m c 1 t : FVec Ideal S512x1024 .f32) (ix2 r j) = (V m c main_v1 : FVec Ideal S1024x1024 .f32) (ix2 (row t r) j) := by
  blk_ext [iblk, idx t, row]

theorem blk2 (t : Fin cfg0.N) (r : Fin 512) (j : Fin 1024) :
    (iblk m c 2 t : FVec Ideal S512x1024 .f32) (ix2 r j) = (V m c main_v2 : FVec Ideal S1024x1024 .f32) (ix2 (row t r) j) := by
  blk_ext [iblk, idx t, row]

theorem blk3 (t : Fin cfg0.N) (r : Fin 512) (j : Fin 1024) :
    (iblk m c 3 t : FVec Ideal S512x1024 .f32) (ix2 r j) = (V m c main_v3 : FVec Ideal S1024x1024 .f32) (ix2 (row t r) j) := by
  blk_ext [iblk, idx t, row]

/-! ## The body's three values -/

theorem pay2 (g u : FVec Ideal S512x1024 .f32) : k0_pay2 (F := Ideal) g u = first g u := by
  unfold k0_pay2 k0_pay1
  simp only [shapeCast_self]
  rfl

theorem pay3 (g u : FVec Ideal S512x1024 .f32) : k0_pay3 (F := Ideal) g u = second g u := by
  unfold k0_pay3 k0_pay1
  simp only [shapeCast_self]
  rfl

theorem pay4 (g u v w : FVec Ideal S512x1024 .f32) : k0_pay4 (F := Ideal) g u v w = delta w g u v := by
  unfold k0_pay4
  simp only [shapeCast_self, pay2, pay3]
  rfl

/-! ## The three arrays -/

theorem final4 : ((dats m 0 c).arrAt 4 cfg0.N : FVec Ideal S1024x1024 .f32)
    = delta (V m c main_v0) (V m c main_v1) (V m c main_v2) (V m c main_v3) := by
  refine (dats m 0 c).arrAt_eq_of_covers 4 _ (by decide +kernel) fun t hf y => ?_
  blk_simp
  rw [after0_4]
  idx_vars y
  have e : ((View.whole main_v4_0).slice (win0_4.rect t)).emb (ix2 y0 y1) = ix2 (row t y0) y1 := by
    blk_ext [idx t, row]
  rw [e]
  frame_out
  rw [pay4]
  exact delta_congr (blk0 m c t y0 y1) (blk1 m c t y0 y1) (blk2 m c t y0 y1) (blk3 m c t y0 y1)

theorem final5 : ((dats m 0 c).arrAt 5 cfg0.N : FVec Ideal S1024x1024 .f32) = first (V m c main_v1) (V m c main_v2) := by
  refine (dats m 0 c).arrAt_eq_of_covers 5 _ (by decide +kernel) fun t hf y => ?_
  blk_simp
  rw [after0_5]
  idx_vars y
  have e : ((View.whole main_v4_1).slice (win0_5.rect t)).emb (ix2 y0 y1) = ix2 (row t y0) y1 := by
    blk_ext [idx t, row]
  rw [e]
  frame_out
  rw [pay2]
  exact first_congr (blk1 m c t y0 y1) (blk2 m c t y0 y1)

theorem final6 : ((dats m 0 c).arrAt 6 cfg0.N : FVec Ideal S1024x1024 .f32) = second (V m c main_v1) (V m c main_v3) := by
  refine (dats m 0 c).arrAt_eq_of_covers 6 _ (by decide +kernel) fun t hf y => ?_
  blk_simp
  rw [after0_6]
  idx_vars y
  have e : ((View.whole main_v4_2).slice (win0_6.rect t)).emb (ix2 y0 y1) = ix2 (row t y0) y1 := by
    blk_ext [idx t, row]
  rw [e]
  frame_out
  rw [pay3]
  exact second_congr (blk1 m c t y0 y1) (blk3 m c t y0 y1)

/-! ## The lines around the call -/

/-- A weight's array as the call reads it. -/
def flat (x : FVec Ideal S4x256x1024 .f32) : FVec Ideal S1024x1024 .f32 := shapeCast S1024x1024 x shapeCasts_S4x256x1024_S1024x1024

/-- A result as it is returned. -/
def back (x : FVec Ideal S1024x1024 .f32) : FVec Ideal S4x256x1024 .f32 := shapeCast S4x256x1024 x shapeCasts_S1024x1024_S4x256x1024

theorem back_flat (x : FVec Ideal S4x256x1024 .f32) : back (flat x) = x := by
  unfold back flat
  rw [shapeCast_shapeCast]

theorem head0 (σ : Valuation τ sig (Elt Ideal)) :
    StableHlo.after hostOps0 σ (Proc.devRef .tc main_v0) = flat (σ (Proc.devRef .tc main_arg0)) := by
  after_results_simp
  rfl

theorem head1 (σ : Valuation τ sig (Elt Ideal)) :
    StableHlo.after hostOps0 σ (Proc.devRef .tc main_v1) = flat (σ (Proc.devRef .tc main_arg1)) := by
  after_results_simp
  rfl

theorem head2 (σ : Valuation τ sig (Elt Ideal)) :
    StableHlo.after hostOps0 σ (Proc.devRef .tc main_v2) = flat (σ (Proc.devRef .tc main_arg2)) := by
  after_results_simp
  rfl

theorem head3 (σ : Valuation τ sig (Elt Ideal)) :
    StableHlo.after hostOps0 σ (Proc.devRef .tc main_v3) = flat (σ (Proc.devRef .tc main_arg3)) := by
  after_results_simp
  rfl

theorem tail5 (σ : Valuation τ sig (Elt Ideal)) :
    StableHlo.after hostOps1 σ (Proc.devRef .tc main_v5) = back (σ (Proc.devRef .tc (Pipeline.arrRef spec0 4))) := by
  after_results_simp
  rfl

theorem tail6 (σ : Valuation τ sig (Elt Ideal)) :
    StableHlo.after hostOps1 σ (Proc.devRef .tc main_v6) = back (σ (Proc.devRef .tc (Pipeline.arrRef spec0 5))) := by
  after_results_simp
  rfl

theorem tail7 (σ : Valuation τ sig (Elt Ideal)) :
    StableHlo.after hostOps1 σ (Proc.devRef .tc main_v7) = back (σ (Proc.devRef .tc (Pipeline.arrRef spec0 6))) := by
  after_results_simp
  rfl

/-- The four arguments. -/
def a0 : FVec Ideal S4x256x1024 .f32 := m ((c : Thread nD τ).loc main_arg0)
def a1 : FVec Ideal S4x256x1024 .f32 := m ((c : Thread nD τ).loc main_arg1)
def a2 : FVec Ideal S4x256x1024 .f32 := m ((c : Thread nD τ).loc main_arg2)
def a3 : FVec Ideal S4x256x1024 .f32 := m ((c : Thread nD τ).loc main_arg3)

theorem V0_eq : (V m c main_v0 : FVec Ideal S1024x1024 .f32) = flat (a0 m c) := head0 _
theorem V1_eq : (V m c main_v1 : FVec Ideal S1024x1024 .f32) = flat (a1 m c) := head1 _
theorem V2_eq : (V m c main_v2 : FVec Ideal S1024x1024 .f32) = flat (a2 m c) := head2 _
theorem V3_eq : (V m c main_v3 : FVec Ideal S1024x1024 .f32) = flat (a3 m c) := head3 _

theorem back_delta (w g u v : FVec Ideal S4x256x1024 .f32) : back (delta (flat w) (flat g) (flat u) (flat v)) = delta w g u v :=
  funext fun i => delta_congr (congrFun (back_flat w) i) (congrFun (back_flat g) i) (congrFun (back_flat u) i) (congrFun (back_flat v) i)

theorem back_first (g u : FVec Ideal S4x256x1024 .f32) : back (first (flat g) (flat u)) = first g u :=
  funext fun i => first_congr (congrFun (back_flat g) i) (congrFun (back_flat u) i)

theorem back_second (g v : FVec Ideal S4x256x1024 .f32) : back (second (flat g) (flat v)) = second g v :=
  funext fun i => second_congr (congrFun (back_flat g) i) (congrFun (back_flat v) i)

theorem res5 : (Pipeline.afterTail₀ cfgs (dats m) 0 (V0 m) [hostOps1] c main_v5 : FVec Ideal S4x256x1024 .f32)
    = delta (a0 m c) (a1 m c) (a2 m c) (a3 m c) := by
  refine (tail5 _).trans ((congrArg back ((Pipeline.withArrays_arr spec0 launch0.win.arr_inj c _ _ 4).trans (final4 m c))).trans ?_)
  rw [V0_eq, V1_eq, V2_eq, V3_eq, back_delta]

theorem res6 : (Pipeline.afterTail₀ cfgs (dats m) 0 (V0 m) [hostOps1] c main_v6 : FVec Ideal S4x256x1024 .f32)
    = first (a1 m c) (a2 m c) := by
  refine (tail6 _).trans ((congrArg back ((Pipeline.withArrays_arr spec0 launch0.win.arr_inj c _ _ 5).trans (final5 m c))).trans ?_)
  rw [V1_eq, V2_eq, back_first]

theorem res7 : (Pipeline.afterTail₀ cfgs (dats m) 0 (V0 m) [hostOps1] c main_v7 : FVec Ideal S4x256x1024 .f32)
    = second (a1 m c) (a3 m c) := by
  refine (tail7 _).trans ((congrArg back ((Pipeline.withArrays_arr spec0 launch0.win.arr_inj c _ _ 6).trans (final6 m c))).trans ?_)
  rw [V1_eq, V3_eq, back_second]

theorem run (ρ : Dev nD → PrngReg) : θ_run defs (onTc (τ := τ) (main (F := Ideal))) ⟨m, fun _ => 0, ρ⟩ (fun r => ∀ c : Dev nD,
      r.2.mem ((c : Thread nD τ).loc main_v5) = delta (a0 m c) (a1 m c) (a2 m c) (a3 m c)
      ∧ r.2.mem ((c : Thread nD τ).loc main_v6) = first (a1 m c) (a2 m c)
      ∧ r.2.mem ((c : Thread nD τ).loc main_v7) = second (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    have at' (b : Ref sig .tc) (hb : b ∈ Pipeline.restRefs sig spec0) := (h c).2 b hb
    ⟨(at' main_v5 (Pipeline.mem_restRefs_of main_v5 (by decide) (by decide))).trans (res5 m c),
      (at' main_v6 (Pipeline.mem_restRefs_of main_v6 (by decide) (by decide))).trans (res6 m c),
      (at' main_v7 (Pipeline.mem_restRefs_of main_v7 (by decide) (by decide))).trans (res7 m c),
      (at' main_arg0 (Pipeline.mem_restRefs_of main_arg0 (by decide) (by decide))).trans (W_main_arg0 m (dats m) c),
      (at' main_arg1 (Pipeline.mem_restRefs_of main_arg1 (by decide) (by decide))).trans (W_main_arg1 m (dats m) c),
      (at' main_arg2 (Pipeline.mem_restRefs_of main_arg2 (by decide) (by decide))).trans (W_main_arg2 m (dats m) c),
      (at' main_arg3 (Pipeline.mem_restRefs_of main_arg3 (by decide) (by decide))).trans (W_main_arg3 m (dats m) c)⟩) (run_main m ρ)

end Cert.AdamOutIdeal.Tile
-- ==== Proof.AdamInRun.lean ====
module

public import proofs.«01_k».proof.Proof.AdamRule
public import proofs.«01_k».proof.Proof.Gen.AdamInIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

/-! # The input projection's weight: what the call returns

The lines in front of the call put the weight's columns in front, the lines behind it put them back; between them each element is
AdamW's of the same element. -/

namespace Cert.AdamInIdeal.Tile

open Cert.AdamInIdeal Cert.AdamInIdeal.Gen Cert.AdamRule

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The column of the weight that a tile's column is. -/
def col (t : Fin cfg0.N) (k : Fin 139) : Fin 834 := ⟨139 * t.val + k.val, by
  have hN : t.val < 6 := lt_of_lt_of_eq t.isLt N_0
  omega⟩

theorem blk0 (t : Fin cfg0.N) (k : Fin 139) (l : Fin 4) (j : Fin 1024) :
    (iblk m c 0 t : FVec Ideal S139x4x1024 .f32) (ix3 k l j) = (V m c main_v0 : FVec Ideal S834x4x1024 .f32) (ix3 (col t k) l j) := by
  blk_ext [iblk, idx t, col]

theorem blk1 (t : Fin cfg0.N) (k : Fin 139) (l : Fin 4) (j : Fin 1024) :
    (iblk m c 1 t : FVec Ideal S139x4x1024 .f32) (ix3 k l j) = (V m c main_v1 : FVec Ideal S834x4x1024 .f32) (ix3 (col t k) l j) := by
  blk_ext [iblk, idx t, col]

theorem blk2 (t : Fin cfg0.N) (k : Fin 139) (l : Fin 4) (j : Fin 1024) :
    (iblk m c 2 t : FVec Ideal S139x4x1024 .f32) (ix3 k l j) = (V m c main_v2 : FVec Ideal S834x4x1024 .f32) (ix3 (col t k) l j) := by
  blk_ext [iblk, idx t, col]

theorem blk3 (t : Fin cfg0.N) (k : Fin 139) (l : Fin 4) (j : Fin 1024) :
    (iblk m c 3 t : FVec Ideal S139x4x1024 .f32) (ix3 k l j) = (V m c main_v3 : FVec Ideal S834x4x1024 .f32) (ix3 (col t k) l j) := by
  blk_ext [iblk, idx t, col]

/-! ## The body's three values -/

theorem pay2 (g u : FVec Ideal S139x4x1024 .f32) : k0_pay2 (F := Ideal) g u = first g u := by
  unfold k0_pay2 k0_pay1
  simp only [shapeCast_self]
  rfl

theorem pay3 (g u : FVec Ideal S139x4x1024 .f32) : k0_pay3 (F := Ideal) g u = second g u := by
  unfold k0_pay3 k0_pay1
  simp only [shapeCast_self]
  rfl

theorem pay4 (g u v w : FVec Ideal S139x4x1024 .f32) : k0_pay4 (F := Ideal) g u v w = delta w g u v := by
  unfold k0_pay4
  simp only [shapeCast_self, pay2, pay3]
  rfl

/-! ## The three arrays -/

theorem final4 : ((dats m 0 c).arrAt 4 cfg0.N : FVec Ideal S834x4x1024 .f32)
    = delta (V m c main_v0) (V m c main_v1) (V m c main_v2) (V m c main_v3) := by
  refine (dats m 0 c).arrAt_eq_of_covers 4 _ (by decide +kernel) fun t hf y => ?_
  blk_simp
  rw [after0_4]
  idx_vars y
  have e : ((View.whole main_v4_0).slice (win0_4.rect t)).emb (ix3 y0 y1 y2) = ix3 (col t y0) y1 y2 := by
    blk_ext [idx t, col]
  rw [e]
  frame_out
  rw [pay4]
  exact delta_congr (blk0 m c t y0 y1 y2) (blk1 m c t y0 y1 y2) (blk2 m c t y0 y1 y2) (blk3 m c t y0 y1 y2)

theorem final5 : ((dats m 0 c).arrAt 5 cfg0.N : FVec Ideal S834x4x1024 .f32) = first (V m c main_v1) (V m c main_v2) := by
  refine (dats m 0 c).arrAt_eq_of_covers 5 _ (by decide +kernel) fun t hf y => ?_
  blk_simp
  rw [after0_5]
  idx_vars y
  have e : ((View.whole main_v4_1).slice (win0_5.rect t)).emb (ix3 y0 y1 y2) = ix3 (col t y0) y1 y2 := by
    blk_ext [idx t, col]
  rw [e]
  frame_out
  rw [pay2]
  exact first_congr (blk1 m c t y0 y1 y2) (blk2 m c t y0 y1 y2)

theorem final6 : ((dats m 0 c).arrAt 6 cfg0.N : FVec Ideal S834x4x1024 .f32) = second (V m c main_v1) (V m c main_v3) := by
  refine (dats m 0 c).arrAt_eq_of_covers 6 _ (by decide +kernel) fun t hf y => ?_
  blk_simp
  rw [after0_6]
  idx_vars y
  have e : ((View.whole main_v4_2).slice (win0_6.rect t)).emb (ix3 y0 y1 y2) = ix3 (col t y0) y1 y2 := by
    blk_ext [idx t, col]
  rw [e]
  frame_out
  rw [pay3]
  exact second_congr (blk1 m c t y0 y1 y2) (blk3 m c t y0 y1 y2)

/-! ## The lines around the call -/

/-- A weight's array as the call reads it: its columns in front. -/
def front (x : FVec Ideal S4x1024x834 .f32) : FVec Ideal S834x4x1024 .f32 := transpose S834x4x1024 [2, 0, 1] x transposes_S4x1024x834_S834x4x1024_2_0_1

/-- A result as it is returned. -/
def back (x : FVec Ideal S834x4x1024 .f32) : FVec Ideal S4x1024x834 .f32 := transpose S4x1024x834 [1, 2, 0] x transposes_S834x4x1024_S4x1024x834_1_2_0

theorem back_front (x : FVec Ideal S4x1024x834 .f32) : back (front x) = x := by
  funext i
  idx_vars i
  pointwise [back, front]

theorem head0 (σ : Valuation τ sig (Elt Ideal)) :
    StableHlo.after hostOps0 σ (Proc.devRef .tc main_v0) = front (σ (Proc.devRef .tc main_arg0)) := by
  after_results_simp
  rfl

theorem head1 (σ : Valuation τ sig (Elt Ideal)) :
    StableHlo.after hostOps0 σ (Proc.devRef .tc main_v1) = front (σ (Proc.devRef .tc main_arg1)) := by
  after_results_simp
  rfl

theorem head2 (σ : Valuation τ sig (Elt Ideal)) :
    StableHlo.after hostOps0 σ (Proc.devRef .tc main_v2) = front (σ (Proc.devRef .tc main_arg2)) := by
  after_results_simp
  rfl

theorem head3 (σ : Valuation τ sig (Elt Ideal)) :
    StableHlo.after hostOps0 σ (Proc.devRef .tc main_v3) = front (σ (Proc.devRef .tc main_arg3)) := by
  after_results_simp
  rfl

theorem tail5 (σ : Valuation τ sig (Elt Ideal)) :
    StableHlo.after hostOps1 σ (Proc.devRef .tc main_v5) = back (σ (Proc.devRef .tc (Pipeline.arrRef spec0 4))) := by
  after_results_simp
  rfl

theorem tail6 (σ : Valuation τ sig (Elt Ideal)) :
    StableHlo.after hostOps1 σ (Proc.devRef .tc main_v6) = back (σ (Proc.devRef .tc (Pipeline.arrRef spec0 5))) := by
  after_results_simp
  rfl

theorem tail7 (σ : Valuation τ sig (Elt Ideal)) :
    StableHlo.after hostOps1 σ (Proc.devRef .tc main_v7) = back (σ (Proc.devRef .tc (Pipeline.arrRef spec0 6))) := by
  after_results_simp
  rfl

/-- The four arguments. -/
def a0 : FVec Ideal S4x1024x834 .f32 := m ((c : Thread nD τ).loc main_arg0)
def a1 : FVec Ideal S4x1024x834 .f32 := m ((c : Thread nD τ).loc main_arg1)
def a2 : FVec Ideal S4x1024x834 .f32 := m ((c : Thread nD τ).loc main_arg2)
def a3 : FVec Ideal S4x1024x834 .f32 := m ((c : Thread nD τ).loc main_arg3)

theorem V0_eq : (V m c main_v0 : FVec Ideal S834x4x1024 .f32) = front (a0 m c) := head0 _
theorem V1_eq : (V m c main_v1 : FVec Ideal S834x4x1024 .f32) = front (a1 m c) := head1 _
theorem V2_eq : (V m c main_v2 : FVec Ideal S834x4x1024 .f32) = front (a2 m c) := head2 _
theorem V3_eq : (V m c main_v3 : FVec Ideal S834x4x1024 .f32) = front (a3 m c) := head3 _

theorem back_delta (w g u v : FVec Ideal S4x1024x834 .f32) : back (delta (front w) (front g) (front u) (front v)) = delta w g u v :=
  funext fun i => delta_congr (congrFun (back_front w) i) (congrFun (back_front g) i) (congrFun (back_front u) i) (congrFun (back_front v) i)

theorem back_first (g u : FVec Ideal S4x1024x834 .f32) : back (first (front g) (front u)) = first g u :=
  funext fun i => first_congr (congrFun (back_front g) i) (congrFun (back_front u) i)

theorem back_second (g v : FVec Ideal S4x1024x834 .f32) : back (second (front g) (front v)) = second g v :=
  funext fun i => second_congr (congrFun (back_front g) i) (congrFun (back_front v) i)

theorem res5 : (Pipeline.afterTail₀ cfgs (dats m) 0 (V0 m) [hostOps1] c main_v5 : FVec Ideal S4x1024x834 .f32)
    = delta (a0 m c) (a1 m c) (a2 m c) (a3 m c) := by
  refine (tail5 _).trans ((congrArg back ((Pipeline.withArrays_arr spec0 launch0.win.arr_inj c _ _ 4).trans (final4 m c))).trans ?_)
  rw [V0_eq, V1_eq, V2_eq, V3_eq, back_delta]

theorem res6 : (Pipeline.afterTail₀ cfgs (dats m) 0 (V0 m) [hostOps1] c main_v6 : FVec Ideal S4x1024x834 .f32)
    = first (a1 m c) (a2 m c) := by
  refine (tail6 _).trans ((congrArg back ((Pipeline.withArrays_arr spec0 launch0.win.arr_inj c _ _ 5).trans (final5 m c))).trans ?_)
  rw [V1_eq, V2_eq, back_first]

theorem res7 : (Pipeline.afterTail₀ cfgs (dats m) 0 (V0 m) [hostOps1] c main_v7 : FVec Ideal S4x1024x834 .f32)
    = second (a1 m c) (a3 m c) := by
  refine (tail7 _).trans ((congrArg back ((Pipeline.withArrays_arr spec0 launch0.win.arr_inj c _ _ 6).trans (final6 m c))).trans ?_)
  rw [V1_eq, V3_eq, back_second]

theorem run (ρ : Dev nD → PrngReg) : θ_run defs (onTc (τ := τ) (main (F := Ideal))) ⟨m, fun _ => 0, ρ⟩ (fun r => ∀ c : Dev nD,
      r.2.mem ((c : Thread nD τ).loc main_v5) = delta (a0 m c) (a1 m c) (a2 m c) (a3 m c)
      ∧ r.2.mem ((c : Thread nD τ).loc main_v6) = first (a1 m c) (a2 m c)
      ∧ r.2.mem ((c : Thread nD τ).loc main_v7) = second (a1 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    have at' (b : Ref sig .tc) (hb : b ∈ Pipeline.restRefs sig spec0) := (h c).2 b hb
    ⟨(at' main_v5 (Pipeline.mem_restRefs_of main_v5 (by decide) (by decide))).trans (res5 m c),
      (at' main_v6 (Pipeline.mem_restRefs_of main_v6 (by decide) (by decide))).trans (res6 m c),
      (at' main_v7 (Pipeline.mem_restRefs_of main_v7 (by decide) (by decide))).trans (res7 m c),
      (at' main_arg0 (Pipeline.mem_restRefs_of main_arg0 (by decide) (by decide))).trans (W_main_arg0 m (dats m) c),
      (at' main_arg1 (Pipeline.mem_restRefs_of main_arg1 (by decide) (by decide))).trans (W_main_arg1 m (dats m) c),
      (at' main_arg2 (Pipeline.mem_restRefs_of main_arg2 (by decide) (by decide))).trans (W_main_arg2 m (dats m) c),
      (at' main_arg3 (Pipeline.mem_restRefs_of main_arg3 (by decide) (by decide))).trans (W_main_arg3 m (dats m) c)⟩) (run_main m ρ)

end Cert.AdamInIdeal.Tile
-- ==== Proof.AdamPack.lean ====
module

public import proofs.«01_k».proof.Defs
public import Idealize.ShloMosaic.Lib.Pipeline.Value
public import Idealize.ShloMosaic.Lib.KernelVsHost

@[expose] public section

noncomputable section

open Idealize.ShloMosaic

/-! # Weights packed into one slab, and taken out again

A weight is flattened, padded to whole groups of rows and laid out in rows of 1024; the slab has these pieces one below the other. -/

namespace Cert.AdamPack

variable {S : Shape} {α : Type}

/-- A vector's shape. -/
abbrev Vs (n : ℕ) : Shape := ⟨1, ![n]⟩

/-- A slab's. -/
abbrev Ms (r : ℕ) : Shape := ⟨2, ![r, 1024]⟩

theorem slice_pad {n k N : ℕ} {u : Shape} (y : (Vs n).Idx → α) (z : u.Idx → α) (hp : (Vs n).Pads (![0] : Fin 1 → ℕ) ![k] ![0] (Vs N))
    (hu : 0 < u.numel) (hs : (Vs N).Slices (![0] : Fin 1 → ℕ) (Vs n)) :
    extractStridedSlice (Vs n) (![0] : Fin 1 → ℕ) (pad (Vs N) (![0] : Fin 1 → ℕ) ![k] ![0] y z hp hu) hs = y := by
  funext i
  unfold extractStridedSlice
  refine pad_apply_of_inside _ _ _ _ _ _ _ _ i fun a => ?_
  fin_cases a
  show 0 + (i 0).val = 0 + (i 0).val * (0 + 1)
  omega

/-- A weight's piece of the slab. -/
def piece {n k N r : ℕ} {u : Shape} (x : S.Idx → α) (z : u.Idx → α) (h₁ : S.ShapeCasts (Vs n))
    (hp : (Vs n).Pads (![0] : Fin 1 → ℕ) ![k] ![0] (Vs N)) (hu : 0 < u.numel) (h₂ : (Vs N).ShapeCasts (Ms r)) : (Ms r).Idx → α :=
  shapeCast (Ms r) (pad (Vs N) (![0] : Fin 1 → ℕ) ![k] ![0] (shapeCast (Vs n) x h₁) z hp hu) h₂

/-- It gives the weight back. -/
theorem restore {n k N r : ℕ} {u : Shape} (x : S.Idx → α) (z : u.Idx → α) (h₁ : S.ShapeCasts (Vs n))
    (hp : (Vs n).Pads (![0] : Fin 1 → ℕ) ![k] ![0] (Vs N)) (hu : 0 < u.numel) (h₂ : (Vs N).ShapeCasts (Ms r))
    (h₃ : (Ms r).ShapeCasts (Vs N)) (hs : (Vs N).Slices (![0] : Fin 1 → ℕ) (Vs n)) (h₄ : (Vs n).ShapeCasts S) :
    shapeCast S (extractStridedSlice (Vs n) (![0] : Fin 1 → ℕ) (shapeCast (Vs N) (piece x z h₁ hp hu h₂) h₃) hs) h₄ = x := by
  unfold piece
  rw [shapeCast_shapeCast, slice_pad, shapeCast_shapeCast]

theorem restore_full {n r : ℕ} {u : Shape} (x : S.Idx → α) (z : u.Idx → α) (h₁ : S.ShapeCasts (Vs n))
    (hp : (Vs n).Pads (![0] : Fin 1 → ℕ) ![0] ![0] (Vs n)) (hu : 0 < u.numel) (h₂ : (Vs n).ShapeCasts (Ms r))
    (h₃ : (Ms r).ShapeCasts (Vs n)) (h₄ : (Vs n).ShapeCasts S) :
    shapeCast S (shapeCast (Vs n) (piece x z h₁ hp hu h₂) h₃) h₄ = x := by
  have h := slice_pad (shapeCast (Vs n) x h₁) z hp hu ⟨rfl, fun a => by fin_cases a; show 0 + n ≤ n; omega⟩
  unfold piece
  rw [shapeCast_shapeCast]
  refine Eq.trans (congrArg (fun y => shapeCast S y h₄) ?_) (shapeCast_shapeCast x h₁ h₄)
  refine Eq.trans (funext fun i => ?_) h
  unfold extractStridedSlice
  refine congrArg _ (funext fun a => Fin.ext ?_)
  fin_cases a
  show (i 0).val = 0 + (i 0).val
  omega

/-- A piece is the slab's rows from the pieces' rows in front of it on. -/
theorem cut {r t off : ℕ} (xs : List ((s : Shape) × (s.Idx → α))) (h : Shape.Concatenates (xs.map (·.1)) (Ms t) 0)
    (k : ℕ) (hk : k < xs.length) (x : (Ms r).Idx → α) (hx : xs[k] = ⟨Ms r, x⟩)
    (hpre : (((xs.take k).map (·.1)).map fun s => if h : s.rank = (Ms t).rank then s.size ((0 : Fin (Ms t).rank).cast h.symm) else 0).sum = off)
    (hs : (Ms t).Slices (![off, 0] : Fin 2 → ℕ) (Ms r)) :
    extractStridedSlice (Ms r) (![off, 0] : Fin 2 → ℕ) (concatenate (Ms t) 0 xs h) hs = x := by
  funext j
  unfold extractStridedSlice
  refine concatenate_apply_piece 0 xs h _ k hk (Ms r) x hx rfl off hpre j (fun b hb => ?_) rfl
  fin_cases b
  · exact absurd rfl hb
  · show (j 1).val = 0 + (j 1).val
    omega

end Cert.AdamPack
-- ==== Proof.AdamSmallRun.lean ====
module

public import proofs.«01_k».proof.Proof.AdamRule
public import proofs.«01_k».proof.Proof.AdamPack
public import proofs.«01_k».proof.Proof.Gen.AdamSmallIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

/-! # The five small weights cut over the devices: what the call returns

The lines in front of the call pack the five weights into one slab, their gradients into a second and their moments into two more;
the lines behind it take each weight's step and moments out of the three result slabs. -/

namespace Cert.AdamSmallIdeal.Tile

open Cert.AdamSmallIdeal Cert.AdamSmallIdeal.Gen Cert.AdamRule Cert.AdamPack

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk0 (t : Fin cfg0.N) : (iblk m c 0 t : FVec Ideal S160x1024 .f32) = V m c main_v16 := by
  funext i
  idx_vars i
  blk_ext [iblk, idx t]

theorem blk1 (t : Fin cfg0.N) : (iblk m c 1 t : FVec Ideal S160x1024 .f32) = V m c main_v33 := by
  funext i
  idx_vars i
  blk_ext [iblk, idx t]

theorem blk2 (t : Fin cfg0.N) : (iblk m c 2 t : FVec Ideal S160x1024 .f32) = V m c main_v50 := by
  funext i
  idx_vars i
  blk_ext [iblk, idx t]

theorem blk3 (t : Fin cfg0.N) : (iblk m c 3 t : FVec Ideal S160x1024 .f32) = V m c main_v67 := by
  funext i
  idx_vars i
  blk_ext [iblk, idx t]

/-! ## The body's three values -/

theorem pay2 (g u : FVec Ideal S160x1024 .f32) : k0_pay2 (F := Ideal) g u = first g u := by
  unfold k0_pay2 k0_pay1
  simp only [shapeCast_self]
  rfl

theorem pay3 (g u : FVec Ideal S160x1024 .f32) : k0_pay3 (F := Ideal) g u = second g u := by
  unfold k0_pay3 k0_pay1
  simp only [shapeCast_self]
  rfl

theorem pay4 (g u v w : FVec Ideal S160x1024 .f32) : k0_pay4 (F := Ideal) g u v w = delta w g u v := by
  unfold k0_pay4
  simp only [shapeCast_self, pay2, pay3]
  rfl

/-! ## The three arrays -/

theorem final4 : ((dats m 0 c).arrAt 4 cfg0.N : FVec Ideal S160x1024 .f32)
    = delta (V m c main_v16) (V m c main_v33) (V m c main_v50) (V m c main_v67) := by
  refine (dats m 0 c).arrAt_eq_of_covers 4 _ (by decide +kernel) fun t hf y => ?_
  blk_simp
  rw [after0_4]
  idx_vars y
  have e : ((View.whole main_v68_0).slice (win0_4.rect t)).emb (ix2 y0 y1) = ix2 y0 y1 := by
    blk_ext [idx t]
  rw [e]
  frame_out
  rw [pay4, blk0, blk1, blk2, blk3]

theorem final5 : ((dats m 0 c).arrAt 5 cfg0.N : FVec Ideal S160x1024 .f32) = first (V m c main_v33) (V m c main_v50) := by
  refine (dats m 0 c).arrAt_eq_of_covers 5 _ (by decide +kernel) fun t hf y => ?_
  blk_simp
  rw [after0_5]
  idx_vars y
  have e : ((View.whole main_v68_1).slice (win0_5.rect t)).emb (ix2 y0 y1) = ix2 y0 y1 := by
    blk_ext [idx t]
  rw [e]
  frame_out
  rw [pay2, blk1, blk2]

theorem final6 : ((dats m 0 c).arrAt 6 cfg0.N : FVec Ideal S160x1024 .f32) = second (V m c main_v33) (V m c main_v67) := by
  refine (dats m 0 c).arrAt_eq_of_covers 6 _ (by decide +kernel) fun t hf y => ?_
  blk_simp
  rw [after0_6]
  idx_vars y
  have e : ((View.whole main_v68_2).slice (win0_6.rect t)).emb (ix2 y0 y1) = ix2 y0 y1 := by
    blk_ext [idx t]
  rw [e]
  frame_out
  rw [pay3, blk1, blk3]

/-! ## The lines around the call -/

/-- Five arrays, one for each weight. -/
structure Five where
  a : FVec Ideal S4x31x64 .f32
  b : FVec Ideal S4x64x256 .f32
  c : FVec Ideal S4x64x256 .f32
  d : FVec Ideal S4x3x64 .f32
  e : FVec Ideal S4x4x192 .f32

/-- What the flattened arrays are padded with. -/
def filler : FVec Ideal S_ .f32 := sitofp .f32 (constantI S_ 32 0#32)

theorem five_ext {s t : Five} (ha : s.a = t.a) (hb : s.b = t.b) (hc : s.c = t.c) (hd : s.d = t.d) (he : s.e = t.e) : s = t := by
  cases s
  cases t
  cases ha
  cases hb
  cases hc
  cases hd
  cases he
  rfl

/-- The pieces of the five arrays' slab; the last is the rows that fill it up. -/
def pieces (s : Five) : List ((S : Shape) × FVec Ideal S .f32) := [
    ⟨S8x1024, piece s.a filler shapeCasts_S4x31x64_S7936 pads_S7936_S8192_02560 h_S_ shapeCasts_S8192_S8x1024⟩,
    ⟨S64x1024, piece s.b filler shapeCasts_S4x64x256_S65536 pads_S65536_S65536_000 h_S_ shapeCasts_S65536_S64x1024⟩,
    ⟨S64x1024, piece s.c filler shapeCasts_S4x64x256_S65536 pads_S65536_S65536_000 h_S_ shapeCasts_S65536_S64x1024⟩,
    ⟨S8x1024, piece s.d filler shapeCasts_S4x3x64_S768 pads_S768_S8192_074240 h_S_ shapeCasts_S8192_S8x1024⟩,
    ⟨S8x1024, piece s.e filler shapeCasts_S4x4x192_S3072 pads_S3072_S8192_051200 h_S_ shapeCasts_S8192_S8x1024⟩,
    ⟨S8x1024, broadcastInDim S8x1024 ![] bcast_S_S8x1024 (constant S_ .f32 0x00000000#32)⟩]

/-- The five arrays packed. -/
def slab (s : Five) : FVec Ideal S160x1024 .f32 :=
  concatenate S160x1024 0 (pieces s) concatenates_S8x1024_S64x1024_S64x1024_S8x1024_S8x1024_S8x1024_S160x1024_d0

/-- The five arrays of a slab. -/
def taken (y : FVec Ideal S160x1024 .f32) : Five where
  a := shapeCast S4x31x64 (extractStridedSlice S7936 ![0] (shapeCast S8192 (extractStridedSlice S8x1024 ![0, 0] y
    slices_S160x1024_S8x1024_0_0) shapeCasts_S8x1024_S8192) slices_S8192_S7936_0) shapeCasts_S7936_S4x31x64
  b := shapeCast S4x64x256 (shapeCast S65536 (extractStridedSlice S64x1024 ![8, 0] y
    slices_S160x1024_S64x1024_8_0) shapeCasts_S64x1024_S65536) shapeCasts_S65536_S4x64x256
  c := shapeCast S4x64x256 (shapeCast S65536 (extractStridedSlice S64x1024 ![72, 0] y
    slices_S160x1024_S64x1024_72_0) shapeCasts_S64x1024_S65536) shapeCasts_S65536_S4x64x256
  d := shapeCast S4x3x64 (extractStridedSlice S768 ![0] (shapeCast S8192 (extractStridedSlice S8x1024 ![136, 0] y
    slices_S160x1024_S8x1024_136_0) shapeCasts_S8x1024_S8192) slices_S8192_S768_0) shapeCasts_S768_S4x3x64
  e := shapeCast S4x4x192 (extractStridedSlice S3072 ![0] (shapeCast S8192 (extractStridedSlice S8x1024 ![144, 0] y
    slices_S160x1024_S8x1024_144_0) shapeCasts_S8x1024_S8192) slices_S8192_S3072_0) shapeCasts_S3072_S4x4x192

theorem taken_slab (s : Five) : taken (slab s) = s := by
  have h0 : extractStridedSlice S8x1024 ![0, 0] (slab s) slices_S160x1024_S8x1024_0_0
      = piece s.a filler shapeCasts_S4x31x64_S7936 pads_S7936_S8192_02560 h_S_ shapeCasts_S8192_S8x1024 :=
    cut (off := 0) (pieces s) concatenates_S8x1024_S64x1024_S64x1024_S8x1024_S8x1024_S8x1024_S160x1024_d0 0
      (by decide : 0 < 6) _ rfl rfl slices_S160x1024_S8x1024_0_0
  have h1 : extractStridedSlice S64x1024 ![8, 0] (slab s) slices_S160x1024_S64x1024_8_0
      = piece s.b filler shapeCasts_S4x64x256_S65536 pads_S65536_S65536_000 h_S_ shapeCasts_S65536_S64x1024 :=
    cut (off := 8) (pieces s) concatenates_S8x1024_S64x1024_S64x1024_S8x1024_S8x1024_S8x1024_S160x1024_d0 1
      (by decide : 1 < 6) _ rfl rfl slices_S160x1024_S64x1024_8_0
  have h2 : extractStridedSlice S64x1024 ![72, 0] (slab s) slices_S160x1024_S64x1024_72_0
      = piece s.c filler shapeCasts_S4x64x256_S65536 pads_S65536_S65536_000 h_S_ shapeCasts_S65536_S64x1024 :=
    cut (off := 72) (pieces s) concatenates_S8x1024_S64x1024_S64x1024_S8x1024_S8x1024_S8x1024_S160x1024_d0 2
      (by decide : 2 < 6) _ rfl rfl slices_S160x1024_S64x1024_72_0
  have h3 : extractStridedSlice S8x1024 ![136, 0] (slab s) slices_S160x1024_S8x1024_136_0
      = piece s.d filler shapeCasts_S4x3x64_S768 pads_S768_S8192_074240 h_S_ shapeCasts_S8192_S8x1024 :=
    cut (off := 136) (pieces s) concatenates_S8x1024_S64x1024_S64x1024_S8x1024_S8x1024_S8x1024_S160x1024_d0 3
      (by decide : 3 < 6) _ rfl rfl slices_S160x1024_S8x1024_136_0
  have h4 : extractStridedSlice S8x1024 ![144, 0] (slab s) slices_S160x1024_S8x1024_144_0
      = piece s.e filler shapeCasts_S4x4x192_S3072 pads_S3072_S8192_051200 h_S_ shapeCasts_S8192_S8x1024 :=
    cut (off := 144) (pieces s) concatenates_S8x1024_S64x1024_S64x1024_S8x1024_S8x1024_S8x1024_S160x1024_d0 4
      (by decide : 4 < 6) _ rfl rfl slices_S160x1024_S8x1024_144_0
  have e0 : (taken (slab s)).a = s.a := by
    dsimp only [taken]
    rw [h0]
    exact restore s.a filler shapeCasts_S4x31x64_S7936 pads_S7936_S8192_02560 h_S_ shapeCasts_S8192_S8x1024
      shapeCasts_S8x1024_S8192 slices_S8192_S7936_0 shapeCasts_S7936_S4x31x64
  have e1 : (taken (slab s)).b = s.b := by
    dsimp only [taken]
    rw [h1]
    exact restore_full s.b filler shapeCasts_S4x64x256_S65536 pads_S65536_S65536_000 h_S_ shapeCasts_S65536_S64x1024
      shapeCasts_S64x1024_S65536 shapeCasts_S65536_S4x64x256
  have e2 : (taken (slab s)).c = s.c := by
    dsimp only [taken]
    rw [h2]
    exact restore_full s.c filler shapeCasts_S4x64x256_S65536 pads_S65536_S65536_000 h_S_ shapeCasts_S65536_S64x1024
      shapeCasts_S64x1024_S65536 shapeCasts_S65536_S4x64x256
  have e3 : (taken (slab s)).d = s.d := by
    dsimp only [taken]
    rw [h3]
    exact restore s.d filler shapeCasts_S4x3x64_S768 pads_S768_S8192_074240 h_S_ shapeCasts_S8192_S8x1024
      shapeCasts_S8x1024_S8192 slices_S8192_S768_0 shapeCasts_S768_S4x3x64
  have e4 : (taken (slab s)).e = s.e := by
    dsimp only [taken]
    rw [h4]
    exact restore s.e filler shapeCasts_S4x4x192_S3072 pads_S3072_S8192_051200 h_S_ shapeCasts_S8192_S8x1024
      shapeCasts_S8x1024_S8192 slices_S8192_S3072_0 shapeCasts_S3072_S4x4x192
  exact five_ext e0 e1 e2 e3 e4

/-- The rule on five weights at once. -/
def deltas (w g u v : Five) : Five :=
  ⟨delta w.a g.a u.a v.a, delta w.b g.b u.b v.b, delta w.c g.c u.c v.c, delta w.d g.d u.d v.d, delta w.e g.e u.e v.e⟩
def firsts (g u : Five) : Five := ⟨first g.a u.a, first g.b u.b, first g.c u.c, first g.d u.d, first g.e u.e⟩
def seconds (g v : Five) : Five := ⟨second g.a v.a, second g.b v.b, second g.c v.c, second g.d v.d, second g.e v.e⟩

theorem taken_delta (w g u v : Five) : taken (delta (slab w) (slab g) (slab u) (slab v)) = deltas w g u v := by
  refine Eq.trans (b := deltas (taken (slab w)) (taken (slab g)) (taken (slab u)) (taken (slab v))) ?_ (by simp only [taken_slab])
  exact five_ext (funext fun i => delta_congr rfl rfl rfl rfl) (funext fun i => delta_congr rfl rfl rfl rfl)
    (funext fun i => delta_congr rfl rfl rfl rfl) (funext fun i => delta_congr rfl rfl rfl rfl)
    (funext fun i => delta_congr rfl rfl rfl rfl)

theorem taken_first (g u : Five) : taken (first (slab g) (slab u)) = firsts g u := by
  refine Eq.trans (b := firsts (taken (slab g)) (taken (slab u))) ?_ (by simp only [taken_slab])
  exact five_ext (funext fun i => first_congr rfl rfl) (funext fun i => first_congr rfl rfl)
    (funext fun i => first_congr rfl rfl) (funext fun i => first_congr rfl rfl) (funext fun i => first_congr rfl rfl)

theorem taken_second (g v : Five) : taken (second (slab g) (slab v)) = seconds g v := by
  refine Eq.trans (b := seconds (taken (slab g)) (taken (slab v))) ?_ (by simp only [taken_slab])
  exact five_ext (funext fun i => second_congr rfl rfl) (funext fun i => second_congr rfl rfl)
    (funext fun i => second_congr rfl rfl) (funext fun i => second_congr rfl rfl) (funext fun i => second_congr rfl rfl)

/-- The weights, their gradients and their two moments. -/
def w : Five := ⟨m ((c : Thread nD τ).loc main_arg0), m ((c : Thread nD τ).loc main_arg1), m ((c : Thread nD τ).loc main_arg2),
  m ((c : Thread nD τ).loc main_arg3), m ((c : Thread nD τ).loc main_arg4)⟩
def g : Five := ⟨m ((c : Thread nD τ).loc main_arg5), m ((c : Thread nD τ).loc main_arg6), m ((c : Thread nD τ).loc main_arg7),
  m ((c : Thread nD τ).loc main_arg8), m ((c : Thread nD τ).loc main_arg9)⟩
def u : Five := ⟨m ((c : Thread nD τ).loc main_arg10), m ((c : Thread nD τ).loc main_arg11), m ((c : Thread nD τ).loc main_arg12),
  m ((c : Thread nD τ).loc main_arg13), m ((c : Thread nD τ).loc main_arg14)⟩
def v : Five := ⟨m ((c : Thread nD τ).loc main_arg15), m ((c : Thread nD τ).loc main_arg16), m ((c : Thread nD τ).loc main_arg17),
  m ((c : Thread nD τ).loc main_arg18), m ((c : Thread nD τ).loc main_arg19)⟩

theorem V16_eq : (V m c main_v16 : FVec Ideal S160x1024 .f32) = slab (w m c) := by
  dsimp only [V, V0]
  simp only [List.flatten_cons, List.flatten_nil, List.append_nil, List.cons_append, List.nil_append]
  after_results_simp
  rfl

theorem V33_eq : (V m c main_v33 : FVec Ideal S160x1024 .f32) = slab (g m c) := by
  dsimp only [V, V0]
  simp only [List.flatten_cons, List.flatten_nil, List.append_nil, List.cons_append, List.nil_append]
  after_results_simp
  rfl

theorem V50_eq : (V m c main_v50 : FVec Ideal S160x1024 .f32) = slab (u m c) := by
  dsimp only [V, V0]
  simp only [List.flatten_cons, List.flatten_nil, List.append_nil, List.cons_append, List.nil_append]
  after_results_simp
  rfl

theorem V67_eq : (V m c main_v67 : FVec Ideal S160x1024 .f32) = slab (v m c) := by
  dsimp only [V, V0]
  simp only [List.flatten_cons, List.flatten_nil, List.append_nil, List.cons_append, List.nil_append]
  after_results_simp
  rfl

theorem tail4 (σ : Valuation τ sig (Elt Ideal)) :
    (⟨StableHlo.after hostOps1 σ (Proc.devRef .tc main_v72),
      StableHlo.after hostOps1 σ (Proc.devRef .tc main_v75),
      StableHlo.after hostOps1 σ (Proc.devRef .tc main_v78),
      StableHlo.after hostOps1 σ (Proc.devRef .tc main_v82),
      StableHlo.after hostOps1 σ (Proc.devRef .tc main_v86)⟩ : Five)
      = taken (σ (Proc.devRef .tc (Pipeline.arrRef spec0 4))) := by
  after_results_simp
  rfl

theorem tail5 (σ : Valuation τ sig (Elt Ideal)) :
    (⟨StableHlo.after hostOps1 σ (Proc.devRef .tc main_v90),
      StableHlo.after hostOps1 σ (Proc.devRef .tc main_v93),
      StableHlo.after hostOps1 σ (Proc.devRef .tc main_v96),
      StableHlo.after hostOps1 σ (Proc.devRef .tc main_v100),
      StableHlo.after hostOps1 σ (Proc.devRef .tc main_v104)⟩ : Five)
      = taken (σ (Proc.devRef .tc (Pipeline.arrRef spec0 5))) := by
  after_results_simp
  rfl

theorem tail6 (σ : Valuation τ sig (Elt Ideal)) :
    (⟨StableHlo.after hostOps1 σ (Proc.devRef .tc main_v108),
      StableHlo.after hostOps1 σ (Proc.devRef .tc main_v111),
      StableHlo.after hostOps1 σ (Proc.devRef .tc main_v114),
      StableHlo.after hostOps1 σ (Proc.devRef .tc main_v118),
      StableHlo.after hostOps1 σ (Proc.devRef .tc main_v122)⟩ : Five)
      = taken (σ (Proc.devRef .tc (Pipeline.arrRef spec0 6))) := by
  after_results_simp
  rfl

theorem res4 : (⟨Pipeline.afterTail₀ cfgs (dats m) 0 (V0 m) [hostOps1] c main_v72,
    Pipeline.afterTail₀ cfgs (dats m) 0 (V0 m) [hostOps1] c main_v75,
    Pipeline.afterTail₀ cfgs (dats m) 0 (V0 m) [hostOps1] c main_v78,
    Pipeline.afterTail₀ cfgs (dats m) 0 (V0 m) [hostOps1] c main_v82,
    Pipeline.afterTail₀ cfgs (dats m) 0 (V0 m) [hostOps1] c main_v86⟩ : Five)
    = deltas (w m c) (g m c) (u m c) (v m c) := by
  refine (tail4 _).trans ((congrArg taken ((Pipeline.withArrays_arr spec0 launch0.win.arr_inj c _ _ 4).trans (final4 m c))).trans ?_)
  rw [V16_eq, V33_eq, V50_eq, V67_eq, taken_delta]

theorem res5 : (⟨Pipeline.afterTail₀ cfgs (dats m) 0 (V0 m) [hostOps1] c main_v90,
    Pipeline.afterTail₀ cfgs (dats m) 0 (V0 m) [hostOps1] c main_v93,
    Pipeline.afterTail₀ cfgs (dats m) 0 (V0 m) [hostOps1] c main_v96,
    Pipeline.afterTail₀ cfgs (dats m) 0 (V0 m) [hostOps1] c main_v100,
    Pipeline.afterTail₀ cfgs (dats m) 0 (V0 m) [hostOps1] c main_v104⟩ : Five)
    = firsts (g m c) (u m c) := by
  refine (tail5 _).trans ((congrArg taken ((Pipeline.withArrays_arr spec0 launch0.win.arr_inj c _ _ 5).trans (final5 m c))).trans ?_)
  rw [V33_eq, V50_eq, taken_first]

theorem res6 : (⟨Pipeline.afterTail₀ cfgs (dats m) 0 (V0 m) [hostOps1] c main_v108,
    Pipeline.afterTail₀ cfgs (dats m) 0 (V0 m) [hostOps1] c main_v111,
    Pipeline.afterTail₀ cfgs (dats m) 0 (V0 m) [hostOps1] c main_v114,
    Pipeline.afterTail₀ cfgs (dats m) 0 (V0 m) [hostOps1] c main_v118,
    Pipeline.afterTail₀ cfgs (dats m) 0 (V0 m) [hostOps1] c main_v122⟩ : Five)
    = seconds (g m c) (v m c) := by
  refine (tail6 _).trans ((congrArg taken ((Pipeline.withArrays_arr spec0 launch0.win.arr_inj c _ _ 6).trans (final6 m c))).trans ?_)
  rw [V33_eq, V67_eq, taken_second]

theorem run (ρ : Dev nD → PrngReg) : θ_run defs (onTc (τ := τ) (main (F := Ideal))) ⟨m, fun _ => 0, ρ⟩ (fun r => ∀ c : Dev nD,
      r.2.mem ((c : Thread nD τ).loc main_v72) = delta (m ((c : Thread nD τ).loc main_arg0)) (m ((c : Thread nD τ).loc main_arg5)) (m ((c : Thread nD τ).loc main_arg10)) (m ((c : Thread nD τ).loc main_arg15))
      ∧ r.2.mem ((c : Thread nD τ).loc main_v75) = delta (m ((c : Thread nD τ).loc main_arg1)) (m ((c : Thread nD τ).loc main_arg6)) (m ((c : Thread nD τ).loc main_arg11)) (m ((c : Thread nD τ).loc main_arg16))
      ∧ r.2.mem ((c : Thread nD τ).loc main_v78) = delta (m ((c : Thread nD τ).loc main_arg2)) (m ((c : Thread nD τ).loc main_arg7)) (m ((c : Thread nD τ).loc main_arg12)) (m ((c : Thread nD τ).loc main_arg17))
      ∧ r.2.mem ((c : Thread nD τ).loc main_v82) = delta (m ((c : Thread nD τ).loc main_arg3)) (m ((c : Thread nD τ).loc main_arg8)) (m ((c : Thread nD τ).loc main_arg13)) (m ((c : Thread nD τ).loc main_arg18))
      ∧ r.2.mem ((c : Thread nD τ).loc main_v86) = delta (m ((c : Thread nD τ).loc main_arg4)) (m ((c : Thread nD τ).loc main_arg9)) (m ((c : Thread nD τ).loc main_arg14)) (m ((c : Thread nD τ).loc main_arg19))
      ∧ r.2.mem ((c : Thread nD τ).loc main_v90) = first (m ((c : Thread nD τ).loc main_arg5)) (m ((c : Thread nD τ).loc main_arg10))
      ∧ r.2.mem ((c : Thread nD τ).loc main_v93) = first (m ((c : Thread nD τ).loc main_arg6)) (m ((c : Thread nD τ).loc main_arg11))
      ∧ r.2.mem ((c : Thread nD τ).loc main_v96) = first (m ((c : Thread nD τ).loc main_arg7)) (m ((c : Thread nD τ).loc main_arg12))
      ∧ r.2.mem ((c : Thread nD τ).loc main_v100) = first (m ((c : Thread nD τ).loc main_arg8)) (m ((c : Thread nD τ).loc main_arg13))
      ∧ r.2.mem ((c : Thread nD τ).loc main_v104) = first (m ((c : Thread nD τ).loc main_arg9)) (m ((c : Thread nD τ).loc main_arg14))
      ∧ r.2.mem ((c : Thread nD τ).loc main_v108) = second (m ((c : Thread nD τ).loc main_arg5)) (m ((c : Thread nD τ).loc main_arg15))
      ∧ r.2.mem ((c : Thread nD τ).loc main_v111) = second (m ((c : Thread nD τ).loc main_arg6)) (m ((c : Thread nD τ).loc main_arg16))
      ∧ r.2.mem ((c : Thread nD τ).loc main_v114) = second (m ((c : Thread nD τ).loc main_arg7)) (m ((c : Thread nD τ).loc main_arg17))
      ∧ r.2.mem ((c : Thread nD τ).loc main_v118) = second (m ((c : Thread nD τ).loc main_arg8)) (m ((c : Thread nD τ).loc main_arg18))
      ∧ r.2.mem ((c : Thread nD τ).loc main_v122) = second (m ((c : Thread nD τ).loc main_arg9)) (m ((c : Thread nD τ).loc main_arg19))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) :=
  (θ_run defs _ _).mono (fun r h c =>
    have at' (b : Ref sig .tc) (hb : b ∈ Pipeline.restRefs sig spec0) := (h c).2 b hb
    ⟨(at' main_v72 (Pipeline.mem_restRefs_of main_v72 (by decide) (by decide))).trans (congrArg Five.a (res4 m c)),
      (at' main_v75 (Pipeline.mem_restRefs_of main_v75 (by decide) (by decide))).trans (congrArg Five.b (res4 m c)),
      (at' main_v78 (Pipeline.mem_restRefs_of main_v78 (by decide) (by decide))).trans (congrArg Five.c (res4 m c)),
      (at' main_v82 (Pipeline.mem_restRefs_of main_v82 (by decide) (by decide))).trans (congrArg Five.d (res4 m c)),
      (at' main_v86 (Pipeline.mem_restRefs_of main_v86 (by decide) (by decide))).trans (congrArg Five.e (res4 m c)),
      (at' main_v90 (Pipeline.mem_restRefs_of main_v90 (by decide) (by decide))).trans (congrArg Five.a (res5 m c)),
      (at' main_v93 (Pipeline.mem_restRefs_of main_v93 (by decide) (by decide))).trans (congrArg Five.b (res5 m c)),
      (at' main_v96 (Pipeline.mem_restRefs_of main_v96 (by decide) (by decide))).trans (congrArg Five.c (res5 m c)),
      (at' main_v100 (Pipeline.mem_restRefs_of main_v100 (by decide) (by decide))).trans (congrArg Five.d (res5 m c)),
      (at' main_v104 (Pipeline.mem_restRefs_of main_v104 (by decide) (by decide))).trans (congrArg Five.e (res5 m c)),
      (at' main_v108 (Pipeline.mem_restRefs_of main_v108 (by decide) (by decide))).trans (congrArg Five.a (res6 m c)),
      (at' main_v111 (Pipeline.mem_restRefs_of main_v111 (by decide) (by decide))).trans (congrArg Five.b (res6 m c)),
      (at' main_v114 (Pipeline.mem_restRefs_of main_v114 (by decide) (by decide))).trans (congrArg Five.c (res6 m c)),
      (at' main_v118 (Pipeline.mem_restRefs_of main_v118 (by decide) (by decide))).trans (congrArg Five.d (res6 m c)),
      (at' main_v122 (Pipeline.mem_restRefs_of main_v122 (by decide) (by decide))).trans (congrArg Five.e (res6 m c)),
      (at' main_arg0 (Pipeline.mem_restRefs_of main_arg0 (by decide) (by decide))).trans (W_main_arg0 m (dats m) c),
      (at' main_arg1 (Pipeline.mem_restRefs_of main_arg1 (by decide) (by decide))).trans (W_main_arg1 m (dats m) c),
      (at' main_arg2 (Pipeline.mem_restRefs_of main_arg2 (by decide) (by decide))).trans (W_main_arg2 m (dats m) c),
      (at' main_arg3 (Pipeline.mem_restRefs_of main_arg3 (by decide) (by decide))).trans (W_main_arg3 m (dats m) c),
      (at' main_arg4 (Pipeline.mem_restRefs_of main_arg4 (by decide) (by decide))).trans (W_main_arg4 m (dats m) c),
      (at' main_arg5 (Pipeline.mem_restRefs_of main_arg5 (by decide) (by decide))).trans (W_main_arg5 m (dats m) c),
      (at' main_arg6 (Pipeline.mem_restRefs_of main_arg6 (by decide) (by decide))).trans (W_main_arg6 m (dats m) c),
      (at' main_arg7 (Pipeline.mem_restRefs_of main_arg7 (by decide) (by decide))).trans (W_main_arg7 m (dats m) c),
      (at' main_arg8 (Pipeline.mem_restRefs_of main_arg8 (by decide) (by decide))).trans (W_main_arg8 m (dats m) c),
      (at' main_arg9 (Pipeline.mem_restRefs_of main_arg9 (by decide) (by decide))).trans (W_main_arg9 m (dats m) c),
      (at' main_arg10 (Pipeline.mem_restRefs_of main_arg10 (by decide) (by decide))).trans (W_main_arg10 m (dats m) c),
      (at' main_arg11 (Pipeline.mem_restRefs_of main_arg11 (by decide) (by decide))).trans (W_main_arg11 m (dats m) c),
      (at' main_arg12 (Pipeline.mem_restRefs_of main_arg12 (by decide) (by decide))).trans (W_main_arg12 m (dats m) c),
      (at' main_arg13 (Pipeline.mem_restRefs_of main_arg13 (by decide) (by decide))).trans (W_main_arg13 m (dats m) c),
      (at' main_arg14 (Pipeline.mem_restRefs_of main_arg14 (by decide) (by decide))).trans (W_main_arg14 m (dats m) c),
      (at' main_arg15 (Pipeline.mem_restRefs_of main_arg15 (by decide) (by decide))).trans (W_main_arg15 m (dats m) c),
      (at' main_arg16 (Pipeline.mem_restRefs_of main_arg16 (by decide) (by decide))).trans (W_main_arg16 m (dats m) c),
      (at' main_arg17 (Pipeline.mem_restRefs_of main_arg17 (by decide) (by decide))).trans (W_main_arg17 m (dats m) c),
      (at' main_arg18 (Pipeline.mem_restRefs_of main_arg18 (by decide) (by decide))).trans (W_main_arg18 m (dats m) c),
      (at' main_arg19 (Pipeline.mem_restRefs_of main_arg19 (by decide) (by decide))).trans (W_main_arg19 m (dats m) c)⟩) (run_main m ρ)

end Cert.AdamSmallIdeal.Tile
-- ==== Proof.AdamClaim.lean ====
module

public import proofs.«01_k».proof.Defs
public import proofs.«01_k».proof.Proof.Gen.AdamOut.Frame
public import proofs.«01_k».proof.Proof.Gen.AdamOutIdeal.Frame
public import proofs.«01_k».proof.Proof.AdamOutRun
public import proofs.«01_k».proof.Proof.AdamInRun
public import proofs.«01_k».proof.Proof.AdamSmallRun
public import proofs.«01_k».proof.Proof.Gen.AdamOutRefIdeal.Run
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamRepl.Frame
public import proofs.«01_k».proof.Proof.Gen.AdamReplIdeal.Value
public import proofs.«01_k».proof.Proof.Gen.AdamReplRefIdeal.Run
public import Idealize.ShloMosaic.Adequacy
public import Idealize.ShloMosaic.Lib.Pipeline.ValueKit

@[expose] public section

noncomputable section

open Idealize.ShloMosaic Idealize.ShloMosaic.TcCoe Idealize.SL.Sem

/-! # AdamW on the two projections' weights and on the two slabs of small weights: the five claims of each

The call computes each element of its three results from the same element of its four arguments, by the reference's operations in
the reference's order, and its tiles cover the arrays: both runs end in the same terms. -/

namespace Cert.AdamClaim

namespace AdamOut

theorem frameP : Cert.quiescent_AdamOut (hAdamOut := Cert.AdamOut.Gen.facts) := fun m ρ _ => Cert.AdamOut.Gen.frame m ρ

theorem framePI : Cert.quiescent_AdamOutIdeal (hAdamOutIdeal := Cert.AdamOutIdeal.Gen.facts) := fun m ρ _ => Cert.AdamOutIdeal.Gen.frame m ρ

theorem frameRI : Cert.quiescent_AdamOutRefIdeal (hAdamOutRefIdeal := Cert.AdamOutRefIdeal.Gen.facts) :=
  fun m ρ _ => (θ_run Cert.AdamOutRefIdeal.defs _ _).mono
    (fun r h => ⟨fun c => (h c).2.2.2, sem_eq_zero_of_no_sems (by decide) r.2⟩) (Cert.AdamOutRefIdeal.Value.run (F := Ideal) m ρ)

theorem algebraic : Cert.algebraic_AdamOutIdeal_AdamOutRefIdeal (hAdamOutIdeal := Cert.AdamOutIdeal.Gen.facts)
    (hAdamOutRefIdeal := Cert.AdamOutRefIdeal.Gen.facts) := by
  intro m ρ m' ρ' _ hagree
  refine ⟨_, _, _, Cert.AdamOutIdeal.Tile.run m ρ, ?_⟩
  refine (θ_run _ _ _).mono (fun r h c => ?_) (Cert.AdamOutRefIdeal.Value.run (F := Ideal) m' ρ')
  obtain ⟨h0, h1, h2, h3⟩ := hagree c
  obtain ⟨e0, e1, e2, k⟩ := h c
  rw [h0, h1, h2, h3] at e0
  rw [h1, h2] at e1
  rw [h1, h3] at e2
  exact ⟨e0, e1, e2, k⟩

end AdamOut

namespace AdamIn

theorem frameP : Cert.quiescent_AdamIn (hAdamIn := Cert.AdamIn.Gen.facts) := fun m ρ _ => Cert.AdamIn.Gen.frame m ρ

theorem framePI : Cert.quiescent_AdamInIdeal (hAdamInIdeal := Cert.AdamInIdeal.Gen.facts) := fun m ρ _ => Cert.AdamInIdeal.Gen.frame m ρ

theorem frameRI : Cert.quiescent_AdamInRefIdeal (hAdamInRefIdeal := Cert.AdamInRefIdeal.Gen.facts) :=
  fun m ρ _ => (θ_run Cert.AdamInRefIdeal.defs _ _).mono
    (fun r h => ⟨fun c => (h c).2.2.2, sem_eq_zero_of_no_sems (by decide) r.2⟩) (Cert.AdamInRefIdeal.Value.run (F := Ideal) m ρ)

theorem algebraic : Cert.algebraic_AdamInIdeal_AdamInRefIdeal (hAdamInIdeal := Cert.AdamInIdeal.Gen.facts)
    (hAdamInRefIdeal := Cert.AdamInRefIdeal.Gen.facts) := by
  intro m ρ m' ρ' _ hagree
  refine ⟨_, _, _, Cert.AdamInIdeal.Tile.run m ρ, ?_⟩
  refine (θ_run _ _ _).mono (fun r h c => ?_) (Cert.AdamInRefIdeal.Value.run (F := Ideal) m' ρ')
  obtain ⟨h0, h1, h2, h3⟩ := hagree c
  obtain ⟨e0, e1, e2, k⟩ := h c
  rw [h0, h1, h2, h3] at e0
  rw [h1, h2] at e1
  rw [h1, h3] at e2
  exact ⟨e0, e1, e2, k⟩

end AdamIn

namespace AdamSmall

theorem frameP : Cert.quiescent_AdamSmall (hAdamSmall := Cert.AdamSmall.Gen.facts) := fun m ρ _ => Cert.AdamSmall.Gen.frame m ρ

theorem framePI : Cert.quiescent_AdamSmallIdeal (hAdamSmallIdeal := Cert.AdamSmallIdeal.Gen.facts) := fun m ρ _ => Cert.AdamSmallIdeal.Gen.frame m ρ

theorem frameRI : Cert.quiescent_AdamSmallRefIdeal (hAdamSmallRefIdeal := Cert.AdamSmallRefIdeal.Gen.facts) :=
  fun m ρ _ => (θ_run Cert.AdamSmallRefIdeal.defs _ _).mono
    (fun r h => ⟨fun c => (h c).2.2.2.2.2.2.2.2.2.2.2.2.2.2.2, sem_eq_zero_of_no_sems (by decide) r.2⟩) (Cert.AdamSmallRefIdeal.Value.run (F := Ideal) m ρ)

theorem algebraic : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ hagree
  refine ⟨_, _, _, _, _, _, _, _, _, _, _, _, _, _, _, Cert.AdamSmallIdeal.Tile.run m ρ, ?_⟩
  refine (θ_run _ _ _).mono (fun r h c => ?_) (Cert.AdamSmallRefIdeal.Value.run (F := Ideal) m' ρ')
  obtain ⟨h0, h1, h2, h3, h4, h5, h6, h7, h8, h9, h10, h11, h12, h13, h14, h15, h16, h17, h18, h19⟩ := hagree c
  obtain ⟨e0, e1, e2, e3, e4, e5, e6, e7, e8, e9, e10, e11, e12, e13, e14, k⟩ := h c
  rw [h0, h5, h10, h15] at e0
  rw [h1, h6, h11, h16] at e1
  rw [h2, h7, h12, h17] at e2
  rw [h3, h8, h13, h18] at e3
  rw [h4, h9, h14, h19] at e4
  rw [h5, h10] at e5
  rw [h6, h11] at e6
  rw [h7, h12] at e7
  rw [h8, h13] at e8
  rw [h9, h14] at e9
  rw [h5, h15] at e10
  rw [h6, h16] at e11
  rw [h7, h17] at e12
  rw [h8, h18] at e13
  rw [h9, h19] at e14
  exact ⟨e0, e1, e2, e3, e4, e5, e6, e7, e8, e9, e10, e11, e12, e13, e14, k⟩

end AdamSmall

namespace AdamRepl

theorem frameP : Cert.quiescent_AdamRepl (hAdamRepl := Cert.AdamRepl.Gen.facts) := fun m ρ _ => Cert.AdamRepl.Gen.frame m ρ

theorem framePI : Cert.quiescent_AdamReplIdeal (hAdamReplIdeal := Cert.AdamReplIdeal.Gen.facts) := fun m ρ _ => Cert.AdamReplIdeal.Gen.frame m ρ

theorem frameRI : Cert.quiescent_AdamReplRefIdeal (hAdamReplRefIdeal := Cert.AdamReplRefIdeal.Gen.facts) :=
  fun m ρ _ => (θ_run Cert.AdamReplRefIdeal.defs _ _).mono
    (fun r h => ⟨fun c => (h c).2.2.2, sem_eq_zero_of_no_sems (by decide) r.2⟩) (Cert.AdamReplRefIdeal.Value.run (F := Ideal) m ρ)

theorem algebraic : Cert.algebraic_AdamReplIdeal_AdamReplRefIdeal (hAdamReplIdeal := Cert.AdamReplIdeal.Gen.facts)
    (hAdamReplRefIdeal := Cert.AdamReplRefIdeal.Gen.facts) := by
  intro m ρ m' ρ' _ hagree
  refine ⟨_, _, _, Cert.AdamReplIdeal.Value.run (F := Ideal) m ρ, ?_⟩
  refine (θ_run _ _ _).mono (fun r h c => ?_) (Cert.AdamReplRefIdeal.Value.run (F := Ideal) m' ρ')
  obtain ⟨h0, h1, h2, h3⟩ := hagree c
  obtain ⟨e0, e1, e2, k⟩ := h c
  rw [h0, h1, h2, h3] at e0
  rw [h1, h2] at e1
  rw [h1, h3] at e2
  exact ⟨e0, e1, e2, k⟩

end AdamRepl

end Cert.AdamClaim
-- ==== Proof.SumClaim.lean ====
module

public import proofs.«01_k».proof.Defs
public import proofs.«01_k».proof.Proof.Gen.SumIn.Frame
public import proofs.«01_k».proof.Proof.Gen.SumInIdeal.Value
public import proofs.«01_k».proof.Proof.Gen.SumInRefIdeal.Read
public import proofs.«01_k».proof.Proof.Gen.SumOut.Frame
public import proofs.«01_k».proof.Proof.Gen.SumOutIdeal.Value
public import proofs.«01_k».proof.Proof.Gen.SumOutRefIdeal.Read
public import proofs.«01_k».proof.Proof.Gen.SumSmall.Frame
public import proofs.«01_k».proof.Proof.Gen.SumSmallIdeal.Value
public import proofs.«01_k».proof.Proof.Gen.SumSmallRefIdeal.Read
public import proofs.«01_k».proof.Proof.Gen.SumRepl.Frame
public import proofs.«01_k».proof.Proof.Gen.SumReplIdeal.Value
public import proofs.«01_k».proof.Proof.Gen.SumReplRefIdeal.Read
public import Idealize.ShloMosaic.Adequacy
public import Idealize.ShloMosaic.Lib.Pipeline.ValueKit

@[expose] public section

set_option maxRecDepth 16384

noncomputable section

open Idealize.ShloMosaic Idealize.ShloMosaic.TcCoe Idealize.SL.Sem

/-! # The sums over the eight devices' slots: the five claims of each -/

namespace Cert.SumClaim

/-- Eight slots added one after another are their sum. -/
theorem eight (f : Fin 8 → EReal) {a0 a1 a2 a3 a4 a5 a6 a7 : EReal} (h0 : a0 = f 0) (h1 : a1 = f 1) (h2 : a2 = f 2) (h3 : a3 = f 3)
    (h4 : a4 = f 4) (h5 : a5 = f 5) (h6 : a6 = f 6) (h7 : a7 = f 7) :
    a0 + a1 + a2 + a3 + a4 + a5 + a6 + a7 = Ideal.ofBits .f32 0x00000000#32 + ∑ k, f k := by
  rw [Fin.sum_univ_eight, show Ideal.ofBits .f32 0x00000000#32 = 0 from Ideal.ofBits_zero .f32, zero_add, h0, h1, h2, h3, h4, h5, h6, h7]

namespace SumIn

section Value
open Cert.SumInIdeal Cert.SumInIdeal.Gen Cert.SumInIdeal.Value

variable (m : (ℓ : Loc nD τ sig) → Buf (Elt Ideal) ℓ) (c : Dev nD)

/-- The slots as given. -/
abbrev argR : FVec Ideal S8x512x834 .f32 := m ((c : Thread nD τ).loc main_arg0)

theorem idx : ∀ t : Fin cfg0.N, win0_0.index t = ![0, t.val, 0] ∧ win0_1.index t = ![t.val, 0] :=
  (by decide +kernel : ∀ t : Fin grid0.N, _)

theorem V_main_v0 : (V m c main_v0 : FVec Ideal S8x512x834 .bf16) = truncf .bf16 (argR m c) bitsLt_bf16_f32 := by
  entry_read
  rfl

theorem blk_apply (t : Fin cfg0.N) (k : Fin 8) (y0 : Fin 256) (y1 : Fin 834) :
    (iblk m c 0 t : FVec Ideal S8x256x834 .bf16) (ix3 k y0 y1)
      = argR m c (ix3 k ⟨256 * t.val + y0.val, by have := lt_of_lt_of_eq t.isLt N_0; omega⟩ y1) := by
  refine Eq.trans (b := (V m c main_v0 : FVec Ideal S8x512x834 .bf16) _) ?_ (congrFun (V_main_v0 m c) _)
  blk_ext [iblk, idx t]

theorem final1 : ((dats m 0 c).arrAt 1 cfg0.N : FVec Ideal S512x834 .f32) = Cert.SumInRefIdeal.Read.val_main_v0 (F := Ideal) (argR m c) := by
  refine (dats m 0 c).arrAt_eq_of_covers 1 _ (by decide +kernel) fun t hf y => ?_
  blk_simp
  rw [after0_1]
  idx_vars y
  have hN : t.val < 2 := lt_of_lt_of_eq t.isLt N_0
  have e : ((View.whole main_v1).slice (win0_1.rect t)).emb (ix2 y0 y1) = ix2 ⟨256 * t.val + y0.val, by omega⟩ y1 := by
    blk_ext [idx t]
  rw [e, Cert.SumInRefIdeal.Read.val_main_v0_apply, out0_1, canon1_eq]
  have h := fun k : Fin 8 => (blk_apply m c t k y0 y1).trans (congrArg (argR m c) (by blk_ext [] :
    _ = Cert.SumInRefIdeal.Read.idx_main_v0 (ix2 ⟨256 * t.val + y0.val, by omega⟩ y1) k))
  refine eight _ (.trans ?_ (h 0)) (.trans ?_ (h 1)) (.trans ?_ (h 2)) (.trans ?_ (h 3)) (.trans ?_ (h 4)) (.trans ?_ (h 5))
    (.trans ?_ (h 6)) (.trans ?_ (h 7))
  all_goals exact congrArg (iblk m c 0 t) (funext fun a => Fin.ext (by fin_cases a <;> simp [LoadRect.idx, Rect.unit]))

end Value

theorem frameP : Cert.quiescent_SumIn (hSumIn := Cert.SumIn.Gen.facts) := fun m ρ _ => Cert.SumIn.Gen.frame m ρ

theorem framePI : Cert.quiescent_SumInIdeal (hSumInIdeal := Cert.SumInIdeal.Gen.facts) := fun m ρ _ => Cert.SumInIdeal.Gen.frame m ρ

theorem frameRI : Cert.quiescent_SumInRefIdeal (hSumInRefIdeal := Cert.SumInRefIdeal.Gen.facts) :=
  fun m ρ _ => (θ_run Cert.SumInRefIdeal.defs _ _).mono
    (fun r h => ⟨fun c => (h c).2, sem_eq_zero_of_no_sems (by decide) r.2⟩) (Cert.SumInRefIdeal.Value.run (F := Ideal) m ρ)

theorem algebraic : Cert.algebraic_SumInIdeal_SumInRefIdeal (hSumInIdeal := Cert.SumInIdeal.Gen.facts)
    (hSumInRefIdeal := Cert.SumInRefIdeal.Gen.facts) := by
  intro m ρ m' ρ' _ hagree
  refine ⟨_, (θ_run _ _ _).mono (fun r h c => ⟨(h c).1.trans (final1 m c), (h c).2⟩) (Cert.SumInIdeal.Value.run_blocks m ρ), ?_⟩
  refine (θ_run _ _ _).mono (fun r h c => ⟨(h c).1.trans ?_, (h c).2⟩) (Cert.SumInRefIdeal.Value.run (F := Ideal) m' ρ')
  rw [Cert.SumInRefIdeal.Read.val_main_v0_eq, hagree c]

end SumIn

namespace SumOut

section Value
open Cert.SumOutIdeal Cert.SumOutIdeal.Gen Cert.SumOutIdeal.Value

variable (m : (ℓ : Loc nD τ sig) → Buf (Elt Ideal) ℓ) (c : Dev nD)

/-- The slots as given. -/
abbrev argR : FVec Ideal S8x128x1024 .f32 := m ((c : Thread nD τ).loc main_arg0)

theorem idx : ∀ t : Fin cfg0.N, win0_0.index t = ![0, 0, 0] ∧ win0_1.index t = ![0, 0] :=
  (by decide +kernel : ∀ t : Fin grid0.N, _)

theorem V_main_v0 : (V m c main_v0 : FVec Ideal S8x128x1024 .bf16) = truncf .bf16 (argR m c) bitsLt_bf16_f32 := by
  entry_read
  rfl

theorem blk_apply (t : Fin cfg0.N) (j : S8x128x1024.Idx) : (iblk m c 0 t : FVec Ideal S8x128x1024 .bf16) j = argR m c j := by
  refine Eq.trans (b := (V m c main_v0 : FVec Ideal S8x128x1024 .bf16) _) ?_ (congrFun (V_main_v0 m c) _)
  idx_vars j
  blk_ext [iblk, idx t]

theorem final1 : ((dats m 0 c).arrAt 1 cfg0.N : FVec Ideal S128x1024 .f32) = Cert.SumOutRefIdeal.Read.val_main_v0 (F := Ideal) (argR m c) := by
  refine (dats m 0 c).arrAt_eq_of_covers 1 _ (by decide +kernel) fun t hf y => ?_
  blk_simp
  rw [after0_1]
  idx_vars y
  have e : ((View.whole main_v1).slice (win0_1.rect t)).emb (ix2 y0 y1) = ix2 y0 y1 := by
    blk_ext [idx t]
  rw [e, Cert.SumOutRefIdeal.Read.val_main_v0_apply, out0_1, canon1_eq]
  refine eight _ (.trans (blk_apply m c t _) ?_) (.trans (blk_apply m c t _) ?_) (.trans (blk_apply m c t _) ?_) (.trans (blk_apply m c t _) ?_)
    (.trans (blk_apply m c t _) ?_) (.trans (blk_apply m c t _) ?_) (.trans (blk_apply m c t _) ?_) (.trans (blk_apply m c t _) ?_)
  all_goals exact congrArg (argR m c) (funext fun a => Fin.ext (by fin_cases a <;> simp [LoadRect.idx, Rect.unit]))

end Value

theorem frameP : Cert.quiescent_SumOut (hSumOut := Cert.SumOut.Gen.facts) := fun m ρ _ => Cert.SumOut.Gen.frame m ρ

theorem framePI : Cert.quiescent_SumOutIdeal (hSumOutIdeal := Cert.SumOutIdeal.Gen.facts) := fun m ρ _ => Cert.SumOutIdeal.Gen.frame m ρ

theorem frameRI : Cert.quiescent_SumOutRefIdeal (hSumOutRefIdeal := Cert.SumOutRefIdeal.Gen.facts) :=
  fun m ρ _ => (θ_run Cert.SumOutRefIdeal.defs _ _).mono
    (fun r h => ⟨fun c => (h c).2, sem_eq_zero_of_no_sems (by decide) r.2⟩) (Cert.SumOutRefIdeal.Value.run (F := Ideal) m ρ)

theorem algebraic : Cert.algebraic_SumOutIdeal_SumOutRefIdeal (hSumOutIdeal := Cert.SumOutIdeal.Gen.facts)
    (hSumOutRefIdeal := Cert.SumOutRefIdeal.Gen.facts) := by
  intro m ρ m' ρ' _ hagree
  refine ⟨_, (θ_run _ _ _).mono (fun r h c => ⟨(h c).1.trans (final1 m c), (h c).2⟩) (Cert.SumOutIdeal.Value.run_blocks m ρ), ?_⟩
  refine (θ_run _ _ _).mono (fun r h c => ⟨(h c).1.trans ?_, (h c).2⟩) (Cert.SumOutRefIdeal.Value.run (F := Ideal) m' ρ')
  rw [Cert.SumOutRefIdeal.Read.val_main_v0_eq, hagree c]

end SumOut

namespace SumSmall

open Cert.SumSmallIdeal Cert.SumSmallIdeal.Gen Cert.SumSmallIdeal.Value in
theorem sum_eq (x : FVec Ideal S8x80x1024 .f32) : G1 x = Cert.SumSmallRefIdeal.Read.val_main_v0 (F := Ideal) x := by
  funext i
  rw [← out1_eq, out0_1, canon1_eq, Cert.SumSmallRefIdeal.Read.val_main_v0_apply]
  refine eight _ ?_ ?_ ?_ ?_ ?_ ?_ ?_ ?_
  all_goals exact congrArg x (funext fun a => Fin.ext (by fin_cases a <;> simp [LoadRect.idx, Rect.unit]))

theorem frameP : Cert.quiescent_SumSmall (hSumSmall := Cert.SumSmall.Gen.facts) := fun m ρ _ => Cert.SumSmall.Gen.frame m ρ

theorem framePI : Cert.quiescent_SumSmallIdeal (hSumSmallIdeal := Cert.SumSmallIdeal.Gen.facts) :=
  fun m ρ _ => Cert.SumSmallIdeal.Gen.frame m ρ

theorem frameRI : Cert.quiescent_SumSmallRefIdeal (hSumSmallRefIdeal := Cert.SumSmallRefIdeal.Gen.facts) :=
  fun m ρ _ => (θ_run Cert.SumSmallRefIdeal.defs _ _).mono
    (fun r h => ⟨fun c => (h c).2, sem_eq_zero_of_no_sems (by decide) r.2⟩) (Cert.SumSmallRefIdeal.Value.run (F := Ideal) m ρ)

theorem algebraic : Cert.algebraic_SumSmallIdeal_SumSmallRefIdeal (hSumSmallIdeal := Cert.SumSmallIdeal.Gen.facts)
    (hSumSmallRefIdeal := Cert.SumSmallRefIdeal.Gen.facts) := by
  intro m ρ m' ρ' _ hagree
  refine ⟨_, (θ_run _ _ _).mono (fun r h c => ⟨(h c).1.trans (sum_eq _), (h c).2⟩) (Cert.SumSmallIdeal.Value.run (F := Ideal) m ρ), ?_⟩
  refine (θ_run _ _ _).mono (fun r h c => ⟨(h c).1.trans ?_, (h c).2⟩) (Cert.SumSmallRefIdeal.Value.run (F := Ideal) m' ρ')
  rw [Cert.SumSmallRefIdeal.Read.val_main_v0_eq, hagree c]

end SumSmall

namespace SumRepl

open Cert.SumReplIdeal Cert.SumReplIdeal.Gen Cert.SumReplIdeal.Value in
theorem sum_eq (x : FVec Ideal S8x48x1024 .f32) : G1 x = Cert.SumReplRefIdeal.Read.val_main_v0 (F := Ideal) x := by
  funext i
  rw [← out1_eq, out0_1, canon1_eq, Cert.SumReplRefIdeal.Read.val_main_v0_apply]
  refine eight _ ?_ ?_ ?_ ?_ ?_ ?_ ?_ ?_
  all_goals exact congrArg x (funext fun a => Fin.ext (by fin_cases a <;> simp [LoadRect.idx, Rect.unit]))

theorem frameP : Cert.quiescent_SumRepl (hSumRepl := Cert.SumRepl.Gen.facts) := fun m ρ _ => Cert.SumRepl.Gen.frame m ρ

theorem framePI : Cert.quiescent_SumReplIdeal (hSumReplIdeal := Cert.SumReplIdeal.Gen.facts) :=
  fun m ρ _ => Cert.SumReplIdeal.Gen.frame m ρ

theorem frameRI : Cert.quiescent_SumReplRefIdeal (hSumReplRefIdeal := Cert.SumReplRefIdeal.Gen.facts) :=
  fun m ρ _ => (θ_run Cert.SumReplRefIdeal.defs _ _).mono
    (fun r h => ⟨fun c => (h c).2, sem_eq_zero_of_no_sems (by decide) r.2⟩) (Cert.SumReplRefIdeal.Value.run (F := Ideal) m ρ)

theorem algebraic : Cert.algebraic_SumReplIdeal_SumReplRefIdeal (hSumReplIdeal := Cert.SumReplIdeal.Gen.facts)
    (hSumReplRefIdeal := Cert.SumReplRefIdeal.Gen.facts) := by
  intro m ρ m' ρ' _ hagree
  refine ⟨_, (θ_run _ _ _).mono (fun r h c => ⟨(h c).1.trans (sum_eq _), (h c).2⟩) (Cert.SumReplIdeal.Value.run (F := Ideal) m ρ), ?_⟩
  refine (θ_run _ _ _).mono (fun r h c => ⟨(h c).1.trans ?_, (h c).2⟩) (Cert.SumReplRefIdeal.Value.run (F := Ideal) m' ρ')
  rw [Cert.SumReplRefIdeal.Read.val_main_v0_eq, hagree c]

end SumRepl

end Cert.SumClaim
-- ==== Proof.S5Spec.lean ====
module

public import Idealize.ShloMosaic.Lib.Pipeline.ValueKit

@[expose] public section

noncomputable section

open Idealize.ShloMosaic

/-! # The state space layer's parameters, discretised, and their gradients

One state of one group by its three parameters `x`, `y` (the rate's real and imaginary part) and `t` (the logarithm
of the step), and the cotangents `a`, `b` of the recurrence's coefficient and `p`, `q` of the input factor. -/

namespace Cert.S5Spec

def half : EReal := Ideal.ofBits .f32 0x3F000000#32
def top : EReal := Ideal.ofBits .f32 0xB8D1B717#32

def lr (x : EReal) : EReal := min x top
def slope (x : EReal) : EReal := if x < top then 1 else if top = x then half else 0
def dt (t : EReal) : EReal := Ideal.exp t
def mag (x t : EReal) : EReal := Ideal.exp (lr x * dt t)
def co (y t : EReal) : EReal := Ideal.cos (y * dt t)
def si (y t : EReal) : EReal := Ideal.sin (y * dt t)
def ar (x y t : EReal) : EReal := mag x t * co y t
def ai (x y t : EReal) : EReal := mag x t * si y t
def den (x y : EReal) : EReal := lr x * lr x + y * y
def n1 (x y t : EReal) : EReal := (ar x y t - 1) * lr x + ai x y t * y
def n2 (x y t : EReal) : EReal := ai x y t * lr x - (ar x y t - 1) * y
def fr (x y t : EReal) : EReal := Ideal.div (n1 x y t) (den x y)
def fi (x y t : EReal) : EReal := Ideal.div (n2 x y t) (den x y)
def sq (x y : EReal) : EReal := Ideal.div 1 (den x y * den x y)

def dden (x y t p q : EReal) : EReal := -(p * sq x y * n2 x y t) + -(q * sq x y * n1 x y t)
def dai (x y b p q : EReal) : EReal := b + Ideal.div p (den x y) * lr x + Ideal.div q (den x y) * y
def dar (x y a p q : EReal) : EReal := a + -(Ideal.div p (den x y)) * y + Ideal.div q (den x y) * lr x
def e1 (x y t b p q : EReal) : EReal := mag x t * dai x y b p q * co y t
def e2 (x y t a p q : EReal) : EReal := -(mag x t * dar x y a p q) * si y t
def dmag (x y t a b p q : EReal) : EReal := (dai x y b p q * si y t + dar x y a p q * co y t) * mag x t
def dlim (x y t a b p q : EReal) : EReal :=
  (ar x y t - 1) * -(Ideal.div p (den x y)) + ai x y t * Ideal.div q (den x y) + y * dden x y t p q + dden x y t p q * y
    + e1 x y t b p q * dt t + e2 x y t a p q * dt t
def dlre (x y t a b p q : EReal) : EReal :=
  (ai x y t * Ideal.div p (den x y) + (ar x y t - 1) * Ideal.div q (den x y) + lr x * dden x y t p q + dden x y t p q * lr x
    + dmag x y t a b p q * dt t) * slope x
def dlog (x y t a b p q : EReal) : EReal := (y * e1 x y t b p q + y * e2 x y t a p q + lr x * dmag x y t a b p q) * dt t

/-- The input factor's cotangents from the input matrix's (real part `u`, imaginary part `v`) and the input map. -/
def bwP (u v br bi : Fin 16 → EReal) : EReal := ∑ h, v h * br h + ∑ h, -u h * bi h
def bwQ (u v br bi : Fin 16 → EReal) : EReal := ∑ h, v h * bi h + ∑ h, u h * br h

/-- The mask's entry: one where the two groups are the same, else zero. -/
def hot (g k : ℕ) : EReal := if g = k then 1 else 0

theorem sum_hot (f : Fin 16 → EReal) (g : Fin 16) : ∑ s : Fin 16, f s * hot s.val g.val = f g := by
  rw [Finset.sum_eq_single g]
  · simp [hot]
  · intro s _ h
    simp [hot, Fin.val_ne_of_ne h]
  · simp

theorem sum_hot' (f : Fin 16 → EReal) (g : Fin 16) : ∑ s : Fin 16, f s * hot g.val s.val = f g := by
  rw [Finset.sum_eq_single g]
  · simp [hot]
  · intro s _ h
    simp [hot, Fin.val_ne_of_ne (Ne.symm h)]
  · simp

theorem sixteen (f : Fin 16 → EReal) : f 0 + f 1 + f 2 + f 3 + f 4 + f 5 + f 6 + f 7 + f 8 + f 9 + f 10 + f 11 + f 12 + f 13
    + f 14 + f 15 = ∑ s : Fin 16, f s := by
  simp only [Fin.sum_univ_succ, Fin.sum_univ_zero, add_zero, ← add_assoc]
  rfl

/-- The quotient of two words rounded towards minus infinity, in the operations the kernel takes it in. -/
def fdiv (d a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt d 0#32)) (Scalar.extui (Scalar.cmpi .slt d 0#32))))
      (IntOp.cmpi .ne (IntOp.remsi .vector a d) 0#32))
    (IntOp.subi (IntOp.divsi .vector a d) 1#32) (IntOp.divsi .vector a d)

theorem fdiv64 : ∀ j : Fin 1024, fdiv 64#32 (BitVec.ofNat 32 j.val) = BitVec.ofNat 32 (j.val / 64) := by decide +kernel
theorem fdiv16 : ∀ r : Fin 256, fdiv 16#32 (BitVec.ofNat 32 r.val) = BitVec.ofNat 32 (r.val / 16) := by decide +kernel

theorem cmp_hot (g k : ℕ) (hg : g < 128) (hk : k < 128) :
    IntOp.cmpi .eq (BitVec.ofNat 32 g) (BitVec.ofNat 32 k) = if g = k then 1#1 else 0#1 := by
  have h : (BitVec.ofNat 32 g = BitVec.ofNat 32 k) ↔ g = k := by
    rw [← BitVec.toNat_inj, BitVec.toNat_ofNat, BitVec.toNat_ofNat]
    omega
  by_cases e : g = k
  · simp [IntOp.cmpi, e]
  · rw [if_neg e]
    show BitVec.ofBool (BitVec.ofNat 32 g == BitVec.ofNat 32 k) = 0#1
    rw [beq_eq_false_iff_ne.mpr (fun c => e (h.mp c))]
    rfl

theorem signed_hot (g k : ℕ) (hg : g < 128) (hk : k < 128) :
    FloatOps.sitofp (F := Ideal) .f32 (BitVec.setWidth 32 (IntOp.cmpi .eq (BitVec.ofNat 32 g) (BitVec.ofNat 32 k))) = hot g k := by
  rw [cmp_hot g k hg hk]
  unfold hot
  split <;> simp [FloatOps.sitofp]

theorem unsigned_hot (g k : ℕ) (hg : g < 128) (hk : k < 128) :
    FloatOps.uitofp (F := Ideal) .f32 (IntOp.cmpi .eq (BitVec.ofNat 32 g) (BitVec.ofNat 32 k)) = hot g k := by
  rw [cmp_hot g k hg hk]
  unfold hot
  split <;> simp [FloatOps.uitofp]

/-- A lane's group and state. -/
abbrev gr (j : Fin 1024) : Fin 16 := ⟨j.val / 64, by omega⟩
abbrev st (j : Fin 1024) : Fin 64 := ⟨j.val % 64, by omega⟩

abbrev lane (g : Fin 16) (s : Fin 64) : Fin 1024 := ⟨g.val * 64 + s.val, by omega⟩
/-- The row of a group's feature. -/
abbrev rowAt (g h : Fin 16) : Fin 256 := ⟨g.val * 16 + h.val, by omega⟩

/-- The sixteen blocks of a matrix under the mask, added up, are the diagonal one. -/
theorem stack (x M : Fin 256 → EReal) (g : Fin 16) (hM : ∀ r, M r = hot (r.val / 16) g.val) (h : Fin 16) :
    x ⟨h.val, by omega⟩ * M ⟨h.val, by omega⟩ + x ⟨16 + h.val, by omega⟩ * M ⟨16 + h.val, by omega⟩
      + x ⟨32 + h.val, by omega⟩ * M ⟨32 + h.val, by omega⟩ + x ⟨48 + h.val, by omega⟩ * M ⟨48 + h.val, by omega⟩
      + x ⟨64 + h.val, by omega⟩ * M ⟨64 + h.val, by omega⟩ + x ⟨80 + h.val, by omega⟩ * M ⟨80 + h.val, by omega⟩
      + x ⟨96 + h.val, by omega⟩ * M ⟨96 + h.val, by omega⟩ + x ⟨112 + h.val, by omega⟩ * M ⟨112 + h.val, by omega⟩
      + x ⟨128 + h.val, by omega⟩ * M ⟨128 + h.val, by omega⟩ + x ⟨144 + h.val, by omega⟩ * M ⟨144 + h.val, by omega⟩
      + x ⟨160 + h.val, by omega⟩ * M ⟨160 + h.val, by omega⟩ + x ⟨176 + h.val, by omega⟩ * M ⟨176 + h.val, by omega⟩
      + x ⟨192 + h.val, by omega⟩ * M ⟨192 + h.val, by omega⟩ + x ⟨208 + h.val, by omega⟩ * M ⟨208 + h.val, by omega⟩
      + x ⟨224 + h.val, by omega⟩ * M ⟨224 + h.val, by omega⟩ + x ⟨240 + h.val, by omega⟩ * M ⟨240 + h.val, by omega⟩
      = x (rowAt g h) := by
  have e : ∀ s : Fin 16, x (rowAt s h) * M (rowAt s h) = x (rowAt s h) * hot s.val g.val := fun s => by
    rw [hM]
    exact congrArg (x (rowAt s h) * hot · g.val) (by show (s.val * 16 + h.val) / 16 = s.val; omega)
  refine Eq.trans ?_ ((sixteen fun s => x (rowAt s h) * M (rowAt s h)).trans ((Finset.sum_congr rfl fun s _ => e s).trans (sum_hot _ g)))
  simp [rowAt]

theorem sum_lanes (f : Fin 1024 → EReal) : ∑ j, f j = ∑ g : Fin 16, ∑ s : Fin 64, f (lane g s) := by
  rw [← Fintype.sum_prod_type']
  exact (Fintype.sum_equiv finProdFinEquiv (fun p : Fin 16 × Fin 64 => f (lane p.1 p.2)) f
    (fun p => congrArg f (Fin.ext (by show p.1.val * 64 + p.2.val = p.2.val + 64 * p.1.val; omega)))).symm

theorem sum_group (f : Fin 1024 → EReal) (k : ℕ) :
    ∑ j, f j * hot k (j.val / 64) = if h : k < 16 then ∑ s, f (lane ⟨k, h⟩ s) else 0 := by
  rw [sum_lanes]
  have e : ∀ (g : Fin 16) (s : Fin 64), (lane g s).val / 64 = g.val := fun g s => by
    show (g.val * 64 + s.val) / 64 = g.val
    omega
  simp only [e]
  split
  · next h =>
    rw [Finset.sum_eq_single (⟨k, h⟩ : Fin 16)]
    · simp [hot]
    · intro g _ hg
      have : k ≠ g.val := fun c => hg (Fin.ext c.symm)
      simp [hot, this]
    · simp
  · next h =>
    refine Finset.sum_eq_zero fun g _ => Finset.sum_eq_zero fun s _ => ?_
    have : k ≠ g.val := fun c => h (c ▸ g.isLt)
    simp [hot, this]

end Cert.S5Spec

end

end
-- ==== Proof.S5FwdTile.lean ====
module

public import proofs.«01_k».proof.Proof.S5Spec
public import proofs.«01_k».proof.Proof.Gen.S5PrepIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' kernel at an index of its blocks -/

namespace Cert.S5PrepIdeal.Tile

open Cert.S5PrepIdeal Cert.S5PrepIdeal.Gen Cert.S5Spec

theorem ld0 (x : Vec Ideal S1x1024 .f32) : View.ld x r0_0 = x := View.ld_unit_lit _ x (by decide)
theorem ld1 (x : Vec Ideal S1x128 .f32) : View.ld x r0_1 = x := View.ld_unit_lit _ x (by decide)
theorem ld2 (x : Vec Ideal S16x1024 .f32) : View.ld x r0_2 = x := View.ld_unit_lit _ x (by decide)

/-! ## The step and the mask -/

variable (x0 x1 : FVec Ideal S1x1024 .f32) (x2 : FVec Ideal S1x128 .f32) (x3 x4 x5 x6 : FVec Ideal S16x1024 .f32)
  (r : Fin 256) (h : Fin 16) (j : Fin 1024)

abbrev T : EReal := x2 (ix2 0 ⟨j.val / 64, by omega⟩)

theorem sum_row (v : FVec Ideal S1x128 .f32) (j : Fin 1024) :
    ∑ k : Fin 128, v (ix2 0 k) * hot k.val (j.val / 64) = v (ix2 0 ⟨j.val / 64, by omega⟩) := by
  rw [Finset.sum_eq_single (⟨j.val / 64, by omega⟩ : Fin 128)]
  · simp [hot]
  · intro k _ h
    have : k.val ≠ j.val / 64 := fun c => h (Fin.ext c)
    simp [hot, this]
  · simp

theorem pay12 : k0_pay12 (F := Ideal) x2 (k0_pay27 (F := Ideal) x0 x1 x2 x3 x4 x5 x6) k0_pay9 k0_pay10 k0_pay11 (ix2 0 j) = dt (T x2 j) := by
  have e : ∀ k : Fin 128, FloatOps.sitofp (F := Ideal) .f32 (BitVec.setWidth 32 (IntOp.cmpi .eq (BitVec.ofNat 32 k.val) (fdiv 64#32 (BitVec.ofNat 32 j.val))))
      = hot k.val (j.val / 64) := fun k => by rw [fdiv64, signed_hot _ _ k.isLt (by omega)]
  pointwise [k0_pay12, k0_pay27, k0_pay9, k0_pay10, k0_pay11]
  refine congrArg Ideal.exp (Eq.trans ?_ (sum_row x2 j))
  exact Finset.sum_congr rfl fun k _ => congrArg (x2 (ix2 0 k) * ·) (e k)

theorem mask : k0_pay25 (F := Ideal) (k0_pay36 (F := Ideal) x0 x1 x2 x3 x4 x5 x6) (k0_pay37 (F := Ideal) x0 x1 x2 x3 x4 x5 x6) 16#32 (k0_pay38 (F := Ideal) x0 x1 x2 x3 x4 x5 x6) (k0_pay39 (F := Ideal) x0 x1 x2 x3 x4 x5 x6) (k0_pay40 (F := Ideal) x0 x1 x2 x3 x4 x5 x6) (ix2 r j)
    = hot (r.val / 16) (j.val / 64) := by
  pointwise [k0_pay25, k0_pay36, k0_pay37, k0_pay38, k0_pay39, k0_pay40, k0_pay22, k0_pay23, k0_pay24]
  show FloatOps.sitofp .f32 (BitVec.setWidth 32 (IntOp.cmpi .eq (fdiv 16#32 (BitVec.ofNat 32 r.val)) (fdiv 64#32 (BitVec.ofNat 32 j.val)))) = _
  rw [fdiv16, fdiv64, signed_hot _ _ (by omega) (by omega)]

/-! ## Sixteen copies of the rows -/

/-- Sixteen copies of the sixteen rows, one under the other. -/
def tiled (v : FVec Ideal S16x1024 .f32) : FVec Ideal S256x1024 .f32 :=
  concatenate S256x1024 0 (List.replicate 16 ⟨S16x1024, v⟩) concatenates_S16x1024_S16x1024_S16x1024_S16x1024_S16x1024_S16x1024_S16x1024_S16x1024_S16x1024_S16x1024_S16x1024_S16x1024_S16x1024_S16x1024_S16x1024_S16x1024_S256x1024_d0

theorem tiled_apply (v : FVec Ideal S16x1024 .f32) : tiled v (ix2 r j) = v (ix2 ⟨r.val % 16, by omega⟩ j) := by
  refine concatenate_replicate_apply (t := S256x1024) (s₁ := S16x1024) 0 16 v _ rfl (ix2 r j) (ix2 ⟨r.val % 16, by omega⟩ j) rfl fun b hb => ?_
  fin_cases b
  · exact absurd rfl hb
  · rfl

theorem pay1 (v11 v13 : FVec Ideal S16x1024 .f32) (M : FVec Ideal S256x1024 .f32) :
    k0_pay1 (F := Ideal) v11 v13 M = concatenate S256x2048 1 [⟨S256x1024, mulf (tiled v11) M⟩,
      ⟨S256x1024, mulf (tiled (subf (broadcast S16x1024 (Scalar.ofBits .f32 0x00000000#32)) v13)) M⟩] concatenates_S256x1024_S256x1024_S256x2048_d1 := rfl

theorem pay26 (v77 v82 : FVec Ideal S16x1024 .f32) : k0_pay26 (F := Ideal) v77 v82 (k0_pay36 (F := Ideal) x0 x1 x2 x3 x4 x5 x6) (k0_pay37 (F := Ideal) x0 x1 x2 x3 x4 x5 x6) 16#32 (k0_pay38 (F := Ideal) x0 x1 x2 x3 x4 x5 x6) (k0_pay39 (F := Ideal) x0 x1 x2 x3 x4 x5 x6) (k0_pay40 (F := Ideal) x0 x1 x2 x3 x4 x5 x6)
    = concatenate S256x2048 1 [⟨S256x1024, mulf (tiled v77) (k0_pay25 (F := Ideal) (k0_pay36 (F := Ideal) x0 x1 x2 x3 x4 x5 x6) (k0_pay37 (F := Ideal) x0 x1 x2 x3 x4 x5 x6) 16#32 (k0_pay38 (F := Ideal) x0 x1 x2 x3 x4 x5 x6) (k0_pay39 (F := Ideal) x0 x1 x2 x3 x4 x5 x6) (k0_pay40 (F := Ideal) x0 x1 x2 x3 x4 x5 x6))⟩,
      ⟨S256x1024, mulf (tiled v82) (k0_pay25 (F := Ideal) (k0_pay36 (F := Ideal) x0 x1 x2 x3 x4 x5 x6) (k0_pay37 (F := Ideal) x0 x1 x2 x3 x4 x5 x6) 16#32 (k0_pay38 (F := Ideal) x0 x1 x2 x3 x4 x5 x6) (k0_pay39 (F := Ideal) x0 x1 x2 x3 x4 x5 x6) (k0_pay40 (F := Ideal) x0 x1 x2 x3 x4 x5 x6))⟩] concatenates_S256x1024_S256x1024_S256x2048_d1 := rfl

/-! ## One lane's values -/

theorem pay15 : k0_pay15 (F := Ideal) x0 x1 x2 (k0_pay27 (F := Ideal) x0 x1 x2 x3 x4 x5 x6) k0_pay9 k0_pay10 k0_pay11 (ix2 0 j) = ar (x0 (ix2 0 j)) (x1 (ix2 0 j)) (T x2 j) := by
  pointwise [k0_pay15, k0_pay14, k0_pay13]
  simp only [pay12]
  rfl

theorem pay16 : k0_pay16 (F := Ideal) x0 x1 x2 (k0_pay27 (F := Ideal) x0 x1 x2 x3 x4 x5 x6) k0_pay9 k0_pay10 k0_pay11 (ix2 0 j) = ai (x0 (ix2 0 j)) (x1 (ix2 0 j)) (T x2 j) := by
  pointwise [k0_pay16, k0_pay14, k0_pay13]
  simp only [pay12]
  rfl

theorem pay18 : k0_pay18 (F := Ideal) x0 x1 x2 (k0_pay27 (F := Ideal) x0 x1 x2 x3 x4 x5 x6) k0_pay9 k0_pay10 k0_pay11 (ix2 0 j) = fr (x0 (ix2 0 j)) (x1 (ix2 0 j)) (T x2 j) := by
  pointwise [k0_pay18, k0_pay17, k0_pay13]
  simp only [pay15, pay16]
  rfl

theorem pay19 : k0_pay19 (F := Ideal) x0 x1 x2 (k0_pay27 (F := Ideal) x0 x1 x2 x3 x4 x5 x6) k0_pay9 k0_pay10 k0_pay11 (ix2 0 j) = fi (x0 (ix2 0 j)) (x1 (ix2 0 j)) (T x2 j) := by
  pointwise [k0_pay19, k0_pay17, k0_pay13]
  simp only [pay15, pay16]
  rfl

theorem pay20 : k0_pay20 (F := Ideal) x0 x1 x2 x3 x4 (k0_pay27 (F := Ideal) x0 x1 x2 x3 x4 x5 x6) k0_pay9 k0_pay10 k0_pay11 (ix2 h j) = fr (x0 (ix2 0 j)) (x1 (ix2 0 j)) (T x2 j) * x3 (ix2 h j) - fi (x0 (ix2 0 j)) (x1 (ix2 0 j)) (T x2 j) * x4 (ix2 h j) := by
  pointwise [k0_pay20]
  simp only [pay18, pay19]

theorem pay21 : k0_pay21 (F := Ideal) x0 x1 x2 x3 x4 (k0_pay27 (F := Ideal) x0 x1 x2 x3 x4 x5 x6) k0_pay9 k0_pay10 k0_pay11 (ix2 h j) = fr (x0 (ix2 0 j)) (x1 (ix2 0 j)) (T x2 j) * x4 (ix2 h j) + fi (x0 (ix2 0 j)) (x1 (ix2 0 j)) (T x2 j) * x3 (ix2 h j) := by
  pointwise [k0_pay21]
  simp only [pay18, pay19]

/-! ## What the body leaves in its four outputs -/

theorem pay28 : k0_pay28 (F := Ideal) x0 x1 x2 x3 x4 x5 x6 = x0 := by
  unfold k0_pay28
  rw [ld0]
  exact shapeCast_self _ _

theorem pay29 : k0_pay29 (F := Ideal) x0 x1 x2 x3 x4 x5 x6 = x1 := by
  unfold k0_pay29
  rw [ld0]
  exact shapeCast_self _ _

theorem pay30 : k0_pay30 (F := Ideal) x0 x1 x2 x3 x4 x5 x6 = x2 := by
  unfold k0_pay30
  rw [ld1]
  exact shapeCast_self _ _

theorem pay31 : k0_pay31 (F := Ideal) x0 x1 x2 x3 x4 x5 x6 = x3 := by
  unfold k0_pay31
  rw [ld2]
  exact shapeCast_self _ _

theorem pay32 : k0_pay32 (F := Ideal) x0 x1 x2 x3 x4 x5 x6 = x4 := by
  unfold k0_pay32
  rw [ld2]
  exact shapeCast_self _ _

theorem out7 : out0_7 (F := Ideal) x0 x1 x2 x3 x4 x5 x6 (ix2 0 j) = ar (x0 (ix2 0 j)) (x1 (ix2 0 j)) (T x2 j) := by
  unfold out0_7
  rw [View.canon_cons_unit_lit _ _ _ (by decide), pay28, pay29, pay30]
  exact pay15 x0 x1 x2 x3 x4 x5 x6 j

theorem out8 : out0_8 (F := Ideal) x0 x1 x2 x3 x4 x5 x6 (ix2 0 j) = ai (x0 (ix2 0 j)) (x1 (ix2 0 j)) (T x2 j) := by
  unfold out0_8
  rw [View.canon_cons_unit_lit _ _ _ (by decide), pay28, pay29, pay30]
  exact pay16 x0 x1 x2 x3 x4 x5 x6 j

theorem out9l : out0_9 (F := Ideal) x0 x1 x2 x3 x4 x5 x6 (ix2 r ⟨j.val, by omega⟩) = (fr (x0 (ix2 0 j)) (x1 (ix2 0 j)) (T x2 j) * x3 (ix2 ⟨r.val % 16, by omega⟩ j) - fi (x0 (ix2 0 j)) (x1 (ix2 0 j)) (T x2 j) * x4 (ix2 ⟨r.val % 16, by omega⟩ j)) * hot (r.val / 16) (j.val / 64) := by
  unfold out0_9
  rw [View.canon_cons_unit_lit _ _ _ (by decide), pay28, pay29, pay30, pay31, pay32, pay26]
  pointwise [tiled_apply]
  rw [mask]
  exact congrArg (· * _) (pay20 x0 x1 x2 x3 x4 x5 x6 _ j)

theorem out9h : out0_9 (F := Ideal) x0 x1 x2 x3 x4 x5 x6 (ix2 r ⟨1024 + j.val, by omega⟩) = (fr (x0 (ix2 0 j)) (x1 (ix2 0 j)) (T x2 j) * x4 (ix2 ⟨r.val % 16, by omega⟩ j) + fi (x0 (ix2 0 j)) (x1 (ix2 0 j)) (T x2 j) * x3 (ix2 ⟨r.val % 16, by omega⟩ j)) * hot (r.val / 16) (j.val / 64) := by
  unfold out0_9
  rw [View.canon_cons_unit_lit _ _ _ (by decide), pay28, pay29, pay30, pay31, pay32, pay26]
  pointwise [tiled_apply]
  rw [mask]
  exact congrArg (· * _) (pay21 x0 x1 x2 x3 x4 x5 x6 _ j)

theorem out10l : out0_10 (F := Ideal) x0 x1 x2 x3 x4 x5 x6 (ix2 r ⟨j.val, by omega⟩) = x5 (ix2 ⟨r.val % 16, by omega⟩ j) * hot (r.val / 16) (j.val / 64) := by
  unfold out0_10
  rw [View.canon_cons_unit_lit _ _ _ (by decide), ld2, ld2, pay1]
  pointwise [tiled_apply, k0_pay7]
  rw [mask]

theorem out10h : out0_10 (F := Ideal) x0 x1 x2 x3 x4 x5 x6 (ix2 r ⟨1024 + j.val, by omega⟩) = -x6 (ix2 ⟨r.val % 16, by omega⟩ j) * hot (r.val / 16) (j.val / 64) := by
  unfold out0_10
  rw [View.canon_cons_unit_lit _ _ _ (by decide), ld2, ld2, pay1]
  pointwise [tiled_apply, k0_pay8]
  rw [mask, zero_sub]

end Cert.S5PrepIdeal.Tile

end

end
-- ==== Proof.S5FwdOut.lean ====
module

public import proofs.«01_k».proof.Proof.S5FwdTile
public import proofs.«01_k».proof.Proof.Gen.S5PrepIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' kernel's arrays -/

namespace Cert.S5PrepIdeal.Tile

open Cert.S5PrepIdeal Cert.S5PrepIdeal.Gen Cert.S5Spec

variable (m : (ℓ : Loc nD τ sig) → Buf (Elt Ideal) ℓ) (c : Dev nD)

/-- The seven arguments. -/
def a0 : FVec Ideal S16x64 .f32 := m ((c : Thread nD τ).loc main_arg0)
def a1 : FVec Ideal S16x64 .f32 := m ((c : Thread nD τ).loc main_arg1)
def a2 : FVec Ideal S16 .f32 := m ((c : Thread nD τ).loc main_arg2)
def a3 : FVec Ideal S16x64x16 .f32 := m ((c : Thread nD τ).loc main_arg3)
def a4 : FVec Ideal S16x64x16 .f32 := m ((c : Thread nD τ).loc main_arg4)
def a5 : FVec Ideal S16x16x64 .f32 := m ((c : Thread nD τ).loc main_arg5)
def a6 : FVec Ideal S16x16x64 .f32 := m ((c : Thread nD τ).loc main_arg6)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0] :=
  (by decide +kernel : ∀ t : Fin grid0.N, _)

/-! ## The arguments as the region finds them -/

theorem V0 (j : Fin 1024) : (V m c main_v0 : FVec Ideal S1x1024 .f32) (ix2 0 j) = a0 m c (ix2 (gr j) (st j)) := by
  have e : V m c main_v0 = shapeCast S1x1024 (a0 m c) shapeCasts_S16x64_S1x1024 := by
    entry_read
    rfl
  rw [e]
  pointwise []

theorem V1 (j : Fin 1024) : (V m c main_v1 : FVec Ideal S1x1024 .f32) (ix2 0 j) = a1 m c (ix2 (gr j) (st j)) := by
  have e : V m c main_v1 = shapeCast S1x1024 (a1 m c) shapeCasts_S16x64_S1x1024 := by
    entry_read
    rfl
  rw [e]
  pointwise []

theorem V2 (k : Fin 128) (hk : k.val < 16) : (V m c main_v3 : FVec Ideal S1x128 .f32) (ix2 0 k) = a2 m c (ix1 ⟨k.val, hk⟩) := by
  have e : V m c main_v3 = pad S1x128 ![0, 0] ![0, 112] ![0, 0] (shapeCast S1x16 (a2 m c) shapeCasts_S16_S1x16)
      (sitofp .f32 (constantI S_ 32 0#32)) pads_S1x16_S1x128_000_01120 h_S_ := by
    entry_read
    rfl
  rw [e]
  pointwise []
  exact dif_pos hk

theorem V3 (h : Fin 16) (j : Fin 1024) : (V m c main_v5 : FVec Ideal S16x1024 .f32) (ix2 h j) = a3 m c (ix3 (gr j) (st j) h) := by
  have e : V m c main_v5 = shapeCast S16x1024 (transpose S16x16x64 [2, 0, 1] (a3 m c) transposes_S16x64x16_S16x16x64_2_0_1)
      shapeCasts_S16x16x64_S16x1024 := by
    entry_read
    rfl
  rw [e]
  pointwise []

theorem V4 (h : Fin 16) (j : Fin 1024) : (V m c main_v7 : FVec Ideal S16x1024 .f32) (ix2 h j) = a4 m c (ix3 (gr j) (st j) h) := by
  have e : V m c main_v7 = shapeCast S16x1024 (transpose S16x16x64 [2, 0, 1] (a4 m c) transposes_S16x64x16_S16x16x64_2_0_1)
      shapeCasts_S16x16x64_S16x1024 := by
    entry_read
    rfl
  rw [e]
  pointwise []

theorem V5 (h : Fin 16) (j : Fin 1024) : (V m c main_v9 : FVec Ideal S16x1024 .f32) (ix2 h j) = a5 m c (ix3 (gr j) h (st j)) := by
  have e : V m c main_v9 = shapeCast S16x1024 (transpose S16x16x64 [1, 0, 2] (a5 m c) transposes_S16x16x64_S16x16x64_1_0_2)
      shapeCasts_S16x16x64_S16x1024 := by
    entry_read
    rfl
  rw [e]
  pointwise []

theorem V6 (h : Fin 16) (j : Fin 1024) : (V m c main_v11 : FVec Ideal S16x1024 .f32) (ix2 h j) = a6 m c (ix3 (gr j) h (st j)) := by
  have e : V m c main_v11 = shapeCast S16x1024 (transpose S16x16x64 [1, 0, 2] (a6 m c) transposes_S16x16x64_S16x16x64_1_0_2)
      shapeCasts_S16x16x64_S16x1024 := by
    entry_read
    rfl
  rw [e]
  pointwise []

/-! ## The one point's blocks are the arrays -/

theorem blk0 (t : Fin cfg0.N) : (iblk m c 0 t : FVec Ideal S1x1024 .f32) = V m c main_v0 := by
  funext i
  idx_vars i
  blk_ext [iblk, idx t]

theorem blk1 (t : Fin cfg0.N) : (iblk m c 1 t : FVec Ideal S1x1024 .f32) = V m c main_v1 := by
  funext i
  idx_vars i
  blk_ext [iblk, idx t]

theorem blk2 (t : Fin cfg0.N) : (iblk m c 2 t : FVec Ideal S1x128 .f32) = V m c main_v3 := by
  funext i
  idx_vars i
  blk_ext [iblk, idx t]

theorem blk3 (t : Fin cfg0.N) : (iblk m c 3 t : FVec Ideal S16x1024 .f32) = V m c main_v5 := by
  funext i
  idx_vars i
  blk_ext [iblk, idx t]

theorem blk4 (t : Fin cfg0.N) : (iblk m c 4 t : FVec Ideal S16x1024 .f32) = V m c main_v7 := by
  funext i
  idx_vars i
  blk_ext [iblk, idx t]

theorem blk5 (t : Fin cfg0.N) : (iblk m c 5 t : FVec Ideal S16x1024 .f32) = V m c main_v9 := by
  funext i
  idx_vars i
  blk_ext [iblk, idx t]

theorem blk6 (t : Fin cfg0.N) : (iblk m c 6 t : FVec Ideal S16x1024 .f32) = V m c main_v11 := by
  funext i
  idx_vars i
  blk_ext [iblk, idx t]

theorem final7 : ((dats m 0 c).arrAt 7 cfg0.N : FVec Ideal S1x1024 .f32) = out0_7 (F := Ideal) (V m c main_v0) (V m c main_v1) (V m c main_v3) (V m c main_v5) (V m c main_v7) (V m c main_v9) (V m c main_v11) := by
  refine (dats m 0 c).arrAt_eq_of_covers 7 _ (by decide +kernel) fun t hf y => ?_
  blk_simp
  rw [after0_7]
  idx_vars y
  have e : ((View.whole main_v12_0).slice (win0_7.rect t)).emb (ix2 y0 y1) = ix2 y0 y1 := by
    blk_ext [idx t]
  rw [e, blk0, blk1, blk2, blk3, blk4, blk5, blk6]

theorem final8 : ((dats m 0 c).arrAt 8 cfg0.N : FVec Ideal S1x1024 .f32) = out0_8 (F := Ideal) (V m c main_v0) (V m c main_v1) (V m c main_v3) (V m c main_v5) (V m c main_v7) (V m c main_v9) (V m c main_v11) := by
  refine (dats m 0 c).arrAt_eq_of_covers 8 _ (by decide +kernel) fun t hf y => ?_
  blk_simp
  rw [after0_8]
  idx_vars y
  have e : ((View.whole main_v12_1).slice (win0_8.rect t)).emb (ix2 y0 y1) = ix2 y0 y1 := by
    blk_ext [idx t]
  rw [e, blk0, blk1, blk2, blk3, blk4, blk5, blk6]

theorem final9 : ((dats m 0 c).arrAt 9 cfg0.N : FVec Ideal S256x2048 .f32) = out0_9 (F := Ideal) (V m c main_v0) (V m c main_v1) (V m c main_v3) (V m c main_v5) (V m c main_v7) (V m c main_v9) (V m c main_v11) := by
  refine (dats m 0 c).arrAt_eq_of_covers 9 _ (by decide +kernel) fun t hf y => ?_
  blk_simp
  rw [after0_9]
  idx_vars y
  have e : ((View.whole main_v12_2).slice (win0_9.rect t)).emb (ix2 y0 y1) = ix2 y0 y1 := by
    blk_ext [idx t]
  rw [e, blk0, blk1, blk2, blk3, blk4, blk5, blk6]

theorem final10 : ((dats m 0 c).arrAt 10 cfg0.N : FVec Ideal S256x2048 .f32) = out0_10 (F := Ideal) (V m c main_v0) (V m c main_v1) (V m c main_v3) (V m c main_v5) (V m c main_v7) (V m c main_v9) (V m c main_v11) := by
  refine (dats m 0 c).arrAt_eq_of_covers 10 _ (by decide +kernel) fun t hf y => ?_
  blk_simp
  rw [after0_10]
  idx_vars y
  have e : ((View.whole main_v12_3).slice (win0_10.rect t)).emb (ix2 y0 y1) = ix2 y0 y1 := by
    blk_ext [idx t]
  rw [e, blk0, blk1, blk2, blk3, blk4, blk5, blk6]

end Cert.S5PrepIdeal.Tile

end

end
-- ==== Proof.S5FwdRef.lean ====
module

public import proofs.«01_k».proof.Proof.S5Spec
public import proofs.«01_k».proof.Proof.Gen.S5PrepRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' discretisation, the reference -/

namespace Cert.S5PrepRefIdeal

open Cert.S5PrepRefIdeal Cert.S5PrepRefIdeal.Gen Cert.S5PrepRefIdeal.Read Cert.S5Spec

variable (x0 x1 : FVec Ideal S16x64 .f32) (x2 : FVec Ideal S16 .f32) (x3 x4 : FVec Ideal S16x64x16 .f32)
  (x5 x6 : FVec Ideal S16x16x64 .f32) (g : Fin 16) (s : Fin 64) (h k : Fin 16) (r : Fin 256) (j : Fin 1024)

theorem r1 : val_main_v1 (F := Ideal) x0 (ix2 g s) = lr (x0 (ix2 g s)) := by
  pointwise [val_main_v1, val_main_v0, val_main_cst]
  rfl

theorem r4 : val_main_v4 (F := Ideal) x2 (ix2 g s) = dt (x2 (ix1 g)) := by
  pointwise [val_main_v4, val_main_v3, val_main_v2]
  rfl

theorem r6 : val_main_v6 (F := Ideal) x0 x2 (ix2 g s) = mag (x0 (ix2 g s)) (x2 (ix1 g)) := by
  pointwise [val_main_v6, val_main_v5]
  simp only [r1, r4]
  rfl

theorem r9 : val_main_v9 (F := Ideal) x0 x1 x2 (ix2 g s) = ar (x0 (ix2 g s)) (x1 (ix2 g s)) (x2 (ix1 g)) := by
  pointwise [val_main_v9, val_main_v8, val_main_v7]
  simp only [r6, r4]
  rfl

theorem r12 : val_main_v12 (F := Ideal) x0 x1 x2 (ix2 g s) = ai (x0 (ix2 g s)) (x1 (ix2 g s)) (x2 (ix1 g)) := by
  pointwise [val_main_v12, val_main_v11, val_main_v10]
  simp only [r6, r4]
  rfl

theorem r15 : val_main_v15 (F := Ideal) x0 x1 (ix2 g s) = den (x0 (ix2 g s)) (x1 (ix2 g s)) := by
  pointwise [val_main_v15, val_main_v13, val_main_v14]
  simp only [r1]
  rfl

theorem r17 : val_main_v17 (F := Ideal) x0 x1 x2 (ix2 g s) = ar (x0 (ix2 g s)) (x1 (ix2 g s)) (x2 (ix1 g)) - 1 := by
  pointwise [val_main_v17, val_main_v16, val_main_cst_0]
  simp only [r9]

theorem r25 : val_main_v25 (F := Ideal) x0 x1 x2 (ix2 g s) = ar (x0 (ix2 g s)) (x1 (ix2 g s)) (x2 (ix1 g)) - 1 := by
  pointwise [val_main_v25, val_main_v24, val_main_cst_1]
  simp only [r9]

theorem r21 : val_main_v21 (F := Ideal) x0 x1 x2 (ix2 g s) = fr (x0 (ix2 g s)) (x1 (ix2 g s)) (x2 (ix1 g)) := by
  pointwise [val_main_v21, val_main_v20, val_main_v18, val_main_v19]
  simp only [r17, r12, r1, r15]
  rfl

theorem r28 : val_main_v28 (F := Ideal) x0 x1 x2 (ix2 g s) = fi (x0 (ix2 g s)) (x1 (ix2 g s)) (x2 (ix1 g)) := by
  pointwise [val_main_v28, val_main_v27, val_main_v23, val_main_v26]
  simp only [r25, r12, r1, r15]
  rfl

theorem r45 : val_main_v45 (F := Ideal)  (ix4 g h k s) = hot g.val k.val := by
  pointwise [val_main_v45, val_main_v44, val_main_v42, val_main_v43]
  exact unsigned_hot g.val k.val (by omega) (by omega)

theorem r53 : val_main_v53 (F := Ideal)  (ix4 g h k s) = hot g.val k.val := by
  pointwise [val_main_v53, val_main_v52, val_main_v50, val_main_v51]
  exact unsigned_hot g.val k.val (by omega) (by omega)

theorem r62 : val_main_v62 (F := Ideal)  (ix4 g h k s) = hot g.val k.val := by
  pointwise [val_main_v62, val_main_v61, val_main_v59, val_main_v60]
  exact unsigned_hot g.val k.val (by omega) (by omega)

theorem r71 : val_main_v71 (F := Ideal)  (ix4 g h k s) = hot g.val k.val := by
  pointwise [val_main_v71, val_main_v70, val_main_v68, val_main_v69]
  exact unsigned_hot g.val k.val (by omega) (by omega)

theorem r35 : val_main_v35 (F := Ideal) x0 x1 x2 x3 x4 (ix3 g h s) = fr (x0 (ix2 g s)) (x1 (ix2 g s)) (x2 (ix1 g)) * x3 (ix3 g s h) - fi (x0 (ix2 g s)) (x1 (ix2 g s)) (x2 (ix1 g)) * x4 (ix3 g s h) := by
  pointwise [val_main_v35, val_main_v34, val_main_v31, val_main_v30, val_main_v22, val_main_v33, val_main_v32, val_main_v29]
  simp only [r21, r28]

theorem r41 : val_main_v41 (F := Ideal) x0 x1 x2 x3 x4 (ix3 g h s) = fr (x0 (ix2 g s)) (x1 (ix2 g s)) (x2 (ix1 g)) * x4 (ix3 g s h) + fi (x0 (ix2 g s)) (x1 (ix2 g s)) (x2 (ix1 g)) * x3 (ix3 g s h) := by
  pointwise [val_main_v41, val_main_v40, val_main_v37, val_main_v36, val_main_v22, val_main_v39, val_main_v38, val_main_v29]
  simp only [r21, r28]

/-! ## The results, in the call's layout -/

/-- A row's group and feature. -/
abbrev rg : Fin 16 := ⟨r.val / 16, by omega⟩
abbrev rh : Fin 16 := ⟨r.val % 16, by omega⟩

theorem r77 : val_main_v77 (F := Ideal) x0 x1 x2 (ix2 0 j) = val_main_v9 (F := Ideal) x0 x1 x2 (ix2 (gr j) (st j)) := by
  pointwise [val_main_v77]

theorem r78 : val_main_v78 (F := Ideal) x0 x1 x2 (ix2 0 j) = val_main_v12 (F := Ideal) x0 x1 x2 (ix2 (gr j) (st j)) := by
  pointwise [val_main_v78]

theorem r58_low : val_main_v58 (F := Ideal) x0 x1 x2 x3 x4 (ix2 r ⟨j.val, by omega⟩) = val_main_v35 (F := Ideal) x0 x1 x2 x3 x4 (ix3 (rg r) (rh r) (st j)) * hot (r.val / 16) (j.val / 64) := by
  pointwise [val_main_v58, val_main_v49, val_main_v48, val_main_v47, val_main_v46]
  simp only [r45]

theorem r58_high : val_main_v58 (F := Ideal) x0 x1 x2 x3 x4 (ix2 r ⟨1024 + j.val, by omega⟩) = val_main_v41 (F := Ideal) x0 x1 x2 x3 x4 (ix3 (rg r) (rh r) (st j)) * hot (r.val / 16) (j.val / 64) := by
  pointwise [val_main_v58, val_main_v57, val_main_v56, val_main_v55, val_main_v54]
  simp only [r53]

theorem r76_low : val_main_v76 (F := Ideal) x5 x6 (ix2 r ⟨j.val, by omega⟩) = x5 (ix3 (rg r) (rh r) (st j)) * hot (r.val / 16) (j.val / 64) := by
  pointwise [val_main_v76, val_main_v66, val_main_v65, val_main_v64, val_main_v63]
  simp only [r62]

theorem r76_high : val_main_v76 (F := Ideal) x5 x6 (ix2 r ⟨1024 + j.val, by omega⟩) = -x6 (ix3 (rg r) (rh r) (st j)) * hot (r.val / 16) (j.val / 64) := by
  pointwise [val_main_v76, val_main_v75, val_main_v74, val_main_v73, val_main_v72, val_main_v67]
  simp only [r71]

end Cert.S5PrepRefIdeal

end

end
-- ==== Proof.S5BwdTile.lean ====
module

public import proofs.«01_k».proof.Proof.S5Spec
public import proofs.«01_k».proof.Proof.Gen.S5PrepBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' backward kernel at an index of its blocks -/

namespace Cert.S5PrepBwdIdeal.Tile

open Cert.S5PrepBwdIdeal Cert.S5PrepBwdIdeal.Gen Cert.S5Spec

theorem ld0 (x : Vec Ideal S1x1024 .f32) : View.ld x r0_0 = x := View.ld_unit_lit _ x (by decide)
theorem ld1 (x : Vec Ideal S1x128 .f32) : View.ld x r0_1 = x := View.ld_unit_lit _ x (by decide)
theorem ld2 (x : Vec Ideal S16x1024 .f32) : View.ld x r0_2 = x := View.ld_unit_lit _ x (by decide)
theorem ld3 (x : Vec Ideal S256x2048 .f32) : View.ld x r0_3 = x := View.ld_unit_lit _ x (by decide)

/-! ## The two masks -/

theorem expand (k : Fin 128) (j : Fin 1024) : k0_pay6 (F := Ideal) (ix2 k j) = hot k.val (j.val / 64) := by
  pointwise [k0_pay6]
  show FloatOps.sitofp .f32 (BitVec.setWidth 32 (IntOp.cmpi .eq (BitVec.ofNat 32 k.val) (fdiv 64#32 (BitVec.ofNat 32 j.val)))) = _
  rw [fdiv64, signed_hot _ _ k.isLt (by omega)]

theorem mask (r : Fin 256) (j : Fin 1024) : k0_pay31 (F := Ideal) (k0_pay30 (iota .tc S256x1024 32 [0] iota_S256x1024_d0_w32) (iota .tc S256x1024 32 [1] iota_S256x1024_d1_w32)
   16#32 k0_pay29 0#32) (ix2 r j) = hot (r.val / 16) (j.val / 64) := by
  pointwise [k0_pay31, k0_pay30, k0_pay29]
  show FloatOps.sitofp .f32 (BitVec.setWidth 32 (IntOp.cmpi .eq (fdiv 16#32 (BitVec.ofNat 32 r.val)) (fdiv 64#32 (BitVec.ofNat 32 j.val)))) = _
  rw [fdiv16, fdiv64, signed_hot _ _ (by omega) (by omega)]

theorem sum_row (v : FVec Ideal S1x128 .f32) (j : Fin 1024) :
    ∑ k : Fin 128, v (ix2 0 k) * hot k.val (j.val / 64) = v (ix2 0 ⟨j.val / 64, by omega⟩) := by
  rw [Finset.sum_eq_single (⟨j.val / 64, by omega⟩ : Fin 128)]
  · simp [hot]
  · intro k _ h
    have : k.val ≠ j.val / 64 := fun c => h (Fin.ext c)
    simp [hot, this]
  · simp

theorem pay7 (v4 : FVec Ideal S1x128 .f32) (k : Fin 8) (j : Fin 1024) :
    k0_pay7 (F := Ideal) v4 (ix2 k j) = v4 (ix2 0 ⟨j.val / 64, by omega⟩) := by
  pointwise [k0_pay7, expand]
  exact sum_row v4 j

theorem pay1 (v43 v356 : FVec Ideal S1x1024 .f32) (k : Fin 128) : k0_pay1 (F := Ideal) (k0_pay6 (F := Ideal)) v43 v356 (ix2 0 k)
    = ∑ j : Fin 1024, v356 (ix2 0 j) * v43 (ix2 0 j) * hot k.val (j.val / 64) := by
  pointwise [k0_pay1, expand]
  simp only [zero_mul, Finset.sum_const_zero, add_zero, Finset.univ_unique, Finset.sum_singleton]

/-! ## One lane's values -/

variable (x0 x1 : FVec Ideal S1x1024 .f32) (x2 : FVec Ideal S1x128 .f32) (x3 x4 x5 x6 : FVec Ideal S16x1024 .f32)
  (x7 x8 : FVec Ideal S1x1024 .f32) (x9 x10 : FVec Ideal S256x2048 .f32) (h : Fin 16) (j : Fin 1024)

abbrev T : EReal := x2 (ix2 0 ⟨j.val / 64, by omega⟩)
abbrev U : Fin 16 → EReal := fun h => x9 (ix2 (rowAt (gr j) h) ⟨j.val, by omega⟩)
abbrev W : Fin 16 → EReal := fun h => x9 (ix2 (rowAt (gr j) h) ⟨1024 + j.val, by omega⟩)
abbrev P : EReal := bwP (U x9 j) (W x9 j) (fun h => x3 (ix2 h j)) (fun h => x4 (ix2 h j))
abbrev Q : EReal := bwQ (U x9 j) (W x9 j) (fun h => x3 (ix2 h j)) (fun h => x4 (ix2 h j))

theorem pay68 : k0_pay68 (F := Ideal) x0 x1 x2 x3 x4 x5 x6 x7 x8 x9 x10 (ix2 0 j) = x0 (ix2 0 j) := by
  unfold k0_pay68
  rw [ld0]
  pointwise [k0_pay2]

theorem pay69 : k0_pay69 (F := Ideal) x0 x1 x2 x3 x4 x5 x6 x7 x8 x9 x10 (ix2 0 j) = x1 (ix2 0 j) := by
  unfold k0_pay69
  rw [ld0]
  pointwise [k0_pay3]

theorem pay70 : k0_pay70 (F := Ideal) x0 x1 x2 x3 x4 x5 x6 x7 x8 x9 x10 (ix2 h j) = x3 (ix2 h j) := by
  unfold k0_pay70
  rw [ld2]
  pointwise [k0_pay4]

theorem pay71 : k0_pay71 (F := Ideal) x0 x1 x2 x3 x4 x5 x6 x7 x8 x9 x10 (ix2 h j) = x4 (ix2 h j) := by
  unfold k0_pay71
  rw [ld2]
  pointwise [k0_pay5]

theorem pay72 : k0_pay72 (F := Ideal) x0 x1 x2 x3 x4 x5 x6 x7 x8 x9 x10 (ix2 0 j) = T x2 j := by
  unfold k0_pay72
  rw [ld1, pay7]

theorem pay73 : k0_pay73 (F := Ideal) x0 x1 x2 x3 x4 x5 x6 x7 x8 x9 x10 (ix2 0 j) = dt (T x2 j) := by
  pointwise [k0_pay73, k0_pay8, pay68, pay69, pay72]
  rfl

theorem pay74 : k0_pay74 (F := Ideal) x0 x1 x2 x3 x4 x5 x6 x7 x8 x9 x10 (ix2 0 j) = lr (x0 (ix2 0 j)) := by
  pointwise [k0_pay74, k0_pay9, pay68, pay69, pay72]
  rfl

theorem pay75 : k0_pay75 (F := Ideal) x0 x1 x2 x3 x4 x5 x6 x7 x8 x9 x10 (ix2 0 j) = mag (x0 (ix2 0 j)) (T x2 j) := by
  pointwise [k0_pay75, k0_pay11, k0_pay9, k0_pay8, pay68, pay69, pay72]
  rfl

theorem pay76 : k0_pay76 (F := Ideal) x0 x1 x2 x3 x4 x5 x6 x7 x8 x9 x10 (ix2 0 j) = co (x1 (ix2 0 j)) (T x2 j) := by
  pointwise [k0_pay76, k0_pay13, k0_pay12, k0_pay8, pay68, pay69, pay72]
  rfl

theorem pay77 : k0_pay77 (F := Ideal) x0 x1 x2 x3 x4 x5 x6 x7 x8 x9 x10 (ix2 0 j) = si (x1 (ix2 0 j)) (T x2 j) := by
  pointwise [k0_pay77, k0_pay14, k0_pay12, k0_pay8, pay68, pay69, pay72]
  rfl

theorem pay78 : k0_pay78 (F := Ideal) x0 x1 x2 x3 x4 x5 x6 x7 x8 x9 x10 (ix2 0 j) = si (x1 (ix2 0 j)) (T x2 j) := by
  pointwise [k0_pay78, k0_pay17, k0_pay16, k0_pay8, pay68, pay69, pay72]
  rfl

theorem pay79 : k0_pay79 (F := Ideal) x0 x1 x2 x3 x4 x5 x6 x7 x8 x9 x10 (ix2 0 j) = co (x1 (ix2 0 j)) (T x2 j) := by
  pointwise [k0_pay79, k0_pay18, k0_pay16, k0_pay8, pay68, pay69, pay72]
  rfl

theorem pay80 : k0_pay80 (F := Ideal) x0 x1 x2 x3 x4 x5 x6 x7 x8 x9 x10 (ix2 0 j) = ai (x0 (ix2 0 j)) (x1 (ix2 0 j)) (T x2 j) := by
  pointwise [k0_pay80, k0_pay19, k0_pay11, k0_pay17, k0_pay16, k0_pay9, k0_pay8, pay68, pay69, pay72]
  rfl

theorem pay81 : k0_pay81 (F := Ideal) x0 x1 x2 x3 x4 x5 x6 x7 x8 x9 x10 (ix2 0 j) = den (x0 (ix2 0 j)) (x1 (ix2 0 j)) := by
  pointwise [k0_pay81, k0_pay20, k0_pay9, pay68, pay69, pay72]
  rfl

theorem pay82 : k0_pay82 (F := Ideal) x0 x1 x2 x3 x4 x5 x6 x7 x8 x9 x10 (ix2 0 j) = n1 (x0 (ix2 0 j)) (x1 (ix2 0 j)) (T x2 j) := by
  pointwise [k0_pay82, k0_pay22, k0_pay21, k0_pay15, k0_pay19, k0_pay11, k0_pay13, k0_pay12, k0_pay17, k0_pay16, k0_pay9, k0_pay8, pay68, pay69, pay72]
  rfl

theorem pay83 : k0_pay83 (F := Ideal) x0 x1 x2 x3 x4 x5 x6 x7 x8 x9 x10 (ix2 0 j) = fr (x0 (ix2 0 j)) (x1 (ix2 0 j)) (T x2 j) := by
  pointwise [k0_pay83, k0_pay23, k0_pay20, k0_pay22, k0_pay21, k0_pay15, k0_pay19, k0_pay11, k0_pay13, k0_pay12, k0_pay17, k0_pay16, k0_pay9, k0_pay8, pay68, pay69, pay72]
  rfl

theorem pay84 : k0_pay84 (F := Ideal) x0 x1 x2 x3 x4 x5 x6 x7 x8 x9 x10 (ix2 0 j) = sq (x0 (ix2 0 j)) (x1 (ix2 0 j)) := by
  pointwise [k0_pay84, k0_pay24, k0_pay20, k0_pay9, pay68, pay69, pay72]
  rfl

theorem pay85 : k0_pay85 (F := Ideal) x0 x1 x2 x3 x4 x5 x6 x7 x8 x9 x10 (ix2 0 j) = n2 (x0 (ix2 0 j)) (x1 (ix2 0 j)) (T x2 j) := by
  pointwise [k0_pay85, k0_pay26, k0_pay25, k0_pay15, k0_pay19, k0_pay11, k0_pay13, k0_pay12, k0_pay17, k0_pay16, k0_pay9, k0_pay8, pay68, pay69, pay72]
  rfl

theorem pay86 : k0_pay86 (F := Ideal) x0 x1 x2 x3 x4 x5 x6 x7 x8 x9 x10 (ix2 0 j) = fi (x0 (ix2 0 j)) (x1 (ix2 0 j)) (T x2 j) := by
  pointwise [k0_pay86, k0_pay27, k0_pay20, k0_pay26, k0_pay25, k0_pay15, k0_pay19, k0_pay11, k0_pay13, k0_pay12, k0_pay17, k0_pay16, k0_pay9, k0_pay8, pay68, pay69, pay72]
  rfl

/-! ## The blocks -/

theorem pay88 (r : Fin 256) : k0_pay88 (F := Ideal) x0 x1 x2 x3 x4 x5 x6 x7 x8 x9 x10 (ix2 r j) = hot (r.val / 16) (gr j).val := mask r j

theorem pay89 : k0_pay89 (F := Ideal) x0 x1 x2 x3 x4 x5 x6 x7 x8 x9 x10 (ix2 h j) = W x9 j h := by
  unfold k0_pay89
  rw [ld3]
  have e := fun r => pay88 x0 x1 x2 x3 x4 x5 x6 x7 x8 x9 x10 j r
  generalize k0_pay88 (F := Ideal) x0 x1 x2 x3 x4 x5 x6 x7 x8 x9 x10 = M at e ⊢
  pointwise [k0_pay44]
  exact stack (fun r => x9 (ix2 r ⟨1024 + j.val, by omega⟩)) (fun r => M (ix2 r j)) (gr j) e h

theorem low : k0_pay49 (F := Ideal) (k0_pay90 x0 x1 x2 x3 x4 x5 x6 x7 x8 x9 x10) (k0_pay91 x0 x1 x2 x3 x4 x5 x6 x7 x8 x9 x10) (k0_pay92 x0 x1 x2 x3 x4 x5 x6 x7 x8 x9 x10) (k0_pay93 x0 x1 x2 x3 x4 x5 x6 x7 x8 x9 x10) (ix2 h j) = U x9 j h := by
  unfold k0_pay90 k0_pay91 k0_pay92 k0_pay93
  rw [ld3]
  have e := fun r => pay88 x0 x1 x2 x3 x4 x5 x6 x7 x8 x9 x10 j r
  generalize k0_pay88 (F := Ideal) x0 x1 x2 x3 x4 x5 x6 x7 x8 x9 x10 = M at e ⊢
  pointwise [k0_pay49, k0_pay45, k0_pay46, k0_pay47, k0_pay48]
  exact stack (fun r => x9 (ix2 r ⟨j.val, by omega⟩)) (fun r => M (ix2 r j)) (gr j) e h

theorem pay94 : k0_pay94 (F := Ideal) x0 x1 x2 x3 x4 x5 x6 x7 x8 x9 x10 (ix2 0 j) = P x3 x4 x9 j := by
  unfold k0_pay94
  pointwise [k0_pay52, k0_pay50]
  simp only [pay70, pay71, pay89, low, zero_sub]
  rfl

theorem pay95 : k0_pay95 (F := Ideal) x0 x1 x2 x3 x4 x5 x6 x7 x8 x9 x10 (ix2 0 j) = Q x3 x4 x9 j := by
  unfold k0_pay95
  pointwise [k0_pay54]
  simp only [pay70, pay71, pay89, low]
  rfl

theorem pay96 : k0_pay96 (F := Ideal) x0 x1 x2 x3 x4 x5 x6 x7 x8 x9 x10 (ix2 0 j) = P x3 x4 x9 j * sq (x0 (ix2 0 j)) (x1 (ix2 0 j)) := by
  rw [← pay94 x0 x1 x2 x3 x4 x5 x6 x7 x8 x9 x10 j, ← pay84 x0 x1 x2 x3 x4 x5 x6 x7 x8 x9 x10 j]
  pointwise [k0_pay96, k0_pay94, k0_pay84, k0_pay55, k0_pay28, k0_pay24]

/-! ## What the body leaves in its seven outputs -/

theorem out11 : out0_11 (F := Ideal) x0 x1 x2 x3 x4 x5 x6 x7 x8 x9 x10 (ix2 0 j)
    = dlre (x0 (ix2 0 j)) (x1 (ix2 0 j)) (T x2 j) (x7 (ix2 0 j)) (x8 (ix2 0 j)) (P x3 x4 x9 j) (Q x3 x4 x9 j) := by
  unfold out0_11
  rw [View.canon_cons_unit_lit _ _ _ (by decide), ld0, ld0]
  pointwise [k0_pay67, k0_pay65, k0_pay61, k0_pay60, k0_pay59, k0_pay58, k0_pay57, k0_pay56, k0_pay10, k0_pay21, k0_pay15, k0_pay11, k0_pay13,
    k0_pay12, k0_pay9, k0_pay8]
  simp only [pay68, pay69, pay72, pay73, pay74, pay75, pay76, pay78, pay80, pay81, pay82, pay84, pay85, pay94, pay95, pay96, zero_sub]
  rfl

theorem out12 : out0_12 (F := Ideal) x0 x1 x2 x3 x4 x5 x6 x7 x8 x9 x10 (ix2 0 j)
    = dlim (x0 (ix2 0 j)) (x1 (ix2 0 j)) (T x2 j) (x7 (ix2 0 j)) (x8 (ix2 0 j)) (P x3 x4 x9 j) (Q x3 x4 x9 j) := by
  unfold out0_12
  rw [View.canon_cons_unit_lit _ _ _ (by decide), ld0, ld0]
  pointwise [k0_pay64, k0_pay63, k0_pay62, k0_pay61, k0_pay60, k0_pay59, k0_pay58, k0_pay57, k0_pay56, k0_pay25, k0_pay15, k0_pay11, k0_pay13,
    k0_pay12, k0_pay9, k0_pay8]
  simp only [pay69, pay68, pay72, pay73, pay74, pay75, pay77, pay79, pay80, pay81, pay82, pay84, pay85, pay94, pay95, pay96, zero_sub]
  rfl

/-- The step's logarithm's gradient, one lane's part. -/
abbrev L : EReal := dlog (x0 (ix2 0 j)) (x1 (ix2 0 j)) (T x2 j) (x7 (ix2 0 j)) (x8 (ix2 0 j)) (P x3 x4 x9 j) (Q x3 x4 x9 j)

theorem out13 (k : Fin 128) : out0_13 (F := Ideal) x0 x1 x2 x3 x4 x5 x6 x7 x8 x9 x10 (ix2 0 k)
    = if h : k.val < 16 then ∑ s, L x0 x1 x2 x3 x4 x7 x8 x9 (lane ⟨k.val, h⟩ s) else 0 := by
  unfold out0_13
  rw [View.canon_cons_unit_lit _ _ _ (by decide), ld0, ld0, pay1]
  refine Eq.trans (Finset.sum_congr rfl fun j _ => congrArg (· * _) ?_) (sum_group (L x0 x1 x2 x3 x4 x7 x8 x9) k.val)
  pointwise [k0_pay66, k0_pay65, k0_pay63, k0_pay62, k0_pay61, k0_pay60, k0_pay59, k0_pay57, k0_pay56]
  simp only [pay69, pay73, pay74, pay75, pay76, pay77, pay78, pay79, pay81, pay94, pay95, zero_sub]
  rfl

theorem out14 : out0_14 (F := Ideal) x0 x1 x2 x3 x4 x5 x6 x7 x8 x9 x10 (ix2 h j)
    = fi (x0 (ix2 0 j)) (x1 (ix2 0 j)) (T x2 j) * W x9 j h + fr (x0 (ix2 0 j)) (x1 (ix2 0 j)) (T x2 j) * U x9 j h := by
  unfold out0_14
  rw [View.canon_cons_unit_lit _ _ _ (by decide)]
  pointwise [k0_pay53]
  simp only [pay83, pay86, pay89, low]

theorem out15 : out0_15 (F := Ideal) x0 x1 x2 x3 x4 x5 x6 x7 x8 x9 x10 (ix2 h j)
    = fr (x0 (ix2 0 j)) (x1 (ix2 0 j)) (T x2 j) * W x9 j h + fi (x0 (ix2 0 j)) (x1 (ix2 0 j)) (T x2 j) * -U x9 j h := by
  unfold out0_15
  rw [View.canon_cons_unit_lit _ _ _ (by decide)]
  pointwise [k0_pay51, k0_pay50]
  simp only [pay83, pay86, pay89, low, zero_sub]

theorem out16 : out0_16 (F := Ideal) x0 x1 x2 x3 x4 x5 x6 x7 x8 x9 x10 (ix2 h j) = x10 (ix2 (rowAt (gr j) h) ⟨j.val, by omega⟩) := by
  unfold out0_16
  rw [View.canon_cons_unit_lit _ _ _ (by decide), ld3]
  have e := fun r => pay88 x0 x1 x2 x3 x4 x5 x6 x7 x8 x9 x10 j r
  unfold k0_pay88 at e
  generalize k0_pay87 (F := Ideal) x0 x1 x2 x3 x4 x5 x6 x7 x8 x9 x10 = M at e ⊢
  pointwise [k0_pay43, k0_pay42, k0_pay41, k0_pay40, k0_pay39, k0_pay38, k0_pay37, k0_pay36, k0_pay35, k0_pay34, k0_pay33]
  exact stack (fun r => x10 (ix2 r ⟨j.val, by omega⟩)) (fun r => k0_pay31 (F := Ideal) M (ix2 r j)) (gr j) e h

theorem out17 : out0_17 (F := Ideal) x0 x1 x2 x3 x4 x5 x6 x7 x8 x9 x10 (ix2 h j) = -x10 (ix2 (rowAt (gr j) h) ⟨1024 + j.val, by omega⟩) := by
  unfold out0_17
  rw [View.canon_cons_unit_lit _ _ _ (by decide), ld3]
  have e := fun r => pay88 x0 x1 x2 x3 x4 x5 x6 x7 x8 x9 x10 j r
  unfold k0_pay88 at e
  generalize k0_pay87 (F := Ideal) x0 x1 x2 x3 x4 x5 x6 x7 x8 x9 x10 = M at e ⊢
  pointwise [k0_pay32]
  rw [zero_sub]
  exact congrArg (-·) (stack (fun r => x10 (ix2 r ⟨1024 + j.val, by omega⟩)) (fun r => k0_pay31 (F := Ideal) M (ix2 r j)) (gr j) e h)

end Cert.S5PrepBwdIdeal.Tile

end

end
-- ==== Proof.S5BwdOut.lean ====
module

public import proofs.«01_k».proof.Proof.S5BwdTile
public import proofs.«01_k».proof.Proof.Gen.S5PrepBwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' backward kernel's arrays -/

namespace Cert.S5PrepBwdIdeal.Tile

open Cert.S5PrepBwdIdeal Cert.S5PrepBwdIdeal.Gen Cert.S5Spec

variable (m : (ℓ : Loc nD τ sig) → Buf (Elt Ideal) ℓ) (c : Dev nD)

/-- The eleven arguments. -/
def a0 : FVec Ideal S16x64 .f32 := m ((c : Thread nD τ).loc main_arg0)
def a1 : FVec Ideal S16x64 .f32 := m ((c : Thread nD τ).loc main_arg1)
def a2 : FVec Ideal S16 .f32 := m ((c : Thread nD τ).loc main_arg2)
def a3 : FVec Ideal S16x64x16 .f32 := m ((c : Thread nD τ).loc main_arg3)
def a4 : FVec Ideal S16x64x16 .f32 := m ((c : Thread nD τ).loc main_arg4)
def a7 : FVec Ideal S1x1024 .f32 := m ((c : Thread nD τ).loc main_arg7)
def a8 : FVec Ideal S1x1024 .f32 := m ((c : Thread nD τ).loc main_arg8)
def a9 : FVec Ideal S256x2048 .f32 := m ((c : Thread nD τ).loc main_arg9)
def a10 : FVec Ideal S256x2048 .f32 := m ((c : Thread nD τ).loc main_arg10)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

/-! ## The arguments as the region finds them -/

theorem V0 (j : Fin 1024) : (V m c main_v0 : FVec Ideal S1x1024 .f32) (ix2 0 j) = a0 m c (ix2 (gr j) (st j)) := by
  have e : V m c main_v0 = shapeCast S1x1024 (a0 m c) shapeCasts_S16x64_S1x1024 := by
    entry_read
    rfl
  rw [e]
  pointwise []

theorem V1 (j : Fin 1024) : (V m c main_v1 : FVec Ideal S1x1024 .f32) (ix2 0 j) = a1 m c (ix2 (gr j) (st j)) := by
  have e : V m c main_v1 = shapeCast S1x1024 (a1 m c) shapeCasts_S16x64_S1x1024 := by
    entry_read
    rfl
  rw [e]
  pointwise []

theorem V2 (k : Fin 128) (hk : k.val < 16) : (V m c main_v3 : FVec Ideal S1x128 .f32) (ix2 0 k) = a2 m c (ix1 ⟨k.val, hk⟩) := by
  have e : V m c main_v3 = pad S1x128 ![0, 0] ![0, 112] ![0, 0] (shapeCast S1x16 (a2 m c) shapeCasts_S16_S1x16)
      (sitofp .f32 (constantI S_ 32 0#32)) pads_S1x16_S1x128_000_01120 h_S_ := by
    entry_read
    rfl
  rw [e]
  pointwise []
  exact dif_pos hk

theorem V3 (h : Fin 16) (j : Fin 1024) : (V m c main_v5 : FVec Ideal S16x1024 .f32) (ix2 h j) = a3 m c (ix3 (gr j) (st j) h) := by
  have e : V m c main_v5 = shapeCast S16x1024 (transpose S16x16x64 [2, 0, 1] (a3 m c) transposes_S16x64x16_S16x16x64_2_0_1)
      shapeCasts_S16x16x64_S16x1024 := by
    entry_read
    rfl
  rw [e]
  pointwise []

theorem V4 (h : Fin 16) (j : Fin 1024) : (V m c main_v7 : FVec Ideal S16x1024 .f32) (ix2 h j) = a4 m c (ix3 (gr j) (st j) h) := by
  have e : V m c main_v7 = shapeCast S16x1024 (transpose S16x16x64 [2, 0, 1] (a4 m c) transposes_S16x64x16_S16x16x64_2_0_1)
      shapeCasts_S16x16x64_S16x1024 := by
    entry_read
    rfl
  rw [e]
  pointwise []

/-! ## The one point's blocks are the arrays -/

theorem blk0 (t : Fin cfg0.N) : (iblk m c 0 t : FVec Ideal S1x1024 .f32) = V m c main_v0 := by
  funext i
  idx_vars i
  blk_ext [iblk, idx t]

theorem blk1 (t : Fin cfg0.N) : (iblk m c 1 t : FVec Ideal S1x1024 .f32) = V m c main_v1 := by
  funext i
  idx_vars i
  blk_ext [iblk, idx t]

theorem blk2 (t : Fin cfg0.N) : (iblk m c 2 t : FVec Ideal S1x128 .f32) = V m c main_v3 := by
  funext i
  idx_vars i
  blk_ext [iblk, idx t]

theorem blk3 (t : Fin cfg0.N) : (iblk m c 3 t : FVec Ideal S16x1024 .f32) = V m c main_v5 := by
  funext i
  idx_vars i
  blk_ext [iblk, idx t]

theorem blk4 (t : Fin cfg0.N) : (iblk m c 4 t : FVec Ideal S16x1024 .f32) = V m c main_v7 := by
  funext i
  idx_vars i
  blk_ext [iblk, idx t]

theorem blk5 (t : Fin cfg0.N) : (iblk m c 5 t : FVec Ideal S16x1024 .f32) = V m c main_v9 := by
  funext i
  idx_vars i
  blk_ext [iblk, idx t]

theorem blk6 (t : Fin cfg0.N) : (iblk m c 6 t : FVec Ideal S16x1024 .f32) = V m c main_v11 := by
  funext i
  idx_vars i
  blk_ext [iblk, idx t]

theorem blk7 (t : Fin cfg0.N) : (iblk m c 7 t : FVec Ideal S1x1024 .f32) = V m c main_arg7 := by
  funext i
  idx_vars i
  blk_ext [iblk, idx t]

theorem blk8 (t : Fin cfg0.N) : (iblk m c 8 t : FVec Ideal S1x1024 .f32) = V m c main_arg8 := by
  funext i
  idx_vars i
  blk_ext [iblk, idx t]

theorem blk9 (t : Fin cfg0.N) : (iblk m c 9 t : FVec Ideal S256x2048 .f32) = V m c main_arg9 := by
  funext i
  idx_vars i
  blk_ext [iblk, idx t]

theorem blk10 (t : Fin cfg0.N) : (iblk m c 10 t : FVec Ideal S256x2048 .f32) = V m c main_arg10 := by
  funext i
  idx_vars i
  blk_ext [iblk, idx t]

theorem final11 : ((dats m 0 c).arrAt 11 cfg0.N : FVec Ideal S1x1024 .f32) = out0_11 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 11 _ (by decide +kernel) fun t hf y => ?_
  blk_simp
  rw [after0_11]
  idx_vars y
  have e : ((View.whole main_v12_0).slice (win0_11.rect t)).emb (ix2 y0 y1) = ix2 y0 y1 := by
    blk_ext [idx t]
  rw [e, blk0, blk1, blk2, blk3, blk4, blk5, blk6, blk7, blk8, blk9, blk10]

theorem final12 : ((dats m 0 c).arrAt 12 cfg0.N : FVec Ideal S1x1024 .f32) = out0_12 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 12 _ (by decide +kernel) fun t hf y => ?_
  blk_simp
  rw [after0_12]
  idx_vars y
  have e : ((View.whole main_v12_1).slice (win0_12.rect t)).emb (ix2 y0 y1) = ix2 y0 y1 := by
    blk_ext [idx t]
  rw [e, blk0, blk1, blk2, blk3, blk4, blk5, blk6, blk7, blk8, blk9, blk10]

theorem final13 : ((dats m 0 c).arrAt 13 cfg0.N : FVec Ideal S1x128 .f32) = out0_13 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 13 _ (by decide +kernel) fun t hf y => ?_
  blk_simp
  rw [after0_13]
  idx_vars y
  have e : ((View.whole main_v12_2).slice (win0_13.rect t)).emb (ix2 y0 y1) = ix2 y0 y1 := by
    blk_ext [idx t]
  rw [e, blk0, blk1, blk2, blk3, blk4, blk5, blk6, blk7, blk8, blk9, blk10]

theorem final14 : ((dats m 0 c).arrAt 14 cfg0.N : FVec Ideal S16x1024 .f32) = out0_14 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 14 _ (by decide +kernel) fun t hf y => ?_
  blk_simp
  rw [after0_14]
  idx_vars y
  have e : ((View.whole main_v12_3).slice (win0_14.rect t)).emb (ix2 y0 y1) = ix2 y0 y1 := by
    blk_ext [idx t]
  rw [e, blk0, blk1, blk2, blk3, blk4, blk5, blk6, blk7, blk8, blk9, blk10]

theorem final15 : ((dats m 0 c).arrAt 15 cfg0.N : FVec Ideal S16x1024 .f32) = out0_15 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 15 _ (by decide +kernel) fun t hf y => ?_
  blk_simp
  rw [after0_15]
  idx_vars y
  have e : ((View.whole main_v12_4).slice (win0_15.rect t)).emb (ix2 y0 y1) = ix2 y0 y1 := by
    blk_ext [idx t]
  rw [e, blk0, blk1, blk2, blk3, blk4, blk5, blk6, blk7, blk8, blk9, blk10]

theorem final16 : ((dats m 0 c).arrAt 16 cfg0.N : FVec Ideal S16x1024 .f32) = out0_16 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 16 _ (by decide +kernel) fun t hf y => ?_
  blk_simp
  rw [after0_16]
  idx_vars y
  have e : ((View.whole main_v12_5).slice (win0_16.rect t)).emb (ix2 y0 y1) = ix2 y0 y1 := by
    blk_ext [idx t]
  rw [e, blk0, blk1, blk2, blk3, blk4, blk5, blk6, blk7, blk8, blk9, blk10]

theorem final17 : ((dats m 0 c).arrAt 17 cfg0.N : FVec Ideal S16x1024 .f32) = out0_17 (F := Ideal) (V m c main_v0) (V m c main_v1) (V m c main_v3) (V m c main_v5) (V m c main_v7) (V m c main_v9) (V m c main_v11) (V m c main_arg7) (V m c main_arg8) (V m c main_arg9) (V m c main_arg10) := by
  refine (dats m 0 c).arrAt_eq_of_covers 17 _ (by decide +kernel) fun t hf y => ?_
  blk_simp
  rw [after0_17]
  idx_vars y
  have e : ((View.whole main_v12_6).slice (win0_17.rect t)).emb (ix2 y0 y1) = ix2 y0 y1 := by
    blk_ext [idx t]
  rw [e, blk0, blk1, blk2, blk3, blk4, blk5, blk6, blk7, blk8, blk9, blk10]

end Cert.S5PrepBwdIdeal.Tile

end

end
-- ==== Proof.S5BwdRef.lean ====
module

public import proofs.«01_k».proof.Proof.S5Spec
public import proofs.«01_k».proof.Proof.Gen.S5PrepBwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # The parameters' gradients, the reference -/

namespace Cert.S5PrepBwdRefIdeal

open Cert.S5PrepBwdRefIdeal Cert.S5PrepBwdRefIdeal.Gen Cert.S5PrepBwdRefIdeal.Read Cert.S5Spec

variable (x0 x1 : FVec Ideal S16x64 .f32) (x2 : FVec Ideal S16 .f32) (x3 x4 : FVec Ideal S16x64x16 .f32)
  (x7 x8 : FVec Ideal S1x1024 .f32) (x9 x10 : FVec Ideal S256x2048 .f32) (g : Fin 16) (s : Fin 64)

/-- A matrix's entries of one state's group, the columns' low half and the high one. -/
abbrev lowAt (x : FVec Ideal S256x2048 .f32) (h : Fin 16) : EReal := x (ix2 (rowAt g h) ⟨(lane g s).val, by omega⟩)
abbrev highAt (x : FVec Ideal S256x2048 .f32) (h : Fin 16) : EReal := x (ix2 (rowAt g h) ⟨1024 + (lane g s).val, by omega⟩)

abbrev p : EReal := bwP (lowAt g s x9) (highAt g s x9) (fun h => x3 (ix3 g s h)) (fun h => x4 (ix3 g s h))
abbrev q : EReal := bwQ (lowAt g s x9) (highAt g s x9) (fun h => x3 (ix3 g s h)) (fun h => x4 (ix3 g s h))

theorem r1 : val_main_v1 (F := Ideal) x0 (ix2 g s) = lr (x0 (ix2 g s)) := by
  pointwise [val_main_v1, val_main_v0, val_main_cst]
  rfl

theorem r10 : val_main_v10 (F := Ideal) x0 (ix2 g s) = slope (x0 (ix2 g s)) := by
  pointwise [val_main_v10, val_main_v3, val_main_v2, val_main_cst_0, val_main_v6, val_main_cst_2, val_main_v9, val_main_v5, val_main_v4, val_main_cst_1, val_main_v8, val_main_cst_4, val_main_v7, val_main_cst_3]
  rfl

theorem r13 : val_main_v13 (F := Ideal) x2 (ix2 g s) = dt (x2 (ix1 g)) := by
  pointwise [val_main_v13, val_main_v12, val_main_v11]
  rfl

theorem r15 : val_main_v15 (F := Ideal) x0 x2 (ix2 g s) = mag (x0 (ix2 g s)) (x2 (ix1 g)) := by
  pointwise [val_main_v15, val_main_v14]
  simp only [r1, r13]
  rfl

theorem r17 : val_main_v17 (F := Ideal) x1 x2 (ix2 g s) = co (x1 (ix2 g s)) (x2 (ix1 g)) := by
  pointwise [val_main_v17, val_main_v16]
  simp only [r13]
  rfl

theorem r22 : val_main_v22 (F := Ideal) x1 x2 (ix2 g s) = co (x1 (ix2 g s)) (x2 (ix1 g)) := by
  pointwise [val_main_v22, val_main_v20]
  simp only [r13]
  rfl

theorem r18 : val_main_v18 (F := Ideal) x1 x2 (ix2 g s) = si (x1 (ix2 g s)) (x2 (ix1 g)) := by
  pointwise [val_main_v18, val_main_v16]
  simp only [r13]
  rfl

theorem r21 : val_main_v21 (F := Ideal) x1 x2 (ix2 g s) = si (x1 (ix2 g s)) (x2 (ix1 g)) := by
  pointwise [val_main_v21, val_main_v20]
  simp only [r13]
  rfl

theorem r19 : val_main_v19 (F := Ideal) x0 x1 x2 (ix2 g s) = ar (x0 (ix2 g s)) (x1 (ix2 g s)) (x2 (ix1 g)) := by
  pointwise [val_main_v19]
  simp only [r15, r17]
  rfl

theorem r23 : val_main_v23 (F := Ideal) x0 x1 x2 (ix2 g s) = ai (x0 (ix2 g s)) (x1 (ix2 g s)) (x2 (ix1 g)) := by
  pointwise [val_main_v23]
  simp only [r15, r21]
  rfl

theorem r26 : val_main_v26 (F := Ideal) x0 x1 (ix2 g s) = den (x0 (ix2 g s)) (x1 (ix2 g s)) := by
  pointwise [val_main_v26, val_main_v24, val_main_v25]
  simp only [r1]
  rfl

theorem r28 : val_main_v28 (F := Ideal) x0 x1 x2 (ix2 g s) = ar (x0 (ix2 g s)) (x1 (ix2 g s)) (x2 (ix1 g)) - 1 := by
  pointwise [val_main_v28, val_main_v27, val_main_cst_5]
  simp only [r19]

theorem r39 : val_main_v39 (F := Ideal) x0 x1 x2 (ix2 g s) = ar (x0 (ix2 g s)) (x1 (ix2 g s)) (x2 (ix1 g)) - 1 := by
  pointwise [val_main_v39, val_main_v38, val_main_cst_7]
  simp only [r19]

theorem r31 : val_main_v31 (F := Ideal) x0 x1 x2 (ix2 g s) = n1 (x0 (ix2 g s)) (x1 (ix2 g s)) (x2 (ix1 g)) := by
  pointwise [val_main_v31, val_main_v29, val_main_v30]
  simp only [r28, r23, r1]
  rfl

theorem r41 : val_main_v41 (F := Ideal) x0 x1 x2 (ix2 g s) = n2 (x0 (ix2 g s)) (x1 (ix2 g s)) (x2 (ix1 g)) := by
  pointwise [val_main_v41, val_main_v37, val_main_v40]
  simp only [r39, r23, r1]
  rfl

theorem r32 : val_main_v32 (F := Ideal) x0 x1 x2 (ix2 g s) = fr (x0 (ix2 g s)) (x1 (ix2 g s)) (x2 (ix1 g)) := by
  pointwise [val_main_v32]
  simp only [r31, r26]
  rfl

theorem r42 : val_main_v42 (F := Ideal) x0 x1 x2 (ix2 g s) = fi (x0 (ix2 g s)) (x1 (ix2 g s)) (x2 (ix1 g)) := by
  pointwise [val_main_v42]
  simp only [r41, r26]
  rfl

theorem r35 : val_main_v35 (F := Ideal) x0 x1 (ix2 g s) = sq (x0 (ix2 g s)) (x1 (ix2 g s)) := by
  pointwise [val_main_v35, val_main_v34, val_main_cst_6, val_main_v33]
  simp only [r26]
  rfl

theorem r45 : val_main_v45 (F := Ideal) x0 x1 (ix2 g s) = sq (x0 (ix2 g s)) (x1 (ix2 g s)) := by
  pointwise [val_main_v45, val_main_v44, val_main_cst_8, val_main_v43]
  simp only [r26]
  rfl

theorem r62 (h k : Fin 16) : val_main_v62 (F := Ideal)  (ix4 g h k s) = hot g.val k.val := by
  pointwise [val_main_v62, val_main_v61, val_main_v59, val_main_v60]
  exact unsigned_hot g.val k.val (by omega) (by omega)

theorem r70 (h k : Fin 16) : val_main_v70 (F := Ideal)  (ix4 g h k s) = hot g.val k.val := by
  pointwise [val_main_v70, val_main_v69, val_main_v67, val_main_v68]
  exact unsigned_hot g.val k.val (by omega) (by omega)

theorem r79 (h k : Fin 16) : val_main_v79 (F := Ideal)  (ix4 g h k s) = hot g.val k.val := by
  pointwise [val_main_v79, val_main_v78, val_main_v76, val_main_v77]
  exact unsigned_hot g.val k.val (by omega) (by omega)

theorem r88 (h k : Fin 16) : val_main_v88 (F := Ideal)  (ix4 g h k s) = hot g.val k.val := by
  pointwise [val_main_v88, val_main_v87, val_main_v85, val_main_v86]
  exact unsigned_hot g.val k.val (by omega) (by omega)

theorem r105 (h : Fin 16) : val_main_v105 (F := Ideal) x10 (ix3 g h s) = -highAt g s x10 h := by
  pointwise [val_main_v105, val_main_v104, val_main_v103, val_main_v102, val_main_v101, val_main_v100, val_main_v99, val_main_cst_9, val_main_cst_10]
  simp only [r88, sum_hot', zero_add, Finset.univ_unique, Finset.sum_singleton]

theorem r110 (h : Fin 16) : val_main_v110 (F := Ideal) x10 (ix3 g h s) = lowAt g s x10 h := by
  pointwise [val_main_v110, val_main_v109, val_main_v108, val_main_v107, val_main_v106, val_main_v98, val_main_cst_11, val_main_cst_12]
  simp only [r79, sum_hot', zero_add, Finset.univ_unique, Finset.sum_singleton]

theorem r117 (h : Fin 16) : val_main_v117 (F := Ideal) x9 (ix3 g h s) = highAt g s x9 h := by
  pointwise [val_main_v117, val_main_v116, val_main_v115, val_main_v114, val_main_v113, val_main_v112, val_main_cst_13, val_main_cst_14]
  simp only [r70, sum_hot', zero_add, Finset.univ_unique, Finset.sum_singleton]

theorem r122 (h : Fin 16) : val_main_v122 (F := Ideal) x9 (ix3 g h s) = lowAt g s x9 h := by
  pointwise [val_main_v122, val_main_v121, val_main_v120, val_main_v119, val_main_v118, val_main_v111, val_main_cst_15, val_main_cst_16]
  simp only [r62, sum_hot', zero_add, Finset.univ_unique, Finset.sum_singleton]

theorem r145 (h : Fin 16) : val_main_v145 (F := Ideal) x0 x1 x2 x9 (ix3 g s h) = fi (x0 (ix2 g s)) (x1 (ix2 g s)) (x2 (ix1 g)) * highAt g s x9 h + fr (x0 (ix2 g s)) (x1 (ix2 g s)) (x2 (ix1 g)) * lowAt g s x9 h := by
  pointwise [val_main_v145, val_main_v125, val_main_v124, val_main_v46, val_main_v123, val_main_v144, val_main_v143, val_main_v36, val_main_v134]
  simp only [r42, r32, r117, r122]

theorem r138 (h : Fin 16) : val_main_v138 (F := Ideal) x0 x1 x2 x9 (ix3 g s h) = fr (x0 (ix2 g s)) (x1 (ix2 g s)) (x2 (ix1 g)) * highAt g s x9 h + fi (x0 (ix2 g s)) (x1 (ix2 g s)) (x2 (ix1 g)) * -lowAt g s x9 h := by
  pointwise [val_main_v138, val_main_v130, val_main_v129, val_main_v36, val_main_v123, val_main_v137, val_main_v136, val_main_v46, val_main_v135, val_main_v134]
  simp only [r42, r32, r117, r122]

theorem r150 : val_main_v150 (F := Ideal) x3 x4 x9 (ix2 g s) = p x3 x4 x9 g s := by
  pointwise [val_main_v150, val_main_v142, val_main_v128, val_main_v127, val_main_v126, val_main_v123, val_main_v141, val_main_v140, val_main_v139, val_main_v135, val_main_v134, val_main_cst_17, val_main_cst_19, val_main_cst_21]
  simp only [r117, r122, zero_add, Finset.univ_unique, Finset.sum_singleton]
  rfl

theorem r162 : val_main_v162 (F := Ideal) x3 x4 x9 (ix2 g s) = q x3 x4 x9 g s := by
  pointwise [val_main_v162, val_main_v149, val_main_v133, val_main_v132, val_main_v131, val_main_v123, val_main_v148, val_main_v147, val_main_v146, val_main_v134, val_main_cst_18, val_main_cst_20, val_main_cst_22]
  simp only [r117, r122, zero_add, Finset.univ_unique, Finset.sum_singleton]
  rfl

theorem r166 : val_main_v166 (F := Ideal) x0 x1 x2 x3 x4 x9 (ix2 g s) = dden (x0 (ix2 g s)) (x1 (ix2 g s)) (x2 (ix1 g)) (p x3 x4 x9 g s) (q x3 x4 x9 g s) := by
  pointwise [val_main_v166, val_main_v153, val_main_v152, val_main_v151, val_main_v165, val_main_v164, val_main_v163]
  simp only [r150, r45, r41, r162, r35, r31]
  rfl

theorem r154 : val_main_v154 (F := Ideal) x0 x1 x3 x4 x9 (ix2 g s) = Ideal.div (p x3 x4 x9 g s) (den (x0 (ix2 g s)) (x1 (ix2 g s))) := by
  pointwise [val_main_v154]
  simp only [r150, r26]

theorem r155 : val_main_v155 (F := Ideal) x0 x1 x3 x4 x9 (ix2 g s) = -Ideal.div (p x3 x4 x9 g s) (den (x0 (ix2 g s)) (x1 (ix2 g s))) := by
  pointwise [val_main_v155]
  simp only [r154]

theorem r167 : val_main_v167 (F := Ideal) x0 x1 x3 x4 x9 (ix2 g s) = Ideal.div (q x3 x4 x9 g s) (den (x0 (ix2 g s)) (x1 (ix2 g s))) := by
  pointwise [val_main_v167]
  simp only [r162, r26]

theorem r171 : val_main_v171 (F := Ideal) x0 x1 x3 x4 x8 x9 (ix2 g s) = dai (x0 (ix2 g s)) (x1 (ix2 g s)) (x8 (ix2 0 (lane g s))) (p x3 x4 x9 g s) (q x3 x4 x9 g s) := by
  pointwise [val_main_v171, val_main_v161, val_main_v96, val_main_v160, val_main_v170]
  simp only [r154, r167, r1]
  rfl

theorem r175 : val_main_v175 (F := Ideal) x0 x1 x3 x4 x7 x9 (ix2 g s) = dar (x0 (ix2 g s)) (x1 (ix2 g s)) (x7 (ix2 0 (lane g s))) (p x3 x4 x9 g s) (q x3 x4 x9 g s) := by
  pointwise [val_main_v175, val_main_v158, val_main_v97, val_main_v157, val_main_v174]
  simp only [r155, r167, r1]
  rfl

theorem r186 : val_main_v186 (F := Ideal) x0 x1 x2 x3 x4 x8 x9 (ix2 g s) = e1 (x0 (ix2 g s)) (x1 (ix2 g s)) (x2 (ix1 g)) (x8 (ix2 0 (lane g s))) (p x3 x4 x9 g s) (q x3 x4 x9 g s) := by
  pointwise [val_main_v186, val_main_v184]
  simp only [r15, r171, r22]
  rfl

theorem r194 : val_main_v194 (F := Ideal) x0 x1 x2 x3 x4 x7 x9 (ix2 g s) = e2 (x0 (ix2 g s)) (x1 (ix2 g s)) (x2 (ix1 g)) (x7 (ix2 0 (lane g s))) (p x3 x4 x9 g s) (q x3 x4 x9 g s) := by
  pointwise [val_main_v194, val_main_v193, val_main_v190]
  simp only [r15, r175, r18]
  rfl

theorem r199 : val_main_v199 (F := Ideal) x0 x1 x2 x3 x4 x7 x8 x9 (ix2 g s) = dmag (x0 (ix2 g s)) (x1 (ix2 g s)) (x2 (ix1 g)) (x7 (ix2 0 (lane g s))) (x8 (ix2 0 (lane g s))) (p x3 x4 x9 g s) (q x3 x4 x9 g s) := by
  pointwise [val_main_v199, val_main_v192, val_main_v185, val_main_v191]
  simp only [r171, r21, r175, r17, r15]
  rfl

theorem r198 : val_main_v198 (F := Ideal) x0 x1 x2 x3 x4 x7 x8 x9 (ix2 g s) = dlim (x0 (ix2 g s)) (x1 (ix2 g s)) (x2 (ix1 g)) (x7 (ix2 0 (lane g s))) (x8 (ix2 0 (lane g s))) (p x3 x4 x9 g s) (q x3 x4 x9 g s) := by
  pointwise [val_main_v198, val_main_v189, val_main_v179, val_main_v177, val_main_v169, val_main_v156, val_main_v168, val_main_v176, val_main_v178, val_main_v188, val_main_v197]
  simp only [r39, r155, r23, r167, r166, r186, r13, r194]
  rfl

theorem r208 : val_main_v208 (F := Ideal) x0 x1 x2 x3 x4 x7 x8 x9 (ix2 g s) = dlre (x0 (ix2 g s)) (x1 (ix2 g s)) (x2 (ix1 g)) (x7 (ix2 0 (lane g s))) (x8 (ix2 0 (lane g s))) (p x3 x4 x9 g s) (q x3 x4 x9 g s) := by
  pointwise [val_main_v208, val_main_v203, val_main_v183, val_main_v181, val_main_v173, val_main_v159, val_main_v172, val_main_v180, val_main_v182, val_main_v202]
  simp only [r23, r154, r28, r167, r1, r166, r199, r13, r10]
  rfl

theorem r204 : val_main_v204 (F := Ideal) x0 x1 x2 x3 x4 x7 x8 x9 (ix2 g s) = dlog (x0 (ix2 g s)) (x1 (ix2 g s)) (x2 (ix1 g)) (x7 (ix2 0 (lane g s))) (x8 (ix2 0 (lane g s))) (p x3 x4 x9 g s) (q x3 x4 x9 g s) := by
  pointwise [val_main_v204, val_main_v201, val_main_v196, val_main_v187, val_main_v195, val_main_v200]
  simp only [r186, r194, r1, r199, r13]
  rfl

theorem r207 : val_main_v207 (F := Ideal) x0 x1 x2 x3 x4 x7 x8 x9 (ix1 g) = ∑ s, val_main_v204 (F := Ideal) x0 x1 x2 x3 x4 x7 x8 x9 (ix2 g s) := by
  pointwise [val_main_v207, val_main_v206, val_main_v205, val_main_cst_23, val_main_cst_24]
  simp only [zero_add, Finset.univ_unique, Finset.sum_singleton]

/-! ## The results, in the call's layout -/

variable (h : Fin 16) (j : Fin 1024)

theorem r209 : val_main_v209 (F := Ideal) x0 x1 x2 x3 x4 x7 x8 x9 (ix2 0 j) = val_main_v208 (F := Ideal) x0 x1 x2 x3 x4 x7 x8 x9 (ix2 (gr j) (st j)) := by
  pointwise [val_main_v209]

theorem r210 : val_main_v210 (F := Ideal) x0 x1 x2 x3 x4 x7 x8 x9 (ix2 0 j) = val_main_v198 (F := Ideal) x0 x1 x2 x3 x4 x7 x8 x9 (ix2 (gr j) (st j)) := by
  pointwise [val_main_v210]

theorem r212 (k : Fin 128) : val_main_v212 (F := Ideal) x0 x1 x2 x3 x4 x7 x8 x9 (ix2 0 k)
    = if hk : k.val < 16 then val_main_v207 (F := Ideal) x0 x1 x2 x3 x4 x7 x8 x9 (ix1 ⟨k.val, hk⟩) else 0 := by
  pointwise [val_main_v212, val_main_v211, val_main_call0_v0, val_main_c]
  split
  · rfl
  · simp [FloatOps.sitofp]

theorem r214 : val_main_v214 (F := Ideal) x0 x1 x2 x9 (ix2 h j) = val_main_v145 (F := Ideal) x0 x1 x2 x9 (ix3 (gr j) (st j) h) := by
  pointwise [val_main_v214, val_main_v213]

theorem r216 : val_main_v216 (F := Ideal) x0 x1 x2 x9 (ix2 h j) = val_main_v138 (F := Ideal) x0 x1 x2 x9 (ix3 (gr j) (st j) h) := by
  pointwise [val_main_v216, val_main_v215]

theorem r218 : val_main_v218 (F := Ideal) x10 (ix2 h j) = val_main_v110 (F := Ideal) x10 (ix3 (gr j) h (st j)) := by
  pointwise [val_main_v218, val_main_v217]

theorem r220 : val_main_v220 (F := Ideal) x10 (ix2 h j) = val_main_v105 (F := Ideal) x10 (ix3 (gr j) h (st j)) := by
  pointwise [val_main_v220, val_main_v219]

end Cert.S5PrepBwdRefIdeal

end

end
-- ==== Proof.S5Claim.lean ====
module

public import proofs.«01_k».proof.Defs
public import proofs.«01_k».proof.Proof.S5FwdOut
public import proofs.«01_k».proof.Proof.S5FwdRef
public import proofs.«01_k».proof.Proof.S5BwdOut
public import proofs.«01_k».proof.Proof.S5BwdRef
public import proofs.«01_k».proof.Proof.Gen.S5Prep.Frame
public import proofs.«01_k».proof.Proof.Gen.S5PrepBwd.Frame
public import Idealize.ShloMosaic.Adequacy
public import Idealize.ShloMosaic.Lib.Pipeline.ValueKit

@[expose] public section

set_option maxRecDepth 16384

noncomputable section

open Idealize.ShloMosaic Idealize.ShloMosaic.TcCoe Idealize.SL.Sem

/-! # The state space layer's parameters and their gradients: the five claims of each -/

namespace Cert.S5Claim

open Cert.S5Spec

/-- A statement of every column, from the columns of the low half and of the high one. -/
theorem columns {P : Fin 2048 → Prop} (low : ∀ j : Fin 1024, P ⟨j.val, by omega⟩) (high : ∀ j : Fin 1024, P ⟨1024 + j.val, by omega⟩) : ∀ k, P k := by
  intro k
  by_cases hk : k.val < 1024
  · exact low ⟨k.val, hk⟩
  · have e : (⟨1024 + (k.val - 1024), by omega⟩ : Fin 2048) = k := Fin.ext (by show 1024 + (k.val - 1024) = k.val; omega)
    exact e ▸ high ⟨k.val - 1024, by omega⟩

theorem lane_eq (j : Fin 1024) : (lane (gr j) (st j)).val = j.val := by
  show j.val / 64 * 64 + j.val % 64 = j.val
  omega

theorem gr_lane (g : Fin 16) (s : Fin 64) : gr (lane g s) = g := Fin.ext (by show (g.val * 64 + s.val) / 64 = g.val; omega)
theorem st_lane (g : Fin 16) (s : Fin 64) : st (lane g s) = s := Fin.ext (by show (g.val * 64 + s.val) % 64 = s.val; omega)

/-- Behind the mask, two values need only agree where the groups do. -/
theorem hot_only {a b : ℕ} {x y : EReal} (h : a = b → x = y) : x * hot a b = y * hot a b := by
  by_cases e : a = b
  · rw [h e]
  · simp [hot, e]

namespace Fwd

section Value
open Cert.S5PrepIdeal Cert.S5PrepIdeal.Gen Cert.S5PrepIdeal.Tile
open Cert.S5PrepRefIdeal (r9 r12 r35 r41 r58_low r58_high r76_low r76_high r77 r78)

variable (m : (ℓ : Loc nD τ sig) → Buf (Elt Ideal) ℓ) (c : Dev nD)

theorem step (j : Fin 1024) : T (V m c main_v3) j = a2 m c (ix1 (gr j)) := V2 m c ⟨j.val / 64, by omega⟩ (by show j.val / 64 < 16; omega)

theorem group_eq {r : Fin 256} {j : Fin 1024} (e : r.val / 16 = j.val / 64) : gr j = Cert.S5PrepRefIdeal.rg r := Fin.ext e.symm

theorem eq7 : out0_7 (F := Ideal) (V m c main_v0) (V m c main_v1) (V m c main_v3) (V m c main_v5) (V m c main_v7) (V m c main_v9) (V m c main_v11) = Cert.S5PrepRefIdeal.Read.val_main_v77 (F := Ideal) (a0 m c) (a1 m c) (a2 m c) := by
  funext i
  idx_vars i
  obtain rfl : i0 = 0 := Subsingleton.elim _ _
  rw [out7, V0, V1, step, r77, r9]

theorem eq8 : out0_8 (F := Ideal) (V m c main_v0) (V m c main_v1) (V m c main_v3) (V m c main_v5) (V m c main_v7) (V m c main_v9) (V m c main_v11) = Cert.S5PrepRefIdeal.Read.val_main_v78 (F := Ideal) (a0 m c) (a1 m c) (a2 m c) := by
  funext i
  idx_vars i
  obtain rfl : i0 = 0 := Subsingleton.elim _ _
  rw [out8, V0, V1, step, r78, r12]

theorem eq9 : out0_9 (F := Ideal) (V m c main_v0) (V m c main_v1) (V m c main_v3) (V m c main_v5) (V m c main_v7) (V m c main_v9) (V m c main_v11) = Cert.S5PrepRefIdeal.Read.val_main_v58 (F := Ideal) (a0 m c) (a1 m c) (a2 m c) (a3 m c) (a4 m c) := by
  funext i
  idx_vars i
  revert i1
  refine columns (fun j => ?_) fun j => ?_
  · rw [out9l, V0, V1, V3, V4, step, r58_low, r35]
    exact hot_only fun e => by rw [group_eq e]
  · rw [out9h, V0, V1, V3, V4, step, r58_high, r41]
    exact hot_only fun e => by rw [group_eq e]

theorem eq10 : out0_10 (F := Ideal) (V m c main_v0) (V m c main_v1) (V m c main_v3) (V m c main_v5) (V m c main_v7) (V m c main_v9) (V m c main_v11) = Cert.S5PrepRefIdeal.Read.val_main_v76 (F := Ideal) (a5 m c) (a6 m c) := by
  funext i
  idx_vars i
  revert i1
  refine columns (fun j => ?_) fun j => ?_
  · rw [out10l, V5, r76_low]
    exact hot_only fun e => by rw [group_eq e]
  · rw [out10h, V6, r76_high]
    exact hot_only fun e => by rw [group_eq e]

end Value

theorem frameP : Cert.quiescent_S5Prep (hS5Prep := Cert.S5Prep.Gen.facts) := fun m ρ _ => Cert.S5Prep.Gen.frame m ρ

theorem framePI : Cert.quiescent_S5PrepIdeal (hS5PrepIdeal := Cert.S5PrepIdeal.Gen.facts) := fun m ρ _ => Cert.S5PrepIdeal.Gen.frame m ρ

theorem frameRI : Cert.quiescent_S5PrepRefIdeal (hS5PrepRefIdeal := Cert.S5PrepRefIdeal.Gen.facts) :=
  fun m ρ _ => (θ_run Cert.S5PrepRefIdeal.defs _ _).mono
    (fun r h => ⟨fun c => (h c).2.2.2.2, sem_eq_zero_of_no_sems (by decide) r.2⟩) (Cert.S5PrepRefIdeal.Value.run (F := Ideal) m ρ)

open Cert.S5PrepIdeal.Tile in
theorem algebraic : Cert.algebraic_S5PrepIdeal_S5PrepRefIdeal (hS5PrepIdeal := Cert.S5PrepIdeal.Gen.facts)
    (hS5PrepRefIdeal := Cert.S5PrepRefIdeal.Gen.facts) := by
  intro m ρ m' ρ' _ hagree
  refine ⟨fun c => Cert.S5PrepRefIdeal.Read.val_main_v77 (F := Ideal) (a0 m c) (a1 m c) (a2 m c),
    fun c => Cert.S5PrepRefIdeal.Read.val_main_v78 (F := Ideal) (a0 m c) (a1 m c) (a2 m c),
    fun c => Cert.S5PrepRefIdeal.Read.val_main_v58 (F := Ideal) (a0 m c) (a1 m c) (a2 m c) (a3 m c) (a4 m c),
    fun c => Cert.S5PrepRefIdeal.Read.val_main_v76 (F := Ideal) (a5 m c) (a6 m c),
    (θ_run _ _ _).mono (fun r h c => ⟨(h c).1.trans ((final7 m c).trans (eq7 m c)),
    (h c).2.1.trans ((final8 m c).trans (eq8 m c)),
    (h c).2.2.1.trans ((final9 m c).trans (eq9 m c)),
    (h c).2.2.2.1.trans ((final10 m c).trans (eq10 m c)), (h c).2.2.2.2⟩) (Cert.S5PrepIdeal.Value.run_blocks m ρ), ?_⟩
  refine (θ_run _ _ _).mono (fun r h c => ?_) (Cert.S5PrepRefIdeal.Value.run (F := Ideal) m' ρ')
  obtain ⟨h0, h1, h2, h3, h4, h5, h6⟩ := hagree c
  have e0 : StableHlo.launchContents m' c (Proc.tc.devRef Cert.S5PrepRefIdeal.main_arg0) = a0 m c := h0
  have e1 : StableHlo.launchContents m' c (Proc.tc.devRef Cert.S5PrepRefIdeal.main_arg1) = a1 m c := h1
  have e2 : StableHlo.launchContents m' c (Proc.tc.devRef Cert.S5PrepRefIdeal.main_arg2) = a2 m c := h2
  have e3 : StableHlo.launchContents m' c (Proc.tc.devRef Cert.S5PrepRefIdeal.main_arg3) = a3 m c := h3
  have e4 : StableHlo.launchContents m' c (Proc.tc.devRef Cert.S5PrepRefIdeal.main_arg4) = a4 m c := h4
  have e5 : StableHlo.launchContents m' c (Proc.tc.devRef Cert.S5PrepRefIdeal.main_arg5) = a5 m c := h5
  have e6 : StableHlo.launchContents m' c (Proc.tc.devRef Cert.S5PrepRefIdeal.main_arg6) = a6 m c := h6
  refine ⟨(h c).1.trans ?_, (h c).2.1.trans ?_, (h c).2.2.1.trans ?_, (h c).2.2.2.1.trans ?_, (h c).2.2.2.2⟩
  · exact (Cert.S5PrepRefIdeal.Read.val_main_v77_eq ..).trans (by first | rw [e0, e1, e2] | (rw [h0, h1, h2]; rfl))
  · exact (Cert.S5PrepRefIdeal.Read.val_main_v78_eq ..).trans (by first | rw [e0, e1, e2] | (rw [h0, h1, h2]; rfl))
  · exact (Cert.S5PrepRefIdeal.Read.val_main_v58_eq ..).trans (by first | rw [e0, e1, e2, e3, e4] | (rw [h0, h1, h2, h3, h4]; rfl))
  · exact (Cert.S5PrepRefIdeal.Read.val_main_v76_eq ..).trans (by first | rw [e5, e6] | (rw [h5, h6]; rfl))

end Fwd

namespace Bwd

section Value
open Cert.S5PrepBwdIdeal Cert.S5PrepBwdIdeal.Gen Cert.S5PrepBwdIdeal.Tile
open Cert.S5PrepBwdRefIdeal (lowAt highAt p q r105 r110 r138 r145 r198 r204 r207 r208 r209 r210 r212 r214 r216 r218 r220)

variable (m : (ℓ : Loc nD τ sig) → Buf (Elt Ideal) ℓ) (c : Dev nD) (j : Fin 1024)

theorem step : T (V m c main_v3) j = a2 m c (ix1 (gr j)) := V2 m c ⟨j.val / 64, by omega⟩ (by show j.val / 64 < 16; omega)

theorem low_eq (x : FVec Ideal S256x2048 .f32) : lowAt (gr j) (st j) x = U x j :=
  funext fun h => congrArg (fun k => x (ix2 (rowAt (gr j) h) k)) (Fin.ext (lane_eq j))

theorem high_eq (x : FVec Ideal S256x2048 .f32) : highAt (gr j) (st j) x = W x j :=
  funext fun h => congrArg (fun k => x (ix2 (rowAt (gr j) h) k)) (Fin.ext (congrArg (fun k : ℕ => 1024 + k) (lane_eq j)))

theorem P_eq : P (V m c main_v5) (V m c main_v7) (V m c main_arg9) j = p (a3 m c) (a4 m c) (a9 m c) (gr j) (st j) := by
  unfold P p
  rw [low_eq, high_eq, V_main_arg9]
  exact congrArg₂ (bwP (U (a9 m c) j) (W (a9 m c) j)) (funext fun h => V3 m c h j) (funext fun h => V4 m c h j)

theorem Q_eq : Q (V m c main_v5) (V m c main_v7) (V m c main_arg9) j = q (a3 m c) (a4 m c) (a9 m c) (gr j) (st j) := by
  unfold Q q
  rw [low_eq, high_eq, V_main_arg9]
  exact congrArg₂ (bwQ (U (a9 m c) j) (W (a9 m c) j)) (funext fun h => V3 m c h j) (funext fun h => V4 m c h j)

theorem D7 : (V m c main_arg7 : FVec Ideal S1x1024 .f32) (ix2 0 j) = a7 m c (ix2 0 (lane (gr j) (st j))) := by
  rw [V_main_arg7, show lane (gr j) (st j) = j from Fin.ext (lane_eq j)]
  rfl

theorem D8 : (V m c main_arg8 : FVec Ideal S1x1024 .f32) (ix2 0 j) = a8 m c (ix2 0 (lane (gr j) (st j))) := by
  rw [V_main_arg8, show lane (gr j) (st j) = j from Fin.ext (lane_eq j)]
  rfl

theorem part (g : Fin 16) (s : Fin 64) : L (V m c main_v0) (V m c main_v1) (V m c main_v3) (V m c main_v5) (V m c main_v7)
    (V m c main_arg7) (V m c main_arg8) (V m c main_arg9) (lane g s) = Cert.S5PrepBwdRefIdeal.Read.val_main_v204 (F := Ideal) (a0 m c) (a1 m c) (a2 m c) (a3 m c) (a4 m c) (a7 m c) (a8 m c) (a9 m c) (ix2 g s) := by
  unfold L
  rw [V0, V1, step, D7, D8, P_eq, Q_eq, gr_lane, st_lane, r204]

theorem eq11 : out0_11 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v209 (F := Ideal) (a0 m c) (a1 m c) (a2 m c) (a3 m c) (a4 m c) (a7 m c) (a8 m c) (a9 m c) := by
  funext i
  idx_vars i
  obtain rfl : i0 = 0 := Subsingleton.elim _ _
  rw [out11, V0, V1, step, D7, D8, P_eq, Q_eq, r209, r208]

theorem eq12 : out0_12 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v210 (F := Ideal) (a0 m c) (a1 m c) (a2 m c) (a3 m c) (a4 m c) (a7 m c) (a8 m c) (a9 m c) := by
  funext i
  idx_vars i
  obtain rfl : i0 = 0 := Subsingleton.elim _ _
  rw [out12, V0, V1, step, D7, D8, P_eq, Q_eq, r210, r198]

theorem eq13 : out0_13 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v212 (F := Ideal) (a0 m c) (a1 m c) (a2 m c) (a3 m c) (a4 m c) (a7 m c) (a8 m c) (a9 m c) := by
  funext i
  idx_vars i
  obtain rfl : i0 = 0 := Subsingleton.elim _ _
  rw [out13, r212]
  split
  · rw [r207]
    exact Finset.sum_congr rfl fun s _ => part m c _ s
  · rfl

theorem eq14 : out0_14 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v214 (F := Ideal) (a0 m c) (a1 m c) (a2 m c) (a9 m c) := by
  funext i
  idx_vars i
  rw [out14, V0, V1, step, r214, r145, low_eq, high_eq, V_main_arg9]
  rfl

theorem eq15 : out0_15 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v216 (F := Ideal) (a0 m c) (a1 m c) (a2 m c) (a9 m c) := by
  funext i
  idx_vars i
  rw [out15, V0, V1, step, r216, r138, low_eq, high_eq, V_main_arg9]
  rfl

theorem eq16 : out0_16 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v218 (F := Ideal) (a10 m c) := by
  funext i
  idx_vars i
  rw [out16, r218, r110, low_eq, V_main_arg10]
  rfl

theorem eq17 : out0_17 (F := Ideal) (V m c main_v0) (V m c main_v1) (V m c main_v3) (V m c main_v5) (V m c main_v7) (V m c main_v9) (V m c main_v11) (V m c main_arg7) (V m c main_arg8) (V m c main_arg9) (V m c main_arg10) = Cert.S5PrepBwdRefIdeal.Read.val_main_v220 (F := Ideal) (a10 m c) := by
  funext i
  idx_vars i
  rw [out17, r220, r105, high_eq, V_main_arg10]
  rfl

end Value

theorem frameP : Cert.quiescent_S5PrepBwd (hS5PrepBwd := Cert.S5PrepBwd.Gen.facts) := fun m ρ _ => Cert.S5PrepBwd.Gen.frame m ρ

theorem framePI : Cert.quiescent_S5PrepBwdIdeal (hS5PrepBwdIdeal := Cert.S5PrepBwdIdeal.Gen.facts) := fun m ρ _ => Cert.S5PrepBwdIdeal.Gen.frame m ρ

theorem frameRI : Cert.quiescent_S5PrepBwdRefIdeal (hS5PrepBwdRefIdeal := Cert.S5PrepBwdRefIdeal.Gen.facts) :=
  fun m ρ _ => (θ_run Cert.S5PrepBwdRefIdeal.defs _ _).mono
    (fun r h => ⟨fun c => (h c).2.2.2.2.2.2.2, sem_eq_zero_of_no_sems (by decide) r.2⟩) (Cert.S5PrepBwdRefIdeal.Value.run (F := Ideal) m ρ)

open Cert.S5PrepBwdIdeal.Tile in
theorem algebraic : Cert.algebraic_S5PrepBwdIdeal_S5PrepBwdRefIdeal (hS5PrepBwdIdeal := Cert.S5PrepBwdIdeal.Gen.facts)
    (hS5PrepBwdRefIdeal := Cert.S5PrepBwdRefIdeal.Gen.facts) := by
  intro m ρ m' ρ' _ hagree
  refine ⟨fun c => Cert.S5PrepBwdRefIdeal.Read.val_main_v209 (F := Ideal) (a0 m c) (a1 m c) (a2 m c) (a3 m c) (a4 m c) (a7 m c) (a8 m c) (a9 m c),
    fun c => Cert.S5PrepBwdRefIdeal.Read.val_main_v210 (F := Ideal) (a0 m c) (a1 m c) (a2 m c) (a3 m c) (a4 m c) (a7 m c) (a8 m c) (a9 m c),
    fun c => Cert.S5PrepBwdRefIdeal.Read.val_main_v212 (F := Ideal) (a0 m c) (a1 m c) (a2 m c) (a3 m c) (a4 m c) (a7 m c) (a8 m c) (a9 m c),
    fun c => Cert.S5PrepBwdRefIdeal.Read.val_main_v214 (F := Ideal) (a0 m c) (a1 m c) (a2 m c) (a9 m c),
    fun c => Cert.S5PrepBwdRefIdeal.Read.val_main_v216 (F := Ideal) (a0 m c) (a1 m c) (a2 m c) (a9 m c),
    fun c => Cert.S5PrepBwdRefIdeal.Read.val_main_v218 (F := Ideal) (a10 m c),
    fun c => Cert.S5PrepBwdRefIdeal.Read.val_main_v220 (F := Ideal) (a10 m c),
    (θ_run _ _ _).mono (fun r h c => ⟨(h c).1.trans ((final11 m c).trans (eq11 m c)),
    (h c).2.1.trans ((final12 m c).trans (eq12 m c)),
    (h c).2.2.1.trans ((final13 m c).trans (eq13 m c)),
    (h c).2.2.2.1.trans ((final14 m c).trans (eq14 m c)),
    (h c).2.2.2.2.1.trans ((final15 m c).trans (eq15 m c)),
    (h c).2.2.2.2.2.1.trans ((final16 m c).trans (eq16 m c)),
    (h c).2.2.2.2.2.2.1.trans ((final17 m c).trans (eq17 m c)), (h c).2.2.2.2.2.2.2⟩) (Cert.S5PrepBwdIdeal.Value.run_blocks m ρ), ?_⟩
  refine (θ_run _ _ _).mono (fun r h c => ?_) (Cert.S5PrepBwdRefIdeal.Value.run (F := Ideal) m' ρ')
  obtain ⟨h0, h1, h2, h3, h4, h5, h6, h7, h8, h9, h10⟩ := hagree c
  have e0 : StableHlo.launchContents m' c (Proc.tc.devRef Cert.S5PrepBwdRefIdeal.main_arg0) = a0 m c := h0
  have e1 : StableHlo.launchContents m' c (Proc.tc.devRef Cert.S5PrepBwdRefIdeal.main_arg1) = a1 m c := h1
  have e2 : StableHlo.launchContents m' c (Proc.tc.devRef Cert.S5PrepBwdRefIdeal.main_arg2) = a2 m c := h2
  have e3 : StableHlo.launchContents m' c (Proc.tc.devRef Cert.S5PrepBwdRefIdeal.main_arg3) = a3 m c := h3
  have e4 : StableHlo.launchContents m' c (Proc.tc.devRef Cert.S5PrepBwdRefIdeal.main_arg4) = a4 m c := h4
  have e7 : StableHlo.launchContents m' c (Proc.tc.devRef Cert.S5PrepBwdRefIdeal.main_arg7) = a7 m c := h7
  have e8 : StableHlo.launchContents m' c (Proc.tc.devRef Cert.S5PrepBwdRefIdeal.main_arg8) = a8 m c := h8
  have e9 : StableHlo.launchContents m' c (Proc.tc.devRef Cert.S5PrepBwdRefIdeal.main_arg9) = a9 m c := h9
  have e10 : StableHlo.launchContents m' c (Proc.tc.devRef Cert.S5PrepBwdRefIdeal.main_arg10) = a10 m c := h10
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · exact (Cert.S5PrepBwdRefIdeal.Read.val_main_v209_eq ..).trans (by first | rw [e0, e1, e2, e3, e4, e7, e8, e9] | (rw [h0, h1, h2, h3, h4, h7, h8, h9]; rfl))
  · exact (Cert.S5PrepBwdRefIdeal.Read.val_main_v210_eq ..).trans (by first | rw [e0, e1, e2, e3, e4, e7, e8, e9] | (rw [h0, h1, h2, h3, h4, h7, h8, h9]; rfl))
  · exact (Cert.S5PrepBwdRefIdeal.Read.val_main_v212_eq ..).trans (by first | rw [e0, e1, e2, e3, e4, e7, e8, e9] | (rw [h0, h1, h2, h3, h4, h7, h8, h9]; rfl))
  · exact (Cert.S5PrepBwdRefIdeal.Read.val_main_v214_eq ..).trans (by first | rw [e0, e1, e2, e9] | (rw [h0, h1, h2, h9]; rfl))
  · exact (Cert.S5PrepBwdRefIdeal.Read.val_main_v216_eq ..).trans (by first | rw [e0, e1, e2, e9] | (rw [h0, h1, h2, h9]; rfl))
  · exact (Cert.S5PrepBwdRefIdeal.Read.val_main_v218_eq ..).trans (by first | rw [e10] | (rw [h10]; rfl))
  · exact (Cert.S5PrepBwdRefIdeal.Read.val_main_v220_eq ..).trans (by first | rw [e10] | (rw [h10]; rfl))

end Bwd

end Cert.S5Claim

end

end
-- ==== Proof.lean ====
module

public import proofs.«01_k».proof.Defs
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.ShortConvRefIdeal
public import proofs.«01_k».proof.Proof.Gen.ShortConvIdeal.Value
public import proofs.«01_k».proof.Proof.Gen.ShortConvRefIdeal.Run
public import proofs.«01_k».proof.Proof.Gen.ShortConvRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Conformer
public import proofs.«01_k».proof.Proof.Gen.ConformerIdeal
public import proofs.«01_k».proof.Proof.Gen.ConformerRefIdeal
public import proofs.«01_k».proof.Proof.Gen.ConformerRefIdeal.Run
public import proofs.«01_k».proof.Proof.Gen.ConformerRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.ConformerFwd
public import proofs.«01_k».proof.Proof.Gen.ConformerFwd.Frame
public import proofs.«01_k».proof.Proof.Gen.ConformerFwdIdeal
public import proofs.«01_k».proof.Proof.Gen.ConformerFwdIdeal.Frame
public import proofs.«01_k».proof.Proof.Gen.ConformerFwdIdeal.Value
public import proofs.«01_k».proof.Proof.Gen.ConformerFwdRefIdeal
public import proofs.«01_k».proof.Proof.Gen.ConformerFwdRefIdeal.Run
public import proofs.«01_k».proof.Proof.Gen.ConformerFwdRefIdeal.Read
public import proofs.«01_k».proof.Proof.Gen.ShortConvFwd
public import proofs.«01_k».proof.Proof.Gen.ShortConvFwd.Frame
public import proofs.«01_k».proof.Proof.Gen.ShortConvFwdIdeal
public import proofs.«01_k».proof.Proof.Gen.ShortConvFwdIdeal.Frame
public import proofs.«01_k».proof.Proof.Gen.ShortConvFwdIdeal.Value
public import proofs.«01_k».proof.Proof.Gen.ShortConvFwdRefIdeal
public import proofs.«01_k».proof.Proof.Gen.ShortConvFwdRefIdeal.Run
public import proofs.«01_k».proof.Proof.Gen.ShortConvFwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamRepl
public import proofs.«01_k».proof.Proof.Gen.AdamRepl.Frame
public import proofs.«01_k».proof.Proof.Gen.AdamReplIdeal
public import proofs.«01_k».proof.Proof.Gen.AdamReplIdeal.Value
public import proofs.«01_k».proof.Proof.Gen.AdamReplIdeal.Value
public import proofs.«01_k».proof.Proof.Gen.AdamReplRefIdeal
public import proofs.«01_k».proof.Proof.Gen.AdamReplRefIdeal.Run
public import proofs.«01_k».proof.Proof.Gen.AdamReplRefIdeal.Read
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInIdeal.Value
public import proofs.«01_k».proof.Proof.Gen.SumInRefIdeal
public import proofs.«01_k».proof.Proof.Gen.SumInRefIdeal.Run
public import proofs.«01_k».proof.Proof.Gen.SumInRefIdeal.Read
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutIdeal.Value
public import proofs.«01_k».proof.Proof.Gen.SumOutRefIdeal
public import proofs.«01_k».proof.Proof.Gen.SumOutRefIdeal.Run
public import proofs.«01_k».proof.Proof.Gen.SumOutRefIdeal.Read
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.SumRepl
public import proofs.«01_k».proof.Proof.Gen.SumRepl.Frame
public import proofs.«01_k».proof.Proof.Gen.SumReplIdeal
public import proofs.«01_k».proof.Proof.Gen.SumReplIdeal.Frame
public import proofs.«01_k».proof.Proof.Gen.SumReplIdeal.Value
public import proofs.«01_k».proof.Proof.Gen.SumReplRefIdeal
public import proofs.«01_k».proof.Proof.Gen.SumReplRefIdeal.Run
public import proofs.«01_k».proof.Proof.Gen.SumReplRefIdeal.Read
public import proofs.«01_k».proof.Proof.Gen.S5Prep
public import proofs.«01_k».proof.Proof.Gen.S5Prep.Frame
public import proofs.«01_k».proof.Proof.Gen.S5PrepIdeal
public import proofs.«01_k».proof.Proof.Gen.S5PrepIdeal.Frame
public import proofs.«01_k».proof.Proof.Gen.S5PrepIdeal.Value
public import proofs.«01_k».proof.Proof.Gen.S5PrepRefIdeal
public import proofs.«01_k».proof.Proof.Gen.S5PrepRefIdeal.Run
public import proofs.«01_k».proof.Proof.Gen.S5PrepRefIdeal.Read
public import proofs.«01_k».proof.Proof.Gen.S5PrepBwd
public import proofs.«01_k».proof.Proof.Gen.S5PrepBwd.Frame
public import proofs.«01_k».proof.Proof.Gen.S5PrepBwdIdeal
public import proofs.«01_k».proof.Proof.Gen.S5PrepBwdIdeal.Frame
public import proofs.«01_k».proof.Proof.Gen.S5PrepBwdIdeal.Value
public import proofs.«01_k».proof.Proof.Gen.S5PrepBwdRefIdeal
public import proofs.«01_k».proof.Proof.Gen.S5PrepBwdRefIdeal.Run
public import proofs.«01_k».proof.Proof.Gen.S5PrepBwdRefIdeal.Read
public import proofs.«01_k».proof.Proof.ShortConvClaim
public import proofs.«01_k».proof.Proof.OutProjClaim
public import proofs.«01_k».proof.Proof.InProjClaim
public import proofs.«01_k».proof.Proof.ConformerClaim
public import proofs.«01_k».proof.Proof.ConformerFwdClaim
public import proofs.«01_k».proof.Proof.ShortConvFwdClaim
public import proofs.«01_k».proof.Proof.LossClaim
public import proofs.«01_k».proof.Proof.AdamClaim
public import proofs.«01_k».proof.Proof.SumClaim
public import proofs.«01_k».proof.Proof.S5Claim
public import Idealize.ShloMosaic.Adequacy
public import Idealize.ShloMosaic.Init

@[expose] public section

noncomputable section

namespace Cert.Proof

open Idealize.ShloMosaic Idealize.SL.Sem

theorem claim : Cert.Claim := ⟨Cert.ShortConv.Gen.facts, Cert.ShortConvIdeal.Gen.facts, Cert.ShortConvRefIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts,
  Cert.Conformer.Gen.facts, Cert.ConformerIdeal.Gen.facts, Cert.ConformerRefIdeal.Gen.facts,
  Cert.ConformerFwd.Gen.facts, Cert.ConformerFwdIdeal.Gen.facts, Cert.ConformerFwdRefIdeal.Gen.facts,
  Cert.ShortConvFwd.Gen.facts, Cert.ShortConvFwdIdeal.Gen.facts, Cert.ShortConvFwdRefIdeal.Gen.facts,
  Cert.LossHead.Gen.facts, Cert.LossHeadIdeal.Gen.facts, Cert.LossHeadRefIdeal.Gen.facts,
  Cert.AdamOut.Gen.facts, Cert.AdamOutIdeal.Gen.facts, Cert.AdamOutRefIdeal.Gen.facts,
  Cert.AdamIn.Gen.facts, Cert.AdamInIdeal.Gen.facts, Cert.AdamInRefIdeal.Gen.facts,
  Cert.AdamSmall.Gen.facts, Cert.AdamSmallIdeal.Gen.facts, Cert.AdamSmallRefIdeal.Gen.facts,
  Cert.AdamRepl.Gen.facts, Cert.AdamReplIdeal.Gen.facts, Cert.AdamReplRefIdeal.Gen.facts,
  Cert.SumIn.Gen.facts, Cert.SumInIdeal.Gen.facts, Cert.SumInRefIdeal.Gen.facts,
  Cert.SumOut.Gen.facts, Cert.SumOutIdeal.Gen.facts, Cert.SumOutRefIdeal.Gen.facts,
  Cert.SumSmall.Gen.facts, Cert.SumSmallIdeal.Gen.facts, Cert.SumSmallRefIdeal.Gen.facts,
  Cert.SumRepl.Gen.facts, Cert.SumReplIdeal.Gen.facts, Cert.SumReplRefIdeal.Gen.facts,
  Cert.S5Prep.Gen.facts, Cert.S5PrepIdeal.Gen.facts, Cert.S5PrepRefIdeal.Gen.facts,
  Cert.S5PrepBwd.Gen.facts, Cert.S5PrepBwdIdeal.Gen.facts, Cert.S5PrepBwdRefIdeal.Gen.facts,
  ShortConvClaim.frameP, ShortConvClaim.framePI, ShortConvClaim.frameRI,
  OutProjClaim.frameP, OutProjClaim.framePI, OutProjClaim.frameRI,
  InProjClaim.frameP, InProjClaim.framePI, InProjClaim.frameRI,
  ConformerClaim.frameP, ConformerClaim.framePI, ConformerClaim.frameRI,
  ConformerFwdClaim.frameP, ConformerFwdClaim.framePI, ConformerFwdClaim.frameRI,
  ShortConvFwdClaim.frameP, ShortConvFwdClaim.framePI, ShortConvFwdClaim.frameRI,
  LossClaim.frameP, LossClaim.framePI, LossClaim.frameRI,
  AdamClaim.AdamOut.frameP, AdamClaim.AdamOut.framePI, AdamClaim.AdamOut.frameRI,
  AdamClaim.AdamIn.frameP, AdamClaim.AdamIn.framePI, AdamClaim.AdamIn.frameRI,
  AdamClaim.AdamSmall.frameP, AdamClaim.AdamSmall.framePI, AdamClaim.AdamSmall.frameRI,
  AdamClaim.AdamRepl.frameP, AdamClaim.AdamRepl.framePI, AdamClaim.AdamRepl.frameRI,
  SumClaim.SumIn.frameP, SumClaim.SumIn.framePI, SumClaim.SumIn.frameRI,
  SumClaim.SumOut.frameP, SumClaim.SumOut.framePI, SumClaim.SumOut.frameRI,
  SumClaim.SumSmall.frameP, SumClaim.SumSmall.framePI, SumClaim.SumSmall.frameRI,
  SumClaim.SumRepl.frameP, SumClaim.SumRepl.framePI, SumClaim.SumRepl.frameRI,
  S5Claim.Fwd.frameP, S5Claim.Fwd.framePI, S5Claim.Fwd.frameRI,
  S5Claim.Bwd.frameP, S5Claim.Bwd.framePI, S5Claim.Bwd.frameRI,
  trivial, ShortConvClaim.algebraic, trivial, OutProjClaim.algebraic, trivial, InProjClaim.algebraic,
  trivial, ConformerClaim.algebraic, trivial, ConformerFwdClaim.algebraic, trivial, ShortConvFwdClaim.algebraic,
  trivial, LossClaim.algebraic, trivial, AdamClaim.AdamOut.algebraic, trivial, AdamClaim.AdamIn.algebraic,
  trivial, AdamClaim.AdamSmall.algebraic, trivial, AdamClaim.AdamRepl.algebraic, trivial, SumClaim.SumIn.algebraic,
  trivial, SumClaim.SumOut.algebraic, trivial, SumClaim.SumSmall.algebraic, trivial, SumClaim.SumRepl.algebraic,
  trivial, S5Claim.Fwd.algebraic, trivial, S5Claim.Bwd.algebraic⟩

end Cert.Proof

end
